-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_GateGrad (m : (ℓ : Loc Cert.GateGrad.nD Cert.GateGrad.τ Cert.GateGrad.sig) → Buf (Elt Bits) ℓ) : Prop :=
  True

def Pre_GateGradIdeal (m : (ℓ : Loc Cert.GateGradIdeal.nD Cert.GateGradIdeal.τ Cert.GateGradIdeal.sig) → Buf (Elt Ideal) ℓ) : Prop :=
  True

def Pre_GateGradIdeal_numbers [hPre_numbers : Cert.Pre_numbers.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_numbers.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).1 = (fun _ => 1#1)
    ∧ (Cert.Pre_numbers.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.1 = (fun _ => 1#1)
    ∧ (Cert.Pre_numbers.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2.1 = (fun _ => 1#1)
    ∧ (Cert.Pre_numbers.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3))).2.2.2 = (fun _ => 1#1)

def Pre_GateGradRefIdeal (m : (ℓ : Loc Cert.GateGradRefIdeal.nD Cert.GateGradRefIdeal.τ Cert.GateGradRefIdeal.sig) → Buf (Elt Ideal) ℓ) : Prop :=
  True

def Pre_GateGradRefIdeal_numbers [hPre_numbers : Cert.Pre_numbers.Facts] (m : (ℓ : Loc Cert.GateGradRefIdeal.nD Cert.GateGradRefIdeal.τ Cert.GateGradRefIdeal.sig) → Buf (Elt Ideal) ℓ) : Prop :=
  ∀ c : Dev Cert.GateGradRefIdeal.nD,
    (Cert.Pre_numbers.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2)) (m ((c.tc : Thread Cert.GateGradRefIdeal.nD Cert.GateGradRefIdeal.τ).loc Cert.GateGradRefIdeal.main_arg3))).1 = (fun _ => 1#1)
    ∧ (Cert.Pre_numbers.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2)) (m ((c.tc : Thread Cert.GateGradRefIdeal.nD Cert.GateGradRefIdeal.τ).loc Cert.GateGradRefIdeal.main_arg3))).2.1 = (fun _ => 1#1)
    ∧ (Cert.Pre_numbers.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2)) (m ((c.tc : Thread Cert.GateGradRefIdeal.nD Cert.GateGradRefIdeal.τ).loc Cert.GateGradRefIdeal.main_arg3))).2.2.1 = (fun _ => 1#1)
    ∧ (Cert.Pre_numbers.fn (F := Ideal) (m ((c.tc : Thread Cert.GateGradRefIdeal.nD Cert.GateGradRefIdeal.τ).loc Cert.GateGradRefIdeal.main_arg0)) (m ((c.tc : Thread Cert.GateGradRefIdeal.nD Cert.GateGradRefIdeal.τ).loc Cert.GateGradRefIdeal.main_arg1)) (m ((c.tc : Thread Cert.GateGradRefIdeal.nD Cert.GateGradRefIdeal.τ).loc Cert.GateGradRefIdeal.main_arg2)) (m ((c.tc : Thread Cert.GateGradRefIdeal.nD Cert.GateGradRefIdeal.τ).loc Cert.GateGradRefIdeal.main_arg3))).2.2.2 = (fun _ => 1#1)

def Pre_HiddenGrad (m : (ℓ : Loc Cert.HiddenGrad.nD Cert.HiddenGrad.τ Cert.HiddenGrad.sig) → Buf (Elt Bits) ℓ) : Prop :=
  True

def Pre_HiddenGradIdeal (m : (ℓ : Loc Cert.HiddenGradIdeal.nD Cert.HiddenGradIdeal.τ Cert.HiddenGradIdeal.sig) → Buf (Elt Ideal) ℓ) : Prop :=
  True

def Pre_HiddenGradRefIdeal (m : (ℓ : Loc Cert.HiddenGradRefIdeal.nD Cert.HiddenGradRefIdeal.τ Cert.HiddenGradRefIdeal.sig) → Buf (Elt Ideal) ℓ) : Prop :=
  True

def Pre_DownWeight (m : (ℓ : Loc Cert.DownWeight.nD Cert.DownWeight.τ Cert.DownWeight.sig) → Buf (Elt Bits) ℓ) : Prop :=
  True

def Pre_DownWeightIdeal (m : (ℓ : Loc Cert.DownWeightIdeal.nD Cert.DownWeightIdeal.τ Cert.DownWeightIdeal.sig) → Buf (Elt Ideal) ℓ) : Prop :=
  True

def Pre_DownWeightRefIdeal (m : (ℓ : Loc Cert.DownWeightRefIdeal.nD Cert.DownWeightRefIdeal.τ Cert.DownWeightRefIdeal.sig) → Buf (Elt Ideal) ℓ) : Prop :=
  True

def Pre_GateWeight (m : (ℓ : Loc Cert.GateWeight.nD Cert.GateWeight.τ Cert.GateWeight.sig) → Buf (Elt Bits) ℓ) : Prop :=
  True

def Pre_GateWeightIdeal (m : (ℓ : Loc Cert.GateWeightIdeal.nD Cert.GateWeightIdeal.τ Cert.GateWeightIdeal.sig) → Buf (Elt Ideal) ℓ) : Prop :=
  True

def Pre_GateWeightRefIdeal (m : (ℓ : Loc Cert.GateWeightRefIdeal.nD Cert.GateWeightRefIdeal.τ Cert.GateWeightRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_InWeight (m : (ℓ : Loc Cert.InWeight.nD Cert.InWeight.τ Cert.InWeight.sig) → Buf (Elt Bits) ℓ) : Prop :=
  True

def Pre_InWeightIdeal (m : (ℓ : Loc Cert.InWeightIdeal.nD Cert.InWeightIdeal.τ Cert.InWeightIdeal.sig) → Buf (Elt Ideal) ℓ) : Prop :=
  True

def Pre_InWeightRefIdeal (m : (ℓ : Loc Cert.InWeightRefIdeal.nD Cert.InWeightRefIdeal.τ Cert.InWeightRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_QkvGrad (m : (ℓ : Loc Cert.QkvGrad.nD Cert.QkvGrad.τ Cert.QkvGrad.sig) → Buf (Elt Bits) ℓ) : Prop :=
  True

def Pre_QkvGradIdeal (m : (ℓ : Loc Cert.QkvGradIdeal.nD Cert.QkvGradIdeal.τ Cert.QkvGradIdeal.sig) → Buf (Elt Ideal) ℓ) : Prop :=
  True

def Pre_QkvGradRefIdeal (m : (ℓ : Loc Cert.QkvGradRefIdeal.nD Cert.QkvGradRefIdeal.τ Cert.QkvGradRefIdeal.sig) → Buf (Elt Ideal) ℓ) : Prop :=
  True

def Pre_QkvWeight (m : (ℓ : Loc Cert.QkvWeight.nD Cert.QkvWeight.τ Cert.QkvWeight.sig) → Buf (Elt Bits) ℓ) : Prop :=
  True

def Pre_QkvWeightIdeal (m : (ℓ : Loc Cert.QkvWeightIdeal.nD Cert.QkvWeightIdeal.τ Cert.QkvWeightIdeal.sig) → Buf (Elt Ideal) ℓ) : Prop :=
  True

def Pre_QkvWeightRefIdeal (m : (ℓ : Loc Cert.QkvWeightRefIdeal.nD Cert.QkvWeightRefIdeal.τ Cert.QkvWeightRefIdeal.sig) → Buf (Elt Ideal) ℓ) : Prop :=
  True

def Pre_QkvProj (m : (ℓ : Loc Cert.QkvProj.nD Cert.QkvProj.τ Cert.QkvProj.sig) → Buf (Elt Bits) ℓ) : Prop :=
  True

def Pre_QkvProjIdeal (m : (ℓ : Loc Cert.QkvProjIdeal.nD Cert.QkvProjIdeal.τ Cert.QkvProjIdeal.sig) → Buf (Elt Ideal) ℓ) : Prop :=
  True

def Pre_QkvProjRefIdeal (m : (ℓ : Loc Cert.QkvProjRefIdeal.nD Cert.QkvProjRefIdeal.τ Cert.QkvProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_OutWeight (m : (ℓ : Loc Cert.OutWeight.nD Cert.OutWeight.τ Cert.OutWeight.sig) → Buf (Elt Bits) ℓ) : Prop :=
  True

def Pre_OutWeightIdeal (m : (ℓ : Loc Cert.OutWeightIdeal.nD Cert.OutWeightIdeal.τ Cert.OutWeightIdeal.sig) → Buf (Elt Ideal) ℓ) : Prop :=
  True

def Pre_OutWeightRefIdeal (m : (ℓ : Loc Cert.OutWeightRefIdeal.nD Cert.OutWeightRefIdeal.τ Cert.OutWeightRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AttOutProj (m : (ℓ : Loc Cert.AttOutProj.nD Cert.AttOutProj.τ Cert.AttOutProj.sig) → Buf (Elt Bits) ℓ) : Prop :=
  True

def Pre_AttOutProjIdeal (m : (ℓ : Loc Cert.AttOutProjIdeal.nD Cert.AttOutProjIdeal.τ Cert.AttOutProjIdeal.sig) → Buf (Elt Ideal) ℓ) : Prop :=
  True

def Pre_AttOutProjRefIdeal (m : (ℓ : Loc Cert.AttOutProjRefIdeal.nD Cert.AttOutProjRefIdeal.τ Cert.AttOutProjRefIdeal.sig) → Buf (Elt Ideal) ℓ) : Prop :=
  True

def Pre_AttOutWeight (m : (ℓ : Loc Cert.AttOutWeight.nD Cert.AttOutWeight.τ Cert.AttOutWeight.sig) → Buf (Elt Bits) ℓ) : Prop :=
  True

def Pre_AttOutWeightIdeal (m : (ℓ : Loc Cert.AttOutWeightIdeal.nD Cert.AttOutWeightIdeal.τ Cert.AttOutWeightIdeal.sig) → Buf (Elt Ideal) ℓ) : Prop :=
  True

def Pre_AttOutWeightRefIdeal (m : (ℓ : Loc Cert.AttOutWeightRefIdeal.nD Cert.AttOutWeightRefIdeal.τ Cert.AttOutWeightRefIdeal.sig) → Buf (Elt Ideal) ℓ) : Prop :=
  True

def Pre_LatDownGrad (m : (ℓ : Loc Cert.LatDownGrad.nD Cert.LatDownGrad.τ Cert.LatDownGrad.sig) → Buf (Elt Bits) ℓ) : Prop :=
  True

def Pre_LatDownGradIdeal (m : (ℓ : Loc Cert.LatDownGradIdeal.nD Cert.LatDownGradIdeal.τ Cert.LatDownGradIdeal.sig) → Buf (Elt Ideal) ℓ) : Prop :=
  True

def Pre_LatDownGradRefIdeal (m : (ℓ : Loc Cert.LatDownGradRefIdeal.nD Cert.LatDownGradRefIdeal.τ Cert.LatDownGradRefIdeal.sig) → Buf (Elt Ideal) ℓ) : Prop :=
  True

def Pre_LatDownWeight (m : (ℓ : Loc Cert.LatDownWeight.nD Cert.LatDownWeight.τ Cert.LatDownWeight.sig) → Buf (Elt Bits) ℓ) : Prop :=
  True

def Pre_LatDownWeightIdeal (m : (ℓ : Loc Cert.LatDownWeightIdeal.nD Cert.LatDownWeightIdeal.τ Cert.LatDownWeightIdeal.sig) → Buf (Elt Ideal) ℓ) : Prop :=
  True

def Pre_LatDownWeightRefIdeal (m : (ℓ : Loc Cert.LatDownWeightRefIdeal.nD Cert.LatDownWeightRefIdeal.τ Cert.LatDownWeightRefIdeal.sig) → Buf (Elt Ideal) ℓ) : Prop :=
  True

def Pre_LatDownProj (m : (ℓ : Loc Cert.LatDownProj.nD Cert.LatDownProj.τ Cert.LatDownProj.sig) → Buf (Elt Bits) ℓ) : Prop :=
  True

def Pre_LatDownProjIdeal (m : (ℓ : Loc Cert.LatDownProjIdeal.nD Cert.LatDownProjIdeal.τ Cert.LatDownProjIdeal.sig) → Buf (Elt Ideal) ℓ) : Prop :=
  True

def Pre_LatDownProjRefIdeal (m : (ℓ : Loc Cert.LatDownProjRefIdeal.nD Cert.LatDownProjRefIdeal.τ Cert.LatDownProjRefIdeal.sig) → Buf (Elt Ideal) ℓ) : Prop :=
  True

def Pre_QueryUpGrad (m : (ℓ : Loc Cert.QueryUpGrad.nD Cert.QueryUpGrad.τ Cert.QueryUpGrad.sig) → Buf (Elt Bits) ℓ) : Prop :=
  True

def Pre_QueryUpGradIdeal (m : (ℓ : Loc Cert.QueryUpGradIdeal.nD Cert.QueryUpGradIdeal.τ Cert.QueryUpGradIdeal.sig) → Buf (Elt Ideal) ℓ) : Prop :=
  True

def Pre_QueryUpGradRefIdeal (m : (ℓ : Loc Cert.QueryUpGradRefIdeal.nD Cert.QueryUpGradRefIdeal.τ Cert.QueryUpGradRefIdeal.sig) → Buf (Elt Ideal) ℓ) : Prop :=
  True

def Pre_QueryUpWeight (m : (ℓ : Loc Cert.QueryUpWeight.nD Cert.QueryUpWeight.τ Cert.QueryUpWeight.sig) → Buf (Elt Bits) ℓ) : Prop :=
  True

def Pre_QueryUpWeightIdeal (m : (ℓ : Loc Cert.QueryUpWeightIdeal.nD Cert.QueryUpWeightIdeal.τ Cert.QueryUpWeightIdeal.sig) → Buf (Elt Ideal) ℓ) : Prop :=
  True

def Pre_QueryUpWeightRefIdeal (m : (ℓ : Loc Cert.QueryUpWeightRefIdeal.nD Cert.QueryUpWeightRefIdeal.τ Cert.QueryUpWeightRefIdeal.sig) → Buf (Elt Ideal) ℓ) : Prop :=
  True

def Pre_QueryUpProj (m : (ℓ : Loc Cert.QueryUpProj.nD Cert.QueryUpProj.τ Cert.QueryUpProj.sig) → Buf (Elt Bits) ℓ) : Prop :=
  True

def Pre_QueryUpProjIdeal (m : (ℓ : Loc Cert.QueryUpProjIdeal.nD Cert.QueryUpProjIdeal.τ Cert.QueryUpProjIdeal.sig) → Buf (Elt Ideal) ℓ) : Prop :=
  True

def Pre_QueryUpProjRefIdeal (m : (ℓ : Loc Cert.QueryUpProjRefIdeal.nD Cert.QueryUpProjRefIdeal.τ Cert.QueryUpProjRefIdeal.sig) → Buf (Elt Ideal) ℓ) : Prop :=
  True

def Pre_KeyUpGrad (m : (ℓ : Loc Cert.KeyUpGrad.nD Cert.KeyUpGrad.τ Cert.KeyUpGrad.sig) → Buf (Elt Bits) ℓ) : Prop :=
  True

def Pre_KeyUpGradIdeal (m : (ℓ : Loc Cert.KeyUpGradIdeal.nD Cert.KeyUpGradIdeal.τ Cert.KeyUpGradIdeal.sig) → Buf (Elt Ideal) ℓ) : Prop :=
  True

def Pre_KeyUpGradRefIdeal (m : (ℓ : Loc Cert.KeyUpGradRefIdeal.nD Cert.KeyUpGradRefIdeal.τ Cert.KeyUpGradRefIdeal.sig) → Buf (Elt Ideal) ℓ) : Prop :=
  True

def Pre_KeyUpWeight (m : (ℓ : Loc Cert.KeyUpWeight.nD Cert.KeyUpWeight.τ Cert.KeyUpWeight.sig) → Buf (Elt Bits) ℓ) : Prop :=
  True

def Pre_KeyUpWeightIdeal (m : (ℓ : Loc Cert.KeyUpWeightIdeal.nD Cert.KeyUpWeightIdeal.τ Cert.KeyUpWeightIdeal.sig) → Buf (Elt Ideal) ℓ) : Prop :=
  True

def Pre_KeyUpWeightRefIdeal (m : (ℓ : Loc Cert.KeyUpWeightRefIdeal.nD Cert.KeyUpWeightRefIdeal.τ Cert.KeyUpWeightRefIdeal.sig) → Buf (Elt Ideal) ℓ) : Prop :=
  True

def Pre_KeyUpProj (m : (ℓ : Loc Cert.KeyUpProj.nD Cert.KeyUpProj.τ Cert.KeyUpProj.sig) → Buf (Elt Bits) ℓ) : Prop :=
  True

def Pre_KeyUpProjIdeal (m : (ℓ : Loc Cert.KeyUpProjIdeal.nD Cert.KeyUpProjIdeal.τ Cert.KeyUpProjIdeal.sig) → Buf (Elt Ideal) ℓ) : Prop :=
  True

def Pre_KeyUpProjRefIdeal (m : (ℓ : Loc Cert.KeyUpProjRefIdeal.nD Cert.KeyUpProjRefIdeal.τ Cert.KeyUpProjRefIdeal.sig) → Buf (Elt Ideal) ℓ) : Prop :=
  True

def Pre_LatentFwd (m : (ℓ : Loc Cert.LatentFwd.nD Cert.LatentFwd.τ Cert.LatentFwd.sig) → Buf (Elt Bits) ℓ) : Prop :=
  True

def Pre_LatentFwdIdeal (m : (ℓ : Loc Cert.LatentFwdIdeal.nD Cert.LatentFwdIdeal.τ Cert.LatentFwdIdeal.sig) → Buf (Elt Ideal) ℓ) : Prop :=
  True

def Pre_LatentFwdIdeal_reals [hPre_reals : Cert.Pre_reals.Facts] (m : (ℓ : Loc Cert.LatentFwdIdeal.nD Cert.LatentFwdIdeal.τ Cert.LatentFwdIdeal.sig) → Buf (Elt Ideal) ℓ) : Prop :=
  ∀ c : Dev Cert.LatentFwdIdeal.nD,
    (Cert.Pre_reals.fn (F := Ideal) (m ((c.tc : Thread Cert.LatentFwdIdeal.nD Cert.LatentFwdIdeal.τ).loc Cert.LatentFwdIdeal.main_arg0)) (m ((c.tc : Thread Cert.LatentFwdIdeal.nD Cert.LatentFwdIdeal.τ).loc Cert.LatentFwdIdeal.main_arg1)) (m ((c.tc : Thread Cert.LatentFwdIdeal.nD Cert.LatentFwdIdeal.τ).loc Cert.LatentFwdIdeal.main_arg2)) (m ((c.tc : Thread Cert.LatentFwdIdeal.nD Cert.LatentFwdIdeal.τ).loc Cert.LatentFwdIdeal.main_arg3)) (m ((c.tc : Thread Cert.LatentFwdIdeal.nD Cert.LatentFwdIdeal.τ).loc Cert.LatentFwdIdeal.main_arg4))).1 = (fun _ => 1#1)
    ∧ (Cert.Pre_reals.fn (F := Ideal) (m ((c.tc : Thread Cert.LatentFwdIdeal.nD Cert.LatentFwdIdeal.τ).loc Cert.LatentFwdIdeal.main_arg0)) (m ((c.tc : Thread Cert.LatentFwdIdeal.nD Cert.LatentFwdIdeal.τ).loc Cert.LatentFwdIdeal.main_arg1)) (m ((c.tc : Thread Cert.LatentFwdIdeal.nD Cert.LatentFwdIdeal.τ).loc Cert.LatentFwdIdeal.main_arg2)) (m ((c.tc : Thread Cert.LatentFwdIdeal.nD Cert.LatentFwdIdeal.τ).loc Cert.LatentFwdIdeal.main_arg3)) (m ((c.tc : Thread Cert.LatentFwdIdeal.nD Cert.LatentFwdIdeal.τ).loc Cert.LatentFwdIdeal.main_arg4))).2.1 = (fun _ => 1#1)
    ∧ (Cert.Pre_reals.fn (F := Ideal) (m ((c.tc : Thread Cert.LatentFwdIdeal.nD Cert.LatentFwdIdeal.τ).loc Cert.LatentFwdIdeal.main_arg0)) (m ((c.tc : Thread Cert.LatentFwdIdeal.nD Cert.LatentFwdIdeal.τ).loc Cert.LatentFwdIdeal.main_arg1)) (m ((c.tc : Thread Cert.LatentFwdIdeal.nD Cert.LatentFwdIdeal.τ).loc Cert.LatentFwdIdeal.main_arg2)) (m ((c.tc : Thread Cert.LatentFwdIdeal.nD Cert.LatentFwdIdeal.τ).loc Cert.LatentFwdIdeal.main_arg3)) (m ((c.tc : Thread Cert.LatentFwdIdeal.nD Cert.LatentFwdIdeal.τ).loc Cert.LatentFwdIdeal.main_arg4))).2.2.1 = (fun _ => 1#1)
    ∧ (Cert.Pre_reals.fn (F := Ideal) (m ((c.tc : Thread Cert.LatentFwdIdeal.nD Cert.LatentFwdIdeal.τ).loc Cert.LatentFwdIdeal.main_arg0)) (m ((c.tc : Thread Cert.LatentFwdIdeal.nD Cert.LatentFwdIdeal.τ).loc Cert.LatentFwdIdeal.main_arg1)) (m ((c.tc : Thread Cert.LatentFwdIdeal.nD Cert.LatentFwdIdeal.τ).loc Cert.LatentFwdIdeal.main_arg2)) (m ((c.tc : Thread Cert.LatentFwdIdeal.nD Cert.LatentFwdIdeal.τ).loc Cert.LatentFwdIdeal.main_arg3)) (m ((c.tc : Thread Cert.LatentFwdIdeal.nD Cert.LatentFwdIdeal.τ).loc Cert.LatentFwdIdeal.main_arg4))).2.2.2 = (fun _ => 1#1)

def Pre_LatentFwdRefIdeal (m : (ℓ : Loc Cert.LatentFwdRefIdeal.nD Cert.LatentFwdRefIdeal.τ Cert.LatentFwdRefIdeal.sig) → Buf (Elt Ideal) ℓ) : Prop :=
  True

def Pre_LatentFwdRefIdeal_reals [hPre_reals : Cert.Pre_reals.Facts] (m : (ℓ : Loc Cert.LatentFwdRefIdeal.nD Cert.LatentFwdRefIdeal.τ Cert.LatentFwdRefIdeal.sig) → Buf (Elt Ideal) ℓ) : Prop :=
  ∀ c : Dev Cert.LatentFwdRefIdeal.nD,
    (Cert.Pre_reals.fn (F := Ideal) (m ((c.tc : Thread Cert.LatentFwdRefIdeal.nD Cert.LatentFwdRefIdeal.τ).loc Cert.LatentFwdRefIdeal.main_arg0)) (m ((c.tc : Thread Cert.LatentFwdRefIdeal.nD Cert.LatentFwdRefIdeal.τ).loc Cert.LatentFwdRefIdeal.main_arg1)) (m ((c.tc : Thread Cert.LatentFwdRefIdeal.nD Cert.LatentFwdRefIdeal.τ).loc Cert.LatentFwdRefIdeal.main_arg2)) (m ((c.tc : Thread Cert.LatentFwdRefIdeal.nD Cert.LatentFwdRefIdeal.τ).loc Cert.LatentFwdRefIdeal.main_arg3)) (m ((c.tc : Thread Cert.LatentFwdRefIdeal.nD Cert.LatentFwdRefIdeal.τ).loc Cert.LatentFwdRefIdeal.main_arg4))).1 = (fun _ => 1#1)
    ∧ (Cert.Pre_reals.fn (F := Ideal) (m ((c.tc : Thread Cert.LatentFwdRefIdeal.nD Cert.LatentFwdRefIdeal.τ).loc Cert.LatentFwdRefIdeal.main_arg0)) (m ((c.tc : Thread Cert.LatentFwdRefIdeal.nD Cert.LatentFwdRefIdeal.τ).loc Cert.LatentFwdRefIdeal.main_arg1)) (m ((c.tc : Thread Cert.LatentFwdRefIdeal.nD Cert.LatentFwdRefIdeal.τ).loc Cert.LatentFwdRefIdeal.main_arg2)) (m ((c.tc : Thread Cert.LatentFwdRefIdeal.nD Cert.LatentFwdRefIdeal.τ).loc Cert.LatentFwdRefIdeal.main_arg3)) (m ((c.tc : Thread Cert.LatentFwdRefIdeal.nD Cert.LatentFwdRefIdeal.τ).loc Cert.LatentFwdRefIdeal.main_arg4))).2.1 = (fun _ => 1#1)
    ∧ (Cert.Pre_reals.fn (F := Ideal) (m ((c.tc : Thread Cert.LatentFwdRefIdeal.nD Cert.LatentFwdRefIdeal.τ).loc Cert.LatentFwdRefIdeal.main_arg0)) (m ((c.tc : Thread Cert.LatentFwdRefIdeal.nD Cert.LatentFwdRefIdeal.τ).loc Cert.LatentFwdRefIdeal.main_arg1)) (m ((c.tc : Thread Cert.LatentFwdRefIdeal.nD Cert.LatentFwdRefIdeal.τ).loc Cert.LatentFwdRefIdeal.main_arg2)) (m ((c.tc : Thread Cert.LatentFwdRefIdeal.nD Cert.LatentFwdRefIdeal.τ).loc Cert.LatentFwdRefIdeal.main_arg3)) (m ((c.tc : Thread Cert.LatentFwdRefIdeal.nD Cert.LatentFwdRefIdeal.τ).loc Cert.LatentFwdRefIdeal.main_arg4))).2.2.1 = (fun _ => 1#1)
    ∧ (Cert.Pre_reals.fn (F := Ideal) (m ((c.tc : Thread Cert.LatentFwdRefIdeal.nD Cert.LatentFwdRefIdeal.τ).loc Cert.LatentFwdRefIdeal.main_arg0)) (m ((c.tc : Thread Cert.LatentFwdRefIdeal.nD Cert.LatentFwdRefIdeal.τ).loc Cert.LatentFwdRefIdeal.main_arg1)) (m ((c.tc : Thread Cert.LatentFwdRefIdeal.nD Cert.LatentFwdRefIdeal.τ).loc Cert.LatentFwdRefIdeal.main_arg2)) (m ((c.tc : Thread Cert.LatentFwdRefIdeal.nD Cert.LatentFwdRefIdeal.τ).loc Cert.LatentFwdRefIdeal.main_arg3)) (m ((c.tc : Thread Cert.LatentFwdRefIdeal.nD Cert.LatentFwdRefIdeal.τ).loc Cert.LatentFwdRefIdeal.main_arg4))).2.2.2 = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumParts (m : (ℓ : Loc Cert.SumParts.nD Cert.SumParts.τ Cert.SumParts.sig) → Buf (Elt Bits) ℓ) : Prop :=
  True

def Pre_SumPartsIdeal (m : (ℓ : Loc Cert.SumPartsIdeal.nD Cert.SumPartsIdeal.τ Cert.SumPartsIdeal.sig) → Buf (Elt Ideal) ℓ) : Prop :=
  True

def Pre_SumPartsRefIdeal (m : (ℓ : Loc Cert.SumPartsRefIdeal.nD Cert.SumPartsRefIdeal.τ Cert.SumPartsRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_UpdGateUp [hPre_device : Cert.Pre_device.Facts] (m : (ℓ : Loc Cert.UpdGateUp.nD Cert.UpdGateUp.τ Cert.UpdGateUp.sig) → Buf (Elt Bits) ℓ) : Prop :=
  ∀ c : Dev Cert.UpdGateUp.nD,
    (Cert.Pre_device.fn (F := Bits) (m ((c.tc : Thread Cert.UpdGateUp.nD Cert.UpdGateUp.τ).loc Cert.UpdGateUp.main_arg0)) (m ((c.tc : Thread Cert.UpdGateUp.nD Cert.UpdGateUp.τ).loc Cert.UpdGateUp.main_arg1)) (m ((c.tc : Thread Cert.UpdGateUp.nD Cert.UpdGateUp.τ).loc Cert.UpdGateUp.main_arg2)) (m ((c.tc : Thread Cert.UpdGateUp.nD Cert.UpdGateUp.τ).loc Cert.UpdGateUp.main_arg3)) (m ((c.tc : Thread Cert.UpdGateUp.nD Cert.UpdGateUp.τ).loc Cert.UpdGateUp.main_arg4)) (m ((c.tc : Thread Cert.UpdGateUp.nD Cert.UpdGateUp.τ).loc Cert.UpdGateUp.main_arg5))) = (fun _ => 1#1)

def Pre_UpdGateUpIdeal [hPre_device : Cert.Pre_device.Facts] (m : (ℓ : Loc Cert.UpdGateUpIdeal.nD Cert.UpdGateUpIdeal.τ Cert.UpdGateUpIdeal.sig) → Buf (Elt Ideal) ℓ) : Prop :=
  ∀ c : Dev Cert.UpdGateUpIdeal.nD,
    (Cert.Pre_device.fn (F := Ideal) (m ((c.tc : Thread Cert.UpdGateUpIdeal.nD Cert.UpdGateUpIdeal.τ).loc Cert.UpdGateUpIdeal.main_arg0)) (m ((c.tc : Thread Cert.UpdGateUpIdeal.nD Cert.UpdGateUpIdeal.τ).loc Cert.UpdGateUpIdeal.main_arg1)) (m ((c.tc : Thread Cert.UpdGateUpIdeal.nD Cert.UpdGateUpIdeal.τ).loc Cert.UpdGateUpIdeal.main_arg2)) (m ((c.tc : Thread Cert.UpdGateUpIdeal.nD Cert.UpdGateUpIdeal.τ).loc Cert.UpdGateUpIdeal.main_arg3)) (m ((c.tc : Thread Cert.UpdGateUpIdeal.nD Cert.UpdGateUpIdeal.τ).loc Cert.UpdGateUpIdeal.main_arg4)) (m ((c.tc : Thread Cert.UpdGateUpIdeal.nD Cert.UpdGateUpIdeal.τ).loc Cert.UpdGateUpIdeal.main_arg5))) = (fun _ => 1#1)

def Pre_UpdGateUpRefIdeal (m : (ℓ : Loc Cert.UpdGateUpRefIdeal.nD Cert.UpdGateUpRefIdeal.τ Cert.UpdGateUpRefIdeal.sig) → Buf (Elt Ideal) ℓ) : Prop :=
  True

def Pre_UpdGateUpRefIdeal_device [hPre_device : Cert.Pre_device.Facts] (m : (ℓ : Loc Cert.UpdGateUpRefIdeal.nD Cert.UpdGateUpRefIdeal.τ Cert.UpdGateUpRefIdeal.sig) → Buf (Elt Ideal) ℓ) : Prop :=
  ∀ c : Dev Cert.UpdGateUpRefIdeal.nD,
    (Cert.Pre_device.fn (F := Ideal) (m ((c.tc : Thread Cert.UpdGateUpRefIdeal.nD Cert.UpdGateUpRefIdeal.τ).loc Cert.UpdGateUpRefIdeal.main_arg0)) (m ((c.tc : Thread Cert.UpdGateUpRefIdeal.nD Cert.UpdGateUpRefIdeal.τ).loc Cert.UpdGateUpRefIdeal.main_arg1)) (m ((c.tc : Thread Cert.UpdGateUpRefIdeal.nD Cert.UpdGateUpRefIdeal.τ).loc Cert.UpdGateUpRefIdeal.main_arg2)) (m ((c.tc : Thread Cert.UpdGateUpRefIdeal.nD Cert.UpdGateUpRefIdeal.τ).loc Cert.UpdGateUpRefIdeal.main_arg3)) (m ((c.tc : Thread Cert.UpdGateUpRefIdeal.nD Cert.UpdGateUpRefIdeal.τ).loc Cert.UpdGateUpRefIdeal.main_arg4)) (m ((c.tc : Thread Cert.UpdGateUpRefIdeal.nD Cert.UpdGateUpRefIdeal.τ).loc Cert.UpdGateUpRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_GateGrad [hGateGrad : Cert.GateGrad.Facts] : Prop :=
  ∀ (m : (ℓ : Loc Cert.GateGrad.nD Cert.GateGrad.τ Cert.GateGrad.sig) → Buf (Elt Bits) ℓ) (g : Dev Cert.GateGrad.nD → PrngReg), Pre_GateGrad m →
    θ_run (Cert.GateGrad.defs (F := Bits)) (onTc (τ := Cert.GateGrad.τ) (Cert.GateGrad.main (F := Bits))) ⟨m, fun _ => 0, g⟩ (fun r => (∀ c : Dev Cert.GateGrad.nD,
      r.2.mem ((c.tc : Thread Cert.GateGrad.nD Cert.GateGrad.τ).loc Cert.GateGrad.main_arg0) = m ((c.tc : Thread Cert.GateGrad.nD Cert.GateGrad.τ).loc Cert.GateGrad.main_arg0)
      ∧ r.2.mem ((c.tc : Thread Cert.GateGrad.nD Cert.GateGrad.τ).loc Cert.GateGrad.main_arg1) = m ((c.tc : Thread Cert.GateGrad.nD Cert.GateGrad.τ).loc Cert.GateGrad.main_arg1)
      ∧ r.2.mem ((c.tc : Thread Cert.GateGrad.nD Cert.GateGrad.τ).loc Cert.GateGrad.main_arg2) = m ((c.tc : Thread Cert.GateGrad.nD Cert.GateGrad.τ).loc Cert.GateGrad.main_arg2)
      ∧ r.2.mem ((c.tc : Thread Cert.GateGrad.nD Cert.GateGrad.τ).loc Cert.GateGrad.main_arg3) = m ((c.tc : Thread Cert.GateGrad.nD Cert.GateGrad.τ).loc Cert.GateGrad.main_arg3))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradIdeal_pre_numbers [hGateGradIdeal : Cert.GateGradIdeal.Facts] [hPre_numbers : Cert.Pre_numbers.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_numbers m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ r.2.sem = fun _ => 0)

def quiescent_GateGradRefIdeal [hGateGradRefIdeal : Cert.GateGradRefIdeal.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3))
      ∧ r.2.sem = fun _ => 0)

def quiescent_GateGradRefIdeal_pre_numbers [hGateGradRefIdeal : Cert.GateGradRefIdeal.Facts] [hPre_numbers : Cert.Pre_numbers.Facts] : Prop :=
  ∀ (m : (ℓ : Loc Cert.GateGradRefIdeal.nD Cert.GateGradRefIdeal.τ Cert.GateGradRefIdeal.sig) → Buf (Elt Ideal) ℓ) (g : Dev Cert.GateGradRefIdeal.nD → PrngReg), Pre_GateGradRefIdeal_numbers m →
    θ_run (Cert.GateGradRefIdeal.defs (F := Ideal)) (onTc (τ := Cert.GateGradRefIdeal.τ) (Cert.GateGradRefIdeal.main (F := Ideal))) ⟨m, fun _ => 0, g⟩ (fun r => (∀ c : Dev Cert.GateGradRefIdeal.nD,
      r.2.mem ((c.tc : Thread Cert.GateGradRefIdeal.nD Cert.GateGradRefIdeal.τ).loc Cert.GateGradRefIdeal.main_arg0) = m ((c.tc : Thread Cert.GateGradRefIdeal.nD Cert.GateGradRefIdeal.τ).loc Cert.GateGradRefIdeal.main_arg0)
      ∧ r.2.mem ((c.tc : Thread Cert.GateGradRefIdeal.nD Cert.GateGradRefIdeal.τ).loc Cert.GateGradRefIdeal.main_arg1) = m ((c.tc : Thread Cert.GateGradRefIdeal.nD Cert.GateGradRefIdeal.τ).loc Cert.GateGradRefIdeal.main_arg1)
      ∧ r.2.mem ((c.tc : Thread Cert.GateGradRefIdeal.nD Cert.GateGradRefIdeal.τ).loc Cert.GateGradRefIdeal.main_arg2) = m ((c.tc : Thread Cert.GateGradRefIdeal.nD Cert.GateGradRefIdeal.τ).loc Cert.GateGradRefIdeal.main_arg2)
      ∧ r.2.mem ((c.tc : Thread Cert.GateGradRefIdeal.nD Cert.GateGradRefIdeal.τ).loc Cert.GateGradRefIdeal.main_arg3) = m ((c.tc : Thread Cert.GateGradRefIdeal.nD Cert.GateGradRefIdeal.τ).loc Cert.GateGradRefIdeal.main_arg3))
      ∧ r.2.sem = fun _ => 0)

def quiescent_HiddenGrad [hHiddenGrad : Cert.HiddenGrad.Facts] : Prop :=
  ∀ (m : (ℓ : Loc Cert.HiddenGrad.nD Cert.HiddenGrad.τ Cert.HiddenGrad.sig) → Buf (Elt Bits) ℓ) (g : Dev Cert.HiddenGrad.nD → PrngReg), Pre_HiddenGrad m →
    θ_run (Cert.HiddenGrad.defs (F := Bits)) (onTc (τ := Cert.HiddenGrad.τ) (Cert.HiddenGrad.main (F := Bits))) ⟨m, fun _ => 0, g⟩ (fun r => (∀ c : Dev Cert.HiddenGrad.nD,
      r.2.mem ((c.tc : Thread Cert.HiddenGrad.nD Cert.HiddenGrad.τ).loc Cert.HiddenGrad.main_arg0) = m ((c.tc : Thread Cert.HiddenGrad.nD Cert.HiddenGrad.τ).loc Cert.HiddenGrad.main_arg0)
      ∧ r.2.mem ((c.tc : Thread Cert.HiddenGrad.nD Cert.HiddenGrad.τ).loc Cert.HiddenGrad.main_arg1) = m ((c.tc : Thread Cert.HiddenGrad.nD Cert.HiddenGrad.τ).loc Cert.HiddenGrad.main_arg1)
      ∧ r.2.mem ((c.tc : Thread Cert.HiddenGrad.nD Cert.HiddenGrad.τ).loc Cert.HiddenGrad.main_arg2) = m ((c.tc : Thread Cert.HiddenGrad.nD Cert.HiddenGrad.τ).loc Cert.HiddenGrad.main_arg2))
      ∧ r.2.sem = fun _ => 0)

def quiescent_HiddenGradIdeal [hHiddenGradIdeal : Cert.HiddenGradIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg), Pre_HiddenGradIdeal m →
    θ_run (Cert.HiddenGradIdeal.defs (F := Ideal)) (onTc (τ := Cert.HiddenGradIdeal.τ) (Cert.HiddenGradIdeal.main (F := Ideal))) ⟨m, fun _ => 0, g⟩ (fun r => (∀ c : Dev Cert.HiddenGradIdeal.nD,
      r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
      ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
      ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2))
      ∧ r.2.sem = fun _ => 0)

def quiescent_HiddenGradRefIdeal [hHiddenGradRefIdeal : Cert.HiddenGradRefIdeal.Facts] : Prop :=
  ∀ (m : (ℓ : Loc Cert.HiddenGradRefIdeal.nD Cert.HiddenGradRefIdeal.τ Cert.HiddenGradRefIdeal.sig) → Buf (Elt Ideal) ℓ) (g : Dev Cert.HiddenGradRefIdeal.nD → PrngReg), Pre_HiddenGradRefIdeal m →
    θ_run (Cert.HiddenGradRefIdeal.defs (F := Ideal)) (onTc (τ := Cert.HiddenGradRefIdeal.τ) (Cert.HiddenGradRefIdeal.main (F := Ideal))) ⟨m, fun _ => 0, g⟩ (fun r => (∀ c : Dev Cert.HiddenGradRefIdeal.nD,
      r.2.mem ((c.tc : Thread Cert.HiddenGradRefIdeal.nD Cert.HiddenGradRefIdeal.τ).loc Cert.HiddenGradRefIdeal.main_arg0) = m ((c.tc : Thread Cert.HiddenGradRefIdeal.nD Cert.HiddenGradRefIdeal.τ).loc Cert.HiddenGradRefIdeal.main_arg0)
      ∧ r.2.mem ((c.tc : Thread Cert.HiddenGradRefIdeal.nD Cert.HiddenGradRefIdeal.τ).loc Cert.HiddenGradRefIdeal.main_arg1) = m ((c.tc : Thread Cert.HiddenGradRefIdeal.nD Cert.HiddenGradRefIdeal.τ).loc Cert.HiddenGradRefIdeal.main_arg1)
      ∧ r.2.mem ((c.tc : Thread Cert.HiddenGradRefIdeal.nD Cert.HiddenGradRefIdeal.τ).loc Cert.HiddenGradRefIdeal.main_arg2) = m ((c.tc : Thread Cert.HiddenGradRefIdeal.nD Cert.HiddenGradRefIdeal.τ).loc Cert.HiddenGradRefIdeal.main_arg2))
      ∧ r.2.sem = fun _ => 0)

def quiescent_DownWeight [hDownWeight : Cert.DownWeight.Facts] : Prop :=
  ∀ (m : (ℓ : Loc Cert.DownWeight.nD Cert.DownWeight.τ Cert.DownWeight.sig) → Buf (Elt Bits) ℓ) (g : Dev Cert.DownWeight.nD → PrngReg), Pre_DownWeight m →
    θ_run (Cert.DownWeight.defs (F := Bits)) (onTc (τ := Cert.DownWeight.τ) (Cert.DownWeight.main (F := Bits))) ⟨m, fun _ => 0, g⟩ (fun r => (∀ c : Dev Cert.DownWeight.nD,
      r.2.mem ((c.tc : Thread Cert.DownWeight.nD Cert.DownWeight.τ).loc Cert.DownWeight.main_arg0) = m ((c.tc : Thread Cert.DownWeight.nD Cert.DownWeight.τ).loc Cert.DownWeight.main_arg0)
      ∧ r.2.mem ((c.tc : Thread Cert.DownWeight.nD Cert.DownWeight.τ).loc Cert.DownWeight.main_arg1) = m ((c.tc : Thread Cert.DownWeight.nD Cert.DownWeight.τ).loc Cert.DownWeight.main_arg1))
      ∧ r.2.sem = fun _ => 0)

def quiescent_DownWeightIdeal [hDownWeightIdeal : Cert.DownWeightIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg), Pre_DownWeightIdeal m →
    θ_run (Cert.DownWeightIdeal.defs (F := Ideal)) (onTc (τ := Cert.DownWeightIdeal.τ) (Cert.DownWeightIdeal.main (F := Ideal))) ⟨m, fun _ => 0, g⟩ (fun r => (∀ c : Dev Cert.DownWeightIdeal.nD,
      r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
      ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ r.2.sem = fun _ => 0)

def quiescent_DownWeightRefIdeal [hDownWeightRefIdeal : Cert.DownWeightRefIdeal.Facts] : Prop :=
  ∀ (m : (ℓ : Loc Cert.DownWeightRefIdeal.nD Cert.DownWeightRefIdeal.τ Cert.DownWeightRefIdeal.sig) → Buf (Elt Ideal) ℓ) (g : Dev Cert.DownWeightRefIdeal.nD → PrngReg), Pre_DownWeightRefIdeal m →
    θ_run (Cert.DownWeightRefIdeal.defs (F := Ideal)) (onTc (τ := Cert.DownWeightRefIdeal.τ) (Cert.DownWeightRefIdeal.main (F := Ideal))) ⟨m, fun _ => 0, g⟩ (fun r => (∀ c : Dev Cert.DownWeightRefIdeal.nD,
      r.2.mem ((c.tc : Thread Cert.DownWeightRefIdeal.nD Cert.DownWeightRefIdeal.τ).loc Cert.DownWeightRefIdeal.main_arg0) = m ((c.tc : Thread Cert.DownWeightRefIdeal.nD Cert.DownWeightRefIdeal.τ).loc Cert.DownWeightRefIdeal.main_arg0)
      ∧ r.2.mem ((c.tc : Thread Cert.DownWeightRefIdeal.nD Cert.DownWeightRefIdeal.τ).loc Cert.DownWeightRefIdeal.main_arg1) = m ((c.tc : Thread Cert.DownWeightRefIdeal.nD Cert.DownWeightRefIdeal.τ).loc Cert.DownWeightRefIdeal.main_arg1))
      ∧ r.2.sem = fun _ => 0)

def quiescent_GateWeight [hGateWeight : Cert.GateWeight.Facts] : Prop :=
  ∀ (m : (ℓ : Loc Cert.GateWeight.nD Cert.GateWeight.τ Cert.GateWeight.sig) → Buf (Elt Bits) ℓ) (g : Dev Cert.GateWeight.nD → PrngReg), Pre_GateWeight m →
    θ_run (Cert.GateWeight.defs (F := Bits)) (onTc (τ := Cert.GateWeight.τ) (Cert.GateWeight.main (F := Bits))) ⟨m, fun _ => 0, g⟩ (fun r => (∀ c : Dev Cert.GateWeight.nD,
      r.2.mem ((c.tc : Thread Cert.GateWeight.nD Cert.GateWeight.τ).loc Cert.GateWeight.main_arg0) = m ((c.tc : Thread Cert.GateWeight.nD Cert.GateWeight.τ).loc Cert.GateWeight.main_arg0)
      ∧ r.2.mem ((c.tc : Thread Cert.GateWeight.nD Cert.GateWeight.τ).loc Cert.GateWeight.main_arg1) = m ((c.tc : Thread Cert.GateWeight.nD Cert.GateWeight.τ).loc Cert.GateWeight.main_arg1))
      ∧ r.2.sem = fun _ => 0)

def quiescent_GateWeightIdeal [hGateWeightIdeal : Cert.GateWeightIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg), Pre_GateWeightIdeal m →
    θ_run (Cert.GateWeightIdeal.defs (F := Ideal)) (onTc (τ := Cert.GateWeightIdeal.τ) (Cert.GateWeightIdeal.main (F := Ideal))) ⟨m, fun _ => 0, g⟩ (fun r => (∀ c : Dev Cert.GateWeightIdeal.nD,
      r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
      ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ r.2.sem = fun _ => 0)

def quiescent_GateWeightRefIdeal [hGateWeightRefIdeal : Cert.GateWeightRefIdeal.Facts] : Prop :=
  ∀ (m : (ℓ : Loc Cert.GateWeightRefIdeal.nD Cert.GateWeightRefIdeal.τ Cert.GateWeightRefIdeal.sig) → Buf (Elt Ideal) ℓ) (g : Dev Cert.GateWeightRefIdeal.nD → PrngReg), Pre_GateWeightRefIdeal m →
    θ_run (Cert.GateWeightRefIdeal.defs (F := Ideal)) (onTc (τ := Cert.GateWeightRefIdeal.τ) (Cert.GateWeightRefIdeal.main (F := Ideal))) ⟨m, fun _ => 0, g⟩ (fun r => (∀ c : Dev Cert.GateWeightRefIdeal.nD,
      r.2.mem ((c.tc : Thread Cert.GateWeightRefIdeal.nD Cert.GateWeightRefIdeal.τ).loc Cert.GateWeightRefIdeal.main_arg0) = m ((c.tc : Thread Cert.GateWeightRefIdeal.nD Cert.GateWeightRefIdeal.τ).loc Cert.GateWeightRefIdeal.main_arg0)
      ∧ r.2.mem ((c.tc : Thread Cert.GateWeightRefIdeal.nD Cert.GateWeightRefIdeal.τ).loc Cert.GateWeightRefIdeal.main_arg1) = m ((c.tc : Thread Cert.GateWeightRefIdeal.nD Cert.GateWeightRefIdeal.τ).loc Cert.GateWeightRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1))
      ∧ r.2.sem = fun _ => 0)

def quiescent_InWeight [hInWeight : Cert.InWeight.Facts] : Prop :=
  ∀ (m : (ℓ : Loc Cert.InWeight.nD Cert.InWeight.τ Cert.InWeight.sig) → Buf (Elt Bits) ℓ) (g : Dev Cert.InWeight.nD → PrngReg), Pre_InWeight m →
    θ_run (Cert.InWeight.defs (F := Bits)) (onTc (τ := Cert.InWeight.τ) (Cert.InWeight.main (F := Bits))) ⟨m, fun _ => 0, g⟩ (fun r => (∀ c : Dev Cert.InWeight.nD,
      r.2.mem ((c.tc : Thread Cert.InWeight.nD Cert.InWeight.τ).loc Cert.InWeight.main_arg0) = m ((c.tc : Thread Cert.InWeight.nD Cert.InWeight.τ).loc Cert.InWeight.main_arg0)
      ∧ r.2.mem ((c.tc : Thread Cert.InWeight.nD Cert.InWeight.τ).loc Cert.InWeight.main_arg1) = m ((c.tc : Thread Cert.InWeight.nD Cert.InWeight.τ).loc Cert.InWeight.main_arg1))
      ∧ r.2.sem = fun _ => 0)

def quiescent_InWeightIdeal [hInWeightIdeal : Cert.InWeightIdeal.Facts] : Prop :=
  ∀ (m : (ℓ : Loc Cert.InWeightIdeal.nD Cert.InWeightIdeal.τ Cert.InWeightIdeal.sig) → Buf (Elt Ideal) ℓ) (g : Dev Cert.InWeightIdeal.nD → PrngReg), Pre_InWeightIdeal m →
    θ_run (Cert.InWeightIdeal.defs (F := Ideal)) (onTc (τ := Cert.InWeightIdeal.τ) (Cert.InWeightIdeal.main (F := Ideal))) ⟨m, fun _ => 0, g⟩ (fun r => (∀ c : Dev Cert.InWeightIdeal.nD,
      r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
      ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ r.2.sem = fun _ => 0)

def quiescent_InWeightRefIdeal [hInWeightRefIdeal : Cert.InWeightRefIdeal.Facts] : Prop :=
  ∀ (m : (ℓ : Loc Cert.InWeightRefIdeal.nD Cert.InWeightRefIdeal.τ Cert.InWeightRefIdeal.sig) → Buf (Elt Ideal) ℓ) (g : Dev Cert.InWeightRefIdeal.nD → PrngReg), Pre_InWeightRefIdeal m →
    θ_run (Cert.InWeightRefIdeal.defs (F := Ideal)) (onTc (τ := Cert.InWeightRefIdeal.τ) (Cert.InWeightRefIdeal.main (F := Ideal))) ⟨m, fun _ => 0, g⟩ (fun r => (∀ c : Dev Cert.InWeightRefIdeal.nD,
      r.2.mem ((c.tc : Thread Cert.InWeightRefIdeal.nD Cert.InWeightRefIdeal.τ).loc Cert.InWeightRefIdeal.main_arg0) = m ((c.tc : Thread Cert.InWeightRefIdeal.nD Cert.InWeightRefIdeal.τ).loc Cert.InWeightRefIdeal.main_arg0)
      ∧ r.2.mem ((c.tc : Thread Cert.InWeightRefIdeal.nD Cert.InWeightRefIdeal.τ).loc Cert.InWeightRefIdeal.main_arg1) = m ((c.tc : Thread Cert.InWeightRefIdeal.nD Cert.InWeightRefIdeal.τ).loc Cert.InWeightRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_QkvGrad [hQkvGrad : Cert.QkvGrad.Facts] : Prop :=
  ∀ (m : (ℓ : Loc Cert.QkvGrad.nD Cert.QkvGrad.τ Cert.QkvGrad.sig) → Buf (Elt Bits) ℓ) (g : Dev Cert.QkvGrad.nD → PrngReg), Pre_QkvGrad m →
    θ_run (Cert.QkvGrad.defs (F := Bits)) (onTc (τ := Cert.QkvGrad.τ) (Cert.QkvGrad.main (F := Bits))) ⟨m, fun _ => 0, g⟩ (fun r => (∀ c : Dev Cert.QkvGrad.nD,
      r.2.mem ((c.tc : Thread Cert.QkvGrad.nD Cert.QkvGrad.τ).loc Cert.QkvGrad.main_arg0) = m ((c.tc : Thread Cert.QkvGrad.nD Cert.QkvGrad.τ).loc Cert.QkvGrad.main_arg0)
      ∧ r.2.mem ((c.tc : Thread Cert.QkvGrad.nD Cert.QkvGrad.τ).loc Cert.QkvGrad.main_arg1) = m ((c.tc : Thread Cert.QkvGrad.nD Cert.QkvGrad.τ).loc Cert.QkvGrad.main_arg1))
      ∧ r.2.sem = fun _ => 0)

def quiescent_QkvGradIdeal [hQkvGradIdeal : Cert.QkvGradIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg), Pre_QkvGradIdeal m →
    θ_run (Cert.QkvGradIdeal.defs (F := Ideal)) (onTc (τ := Cert.QkvGradIdeal.τ) (Cert.QkvGradIdeal.main (F := Ideal))) ⟨m, fun _ => 0, g⟩ (fun r => (∀ c : Dev Cert.QkvGradIdeal.nD,
      r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
      ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ r.2.sem = fun _ => 0)

def quiescent_QkvGradRefIdeal [hQkvGradRefIdeal : Cert.QkvGradRefIdeal.Facts] : Prop :=
  ∀ (m : (ℓ : Loc Cert.QkvGradRefIdeal.nD Cert.QkvGradRefIdeal.τ Cert.QkvGradRefIdeal.sig) → Buf (Elt Ideal) ℓ) (g : Dev Cert.QkvGradRefIdeal.nD → PrngReg), Pre_QkvGradRefIdeal m →
    θ_run (Cert.QkvGradRefIdeal.defs (F := Ideal)) (onTc (τ := Cert.QkvGradRefIdeal.τ) (Cert.QkvGradRefIdeal.main (F := Ideal))) ⟨m, fun _ => 0, g⟩ (fun r => (∀ c : Dev Cert.QkvGradRefIdeal.nD,
      r.2.mem ((c.tc : Thread Cert.QkvGradRefIdeal.nD Cert.QkvGradRefIdeal.τ).loc Cert.QkvGradRefIdeal.main_arg0) = m ((c.tc : Thread Cert.QkvGradRefIdeal.nD Cert.QkvGradRefIdeal.τ).loc Cert.QkvGradRefIdeal.main_arg0)
      ∧ r.2.mem ((c.tc : Thread Cert.QkvGradRefIdeal.nD Cert.QkvGradRefIdeal.τ).loc Cert.QkvGradRefIdeal.main_arg1) = m ((c.tc : Thread Cert.QkvGradRefIdeal.nD Cert.QkvGradRefIdeal.τ).loc Cert.QkvGradRefIdeal.main_arg1))
      ∧ r.2.sem = fun _ => 0)

def quiescent_QkvWeight [hQkvWeight : Cert.QkvWeight.Facts] : Prop :=
  ∀ (m : (ℓ : Loc Cert.QkvWeight.nD Cert.QkvWeight.τ Cert.QkvWeight.sig) → Buf (Elt Bits) ℓ) (g : Dev Cert.QkvWeight.nD → PrngReg), Pre_QkvWeight m →
    θ_run (Cert.QkvWeight.defs (F := Bits)) (onTc (τ := Cert.QkvWeight.τ) (Cert.QkvWeight.main (F := Bits))) ⟨m, fun _ => 0, g⟩ (fun r => (∀ c : Dev Cert.QkvWeight.nD,
      r.2.mem ((c.tc : Thread Cert.QkvWeight.nD Cert.QkvWeight.τ).loc Cert.QkvWeight.main_arg0) = m ((c.tc : Thread Cert.QkvWeight.nD Cert.QkvWeight.τ).loc Cert.QkvWeight.main_arg0)
      ∧ r.2.mem ((c.tc : Thread Cert.QkvWeight.nD Cert.QkvWeight.τ).loc Cert.QkvWeight.main_arg1) = m ((c.tc : Thread Cert.QkvWeight.nD Cert.QkvWeight.τ).loc Cert.QkvWeight.main_arg1))
      ∧ r.2.sem = fun _ => 0)

def quiescent_QkvWeightIdeal [hQkvWeightIdeal : Cert.QkvWeightIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg), Pre_QkvWeightIdeal m →
    θ_run (Cert.QkvWeightIdeal.defs (F := Ideal)) (onTc (τ := Cert.QkvWeightIdeal.τ) (Cert.QkvWeightIdeal.main (F := Ideal))) ⟨m, fun _ => 0, g⟩ (fun r => (∀ c : Dev Cert.QkvWeightIdeal.nD,
      r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
      ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ r.2.sem = fun _ => 0)

def quiescent_QkvWeightRefIdeal [hQkvWeightRefIdeal : Cert.QkvWeightRefIdeal.Facts] : Prop :=
  ∀ (m : (ℓ : Loc Cert.QkvWeightRefIdeal.nD Cert.QkvWeightRefIdeal.τ Cert.QkvWeightRefIdeal.sig) → Buf (Elt Ideal) ℓ) (g : Dev Cert.QkvWeightRefIdeal.nD → PrngReg), Pre_QkvWeightRefIdeal m →
    θ_run (Cert.QkvWeightRefIdeal.defs (F := Ideal)) (onTc (τ := Cert.QkvWeightRefIdeal.τ) (Cert.QkvWeightRefIdeal.main (F := Ideal))) ⟨m, fun _ => 0, g⟩ (fun r => (∀ c : Dev Cert.QkvWeightRefIdeal.nD,
      r.2.mem ((c.tc : Thread Cert.QkvWeightRefIdeal.nD Cert.QkvWeightRefIdeal.τ).loc Cert.QkvWeightRefIdeal.main_arg0) = m ((c.tc : Thread Cert.QkvWeightRefIdeal.nD Cert.QkvWeightRefIdeal.τ).loc Cert.QkvWeightRefIdeal.main_arg0)
      ∧ r.2.mem ((c.tc : Thread Cert.QkvWeightRefIdeal.nD Cert.QkvWeightRefIdeal.τ).loc Cert.QkvWeightRefIdeal.main_arg1) = m ((c.tc : Thread Cert.QkvWeightRefIdeal.nD Cert.QkvWeightRefIdeal.τ).loc Cert.QkvWeightRefIdeal.main_arg1))
      ∧ r.2.sem = fun _ => 0)

def quiescent_QkvProj [hQkvProj : Cert.QkvProj.Facts] : Prop :=
  ∀ (m : (ℓ : Loc Cert.QkvProj.nD Cert.QkvProj.τ Cert.QkvProj.sig) → Buf (Elt Bits) ℓ) (g : Dev Cert.QkvProj.nD → PrngReg), Pre_QkvProj m →
    θ_run (Cert.QkvProj.defs (F := Bits)) (onTc (τ := Cert.QkvProj.τ) (Cert.QkvProj.main (F := Bits))) ⟨m, fun _ => 0, g⟩ (fun r => (∀ c : Dev Cert.QkvProj.nD,
      r.2.mem ((c.tc : Thread Cert.QkvProj.nD Cert.QkvProj.τ).loc Cert.QkvProj.main_arg0) = m ((c.tc : Thread Cert.QkvProj.nD Cert.QkvProj.τ).loc Cert.QkvProj.main_arg0)
      ∧ r.2.mem ((c.tc : Thread Cert.QkvProj.nD Cert.QkvProj.τ).loc Cert.QkvProj.main_arg1) = m ((c.tc : Thread Cert.QkvProj.nD Cert.QkvProj.τ).loc Cert.QkvProj.main_arg1))
      ∧ r.2.sem = fun _ => 0)

def quiescent_QkvProjIdeal [hQkvProjIdeal : Cert.QkvProjIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg), Pre_QkvProjIdeal m →
    θ_run (Cert.QkvProjIdeal.defs (F := Ideal)) (onTc (τ := Cert.QkvProjIdeal.τ) (Cert.QkvProjIdeal.main (F := Ideal))) ⟨m, fun _ => 0, g⟩ (fun r => (∀ c : Dev Cert.QkvProjIdeal.nD,
      r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
      ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ r.2.sem = fun _ => 0)

def quiescent_QkvProjRefIdeal [hQkvProjRefIdeal : Cert.QkvProjRefIdeal.Facts] : Prop :=
  ∀ (m : (ℓ : Loc Cert.QkvProjRefIdeal.nD Cert.QkvProjRefIdeal.τ Cert.QkvProjRefIdeal.sig) → Buf (Elt Ideal) ℓ) (g : Dev Cert.QkvProjRefIdeal.nD → PrngReg), Pre_QkvProjRefIdeal m →
    θ_run (Cert.QkvProjRefIdeal.defs (F := Ideal)) (onTc (τ := Cert.QkvProjRefIdeal.τ) (Cert.QkvProjRefIdeal.main (F := Ideal))) ⟨m, fun _ => 0, g⟩ (fun r => (∀ c : Dev Cert.QkvProjRefIdeal.nD,
      r.2.mem ((c.tc : Thread Cert.QkvProjRefIdeal.nD Cert.QkvProjRefIdeal.τ).loc Cert.QkvProjRefIdeal.main_arg0) = m ((c.tc : Thread Cert.QkvProjRefIdeal.nD Cert.QkvProjRefIdeal.τ).loc Cert.QkvProjRefIdeal.main_arg0)
      ∧ r.2.mem ((c.tc : Thread Cert.QkvProjRefIdeal.nD Cert.QkvProjRefIdeal.τ).loc Cert.QkvProjRefIdeal.main_arg1) = m ((c.tc : Thread Cert.QkvProjRefIdeal.nD Cert.QkvProjRefIdeal.τ).loc Cert.QkvProjRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_OutWeight [hOutWeight : Cert.OutWeight.Facts] : Prop :=
  ∀ (m : (ℓ : Loc Cert.OutWeight.nD Cert.OutWeight.τ Cert.OutWeight.sig) → Buf (Elt Bits) ℓ) (g : Dev Cert.OutWeight.nD → PrngReg), Pre_OutWeight m →
    θ_run (Cert.OutWeight.defs (F := Bits)) (onTc (τ := Cert.OutWeight.τ) (Cert.OutWeight.main (F := Bits))) ⟨m, fun _ => 0, g⟩ (fun r => (∀ c : Dev Cert.OutWeight.nD,
      r.2.mem ((c.tc : Thread Cert.OutWeight.nD Cert.OutWeight.τ).loc Cert.OutWeight.main_arg0) = m ((c.tc : Thread Cert.OutWeight.nD Cert.OutWeight.τ).loc Cert.OutWeight.main_arg0)
      ∧ r.2.mem ((c.tc : Thread Cert.OutWeight.nD Cert.OutWeight.τ).loc Cert.OutWeight.main_arg1) = m ((c.tc : Thread Cert.OutWeight.nD Cert.OutWeight.τ).loc Cert.OutWeight.main_arg1))
      ∧ r.2.sem = fun _ => 0)

def quiescent_OutWeightIdeal [hOutWeightIdeal : Cert.OutWeightIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg), Pre_OutWeightIdeal m →
    θ_run (Cert.OutWeightIdeal.defs (F := Ideal)) (onTc (τ := Cert.OutWeightIdeal.τ) (Cert.OutWeightIdeal.main (F := Ideal))) ⟨m, fun _ => 0, g⟩ (fun r => (∀ c : Dev Cert.OutWeightIdeal.nD,
      r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
      ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ r.2.sem = fun _ => 0)

def quiescent_OutWeightRefIdeal [hOutWeightRefIdeal : Cert.OutWeightRefIdeal.Facts] : Prop :=
  ∀ (m : (ℓ : Loc Cert.OutWeightRefIdeal.nD Cert.OutWeightRefIdeal.τ Cert.OutWeightRefIdeal.sig) → Buf (Elt Ideal) ℓ) (g : Dev Cert.OutWeightRefIdeal.nD → PrngReg), Pre_OutWeightRefIdeal m →
    θ_run (Cert.OutWeightRefIdeal.defs (F := Ideal)) (onTc (τ := Cert.OutWeightRefIdeal.τ) (Cert.OutWeightRefIdeal.main (F := Ideal))) ⟨m, fun _ => 0, g⟩ (fun r => (∀ c : Dev Cert.OutWeightRefIdeal.nD,
      r.2.mem ((c.tc : Thread Cert.OutWeightRefIdeal.nD Cert.OutWeightRefIdeal.τ).loc Cert.OutWeightRefIdeal.main_arg0) = m ((c.tc : Thread Cert.OutWeightRefIdeal.nD Cert.OutWeightRefIdeal.τ).loc Cert.OutWeightRefIdeal.main_arg0)
      ∧ r.2.mem ((c.tc : Thread Cert.OutWeightRefIdeal.nD Cert.OutWeightRefIdeal.τ).loc Cert.OutWeightRefIdeal.main_arg1) = m ((c.tc : Thread Cert.OutWeightRefIdeal.nD Cert.OutWeightRefIdeal.τ).loc Cert.OutWeightRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_AttOutProj [hAttOutProj : Cert.AttOutProj.Facts] : Prop :=
  ∀ (m : (ℓ : Loc Cert.AttOutProj.nD Cert.AttOutProj.τ Cert.AttOutProj.sig) → Buf (Elt Bits) ℓ) (g : Dev Cert.AttOutProj.nD → PrngReg), Pre_AttOutProj m →
    θ_run (Cert.AttOutProj.defs (F := Bits)) (onTc (τ := Cert.AttOutProj.τ) (Cert.AttOutProj.main (F := Bits))) ⟨m, fun _ => 0, g⟩ (fun r => (∀ c : Dev Cert.AttOutProj.nD,
      r.2.mem ((c.tc : Thread Cert.AttOutProj.nD Cert.AttOutProj.τ).loc Cert.AttOutProj.main_arg0) = m ((c.tc : Thread Cert.AttOutProj.nD Cert.AttOutProj.τ).loc Cert.AttOutProj.main_arg0)
      ∧ r.2.mem ((c.tc : Thread Cert.AttOutProj.nD Cert.AttOutProj.τ).loc Cert.AttOutProj.main_arg1) = m ((c.tc : Thread Cert.AttOutProj.nD Cert.AttOutProj.τ).loc Cert.AttOutProj.main_arg1)
      ∧ r.2.mem ((c.tc : Thread Cert.AttOutProj.nD Cert.AttOutProj.τ).loc Cert.AttOutProj.main_arg2) = m ((c.tc : Thread Cert.AttOutProj.nD Cert.AttOutProj.τ).loc Cert.AttOutProj.main_arg2))
      ∧ r.2.sem = fun _ => 0)

def quiescent_AttOutProjIdeal [hAttOutProjIdeal : Cert.AttOutProjIdeal.Facts] : Prop :=
  ∀ (m : (ℓ : Loc Cert.AttOutProjIdeal.nD Cert.AttOutProjIdeal.τ Cert.AttOutProjIdeal.sig) → Buf (Elt Ideal) ℓ) (g : Dev Cert.AttOutProjIdeal.nD → PrngReg), Pre_AttOutProjIdeal m →
    θ_run (Cert.AttOutProjIdeal.defs (F := Ideal)) (onTc (τ := Cert.AttOutProjIdeal.τ) (Cert.AttOutProjIdeal.main (F := Ideal))) ⟨m, fun _ => 0, g⟩ (fun r => (∀ c : Dev Cert.AttOutProjIdeal.nD,
      r.2.mem ((c.tc : Thread Cert.AttOutProjIdeal.nD Cert.AttOutProjIdeal.τ).loc Cert.AttOutProjIdeal.main_arg0) = m ((c.tc : Thread Cert.AttOutProjIdeal.nD Cert.AttOutProjIdeal.τ).loc Cert.AttOutProjIdeal.main_arg0)
      ∧ r.2.mem ((c.tc : Thread Cert.AttOutProjIdeal.nD Cert.AttOutProjIdeal.τ).loc Cert.AttOutProjIdeal.main_arg1) = m ((c.tc : Thread Cert.AttOutProjIdeal.nD Cert.AttOutProjIdeal.τ).loc Cert.AttOutProjIdeal.main_arg1)
      ∧ r.2.mem ((c.tc : Thread Cert.AttOutProjIdeal.nD Cert.AttOutProjIdeal.τ).loc Cert.AttOutProjIdeal.main_arg2) = m ((c.tc : Thread Cert.AttOutProjIdeal.nD Cert.AttOutProjIdeal.τ).loc Cert.AttOutProjIdeal.main_arg2))
      ∧ r.2.sem = fun _ => 0)

def quiescent_AttOutProjRefIdeal [hAttOutProjRefIdeal : Cert.AttOutProjRefIdeal.Facts] : Prop :=
  ∀ (m : (ℓ : Loc Cert.AttOutProjRefIdeal.nD Cert.AttOutProjRefIdeal.τ Cert.AttOutProjRefIdeal.sig) → Buf (Elt Ideal) ℓ) (g : Dev Cert.AttOutProjRefIdeal.nD → PrngReg), Pre_AttOutProjRefIdeal m →
    θ_run (Cert.AttOutProjRefIdeal.defs (F := Ideal)) (onTc (τ := Cert.AttOutProjRefIdeal.τ) (Cert.AttOutProjRefIdeal.main (F := Ideal))) ⟨m, fun _ => 0, g⟩ (fun r => (∀ c : Dev Cert.AttOutProjRefIdeal.nD,
      r.2.mem ((c.tc : Thread Cert.AttOutProjRefIdeal.nD Cert.AttOutProjRefIdeal.τ).loc Cert.AttOutProjRefIdeal.main_arg0) = m ((c.tc : Thread Cert.AttOutProjRefIdeal.nD Cert.AttOutProjRefIdeal.τ).loc Cert.AttOutProjRefIdeal.main_arg0)
      ∧ r.2.mem ((c.tc : Thread Cert.AttOutProjRefIdeal.nD Cert.AttOutProjRefIdeal.τ).loc Cert.AttOutProjRefIdeal.main_arg1) = m ((c.tc : Thread Cert.AttOutProjRefIdeal.nD Cert.AttOutProjRefIdeal.τ).loc Cert.AttOutProjRefIdeal.main_arg1)
      ∧ r.2.mem ((c.tc : Thread Cert.AttOutProjRefIdeal.nD Cert.AttOutProjRefIdeal.τ).loc Cert.AttOutProjRefIdeal.main_arg2) = m ((c.tc : Thread Cert.AttOutProjRefIdeal.nD Cert.AttOutProjRefIdeal.τ).loc Cert.AttOutProjRefIdeal.main_arg2))
      ∧ r.2.sem = fun _ => 0)

def quiescent_AttOutWeight [hAttOutWeight : Cert.AttOutWeight.Facts] : Prop :=
  ∀ (m : (ℓ : Loc Cert.AttOutWeight.nD Cert.AttOutWeight.τ Cert.AttOutWeight.sig) → Buf (Elt Bits) ℓ) (g : Dev Cert.AttOutWeight.nD → PrngReg), Pre_AttOutWeight m →
    θ_run (Cert.AttOutWeight.defs (F := Bits)) (onTc (τ := Cert.AttOutWeight.τ) (Cert.AttOutWeight.main (F := Bits))) ⟨m, fun _ => 0, g⟩ (fun r => (∀ c : Dev Cert.AttOutWeight.nD,
      r.2.mem ((c.tc : Thread Cert.AttOutWeight.nD Cert.AttOutWeight.τ).loc Cert.AttOutWeight.main_arg0) = m ((c.tc : Thread Cert.AttOutWeight.nD Cert.AttOutWeight.τ).loc Cert.AttOutWeight.main_arg0)
      ∧ r.2.mem ((c.tc : Thread Cert.AttOutWeight.nD Cert.AttOutWeight.τ).loc Cert.AttOutWeight.main_arg1) = m ((c.tc : Thread Cert.AttOutWeight.nD Cert.AttOutWeight.τ).loc Cert.AttOutWeight.main_arg1))
      ∧ r.2.sem = fun _ => 0)

def quiescent_AttOutWeightIdeal [hAttOutWeightIdeal : Cert.AttOutWeightIdeal.Facts] : Prop :=
  ∀ (m : (ℓ : Loc Cert.AttOutWeightIdeal.nD Cert.AttOutWeightIdeal.τ Cert.AttOutWeightIdeal.sig) → Buf (Elt Ideal) ℓ) (g : Dev Cert.AttOutWeightIdeal.nD → PrngReg), Pre_AttOutWeightIdeal m →
    θ_run (Cert.AttOutWeightIdeal.defs (F := Ideal)) (onTc (τ := Cert.AttOutWeightIdeal.τ) (Cert.AttOutWeightIdeal.main (F := Ideal))) ⟨m, fun _ => 0, g⟩ (fun r => (∀ c : Dev Cert.AttOutWeightIdeal.nD,
      r.2.mem ((c.tc : Thread Cert.AttOutWeightIdeal.nD Cert.AttOutWeightIdeal.τ).loc Cert.AttOutWeightIdeal.main_arg0) = m ((c.tc : Thread Cert.AttOutWeightIdeal.nD Cert.AttOutWeightIdeal.τ).loc Cert.AttOutWeightIdeal.main_arg0)
      ∧ r.2.mem ((c.tc : Thread Cert.AttOutWeightIdeal.nD Cert.AttOutWeightIdeal.τ).loc Cert.AttOutWeightIdeal.main_arg1) = m ((c.tc : Thread Cert.AttOutWeightIdeal.nD Cert.AttOutWeightIdeal.τ).loc Cert.AttOutWeightIdeal.main_arg1))
      ∧ r.2.sem = fun _ => 0)

def quiescent_AttOutWeightRefIdeal [hAttOutWeightRefIdeal : Cert.AttOutWeightRefIdeal.Facts] : Prop :=
  ∀ (m : (ℓ : Loc Cert.AttOutWeightRefIdeal.nD Cert.AttOutWeightRefIdeal.τ Cert.AttOutWeightRefIdeal.sig) → Buf (Elt Ideal) ℓ) (g : Dev Cert.AttOutWeightRefIdeal.nD → PrngReg), Pre_AttOutWeightRefIdeal m →
    θ_run (Cert.AttOutWeightRefIdeal.defs (F := Ideal)) (onTc (τ := Cert.AttOutWeightRefIdeal.τ) (Cert.AttOutWeightRefIdeal.main (F := Ideal))) ⟨m, fun _ => 0, g⟩ (fun r => (∀ c : Dev Cert.AttOutWeightRefIdeal.nD,
      r.2.mem ((c.tc : Thread Cert.AttOutWeightRefIdeal.nD Cert.AttOutWeightRefIdeal.τ).loc Cert.AttOutWeightRefIdeal.main_arg0) = m ((c.tc : Thread Cert.AttOutWeightRefIdeal.nD Cert.AttOutWeightRefIdeal.τ).loc Cert.AttOutWeightRefIdeal.main_arg0)
      ∧ r.2.mem ((c.tc : Thread Cert.AttOutWeightRefIdeal.nD Cert.AttOutWeightRefIdeal.τ).loc Cert.AttOutWeightRefIdeal.main_arg1) = m ((c.tc : Thread Cert.AttOutWeightRefIdeal.nD Cert.AttOutWeightRefIdeal.τ).loc Cert.AttOutWeightRefIdeal.main_arg1))
      ∧ r.2.sem = fun _ => 0)

def quiescent_LatDownGrad [hLatDownGrad : Cert.LatDownGrad.Facts] : Prop :=
  ∀ (m : (ℓ : Loc Cert.LatDownGrad.nD Cert.LatDownGrad.τ Cert.LatDownGrad.sig) → Buf (Elt Bits) ℓ) (g : Dev Cert.LatDownGrad.nD → PrngReg), Pre_LatDownGrad m →
    θ_run (Cert.LatDownGrad.defs (F := Bits)) (onTc (τ := Cert.LatDownGrad.τ) (Cert.LatDownGrad.main (F := Bits))) ⟨m, fun _ => 0, g⟩ (fun r => (∀ c : Dev Cert.LatDownGrad.nD,
      r.2.mem ((c.tc : Thread Cert.LatDownGrad.nD Cert.LatDownGrad.τ).loc Cert.LatDownGrad.main_arg0) = m ((c.tc : Thread Cert.LatDownGrad.nD Cert.LatDownGrad.τ).loc Cert.LatDownGrad.main_arg0)
      ∧ r.2.mem ((c.tc : Thread Cert.LatDownGrad.nD Cert.LatDownGrad.τ).loc Cert.LatDownGrad.main_arg1) = m ((c.tc : Thread Cert.LatDownGrad.nD Cert.LatDownGrad.τ).loc Cert.LatDownGrad.main_arg1))
      ∧ r.2.sem = fun _ => 0)

def quiescent_LatDownGradIdeal [hLatDownGradIdeal : Cert.LatDownGradIdeal.Facts] : Prop :=
  ∀ (m : (ℓ : Loc Cert.LatDownGradIdeal.nD Cert.LatDownGradIdeal.τ Cert.LatDownGradIdeal.sig) → Buf (Elt Ideal) ℓ) (g : Dev Cert.LatDownGradIdeal.nD → PrngReg), Pre_LatDownGradIdeal m →
    θ_run (Cert.LatDownGradIdeal.defs (F := Ideal)) (onTc (τ := Cert.LatDownGradIdeal.τ) (Cert.LatDownGradIdeal.main (F := Ideal))) ⟨m, fun _ => 0, g⟩ (fun r => (∀ c : Dev Cert.LatDownGradIdeal.nD,
      r.2.mem ((c.tc : Thread Cert.LatDownGradIdeal.nD Cert.LatDownGradIdeal.τ).loc Cert.LatDownGradIdeal.main_arg0) = m ((c.tc : Thread Cert.LatDownGradIdeal.nD Cert.LatDownGradIdeal.τ).loc Cert.LatDownGradIdeal.main_arg0)
      ∧ r.2.mem ((c.tc : Thread Cert.LatDownGradIdeal.nD Cert.LatDownGradIdeal.τ).loc Cert.LatDownGradIdeal.main_arg1) = m ((c.tc : Thread Cert.LatDownGradIdeal.nD Cert.LatDownGradIdeal.τ).loc Cert.LatDownGradIdeal.main_arg1))
      ∧ r.2.sem = fun _ => 0)

def quiescent_LatDownGradRefIdeal [hLatDownGradRefIdeal : Cert.LatDownGradRefIdeal.Facts] : Prop :=
  ∀ (m : (ℓ : Loc Cert.LatDownGradRefIdeal.nD Cert.LatDownGradRefIdeal.τ Cert.LatDownGradRefIdeal.sig) → Buf (Elt Ideal) ℓ) (g : Dev Cert.LatDownGradRefIdeal.nD → PrngReg), Pre_LatDownGradRefIdeal m →
    θ_run (Cert.LatDownGradRefIdeal.defs (F := Ideal)) (onTc (τ := Cert.LatDownGradRefIdeal.τ) (Cert.LatDownGradRefIdeal.main (F := Ideal))) ⟨m, fun _ => 0, g⟩ (fun r => (∀ c : Dev Cert.LatDownGradRefIdeal.nD,
      r.2.mem ((c.tc : Thread Cert.LatDownGradRefIdeal.nD Cert.LatDownGradRefIdeal.τ).loc Cert.LatDownGradRefIdeal.main_arg0) = m ((c.tc : Thread Cert.LatDownGradRefIdeal.nD Cert.LatDownGradRefIdeal.τ).loc Cert.LatDownGradRefIdeal.main_arg0)
      ∧ r.2.mem ((c.tc : Thread Cert.LatDownGradRefIdeal.nD Cert.LatDownGradRefIdeal.τ).loc Cert.LatDownGradRefIdeal.main_arg1) = m ((c.tc : Thread Cert.LatDownGradRefIdeal.nD Cert.LatDownGradRefIdeal.τ).loc Cert.LatDownGradRefIdeal.main_arg1))
      ∧ r.2.sem = fun _ => 0)

def quiescent_LatDownWeight [hLatDownWeight : Cert.LatDownWeight.Facts] : Prop :=
  ∀ (m : (ℓ : Loc Cert.LatDownWeight.nD Cert.LatDownWeight.τ Cert.LatDownWeight.sig) → Buf (Elt Bits) ℓ) (g : Dev Cert.LatDownWeight.nD → PrngReg), Pre_LatDownWeight m →
    θ_run (Cert.LatDownWeight.defs (F := Bits)) (onTc (τ := Cert.LatDownWeight.τ) (Cert.LatDownWeight.main (F := Bits))) ⟨m, fun _ => 0, g⟩ (fun r => (∀ c : Dev Cert.LatDownWeight.nD,
      r.2.mem ((c.tc : Thread Cert.LatDownWeight.nD Cert.LatDownWeight.τ).loc Cert.LatDownWeight.main_arg0) = m ((c.tc : Thread Cert.LatDownWeight.nD Cert.LatDownWeight.τ).loc Cert.LatDownWeight.main_arg0)
      ∧ r.2.mem ((c.tc : Thread Cert.LatDownWeight.nD Cert.LatDownWeight.τ).loc Cert.LatDownWeight.main_arg1) = m ((c.tc : Thread Cert.LatDownWeight.nD Cert.LatDownWeight.τ).loc Cert.LatDownWeight.main_arg1))
      ∧ r.2.sem = fun _ => 0)

def quiescent_LatDownWeightIdeal [hLatDownWeightIdeal : Cert.LatDownWeightIdeal.Facts] : Prop :=
  ∀ (m : (ℓ : Loc Cert.LatDownWeightIdeal.nD Cert.LatDownWeightIdeal.τ Cert.LatDownWeightIdeal.sig) → Buf (Elt Ideal) ℓ) (g : Dev Cert.LatDownWeightIdeal.nD → PrngReg), Pre_LatDownWeightIdeal m →
    θ_run (Cert.LatDownWeightIdeal.defs (F := Ideal)) (onTc (τ := Cert.LatDownWeightIdeal.τ) (Cert.LatDownWeightIdeal.main (F := Ideal))) ⟨m, fun _ => 0, g⟩ (fun r => (∀ c : Dev Cert.LatDownWeightIdeal.nD,
      r.2.mem ((c.tc : Thread Cert.LatDownWeightIdeal.nD Cert.LatDownWeightIdeal.τ).loc Cert.LatDownWeightIdeal.main_arg0) = m ((c.tc : Thread Cert.LatDownWeightIdeal.nD Cert.LatDownWeightIdeal.τ).loc Cert.LatDownWeightIdeal.main_arg0)
      ∧ r.2.mem ((c.tc : Thread Cert.LatDownWeightIdeal.nD Cert.LatDownWeightIdeal.τ).loc Cert.LatDownWeightIdeal.main_arg1) = m ((c.tc : Thread Cert.LatDownWeightIdeal.nD Cert.LatDownWeightIdeal.τ).loc Cert.LatDownWeightIdeal.main_arg1))
      ∧ r.2.sem = fun _ => 0)

def quiescent_LatDownWeightRefIdeal [hLatDownWeightRefIdeal : Cert.LatDownWeightRefIdeal.Facts] : Prop :=
  ∀ (m : (ℓ : Loc Cert.LatDownWeightRefIdeal.nD Cert.LatDownWeightRefIdeal.τ Cert.LatDownWeightRefIdeal.sig) → Buf (Elt Ideal) ℓ) (g : Dev Cert.LatDownWeightRefIdeal.nD → PrngReg), Pre_LatDownWeightRefIdeal m →
    θ_run (Cert.LatDownWeightRefIdeal.defs (F := Ideal)) (onTc (τ := Cert.LatDownWeightRefIdeal.τ) (Cert.LatDownWeightRefIdeal.main (F := Ideal))) ⟨m, fun _ => 0, g⟩ (fun r => (∀ c : Dev Cert.LatDownWeightRefIdeal.nD,
      r.2.mem ((c.tc : Thread Cert.LatDownWeightRefIdeal.nD Cert.LatDownWeightRefIdeal.τ).loc Cert.LatDownWeightRefIdeal.main_arg0) = m ((c.tc : Thread Cert.LatDownWeightRefIdeal.nD Cert.LatDownWeightRefIdeal.τ).loc Cert.LatDownWeightRefIdeal.main_arg0)
      ∧ r.2.mem ((c.tc : Thread Cert.LatDownWeightRefIdeal.nD Cert.LatDownWeightRefIdeal.τ).loc Cert.LatDownWeightRefIdeal.main_arg1) = m ((c.tc : Thread Cert.LatDownWeightRefIdeal.nD Cert.LatDownWeightRefIdeal.τ).loc Cert.LatDownWeightRefIdeal.main_arg1))
      ∧ r.2.sem = fun _ => 0)

def quiescent_LatDownProj [hLatDownProj : Cert.LatDownProj.Facts] : Prop :=
  ∀ (m : (ℓ : Loc Cert.LatDownProj.nD Cert.LatDownProj.τ Cert.LatDownProj.sig) → Buf (Elt Bits) ℓ) (g : Dev Cert.LatDownProj.nD → PrngReg), Pre_LatDownProj m →
    θ_run (Cert.LatDownProj.defs (F := Bits)) (onTc (τ := Cert.LatDownProj.τ) (Cert.LatDownProj.main (F := Bits))) ⟨m, fun _ => 0, g⟩ (fun r => (∀ c : Dev Cert.LatDownProj.nD,
      r.2.mem ((c.tc : Thread Cert.LatDownProj.nD Cert.LatDownProj.τ).loc Cert.LatDownProj.main_arg0) = m ((c.tc : Thread Cert.LatDownProj.nD Cert.LatDownProj.τ).loc Cert.LatDownProj.main_arg0)
      ∧ r.2.mem ((c.tc : Thread Cert.LatDownProj.nD Cert.LatDownProj.τ).loc Cert.LatDownProj.main_arg1) = m ((c.tc : Thread Cert.LatDownProj.nD Cert.LatDownProj.τ).loc Cert.LatDownProj.main_arg1))
      ∧ r.2.sem = fun _ => 0)

def quiescent_LatDownProjIdeal [hLatDownProjIdeal : Cert.LatDownProjIdeal.Facts] : Prop :=
  ∀ (m : (ℓ : Loc Cert.LatDownProjIdeal.nD Cert.LatDownProjIdeal.τ Cert.LatDownProjIdeal.sig) → Buf (Elt Ideal) ℓ) (g : Dev Cert.LatDownProjIdeal.nD → PrngReg), Pre_LatDownProjIdeal m →
    θ_run (Cert.LatDownProjIdeal.defs (F := Ideal)) (onTc (τ := Cert.LatDownProjIdeal.τ) (Cert.LatDownProjIdeal.main (F := Ideal))) ⟨m, fun _ => 0, g⟩ (fun r => (∀ c : Dev Cert.LatDownProjIdeal.nD,
      r.2.mem ((c.tc : Thread Cert.LatDownProjIdeal.nD Cert.LatDownProjIdeal.τ).loc Cert.LatDownProjIdeal.main_arg0) = m ((c.tc : Thread Cert.LatDownProjIdeal.nD Cert.LatDownProjIdeal.τ).loc Cert.LatDownProjIdeal.main_arg0)
      ∧ r.2.mem ((c.tc : Thread Cert.LatDownProjIdeal.nD Cert.LatDownProjIdeal.τ).loc Cert.LatDownProjIdeal.main_arg1) = m ((c.tc : Thread Cert.LatDownProjIdeal.nD Cert.LatDownProjIdeal.τ).loc Cert.LatDownProjIdeal.main_arg1))
      ∧ r.2.sem = fun _ => 0)

def quiescent_LatDownProjRefIdeal [hLatDownProjRefIdeal : Cert.LatDownProjRefIdeal.Facts] : Prop :=
  ∀ (m : (ℓ : Loc Cert.LatDownProjRefIdeal.nD Cert.LatDownProjRefIdeal.τ Cert.LatDownProjRefIdeal.sig) → Buf (Elt Ideal) ℓ) (g : Dev Cert.LatDownProjRefIdeal.nD → PrngReg), Pre_LatDownProjRefIdeal m →
    θ_run (Cert.LatDownProjRefIdeal.defs (F := Ideal)) (onTc (τ := Cert.LatDownProjRefIdeal.τ) (Cert.LatDownProjRefIdeal.main (F := Ideal))) ⟨m, fun _ => 0, g⟩ (fun r => (∀ c : Dev Cert.LatDownProjRefIdeal.nD,
      r.2.mem ((c.tc : Thread Cert.LatDownProjRefIdeal.nD Cert.LatDownProjRefIdeal.τ).loc Cert.LatDownProjRefIdeal.main_arg0) = m ((c.tc : Thread Cert.LatDownProjRefIdeal.nD Cert.LatDownProjRefIdeal.τ).loc Cert.LatDownProjRefIdeal.main_arg0)
      ∧ r.2.mem ((c.tc : Thread Cert.LatDownProjRefIdeal.nD Cert.LatDownProjRefIdeal.τ).loc Cert.LatDownProjRefIdeal.main_arg1) = m ((c.tc : Thread Cert.LatDownProjRefIdeal.nD Cert.LatDownProjRefIdeal.τ).loc Cert.LatDownProjRefIdeal.main_arg1))
      ∧ r.2.sem = fun _ => 0)

def quiescent_QueryUpGrad [hQueryUpGrad : Cert.QueryUpGrad.Facts] : Prop :=
  ∀ (m : (ℓ : Loc Cert.QueryUpGrad.nD Cert.QueryUpGrad.τ Cert.QueryUpGrad.sig) → Buf (Elt Bits) ℓ) (g : Dev Cert.QueryUpGrad.nD → PrngReg), Pre_QueryUpGrad m →
    θ_run (Cert.QueryUpGrad.defs (F := Bits)) (onTc (τ := Cert.QueryUpGrad.τ) (Cert.QueryUpGrad.main (F := Bits))) ⟨m, fun _ => 0, g⟩ (fun r => (∀ c : Dev Cert.QueryUpGrad.nD,
      r.2.mem ((c.tc : Thread Cert.QueryUpGrad.nD Cert.QueryUpGrad.τ).loc Cert.QueryUpGrad.main_arg0) = m ((c.tc : Thread Cert.QueryUpGrad.nD Cert.QueryUpGrad.τ).loc Cert.QueryUpGrad.main_arg0)
      ∧ r.2.mem ((c.tc : Thread Cert.QueryUpGrad.nD Cert.QueryUpGrad.τ).loc Cert.QueryUpGrad.main_arg1) = m ((c.tc : Thread Cert.QueryUpGrad.nD Cert.QueryUpGrad.τ).loc Cert.QueryUpGrad.main_arg1))
      ∧ r.2.sem = fun _ => 0)

def quiescent_QueryUpGradIdeal [hQueryUpGradIdeal : Cert.QueryUpGradIdeal.Facts] : Prop :=
  ∀ (m : (ℓ : Loc Cert.QueryUpGradIdeal.nD Cert.QueryUpGradIdeal.τ Cert.QueryUpGradIdeal.sig) → Buf (Elt Ideal) ℓ) (g : Dev Cert.QueryUpGradIdeal.nD → PrngReg), Pre_QueryUpGradIdeal m →
    θ_run (Cert.QueryUpGradIdeal.defs (F := Ideal)) (onTc (τ := Cert.QueryUpGradIdeal.τ) (Cert.QueryUpGradIdeal.main (F := Ideal))) ⟨m, fun _ => 0, g⟩ (fun r => (∀ c : Dev Cert.QueryUpGradIdeal.nD,
      r.2.mem ((c.tc : Thread Cert.QueryUpGradIdeal.nD Cert.QueryUpGradIdeal.τ).loc Cert.QueryUpGradIdeal.main_arg0) = m ((c.tc : Thread Cert.QueryUpGradIdeal.nD Cert.QueryUpGradIdeal.τ).loc Cert.QueryUpGradIdeal.main_arg0)
      ∧ r.2.mem ((c.tc : Thread Cert.QueryUpGradIdeal.nD Cert.QueryUpGradIdeal.τ).loc Cert.QueryUpGradIdeal.main_arg1) = m ((c.tc : Thread Cert.QueryUpGradIdeal.nD Cert.QueryUpGradIdeal.τ).loc Cert.QueryUpGradIdeal.main_arg1))
      ∧ r.2.sem = fun _ => 0)

def quiescent_QueryUpGradRefIdeal [hQueryUpGradRefIdeal : Cert.QueryUpGradRefIdeal.Facts] : Prop :=
  ∀ (m : (ℓ : Loc Cert.QueryUpGradRefIdeal.nD Cert.QueryUpGradRefIdeal.τ Cert.QueryUpGradRefIdeal.sig) → Buf (Elt Ideal) ℓ) (g : Dev Cert.QueryUpGradRefIdeal.nD → PrngReg), Pre_QueryUpGradRefIdeal m →
    θ_run (Cert.QueryUpGradRefIdeal.defs (F := Ideal)) (onTc (τ := Cert.QueryUpGradRefIdeal.τ) (Cert.QueryUpGradRefIdeal.main (F := Ideal))) ⟨m, fun _ => 0, g⟩ (fun r => (∀ c : Dev Cert.QueryUpGradRefIdeal.nD,
      r.2.mem ((c.tc : Thread Cert.QueryUpGradRefIdeal.nD Cert.QueryUpGradRefIdeal.τ).loc Cert.QueryUpGradRefIdeal.main_arg0) = m ((c.tc : Thread Cert.QueryUpGradRefIdeal.nD Cert.QueryUpGradRefIdeal.τ).loc Cert.QueryUpGradRefIdeal.main_arg0)
      ∧ r.2.mem ((c.tc : Thread Cert.QueryUpGradRefIdeal.nD Cert.QueryUpGradRefIdeal.τ).loc Cert.QueryUpGradRefIdeal.main_arg1) = m ((c.tc : Thread Cert.QueryUpGradRefIdeal.nD Cert.QueryUpGradRefIdeal.τ).loc Cert.QueryUpGradRefIdeal.main_arg1))
      ∧ r.2.sem = fun _ => 0)

def quiescent_QueryUpWeight [hQueryUpWeight : Cert.QueryUpWeight.Facts] : Prop :=
  ∀ (m : (ℓ : Loc Cert.QueryUpWeight.nD Cert.QueryUpWeight.τ Cert.QueryUpWeight.sig) → Buf (Elt Bits) ℓ) (g : Dev Cert.QueryUpWeight.nD → PrngReg), Pre_QueryUpWeight m →
    θ_run (Cert.QueryUpWeight.defs (F := Bits)) (onTc (τ := Cert.QueryUpWeight.τ) (Cert.QueryUpWeight.main (F := Bits))) ⟨m, fun _ => 0, g⟩ (fun r => (∀ c : Dev Cert.QueryUpWeight.nD,
      r.2.mem ((c.tc : Thread Cert.QueryUpWeight.nD Cert.QueryUpWeight.τ).loc Cert.QueryUpWeight.main_arg0) = m ((c.tc : Thread Cert.QueryUpWeight.nD Cert.QueryUpWeight.τ).loc Cert.QueryUpWeight.main_arg0)
      ∧ r.2.mem ((c.tc : Thread Cert.QueryUpWeight.nD Cert.QueryUpWeight.τ).loc Cert.QueryUpWeight.main_arg1) = m ((c.tc : Thread Cert.QueryUpWeight.nD Cert.QueryUpWeight.τ).loc Cert.QueryUpWeight.main_arg1))
      ∧ r.2.sem = fun _ => 0)

def quiescent_QueryUpWeightIdeal [hQueryUpWeightIdeal : Cert.QueryUpWeightIdeal.Facts] : Prop :=
  ∀ (m : (ℓ : Loc Cert.QueryUpWeightIdeal.nD Cert.QueryUpWeightIdeal.τ Cert.QueryUpWeightIdeal.sig) → Buf (Elt Ideal) ℓ) (g : Dev Cert.QueryUpWeightIdeal.nD → PrngReg), Pre_QueryUpWeightIdeal m →
    θ_run (Cert.QueryUpWeightIdeal.defs (F := Ideal)) (onTc (τ := Cert.QueryUpWeightIdeal.τ) (Cert.QueryUpWeightIdeal.main (F := Ideal))) ⟨m, fun _ => 0, g⟩ (fun r => (∀ c : Dev Cert.QueryUpWeightIdeal.nD,
      r.2.mem ((c.tc : Thread Cert.QueryUpWeightIdeal.nD Cert.QueryUpWeightIdeal.τ).loc Cert.QueryUpWeightIdeal.main_arg0) = m ((c.tc : Thread Cert.QueryUpWeightIdeal.nD Cert.QueryUpWeightIdeal.τ).loc Cert.QueryUpWeightIdeal.main_arg0)
      ∧ r.2.mem ((c.tc : Thread Cert.QueryUpWeightIdeal.nD Cert.QueryUpWeightIdeal.τ).loc Cert.QueryUpWeightIdeal.main_arg1) = m ((c.tc : Thread Cert.QueryUpWeightIdeal.nD Cert.QueryUpWeightIdeal.τ).loc Cert.QueryUpWeightIdeal.main_arg1))
      ∧ r.2.sem = fun _ => 0)

def quiescent_QueryUpWeightRefIdeal [hQueryUpWeightRefIdeal : Cert.QueryUpWeightRefIdeal.Facts] : Prop :=
  ∀ (m : (ℓ : Loc Cert.QueryUpWeightRefIdeal.nD Cert.QueryUpWeightRefIdeal.τ Cert.QueryUpWeightRefIdeal.sig) → Buf (Elt Ideal) ℓ) (g : Dev Cert.QueryUpWeightRefIdeal.nD → PrngReg), Pre_QueryUpWeightRefIdeal m →
    θ_run (Cert.QueryUpWeightRefIdeal.defs (F := Ideal)) (onTc (τ := Cert.QueryUpWeightRefIdeal.τ) (Cert.QueryUpWeightRefIdeal.main (F := Ideal))) ⟨m, fun _ => 0, g⟩ (fun r => (∀ c : Dev Cert.QueryUpWeightRefIdeal.nD,
      r.2.mem ((c.tc : Thread Cert.QueryUpWeightRefIdeal.nD Cert.QueryUpWeightRefIdeal.τ).loc Cert.QueryUpWeightRefIdeal.main_arg0) = m ((c.tc : Thread Cert.QueryUpWeightRefIdeal.nD Cert.QueryUpWeightRefIdeal.τ).loc Cert.QueryUpWeightRefIdeal.main_arg0)
      ∧ r.2.mem ((c.tc : Thread Cert.QueryUpWeightRefIdeal.nD Cert.QueryUpWeightRefIdeal.τ).loc Cert.QueryUpWeightRefIdeal.main_arg1) = m ((c.tc : Thread Cert.QueryUpWeightRefIdeal.nD Cert.QueryUpWeightRefIdeal.τ).loc Cert.QueryUpWeightRefIdeal.main_arg1))
      ∧ r.2.sem = fun _ => 0)

def quiescent_QueryUpProj [hQueryUpProj : Cert.QueryUpProj.Facts] : Prop :=
  ∀ (m : (ℓ : Loc Cert.QueryUpProj.nD Cert.QueryUpProj.τ Cert.QueryUpProj.sig) → Buf (Elt Bits) ℓ) (g : Dev Cert.QueryUpProj.nD → PrngReg), Pre_QueryUpProj m →
    θ_run (Cert.QueryUpProj.defs (F := Bits)) (onTc (τ := Cert.QueryUpProj.τ) (Cert.QueryUpProj.main (F := Bits))) ⟨m, fun _ => 0, g⟩ (fun r => (∀ c : Dev Cert.QueryUpProj.nD,
      r.2.mem ((c.tc : Thread Cert.QueryUpProj.nD Cert.QueryUpProj.τ).loc Cert.QueryUpProj.main_arg0) = m ((c.tc : Thread Cert.QueryUpProj.nD Cert.QueryUpProj.τ).loc Cert.QueryUpProj.main_arg0)
      ∧ r.2.mem ((c.tc : Thread Cert.QueryUpProj.nD Cert.QueryUpProj.τ).loc Cert.QueryUpProj.main_arg1) = m ((c.tc : Thread Cert.QueryUpProj.nD Cert.QueryUpProj.τ).loc Cert.QueryUpProj.main_arg1))
      ∧ r.2.sem = fun _ => 0)

def quiescent_QueryUpProjIdeal [hQueryUpProjIdeal : Cert.QueryUpProjIdeal.Facts] : Prop :=
  ∀ (m : (ℓ : Loc Cert.QueryUpProjIdeal.nD Cert.QueryUpProjIdeal.τ Cert.QueryUpProjIdeal.sig) → Buf (Elt Ideal) ℓ) (g : Dev Cert.QueryUpProjIdeal.nD → PrngReg), Pre_QueryUpProjIdeal m →
    θ_run (Cert.QueryUpProjIdeal.defs (F := Ideal)) (onTc (τ := Cert.QueryUpProjIdeal.τ) (Cert.QueryUpProjIdeal.main (F := Ideal))) ⟨m, fun _ => 0, g⟩ (fun r => (∀ c : Dev Cert.QueryUpProjIdeal.nD,
      r.2.mem ((c.tc : Thread Cert.QueryUpProjIdeal.nD Cert.QueryUpProjIdeal.τ).loc Cert.QueryUpProjIdeal.main_arg0) = m ((c.tc : Thread Cert.QueryUpProjIdeal.nD Cert.QueryUpProjIdeal.τ).loc Cert.QueryUpProjIdeal.main_arg0)
      ∧ r.2.mem ((c.tc : Thread Cert.QueryUpProjIdeal.nD Cert.QueryUpProjIdeal.τ).loc Cert.QueryUpProjIdeal.main_arg1) = m ((c.tc : Thread Cert.QueryUpProjIdeal.nD Cert.QueryUpProjIdeal.τ).loc Cert.QueryUpProjIdeal.main_arg1))
      ∧ r.2.sem = fun _ => 0)

def quiescent_QueryUpProjRefIdeal [hQueryUpProjRefIdeal : Cert.QueryUpProjRefIdeal.Facts] : Prop :=
  ∀ (m : (ℓ : Loc Cert.QueryUpProjRefIdeal.nD Cert.QueryUpProjRefIdeal.τ Cert.QueryUpProjRefIdeal.sig) → Buf (Elt Ideal) ℓ) (g : Dev Cert.QueryUpProjRefIdeal.nD → PrngReg), Pre_QueryUpProjRefIdeal m →
    θ_run (Cert.QueryUpProjRefIdeal.defs (F := Ideal)) (onTc (τ := Cert.QueryUpProjRefIdeal.τ) (Cert.QueryUpProjRefIdeal.main (F := Ideal))) ⟨m, fun _ => 0, g⟩ (fun r => (∀ c : Dev Cert.QueryUpProjRefIdeal.nD,
      r.2.mem ((c.tc : Thread Cert.QueryUpProjRefIdeal.nD Cert.QueryUpProjRefIdeal.τ).loc Cert.QueryUpProjRefIdeal.main_arg0) = m ((c.tc : Thread Cert.QueryUpProjRefIdeal.nD Cert.QueryUpProjRefIdeal.τ).loc Cert.QueryUpProjRefIdeal.main_arg0)
      ∧ r.2.mem ((c.tc : Thread Cert.QueryUpProjRefIdeal.nD Cert.QueryUpProjRefIdeal.τ).loc Cert.QueryUpProjRefIdeal.main_arg1) = m ((c.tc : Thread Cert.QueryUpProjRefIdeal.nD Cert.QueryUpProjRefIdeal.τ).loc Cert.QueryUpProjRefIdeal.main_arg1))
      ∧ r.2.sem = fun _ => 0)

def quiescent_KeyUpGrad [hKeyUpGrad : Cert.KeyUpGrad.Facts] : Prop :=
  ∀ (m : (ℓ : Loc Cert.KeyUpGrad.nD Cert.KeyUpGrad.τ Cert.KeyUpGrad.sig) → Buf (Elt Bits) ℓ) (g : Dev Cert.KeyUpGrad.nD → PrngReg), Pre_KeyUpGrad m →
    θ_run (Cert.KeyUpGrad.defs (F := Bits)) (onTc (τ := Cert.KeyUpGrad.τ) (Cert.KeyUpGrad.main (F := Bits))) ⟨m, fun _ => 0, g⟩ (fun r => (∀ c : Dev Cert.KeyUpGrad.nD,
      r.2.mem ((c.tc : Thread Cert.KeyUpGrad.nD Cert.KeyUpGrad.τ).loc Cert.KeyUpGrad.main_arg0) = m ((c.tc : Thread Cert.KeyUpGrad.nD Cert.KeyUpGrad.τ).loc Cert.KeyUpGrad.main_arg0)
      ∧ r.2.mem ((c.tc : Thread Cert.KeyUpGrad.nD Cert.KeyUpGrad.τ).loc Cert.KeyUpGrad.main_arg1) = m ((c.tc : Thread Cert.KeyUpGrad.nD Cert.KeyUpGrad.τ).loc Cert.KeyUpGrad.main_arg1))
      ∧ r.2.sem = fun _ => 0)

def quiescent_KeyUpGradIdeal [hKeyUpGradIdeal : Cert.KeyUpGradIdeal.Facts] : Prop :=
  ∀ (m : (ℓ : Loc Cert.KeyUpGradIdeal.nD Cert.KeyUpGradIdeal.τ Cert.KeyUpGradIdeal.sig) → Buf (Elt Ideal) ℓ) (g : Dev Cert.KeyUpGradIdeal.nD → PrngReg), Pre_KeyUpGradIdeal m →
    θ_run (Cert.KeyUpGradIdeal.defs (F := Ideal)) (onTc (τ := Cert.KeyUpGradIdeal.τ) (Cert.KeyUpGradIdeal.main (F := Ideal))) ⟨m, fun _ => 0, g⟩ (fun r => (∀ c : Dev Cert.KeyUpGradIdeal.nD,
      r.2.mem ((c.tc : Thread Cert.KeyUpGradIdeal.nD Cert.KeyUpGradIdeal.τ).loc Cert.KeyUpGradIdeal.main_arg0) = m ((c.tc : Thread Cert.KeyUpGradIdeal.nD Cert.KeyUpGradIdeal.τ).loc Cert.KeyUpGradIdeal.main_arg0)
      ∧ r.2.mem ((c.tc : Thread Cert.KeyUpGradIdeal.nD Cert.KeyUpGradIdeal.τ).loc Cert.KeyUpGradIdeal.main_arg1) = m ((c.tc : Thread Cert.KeyUpGradIdeal.nD Cert.KeyUpGradIdeal.τ).loc Cert.KeyUpGradIdeal.main_arg1))
      ∧ r.2.sem = fun _ => 0)

def quiescent_KeyUpGradRefIdeal [hKeyUpGradRefIdeal : Cert.KeyUpGradRefIdeal.Facts] : Prop :=
  ∀ (m : (ℓ : Loc Cert.KeyUpGradRefIdeal.nD Cert.KeyUpGradRefIdeal.τ Cert.KeyUpGradRefIdeal.sig) → Buf (Elt Ideal) ℓ) (g : Dev Cert.KeyUpGradRefIdeal.nD → PrngReg), Pre_KeyUpGradRefIdeal m →
    θ_run (Cert.KeyUpGradRefIdeal.defs (F := Ideal)) (onTc (τ := Cert.KeyUpGradRefIdeal.τ) (Cert.KeyUpGradRefIdeal.main (F := Ideal))) ⟨m, fun _ => 0, g⟩ (fun r => (∀ c : Dev Cert.KeyUpGradRefIdeal.nD,
      r.2.mem ((c.tc : Thread Cert.KeyUpGradRefIdeal.nD Cert.KeyUpGradRefIdeal.τ).loc Cert.KeyUpGradRefIdeal.main_arg0) = m ((c.tc : Thread Cert.KeyUpGradRefIdeal.nD Cert.KeyUpGradRefIdeal.τ).loc Cert.KeyUpGradRefIdeal.main_arg0)
      ∧ r.2.mem ((c.tc : Thread Cert.KeyUpGradRefIdeal.nD Cert.KeyUpGradRefIdeal.τ).loc Cert.KeyUpGradRefIdeal.main_arg1) = m ((c.tc : Thread Cert.KeyUpGradRefIdeal.nD Cert.KeyUpGradRefIdeal.τ).loc Cert.KeyUpGradRefIdeal.main_arg1))
      ∧ r.2.sem = fun _ => 0)

def quiescent_KeyUpWeight [hKeyUpWeight : Cert.KeyUpWeight.Facts] : Prop :=
  ∀ (m : (ℓ : Loc Cert.KeyUpWeight.nD Cert.KeyUpWeight.τ Cert.KeyUpWeight.sig) → Buf (Elt Bits) ℓ) (g : Dev Cert.KeyUpWeight.nD → PrngReg), Pre_KeyUpWeight m →
    θ_run (Cert.KeyUpWeight.defs (F := Bits)) (onTc (τ := Cert.KeyUpWeight.τ) (Cert.KeyUpWeight.main (F := Bits))) ⟨m, fun _ => 0, g⟩ (fun r => (∀ c : Dev Cert.KeyUpWeight.nD,
      r.2.mem ((c.tc : Thread Cert.KeyUpWeight.nD Cert.KeyUpWeight.τ).loc Cert.KeyUpWeight.main_arg0) = m ((c.tc : Thread Cert.KeyUpWeight.nD Cert.KeyUpWeight.τ).loc Cert.KeyUpWeight.main_arg0)
      ∧ r.2.mem ((c.tc : Thread Cert.KeyUpWeight.nD Cert.KeyUpWeight.τ).loc Cert.KeyUpWeight.main_arg1) = m ((c.tc : Thread Cert.KeyUpWeight.nD Cert.KeyUpWeight.τ).loc Cert.KeyUpWeight.main_arg1))
      ∧ r.2.sem = fun _ => 0)

def quiescent_KeyUpWeightIdeal [hKeyUpWeightIdeal : Cert.KeyUpWeightIdeal.Facts] : Prop :=
  ∀ (m : (ℓ : Loc Cert.KeyUpWeightIdeal.nD Cert.KeyUpWeightIdeal.τ Cert.KeyUpWeightIdeal.sig) → Buf (Elt Ideal) ℓ) (g : Dev Cert.KeyUpWeightIdeal.nD → PrngReg), Pre_KeyUpWeightIdeal m →
    θ_run (Cert.KeyUpWeightIdeal.defs (F := Ideal)) (onTc (τ := Cert.KeyUpWeightIdeal.τ) (Cert.KeyUpWeightIdeal.main (F := Ideal))) ⟨m, fun _ => 0, g⟩ (fun r => (∀ c : Dev Cert.KeyUpWeightIdeal.nD,
      r.2.mem ((c.tc : Thread Cert.KeyUpWeightIdeal.nD Cert.KeyUpWeightIdeal.τ).loc Cert.KeyUpWeightIdeal.main_arg0) = m ((c.tc : Thread Cert.KeyUpWeightIdeal.nD Cert.KeyUpWeightIdeal.τ).loc Cert.KeyUpWeightIdeal.main_arg0)
      ∧ r.2.mem ((c.tc : Thread Cert.KeyUpWeightIdeal.nD Cert.KeyUpWeightIdeal.τ).loc Cert.KeyUpWeightIdeal.main_arg1) = m ((c.tc : Thread Cert.KeyUpWeightIdeal.nD Cert.KeyUpWeightIdeal.τ).loc Cert.KeyUpWeightIdeal.main_arg1))
      ∧ r.2.sem = fun _ => 0)

def quiescent_KeyUpWeightRefIdeal [hKeyUpWeightRefIdeal : Cert.KeyUpWeightRefIdeal.Facts] : Prop :=
  ∀ (m : (ℓ : Loc Cert.KeyUpWeightRefIdeal.nD Cert.KeyUpWeightRefIdeal.τ Cert.KeyUpWeightRefIdeal.sig) → Buf (Elt Ideal) ℓ) (g : Dev Cert.KeyUpWeightRefIdeal.nD → PrngReg), Pre_KeyUpWeightRefIdeal m →
    θ_run (Cert.KeyUpWeightRefIdeal.defs (F := Ideal)) (onTc (τ := Cert.KeyUpWeightRefIdeal.τ) (Cert.KeyUpWeightRefIdeal.main (F := Ideal))) ⟨m, fun _ => 0, g⟩ (fun r => (∀ c : Dev Cert.KeyUpWeightRefIdeal.nD,
      r.2.mem ((c.tc : Thread Cert.KeyUpWeightRefIdeal.nD Cert.KeyUpWeightRefIdeal.τ).loc Cert.KeyUpWeightRefIdeal.main_arg0) = m ((c.tc : Thread Cert.KeyUpWeightRefIdeal.nD Cert.KeyUpWeightRefIdeal.τ).loc Cert.KeyUpWeightRefIdeal.main_arg0)
      ∧ r.2.mem ((c.tc : Thread Cert.KeyUpWeightRefIdeal.nD Cert.KeyUpWeightRefIdeal.τ).loc Cert.KeyUpWeightRefIdeal.main_arg1) = m ((c.tc : Thread Cert.KeyUpWeightRefIdeal.nD Cert.KeyUpWeightRefIdeal.τ).loc Cert.KeyUpWeightRefIdeal.main_arg1))
      ∧ r.2.sem = fun _ => 0)

def quiescent_KeyUpProj [hKeyUpProj : Cert.KeyUpProj.Facts] : Prop :=
  ∀ (m : (ℓ : Loc Cert.KeyUpProj.nD Cert.KeyUpProj.τ Cert.KeyUpProj.sig) → Buf (Elt Bits) ℓ) (g : Dev Cert.KeyUpProj.nD → PrngReg), Pre_KeyUpProj m →
    θ_run (Cert.KeyUpProj.defs (F := Bits)) (onTc (τ := Cert.KeyUpProj.τ) (Cert.KeyUpProj.main (F := Bits))) ⟨m, fun _ => 0, g⟩ (fun r => (∀ c : Dev Cert.KeyUpProj.nD,
      r.2.mem ((c.tc : Thread Cert.KeyUpProj.nD Cert.KeyUpProj.τ).loc Cert.KeyUpProj.main_arg0) = m ((c.tc : Thread Cert.KeyUpProj.nD Cert.KeyUpProj.τ).loc Cert.KeyUpProj.main_arg0)
      ∧ r.2.mem ((c.tc : Thread Cert.KeyUpProj.nD Cert.KeyUpProj.τ).loc Cert.KeyUpProj.main_arg1) = m ((c.tc : Thread Cert.KeyUpProj.nD Cert.KeyUpProj.τ).loc Cert.KeyUpProj.main_arg1))
      ∧ r.2.sem = fun _ => 0)

def quiescent_KeyUpProjIdeal [hKeyUpProjIdeal : Cert.KeyUpProjIdeal.Facts] : Prop :=
  ∀ (m : (ℓ : Loc Cert.KeyUpProjIdeal.nD Cert.KeyUpProjIdeal.τ Cert.KeyUpProjIdeal.sig) → Buf (Elt Ideal) ℓ) (g : Dev Cert.KeyUpProjIdeal.nD → PrngReg), Pre_KeyUpProjIdeal m →
    θ_run (Cert.KeyUpProjIdeal.defs (F := Ideal)) (onTc (τ := Cert.KeyUpProjIdeal.τ) (Cert.KeyUpProjIdeal.main (F := Ideal))) ⟨m, fun _ => 0, g⟩ (fun r => (∀ c : Dev Cert.KeyUpProjIdeal.nD,
      r.2.mem ((c.tc : Thread Cert.KeyUpProjIdeal.nD Cert.KeyUpProjIdeal.τ).loc Cert.KeyUpProjIdeal.main_arg0) = m ((c.tc : Thread Cert.KeyUpProjIdeal.nD Cert.KeyUpProjIdeal.τ).loc Cert.KeyUpProjIdeal.main_arg0)
      ∧ r.2.mem ((c.tc : Thread Cert.KeyUpProjIdeal.nD Cert.KeyUpProjIdeal.τ).loc Cert.KeyUpProjIdeal.main_arg1) = m ((c.tc : Thread Cert.KeyUpProjIdeal.nD Cert.KeyUpProjIdeal.τ).loc Cert.KeyUpProjIdeal.main_arg1))
      ∧ r.2.sem = fun _ => 0)

def quiescent_KeyUpProjRefIdeal [hKeyUpProjRefIdeal : Cert.KeyUpProjRefIdeal.Facts] : Prop :=
  ∀ (m : (ℓ : Loc Cert.KeyUpProjRefIdeal.nD Cert.KeyUpProjRefIdeal.τ Cert.KeyUpProjRefIdeal.sig) → Buf (Elt Ideal) ℓ) (g : Dev Cert.KeyUpProjRefIdeal.nD → PrngReg), Pre_KeyUpProjRefIdeal m →
    θ_run (Cert.KeyUpProjRefIdeal.defs (F := Ideal)) (onTc (τ := Cert.KeyUpProjRefIdeal.τ) (Cert.KeyUpProjRefIdeal.main (F := Ideal))) ⟨m, fun _ => 0, g⟩ (fun r => (∀ c : Dev Cert.KeyUpProjRefIdeal.nD,
      r.2.mem ((c.tc : Thread Cert.KeyUpProjRefIdeal.nD Cert.KeyUpProjRefIdeal.τ).loc Cert.KeyUpProjRefIdeal.main_arg0) = m ((c.tc : Thread Cert.KeyUpProjRefIdeal.nD Cert.KeyUpProjRefIdeal.τ).loc Cert.KeyUpProjRefIdeal.main_arg0)
      ∧ r.2.mem ((c.tc : Thread Cert.KeyUpProjRefIdeal.nD Cert.KeyUpProjRefIdeal.τ).loc Cert.KeyUpProjRefIdeal.main_arg1) = m ((c.tc : Thread Cert.KeyUpProjRefIdeal.nD Cert.KeyUpProjRefIdeal.τ).loc Cert.KeyUpProjRefIdeal.main_arg1))
      ∧ r.2.sem = fun _ => 0)

def quiescent_LatentFwd [hLatentFwd : Cert.LatentFwd.Facts] : Prop :=
  ∀ (m : (ℓ : Loc Cert.LatentFwd.nD Cert.LatentFwd.τ Cert.LatentFwd.sig) → Buf (Elt Bits) ℓ) (g : Dev Cert.LatentFwd.nD → PrngReg), Pre_LatentFwd m →
    θ_run (Cert.LatentFwd.defs (F := Bits)) (onTc (τ := Cert.LatentFwd.τ) (Cert.LatentFwd.main (F := Bits))) ⟨m, fun _ => 0, g⟩ (fun r => (∀ c : Dev Cert.LatentFwd.nD,
      r.2.mem ((c.tc : Thread Cert.LatentFwd.nD Cert.LatentFwd.τ).loc Cert.LatentFwd.main_arg0) = m ((c.tc : Thread Cert.LatentFwd.nD Cert.LatentFwd.τ).loc Cert.LatentFwd.main_arg0)
      ∧ r.2.mem ((c.tc : Thread Cert.LatentFwd.nD Cert.LatentFwd.τ).loc Cert.LatentFwd.main_arg1) = m ((c.tc : Thread Cert.LatentFwd.nD Cert.LatentFwd.τ).loc Cert.LatentFwd.main_arg1)
      ∧ r.2.mem ((c.tc : Thread Cert.LatentFwd.nD Cert.LatentFwd.τ).loc Cert.LatentFwd.main_arg2) = m ((c.tc : Thread Cert.LatentFwd.nD Cert.LatentFwd.τ).loc Cert.LatentFwd.main_arg2)
      ∧ r.2.mem ((c.tc : Thread Cert.LatentFwd.nD Cert.LatentFwd.τ).loc Cert.LatentFwd.main_arg3) = m ((c.tc : Thread Cert.LatentFwd.nD Cert.LatentFwd.τ).loc Cert.LatentFwd.main_arg3)
      ∧ r.2.mem ((c.tc : Thread Cert.LatentFwd.nD Cert.LatentFwd.τ).loc Cert.LatentFwd.main_arg4) = m ((c.tc : Thread Cert.LatentFwd.nD Cert.LatentFwd.τ).loc Cert.LatentFwd.main_arg4))
      ∧ r.2.sem = fun _ => 0)

def quiescent_LatentFwdIdeal [hLatentFwdIdeal : Cert.LatentFwdIdeal.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg), Pre_LatentFwdIdeal m →
    θ_run (Cert.LatentFwdIdeal.defs (F := Ideal)) (onTc (τ := Cert.LatentFwdIdeal.τ) (Cert.LatentFwdIdeal.main (F := Ideal))) ⟨m, fun _ => 0, g⟩ (fun r => (∀ c : Dev Cert.LatentFwdIdeal.nD,
      r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
      ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
      ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2)
      ∧ r.2.mem ((c.tc : Thread Cert.LatentFwdIdeal.nD Cert.LatentFwdIdeal.τ).loc Cert.LatentFwdIdeal.main_arg3) = m ((c.tc : Thread Cert.LatentFwdIdeal.nD Cert.LatentFwdIdeal.τ).loc Cert.LatentFwdIdeal.main_arg3)
      ∧ r.2.mem ((c.tc : Thread Cert.LatentFwdIdeal.nD Cert.LatentFwdIdeal.τ).loc Cert.LatentFwdIdeal.main_arg4) = m ((c.tc : Thread Cert.LatentFwdIdeal.nD Cert.LatentFwdIdeal.τ).loc Cert.LatentFwdIdeal.main_arg4))
      ∧ r.2.sem = fun _ => 0)

def quiescent_LatentFwdIdeal_pre_reals [hLatentFwdIdeal : Cert.LatentFwdIdeal.Facts] [hPre_reals : Cert.Pre_reals.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg), Pre_LatentFwdIdeal_reals m →
    θ_run (Cert.LatentFwdIdeal.defs (F := Ideal)) (onTc (τ := Cert.LatentFwdIdeal.τ) (Cert.LatentFwdIdeal.main (F := Ideal))) ⟨m, fun _ => 0, g⟩ (fun r => (∀ c : Dev Cert.LatentFwdIdeal.nD,
      r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
      ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
      ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2)
      ∧ r.2.mem ((c.tc : Thread Cert.LatentFwdIdeal.nD Cert.LatentFwdIdeal.τ).loc Cert.LatentFwdIdeal.main_arg3) = m ((c.tc : Thread Cert.LatentFwdIdeal.nD Cert.LatentFwdIdeal.τ).loc Cert.LatentFwdIdeal.main_arg3)
      ∧ r.2.mem ((c.tc : Thread Cert.LatentFwdIdeal.nD Cert.LatentFwdIdeal.τ).loc Cert.LatentFwdIdeal.main_arg4) = m ((c.tc : Thread Cert.LatentFwdIdeal.nD Cert.LatentFwdIdeal.τ).loc Cert.LatentFwdIdeal.main_arg4))
      ∧ r.2.sem = fun _ => 0)

def quiescent_LatentFwdRefIdeal [hLatentFwdRefIdeal : Cert.LatentFwdRefIdeal.Facts] : Prop :=
  ∀ (m : (ℓ : Loc Cert.LatentFwdRefIdeal.nD Cert.LatentFwdRefIdeal.τ Cert.LatentFwdRefIdeal.sig) → Buf (Elt Ideal) ℓ) (g : Dev Cert.LatentFwdRefIdeal.nD → PrngReg), Pre_LatentFwdRefIdeal m →
    θ_run (Cert.LatentFwdRefIdeal.defs (F := Ideal)) (onTc (τ := Cert.LatentFwdRefIdeal.τ) (Cert.LatentFwdRefIdeal.main (F := Ideal))) ⟨m, fun _ => 0, g⟩ (fun r => (∀ c : Dev Cert.LatentFwdRefIdeal.nD,
      r.2.mem ((c.tc : Thread Cert.LatentFwdRefIdeal.nD Cert.LatentFwdRefIdeal.τ).loc Cert.LatentFwdRefIdeal.main_arg0) = m ((c.tc : Thread Cert.LatentFwdRefIdeal.nD Cert.LatentFwdRefIdeal.τ).loc Cert.LatentFwdRefIdeal.main_arg0)
      ∧ r.2.mem ((c.tc : Thread Cert.LatentFwdRefIdeal.nD Cert.LatentFwdRefIdeal.τ).loc Cert.LatentFwdRefIdeal.main_arg1) = m ((c.tc : Thread Cert.LatentFwdRefIdeal.nD Cert.LatentFwdRefIdeal.τ).loc Cert.LatentFwdRefIdeal.main_arg1)
      ∧ r.2.mem ((c.tc : Thread Cert.LatentFwdRefIdeal.nD Cert.LatentFwdRefIdeal.τ).loc Cert.LatentFwdRefIdeal.main_arg2) = m ((c.tc : Thread Cert.LatentFwdRefIdeal.nD Cert.LatentFwdRefIdeal.τ).loc Cert.LatentFwdRefIdeal.main_arg2)
      ∧ r.2.mem ((c.tc : Thread Cert.LatentFwdRefIdeal.nD Cert.LatentFwdRefIdeal.τ).loc Cert.LatentFwdRefIdeal.main_arg3) = m ((c.tc : Thread Cert.LatentFwdRefIdeal.nD Cert.LatentFwdRefIdeal.τ).loc Cert.LatentFwdRefIdeal.main_arg3)
      ∧ r.2.mem ((c.tc : Thread Cert.LatentFwdRefIdeal.nD Cert.LatentFwdRefIdeal.τ).loc Cert.LatentFwdRefIdeal.main_arg4) = m ((c.tc : Thread Cert.LatentFwdRefIdeal.nD Cert.LatentFwdRefIdeal.τ).loc Cert.LatentFwdRefIdeal.main_arg4))
      ∧ r.2.sem = fun _ => 0)

def quiescent_LatentFwdRefIdeal_pre_reals [hLatentFwdRefIdeal : Cert.LatentFwdRefIdeal.Facts] [hPre_reals : Cert.Pre_reals.Facts] : Prop :=
  ∀ (m : (ℓ : Loc Cert.LatentFwdRefIdeal.nD Cert.LatentFwdRefIdeal.τ Cert.LatentFwdRefIdeal.sig) → Buf (Elt Ideal) ℓ) (g : Dev Cert.LatentFwdRefIdeal.nD → PrngReg), Pre_LatentFwdRefIdeal_reals m →
    θ_run (Cert.LatentFwdRefIdeal.defs (F := Ideal)) (onTc (τ := Cert.LatentFwdRefIdeal.τ) (Cert.LatentFwdRefIdeal.main (F := Ideal))) ⟨m, fun _ => 0, g⟩ (fun r => (∀ c : Dev Cert.LatentFwdRefIdeal.nD,
      r.2.mem ((c.tc : Thread Cert.LatentFwdRefIdeal.nD Cert.LatentFwdRefIdeal.τ).loc Cert.LatentFwdRefIdeal.main_arg0) = m ((c.tc : Thread Cert.LatentFwdRefIdeal.nD Cert.LatentFwdRefIdeal.τ).loc Cert.LatentFwdRefIdeal.main_arg0)
      ∧ r.2.mem ((c.tc : Thread Cert.LatentFwdRefIdeal.nD Cert.LatentFwdRefIdeal.τ).loc Cert.LatentFwdRefIdeal.main_arg1) = m ((c.tc : Thread Cert.LatentFwdRefIdeal.nD Cert.LatentFwdRefIdeal.τ).loc Cert.LatentFwdRefIdeal.main_arg1)
      ∧ r.2.mem ((c.tc : Thread Cert.LatentFwdRefIdeal.nD Cert.LatentFwdRefIdeal.τ).loc Cert.LatentFwdRefIdeal.main_arg2) = m ((c.tc : Thread Cert.LatentFwdRefIdeal.nD Cert.LatentFwdRefIdeal.τ).loc Cert.LatentFwdRefIdeal.main_arg2)
      ∧ r.2.mem ((c.tc : Thread Cert.LatentFwdRefIdeal.nD Cert.LatentFwdRefIdeal.τ).loc Cert.LatentFwdRefIdeal.main_arg3) = m ((c.tc : Thread Cert.LatentFwdRefIdeal.nD Cert.LatentFwdRefIdeal.τ).loc Cert.LatentFwdRefIdeal.main_arg3)
      ∧ r.2.mem ((c.tc : Thread Cert.LatentFwdRefIdeal.nD Cert.LatentFwdRefIdeal.τ).loc Cert.LatentFwdRefIdeal.main_arg4) = m ((c.tc : Thread Cert.LatentFwdRefIdeal.nD Cert.LatentFwdRefIdeal.τ).loc Cert.LatentFwdRefIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_SumParts [hSumParts : Cert.SumParts.Facts] : Prop :=
  ∀ (m : (ℓ : Loc Cert.SumParts.nD Cert.SumParts.τ Cert.SumParts.sig) → Buf (Elt Bits) ℓ) (g : Dev Cert.SumParts.nD → PrngReg), Pre_SumParts m →
    θ_run (Cert.SumParts.defs (F := Bits)) (onTc (τ := Cert.SumParts.τ) (Cert.SumParts.main (F := Bits))) ⟨m, fun _ => 0, g⟩ (fun r => (∀ c : Dev Cert.SumParts.nD,
      r.2.mem ((c.tc : Thread Cert.SumParts.nD Cert.SumParts.τ).loc Cert.SumParts.main_arg0) = m ((c.tc : Thread Cert.SumParts.nD Cert.SumParts.τ).loc Cert.SumParts.main_arg0))
      ∧ r.2.sem = fun _ => 0)

def quiescent_SumPartsIdeal [hSumPartsIdeal : Cert.SumPartsIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg), Pre_SumPartsIdeal m →
    θ_run (Cert.SumPartsIdeal.defs (F := Ideal)) (onTc (τ := Cert.SumPartsIdeal.τ) (Cert.SumPartsIdeal.main (F := Ideal))) ⟨m, fun _ => 0, g⟩ (fun r => (∀ c : Dev Cert.SumPartsIdeal.nD,
      r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ r.2.sem = fun _ => 0)

def quiescent_SumPartsRefIdeal [hSumPartsRefIdeal : Cert.SumPartsRefIdeal.Facts] : Prop :=
  ∀ (m : (ℓ : Loc Cert.SumPartsRefIdeal.nD Cert.SumPartsRefIdeal.τ Cert.SumPartsRefIdeal.sig) → Buf (Elt Ideal) ℓ) (g : Dev Cert.SumPartsRefIdeal.nD → PrngReg), Pre_SumPartsRefIdeal m →
    θ_run (Cert.SumPartsRefIdeal.defs (F := Ideal)) (onTc (τ := Cert.SumPartsRefIdeal.τ) (Cert.SumPartsRefIdeal.main (F := Ideal))) ⟨m, fun _ => 0, g⟩ (fun r => (∀ c : Dev Cert.SumPartsRefIdeal.nD,
      r.2.mem ((c.tc : Thread Cert.SumPartsRefIdeal.nD Cert.SumPartsRefIdeal.τ).loc Cert.SumPartsRefIdeal.main_arg0) = m ((c.tc : Thread Cert.SumPartsRefIdeal.nD Cert.SumPartsRefIdeal.τ).loc Cert.SumPartsRefIdeal.main_arg0))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_UpdGateUp [hUpdGateUp : Cert.UpdGateUp.Facts] [hPre_device : Cert.Pre_device.Facts] : Prop :=
  ∀ (m : (ℓ : Loc Cert.UpdGateUp.nD Cert.UpdGateUp.τ Cert.UpdGateUp.sig) → Buf (Elt Bits) ℓ) (g : Dev Cert.UpdGateUp.nD → PrngReg), Pre_UpdGateUp m →
    θ_run (Cert.UpdGateUp.defs (F := Bits)) (onTc (τ := Cert.UpdGateUp.τ) (Cert.UpdGateUp.main (F := Bits))) ⟨m, fun _ => 0, g⟩ (fun r => (∀ c : Dev Cert.UpdGateUp.nD,
      r.2.mem ((c.tc : Thread Cert.UpdGateUp.nD Cert.UpdGateUp.τ).loc Cert.UpdGateUp.main_arg0) = m ((c.tc : Thread Cert.UpdGateUp.nD Cert.UpdGateUp.τ).loc Cert.UpdGateUp.main_arg0)
      ∧ r.2.mem ((c.tc : Thread Cert.UpdGateUp.nD Cert.UpdGateUp.τ).loc Cert.UpdGateUp.main_arg1) = m ((c.tc : Thread Cert.UpdGateUp.nD Cert.UpdGateUp.τ).loc Cert.UpdGateUp.main_arg1)
      ∧ r.2.mem ((c.tc : Thread Cert.UpdGateUp.nD Cert.UpdGateUp.τ).loc Cert.UpdGateUp.main_arg2) = m ((c.tc : Thread Cert.UpdGateUp.nD Cert.UpdGateUp.τ).loc Cert.UpdGateUp.main_arg2)
      ∧ r.2.mem ((c.tc : Thread Cert.UpdGateUp.nD Cert.UpdGateUp.τ).loc Cert.UpdGateUp.main_arg3) = m ((c.tc : Thread Cert.UpdGateUp.nD Cert.UpdGateUp.τ).loc Cert.UpdGateUp.main_arg3)
      ∧ r.2.mem ((c.tc : Thread Cert.UpdGateUp.nD Cert.UpdGateUp.τ).loc Cert.UpdGateUp.main_arg4) = m ((c.tc : Thread Cert.UpdGateUp.nD Cert.UpdGateUp.τ).loc Cert.UpdGateUp.main_arg4)
      ∧ r.2.mem ((c.tc : Thread Cert.UpdGateUp.nD Cert.UpdGateUp.τ).loc Cert.UpdGateUp.main_arg5) = m ((c.tc : Thread Cert.UpdGateUp.nD Cert.UpdGateUp.τ).loc Cert.UpdGateUp.main_arg5))
      ∧ r.2.sem = fun _ => 0)

def quiescent_UpdGateUpIdeal [hUpdGateUpIdeal : Cert.UpdGateUpIdeal.Facts] [hPre_device : Cert.Pre_device.Facts] : Prop :=
  ∀ (m : (ℓ : Loc Cert.UpdGateUpIdeal.nD Cert.UpdGateUpIdeal.τ Cert.UpdGateUpIdeal.sig) → Buf (Elt Ideal) ℓ) (g : Dev Cert.UpdGateUpIdeal.nD → PrngReg), Pre_UpdGateUpIdeal m →
    θ_run (Cert.UpdGateUpIdeal.defs (F := Ideal)) (onTc (τ := Cert.UpdGateUpIdeal.τ) (Cert.UpdGateUpIdeal.main (F := Ideal))) ⟨m, fun _ => 0, g⟩ (fun r => (∀ c : Dev Cert.UpdGateUpIdeal.nD,
      r.2.mem ((c.tc : Thread Cert.UpdGateUpIdeal.nD Cert.UpdGateUpIdeal.τ).loc Cert.UpdGateUpIdeal.main_arg0) = m ((c.tc : Thread Cert.UpdGateUpIdeal.nD Cert.UpdGateUpIdeal.τ).loc Cert.UpdGateUpIdeal.main_arg0)
      ∧ r.2.mem ((c.tc : Thread Cert.UpdGateUpIdeal.nD Cert.UpdGateUpIdeal.τ).loc Cert.UpdGateUpIdeal.main_arg1) = m ((c.tc : Thread Cert.UpdGateUpIdeal.nD Cert.UpdGateUpIdeal.τ).loc Cert.UpdGateUpIdeal.main_arg1)
      ∧ r.2.mem ((c.tc : Thread Cert.UpdGateUpIdeal.nD Cert.UpdGateUpIdeal.τ).loc Cert.UpdGateUpIdeal.main_arg2) = m ((c.tc : Thread Cert.UpdGateUpIdeal.nD Cert.UpdGateUpIdeal.τ).loc Cert.UpdGateUpIdeal.main_arg2)
      ∧ r.2.mem ((c.tc : Thread Cert.UpdGateUpIdeal.nD Cert.UpdGateUpIdeal.τ).loc Cert.UpdGateUpIdeal.main_arg3) = m ((c.tc : Thread Cert.UpdGateUpIdeal.nD Cert.UpdGateUpIdeal.τ).loc Cert.UpdGateUpIdeal.main_arg3)
      ∧ r.2.mem ((c.tc : Thread Cert.UpdGateUpIdeal.nD Cert.UpdGateUpIdeal.τ).loc Cert.UpdGateUpIdeal.main_arg4) = m ((c.tc : Thread Cert.UpdGateUpIdeal.nD Cert.UpdGateUpIdeal.τ).loc Cert.UpdGateUpIdeal.main_arg4)
      ∧ r.2.mem ((c.tc : Thread Cert.UpdGateUpIdeal.nD Cert.UpdGateUpIdeal.τ).loc Cert.UpdGateUpIdeal.main_arg5) = m ((c.tc : Thread Cert.UpdGateUpIdeal.nD Cert.UpdGateUpIdeal.τ).loc Cert.UpdGateUpIdeal.main_arg5))
      ∧ r.2.sem = fun _ => 0)

def quiescent_UpdGateUpRefIdeal [hUpdGateUpRefIdeal : Cert.UpdGateUpRefIdeal.Facts] : Prop :=
  ∀ (m : (ℓ : Loc Cert.UpdGateUpRefIdeal.nD Cert.UpdGateUpRefIdeal.τ Cert.UpdGateUpRefIdeal.sig) → Buf (Elt Ideal) ℓ) (g : Dev Cert.UpdGateUpRefIdeal.nD → PrngReg), Pre_UpdGateUpRefIdeal m →
    θ_run (Cert.UpdGateUpRefIdeal.defs (F := Ideal)) (onTc (τ := Cert.UpdGateUpRefIdeal.τ) (Cert.UpdGateUpRefIdeal.main (F := Ideal))) ⟨m, fun _ => 0, g⟩ (fun r => (∀ c : Dev Cert.UpdGateUpRefIdeal.nD,
      r.2.mem ((c.tc : Thread Cert.UpdGateUpRefIdeal.nD Cert.UpdGateUpRefIdeal.τ).loc Cert.UpdGateUpRefIdeal.main_arg0) = m ((c.tc : Thread Cert.UpdGateUpRefIdeal.nD Cert.UpdGateUpRefIdeal.τ).loc Cert.UpdGateUpRefIdeal.main_arg0)
      ∧ r.2.mem ((c.tc : Thread Cert.UpdGateUpRefIdeal.nD Cert.UpdGateUpRefIdeal.τ).loc Cert.UpdGateUpRefIdeal.main_arg1) = m ((c.tc : Thread Cert.UpdGateUpRefIdeal.nD Cert.UpdGateUpRefIdeal.τ).loc Cert.UpdGateUpRefIdeal.main_arg1)
      ∧ r.2.mem ((c.tc : Thread Cert.UpdGateUpRefIdeal.nD Cert.UpdGateUpRefIdeal.τ).loc Cert.UpdGateUpRefIdeal.main_arg2) = m ((c.tc : Thread Cert.UpdGateUpRefIdeal.nD Cert.UpdGateUpRefIdeal.τ).loc Cert.UpdGateUpRefIdeal.main_arg2)
      ∧ r.2.mem ((c.tc : Thread Cert.UpdGateUpRefIdeal.nD Cert.UpdGateUpRefIdeal.τ).loc Cert.UpdGateUpRefIdeal.main_arg3) = m ((c.tc : Thread Cert.UpdGateUpRefIdeal.nD Cert.UpdGateUpRefIdeal.τ).loc Cert.UpdGateUpRefIdeal.main_arg3)
      ∧ r.2.mem ((c.tc : Thread Cert.UpdGateUpRefIdeal.nD Cert.UpdGateUpRefIdeal.τ).loc Cert.UpdGateUpRefIdeal.main_arg4) = m ((c.tc : Thread Cert.UpdGateUpRefIdeal.nD Cert.UpdGateUpRefIdeal.τ).loc Cert.UpdGateUpRefIdeal.main_arg4)
      ∧ r.2.mem ((c.tc : Thread Cert.UpdGateUpRefIdeal.nD Cert.UpdGateUpRefIdeal.τ).loc Cert.UpdGateUpRefIdeal.main_arg5) = m ((c.tc : Thread Cert.UpdGateUpRefIdeal.nD Cert.UpdGateUpRefIdeal.τ).loc Cert.UpdGateUpRefIdeal.main_arg5))
      ∧ r.2.sem = fun _ => 0)

def quiescent_UpdGateUpRefIdeal_pre_device [hUpdGateUpRefIdeal : Cert.UpdGateUpRefIdeal.Facts] [hPre_device : Cert.Pre_device.Facts] : Prop :=
  ∀ (m : (ℓ : Loc Cert.UpdGateUpRefIdeal.nD Cert.UpdGateUpRefIdeal.τ Cert.UpdGateUpRefIdeal.sig) → Buf (Elt Ideal) ℓ) (g : Dev Cert.UpdGateUpRefIdeal.nD → PrngReg), Pre_UpdGateUpRefIdeal_device m →
    θ_run (Cert.UpdGateUpRefIdeal.defs (F := Ideal)) (onTc (τ := Cert.UpdGateUpRefIdeal.τ) (Cert.UpdGateUpRefIdeal.main (F := Ideal))) ⟨m, fun _ => 0, g⟩ (fun r => (∀ c : Dev Cert.UpdGateUpRefIdeal.nD,
      r.2.mem ((c.tc : Thread Cert.UpdGateUpRefIdeal.nD Cert.UpdGateUpRefIdeal.τ).loc Cert.UpdGateUpRefIdeal.main_arg0) = m ((c.tc : Thread Cert.UpdGateUpRefIdeal.nD Cert.UpdGateUpRefIdeal.τ).loc Cert.UpdGateUpRefIdeal.main_arg0)
      ∧ r.2.mem ((c.tc : Thread Cert.UpdGateUpRefIdeal.nD Cert.UpdGateUpRefIdeal.τ).loc Cert.UpdGateUpRefIdeal.main_arg1) = m ((c.tc : Thread Cert.UpdGateUpRefIdeal.nD Cert.UpdGateUpRefIdeal.τ).loc Cert.UpdGateUpRefIdeal.main_arg1)
      ∧ r.2.mem ((c.tc : Thread Cert.UpdGateUpRefIdeal.nD Cert.UpdGateUpRefIdeal.τ).loc Cert.UpdGateUpRefIdeal.main_arg2) = m ((c.tc : Thread Cert.UpdGateUpRefIdeal.nD Cert.UpdGateUpRefIdeal.τ).loc Cert.UpdGateUpRefIdeal.main_arg2)
      ∧ r.2.mem ((c.tc : Thread Cert.UpdGateUpRefIdeal.nD Cert.UpdGateUpRefIdeal.τ).loc Cert.UpdGateUpRefIdeal.main_arg3) = m ((c.tc : Thread Cert.UpdGateUpRefIdeal.nD Cert.UpdGateUpRefIdeal.τ).loc Cert.UpdGateUpRefIdeal.main_arg3)
      ∧ r.2.mem ((c.tc : Thread Cert.UpdGateUpRefIdeal.nD Cert.UpdGateUpRefIdeal.τ).loc Cert.UpdGateUpRefIdeal.main_arg4) = m ((c.tc : Thread Cert.UpdGateUpRefIdeal.nD Cert.UpdGateUpRefIdeal.τ).loc Cert.UpdGateUpRefIdeal.main_arg4)
      ∧ r.2.mem ((c.tc : Thread Cert.UpdGateUpRefIdeal.nD Cert.UpdGateUpRefIdeal.τ).loc Cert.UpdGateUpRefIdeal.main_arg5) = m ((c.tc : Thread Cert.UpdGateUpRefIdeal.nD Cert.UpdGateUpRefIdeal.τ).loc Cert.UpdGateUpRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)) (v2 : (c : Dev Cert.KernelIdeal.nD) → Buf (Elt Ideal) ((c.tc : Thread Cert.KernelIdeal.nD Cert.KernelIdeal.τ).loc Cert.KernelIdeal.main_v40_2)) (v3 : (c : Dev Cert.KernelIdeal.nD) → Buf (Elt Ideal) ((c.tc : Thread Cert.KernelIdeal.nD Cert.KernelIdeal.τ).loc Cert.KernelIdeal.main_v40_3)) (v4 : (c : Dev Cert.KernelIdeal.nD) → Buf (Elt Ideal) ((c.tc : Thread Cert.KernelIdeal.nD Cert.KernelIdeal.τ).loc Cert.KernelIdeal.main_v40_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_v40_2) = v2 c
          ∧ r.2.mem ((c.tc : Thread Cert.KernelIdeal.nD Cert.KernelIdeal.τ).loc Cert.KernelIdeal.main_v40_3) = v3 c
          ∧ r.2.mem ((c.tc : Thread Cert.KernelIdeal.nD Cert.KernelIdeal.τ).loc Cert.KernelIdeal.main_v40_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_GateGrad_GateGradIdeal : Prop :=
  True

def algebraic_GateGradIdeal_GateGradRefIdeal_pre_numbers [hGateGradIdeal : Cert.GateGradIdeal.Facts] [hGateGradRefIdeal : Cert.GateGradRefIdeal.Facts] [hPre_numbers : Cert.Pre_numbers.Facts] : Prop :=
  ∀ (m : (ℓ : Loc Cert.GateGradIdeal.nD Cert.GateGradIdeal.τ Cert.GateGradIdeal.sig) → Buf (Elt Ideal) ℓ) (g : Dev Cert.GateGradIdeal.nD → PrngReg)
    (m' : (ℓ : Loc Cert.GateGradRefIdeal.nD Cert.GateGradRefIdeal.τ Cert.GateGradRefIdeal.sig) → Buf (Elt Ideal) ℓ) (g' : Dev Cert.GateGradRefIdeal.nD → PrngReg), Pre_GateGradIdeal_numbers m →
    (∀ c : Dev Cert.GateGradIdeal.nD,
      m' ((c.tc : Thread Cert.GateGradRefIdeal.nD Cert.GateGradRefIdeal.τ).loc Cert.GateGradRefIdeal.main_arg0) = m ((c.tc : Thread Cert.GateGradIdeal.nD Cert.GateGradIdeal.τ).loc Cert.GateGradIdeal.main_arg0)
      ∧ m' ((c.tc : Thread Cert.GateGradRefIdeal.nD Cert.GateGradRefIdeal.τ).loc Cert.GateGradRefIdeal.main_arg1) = m ((c.tc : Thread Cert.GateGradIdeal.nD Cert.GateGradIdeal.τ).loc Cert.GateGradIdeal.main_arg1)
      ∧ m' ((c.tc : Thread Cert.GateGradRefIdeal.nD Cert.GateGradRefIdeal.τ).loc Cert.GateGradRefIdeal.main_arg2) = m ((c.tc : Thread Cert.GateGradIdeal.nD Cert.GateGradIdeal.τ).loc Cert.GateGradIdeal.main_arg2)
      ∧ m' ((c.tc : Thread Cert.GateGradRefIdeal.nD Cert.GateGradRefIdeal.τ).loc Cert.GateGradRefIdeal.main_arg3) = m ((c.tc : Thread Cert.GateGradIdeal.nD Cert.GateGradIdeal.τ).loc Cert.GateGradIdeal.main_arg3)) →
    ∃ (v0 : (c : Dev Cert.GateGradIdeal.nD) → Buf (Elt Ideal) ((c.tc : Thread Cert.GateGradIdeal.nD Cert.GateGradIdeal.τ).loc Cert.GateGradIdeal.main_v7_0)) (v1 : (c : Dev Cert.GateGradIdeal.nD) → Buf (Elt Ideal) ((c.tc : Thread Cert.GateGradIdeal.nD Cert.GateGradIdeal.τ).loc Cert.GateGradIdeal.main_v7_1)),
      θ_run (Cert.GateGradIdeal.defs (F := Ideal)) (onTc (τ := Cert.GateGradIdeal.τ) (Cert.GateGradIdeal.main (F := Ideal))) ⟨m, fun _ => 0, g⟩ (fun r => ∀ c : Dev Cert.GateGradIdeal.nD,
          r.2.mem ((c.tc : Thread Cert.GateGradIdeal.nD Cert.GateGradIdeal.τ).loc Cert.GateGradIdeal.main_v7_0) = v0 c
          ∧ r.2.mem ((c.tc : Thread Cert.GateGradIdeal.nD Cert.GateGradIdeal.τ).loc Cert.GateGradIdeal.main_v7_1) = v1 c
          ∧ r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3))
      ∧ θ_run (Cert.GateGradRefIdeal.defs (F := Ideal)) (onTc (τ := Cert.GateGradRefIdeal.τ) (Cert.GateGradRefIdeal.main (F := Ideal))) ⟨m', fun _ => 0, g'⟩ (fun r => ∀ c : Dev Cert.GateGradRefIdeal.nD,
          r.2.mem ((c.tc : Thread Cert.GateGradRefIdeal.nD Cert.GateGradRefIdeal.τ).loc Cert.GateGradRefIdeal.main_v12) = v0 c
          ∧ r.2.mem ((c.tc : Thread Cert.GateGradRefIdeal.nD Cert.GateGradRefIdeal.τ).loc Cert.GateGradRefIdeal.main_v16) = v1 c
          ∧ r.2.mem ((c.tc : Thread Cert.GateGradRefIdeal.nD Cert.GateGradRefIdeal.τ).loc Cert.GateGradRefIdeal.main_arg0) = m' ((c.tc : Thread Cert.GateGradRefIdeal.nD Cert.GateGradRefIdeal.τ).loc Cert.GateGradRefIdeal.main_arg0)
          ∧ r.2.mem ((c.tc : Thread Cert.GateGradRefIdeal.nD Cert.GateGradRefIdeal.τ).loc Cert.GateGradRefIdeal.main_arg1) = m' ((c.tc : Thread Cert.GateGradRefIdeal.nD Cert.GateGradRefIdeal.τ).loc Cert.GateGradRefIdeal.main_arg1)
          ∧ r.2.mem ((c.tc : Thread Cert.GateGradRefIdeal.nD Cert.GateGradRefIdeal.τ).loc Cert.GateGradRefIdeal.main_arg2) = m' ((c.tc : Thread Cert.GateGradRefIdeal.nD Cert.GateGradRefIdeal.τ).loc Cert.GateGradRefIdeal.main_arg2)
          ∧ r.2.mem ((c.tc : Thread Cert.GateGradRefIdeal.nD Cert.GateGradRefIdeal.τ).loc Cert.GateGradRefIdeal.main_arg3) = m' ((c.tc : Thread Cert.GateGradRefIdeal.nD Cert.GateGradRefIdeal.τ).loc Cert.GateGradRefIdeal.main_arg3))

def preserves_HiddenGrad_HiddenGradIdeal : Prop :=
  True

def algebraic_HiddenGradIdeal_HiddenGradRefIdeal [hHiddenGradIdeal : Cert.HiddenGradIdeal.Facts] [hHiddenGradRefIdeal : Cert.HiddenGradRefIdeal.Facts] : Prop :=
  ∀ (m : (ℓ : Loc Cert.HiddenGradIdeal.nD Cert.HiddenGradIdeal.τ Cert.HiddenGradIdeal.sig) → Buf (Elt Ideal) ℓ) (g : Dev Cert.HiddenGradIdeal.nD → PrngReg)
    (m' : (ℓ : Loc Cert.HiddenGradRefIdeal.nD Cert.HiddenGradRefIdeal.τ Cert.HiddenGradRefIdeal.sig) → Buf (Elt Ideal) ℓ) (g' : Dev Cert.HiddenGradRefIdeal.nD → PrngReg), Pre_HiddenGradIdeal m →
    (∀ c : Dev Cert.HiddenGradIdeal.nD,
      m' ((c.tc : Thread Cert.HiddenGradRefIdeal.nD Cert.HiddenGradRefIdeal.τ).loc Cert.HiddenGradRefIdeal.main_arg0) = m ((c.tc : Thread Cert.HiddenGradIdeal.nD Cert.HiddenGradIdeal.τ).loc Cert.HiddenGradIdeal.main_arg0)
      ∧ m' ((c.tc : Thread Cert.HiddenGradRefIdeal.nD Cert.HiddenGradRefIdeal.τ).loc Cert.HiddenGradRefIdeal.main_arg1) = m ((c.tc : Thread Cert.HiddenGradIdeal.nD Cert.HiddenGradIdeal.τ).loc Cert.HiddenGradIdeal.main_arg1)
      ∧ m' ((c.tc : Thread Cert.HiddenGradRefIdeal.nD Cert.HiddenGradRefIdeal.τ).loc Cert.HiddenGradRefIdeal.main_arg2) = m ((c.tc : Thread Cert.HiddenGradIdeal.nD Cert.HiddenGradIdeal.τ).loc Cert.HiddenGradIdeal.main_arg2)) →
    ∃ (v0 : (c : Dev Cert.HiddenGradIdeal.nD) → Buf (Elt Ideal) ((c.tc : Thread Cert.HiddenGradIdeal.nD Cert.HiddenGradIdeal.τ).loc Cert.HiddenGradIdeal.main_v11)),
      θ_run (Cert.HiddenGradIdeal.defs (F := Ideal)) (onTc (τ := Cert.HiddenGradIdeal.τ) (Cert.HiddenGradIdeal.main (F := Ideal))) ⟨m, fun _ => 0, g⟩ (fun r => ∀ c : Dev Cert.HiddenGradIdeal.nD,
          r.2.mem ((c.tc : Thread Cert.HiddenGradIdeal.nD Cert.HiddenGradIdeal.τ).loc Cert.HiddenGradIdeal.main_v11) = v0 c
          ∧ r.2.mem ((c.tc : Thread Cert.HiddenGradIdeal.nD Cert.HiddenGradIdeal.τ).loc Cert.HiddenGradIdeal.main_arg0) = m ((c.tc : Thread Cert.HiddenGradIdeal.nD Cert.HiddenGradIdeal.τ).loc Cert.HiddenGradIdeal.main_arg0)
          ∧ r.2.mem ((c.tc : Thread Cert.HiddenGradIdeal.nD Cert.HiddenGradIdeal.τ).loc Cert.HiddenGradIdeal.main_arg1) = m ((c.tc : Thread Cert.HiddenGradIdeal.nD Cert.HiddenGradIdeal.τ).loc Cert.HiddenGradIdeal.main_arg1)
          ∧ r.2.mem ((c.tc : Thread Cert.HiddenGradIdeal.nD Cert.HiddenGradIdeal.τ).loc Cert.HiddenGradIdeal.main_arg2) = m ((c.tc : Thread Cert.HiddenGradIdeal.nD Cert.HiddenGradIdeal.τ).loc Cert.HiddenGradIdeal.main_arg2))
      ∧ θ_run (Cert.HiddenGradRefIdeal.defs (F := Ideal)) (onTc (τ := Cert.HiddenGradRefIdeal.τ) (Cert.HiddenGradRefIdeal.main (F := Ideal))) ⟨m', fun _ => 0, g'⟩ (fun r => ∀ c : Dev Cert.HiddenGradRefIdeal.nD,
          r.2.mem ((c.tc : Thread Cert.HiddenGradRefIdeal.nD Cert.HiddenGradRefIdeal.τ).loc Cert.HiddenGradRefIdeal.main_v7) = v0 c
          ∧ r.2.mem ((c.tc : Thread Cert.HiddenGradRefIdeal.nD Cert.HiddenGradRefIdeal.τ).loc Cert.HiddenGradRefIdeal.main_arg0) = m' ((c.tc : Thread Cert.HiddenGradRefIdeal.nD Cert.HiddenGradRefIdeal.τ).loc Cert.HiddenGradRefIdeal.main_arg0)
          ∧ r.2.mem ((c.tc : Thread Cert.HiddenGradRefIdeal.nD Cert.HiddenGradRefIdeal.τ).loc Cert.HiddenGradRefIdeal.main_arg1) = m' ((c.tc : Thread Cert.HiddenGradRefIdeal.nD Cert.HiddenGradRefIdeal.τ).loc Cert.HiddenGradRefIdeal.main_arg1)
          ∧ r.2.mem ((c.tc : Thread Cert.HiddenGradRefIdeal.nD Cert.HiddenGradRefIdeal.τ).loc Cert.HiddenGradRefIdeal.main_arg2) = m' ((c.tc : Thread Cert.HiddenGradRefIdeal.nD Cert.HiddenGradRefIdeal.τ).loc Cert.HiddenGradRefIdeal.main_arg2))

def preserves_DownWeight_DownWeightIdeal : Prop :=
  True

def algebraic_DownWeightIdeal_DownWeightRefIdeal [hDownWeightIdeal : Cert.DownWeightIdeal.Facts] [hDownWeightRefIdeal : Cert.DownWeightRefIdeal.Facts] : Prop :=
  ∀ (m : (ℓ : Loc Cert.DownWeightIdeal.nD Cert.DownWeightIdeal.τ Cert.DownWeightIdeal.sig) → Buf (Elt Ideal) ℓ) (g : Dev Cert.DownWeightIdeal.nD → PrngReg)
    (m' : (ℓ : Loc Cert.DownWeightRefIdeal.nD Cert.DownWeightRefIdeal.τ Cert.DownWeightRefIdeal.sig) → Buf (Elt Ideal) ℓ) (g' : Dev Cert.DownWeightRefIdeal.nD → PrngReg), Pre_DownWeightIdeal m →
    (∀ c : Dev Cert.DownWeightIdeal.nD,
      m' ((c.tc : Thread Cert.DownWeightRefIdeal.nD Cert.DownWeightRefIdeal.τ).loc Cert.DownWeightRefIdeal.main_arg0) = m ((c.tc : Thread Cert.DownWeightIdeal.nD Cert.DownWeightIdeal.τ).loc Cert.DownWeightIdeal.main_arg0)
      ∧ m' ((c.tc : Thread Cert.DownWeightRefIdeal.nD Cert.DownWeightRefIdeal.τ).loc Cert.DownWeightRefIdeal.main_arg1) = m ((c.tc : Thread Cert.DownWeightIdeal.nD Cert.DownWeightIdeal.τ).loc Cert.DownWeightIdeal.main_arg1)) →
    ∃ (v0 : (c : Dev Cert.DownWeightIdeal.nD) → Buf (Elt Ideal) ((c.tc : Thread Cert.DownWeightIdeal.nD Cert.DownWeightIdeal.τ).loc Cert.DownWeightIdeal.main_v3)),
      θ_run (Cert.DownWeightIdeal.defs (F := Ideal)) (onTc (τ := Cert.DownWeightIdeal.τ) (Cert.DownWeightIdeal.main (F := Ideal))) ⟨m, fun _ => 0, g⟩ (fun r => ∀ c : Dev Cert.DownWeightIdeal.nD,
          r.2.mem ((c.tc : Thread Cert.DownWeightIdeal.nD Cert.DownWeightIdeal.τ).loc Cert.DownWeightIdeal.main_v3) = v0 c
          ∧ r.2.mem ((c.tc : Thread Cert.DownWeightIdeal.nD Cert.DownWeightIdeal.τ).loc Cert.DownWeightIdeal.main_arg0) = m ((c.tc : Thread Cert.DownWeightIdeal.nD Cert.DownWeightIdeal.τ).loc Cert.DownWeightIdeal.main_arg0)
          ∧ r.2.mem ((c.tc : Thread Cert.DownWeightIdeal.nD Cert.DownWeightIdeal.τ).loc Cert.DownWeightIdeal.main_arg1) = m ((c.tc : Thread Cert.DownWeightIdeal.nD Cert.DownWeightIdeal.τ).loc Cert.DownWeightIdeal.main_arg1))
      ∧ θ_run (Cert.DownWeightRefIdeal.defs (F := Ideal)) (onTc (τ := Cert.DownWeightRefIdeal.τ) (Cert.DownWeightRefIdeal.main (F := Ideal))) ⟨m', fun _ => 0, g'⟩ (fun r => ∀ c : Dev Cert.DownWeightRefIdeal.nD,
          r.2.mem ((c.tc : Thread Cert.DownWeightRefIdeal.nD Cert.DownWeightRefIdeal.τ).loc Cert.DownWeightRefIdeal.main_v5) = v0 c
          ∧ r.2.mem ((c.tc : Thread Cert.DownWeightRefIdeal.nD Cert.DownWeightRefIdeal.τ).loc Cert.DownWeightRefIdeal.main_arg0) = m' ((c.tc : Thread Cert.DownWeightRefIdeal.nD Cert.DownWeightRefIdeal.τ).loc Cert.DownWeightRefIdeal.main_arg0)
          ∧ r.2.mem ((c.tc : Thread Cert.DownWeightRefIdeal.nD Cert.DownWeightRefIdeal.τ).loc Cert.DownWeightRefIdeal.main_arg1) = m' ((c.tc : Thread Cert.DownWeightRefIdeal.nD Cert.DownWeightRefIdeal.τ).loc Cert.DownWeightRefIdeal.main_arg1))

def preserves_GateWeight_GateWeightIdeal : Prop :=
  True

def algebraic_GateWeightIdeal_GateWeightRefIdeal [hGateWeightIdeal : Cert.GateWeightIdeal.Facts] [hGateWeightRefIdeal : Cert.GateWeightRefIdeal.Facts] : Prop :=
  ∀ (m : (ℓ : Loc Cert.GateWeightIdeal.nD Cert.GateWeightIdeal.τ Cert.GateWeightIdeal.sig) → Buf (Elt Ideal) ℓ) (g : Dev Cert.GateWeightIdeal.nD → PrngReg)
    (m' : (ℓ : Loc Cert.GateWeightRefIdeal.nD Cert.GateWeightRefIdeal.τ Cert.GateWeightRefIdeal.sig) → Buf (Elt Ideal) ℓ) (g' : Dev Cert.GateWeightRefIdeal.nD → PrngReg), Pre_GateWeightIdeal m →
    (∀ c : Dev Cert.GateWeightIdeal.nD,
      m' ((c.tc : Thread Cert.GateWeightRefIdeal.nD Cert.GateWeightRefIdeal.τ).loc Cert.GateWeightRefIdeal.main_arg0) = m ((c.tc : Thread Cert.GateWeightIdeal.nD Cert.GateWeightIdeal.τ).loc Cert.GateWeightIdeal.main_arg0)
      ∧ m' ((c.tc : Thread Cert.GateWeightRefIdeal.nD Cert.GateWeightRefIdeal.τ).loc Cert.GateWeightRefIdeal.main_arg1) = m ((c.tc : Thread Cert.GateWeightIdeal.nD Cert.GateWeightIdeal.τ).loc Cert.GateWeightIdeal.main_arg1)) →
    ∃ (v0 : (c : Dev Cert.GateWeightIdeal.nD) → Buf (Elt Ideal) ((c.tc : Thread Cert.GateWeightIdeal.nD Cert.GateWeightIdeal.τ).loc Cert.GateWeightIdeal.main_v3)),
      θ_run (Cert.GateWeightIdeal.defs (F := Ideal)) (onTc (τ := Cert.GateWeightIdeal.τ) (Cert.GateWeightIdeal.main (F := Ideal))) ⟨m, fun _ => 0, g⟩ (fun r => ∀ c : Dev Cert.GateWeightIdeal.nD,
          r.2.mem ((c.tc : Thread Cert.GateWeightIdeal.nD Cert.GateWeightIdeal.τ).loc Cert.GateWeightIdeal.main_v3) = v0 c
          ∧ r.2.mem ((c.tc : Thread Cert.GateWeightIdeal.nD Cert.GateWeightIdeal.τ).loc Cert.GateWeightIdeal.main_arg0) = m ((c.tc : Thread Cert.GateWeightIdeal.nD Cert.GateWeightIdeal.τ).loc Cert.GateWeightIdeal.main_arg0)
          ∧ r.2.mem ((c.tc : Thread Cert.GateWeightIdeal.nD Cert.GateWeightIdeal.τ).loc Cert.GateWeightIdeal.main_arg1) = m ((c.tc : Thread Cert.GateWeightIdeal.nD Cert.GateWeightIdeal.τ).loc Cert.GateWeightIdeal.main_arg1))
      ∧ θ_run (Cert.GateWeightRefIdeal.defs (F := Ideal)) (onTc (τ := Cert.GateWeightRefIdeal.τ) (Cert.GateWeightRefIdeal.main (F := Ideal))) ⟨m', fun _ => 0, g'⟩ (fun r => ∀ c : Dev Cert.GateWeightRefIdeal.nD,
          r.2.mem ((c.tc : Thread Cert.GateWeightRefIdeal.nD Cert.GateWeightRefIdeal.τ).loc Cert.GateWeightRefIdeal.main_v9) = v0 c
          ∧ r.2.mem ((c.tc : Thread Cert.GateWeightRefIdeal.nD Cert.GateWeightRefIdeal.τ).loc Cert.GateWeightRefIdeal.main_arg0) = m' ((c.tc : Thread Cert.GateWeightRefIdeal.nD Cert.GateWeightRefIdeal.τ).loc Cert.GateWeightRefIdeal.main_arg0)
          ∧ r.2.mem ((c.tc : Thread Cert.GateWeightRefIdeal.nD Cert.GateWeightRefIdeal.τ).loc Cert.GateWeightRefIdeal.main_arg1) = m' ((c.tc : Thread Cert.GateWeightRefIdeal.nD Cert.GateWeightRefIdeal.τ).loc Cert.GateWeightRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v4_0)) (v1 : (c : Dev Cert.GateUpIdeal.nD) → Buf (Elt Ideal) ((c.tc : Thread Cert.GateUpIdeal.nD Cert.GateUpIdeal.τ).loc Cert.GateUpIdeal.main_v4_1)) (v2 : (c : Dev Cert.GateUpIdeal.nD) → Buf (Elt Ideal) ((c.tc : Thread Cert.GateUpIdeal.nD Cert.GateUpIdeal.τ).loc Cert.GateUpIdeal.main_v4_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v4_0) = v0 c
          ∧ r.2.mem ((c.tc : Thread Cert.GateUpIdeal.nD Cert.GateUpIdeal.τ).loc Cert.GateUpIdeal.main_v4_1) = v1 c
          ∧ r.2.mem ((c.tc : Thread Cert.GateUpIdeal.nD Cert.GateUpIdeal.τ).loc Cert.GateUpIdeal.main_v4_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v6) = v0 c
          ∧ r.2.mem ((c.tc : Thread Cert.GateUpRefIdeal.nD Cert.GateUpRefIdeal.τ).loc Cert.GateUpRefIdeal.main_v9) = v1 c
          ∧ r.2.mem ((c.tc : Thread Cert.GateUpRefIdeal.nD Cert.GateUpRefIdeal.τ).loc Cert.GateUpRefIdeal.main_v15) = v2 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v6)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v6) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)) →
    ∃ (v0 : (c : Dev Cert.InGradIdeal.nD) → Buf (Elt Ideal) ((c.tc : Thread Cert.InGradIdeal.nD Cert.InGradIdeal.τ).loc Cert.InGradIdeal.main_v1)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v1) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v3) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1))

def preserves_InWeight_InWeightIdeal : Prop :=
  True

def algebraic_InWeightIdeal_InWeightRefIdeal [hInWeightIdeal : Cert.InWeightIdeal.Facts] [hInWeightRefIdeal : Cert.InWeightRefIdeal.Facts] : Prop :=
  ∀ (m : (ℓ : Loc Cert.InWeightIdeal.nD Cert.InWeightIdeal.τ Cert.InWeightIdeal.sig) → Buf (Elt Ideal) ℓ) (g : Dev Cert.InWeightIdeal.nD → PrngReg)
    (m' : (ℓ : Loc Cert.InWeightRefIdeal.nD Cert.InWeightRefIdeal.τ Cert.InWeightRefIdeal.sig) → Buf (Elt Ideal) ℓ) (g' : Dev Cert.InWeightRefIdeal.nD → PrngReg), Pre_InWeightIdeal m →
    (∀ c : Dev Cert.InWeightIdeal.nD,
      m' ((c.tc : Thread Cert.InWeightRefIdeal.nD Cert.InWeightRefIdeal.τ).loc Cert.InWeightRefIdeal.main_arg0) = m ((c.tc : Thread Cert.InWeightIdeal.nD Cert.InWeightIdeal.τ).loc Cert.InWeightIdeal.main_arg0)
      ∧ m' ((c.tc : Thread Cert.InWeightRefIdeal.nD Cert.InWeightRefIdeal.τ).loc Cert.InWeightRefIdeal.main_arg1) = m ((c.tc : Thread Cert.InWeightIdeal.nD Cert.InWeightIdeal.τ).loc Cert.InWeightIdeal.main_arg1)) →
    ∃ (v0 : (c : Dev Cert.InWeightIdeal.nD) → Buf (Elt Ideal) ((c.tc : Thread Cert.InWeightIdeal.nD Cert.InWeightIdeal.τ).loc Cert.InWeightIdeal.main_v0)),
      θ_run (Cert.InWeightIdeal.defs (F := Ideal)) (onTc (τ := Cert.InWeightIdeal.τ) (Cert.InWeightIdeal.main (F := Ideal))) ⟨m, fun _ => 0, g⟩ (fun r => ∀ c : Dev Cert.InWeightIdeal.nD,
          r.2.mem ((c.tc : Thread Cert.InWeightIdeal.nD Cert.InWeightIdeal.τ).loc Cert.InWeightIdeal.main_v0) = v0 c
          ∧ r.2.mem ((c.tc : Thread Cert.InWeightIdeal.nD Cert.InWeightIdeal.τ).loc Cert.InWeightIdeal.main_arg0) = m ((c.tc : Thread Cert.InWeightIdeal.nD Cert.InWeightIdeal.τ).loc Cert.InWeightIdeal.main_arg0)
          ∧ r.2.mem ((c.tc : Thread Cert.InWeightIdeal.nD Cert.InWeightIdeal.τ).loc Cert.InWeightIdeal.main_arg1) = m ((c.tc : Thread Cert.InWeightIdeal.nD Cert.InWeightIdeal.τ).loc Cert.InWeightIdeal.main_arg1))
      ∧ θ_run (Cert.InWeightRefIdeal.defs (F := Ideal)) (onTc (τ := Cert.InWeightRefIdeal.τ) (Cert.InWeightRefIdeal.main (F := Ideal))) ⟨m', fun _ => 0, g'⟩ (fun r => ∀ c : Dev Cert.InWeightRefIdeal.nD,
          r.2.mem ((c.tc : Thread Cert.InWeightRefIdeal.nD Cert.InWeightRefIdeal.τ).loc Cert.InWeightRefIdeal.main_v6) = v0 c
          ∧ r.2.mem ((c.tc : Thread Cert.InWeightRefIdeal.nD Cert.InWeightRefIdeal.τ).loc Cert.InWeightRefIdeal.main_arg0) = m' ((c.tc : Thread Cert.InWeightRefIdeal.nD Cert.InWeightRefIdeal.τ).loc Cert.InWeightRefIdeal.main_arg0)
          ∧ r.2.mem ((c.tc : Thread Cert.InWeightRefIdeal.nD Cert.InWeightRefIdeal.τ).loc Cert.InWeightRefIdeal.main_arg1) = m' ((c.tc : Thread Cert.InWeightRefIdeal.nD Cert.InWeightRefIdeal.τ).loc Cert.InWeightRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v1) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_QkvGrad_QkvGradIdeal : Prop :=
  True

def algebraic_QkvGradIdeal_QkvGradRefIdeal [hQkvGradIdeal : Cert.QkvGradIdeal.Facts] [hQkvGradRefIdeal : Cert.QkvGradRefIdeal.Facts] : Prop :=
  ∀ (m : (ℓ : Loc Cert.QkvGradIdeal.nD Cert.QkvGradIdeal.τ Cert.QkvGradIdeal.sig) → Buf (Elt Ideal) ℓ) (g : Dev Cert.QkvGradIdeal.nD → PrngReg)
    (m' : (ℓ : Loc Cert.QkvGradRefIdeal.nD Cert.QkvGradRefIdeal.τ Cert.QkvGradRefIdeal.sig) → Buf (Elt Ideal) ℓ) (g' : Dev Cert.QkvGradRefIdeal.nD → PrngReg), Pre_QkvGradIdeal m →
    (∀ c : Dev Cert.QkvGradIdeal.nD,
      m' ((c.tc : Thread Cert.QkvGradRefIdeal.nD Cert.QkvGradRefIdeal.τ).loc Cert.QkvGradRefIdeal.main_arg0) = m ((c.tc : Thread Cert.QkvGradIdeal.nD Cert.QkvGradIdeal.τ).loc Cert.QkvGradIdeal.main_arg0)
      ∧ m' ((c.tc : Thread Cert.QkvGradRefIdeal.nD Cert.QkvGradRefIdeal.τ).loc Cert.QkvGradRefIdeal.main_arg1) = m ((c.tc : Thread Cert.QkvGradIdeal.nD Cert.QkvGradIdeal.τ).loc Cert.QkvGradIdeal.main_arg1)) →
    ∃ (v0 : (c : Dev Cert.QkvGradIdeal.nD) → Buf (Elt Ideal) ((c.tc : Thread Cert.QkvGradIdeal.nD Cert.QkvGradIdeal.τ).loc Cert.QkvGradIdeal.main_v1)),
      θ_run (Cert.QkvGradIdeal.defs (F := Ideal)) (onTc (τ := Cert.QkvGradIdeal.τ) (Cert.QkvGradIdeal.main (F := Ideal))) ⟨m, fun _ => 0, g⟩ (fun r => ∀ c : Dev Cert.QkvGradIdeal.nD,
          r.2.mem ((c.tc : Thread Cert.QkvGradIdeal.nD Cert.QkvGradIdeal.τ).loc Cert.QkvGradIdeal.main_v1) = v0 c
          ∧ r.2.mem ((c.tc : Thread Cert.QkvGradIdeal.nD Cert.QkvGradIdeal.τ).loc Cert.QkvGradIdeal.main_arg0) = m ((c.tc : Thread Cert.QkvGradIdeal.nD Cert.QkvGradIdeal.τ).loc Cert.QkvGradIdeal.main_arg0)
          ∧ r.2.mem ((c.tc : Thread Cert.QkvGradIdeal.nD Cert.QkvGradIdeal.τ).loc Cert.QkvGradIdeal.main_arg1) = m ((c.tc : Thread Cert.QkvGradIdeal.nD Cert.QkvGradIdeal.τ).loc Cert.QkvGradIdeal.main_arg1))
      ∧ θ_run (Cert.QkvGradRefIdeal.defs (F := Ideal)) (onTc (τ := Cert.QkvGradRefIdeal.τ) (Cert.QkvGradRefIdeal.main (F := Ideal))) ⟨m', fun _ => 0, g'⟩ (fun r => ∀ c : Dev Cert.QkvGradRefIdeal.nD,
          r.2.mem ((c.tc : Thread Cert.QkvGradRefIdeal.nD Cert.QkvGradRefIdeal.τ).loc Cert.QkvGradRefIdeal.main_v3) = v0 c
          ∧ r.2.mem ((c.tc : Thread Cert.QkvGradRefIdeal.nD Cert.QkvGradRefIdeal.τ).loc Cert.QkvGradRefIdeal.main_arg0) = m' ((c.tc : Thread Cert.QkvGradRefIdeal.nD Cert.QkvGradRefIdeal.τ).loc Cert.QkvGradRefIdeal.main_arg0)
          ∧ r.2.mem ((c.tc : Thread Cert.QkvGradRefIdeal.nD Cert.QkvGradRefIdeal.τ).loc Cert.QkvGradRefIdeal.main_arg1) = m' ((c.tc : Thread Cert.QkvGradRefIdeal.nD Cert.QkvGradRefIdeal.τ).loc Cert.QkvGradRefIdeal.main_arg1))

def preserves_QkvWeight_QkvWeightIdeal : Prop :=
  True

def algebraic_QkvWeightIdeal_QkvWeightRefIdeal [hQkvWeightIdeal : Cert.QkvWeightIdeal.Facts] [hQkvWeightRefIdeal : Cert.QkvWeightRefIdeal.Facts] : Prop :=
  ∀ (m : (ℓ : Loc Cert.QkvWeightIdeal.nD Cert.QkvWeightIdeal.τ Cert.QkvWeightIdeal.sig) → Buf (Elt Ideal) ℓ) (g : Dev Cert.QkvWeightIdeal.nD → PrngReg)
    (m' : (ℓ : Loc Cert.QkvWeightRefIdeal.nD Cert.QkvWeightRefIdeal.τ Cert.QkvWeightRefIdeal.sig) → Buf (Elt Ideal) ℓ) (g' : Dev Cert.QkvWeightRefIdeal.nD → PrngReg), Pre_QkvWeightIdeal m →
    (∀ c : Dev Cert.QkvWeightIdeal.nD,
      m' ((c.tc : Thread Cert.QkvWeightRefIdeal.nD Cert.QkvWeightRefIdeal.τ).loc Cert.QkvWeightRefIdeal.main_arg0) = m ((c.tc : Thread Cert.QkvWeightIdeal.nD Cert.QkvWeightIdeal.τ).loc Cert.QkvWeightIdeal.main_arg0)
      ∧ m' ((c.tc : Thread Cert.QkvWeightRefIdeal.nD Cert.QkvWeightRefIdeal.τ).loc Cert.QkvWeightRefIdeal.main_arg1) = m ((c.tc : Thread Cert.QkvWeightIdeal.nD Cert.QkvWeightIdeal.τ).loc Cert.QkvWeightIdeal.main_arg1)) →
    ∃ (v0 : (c : Dev Cert.QkvWeightIdeal.nD) → Buf (Elt Ideal) ((c.tc : Thread Cert.QkvWeightIdeal.nD Cert.QkvWeightIdeal.τ).loc Cert.QkvWeightIdeal.main_v0)),
      θ_run (Cert.QkvWeightIdeal.defs (F := Ideal)) (onTc (τ := Cert.QkvWeightIdeal.τ) (Cert.QkvWeightIdeal.main (F := Ideal))) ⟨m, fun _ => 0, g⟩ (fun r => ∀ c : Dev Cert.QkvWeightIdeal.nD,
          r.2.mem ((c.tc : Thread Cert.QkvWeightIdeal.nD Cert.QkvWeightIdeal.τ).loc Cert.QkvWeightIdeal.main_v0) = v0 c
          ∧ r.2.mem ((c.tc : Thread Cert.QkvWeightIdeal.nD Cert.QkvWeightIdeal.τ).loc Cert.QkvWeightIdeal.main_arg0) = m ((c.tc : Thread Cert.QkvWeightIdeal.nD Cert.QkvWeightIdeal.τ).loc Cert.QkvWeightIdeal.main_arg0)
          ∧ r.2.mem ((c.tc : Thread Cert.QkvWeightIdeal.nD Cert.QkvWeightIdeal.τ).loc Cert.QkvWeightIdeal.main_arg1) = m ((c.tc : Thread Cert.QkvWeightIdeal.nD Cert.QkvWeightIdeal.τ).loc Cert.QkvWeightIdeal.main_arg1))
      ∧ θ_run (Cert.QkvWeightRefIdeal.defs (F := Ideal)) (onTc (τ := Cert.QkvWeightRefIdeal.τ) (Cert.QkvWeightRefIdeal.main (F := Ideal))) ⟨m', fun _ => 0, g'⟩ (fun r => ∀ c : Dev Cert.QkvWeightRefIdeal.nD,
          r.2.mem ((c.tc : Thread Cert.QkvWeightRefIdeal.nD Cert.QkvWeightRefIdeal.τ).loc Cert.QkvWeightRefIdeal.main_v6) = v0 c
          ∧ r.2.mem ((c.tc : Thread Cert.QkvWeightRefIdeal.nD Cert.QkvWeightRefIdeal.τ).loc Cert.QkvWeightRefIdeal.main_arg0) = m' ((c.tc : Thread Cert.QkvWeightRefIdeal.nD Cert.QkvWeightRefIdeal.τ).loc Cert.QkvWeightRefIdeal.main_arg0)
          ∧ r.2.mem ((c.tc : Thread Cert.QkvWeightRefIdeal.nD Cert.QkvWeightRefIdeal.τ).loc Cert.QkvWeightRefIdeal.main_arg1) = m' ((c.tc : Thread Cert.QkvWeightRefIdeal.nD Cert.QkvWeightRefIdeal.τ).loc Cert.QkvWeightRefIdeal.main_arg1))

def preserves_QkvProj_QkvProjIdeal : Prop :=
  True

def algebraic_QkvProjIdeal_QkvProjRefIdeal [hQkvProjIdeal : Cert.QkvProjIdeal.Facts] [hQkvProjRefIdeal : Cert.QkvProjRefIdeal.Facts] : Prop :=
  ∀ (m : (ℓ : Loc Cert.QkvProjIdeal.nD Cert.QkvProjIdeal.τ Cert.QkvProjIdeal.sig) → Buf (Elt Ideal) ℓ) (g : Dev Cert.QkvProjIdeal.nD → PrngReg)
    (m' : (ℓ : Loc Cert.QkvProjRefIdeal.nD Cert.QkvProjRefIdeal.τ Cert.QkvProjRefIdeal.sig) → Buf (Elt Ideal) ℓ) (g' : Dev Cert.QkvProjRefIdeal.nD → PrngReg), Pre_QkvProjIdeal m →
    (∀ c : Dev Cert.QkvProjIdeal.nD,
      m' ((c.tc : Thread Cert.QkvProjRefIdeal.nD Cert.QkvProjRefIdeal.τ).loc Cert.QkvProjRefIdeal.main_arg0) = m ((c.tc : Thread Cert.QkvProjIdeal.nD Cert.QkvProjIdeal.τ).loc Cert.QkvProjIdeal.main_arg0)
      ∧ m' ((c.tc : Thread Cert.QkvProjRefIdeal.nD Cert.QkvProjRefIdeal.τ).loc Cert.QkvProjRefIdeal.main_arg1) = m ((c.tc : Thread Cert.QkvProjIdeal.nD Cert.QkvProjIdeal.τ).loc Cert.QkvProjIdeal.main_arg1)) →
    ∃ (v0 : (c : Dev Cert.QkvProjIdeal.nD) → Buf (Elt Ideal) ((c.tc : Thread Cert.QkvProjIdeal.nD Cert.QkvProjIdeal.τ).loc Cert.QkvProjIdeal.main_v1)),
      θ_run (Cert.QkvProjIdeal.defs (F := Ideal)) (onTc (τ := Cert.QkvProjIdeal.τ) (Cert.QkvProjIdeal.main (F := Ideal))) ⟨m, fun _ => 0, g⟩ (fun r => ∀ c : Dev Cert.QkvProjIdeal.nD,
          r.2.mem ((c.tc : Thread Cert.QkvProjIdeal.nD Cert.QkvProjIdeal.τ).loc Cert.QkvProjIdeal.main_v1) = v0 c
          ∧ r.2.mem ((c.tc : Thread Cert.QkvProjIdeal.nD Cert.QkvProjIdeal.τ).loc Cert.QkvProjIdeal.main_arg0) = m ((c.tc : Thread Cert.QkvProjIdeal.nD Cert.QkvProjIdeal.τ).loc Cert.QkvProjIdeal.main_arg0)
          ∧ r.2.mem ((c.tc : Thread Cert.QkvProjIdeal.nD Cert.QkvProjIdeal.τ).loc Cert.QkvProjIdeal.main_arg1) = m ((c.tc : Thread Cert.QkvProjIdeal.nD Cert.QkvProjIdeal.τ).loc Cert.QkvProjIdeal.main_arg1))
      ∧ θ_run (Cert.QkvProjRefIdeal.defs (F := Ideal)) (onTc (τ := Cert.QkvProjRefIdeal.τ) (Cert.QkvProjRefIdeal.main (F := Ideal))) ⟨m', fun _ => 0, g'⟩ (fun r => ∀ c : Dev Cert.QkvProjRefIdeal.nD,
          r.2.mem ((c.tc : Thread Cert.QkvProjRefIdeal.nD Cert.QkvProjRefIdeal.τ).loc Cert.QkvProjRefIdeal.main_v1) = v0 c
          ∧ r.2.mem ((c.tc : Thread Cert.QkvProjRefIdeal.nD Cert.QkvProjRefIdeal.τ).loc Cert.QkvProjRefIdeal.main_arg0) = m' ((c.tc : Thread Cert.QkvProjRefIdeal.nD Cert.QkvProjRefIdeal.τ).loc Cert.QkvProjRefIdeal.main_arg0)
          ∧ r.2.mem ((c.tc : Thread Cert.QkvProjRefIdeal.nD Cert.QkvProjRefIdeal.τ).loc Cert.QkvProjRefIdeal.main_arg1) = m' ((c.tc : Thread Cert.QkvProjRefIdeal.nD Cert.QkvProjRefIdeal.τ).loc Cert.QkvProjRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v1)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v1) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v2) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_OutWeight_OutWeightIdeal : Prop :=
  True

def algebraic_OutWeightIdeal_OutWeightRefIdeal [hOutWeightIdeal : Cert.OutWeightIdeal.Facts] [hOutWeightRefIdeal : Cert.OutWeightRefIdeal.Facts] : Prop :=
  ∀ (m : (ℓ : Loc Cert.OutWeightIdeal.nD Cert.OutWeightIdeal.τ Cert.OutWeightIdeal.sig) → Buf (Elt Ideal) ℓ) (g : Dev Cert.OutWeightIdeal.nD → PrngReg)
    (m' : (ℓ : Loc Cert.OutWeightRefIdeal.nD Cert.OutWeightRefIdeal.τ Cert.OutWeightRefIdeal.sig) → Buf (Elt Ideal) ℓ) (g' : Dev Cert.OutWeightRefIdeal.nD → PrngReg), Pre_OutWeightIdeal m →
    (∀ c : Dev Cert.OutWeightIdeal.nD,
      m' ((c.tc : Thread Cert.OutWeightRefIdeal.nD Cert.OutWeightRefIdeal.τ).loc Cert.OutWeightRefIdeal.main_arg0) = m ((c.tc : Thread Cert.OutWeightIdeal.nD Cert.OutWeightIdeal.τ).loc Cert.OutWeightIdeal.main_arg0)
      ∧ m' ((c.tc : Thread Cert.OutWeightRefIdeal.nD Cert.OutWeightRefIdeal.τ).loc Cert.OutWeightRefIdeal.main_arg1) = m ((c.tc : Thread Cert.OutWeightIdeal.nD Cert.OutWeightIdeal.τ).loc Cert.OutWeightIdeal.main_arg1)) →
    ∃ (v0 : (c : Dev Cert.OutWeightIdeal.nD) → Buf (Elt Ideal) ((c.tc : Thread Cert.OutWeightIdeal.nD Cert.OutWeightIdeal.τ).loc Cert.OutWeightIdeal.main_v0)),
      θ_run (Cert.OutWeightIdeal.defs (F := Ideal)) (onTc (τ := Cert.OutWeightIdeal.τ) (Cert.OutWeightIdeal.main (F := Ideal))) ⟨m, fun _ => 0, g⟩ (fun r => ∀ c : Dev Cert.OutWeightIdeal.nD,
          r.2.mem ((c.tc : Thread Cert.OutWeightIdeal.nD Cert.OutWeightIdeal.τ).loc Cert.OutWeightIdeal.main_v0) = v0 c
          ∧ r.2.mem ((c.tc : Thread Cert.OutWeightIdeal.nD Cert.OutWeightIdeal.τ).loc Cert.OutWeightIdeal.main_arg0) = m ((c.tc : Thread Cert.OutWeightIdeal.nD Cert.OutWeightIdeal.τ).loc Cert.OutWeightIdeal.main_arg0)
          ∧ r.2.mem ((c.tc : Thread Cert.OutWeightIdeal.nD Cert.OutWeightIdeal.τ).loc Cert.OutWeightIdeal.main_arg1) = m ((c.tc : Thread Cert.OutWeightIdeal.nD Cert.OutWeightIdeal.τ).loc Cert.OutWeightIdeal.main_arg1))
      ∧ θ_run (Cert.OutWeightRefIdeal.defs (F := Ideal)) (onTc (τ := Cert.OutWeightRefIdeal.τ) (Cert.OutWeightRefIdeal.main (F := Ideal))) ⟨m', fun _ => 0, g'⟩ (fun r => ∀ c : Dev Cert.OutWeightRefIdeal.nD,
          r.2.mem ((c.tc : Thread Cert.OutWeightRefIdeal.nD Cert.OutWeightRefIdeal.τ).loc Cert.OutWeightRefIdeal.main_v5) = v0 c
          ∧ r.2.mem ((c.tc : Thread Cert.OutWeightRefIdeal.nD Cert.OutWeightRefIdeal.τ).loc Cert.OutWeightRefIdeal.main_arg0) = m' ((c.tc : Thread Cert.OutWeightRefIdeal.nD Cert.OutWeightRefIdeal.τ).loc Cert.OutWeightRefIdeal.main_arg0)
          ∧ r.2.mem ((c.tc : Thread Cert.OutWeightRefIdeal.nD Cert.OutWeightRefIdeal.τ).loc Cert.OutWeightRefIdeal.main_arg1) = m' ((c.tc : Thread Cert.OutWeightRefIdeal.nD Cert.OutWeightRefIdeal.τ).loc Cert.OutWeightRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_AttOutProj_AttOutProjIdeal : Prop :=
  True

def algebraic_AttOutProjIdeal_AttOutProjRefIdeal [hAttOutProjIdeal : Cert.AttOutProjIdeal.Facts] [hAttOutProjRefIdeal : Cert.AttOutProjRefIdeal.Facts] : Prop :=
  ∀ (m : (ℓ : Loc Cert.AttOutProjIdeal.nD Cert.AttOutProjIdeal.τ Cert.AttOutProjIdeal.sig) → Buf (Elt Ideal) ℓ) (g : Dev Cert.AttOutProjIdeal.nD → PrngReg)
    (m' : (ℓ : Loc Cert.AttOutProjRefIdeal.nD Cert.AttOutProjRefIdeal.τ Cert.AttOutProjRefIdeal.sig) → Buf (Elt Ideal) ℓ) (g' : Dev Cert.AttOutProjRefIdeal.nD → PrngReg), Pre_AttOutProjIdeal m →
    (∀ c : Dev Cert.AttOutProjIdeal.nD,
      m' ((c.tc : Thread Cert.AttOutProjRefIdeal.nD Cert.AttOutProjRefIdeal.τ).loc Cert.AttOutProjRefIdeal.main_arg0) = m ((c.tc : Thread Cert.AttOutProjIdeal.nD Cert.AttOutProjIdeal.τ).loc Cert.AttOutProjIdeal.main_arg0)
      ∧ m' ((c.tc : Thread Cert.AttOutProjRefIdeal.nD Cert.AttOutProjRefIdeal.τ).loc Cert.AttOutProjRefIdeal.main_arg1) = m ((c.tc : Thread Cert.AttOutProjIdeal.nD Cert.AttOutProjIdeal.τ).loc Cert.AttOutProjIdeal.main_arg1)
      ∧ m' ((c.tc : Thread Cert.AttOutProjRefIdeal.nD Cert.AttOutProjRefIdeal.τ).loc Cert.AttOutProjRefIdeal.main_arg2) = m ((c.tc : Thread Cert.AttOutProjIdeal.nD Cert.AttOutProjIdeal.τ).loc Cert.AttOutProjIdeal.main_arg2)) →
    ∃ (v0 : (c : Dev Cert.AttOutProjIdeal.nD) → Buf (Elt Ideal) ((c.tc : Thread Cert.AttOutProjIdeal.nD Cert.AttOutProjIdeal.τ).loc Cert.AttOutProjIdeal.main_v1)),
      θ_run (Cert.AttOutProjIdeal.defs (F := Ideal)) (onTc (τ := Cert.AttOutProjIdeal.τ) (Cert.AttOutProjIdeal.main (F := Ideal))) ⟨m, fun _ => 0, g⟩ (fun r => ∀ c : Dev Cert.AttOutProjIdeal.nD,
          r.2.mem ((c.tc : Thread Cert.AttOutProjIdeal.nD Cert.AttOutProjIdeal.τ).loc Cert.AttOutProjIdeal.main_v1) = v0 c
          ∧ r.2.mem ((c.tc : Thread Cert.AttOutProjIdeal.nD Cert.AttOutProjIdeal.τ).loc Cert.AttOutProjIdeal.main_arg0) = m ((c.tc : Thread Cert.AttOutProjIdeal.nD Cert.AttOutProjIdeal.τ).loc Cert.AttOutProjIdeal.main_arg0)
          ∧ r.2.mem ((c.tc : Thread Cert.AttOutProjIdeal.nD Cert.AttOutProjIdeal.τ).loc Cert.AttOutProjIdeal.main_arg1) = m ((c.tc : Thread Cert.AttOutProjIdeal.nD Cert.AttOutProjIdeal.τ).loc Cert.AttOutProjIdeal.main_arg1)
          ∧ r.2.mem ((c.tc : Thread Cert.AttOutProjIdeal.nD Cert.AttOutProjIdeal.τ).loc Cert.AttOutProjIdeal.main_arg2) = m ((c.tc : Thread Cert.AttOutProjIdeal.nD Cert.AttOutProjIdeal.τ).loc Cert.AttOutProjIdeal.main_arg2))
      ∧ θ_run (Cert.AttOutProjRefIdeal.defs (F := Ideal)) (onTc (τ := Cert.AttOutProjRefIdeal.τ) (Cert.AttOutProjRefIdeal.main (F := Ideal))) ⟨m', fun _ => 0, g'⟩ (fun r => ∀ c : Dev Cert.AttOutProjRefIdeal.nD,
          r.2.mem ((c.tc : Thread Cert.AttOutProjRefIdeal.nD Cert.AttOutProjRefIdeal.τ).loc Cert.AttOutProjRefIdeal.main_v1) = v0 c
          ∧ r.2.mem ((c.tc : Thread Cert.AttOutProjRefIdeal.nD Cert.AttOutProjRefIdeal.τ).loc Cert.AttOutProjRefIdeal.main_arg0) = m' ((c.tc : Thread Cert.AttOutProjRefIdeal.nD Cert.AttOutProjRefIdeal.τ).loc Cert.AttOutProjRefIdeal.main_arg0)
          ∧ r.2.mem ((c.tc : Thread Cert.AttOutProjRefIdeal.nD Cert.AttOutProjRefIdeal.τ).loc Cert.AttOutProjRefIdeal.main_arg1) = m' ((c.tc : Thread Cert.AttOutProjRefIdeal.nD Cert.AttOutProjRefIdeal.τ).loc Cert.AttOutProjRefIdeal.main_arg1)
          ∧ r.2.mem ((c.tc : Thread Cert.AttOutProjRefIdeal.nD Cert.AttOutProjRefIdeal.τ).loc Cert.AttOutProjRefIdeal.main_arg2) = m' ((c.tc : Thread Cert.AttOutProjRefIdeal.nD Cert.AttOutProjRefIdeal.τ).loc Cert.AttOutProjRefIdeal.main_arg2))

def preserves_AttOutWeight_AttOutWeightIdeal : Prop :=
  True

def algebraic_AttOutWeightIdeal_AttOutWeightRefIdeal [hAttOutWeightIdeal : Cert.AttOutWeightIdeal.Facts] [hAttOutWeightRefIdeal : Cert.AttOutWeightRefIdeal.Facts] : Prop :=
  ∀ (m : (ℓ : Loc Cert.AttOutWeightIdeal.nD Cert.AttOutWeightIdeal.τ Cert.AttOutWeightIdeal.sig) → Buf (Elt Ideal) ℓ) (g : Dev Cert.AttOutWeightIdeal.nD → PrngReg)
    (m' : (ℓ : Loc Cert.AttOutWeightRefIdeal.nD Cert.AttOutWeightRefIdeal.τ Cert.AttOutWeightRefIdeal.sig) → Buf (Elt Ideal) ℓ) (g' : Dev Cert.AttOutWeightRefIdeal.nD → PrngReg), Pre_AttOutWeightIdeal m →
    (∀ c : Dev Cert.AttOutWeightIdeal.nD,
      m' ((c.tc : Thread Cert.AttOutWeightRefIdeal.nD Cert.AttOutWeightRefIdeal.τ).loc Cert.AttOutWeightRefIdeal.main_arg0) = m ((c.tc : Thread Cert.AttOutWeightIdeal.nD Cert.AttOutWeightIdeal.τ).loc Cert.AttOutWeightIdeal.main_arg0)
      ∧ m' ((c.tc : Thread Cert.AttOutWeightRefIdeal.nD Cert.AttOutWeightRefIdeal.τ).loc Cert.AttOutWeightRefIdeal.main_arg1) = m ((c.tc : Thread Cert.AttOutWeightIdeal.nD Cert.AttOutWeightIdeal.τ).loc Cert.AttOutWeightIdeal.main_arg1)) →
    ∃ (v0 : (c : Dev Cert.AttOutWeightIdeal.nD) → Buf (Elt Ideal) ((c.tc : Thread Cert.AttOutWeightIdeal.nD Cert.AttOutWeightIdeal.τ).loc Cert.AttOutWeightIdeal.main_v0)),
      θ_run (Cert.AttOutWeightIdeal.defs (F := Ideal)) (onTc (τ := Cert.AttOutWeightIdeal.τ) (Cert.AttOutWeightIdeal.main (F := Ideal))) ⟨m, fun _ => 0, g⟩ (fun r => ∀ c : Dev Cert.AttOutWeightIdeal.nD,
          r.2.mem ((c.tc : Thread Cert.AttOutWeightIdeal.nD Cert.AttOutWeightIdeal.τ).loc Cert.AttOutWeightIdeal.main_v0) = v0 c
          ∧ r.2.mem ((c.tc : Thread Cert.AttOutWeightIdeal.nD Cert.AttOutWeightIdeal.τ).loc Cert.AttOutWeightIdeal.main_arg0) = m ((c.tc : Thread Cert.AttOutWeightIdeal.nD Cert.AttOutWeightIdeal.τ).loc Cert.AttOutWeightIdeal.main_arg0)
          ∧ r.2.mem ((c.tc : Thread Cert.AttOutWeightIdeal.nD Cert.AttOutWeightIdeal.τ).loc Cert.AttOutWeightIdeal.main_arg1) = m ((c.tc : Thread Cert.AttOutWeightIdeal.nD Cert.AttOutWeightIdeal.τ).loc Cert.AttOutWeightIdeal.main_arg1))
      ∧ θ_run (Cert.AttOutWeightRefIdeal.defs (F := Ideal)) (onTc (τ := Cert.AttOutWeightRefIdeal.τ) (Cert.AttOutWeightRefIdeal.main (F := Ideal))) ⟨m', fun _ => 0, g'⟩ (fun r => ∀ c : Dev Cert.AttOutWeightRefIdeal.nD,
          r.2.mem ((c.tc : Thread Cert.AttOutWeightRefIdeal.nD Cert.AttOutWeightRefIdeal.τ).loc Cert.AttOutWeightRefIdeal.main_v4) = v0 c
          ∧ r.2.mem ((c.tc : Thread Cert.AttOutWeightRefIdeal.nD Cert.AttOutWeightRefIdeal.τ).loc Cert.AttOutWeightRefIdeal.main_arg0) = m' ((c.tc : Thread Cert.AttOutWeightRefIdeal.nD Cert.AttOutWeightRefIdeal.τ).loc Cert.AttOutWeightRefIdeal.main_arg0)
          ∧ r.2.mem ((c.tc : Thread Cert.AttOutWeightRefIdeal.nD Cert.AttOutWeightRefIdeal.τ).loc Cert.AttOutWeightRefIdeal.main_arg1) = m' ((c.tc : Thread Cert.AttOutWeightRefIdeal.nD Cert.AttOutWeightRefIdeal.τ).loc Cert.AttOutWeightRefIdeal.main_arg1))

def preserves_LatDownGrad_LatDownGradIdeal : Prop :=
  True

def algebraic_LatDownGradIdeal_LatDownGradRefIdeal [hLatDownGradIdeal : Cert.LatDownGradIdeal.Facts] [hLatDownGradRefIdeal : Cert.LatDownGradRefIdeal.Facts] : Prop :=
  ∀ (m : (ℓ : Loc Cert.LatDownGradIdeal.nD Cert.LatDownGradIdeal.τ Cert.LatDownGradIdeal.sig) → Buf (Elt Ideal) ℓ) (g : Dev Cert.LatDownGradIdeal.nD → PrngReg)
    (m' : (ℓ : Loc Cert.LatDownGradRefIdeal.nD Cert.LatDownGradRefIdeal.τ Cert.LatDownGradRefIdeal.sig) → Buf (Elt Ideal) ℓ) (g' : Dev Cert.LatDownGradRefIdeal.nD → PrngReg), Pre_LatDownGradIdeal m →
    (∀ c : Dev Cert.LatDownGradIdeal.nD,
      m' ((c.tc : Thread Cert.LatDownGradRefIdeal.nD Cert.LatDownGradRefIdeal.τ).loc Cert.LatDownGradRefIdeal.main_arg0) = m ((c.tc : Thread Cert.LatDownGradIdeal.nD Cert.LatDownGradIdeal.τ).loc Cert.LatDownGradIdeal.main_arg0)
      ∧ m' ((c.tc : Thread Cert.LatDownGradRefIdeal.nD Cert.LatDownGradRefIdeal.τ).loc Cert.LatDownGradRefIdeal.main_arg1) = m ((c.tc : Thread Cert.LatDownGradIdeal.nD Cert.LatDownGradIdeal.τ).loc Cert.LatDownGradIdeal.main_arg1)) →
    ∃ (v0 : (c : Dev Cert.LatDownGradIdeal.nD) → Buf (Elt Ideal) ((c.tc : Thread Cert.LatDownGradIdeal.nD Cert.LatDownGradIdeal.τ).loc Cert.LatDownGradIdeal.main_v1)),
      θ_run (Cert.LatDownGradIdeal.defs (F := Ideal)) (onTc (τ := Cert.LatDownGradIdeal.τ) (Cert.LatDownGradIdeal.main (F := Ideal))) ⟨m, fun _ => 0, g⟩ (fun r => ∀ c : Dev Cert.LatDownGradIdeal.nD,
          r.2.mem ((c.tc : Thread Cert.LatDownGradIdeal.nD Cert.LatDownGradIdeal.τ).loc Cert.LatDownGradIdeal.main_v1) = v0 c
          ∧ r.2.mem ((c.tc : Thread Cert.LatDownGradIdeal.nD Cert.LatDownGradIdeal.τ).loc Cert.LatDownGradIdeal.main_arg0) = m ((c.tc : Thread Cert.LatDownGradIdeal.nD Cert.LatDownGradIdeal.τ).loc Cert.LatDownGradIdeal.main_arg0)
          ∧ r.2.mem ((c.tc : Thread Cert.LatDownGradIdeal.nD Cert.LatDownGradIdeal.τ).loc Cert.LatDownGradIdeal.main_arg1) = m ((c.tc : Thread Cert.LatDownGradIdeal.nD Cert.LatDownGradIdeal.τ).loc Cert.LatDownGradIdeal.main_arg1))
      ∧ θ_run (Cert.LatDownGradRefIdeal.defs (F := Ideal)) (onTc (τ := Cert.LatDownGradRefIdeal.τ) (Cert.LatDownGradRefIdeal.main (F := Ideal))) ⟨m', fun _ => 0, g'⟩ (fun r => ∀ c : Dev Cert.LatDownGradRefIdeal.nD,
          r.2.mem ((c.tc : Thread Cert.LatDownGradRefIdeal.nD Cert.LatDownGradRefIdeal.τ).loc Cert.LatDownGradRefIdeal.main_v3) = v0 c
          ∧ r.2.mem ((c.tc : Thread Cert.LatDownGradRefIdeal.nD Cert.LatDownGradRefIdeal.τ).loc Cert.LatDownGradRefIdeal.main_arg0) = m' ((c.tc : Thread Cert.LatDownGradRefIdeal.nD Cert.LatDownGradRefIdeal.τ).loc Cert.LatDownGradRefIdeal.main_arg0)
          ∧ r.2.mem ((c.tc : Thread Cert.LatDownGradRefIdeal.nD Cert.LatDownGradRefIdeal.τ).loc Cert.LatDownGradRefIdeal.main_arg1) = m' ((c.tc : Thread Cert.LatDownGradRefIdeal.nD Cert.LatDownGradRefIdeal.τ).loc Cert.LatDownGradRefIdeal.main_arg1))

def preserves_LatDownWeight_LatDownWeightIdeal : Prop :=
  True

def algebraic_LatDownWeightIdeal_LatDownWeightRefIdeal [hLatDownWeightIdeal : Cert.LatDownWeightIdeal.Facts] [hLatDownWeightRefIdeal : Cert.LatDownWeightRefIdeal.Facts] : Prop :=
  ∀ (m : (ℓ : Loc Cert.LatDownWeightIdeal.nD Cert.LatDownWeightIdeal.τ Cert.LatDownWeightIdeal.sig) → Buf (Elt Ideal) ℓ) (g : Dev Cert.LatDownWeightIdeal.nD → PrngReg)
    (m' : (ℓ : Loc Cert.LatDownWeightRefIdeal.nD Cert.LatDownWeightRefIdeal.τ Cert.LatDownWeightRefIdeal.sig) → Buf (Elt Ideal) ℓ) (g' : Dev Cert.LatDownWeightRefIdeal.nD → PrngReg), Pre_LatDownWeightIdeal m →
    (∀ c : Dev Cert.LatDownWeightIdeal.nD,
      m' ((c.tc : Thread Cert.LatDownWeightRefIdeal.nD Cert.LatDownWeightRefIdeal.τ).loc Cert.LatDownWeightRefIdeal.main_arg0) = m ((c.tc : Thread Cert.LatDownWeightIdeal.nD Cert.LatDownWeightIdeal.τ).loc Cert.LatDownWeightIdeal.main_arg0)
      ∧ m' ((c.tc : Thread Cert.LatDownWeightRefIdeal.nD Cert.LatDownWeightRefIdeal.τ).loc Cert.LatDownWeightRefIdeal.main_arg1) = m ((c.tc : Thread Cert.LatDownWeightIdeal.nD Cert.LatDownWeightIdeal.τ).loc Cert.LatDownWeightIdeal.main_arg1)) →
    ∃ (v0 : (c : Dev Cert.LatDownWeightIdeal.nD) → Buf (Elt Ideal) ((c.tc : Thread Cert.LatDownWeightIdeal.nD Cert.LatDownWeightIdeal.τ).loc Cert.LatDownWeightIdeal.main_v0)),
      θ_run (Cert.LatDownWeightIdeal.defs (F := Ideal)) (onTc (τ := Cert.LatDownWeightIdeal.τ) (Cert.LatDownWeightIdeal.main (F := Ideal))) ⟨m, fun _ => 0, g⟩ (fun r => ∀ c : Dev Cert.LatDownWeightIdeal.nD,
          r.2.mem ((c.tc : Thread Cert.LatDownWeightIdeal.nD Cert.LatDownWeightIdeal.τ).loc Cert.LatDownWeightIdeal.main_v0) = v0 c
          ∧ r.2.mem ((c.tc : Thread Cert.LatDownWeightIdeal.nD Cert.LatDownWeightIdeal.τ).loc Cert.LatDownWeightIdeal.main_arg0) = m ((c.tc : Thread Cert.LatDownWeightIdeal.nD Cert.LatDownWeightIdeal.τ).loc Cert.LatDownWeightIdeal.main_arg0)
          ∧ r.2.mem ((c.tc : Thread Cert.LatDownWeightIdeal.nD Cert.LatDownWeightIdeal.τ).loc Cert.LatDownWeightIdeal.main_arg1) = m ((c.tc : Thread Cert.LatDownWeightIdeal.nD Cert.LatDownWeightIdeal.τ).loc Cert.LatDownWeightIdeal.main_arg1))
      ∧ θ_run (Cert.LatDownWeightRefIdeal.defs (F := Ideal)) (onTc (τ := Cert.LatDownWeightRefIdeal.τ) (Cert.LatDownWeightRefIdeal.main (F := Ideal))) ⟨m', fun _ => 0, g'⟩ (fun r => ∀ c : Dev Cert.LatDownWeightRefIdeal.nD,
          r.2.mem ((c.tc : Thread Cert.LatDownWeightRefIdeal.nD Cert.LatDownWeightRefIdeal.τ).loc Cert.LatDownWeightRefIdeal.main_v6) = v0 c
          ∧ r.2.mem ((c.tc : Thread Cert.LatDownWeightRefIdeal.nD Cert.LatDownWeightRefIdeal.τ).loc Cert.LatDownWeightRefIdeal.main_arg0) = m' ((c.tc : Thread Cert.LatDownWeightRefIdeal.nD Cert.LatDownWeightRefIdeal.τ).loc Cert.LatDownWeightRefIdeal.main_arg0)
          ∧ r.2.mem ((c.tc : Thread Cert.LatDownWeightRefIdeal.nD Cert.LatDownWeightRefIdeal.τ).loc Cert.LatDownWeightRefIdeal.main_arg1) = m' ((c.tc : Thread Cert.LatDownWeightRefIdeal.nD Cert.LatDownWeightRefIdeal.τ).loc Cert.LatDownWeightRefIdeal.main_arg1))

def preserves_LatDownProj_LatDownProjIdeal : Prop :=
  True

def algebraic_LatDownProjIdeal_LatDownProjRefIdeal [hLatDownProjIdeal : Cert.LatDownProjIdeal.Facts] [hLatDownProjRefIdeal : Cert.LatDownProjRefIdeal.Facts] : Prop :=
  ∀ (m : (ℓ : Loc Cert.LatDownProjIdeal.nD Cert.LatDownProjIdeal.τ Cert.LatDownProjIdeal.sig) → Buf (Elt Ideal) ℓ) (g : Dev Cert.LatDownProjIdeal.nD → PrngReg)
    (m' : (ℓ : Loc Cert.LatDownProjRefIdeal.nD Cert.LatDownProjRefIdeal.τ Cert.LatDownProjRefIdeal.sig) → Buf (Elt Ideal) ℓ) (g' : Dev Cert.LatDownProjRefIdeal.nD → PrngReg), Pre_LatDownProjIdeal m →
    (∀ c : Dev Cert.LatDownProjIdeal.nD,
      m' ((c.tc : Thread Cert.LatDownProjRefIdeal.nD Cert.LatDownProjRefIdeal.τ).loc Cert.LatDownProjRefIdeal.main_arg0) = m ((c.tc : Thread Cert.LatDownProjIdeal.nD Cert.LatDownProjIdeal.τ).loc Cert.LatDownProjIdeal.main_arg0)
      ∧ m' ((c.tc : Thread Cert.LatDownProjRefIdeal.nD Cert.LatDownProjRefIdeal.τ).loc Cert.LatDownProjRefIdeal.main_arg1) = m ((c.tc : Thread Cert.LatDownProjIdeal.nD Cert.LatDownProjIdeal.τ).loc Cert.LatDownProjIdeal.main_arg1)) →
    ∃ (v0 : (c : Dev Cert.LatDownProjIdeal.nD) → Buf (Elt Ideal) ((c.tc : Thread Cert.LatDownProjIdeal.nD Cert.LatDownProjIdeal.τ).loc Cert.LatDownProjIdeal.main_v1)),
      θ_run (Cert.LatDownProjIdeal.defs (F := Ideal)) (onTc (τ := Cert.LatDownProjIdeal.τ) (Cert.LatDownProjIdeal.main (F := Ideal))) ⟨m, fun _ => 0, g⟩ (fun r => ∀ c : Dev Cert.LatDownProjIdeal.nD,
          r.2.mem ((c.tc : Thread Cert.LatDownProjIdeal.nD Cert.LatDownProjIdeal.τ).loc Cert.LatDownProjIdeal.main_v1) = v0 c
          ∧ r.2.mem ((c.tc : Thread Cert.LatDownProjIdeal.nD Cert.LatDownProjIdeal.τ).loc Cert.LatDownProjIdeal.main_arg0) = m ((c.tc : Thread Cert.LatDownProjIdeal.nD Cert.LatDownProjIdeal.τ).loc Cert.LatDownProjIdeal.main_arg0)
          ∧ r.2.mem ((c.tc : Thread Cert.LatDownProjIdeal.nD Cert.LatDownProjIdeal.τ).loc Cert.LatDownProjIdeal.main_arg1) = m ((c.tc : Thread Cert.LatDownProjIdeal.nD Cert.LatDownProjIdeal.τ).loc Cert.LatDownProjIdeal.main_arg1))
      ∧ θ_run (Cert.LatDownProjRefIdeal.defs (F := Ideal)) (onTc (τ := Cert.LatDownProjRefIdeal.τ) (Cert.LatDownProjRefIdeal.main (F := Ideal))) ⟨m', fun _ => 0, g'⟩ (fun r => ∀ c : Dev Cert.LatDownProjRefIdeal.nD,
          r.2.mem ((c.tc : Thread Cert.LatDownProjRefIdeal.nD Cert.LatDownProjRefIdeal.τ).loc Cert.LatDownProjRefIdeal.main_v1) = v0 c
          ∧ r.2.mem ((c.tc : Thread Cert.LatDownProjRefIdeal.nD Cert.LatDownProjRefIdeal.τ).loc Cert.LatDownProjRefIdeal.main_arg0) = m' ((c.tc : Thread Cert.LatDownProjRefIdeal.nD Cert.LatDownProjRefIdeal.τ).loc Cert.LatDownProjRefIdeal.main_arg0)
          ∧ r.2.mem ((c.tc : Thread Cert.LatDownProjRefIdeal.nD Cert.LatDownProjRefIdeal.τ).loc Cert.LatDownProjRefIdeal.main_arg1) = m' ((c.tc : Thread Cert.LatDownProjRefIdeal.nD Cert.LatDownProjRefIdeal.τ).loc Cert.LatDownProjRefIdeal.main_arg1))

def preserves_QueryUpGrad_QueryUpGradIdeal : Prop :=
  True

def algebraic_QueryUpGradIdeal_QueryUpGradRefIdeal [hQueryUpGradIdeal : Cert.QueryUpGradIdeal.Facts] [hQueryUpGradRefIdeal : Cert.QueryUpGradRefIdeal.Facts] : Prop :=
  ∀ (m : (ℓ : Loc Cert.QueryUpGradIdeal.nD Cert.QueryUpGradIdeal.τ Cert.QueryUpGradIdeal.sig) → Buf (Elt Ideal) ℓ) (g : Dev Cert.QueryUpGradIdeal.nD → PrngReg)
    (m' : (ℓ : Loc Cert.QueryUpGradRefIdeal.nD Cert.QueryUpGradRefIdeal.τ Cert.QueryUpGradRefIdeal.sig) → Buf (Elt Ideal) ℓ) (g' : Dev Cert.QueryUpGradRefIdeal.nD → PrngReg), Pre_QueryUpGradIdeal m →
    (∀ c : Dev Cert.QueryUpGradIdeal.nD,
      m' ((c.tc : Thread Cert.QueryUpGradRefIdeal.nD Cert.QueryUpGradRefIdeal.τ).loc Cert.QueryUpGradRefIdeal.main_arg0) = m ((c.tc : Thread Cert.QueryUpGradIdeal.nD Cert.QueryUpGradIdeal.τ).loc Cert.QueryUpGradIdeal.main_arg0)
      ∧ m' ((c.tc : Thread Cert.QueryUpGradRefIdeal.nD Cert.QueryUpGradRefIdeal.τ).loc Cert.QueryUpGradRefIdeal.main_arg1) = m ((c.tc : Thread Cert.QueryUpGradIdeal.nD Cert.QueryUpGradIdeal.τ).loc Cert.QueryUpGradIdeal.main_arg1)) →
    ∃ (v0 : (c : Dev Cert.QueryUpGradIdeal.nD) → Buf (Elt Ideal) ((c.tc : Thread Cert.QueryUpGradIdeal.nD Cert.QueryUpGradIdeal.τ).loc Cert.QueryUpGradIdeal.main_v1)),
      θ_run (Cert.QueryUpGradIdeal.defs (F := Ideal)) (onTc (τ := Cert.QueryUpGradIdeal.τ) (Cert.QueryUpGradIdeal.main (F := Ideal))) ⟨m, fun _ => 0, g⟩ (fun r => ∀ c : Dev Cert.QueryUpGradIdeal.nD,
          r.2.mem ((c.tc : Thread Cert.QueryUpGradIdeal.nD Cert.QueryUpGradIdeal.τ).loc Cert.QueryUpGradIdeal.main_v1) = v0 c
          ∧ r.2.mem ((c.tc : Thread Cert.QueryUpGradIdeal.nD Cert.QueryUpGradIdeal.τ).loc Cert.QueryUpGradIdeal.main_arg0) = m ((c.tc : Thread Cert.QueryUpGradIdeal.nD Cert.QueryUpGradIdeal.τ).loc Cert.QueryUpGradIdeal.main_arg0)
          ∧ r.2.mem ((c.tc : Thread Cert.QueryUpGradIdeal.nD Cert.QueryUpGradIdeal.τ).loc Cert.QueryUpGradIdeal.main_arg1) = m ((c.tc : Thread Cert.QueryUpGradIdeal.nD Cert.QueryUpGradIdeal.τ).loc Cert.QueryUpGradIdeal.main_arg1))
      ∧ θ_run (Cert.QueryUpGradRefIdeal.defs (F := Ideal)) (onTc (τ := Cert.QueryUpGradRefIdeal.τ) (Cert.QueryUpGradRefIdeal.main (F := Ideal))) ⟨m', fun _ => 0, g'⟩ (fun r => ∀ c : Dev Cert.QueryUpGradRefIdeal.nD,
          r.2.mem ((c.tc : Thread Cert.QueryUpGradRefIdeal.nD Cert.QueryUpGradRefIdeal.τ).loc Cert.QueryUpGradRefIdeal.main_v3) = v0 c
          ∧ r.2.mem ((c.tc : Thread Cert.QueryUpGradRefIdeal.nD Cert.QueryUpGradRefIdeal.τ).loc Cert.QueryUpGradRefIdeal.main_arg0) = m' ((c.tc : Thread Cert.QueryUpGradRefIdeal.nD Cert.QueryUpGradRefIdeal.τ).loc Cert.QueryUpGradRefIdeal.main_arg0)
          ∧ r.2.mem ((c.tc : Thread Cert.QueryUpGradRefIdeal.nD Cert.QueryUpGradRefIdeal.τ).loc Cert.QueryUpGradRefIdeal.main_arg1) = m' ((c.tc : Thread Cert.QueryUpGradRefIdeal.nD Cert.QueryUpGradRefIdeal.τ).loc Cert.QueryUpGradRefIdeal.main_arg1))

def preserves_QueryUpWeight_QueryUpWeightIdeal : Prop :=
  True

def algebraic_QueryUpWeightIdeal_QueryUpWeightRefIdeal [hQueryUpWeightIdeal : Cert.QueryUpWeightIdeal.Facts] [hQueryUpWeightRefIdeal : Cert.QueryUpWeightRefIdeal.Facts] : Prop :=
  ∀ (m : (ℓ : Loc Cert.QueryUpWeightIdeal.nD Cert.QueryUpWeightIdeal.τ Cert.QueryUpWeightIdeal.sig) → Buf (Elt Ideal) ℓ) (g : Dev Cert.QueryUpWeightIdeal.nD → PrngReg)
    (m' : (ℓ : Loc Cert.QueryUpWeightRefIdeal.nD Cert.QueryUpWeightRefIdeal.τ Cert.QueryUpWeightRefIdeal.sig) → Buf (Elt Ideal) ℓ) (g' : Dev Cert.QueryUpWeightRefIdeal.nD → PrngReg), Pre_QueryUpWeightIdeal m →
    (∀ c : Dev Cert.QueryUpWeightIdeal.nD,
      m' ((c.tc : Thread Cert.QueryUpWeightRefIdeal.nD Cert.QueryUpWeightRefIdeal.τ).loc Cert.QueryUpWeightRefIdeal.main_arg0) = m ((c.tc : Thread Cert.QueryUpWeightIdeal.nD Cert.QueryUpWeightIdeal.τ).loc Cert.QueryUpWeightIdeal.main_arg0)
      ∧ m' ((c.tc : Thread Cert.QueryUpWeightRefIdeal.nD Cert.QueryUpWeightRefIdeal.τ).loc Cert.QueryUpWeightRefIdeal.main_arg1) = m ((c.tc : Thread Cert.QueryUpWeightIdeal.nD Cert.QueryUpWeightIdeal.τ).loc Cert.QueryUpWeightIdeal.main_arg1)) →
    ∃ (v0 : (c : Dev Cert.QueryUpWeightIdeal.nD) → Buf (Elt Ideal) ((c.tc : Thread Cert.QueryUpWeightIdeal.nD Cert.QueryUpWeightIdeal.τ).loc Cert.QueryUpWeightIdeal.main_v0)),
      θ_run (Cert.QueryUpWeightIdeal.defs (F := Ideal)) (onTc (τ := Cert.QueryUpWeightIdeal.τ) (Cert.QueryUpWeightIdeal.main (F := Ideal))) ⟨m, fun _ => 0, g⟩ (fun r => ∀ c : Dev Cert.QueryUpWeightIdeal.nD,
          r.2.mem ((c.tc : Thread Cert.QueryUpWeightIdeal.nD Cert.QueryUpWeightIdeal.τ).loc Cert.QueryUpWeightIdeal.main_v0) = v0 c
          ∧ r.2.mem ((c.tc : Thread Cert.QueryUpWeightIdeal.nD Cert.QueryUpWeightIdeal.τ).loc Cert.QueryUpWeightIdeal.main_arg0) = m ((c.tc : Thread Cert.QueryUpWeightIdeal.nD Cert.QueryUpWeightIdeal.τ).loc Cert.QueryUpWeightIdeal.main_arg0)
          ∧ r.2.mem ((c.tc : Thread Cert.QueryUpWeightIdeal.nD Cert.QueryUpWeightIdeal.τ).loc Cert.QueryUpWeightIdeal.main_arg1) = m ((c.tc : Thread Cert.QueryUpWeightIdeal.nD Cert.QueryUpWeightIdeal.τ).loc Cert.QueryUpWeightIdeal.main_arg1))
      ∧ θ_run (Cert.QueryUpWeightRefIdeal.defs (F := Ideal)) (onTc (τ := Cert.QueryUpWeightRefIdeal.τ) (Cert.QueryUpWeightRefIdeal.main (F := Ideal))) ⟨m', fun _ => 0, g'⟩ (fun r => ∀ c : Dev Cert.QueryUpWeightRefIdeal.nD,
          r.2.mem ((c.tc : Thread Cert.QueryUpWeightRefIdeal.nD Cert.QueryUpWeightRefIdeal.τ).loc Cert.QueryUpWeightRefIdeal.main_v6) = v0 c
          ∧ r.2.mem ((c.tc : Thread Cert.QueryUpWeightRefIdeal.nD Cert.QueryUpWeightRefIdeal.τ).loc Cert.QueryUpWeightRefIdeal.main_arg0) = m' ((c.tc : Thread Cert.QueryUpWeightRefIdeal.nD Cert.QueryUpWeightRefIdeal.τ).loc Cert.QueryUpWeightRefIdeal.main_arg0)
          ∧ r.2.mem ((c.tc : Thread Cert.QueryUpWeightRefIdeal.nD Cert.QueryUpWeightRefIdeal.τ).loc Cert.QueryUpWeightRefIdeal.main_arg1) = m' ((c.tc : Thread Cert.QueryUpWeightRefIdeal.nD Cert.QueryUpWeightRefIdeal.τ).loc Cert.QueryUpWeightRefIdeal.main_arg1))

def preserves_QueryUpProj_QueryUpProjIdeal : Prop :=
  True

def algebraic_QueryUpProjIdeal_QueryUpProjRefIdeal [hQueryUpProjIdeal : Cert.QueryUpProjIdeal.Facts] [hQueryUpProjRefIdeal : Cert.QueryUpProjRefIdeal.Facts] : Prop :=
  ∀ (m : (ℓ : Loc Cert.QueryUpProjIdeal.nD Cert.QueryUpProjIdeal.τ Cert.QueryUpProjIdeal.sig) → Buf (Elt Ideal) ℓ) (g : Dev Cert.QueryUpProjIdeal.nD → PrngReg)
    (m' : (ℓ : Loc Cert.QueryUpProjRefIdeal.nD Cert.QueryUpProjRefIdeal.τ Cert.QueryUpProjRefIdeal.sig) → Buf (Elt Ideal) ℓ) (g' : Dev Cert.QueryUpProjRefIdeal.nD → PrngReg), Pre_QueryUpProjIdeal m →
    (∀ c : Dev Cert.QueryUpProjIdeal.nD,
      m' ((c.tc : Thread Cert.QueryUpProjRefIdeal.nD Cert.QueryUpProjRefIdeal.τ).loc Cert.QueryUpProjRefIdeal.main_arg0) = m ((c.tc : Thread Cert.QueryUpProjIdeal.nD Cert.QueryUpProjIdeal.τ).loc Cert.QueryUpProjIdeal.main_arg0)
      ∧ m' ((c.tc : Thread Cert.QueryUpProjRefIdeal.nD Cert.QueryUpProjRefIdeal.τ).loc Cert.QueryUpProjRefIdeal.main_arg1) = m ((c.tc : Thread Cert.QueryUpProjIdeal.nD Cert.QueryUpProjIdeal.τ).loc Cert.QueryUpProjIdeal.main_arg1)) →
    ∃ (v0 : (c : Dev Cert.QueryUpProjIdeal.nD) → Buf (Elt Ideal) ((c.tc : Thread Cert.QueryUpProjIdeal.nD Cert.QueryUpProjIdeal.τ).loc Cert.QueryUpProjIdeal.main_v1)),
      θ_run (Cert.QueryUpProjIdeal.defs (F := Ideal)) (onTc (τ := Cert.QueryUpProjIdeal.τ) (Cert.QueryUpProjIdeal.main (F := Ideal))) ⟨m, fun _ => 0, g⟩ (fun r => ∀ c : Dev Cert.QueryUpProjIdeal.nD,
          r.2.mem ((c.tc : Thread Cert.QueryUpProjIdeal.nD Cert.QueryUpProjIdeal.τ).loc Cert.QueryUpProjIdeal.main_v1) = v0 c
          ∧ r.2.mem ((c.tc : Thread Cert.QueryUpProjIdeal.nD Cert.QueryUpProjIdeal.τ).loc Cert.QueryUpProjIdeal.main_arg0) = m ((c.tc : Thread Cert.QueryUpProjIdeal.nD Cert.QueryUpProjIdeal.τ).loc Cert.QueryUpProjIdeal.main_arg0)
          ∧ r.2.mem ((c.tc : Thread Cert.QueryUpProjIdeal.nD Cert.QueryUpProjIdeal.τ).loc Cert.QueryUpProjIdeal.main_arg1) = m ((c.tc : Thread Cert.QueryUpProjIdeal.nD Cert.QueryUpProjIdeal.τ).loc Cert.QueryUpProjIdeal.main_arg1))
      ∧ θ_run (Cert.QueryUpProjRefIdeal.defs (F := Ideal)) (onTc (τ := Cert.QueryUpProjRefIdeal.τ) (Cert.QueryUpProjRefIdeal.main (F := Ideal))) ⟨m', fun _ => 0, g'⟩ (fun r => ∀ c : Dev Cert.QueryUpProjRefIdeal.nD,
          r.2.mem ((c.tc : Thread Cert.QueryUpProjRefIdeal.nD Cert.QueryUpProjRefIdeal.τ).loc Cert.QueryUpProjRefIdeal.main_v1) = v0 c
          ∧ r.2.mem ((c.tc : Thread Cert.QueryUpProjRefIdeal.nD Cert.QueryUpProjRefIdeal.τ).loc Cert.QueryUpProjRefIdeal.main_arg0) = m' ((c.tc : Thread Cert.QueryUpProjRefIdeal.nD Cert.QueryUpProjRefIdeal.τ).loc Cert.QueryUpProjRefIdeal.main_arg0)
          ∧ r.2.mem ((c.tc : Thread Cert.QueryUpProjRefIdeal.nD Cert.QueryUpProjRefIdeal.τ).loc Cert.QueryUpProjRefIdeal.main_arg1) = m' ((c.tc : Thread Cert.QueryUpProjRefIdeal.nD Cert.QueryUpProjRefIdeal.τ).loc Cert.QueryUpProjRefIdeal.main_arg1))

def preserves_KeyUpGrad_KeyUpGradIdeal : Prop :=
  True

def algebraic_KeyUpGradIdeal_KeyUpGradRefIdeal [hKeyUpGradIdeal : Cert.KeyUpGradIdeal.Facts] [hKeyUpGradRefIdeal : Cert.KeyUpGradRefIdeal.Facts] : Prop :=
  ∀ (m : (ℓ : Loc Cert.KeyUpGradIdeal.nD Cert.KeyUpGradIdeal.τ Cert.KeyUpGradIdeal.sig) → Buf (Elt Ideal) ℓ) (g : Dev Cert.KeyUpGradIdeal.nD → PrngReg)
    (m' : (ℓ : Loc Cert.KeyUpGradRefIdeal.nD Cert.KeyUpGradRefIdeal.τ Cert.KeyUpGradRefIdeal.sig) → Buf (Elt Ideal) ℓ) (g' : Dev Cert.KeyUpGradRefIdeal.nD → PrngReg), Pre_KeyUpGradIdeal m →
    (∀ c : Dev Cert.KeyUpGradIdeal.nD,
      m' ((c.tc : Thread Cert.KeyUpGradRefIdeal.nD Cert.KeyUpGradRefIdeal.τ).loc Cert.KeyUpGradRefIdeal.main_arg0) = m ((c.tc : Thread Cert.KeyUpGradIdeal.nD Cert.KeyUpGradIdeal.τ).loc Cert.KeyUpGradIdeal.main_arg0)
      ∧ m' ((c.tc : Thread Cert.KeyUpGradRefIdeal.nD Cert.KeyUpGradRefIdeal.τ).loc Cert.KeyUpGradRefIdeal.main_arg1) = m ((c.tc : Thread Cert.KeyUpGradIdeal.nD Cert.KeyUpGradIdeal.τ).loc Cert.KeyUpGradIdeal.main_arg1)) →
    ∃ (v0 : (c : Dev Cert.KeyUpGradIdeal.nD) → Buf (Elt Ideal) ((c.tc : Thread Cert.KeyUpGradIdeal.nD Cert.KeyUpGradIdeal.τ).loc Cert.KeyUpGradIdeal.main_v1)),
      θ_run (Cert.KeyUpGradIdeal.defs (F := Ideal)) (onTc (τ := Cert.KeyUpGradIdeal.τ) (Cert.KeyUpGradIdeal.main (F := Ideal))) ⟨m, fun _ => 0, g⟩ (fun r => ∀ c : Dev Cert.KeyUpGradIdeal.nD,
          r.2.mem ((c.tc : Thread Cert.KeyUpGradIdeal.nD Cert.KeyUpGradIdeal.τ).loc Cert.KeyUpGradIdeal.main_v1) = v0 c
          ∧ r.2.mem ((c.tc : Thread Cert.KeyUpGradIdeal.nD Cert.KeyUpGradIdeal.τ).loc Cert.KeyUpGradIdeal.main_arg0) = m ((c.tc : Thread Cert.KeyUpGradIdeal.nD Cert.KeyUpGradIdeal.τ).loc Cert.KeyUpGradIdeal.main_arg0)
          ∧ r.2.mem ((c.tc : Thread Cert.KeyUpGradIdeal.nD Cert.KeyUpGradIdeal.τ).loc Cert.KeyUpGradIdeal.main_arg1) = m ((c.tc : Thread Cert.KeyUpGradIdeal.nD Cert.KeyUpGradIdeal.τ).loc Cert.KeyUpGradIdeal.main_arg1))
      ∧ θ_run (Cert.KeyUpGradRefIdeal.defs (F := Ideal)) (onTc (τ := Cert.KeyUpGradRefIdeal.τ) (Cert.KeyUpGradRefIdeal.main (F := Ideal))) ⟨m', fun _ => 0, g'⟩ (fun r => ∀ c : Dev Cert.KeyUpGradRefIdeal.nD,
          r.2.mem ((c.tc : Thread Cert.KeyUpGradRefIdeal.nD Cert.KeyUpGradRefIdeal.τ).loc Cert.KeyUpGradRefIdeal.main_v3) = v0 c
          ∧ r.2.mem ((c.tc : Thread Cert.KeyUpGradRefIdeal.nD Cert.KeyUpGradRefIdeal.τ).loc Cert.KeyUpGradRefIdeal.main_arg0) = m' ((c.tc : Thread Cert.KeyUpGradRefIdeal.nD Cert.KeyUpGradRefIdeal.τ).loc Cert.KeyUpGradRefIdeal.main_arg0)
          ∧ r.2.mem ((c.tc : Thread Cert.KeyUpGradRefIdeal.nD Cert.KeyUpGradRefIdeal.τ).loc Cert.KeyUpGradRefIdeal.main_arg1) = m' ((c.tc : Thread Cert.KeyUpGradRefIdeal.nD Cert.KeyUpGradRefIdeal.τ).loc Cert.KeyUpGradRefIdeal.main_arg1))

def preserves_KeyUpWeight_KeyUpWeightIdeal : Prop :=
  True

def algebraic_KeyUpWeightIdeal_KeyUpWeightRefIdeal [hKeyUpWeightIdeal : Cert.KeyUpWeightIdeal.Facts] [hKeyUpWeightRefIdeal : Cert.KeyUpWeightRefIdeal.Facts] : Prop :=
  ∀ (m : (ℓ : Loc Cert.KeyUpWeightIdeal.nD Cert.KeyUpWeightIdeal.τ Cert.KeyUpWeightIdeal.sig) → Buf (Elt Ideal) ℓ) (g : Dev Cert.KeyUpWeightIdeal.nD → PrngReg)
    (m' : (ℓ : Loc Cert.KeyUpWeightRefIdeal.nD Cert.KeyUpWeightRefIdeal.τ Cert.KeyUpWeightRefIdeal.sig) → Buf (Elt Ideal) ℓ) (g' : Dev Cert.KeyUpWeightRefIdeal.nD → PrngReg), Pre_KeyUpWeightIdeal m →
    (∀ c : Dev Cert.KeyUpWeightIdeal.nD,
      m' ((c.tc : Thread Cert.KeyUpWeightRefIdeal.nD Cert.KeyUpWeightRefIdeal.τ).loc Cert.KeyUpWeightRefIdeal.main_arg0) = m ((c.tc : Thread Cert.KeyUpWeightIdeal.nD Cert.KeyUpWeightIdeal.τ).loc Cert.KeyUpWeightIdeal.main_arg0)
      ∧ m' ((c.tc : Thread Cert.KeyUpWeightRefIdeal.nD Cert.KeyUpWeightRefIdeal.τ).loc Cert.KeyUpWeightRefIdeal.main_arg1) = m ((c.tc : Thread Cert.KeyUpWeightIdeal.nD Cert.KeyUpWeightIdeal.τ).loc Cert.KeyUpWeightIdeal.main_arg1)) →
    ∃ (v0 : (c : Dev Cert.KeyUpWeightIdeal.nD) → Buf (Elt Ideal) ((c.tc : Thread Cert.KeyUpWeightIdeal.nD Cert.KeyUpWeightIdeal.τ).loc Cert.KeyUpWeightIdeal.main_v0)),
      θ_run (Cert.KeyUpWeightIdeal.defs (F := Ideal)) (onTc (τ := Cert.KeyUpWeightIdeal.τ) (Cert.KeyUpWeightIdeal.main (F := Ideal))) ⟨m, fun _ => 0, g⟩ (fun r => ∀ c : Dev Cert.KeyUpWeightIdeal.nD,
          r.2.mem ((c.tc : Thread Cert.KeyUpWeightIdeal.nD Cert.KeyUpWeightIdeal.τ).loc Cert.KeyUpWeightIdeal.main_v0) = v0 c
          ∧ r.2.mem ((c.tc : Thread Cert.KeyUpWeightIdeal.nD Cert.KeyUpWeightIdeal.τ).loc Cert.KeyUpWeightIdeal.main_arg0) = m ((c.tc : Thread Cert.KeyUpWeightIdeal.nD Cert.KeyUpWeightIdeal.τ).loc Cert.KeyUpWeightIdeal.main_arg0)
          ∧ r.2.mem ((c.tc : Thread Cert.KeyUpWeightIdeal.nD Cert.KeyUpWeightIdeal.τ).loc Cert.KeyUpWeightIdeal.main_arg1) = m ((c.tc : Thread Cert.KeyUpWeightIdeal.nD Cert.KeyUpWeightIdeal.τ).loc Cert.KeyUpWeightIdeal.main_arg1))
      ∧ θ_run (Cert.KeyUpWeightRefIdeal.defs (F := Ideal)) (onTc (τ := Cert.KeyUpWeightRefIdeal.τ) (Cert.KeyUpWeightRefIdeal.main (F := Ideal))) ⟨m', fun _ => 0, g'⟩ (fun r => ∀ c : Dev Cert.KeyUpWeightRefIdeal.nD,
          r.2.mem ((c.tc : Thread Cert.KeyUpWeightRefIdeal.nD Cert.KeyUpWeightRefIdeal.τ).loc Cert.KeyUpWeightRefIdeal.main_v6) = v0 c
          ∧ r.2.mem ((c.tc : Thread Cert.KeyUpWeightRefIdeal.nD Cert.KeyUpWeightRefIdeal.τ).loc Cert.KeyUpWeightRefIdeal.main_arg0) = m' ((c.tc : Thread Cert.KeyUpWeightRefIdeal.nD Cert.KeyUpWeightRefIdeal.τ).loc Cert.KeyUpWeightRefIdeal.main_arg0)
          ∧ r.2.mem ((c.tc : Thread Cert.KeyUpWeightRefIdeal.nD Cert.KeyUpWeightRefIdeal.τ).loc Cert.KeyUpWeightRefIdeal.main_arg1) = m' ((c.tc : Thread Cert.KeyUpWeightRefIdeal.nD Cert.KeyUpWeightRefIdeal.τ).loc Cert.KeyUpWeightRefIdeal.main_arg1))

def preserves_KeyUpProj_KeyUpProjIdeal : Prop :=
  True

def algebraic_KeyUpProjIdeal_KeyUpProjRefIdeal [hKeyUpProjIdeal : Cert.KeyUpProjIdeal.Facts] [hKeyUpProjRefIdeal : Cert.KeyUpProjRefIdeal.Facts] : Prop :=
  ∀ (m : (ℓ : Loc Cert.KeyUpProjIdeal.nD Cert.KeyUpProjIdeal.τ Cert.KeyUpProjIdeal.sig) → Buf (Elt Ideal) ℓ) (g : Dev Cert.KeyUpProjIdeal.nD → PrngReg)
    (m' : (ℓ : Loc Cert.KeyUpProjRefIdeal.nD Cert.KeyUpProjRefIdeal.τ Cert.KeyUpProjRefIdeal.sig) → Buf (Elt Ideal) ℓ) (g' : Dev Cert.KeyUpProjRefIdeal.nD → PrngReg), Pre_KeyUpProjIdeal m →
    (∀ c : Dev Cert.KeyUpProjIdeal.nD,
      m' ((c.tc : Thread Cert.KeyUpProjRefIdeal.nD Cert.KeyUpProjRefIdeal.τ).loc Cert.KeyUpProjRefIdeal.main_arg0) = m ((c.tc : Thread Cert.KeyUpProjIdeal.nD Cert.KeyUpProjIdeal.τ).loc Cert.KeyUpProjIdeal.main_arg0)
      ∧ m' ((c.tc : Thread Cert.KeyUpProjRefIdeal.nD Cert.KeyUpProjRefIdeal.τ).loc Cert.KeyUpProjRefIdeal.main_arg1) = m ((c.tc : Thread Cert.KeyUpProjIdeal.nD Cert.KeyUpProjIdeal.τ).loc Cert.KeyUpProjIdeal.main_arg1)) →
    ∃ (v0 : (c : Dev Cert.KeyUpProjIdeal.nD) → Buf (Elt Ideal) ((c.tc : Thread Cert.KeyUpProjIdeal.nD Cert.KeyUpProjIdeal.τ).loc Cert.KeyUpProjIdeal.main_v1)),
      θ_run (Cert.KeyUpProjIdeal.defs (F := Ideal)) (onTc (τ := Cert.KeyUpProjIdeal.τ) (Cert.KeyUpProjIdeal.main (F := Ideal))) ⟨m, fun _ => 0, g⟩ (fun r => ∀ c : Dev Cert.KeyUpProjIdeal.nD,
          r.2.mem ((c.tc : Thread Cert.KeyUpProjIdeal.nD Cert.KeyUpProjIdeal.τ).loc Cert.KeyUpProjIdeal.main_v1) = v0 c
          ∧ r.2.mem ((c.tc : Thread Cert.KeyUpProjIdeal.nD Cert.KeyUpProjIdeal.τ).loc Cert.KeyUpProjIdeal.main_arg0) = m ((c.tc : Thread Cert.KeyUpProjIdeal.nD Cert.KeyUpProjIdeal.τ).loc Cert.KeyUpProjIdeal.main_arg0)
          ∧ r.2.mem ((c.tc : Thread Cert.KeyUpProjIdeal.nD Cert.KeyUpProjIdeal.τ).loc Cert.KeyUpProjIdeal.main_arg1) = m ((c.tc : Thread Cert.KeyUpProjIdeal.nD Cert.KeyUpProjIdeal.τ).loc Cert.KeyUpProjIdeal.main_arg1))
      ∧ θ_run (Cert.KeyUpProjRefIdeal.defs (F := Ideal)) (onTc (τ := Cert.KeyUpProjRefIdeal.τ) (Cert.KeyUpProjRefIdeal.main (F := Ideal))) ⟨m', fun _ => 0, g'⟩ (fun r => ∀ c : Dev Cert.KeyUpProjRefIdeal.nD,
          r.2.mem ((c.tc : Thread Cert.KeyUpProjRefIdeal.nD Cert.KeyUpProjRefIdeal.τ).loc Cert.KeyUpProjRefIdeal.main_v1) = v0 c
          ∧ r.2.mem ((c.tc : Thread Cert.KeyUpProjRefIdeal.nD Cert.KeyUpProjRefIdeal.τ).loc Cert.KeyUpProjRefIdeal.main_arg0) = m' ((c.tc : Thread Cert.KeyUpProjRefIdeal.nD Cert.KeyUpProjRefIdeal.τ).loc Cert.KeyUpProjRefIdeal.main_arg0)
          ∧ r.2.mem ((c.tc : Thread Cert.KeyUpProjRefIdeal.nD Cert.KeyUpProjRefIdeal.τ).loc Cert.KeyUpProjRefIdeal.main_arg1) = m' ((c.tc : Thread Cert.KeyUpProjRefIdeal.nD Cert.KeyUpProjRefIdeal.τ).loc Cert.KeyUpProjRefIdeal.main_arg1))

def preserves_LatentFwd_LatentFwdIdeal : Prop :=
  True

def algebraic_LatentFwdIdeal_LatentFwdRefIdeal_pre_reals [hLatentFwdIdeal : Cert.LatentFwdIdeal.Facts] [hLatentFwdRefIdeal : Cert.LatentFwdRefIdeal.Facts] [hPre_reals : Cert.Pre_reals.Facts] : Prop :=
  ∀ (m : (ℓ : Loc Cert.LatentFwdIdeal.nD Cert.LatentFwdIdeal.τ Cert.LatentFwdIdeal.sig) → Buf (Elt Ideal) ℓ) (g : Dev Cert.LatentFwdIdeal.nD → PrngReg)
    (m' : (ℓ : Loc Cert.LatentFwdRefIdeal.nD Cert.LatentFwdRefIdeal.τ Cert.LatentFwdRefIdeal.sig) → Buf (Elt Ideal) ℓ) (g' : Dev Cert.LatentFwdRefIdeal.nD → PrngReg), Pre_LatentFwdIdeal_reals m →
    (∀ c : Dev Cert.LatentFwdIdeal.nD,
      m' ((c.tc : Thread Cert.LatentFwdRefIdeal.nD Cert.LatentFwdRefIdeal.τ).loc Cert.LatentFwdRefIdeal.main_arg0) = m ((c.tc : Thread Cert.LatentFwdIdeal.nD Cert.LatentFwdIdeal.τ).loc Cert.LatentFwdIdeal.main_arg0)
      ∧ m' ((c.tc : Thread Cert.LatentFwdRefIdeal.nD Cert.LatentFwdRefIdeal.τ).loc Cert.LatentFwdRefIdeal.main_arg1) = m ((c.tc : Thread Cert.LatentFwdIdeal.nD Cert.LatentFwdIdeal.τ).loc Cert.LatentFwdIdeal.main_arg1)
      ∧ m' ((c.tc : Thread Cert.LatentFwdRefIdeal.nD Cert.LatentFwdRefIdeal.τ).loc Cert.LatentFwdRefIdeal.main_arg2) = m ((c.tc : Thread Cert.LatentFwdIdeal.nD Cert.LatentFwdIdeal.τ).loc Cert.LatentFwdIdeal.main_arg2)
      ∧ m' ((c.tc : Thread Cert.LatentFwdRefIdeal.nD Cert.LatentFwdRefIdeal.τ).loc Cert.LatentFwdRefIdeal.main_arg3) = m ((c.tc : Thread Cert.LatentFwdIdeal.nD Cert.LatentFwdIdeal.τ).loc Cert.LatentFwdIdeal.main_arg3)
      ∧ m' ((c.tc : Thread Cert.LatentFwdRefIdeal.nD Cert.LatentFwdRefIdeal.τ).loc Cert.LatentFwdRefIdeal.main_arg4) = m ((c.tc : Thread Cert.LatentFwdIdeal.nD Cert.LatentFwdIdeal.τ).loc Cert.LatentFwdIdeal.main_arg4)) →
    ∃ (v0 : (c : Dev Cert.LatentFwdIdeal.nD) → Buf (Elt Ideal) ((c.tc : Thread Cert.LatentFwdIdeal.nD Cert.LatentFwdIdeal.τ).loc Cert.LatentFwdIdeal.main_v0_0)) (v1 : (c : Dev Cert.LatentFwdIdeal.nD) → Buf (Elt Ideal) ((c.tc : Thread Cert.LatentFwdIdeal.nD Cert.LatentFwdIdeal.τ).loc Cert.LatentFwdIdeal.main_v0_1)),
      θ_run (Cert.LatentFwdIdeal.defs (F := Ideal)) (onTc (τ := Cert.LatentFwdIdeal.τ) (Cert.LatentFwdIdeal.main (F := Ideal))) ⟨m, fun _ => 0, g⟩ (fun r => ∀ c : Dev Cert.LatentFwdIdeal.nD,
          r.2.mem ((c.tc : Thread Cert.LatentFwdIdeal.nD Cert.LatentFwdIdeal.τ).loc Cert.LatentFwdIdeal.main_v0_0) = v0 c
          ∧ r.2.mem ((c.tc : Thread Cert.LatentFwdIdeal.nD Cert.LatentFwdIdeal.τ).loc Cert.LatentFwdIdeal.main_v0_1) = v1 c
          ∧ r.2.mem ((c.tc : Thread Cert.LatentFwdIdeal.nD Cert.LatentFwdIdeal.τ).loc Cert.LatentFwdIdeal.main_arg0) = m ((c.tc : Thread Cert.LatentFwdIdeal.nD Cert.LatentFwdIdeal.τ).loc Cert.LatentFwdIdeal.main_arg0)
          ∧ r.2.mem ((c.tc : Thread Cert.LatentFwdIdeal.nD Cert.LatentFwdIdeal.τ).loc Cert.LatentFwdIdeal.main_arg1) = m ((c.tc : Thread Cert.LatentFwdIdeal.nD Cert.LatentFwdIdeal.τ).loc Cert.LatentFwdIdeal.main_arg1)
          ∧ r.2.mem ((c.tc : Thread Cert.LatentFwdIdeal.nD Cert.LatentFwdIdeal.τ).loc Cert.LatentFwdIdeal.main_arg2) = m ((c.tc : Thread Cert.LatentFwdIdeal.nD Cert.LatentFwdIdeal.τ).loc Cert.LatentFwdIdeal.main_arg2)
          ∧ r.2.mem ((c.tc : Thread Cert.LatentFwdIdeal.nD Cert.LatentFwdIdeal.τ).loc Cert.LatentFwdIdeal.main_arg3) = m ((c.tc : Thread Cert.LatentFwdIdeal.nD Cert.LatentFwdIdeal.τ).loc Cert.LatentFwdIdeal.main_arg3)
          ∧ r.2.mem ((c.tc : Thread Cert.LatentFwdIdeal.nD Cert.LatentFwdIdeal.τ).loc Cert.LatentFwdIdeal.main_arg4) = m ((c.tc : Thread Cert.LatentFwdIdeal.nD Cert.LatentFwdIdeal.τ).loc Cert.LatentFwdIdeal.main_arg4))
      ∧ θ_run (Cert.LatentFwdRefIdeal.defs (F := Ideal)) (onTc (τ := Cert.LatentFwdRefIdeal.τ) (Cert.LatentFwdRefIdeal.main (F := Ideal))) ⟨m', fun _ => 0, g'⟩ (fun r => ∀ c : Dev Cert.LatentFwdRefIdeal.nD,
          r.2.mem ((c.tc : Thread Cert.LatentFwdRefIdeal.nD Cert.LatentFwdRefIdeal.τ).loc Cert.LatentFwdRefIdeal.main_v36) = v0 c
          ∧ r.2.mem ((c.tc : Thread Cert.LatentFwdRefIdeal.nD Cert.LatentFwdRefIdeal.τ).loc Cert.LatentFwdRefIdeal.main_v39) = v1 c
          ∧ r.2.mem ((c.tc : Thread Cert.LatentFwdRefIdeal.nD Cert.LatentFwdRefIdeal.τ).loc Cert.LatentFwdRefIdeal.main_arg0) = m' ((c.tc : Thread Cert.LatentFwdRefIdeal.nD Cert.LatentFwdRefIdeal.τ).loc Cert.LatentFwdRefIdeal.main_arg0)
          ∧ r.2.mem ((c.tc : Thread Cert.LatentFwdRefIdeal.nD Cert.LatentFwdRefIdeal.τ).loc Cert.LatentFwdRefIdeal.main_arg1) = m' ((c.tc : Thread Cert.LatentFwdRefIdeal.nD Cert.LatentFwdRefIdeal.τ).loc Cert.LatentFwdRefIdeal.main_arg1)
          ∧ r.2.mem ((c.tc : Thread Cert.LatentFwdRefIdeal.nD Cert.LatentFwdRefIdeal.τ).loc Cert.LatentFwdRefIdeal.main_arg2) = m' ((c.tc : Thread Cert.LatentFwdRefIdeal.nD Cert.LatentFwdRefIdeal.τ).loc Cert.LatentFwdRefIdeal.main_arg2)
          ∧ r.2.mem ((c.tc : Thread Cert.LatentFwdRefIdeal.nD Cert.LatentFwdRefIdeal.τ).loc Cert.LatentFwdRefIdeal.main_arg3) = m' ((c.tc : Thread Cert.LatentFwdRefIdeal.nD Cert.LatentFwdRefIdeal.τ).loc Cert.LatentFwdRefIdeal.main_arg3)
          ∧ r.2.mem ((c.tc : Thread Cert.LatentFwdRefIdeal.nD Cert.LatentFwdRefIdeal.τ).loc Cert.LatentFwdRefIdeal.main_arg4) = m' ((c.tc : Thread Cert.LatentFwdRefIdeal.nD Cert.LatentFwdRefIdeal.τ).loc Cert.LatentFwdRefIdeal.main_arg4))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_SumParts_SumPartsIdeal : Prop :=
  True

def algebraic_SumPartsIdeal_SumPartsRefIdeal [hSumPartsIdeal : Cert.SumPartsIdeal.Facts] [hSumPartsRefIdeal : Cert.SumPartsRefIdeal.Facts] : Prop :=
  ∀ (m : (ℓ : Loc Cert.SumPartsIdeal.nD Cert.SumPartsIdeal.τ Cert.SumPartsIdeal.sig) → Buf (Elt Ideal) ℓ) (g : Dev Cert.SumPartsIdeal.nD → PrngReg)
    (m' : (ℓ : Loc Cert.SumPartsRefIdeal.nD Cert.SumPartsRefIdeal.τ Cert.SumPartsRefIdeal.sig) → Buf (Elt Ideal) ℓ) (g' : Dev Cert.SumPartsRefIdeal.nD → PrngReg), Pre_SumPartsIdeal m →
    (∀ c : Dev Cert.SumPartsIdeal.nD,
      m' ((c.tc : Thread Cert.SumPartsRefIdeal.nD Cert.SumPartsRefIdeal.τ).loc Cert.SumPartsRefIdeal.main_arg0) = m ((c.tc : Thread Cert.SumPartsIdeal.nD Cert.SumPartsIdeal.τ).loc Cert.SumPartsIdeal.main_arg0)) →
    ∃ (v0 : (c : Dev Cert.SumPartsIdeal.nD) → Buf (Elt Ideal) ((c.tc : Thread Cert.SumPartsIdeal.nD Cert.SumPartsIdeal.τ).loc Cert.SumPartsIdeal.main_v0)),
      θ_run (Cert.SumPartsIdeal.defs (F := Ideal)) (onTc (τ := Cert.SumPartsIdeal.τ) (Cert.SumPartsIdeal.main (F := Ideal))) ⟨m, fun _ => 0, g⟩ (fun r => ∀ c : Dev Cert.SumPartsIdeal.nD,
          r.2.mem ((c.tc : Thread Cert.SumPartsIdeal.nD Cert.SumPartsIdeal.τ).loc Cert.SumPartsIdeal.main_v0) = v0 c
          ∧ r.2.mem ((c.tc : Thread Cert.SumPartsIdeal.nD Cert.SumPartsIdeal.τ).loc Cert.SumPartsIdeal.main_arg0) = m ((c.tc : Thread Cert.SumPartsIdeal.nD Cert.SumPartsIdeal.τ).loc Cert.SumPartsIdeal.main_arg0))
      ∧ θ_run (Cert.SumPartsRefIdeal.defs (F := Ideal)) (onTc (τ := Cert.SumPartsRefIdeal.τ) (Cert.SumPartsRefIdeal.main (F := Ideal))) ⟨m', fun _ => 0, g'⟩ (fun r => ∀ c : Dev Cert.SumPartsRefIdeal.nD,
          r.2.mem ((c.tc : Thread Cert.SumPartsRefIdeal.nD Cert.SumPartsRefIdeal.τ).loc Cert.SumPartsRefIdeal.main_v1) = v0 c
          ∧ r.2.mem ((c.tc : Thread Cert.SumPartsRefIdeal.nD Cert.SumPartsRefIdeal.τ).loc Cert.SumPartsRefIdeal.main_arg0) = m' ((c.tc : Thread Cert.SumPartsRefIdeal.nD Cert.SumPartsRefIdeal.τ).loc Cert.SumPartsRefIdeal.main_arg0))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v1)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v1) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v13) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_UpdGateUp_UpdGateUpIdeal : Prop :=
  True

def algebraic_UpdGateUpIdeal_UpdGateUpRefIdeal [hUpdGateUpIdeal : Cert.UpdGateUpIdeal.Facts] [hUpdGateUpRefIdeal : Cert.UpdGateUpRefIdeal.Facts] [hPre_device : Cert.Pre_device.Facts] : Prop :=
  ∀ (m : (ℓ : Loc Cert.UpdGateUpIdeal.nD Cert.UpdGateUpIdeal.τ Cert.UpdGateUpIdeal.sig) → Buf (Elt Ideal) ℓ) (g : Dev Cert.UpdGateUpIdeal.nD → PrngReg)
    (m' : (ℓ : Loc Cert.UpdGateUpRefIdeal.nD Cert.UpdGateUpRefIdeal.τ Cert.UpdGateUpRefIdeal.sig) → Buf (Elt Ideal) ℓ) (g' : Dev Cert.UpdGateUpRefIdeal.nD → PrngReg), Pre_UpdGateUpIdeal m →
    (∀ c : Dev Cert.UpdGateUpIdeal.nD,
      m' ((c.tc : Thread Cert.UpdGateUpRefIdeal.nD Cert.UpdGateUpRefIdeal.τ).loc Cert.UpdGateUpRefIdeal.main_arg0) = m ((c.tc : Thread Cert.UpdGateUpIdeal.nD Cert.UpdGateUpIdeal.τ).loc Cert.UpdGateUpIdeal.main_arg0)
      ∧ m' ((c.tc : Thread Cert.UpdGateUpRefIdeal.nD Cert.UpdGateUpRefIdeal.τ).loc Cert.UpdGateUpRefIdeal.main_arg1) = m ((c.tc : Thread Cert.UpdGateUpIdeal.nD Cert.UpdGateUpIdeal.τ).loc Cert.UpdGateUpIdeal.main_arg1)
      ∧ m' ((c.tc : Thread Cert.UpdGateUpRefIdeal.nD Cert.UpdGateUpRefIdeal.τ).loc Cert.UpdGateUpRefIdeal.main_arg2) = m ((c.tc : Thread Cert.UpdGateUpIdeal.nD Cert.UpdGateUpIdeal.τ).loc Cert.UpdGateUpIdeal.main_arg2)
      ∧ m' ((c.tc : Thread Cert.UpdGateUpRefIdeal.nD Cert.UpdGateUpRefIdeal.τ).loc Cert.UpdGateUpRefIdeal.main_arg3) = m ((c.tc : Thread Cert.UpdGateUpIdeal.nD Cert.UpdGateUpIdeal.τ).loc Cert.UpdGateUpIdeal.main_arg3)
      ∧ m' ((c.tc : Thread Cert.UpdGateUpRefIdeal.nD Cert.UpdGateUpRefIdeal.τ).loc Cert.UpdGateUpRefIdeal.main_arg4) = m ((c.tc : Thread Cert.UpdGateUpIdeal.nD Cert.UpdGateUpIdeal.τ).loc Cert.UpdGateUpIdeal.main_arg4)
      ∧ m' ((c.tc : Thread Cert.UpdGateUpRefIdeal.nD Cert.UpdGateUpRefIdeal.τ).loc Cert.UpdGateUpRefIdeal.main_arg5) = m ((c.tc : Thread Cert.UpdGateUpIdeal.nD Cert.UpdGateUpIdeal.τ).loc Cert.UpdGateUpIdeal.main_arg5)) →
    ∃ (v0 : (c : Dev Cert.UpdGateUpIdeal.nD) → Buf (Elt Ideal) ((c.tc : Thread Cert.UpdGateUpIdeal.nD Cert.UpdGateUpIdeal.τ).loc Cert.UpdGateUpIdeal.main_v0_0)) (v1 : (c : Dev Cert.UpdGateUpIdeal.nD) → Buf (Elt Ideal) ((c.tc : Thread Cert.UpdGateUpIdeal.nD Cert.UpdGateUpIdeal.τ).loc Cert.UpdGateUpIdeal.main_v0_1)) (v2 : (c : Dev Cert.UpdGateUpIdeal.nD) → Buf (Elt Ideal) ((c.tc : Thread Cert.UpdGateUpIdeal.nD Cert.UpdGateUpIdeal.τ).loc Cert.UpdGateUpIdeal.main_v0_2)) (v3 : (c : Dev Cert.UpdGateUpIdeal.nD) → Buf (Elt Ideal) ((c.tc : Thread Cert.UpdGateUpIdeal.nD Cert.UpdGateUpIdeal.τ).loc Cert.UpdGateUpIdeal.main_v0_3)),
      θ_run (Cert.UpdGateUpIdeal.defs (F := Ideal)) (onTc (τ := Cert.UpdGateUpIdeal.τ) (Cert.UpdGateUpIdeal.main (F := Ideal))) ⟨m, fun _ => 0, g⟩ (fun r => ∀ c : Dev Cert.UpdGateUpIdeal.nD,
          r.2.mem ((c.tc : Thread Cert.UpdGateUpIdeal.nD Cert.UpdGateUpIdeal.τ).loc Cert.UpdGateUpIdeal.main_v0_0) = v0 c
          ∧ r.2.mem ((c.tc : Thread Cert.UpdGateUpIdeal.nD Cert.UpdGateUpIdeal.τ).loc Cert.UpdGateUpIdeal.main_v0_1) = v1 c
          ∧ r.2.mem ((c.tc : Thread Cert.UpdGateUpIdeal.nD Cert.UpdGateUpIdeal.τ).loc Cert.UpdGateUpIdeal.main_v0_2) = v2 c
          ∧ r.2.mem ((c.tc : Thread Cert.UpdGateUpIdeal.nD Cert.UpdGateUpIdeal.τ).loc Cert.UpdGateUpIdeal.main_v0_3) = v3 c
          ∧ r.2.mem ((c.tc : Thread Cert.UpdGateUpIdeal.nD Cert.UpdGateUpIdeal.τ).loc Cert.UpdGateUpIdeal.main_arg0) = m ((c.tc : Thread Cert.UpdGateUpIdeal.nD Cert.UpdGateUpIdeal.τ).loc Cert.UpdGateUpIdeal.main_arg0)
          ∧ r.2.mem ((c.tc : Thread Cert.UpdGateUpIdeal.nD Cert.UpdGateUpIdeal.τ).loc Cert.UpdGateUpIdeal.main_arg1) = m ((c.tc : Thread Cert.UpdGateUpIdeal.nD Cert.UpdGateUpIdeal.τ).loc Cert.UpdGateUpIdeal.main_arg1)
          ∧ r.2.mem ((c.tc : Thread Cert.UpdGateUpIdeal.nD Cert.UpdGateUpIdeal.τ).loc Cert.UpdGateUpIdeal.main_arg2) = m ((c.tc : Thread Cert.UpdGateUpIdeal.nD Cert.UpdGateUpIdeal.τ).loc Cert.UpdGateUpIdeal.main_arg2)
          ∧ r.2.mem ((c.tc : Thread Cert.UpdGateUpIdeal.nD Cert.UpdGateUpIdeal.τ).loc Cert.UpdGateUpIdeal.main_arg3) = m ((c.tc : Thread Cert.UpdGateUpIdeal.nD Cert.UpdGateUpIdeal.τ).loc Cert.UpdGateUpIdeal.main_arg3)
          ∧ r.2.mem ((c.tc : Thread Cert.UpdGateUpIdeal.nD Cert.UpdGateUpIdeal.τ).loc Cert.UpdGateUpIdeal.main_arg4) = m ((c.tc : Thread Cert.UpdGateUpIdeal.nD Cert.UpdGateUpIdeal.τ).loc Cert.UpdGateUpIdeal.main_arg4)
          ∧ r.2.mem ((c.tc : Thread Cert.UpdGateUpIdeal.nD Cert.UpdGateUpIdeal.τ).loc Cert.UpdGateUpIdeal.main_arg5) = m ((c.tc : Thread Cert.UpdGateUpIdeal.nD Cert.UpdGateUpIdeal.τ).loc Cert.UpdGateUpIdeal.main_arg5))
      ∧ θ_run (Cert.UpdGateUpRefIdeal.defs (F := Ideal)) (onTc (τ := Cert.UpdGateUpRefIdeal.τ) (Cert.UpdGateUpRefIdeal.main (F := Ideal))) ⟨m', fun _ => 0, g'⟩ (fun r => ∀ c : Dev Cert.UpdGateUpRefIdeal.nD,
          r.2.mem ((c.tc : Thread Cert.UpdGateUpRefIdeal.nD Cert.UpdGateUpRefIdeal.τ).loc Cert.UpdGateUpRefIdeal.main_v7) = v0 c
          ∧ r.2.mem ((c.tc : Thread Cert.UpdGateUpRefIdeal.nD Cert.UpdGateUpRefIdeal.τ).loc Cert.UpdGateUpRefIdeal.main_v31) = v1 c
          ∧ r.2.mem ((c.tc : Thread Cert.UpdGateUpRefIdeal.nD Cert.UpdGateUpRefIdeal.τ).loc Cert.UpdGateUpRefIdeal.main_v12) = v2 c
          ∧ r.2.mem ((c.tc : Thread Cert.UpdGateUpRefIdeal.nD Cert.UpdGateUpRefIdeal.τ).loc Cert.UpdGateUpRefIdeal.main_v18) = v3 c
          ∧ r.2.mem ((c.tc : Thread Cert.UpdGateUpRefIdeal.nD Cert.UpdGateUpRefIdeal.τ).loc Cert.UpdGateUpRefIdeal.main_arg0) = m' ((c.tc : Thread Cert.UpdGateUpRefIdeal.nD Cert.UpdGateUpRefIdeal.τ).loc Cert.UpdGateUpRefIdeal.main_arg0)
          ∧ r.2.mem ((c.tc : Thread Cert.UpdGateUpRefIdeal.nD Cert.UpdGateUpRefIdeal.τ).loc Cert.UpdGateUpRefIdeal.main_arg1) = m' ((c.tc : Thread Cert.UpdGateUpRefIdeal.nD Cert.UpdGateUpRefIdeal.τ).loc Cert.UpdGateUpRefIdeal.main_arg1)
          ∧ r.2.mem ((c.tc : Thread Cert.UpdGateUpRefIdeal.nD Cert.UpdGateUpRefIdeal.τ).loc Cert.UpdGateUpRefIdeal.main_arg2) = m' ((c.tc : Thread Cert.UpdGateUpRefIdeal.nD Cert.UpdGateUpRefIdeal.τ).loc Cert.UpdGateUpRefIdeal.main_arg2)
          ∧ r.2.mem ((c.tc : Thread Cert.UpdGateUpRefIdeal.nD Cert.UpdGateUpRefIdeal.τ).loc Cert.UpdGateUpRefIdeal.main_arg3) = m' ((c.tc : Thread Cert.UpdGateUpRefIdeal.nD Cert.UpdGateUpRefIdeal.τ).loc Cert.UpdGateUpRefIdeal.main_arg3)
          ∧ r.2.mem ((c.tc : Thread Cert.UpdGateUpRefIdeal.nD Cert.UpdGateUpRefIdeal.τ).loc Cert.UpdGateUpRefIdeal.main_arg4) = m' ((c.tc : Thread Cert.UpdGateUpRefIdeal.nD Cert.UpdGateUpRefIdeal.τ).loc Cert.UpdGateUpRefIdeal.main_arg4)
          ∧ r.2.mem ((c.tc : Thread Cert.UpdGateUpRefIdeal.nD Cert.UpdGateUpRefIdeal.τ).loc Cert.UpdGateUpRefIdeal.main_arg5) = m' ((c.tc : Thread Cert.UpdGateUpRefIdeal.nD Cert.UpdGateUpRefIdeal.τ).loc Cert.UpdGateUpRefIdeal.main_arg5))

def Claim : Prop :=
  ∃ (hKernel : Cert.Kernel.Facts) (hKernelIdeal : Cert.KernelIdeal.Facts) (hReferenceIdeal : Cert.ReferenceIdeal.Facts) (hGateGrad : Cert.GateGrad.Facts) (hGateGradIdeal : Cert.GateGradIdeal.Facts) (hGateGradRefIdeal : Cert.GateGradRefIdeal.Facts) (hHiddenGrad : Cert.HiddenGrad.Facts) (hHiddenGradIdeal : Cert.HiddenGradIdeal.Facts) (hHiddenGradRefIdeal : Cert.HiddenGradRefIdeal.Facts) (hDownWeight : Cert.DownWeight.Facts) (hDownWeightIdeal : Cert.DownWeightIdeal.Facts) (hDownWeightRefIdeal : Cert.DownWeightRefIdeal.Facts) (hGateWeight : Cert.GateWeight.Facts) (hGateWeightIdeal : Cert.GateWeightIdeal.Facts) (hGateWeightRefIdeal : Cert.GateWeightRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hInGrad : Cert.InGrad.Facts) (hInGradIdeal : Cert.InGradIdeal.Facts) (hInGradRefIdeal : Cert.InGradRefIdeal.Facts) (hInWeight : Cert.InWeight.Facts) (hInWeightIdeal : Cert.InWeightIdeal.Facts) (hInWeightRefIdeal : Cert.InWeightRefIdeal.Facts) (hInProj : Cert.InProj.Facts) (hInProjIdeal : Cert.InProjIdeal.Facts) (hInProjRefIdeal : Cert.InProjRefIdeal.Facts) (hQkvGrad : Cert.QkvGrad.Facts) (hQkvGradIdeal : Cert.QkvGradIdeal.Facts) (hQkvGradRefIdeal : Cert.QkvGradRefIdeal.Facts) (hQkvWeight : Cert.QkvWeight.Facts) (hQkvWeightIdeal : Cert.QkvWeightIdeal.Facts) (hQkvWeightRefIdeal : Cert.QkvWeightRefIdeal.Facts) (hQkvProj : Cert.QkvProj.Facts) (hQkvProjIdeal : Cert.QkvProjIdeal.Facts) (hQkvProjRefIdeal : Cert.QkvProjRefIdeal.Facts) (hOutGrad : Cert.OutGrad.Facts) (hOutGradIdeal : Cert.OutGradIdeal.Facts) (hOutGradRefIdeal : Cert.OutGradRefIdeal.Facts) (hOutWeight : Cert.OutWeight.Facts) (hOutWeightIdeal : Cert.OutWeightIdeal.Facts) (hOutWeightRefIdeal : Cert.OutWeightRefIdeal.Facts) (hOutProj : Cert.OutProj.Facts) (hOutProjIdeal : Cert.OutProjIdeal.Facts) (hOutProjRefIdeal : Cert.OutProjRefIdeal.Facts) (hAttOutProj : Cert.AttOutProj.Facts) (hAttOutProjIdeal : Cert.AttOutProjIdeal.Facts) (hAttOutProjRefIdeal : Cert.AttOutProjRefIdeal.Facts) (hAttOutWeight : Cert.AttOutWeight.Facts) (hAttOutWeightIdeal : Cert.AttOutWeightIdeal.Facts) (hAttOutWeightRefIdeal : Cert.AttOutWeightRefIdeal.Facts) (hLatDownGrad : Cert.LatDownGrad.Facts) (hLatDownGradIdeal : Cert.LatDownGradIdeal.Facts) (hLatDownGradRefIdeal : Cert.LatDownGradRefIdeal.Facts) (hLatDownWeight : Cert.LatDownWeight.Facts) (hLatDownWeightIdeal : Cert.LatDownWeightIdeal.Facts) (hLatDownWeightRefIdeal : Cert.LatDownWeightRefIdeal.Facts) (hLatDownProj : Cert.LatDownProj.Facts) (hLatDownProjIdeal : Cert.LatDownProjIdeal.Facts) (hLatDownProjRefIdeal : Cert.LatDownProjRefIdeal.Facts) (hQueryUpGrad : Cert.QueryUpGrad.Facts) (hQueryUpGradIdeal : Cert.QueryUpGradIdeal.Facts) (hQueryUpGradRefIdeal : Cert.QueryUpGradRefIdeal.Facts) (hQueryUpWeight : Cert.QueryUpWeight.Facts) (hQueryUpWeightIdeal : Cert.QueryUpWeightIdeal.Facts) (hQueryUpWeightRefIdeal : Cert.QueryUpWeightRefIdeal.Facts) (hQueryUpProj : Cert.QueryUpProj.Facts) (hQueryUpProjIdeal : Cert.QueryUpProjIdeal.Facts) (hQueryUpProjRefIdeal : Cert.QueryUpProjRefIdeal.Facts) (hKeyUpGrad : Cert.KeyUpGrad.Facts) (hKeyUpGradIdeal : Cert.KeyUpGradIdeal.Facts) (hKeyUpGradRefIdeal : Cert.KeyUpGradRefIdeal.Facts) (hKeyUpWeight : Cert.KeyUpWeight.Facts) (hKeyUpWeightIdeal : Cert.KeyUpWeightIdeal.Facts) (hKeyUpWeightRefIdeal : Cert.KeyUpWeightRefIdeal.Facts) (hKeyUpProj : Cert.KeyUpProj.Facts) (hKeyUpProjIdeal : Cert.KeyUpProjIdeal.Facts) (hKeyUpProjRefIdeal : Cert.KeyUpProjRefIdeal.Facts) (hLatentFwd : Cert.LatentFwd.Facts) (hLatentFwdIdeal : Cert.LatentFwdIdeal.Facts) (hLatentFwdRefIdeal : Cert.LatentFwdRefIdeal.Facts) (hAdamSmall : Cert.AdamSmall.Facts) (hAdamSmallIdeal : Cert.AdamSmallIdeal.Facts) (hAdamSmallRefIdeal : Cert.AdamSmallRefIdeal.Facts) (hSumParts : Cert.SumParts.Facts) (hSumPartsIdeal : Cert.SumPartsIdeal.Facts) (hSumPartsRefIdeal : Cert.SumPartsRefIdeal.Facts) (hNormFwd : Cert.NormFwd.Facts) (hNormFwdIdeal : Cert.NormFwdIdeal.Facts) (hNormFwdRefIdeal : Cert.NormFwdRefIdeal.Facts) (hUpdGateUp : Cert.UpdGateUp.Facts) (hUpdGateUpIdeal : Cert.UpdGateUpIdeal.Facts) (hUpdGateUpRefIdeal : Cert.UpdGateUpRefIdeal.Facts) (hPre_finite : Cert.Pre_finite.Facts) (hPre_numbers : Cert.Pre_numbers.Facts) (hPre_reals : Cert.Pre_reals.Facts) (hPre_device : Cert.Pre_device.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_GateGrad (hGateGrad := hGateGrad)
    ∧ quiescent_GateGradIdeal (hGateGradIdeal := hGateGradIdeal)
    ∧ quiescent_GateGradIdeal_pre_numbers (hGateGradIdeal := hGateGradIdeal) (hPre_numbers := hPre_numbers)
    ∧ quiescent_GateGradRefIdeal (hGateGradRefIdeal := hGateGradRefIdeal)
    ∧ quiescent_GateGradRefIdeal_pre_numbers (hGateGradRefIdeal := hGateGradRefIdeal) (hPre_numbers := hPre_numbers)
    ∧ quiescent_HiddenGrad (hHiddenGrad := hHiddenGrad)
    ∧ quiescent_HiddenGradIdeal (hHiddenGradIdeal := hHiddenGradIdeal)
    ∧ quiescent_HiddenGradRefIdeal (hHiddenGradRefIdeal := hHiddenGradRefIdeal)
    ∧ quiescent_DownWeight (hDownWeight := hDownWeight)
    ∧ quiescent_DownWeightIdeal (hDownWeightIdeal := hDownWeightIdeal)
    ∧ quiescent_DownWeightRefIdeal (hDownWeightRefIdeal := hDownWeightRefIdeal)
    ∧ quiescent_GateWeight (hGateWeight := hGateWeight)
    ∧ quiescent_GateWeightIdeal (hGateWeightIdeal := hGateWeightIdeal)
    ∧ quiescent_GateWeightRefIdeal (hGateWeightRefIdeal := hGateWeightRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_InGrad (hInGrad := hInGrad)
    ∧ quiescent_InGradIdeal (hInGradIdeal := hInGradIdeal)
    ∧ quiescent_InGradRefIdeal (hInGradRefIdeal := hInGradRefIdeal)
    ∧ quiescent_InWeight (hInWeight := hInWeight)
    ∧ quiescent_InWeightIdeal (hInWeightIdeal := hInWeightIdeal)
    ∧ quiescent_InWeightRefIdeal (hInWeightRefIdeal := hInWeightRefIdeal)
    ∧ quiescent_InProj (hInProj := hInProj)
    ∧ quiescent_InProjIdeal (hInProjIdeal := hInProjIdeal)
    ∧ quiescent_InProjRefIdeal (hInProjRefIdeal := hInProjRefIdeal)
    ∧ quiescent_QkvGrad (hQkvGrad := hQkvGrad)
    ∧ quiescent_QkvGradIdeal (hQkvGradIdeal := hQkvGradIdeal)
    ∧ quiescent_QkvGradRefIdeal (hQkvGradRefIdeal := hQkvGradRefIdeal)
    ∧ quiescent_QkvWeight (hQkvWeight := hQkvWeight)
    ∧ quiescent_QkvWeightIdeal (hQkvWeightIdeal := hQkvWeightIdeal)
    ∧ quiescent_QkvWeightRefIdeal (hQkvWeightRefIdeal := hQkvWeightRefIdeal)
    ∧ quiescent_QkvProj (hQkvProj := hQkvProj)
    ∧ quiescent_QkvProjIdeal (hQkvProjIdeal := hQkvProjIdeal)
    ∧ quiescent_QkvProjRefIdeal (hQkvProjRefIdeal := hQkvProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_OutWeight (hOutWeight := hOutWeight)
    ∧ quiescent_OutWeightIdeal (hOutWeightIdeal := hOutWeightIdeal)
    ∧ quiescent_OutWeightRefIdeal (hOutWeightRefIdeal := hOutWeightRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AttOutProj (hAttOutProj := hAttOutProj)
    ∧ quiescent_AttOutProjIdeal (hAttOutProjIdeal := hAttOutProjIdeal)
    ∧ quiescent_AttOutProjRefIdeal (hAttOutProjRefIdeal := hAttOutProjRefIdeal)
    ∧ quiescent_AttOutWeight (hAttOutWeight := hAttOutWeight)
    ∧ quiescent_AttOutWeightIdeal (hAttOutWeightIdeal := hAttOutWeightIdeal)
    ∧ quiescent_AttOutWeightRefIdeal (hAttOutWeightRefIdeal := hAttOutWeightRefIdeal)
    ∧ quiescent_LatDownGrad (hLatDownGrad := hLatDownGrad)
    ∧ quiescent_LatDownGradIdeal (hLatDownGradIdeal := hLatDownGradIdeal)
    ∧ quiescent_LatDownGradRefIdeal (hLatDownGradRefIdeal := hLatDownGradRefIdeal)
    ∧ quiescent_LatDownWeight (hLatDownWeight := hLatDownWeight)
    ∧ quiescent_LatDownWeightIdeal (hLatDownWeightIdeal := hLatDownWeightIdeal)
    ∧ quiescent_LatDownWeightRefIdeal (hLatDownWeightRefIdeal := hLatDownWeightRefIdeal)
    ∧ quiescent_LatDownProj (hLatDownProj := hLatDownProj)
    ∧ quiescent_LatDownProjIdeal (hLatDownProjIdeal := hLatDownProjIdeal)
    ∧ quiescent_LatDownProjRefIdeal (hLatDownProjRefIdeal := hLatDownProjRefIdeal)
    ∧ quiescent_QueryUpGrad (hQueryUpGrad := hQueryUpGrad)
    ∧ quiescent_QueryUpGradIdeal (hQueryUpGradIdeal := hQueryUpGradIdeal)
    ∧ quiescent_QueryUpGradRefIdeal (hQueryUpGradRefIdeal := hQueryUpGradRefIdeal)
    ∧ quiescent_QueryUpWeight (hQueryUpWeight := hQueryUpWeight)
    ∧ quiescent_QueryUpWeightIdeal (hQueryUpWeightIdeal := hQueryUpWeightIdeal)
    ∧ quiescent_QueryUpWeightRefIdeal (hQueryUpWeightRefIdeal := hQueryUpWeightRefIdeal)
    ∧ quiescent_QueryUpProj (hQueryUpProj := hQueryUpProj)
    ∧ quiescent_QueryUpProjIdeal (hQueryUpProjIdeal := hQueryUpProjIdeal)
    ∧ quiescent_QueryUpProjRefIdeal (hQueryUpProjRefIdeal := hQueryUpProjRefIdeal)
    ∧ quiescent_KeyUpGrad (hKeyUpGrad := hKeyUpGrad)
    ∧ quiescent_KeyUpGradIdeal (hKeyUpGradIdeal := hKeyUpGradIdeal)
    ∧ quiescent_KeyUpGradRefIdeal (hKeyUpGradRefIdeal := hKeyUpGradRefIdeal)
    ∧ quiescent_KeyUpWeight (hKeyUpWeight := hKeyUpWeight)
    ∧ quiescent_KeyUpWeightIdeal (hKeyUpWeightIdeal := hKeyUpWeightIdeal)
    ∧ quiescent_KeyUpWeightRefIdeal (hKeyUpWeightRefIdeal := hKeyUpWeightRefIdeal)
    ∧ quiescent_KeyUpProj (hKeyUpProj := hKeyUpProj)
    ∧ quiescent_KeyUpProjIdeal (hKeyUpProjIdeal := hKeyUpProjIdeal)
    ∧ quiescent_KeyUpProjRefIdeal (hKeyUpProjRefIdeal := hKeyUpProjRefIdeal)
    ∧ quiescent_LatentFwd (hLatentFwd := hLatentFwd)
    ∧ quiescent_LatentFwdIdeal (hLatentFwdIdeal := hLatentFwdIdeal)
    ∧ quiescent_LatentFwdIdeal_pre_reals (hLatentFwdIdeal := hLatentFwdIdeal) (hPre_reals := hPre_reals)
    ∧ quiescent_LatentFwdRefIdeal (hLatentFwdRefIdeal := hLatentFwdRefIdeal)
    ∧ quiescent_LatentFwdRefIdeal_pre_reals (hLatentFwdRefIdeal := hLatentFwdRefIdeal) (hPre_reals := hPre_reals)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumParts (hSumParts := hSumParts)
    ∧ quiescent_SumPartsIdeal (hSumPartsIdeal := hSumPartsIdeal)
    ∧ quiescent_SumPartsRefIdeal (hSumPartsRefIdeal := hSumPartsRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_UpdGateUp (hUpdGateUp := hUpdGateUp) (hPre_device := hPre_device)
    ∧ quiescent_UpdGateUpIdeal (hUpdGateUpIdeal := hUpdGateUpIdeal) (hPre_device := hPre_device)
    ∧ quiescent_UpdGateUpRefIdeal (hUpdGateUpRefIdeal := hUpdGateUpRefIdeal)
    ∧ quiescent_UpdGateUpRefIdeal_pre_device (hUpdGateUpRefIdeal := hUpdGateUpRefIdeal) (hPre_device := hPre_device)
    ∧ preserves_Kernel_KernelIdeal
    ∧ algebraic_KernelIdeal_ReferenceIdeal_pre_finite (hKernelIdeal := hKernelIdeal) (hReferenceIdeal := hReferenceIdeal) (hPre_finite := hPre_finite)
    ∧ preserves_GateGrad_GateGradIdeal
    ∧ algebraic_GateGradIdeal_GateGradRefIdeal_pre_numbers (hGateGradIdeal := hGateGradIdeal) (hGateGradRefIdeal := hGateGradRefIdeal) (hPre_numbers := hPre_numbers)
    ∧ preserves_HiddenGrad_HiddenGradIdeal
    ∧ algebraic_HiddenGradIdeal_HiddenGradRefIdeal (hHiddenGradIdeal := hHiddenGradIdeal) (hHiddenGradRefIdeal := hHiddenGradRefIdeal)
    ∧ preserves_DownWeight_DownWeightIdeal
    ∧ algebraic_DownWeightIdeal_DownWeightRefIdeal (hDownWeightIdeal := hDownWeightIdeal) (hDownWeightRefIdeal := hDownWeightRefIdeal)
    ∧ preserves_GateWeight_GateWeightIdeal
    ∧ algebraic_GateWeightIdeal_GateWeightRefIdeal (hGateWeightIdeal := hGateWeightIdeal) (hGateWeightRefIdeal := hGateWeightRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_InGrad_InGradIdeal
    ∧ algebraic_InGradIdeal_InGradRefIdeal (hInGradIdeal := hInGradIdeal) (hInGradRefIdeal := hInGradRefIdeal)
    ∧ preserves_InWeight_InWeightIdeal
    ∧ algebraic_InWeightIdeal_InWeightRefIdeal (hInWeightIdeal := hInWeightIdeal) (hInWeightRefIdeal := hInWeightRefIdeal)
    ∧ preserves_InProj_InProjIdeal
    ∧ algebraic_InProjIdeal_InProjRefIdeal (hInProjIdeal := hInProjIdeal) (hInProjRefIdeal := hInProjRefIdeal)
    ∧ preserves_QkvGrad_QkvGradIdeal
    ∧ algebraic_QkvGradIdeal_QkvGradRefIdeal (hQkvGradIdeal := hQkvGradIdeal) (hQkvGradRefIdeal := hQkvGradRefIdeal)
    ∧ preserves_QkvWeight_QkvWeightIdeal
    ∧ algebraic_QkvWeightIdeal_QkvWeightRefIdeal (hQkvWeightIdeal := hQkvWeightIdeal) (hQkvWeightRefIdeal := hQkvWeightRefIdeal)
    ∧ preserves_QkvProj_QkvProjIdeal
    ∧ algebraic_QkvProjIdeal_QkvProjRefIdeal (hQkvProjIdeal := hQkvProjIdeal) (hQkvProjRefIdeal := hQkvProjRefIdeal)
    ∧ preserves_OutGrad_OutGradIdeal
    ∧ algebraic_OutGradIdeal_OutGradRefIdeal (hOutGradIdeal := hOutGradIdeal) (hOutGradRefIdeal := hOutGradRefIdeal)
    ∧ preserves_OutWeight_OutWeightIdeal
    ∧ algebraic_OutWeightIdeal_OutWeightRefIdeal (hOutWeightIdeal := hOutWeightIdeal) (hOutWeightRefIdeal := hOutWeightRefIdeal)
    ∧ preserves_OutProj_OutProjIdeal
    ∧ algebraic_OutProjIdeal_OutProjRefIdeal (hOutProjIdeal := hOutProjIdeal) (hOutProjRefIdeal := hOutProjRefIdeal)
    ∧ preserves_AttOutProj_AttOutProjIdeal
    ∧ algebraic_AttOutProjIdeal_AttOutProjRefIdeal (hAttOutProjIdeal := hAttOutProjIdeal) (hAttOutProjRefIdeal := hAttOutProjRefIdeal)
    ∧ preserves_AttOutWeight_AttOutWeightIdeal
    ∧ algebraic_AttOutWeightIdeal_AttOutWeightRefIdeal (hAttOutWeightIdeal := hAttOutWeightIdeal) (hAttOutWeightRefIdeal := hAttOutWeightRefIdeal)
    ∧ preserves_LatDownGrad_LatDownGradIdeal
    ∧ algebraic_LatDownGradIdeal_LatDownGradRefIdeal (hLatDownGradIdeal := hLatDownGradIdeal) (hLatDownGradRefIdeal := hLatDownGradRefIdeal)
    ∧ preserves_LatDownWeight_LatDownWeightIdeal
    ∧ algebraic_LatDownWeightIdeal_LatDownWeightRefIdeal (hLatDownWeightIdeal := hLatDownWeightIdeal) (hLatDownWeightRefIdeal := hLatDownWeightRefIdeal)
    ∧ preserves_LatDownProj_LatDownProjIdeal
    ∧ algebraic_LatDownProjIdeal_LatDownProjRefIdeal (hLatDownProjIdeal := hLatDownProjIdeal) (hLatDownProjRefIdeal := hLatDownProjRefIdeal)
    ∧ preserves_QueryUpGrad_QueryUpGradIdeal
    ∧ algebraic_QueryUpGradIdeal_QueryUpGradRefIdeal (hQueryUpGradIdeal := hQueryUpGradIdeal) (hQueryUpGradRefIdeal := hQueryUpGradRefIdeal)
    ∧ preserves_QueryUpWeight_QueryUpWeightIdeal
    ∧ algebraic_QueryUpWeightIdeal_QueryUpWeightRefIdeal (hQueryUpWeightIdeal := hQueryUpWeightIdeal) (hQueryUpWeightRefIdeal := hQueryUpWeightRefIdeal)
    ∧ preserves_QueryUpProj_QueryUpProjIdeal
    ∧ algebraic_QueryUpProjIdeal_QueryUpProjRefIdeal (hQueryUpProjIdeal := hQueryUpProjIdeal) (hQueryUpProjRefIdeal := hQueryUpProjRefIdeal)
    ∧ preserves_KeyUpGrad_KeyUpGradIdeal
    ∧ algebraic_KeyUpGradIdeal_KeyUpGradRefIdeal (hKeyUpGradIdeal := hKeyUpGradIdeal) (hKeyUpGradRefIdeal := hKeyUpGradRefIdeal)
    ∧ preserves_KeyUpWeight_KeyUpWeightIdeal
    ∧ algebraic_KeyUpWeightIdeal_KeyUpWeightRefIdeal (hKeyUpWeightIdeal := hKeyUpWeightIdeal) (hKeyUpWeightRefIdeal := hKeyUpWeightRefIdeal)
    ∧ preserves_KeyUpProj_KeyUpProjIdeal
    ∧ algebraic_KeyUpProjIdeal_KeyUpProjRefIdeal (hKeyUpProjIdeal := hKeyUpProjIdeal) (hKeyUpProjRefIdeal := hKeyUpProjRefIdeal)
    ∧ preserves_LatentFwd_LatentFwdIdeal
    ∧ algebraic_LatentFwdIdeal_LatentFwdRefIdeal_pre_reals (hLatentFwdIdeal := hLatentFwdIdeal) (hLatentFwdRefIdeal := hLatentFwdRefIdeal) (hPre_reals := hPre_reals)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumParts_SumPartsIdeal
    ∧ algebraic_SumPartsIdeal_SumPartsRefIdeal (hSumPartsIdeal := hSumPartsIdeal) (hSumPartsRefIdeal := hSumPartsRefIdeal)
    ∧ preserves_NormFwd_NormFwdIdeal
    ∧ algebraic_NormFwdIdeal_NormFwdRefIdeal (hNormFwdIdeal := hNormFwdIdeal) (hNormFwdRefIdeal := hNormFwdRefIdeal)
    ∧ preserves_UpdGateUp_UpdGateUpIdeal
    ∧ algebraic_UpdGateUpIdeal_UpdGateUpRefIdeal (hUpdGateUpIdeal := hUpdGateUpIdeal) (hUpdGateUpRefIdeal := hUpdGateUpRefIdeal) (hPre_device := hPre_device)
-- ==== Pre_device.lean ====
abbrev S8x1024x704 : Shape := ⟨3, ![8, 1024, 704]⟩
abbrev S1 : Shape := ⟨1, ![1]⟩
abbrev S1024x704 : Shape := ⟨2, ![1024, 704]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x704 .bf16) (main_arg1 : FVec F S8x1024x704 .bf16) (main_arg2 : IVec S1 32) (main_arg3 : FVec F S1024x704 .f32) (main_arg4 : FVec F S1024x704 .f32) (main_arg5 : FVec F S1024x704 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_finite.lean ====
abbrev S8x4096x128 : Shape := ⟨3, ![8, 4096, 128]⟩
abbrev S4096x128 : Shape := ⟨2, ![4096, 128]⟩
abbrev S4096x1024 : Shape := ⟨2, ![4096, 1024]⟩
abbrev S_ : Shape := ⟨0, ![]⟩

class Facts : Prop where
  bitsLt_bf16_f32 : FTy.bits .bf16 < FTy.bits .f32
  bcast_S_S8x4096x128 : S_.BroadcastsInDim S8x4096x128 (![] : Fin 0 → Fin S8x4096x128.rank)
  bcast_S_S4096x128 : S_.BroadcastsInDim S4096x128 (![] : Fin 0 → Fin S4096x128.rank)
  bcast_S_S4096x1024 : S_.BroadcastsInDim S4096x1024 (![] : Fin 0 → Fin S4096x1024.rank)

variable [Facts]

def fn_part1 {F : FTy → Type} [FloatOps F] (main_arg5 : FVec F S4096x1024 .f32) (main_v3 : IVec S8x4096x128 1) (main_v7 : IVec S8x4096x128 1) (main_v11 : IVec S8x4096x128 1) (main_v15 : IVec S4096x128 1) (main_v17 : FVec F S8x4096x128 .f32) (main_v18 : FVec F S8x4096x128 .f32) : IVec S8x4096x128 1 × IVec S8x4096x128 1 × IVec S8x4096x128 1 × IVec S4096x128 1 × IVec S8x4096x128 1 × IVec S4096x1024 1 :=
  let main_v19 : IVec S8x4096x128 1 := cmpf .olt main_v17 main_v18
  let main_v20 : FVec F S4096x1024 .f32 := Host.absf main_arg5
  let main_cst_4 : FVec F S_ .f32 := constant S_ .f32 0x7F800000#32
  let main_v21 : FVec F S4096x1024 .f32 := broadcastInDim S4096x1024 ![] bcast_S_S4096x1024 main_cst_4
  let main_v22 : IVec S4096x1024 1 := cmpf .olt main_v20 main_v21
  (main_v3, main_v7, main_v11, main_v15, main_v19, main_v22)

def fn {F : FTy → Type} [FloatOps F] (main_arg0 : FVec F S8x4096x128 .bf16) (main_arg1 : FVec F S8x4096x128 .bf16) (main_arg2 : FVec F S8x4096x128 .bf16) (main_arg3 : FVec F S4096x128 .bf16) (main_arg4 : FVec F S8x4096x128 .bf16) (main_arg5 : FVec F S4096x1024 .f32) : IVec S8x4096x128 1 × IVec S8x4096x128 1 × IVec S8x4096x128 1 × IVec S4096x128 1 × IVec S8x4096x128 1 × IVec S4096x1024 1 :=
  let main_v0 : FVec F S8x4096x128 .f32 := (extf .f32 · bitsLt_bf16_f32) main_arg0
  let main_v1 : FVec F S8x4096x128 .f32 := Host.absf main_v0
  let main_cst : FVec F S_ .f32 := constant S_ .f32 0x7F800000#32
  let main_v2 : FVec F S8x4096x128 .f32 := broadcastInDim S8x4096x128 ![] bcast_S_S8x4096x128 main_cst
  let main_v3 : IVec S8x4096x128 1 := cmpf .olt main_v1 main_v2
  let main_v4 : FVec F S8x4096x128 .f32 := (extf .f32 · bitsLt_bf16_f32) main_arg1
  let main_v5 : FVec F S8x4096x128 .f32 := Host.absf main_v4
  let main_cst_0 : FVec F S_ .f32 := constant S_ .f32 0x7F800000#32
  let main_v6 : FVec F S8x4096x128 .f32 := broadcastInDim S8x4096x128 ![] bcast_S_S8x4096x128 main_cst_0
  let main_v7 : IVec S8x4096x128 1 := cmpf .olt main_v5 main_v6
  let main_v8 : FVec F S8x4096x128 .f32 := (extf .f32 · bitsLt_bf16_f32) main_arg2
  let main_v9 : FVec F S8x4096x128 .f32 := Host.absf main_v8
  let main_cst_1 : FVec F S_ .f32 := constant S_ .f32 0x7F800000#32
  let main_v10 : FVec F S8x4096x128 .f32 := broadcastInDim S8x4096x128 ![] bcast_S_S8x4096x128 main_cst_1
  let main_v11 : IVec S8x4096x128 1 := cmpf .olt main_v9 main_v10
  let main_v12 : FVec F S4096x128 .f32 := (extf .f32 · bitsLt_bf16_f32) main_arg3
  let main_v13 : FVec F S4096x128 .f32 := Host.absf main_v12
  let main_cst_2 : FVec F S_ .f32 := constant S_ .f32 0x7F800000#32
  let main_v14 : FVec F S4096x128 .f32 := broadcastInDim S4096x128 ![] bcast_S_S4096x128 main_cst_2
  let main_v15 : IVec S4096x128 1 := cmpf .olt main_v13 main_v14
  let main_v16 : FVec F S8x4096x128 .f32 := (extf .f32 · bitsLt_bf16_f32) main_arg4
  let main_v17 : FVec F S8x4096x128 .f32 := Host.absf main_v16
  let main_cst_3 : FVec F S_ .f32 := constant S_ .f32 0x7F800000#32
  let main_v18 : FVec F S8x4096x128 .f32 := broadcastInDim S8x4096x128 ![] bcast_S_S8x4096x128 main_cst_3
  fn_part1 (F := F) main_arg5 main_v3 main_v7 main_v11 main_v15 main_v17 main_v18
-- ==== Pre_numbers.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .f32) (main_arg1 : FVec F S4096x2816 .f32) (main_arg2 : FVec F S2816x1024 .f32) (main_arg3 : FVec F S4096x1024 .f32) : IVec S4096x2816 1 × IVec S4096x2816 1 × IVec S2816x1024 1 × IVec S4096x1024 1 :=
  let main_v0 : FVec F S4096x2816 .f32 := Host.absf main_arg0
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_v3 : FVec F S4096x2816 .f32 := Host.absf main_arg1
  let main_cst_0 : FVec F S_ .f32 := constant S_ .f32 0x7F800000#32
  let main_v4 : FVec F S4096x2816 .f32 := broadcastInDim S4096x2816 ![] bcast_S_S4096x2816 main_cst_0
  let main_v5 : IVec S4096x2816 1 := cmpf .olt main_v3 main_v4
  let main_v6 : FVec F S2816x1024 .f32 := Host.absf main_arg2
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_reals.lean ====
abbrev S8x4096x128 : Shape := ⟨3, ![8, 4096, 128]⟩
abbrev S4096x128 : Shape := ⟨2, ![4096, 128]⟩
abbrev S_ : Shape := ⟨0, ![]⟩

class Facts : Prop where
  bitsLt_bf16_f32 : FTy.bits .bf16 < FTy.bits .f32
  bcast_S_S8x4096x128 : S_.BroadcastsInDim S8x4096x128 (![] : Fin 0 → Fin S8x4096x128.rank)
  bcast_S_S4096x128 : S_.BroadcastsInDim S4096x128 (![] : Fin 0 → Fin S4096x128.rank)

variable [Facts]

def fn {F : FTy → Type} [FloatOps F] (main_arg0 : FVec F S8x4096x128 .bf16) (main_arg1 : FVec F S8x4096x128 .bf16) (main_arg2 : FVec F S8x4096x128 .bf16) (main_arg3 : FVec F S4096x128 .bf16) (main_arg4 : FVec F S8x4096x128 .bf16) : IVec S8x4096x128 1 × IVec S8x4096x128 1 × IVec S8x4096x128 1 × IVec S4096x128 1 :=
  let main_v0 : FVec F S8x4096x128 .f32 := (extf .f32 · bitsLt_bf16_f32) main_arg0
  let main_v1 : FVec F S8x4096x128 .f32 := Host.absf main_v0
  let main_cst : FVec F S_ .f32 := constant S_ .f32 0x7F800000#32
  let main_v2 : FVec F S8x4096x128 .f32 := broadcastInDim S8x4096x128 ![] bcast_S_S8x4096x128 main_cst
  let main_v3 : IVec S8x4096x128 1 := cmpf .olt main_v1 main_v2
  let main_v4 : FVec F S8x4096x128 .f32 := (extf .f32 · bitsLt_bf16_f32) main_arg1
  let main_v5 : FVec F S8x4096x128 .f32 := Host.absf main_v4
  let main_cst_0 : FVec F S_ .f32 := constant S_ .f32 0x7F800000#32
  let main_v6 : FVec F S8x4096x128 .f32 := broadcastInDim S8x4096x128 ![] bcast_S_S8x4096x128 main_cst_0
  let main_v7 : IVec S8x4096x128 1 := cmpf .olt main_v5 main_v6
  let main_v8 : FVec F S8x4096x128 .f32 := (extf .f32 · bitsLt_bf16_f32) main_arg2
  let main_v9 : FVec F S8x4096x128 .f32 := Host.absf main_v8
  let main_cst_1 : FVec F S_ .f32 := constant S_ .f32 0x7F800000#32
  let main_v10 : FVec F S8x4096x128 .f32 := broadcastInDim S8x4096x128 ![] bcast_S_S8x4096x128 main_cst_1
  let main_v11 : IVec S8x4096x128 1 := cmpf .olt main_v9 main_v10
  let main_v12 : FVec F S4096x128 .f32 := (extf .f32 · bitsLt_bf16_f32) main_arg3
  let main_v13 : FVec F S4096x128 .f32 := Host.absf main_v12
  let main_cst_2 : FVec F S_ .f32 := constant S_ .f32 0x7F800000#32
  let main_v14 : FVec F S4096x128 .f32 := broadcastInDim S4096x128 ![] bcast_S_S4096x128 main_cst_2
  let main_v15 : IVec S4096x128 1 := cmpf .olt main_v13 main_v14
  (main_v3, main_v7, main_v11, main_v15)
-- ==== Kernel.lean ====
abbrev S8x4096x128 : Shape := ⟨3, ![8, 4096, 128]⟩
abbrev S4096x128 : Shape := ⟨2, ![4096, 128]⟩
abbrev S4096x1024 : Shape := ⟨2, ![4096, 1024]⟩
abbrev S8x4096x256 : Shape := ⟨3, ![8, 4096, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S1x512x128 : Shape := ⟨3, ![1, 512, 128]⟩
abbrev S1x4096x128 : Shape := ⟨3, ![1, 4096, 128]⟩
abbrev S512x128 : Shape := ⟨2, ![512, 128]⟩
abbrev S512x256 : Shape := ⟨2, ![512, 256]⟩
abbrev S512 : Shape := ⟨1, ![512]⟩
abbrev S512x1 : Shape := ⟨2, ![512, 1]⟩
abbrev S512x512 : Shape := ⟨2, ![512, 512]⟩

abbrev nBuf : Space → Nat
  | .hbm => 60
  | .vmem => 25
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .bf16⟩
  | .hbm, ⟨3, _⟩ => ⟨S4096x128, .bf16⟩
  | .hbm, ⟨4, _⟩ => ⟨S8x4096x128, .bf16⟩
  | .hbm, ⟨5, _⟩ => ⟨S4096x1024, .f32⟩
  | .hbm, ⟨6, _⟩ => ⟨S8x4096x256, .bf16⟩
  | .hbm, ⟨7, _⟩ => ⟨S8x4096x128, .bf16⟩
  | .hbm, ⟨8, _⟩ => ⟨S8x4096x256, .bf16⟩
  | .hbm, ⟨9, _⟩ => ⟨S8x4096x256, .f32⟩
  | .hbm, ⟨10, _⟩ => ⟨S8x4096x256, .f32⟩
  | .hbm, ⟨11, _⟩ => ⟨S8x4096x128, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096, .f32⟩
  | .hbm, ⟨26, _⟩ => ⟨S8x4096x1, .f32⟩
  | .hbm, ⟨27, _⟩ => ⟨S_, .f32⟩
  | .hbm, ⟨28, _⟩ => ⟨S8x4096, .f32⟩
  | .hbm, ⟨29, _⟩ => ⟨S_, .f32⟩
  | .hbm, ⟨30, _⟩ => ⟨S8x4096, .f32⟩
  | .hbm, ⟨31, _⟩ => ⟨S8x4096, .f32⟩
  | .hbm, ⟨32, _⟩ => ⟨S8x4096x1, .f32⟩
  | .hbm, ⟨33, _⟩ => ⟨S8x4096x4096, .f32⟩
  | .hbm, ⟨34, _⟩ => ⟨S8x4096x4096, .f32⟩
  | .hbm, ⟨35, _⟩ => ⟨S8x4096x4096, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096, .f32⟩
  | .hbm, ⟨46, _⟩ => ⟨S8x4096x1, .f32⟩
  | .hbm, ⟨47, _⟩ => ⟨S8x4096x1, .f32⟩
  | .hbm, ⟨48, _⟩ => ⟨S8x4096x1, .f32⟩
  | .hbm, ⟨49, _⟩ => ⟨S8x4096x128, .f32⟩
  | .hbm, ⟨50, _⟩ => ⟨S4096x8x128, .f32⟩
  | .hbm, ⟨51, _⟩ => ⟨S4096x1024, .f32⟩
  | .hbm, ⟨52, _⟩ => ⟨S8x4096x128, .f32⟩
  | .hbm, ⟨53, _⟩ => ⟨S4096x8x128, .f32⟩
  | .hbm, ⟨54, _⟩ => ⟨S4096x1024, .f32⟩
  | .hbm, ⟨55, _⟩ => ⟨S8x4096x128, .f32⟩
  | .hbm, ⟨56, _⟩ => ⟨S8x4096x128, .f32⟩
  | .hbm, ⟨57, _⟩ => ⟨S8x4096x128, .f32⟩
  | .hbm, ⟨58, _⟩ => ⟨S8x4096x128, .f32⟩
  | .hbm, ⟨59, _⟩ => ⟨S8x4096x128, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x4096x128, .f32⟩
  | .local _ .vmem, ⟨20, _⟩ => ⟨S1x4096x128, .f32⟩
  | .local _ .vmem, ⟨21, _⟩ => ⟨S1x4096x128, .f32⟩
  | .local _ .vmem, ⟨22, _⟩ => ⟨S1x4096x128, .f32⟩
  | .local _ .vmem, ⟨23, _⟩ => ⟨S1x4096x128, .f32⟩
  | .local _ .vmem, ⟨24, _⟩ => ⟨S1x4096x128, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40_0 : Ref sig .tc := ⟨.hbm, 55, rfl⟩
abbrev main_v40_1 : Ref sig .tc := ⟨.hbm, 56, rfl⟩
abbrev main_v40_2 : Ref sig .tc := ⟨.hbm, 57, rfl⟩
abbrev main_v40_3 : Ref sig .tc := ⟨.hbm, 58, rfl⟩
abbrev main_v40_4 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_13 : BitVec 32 := 0#32
  let arg1 : BitVec 32 := BitVec.ofNat 32 (i 1).val
  let c1_i32 : BitVec 32 := 1#32
  let v23 : BitVec 32 := Scalar.muli arg1 c1_i32
  let v25 : BitVec 32 := Scalar.subi v23 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_15 : BitVec 32 := 1#32
  ⟨c0_i32_13, v29, c1_i32_15⟩
def k0_mult1 (i : grid0.Coords) (k0_t1 : Fin (k0_t1_loop i).trips) : BitVec 32 :=
  let c0_i32_13 : BitVec 32 := 0#32
  let c1_i32_15 : BitVec 32 := 1#32
  let arg15 : BitVec 32 := Scf.iv c0_i32_13 c1_i32_15 k0_t1
  let c512_i32_29 : BitVec 32 := 512#32
  let v50 : BitVec 32 := Scalar.muli arg15 c512_i32_29
  v50
def k0_off1 (i : grid0.Coords) (k0_t1 : Fin (k0_t1_loop i).trips) : Fin 3 → Nat :=
  let c0_30 : Index := 0#32
  let c0_i32_13 : BitVec 32 := 0#32
  let c1_i32_15 : BitVec 32 := 1#32
  let arg15 : BitVec 32 := Scf.iv c0_i32_13 c1_i32_15 k0_t1
  let c512_i32_29 : BitVec 32 := 512#32
  let v50 : BitVec 32 := Scalar.muli arg15 c512_i32_29
  let v51 : BitVec 32 := v50
  let v52 : Index := Scalar.indexCast v51
  let c0_31 : Index := 0#32
  ![0, v52.toNat, 0]
def k0_off2 (i : grid0.Coords) (k0_t1 : Fin (k0_t1_loop i).trips) : Fin 2 → Nat :=
  let c0_i32_13 : BitVec 32 := 0#32
  let c1_i32_15 : BitVec 32 := 1#32
  let arg15 : BitVec 32 := Scf.iv c0_i32_13 c1_i32_15 k0_t1
  let c512_i32_29 : BitVec 32 := 512#32
  let v50 : BitVec 32 := Scalar.muli arg15 c512_i32_29
  let v51 : BitVec 32 := v50
  let v55 : Index := Scalar.indexCast v51
  let c0_32 : Index := 0#32
  ![v55.toNat, 0]
@[reducible] def k0_t2_loop (i : grid0.Coords) : Scf.Loop 32 :=
  let c0_i32_13 : BitVec 32 := 0#32
  let arg1 : BitVec 32 := BitVec.ofNat 32 (i 1).val
  let c1_i32 : BitVec 32 := 1#32
  let v23 : BitVec 32 := Scalar.muli arg1 c1_i32
  let v25 : BitVec 32 := Scalar.subi v23 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let v26 : BitVec 32 := Scalar.addi c0_i32_13 v25
  let c1_i32_16 : BitVec 32 := 1#32
  ⟨v29, v26, c1_i32_16⟩
def k0_mult2 (i : grid0.Coords) (k0_t2 : Fin (k0_t2_loop i).trips) : BitVec 32 :=
  let c0_i32_13 : BitVec 32 := 0#32
  let arg1 : BitVec 32 := BitVec.ofNat 32 (i 1).val
  let c1_i32 : BitVec 32 := 1#32
  let v23 : BitVec 32 := Scalar.muli arg1 c1_i32
  let v25 : BitVec 32 := Scalar.subi v23 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_16 : BitVec 32 := 1#32
  let arg15 : BitVec 32 := Scf.iv v29 c1_i32_16 k0_t2
  let c512_i32_29 : BitVec 32 := 512#32
  let v50 : BitVec 32 := Scalar.muli arg15 c512_i32_29
  v50
def k0_off3 (i : grid0.Coords) (k0_t2 : Fin (k0_t2_loop i).trips) : Fin 3 → Nat :=
  let c0_30 : Index := 0#32
  let c0_i32_13 : BitVec 32 := 0#32
  let arg1 : BitVec 32 := BitVec.ofNat 32 (i 1).val
  let c1_i32 : BitVec 32 := 1#32
  let v23 : BitVec 32 := Scalar.muli arg1 c1_i32
  let v25 : BitVec 32 := Scalar.subi v23 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_16 : BitVec 32 := 1#32
  let arg15 : BitVec 32 := Scf.iv v29 c1_i32_16 k0_t2
  let c512_i32_29 : BitVec 32 := 512#32
  let v50 : BitVec 32 := Scalar.muli arg15 c512_i32_29
  let v51 : BitVec 32 := v50
  let v52 : Index := Scalar.indexCast v51
  let c0_31 : Index := 0#32
  ![0, v52.toNat, 0]
def k0_off4 (i : grid0.Coords) (k0_t2 : Fin (k0_t2_loop i).trips) : Fin 2 → Nat :=
  let c0_i32_13 : BitVec 32 := 0#32
  let arg1 : BitVec 32 := BitVec.ofNat 32 (i 1).val
  let c1_i32 : BitVec 32 := 1#32
  let v23 : BitVec 32 := Scalar.muli arg1 c1_i32
  let v25 : BitVec 32 := Scalar.subi v23 c0_i32_13
  let c1_i32_14 : BitVec 32 := 1#32
  let v27 : BitVec 32 := Scalar.divsi v25 c1_i32_14
  let v28 : BitVec 32 := Scalar.muli v27 c1_i32_14
  let v29 : BitVec 32 := Scalar.addi c0_i32_13 v28
  let c1_i32_16 : BitVec 32 := 1#32
  let arg15 : BitVec 32 := Scf.iv v29 c1_i32_16 k0_t2
  let c512_i32_29 : BitVec 32 := 512#32
  let v50 : BitVec 32 := Scalar.muli arg15 c512_i32_29
  let v51 : BitVec 32 := v50
  let v55 : Index := Scalar.indexCast v51
  let c0_32 : Index := 0#32
  ![v55.toNat, 0]
@[reducible] def k0_t3_loop (i : grid0.Coords) : Scf.Loop 32 :=
  let arg1 : BitVec 32 := BitVec.ofNat 32 (i 1).val
  let c1_i32_17 : BitVec 32 := 1#32
  let v32 : BitVec 32 := Scalar.muli arg1 c1_i32_17
  let c1_i32_18 : BitVec 32 := 1#32
  let v33 : BitVec 32 := Scalar.addi arg1 c1_i32_18
  let c1_i32_19 : BitVec 32 := 1#32
  let v34 : BitVec 32 := Scalar.muli v33 c1_i32_19
  let v35 : BitVec 32 := Scalar.subi v34 v32
  let c1_i32_20 : BitVec 32 := 1#32
  let v37 : BitVec 32 := Scalar.divsi v35 c1_i32_20
  let v38 : BitVec 32 := Scalar.muli v37 c1_i32_20
  let v39 : BitVec 32 := Scalar.addi v32 v38
  let c1_i32_21 : BitVec 32 := 1#32
  ⟨v32, v39, c1_i32_21⟩
def k0_mult3 (i : grid0.Coords) (k0_t3 : Fin (k0_t3_loop i).trips) : BitVec 32 :=
  let arg1 : BitVec 32 := BitVec.ofNat 32 (i 1).val
  let c1_i32_17 : BitVec 32 := 1#32
  let v32 : BitVec 32 := Scalar.muli arg1 c1_i32_17
  let c1_i32_21 : BitVec 32 := 1#32
  let arg15 : BitVec 32 := Scf.iv v32 c1_i32_21 k0_t3
  let c512_i32_29 : BitVec 32 := 512#32
  let v50 : BitVec 32 := Scalar.muli arg15 c512_i32_29
  v50
def k0_off5 (i : grid0.Coords) (k0_t3 : Fin (k0_t3_loop i).trips) : Fin 3 → Nat :=
  let c0_30 : Index := 0#32
  let arg1 : BitVec 32 := BitVec.ofNat 32 (i 1).val
  let c1_i32_17 : BitVec 32 := 1#32
  let v32 : BitVec 32 := Scalar.muli arg1 c1_i32_17
  let c1_i32_21 : BitVec 32 := 1#32
  let arg15 : BitVec 32 := Scf.iv v32 c1_i32_21 k0_t3
  let c512_i32_29 : BitVec 32 := 512#32
  let v50 : BitVec 32 := Scalar.muli arg15 c512_i32_29
  let v51 : BitVec 32 := v50
  let v52 : Index := Scalar.indexCast v51
  let c0_31 : Index := 0#32
  ![0, v52.toNat, 0]
def k0_off6 (i : grid0.Coords) (k0_t3 : Fin (k0_t3_loop i).trips) : Fin 2 → Nat :=
  let arg1 : BitVec 32 := BitVec.ofNat 32 (i 1).val
  let c1_i32_17 : BitVec 32 := 1#32
  let v32 : BitVec 32 := Scalar.muli arg1 c1_i32_17
  let c1_i32_21 : BitVec 32 := 1#32
  let arg15 : BitVec 32 := Scf.iv v32 c1_i32_21 k0_t3
  let c512_i32_29 : BitVec 32 := 512#32
  let v50 : BitVec 32 := Scalar.muli arg15 c512_i32_29
  let v51 : BitVec 32 := v50
  let v55 : Index := Scalar.indexCast v51
  let c0_32 : Index := 0#32
  ![v55.toNat, 0]
@[reducible] def k0_t4_loop (i : grid0.Coords) : Scf.Loop 32 :=
  let arg1 : BitVec 32 := BitVec.ofNat 32 (i 1).val
  let c1_i32_17 : BitVec 32 := 1#32
  let v32 : BitVec 32 := Scalar.muli arg1 c1_i32_17
  let c1_i32_18 : BitVec 32 := 1#32
  let v33 : BitVec 32 := Scalar.addi arg1 c1_i32_18
  let c1_i32_19 : BitVec 32 := 1#32
  let v34 : BitVec 32 := Scalar.muli v33 c1_i32_19
  let v35 : BitVec 32 := Scalar.subi v34 v32
  let c1_i32_20 : BitVec 32 := 1#32
  let v37 : BitVec 32 := Scalar.divsi v35 c1_i32_20
  let v38 : BitVec 32 := Scalar.muli v37 c1_i32_20
  let v39 : BitVec 32 := Scalar.addi v32 v38
  let v36 : BitVec 32 := Scalar.addi v32 v35
  let c1_i32_22 : BitVec 32 := 1#32
  ⟨v39, v36, c1_i32_22⟩
def k0_mult4 (i : grid0.Coords) (k0_t4 : Fin (k0_t4_loop i).trips) : BitVec 32 :=
  let arg1 : BitVec 32 := BitVec.ofNat 32 (i 1).val
  let c1_i32_17 : BitVec 32 := 1#32
  let v32 : BitVec 32 := Scalar.muli arg1 c1_i32_17
  let c1_i32_18 : BitVec 32 := 1#32
  let v33 : BitVec 32 := Scalar.addi arg1 c1_i32_18
  let c1_i32_19 : BitVec 32 := 1#32
  let v34 : BitVec 32 := Scalar.muli v33 c1_i32_19
  let v35 : BitVec 32 := Scalar.subi v34 v32
  let c1_i32_20 : BitVec 32 := 1#32
  let v37 : BitVec 32 := Scalar.divsi v35 c1_i32_20
  let v38 : BitVec 32 := Scalar.muli v37 c1_i32_20
  let v39 : BitVec 32 := Scalar.addi v32 v38
  let c1_i32_22 : BitVec 32 := 1#32
  let arg15 : BitVec 32 := Scf.iv v39 c1_i32_22 k0_t4
  let c512_i32_29 : BitVec 32 := 512#32
  let v50 : BitVec 32 := Scalar.muli arg15 c512_i32_29
  v50
def k0_off7 (i : grid0.Coords) (k0_t4 : Fin (k0_t4_loop i).trips) : Fin 3 → Nat :=
  let c0_30 : Index := 0#32
  let arg1 : BitVec 32 := BitVec.ofNat 32 (i 1).val
  let c1_i32_17 : BitVec 32 := 1#32
  let v32 : BitVec 32 := Scalar.muli arg1 c1_i32_17
  let c1_i32_18 : BitVec 32 := 1#32
  let v33 : BitVec 32 := Scalar.addi arg1 c1_i32_18
  let c1_i32_19 : BitVec 32 := 1#32
  let v34 : BitVec 32 := Scalar.muli v33 c1_i32_19
  let v35 : BitVec 32 := Scalar.subi v34 v32
  let c1_i32_20 : BitVec 32 := 1#32
  let v37 : BitVec 32 := Scalar.divsi v35 c1_i32_20
  let v38 : BitVec 32 := Scalar.muli v37 c1_i32_20
  let v39 : BitVec 32 := Scalar.addi v32 v38
  let c1_i32_22 : BitVec 32 := 1#32
  let arg15 : BitVec 32 := Scf.iv v39 c1_i32_22 k0_t4
  let c512_i32_29 : BitVec 32 := 512#32
  let v50 : BitVec 32 := Scalar.muli arg15 c512_i32_29
  let v51 : BitVec 32 := v50
  let v52 : Index := Scalar.indexCast v51
  let c0_31 : Index := 0#32
  ![0, v52.toNat, 0]
def k0_off8 (i : grid0.Coords) (k0_t4 : Fin (k0_t4_loop i).trips) : Fin 2 → Nat :=
  let arg1 : BitVec 32 := BitVec.ofNat 32 (i 1).val
  let c1_i32_17 : BitVec 32 := 1#32
  let v32 : BitVec 32 := Scalar.muli arg1 c1_i32_17
  let c1_i32_18 : BitVec 32 := 1#32
  let v33 : BitVec 32 := Scalar.addi arg1 c1_i32_18
  let c1_i32_19 : BitVec 32 := 1#32
  let v34 : BitVec 32 := Scalar.muli v33 c1_i32_19
  let v35 : BitVec 32 := Scalar.subi v34 v32
  let c1_i32_20 : BitVec 32 := 1#32
  let v37 : BitVec 32 := Scalar.divsi v35 c1_i32_20
  let v38 : BitVec 32 := Scalar.muli v37 c1_i32_20
  let v39 : BitVec 32 := Scalar.addi v32 v38
  let c1_i32_22 : BitVec 32 := 1#32
  let arg15 : BitVec 32 := Scf.iv v39 c1_i32_22 k0_t4
  let c512_i32_29 : BitVec 32 := 512#32
  let v50 : BitVec 32 := Scalar.muli arg15 c512_i32_29
  let v51 : BitVec 32 := v50
  let v55 : Index := Scalar.indexCast v51
  let c0_32 : Index := 0#32
  ![v55.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S8x4096x128 : Shape := ⟨3, ![8, 4096, 128]⟩
abbrev S4096x128 : Shape := ⟨2, ![4096, 128]⟩
abbrev S4096x1024 : Shape := ⟨2, ![4096, 1024]⟩
abbrev S8x4096x256 : Shape := ⟨3, ![8, 4096, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S8x128x4096 : Shape := ⟨3, ![8, 128, 4096]⟩

abbrev nBuf : Space → Nat
  | .hbm => 112
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .bf16⟩
  | .hbm, ⟨3, _⟩ => ⟨S4096x128, .bf16⟩
  | .hbm, ⟨4, _⟩ => ⟨S8x4096x128, .bf16⟩
  | .hbm, ⟨5, _⟩ => ⟨S4096x1024, .f32⟩
  | .hbm, ⟨6, _⟩ => ⟨S8x4096x256, .bf16⟩
  | .hbm, ⟨7, _⟩ => ⟨S8x4096x128, .bf16⟩
  | .hbm, ⟨8, _⟩ => ⟨S8x4096x256, .bf16⟩
  | .hbm, ⟨9, _⟩ => ⟨S8x4096x256, .f32⟩
  | .hbm, ⟨10, _⟩ => ⟨S8x4096x256, .f32⟩
  | .hbm, ⟨11, _⟩ => ⟨S8x4096x128, .f32⟩
  | .hbm, ⟨12, _⟩ => ⟨S8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S8x4096x4096, .i1⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x4096, .f32⟩
  | .hbm, ⟨30, _⟩ => ⟨S8x4096x4096, .i1⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .i1⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .i1⟩
  | .hbm, ⟨49, _⟩ => ⟨S_, .f32⟩
  | .hbm, ⟨50, _⟩ => ⟨S8x4096, .f32⟩
  | .hbm, ⟨51, _⟩ => ⟨S8x4096, .i1⟩
  | .hbm, ⟨52, _⟩ => ⟨S_, .f32⟩
  | .hbm, ⟨53, _⟩ => ⟨S8x4096, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096x1, .f32⟩
  | .hbm, ⟨61, _⟩ => ⟨S8x4096x4096, .f32⟩
  | .hbm, ⟨62, _⟩ => ⟨S8x4096x4096, .f32⟩
  | .hbm, ⟨63, _⟩ => ⟨S8x4096x4096, .f32⟩
  | .hbm, ⟨64, _⟩ => ⟨S_, .f32⟩
  | .hbm, ⟨65, _⟩ => ⟨S8x4096, .f32⟩
  | .hbm, ⟨66, _⟩ => ⟨S8x4096x1, .f32⟩
  | .hbm, ⟨67, _⟩ => ⟨S8x4096x4096, .f32⟩
  | .hbm, ⟨68, _⟩ => ⟨S8x4096x4096, .f32⟩
  | .hbm, ⟨69, _⟩ => ⟨S8x4096x1, .f32⟩
  | .hbm, ⟨70, _⟩ => ⟨S_, .f32⟩
  | .hbm, ⟨71, _⟩ => ⟨S8x4096x1, .f32⟩
  | .hbm, ⟨72, _⟩ => ⟨S8x4096x1, .f32⟩
  | .hbm, ⟨73, _⟩ => ⟨S8x4096x4096, .f32⟩
  | .hbm, ⟨74, _⟩ => ⟨S8x4096x4096, .f32⟩
  | .hbm, ⟨75, _⟩ => ⟨S8x4096x4096, .f32⟩
  | .hbm, ⟨76, _⟩ => ⟨S_, .f32⟩
  | .hbm, ⟨77, _⟩ => ⟨S8x4096, .f32⟩
  | .hbm, ⟨78, _⟩ => ⟨S8x4096x1, .f32⟩
  | .hbm, ⟨79, _⟩ => ⟨S8x4096x1, .f32⟩
  | .hbm, ⟨80, _⟩ => ⟨S8x4096x1, .f32⟩
  | .hbm, ⟨81, _⟩ => ⟨S8x4096x128, .f32⟩
  | .hbm, ⟨82, _⟩ => ⟨S4096x8x128, .f32⟩
  | .hbm, ⟨83, _⟩ => ⟨S4096x1024, .f32⟩
  | .hbm, ⟨84, _⟩ => ⟨S4096x8x128, .f32⟩
  | .hbm, ⟨85, _⟩ => ⟨S8x4096x128, .f32⟩
  | .hbm, ⟨86, _⟩ => ⟨S8x128x4096, .f32⟩
  | .hbm, ⟨87, _⟩ => ⟨S8x4096x128, .f32⟩
  | .hbm, ⟨88, _⟩ => ⟨S8x4096x4096, .f32⟩
  | .hbm, ⟨89, _⟩ => ⟨S8x4096x4096, .f32⟩
  | .hbm, ⟨90, _⟩ => ⟨S8x4096x4096, .f32⟩
  | .hbm, ⟨91, _⟩ => ⟨S8x4096x4096, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S8x4096x1, .f32⟩
  | .hbm, ⟨96, _⟩ => ⟨S8x4096x4096, .f32⟩
  | .hbm, ⟨97, _⟩ => ⟨S8x4096x4096, .f32⟩
  | .hbm, ⟨98, _⟩ => ⟨S_, .f32⟩
  | .hbm, ⟨99, _⟩ => ⟨S8x4096, .f32⟩
  | .hbm, ⟨100, _⟩ => ⟨S8x4096x4096, .f32⟩
  | .hbm, ⟨101, _⟩ => ⟨S8x4096x4096, .f32⟩
  | .hbm, ⟨102, _⟩ => ⟨S8x4096x4096, .f32⟩
  | .hbm, ⟨103, _⟩ => ⟨S_, .f32⟩
  | .hbm, ⟨104, _⟩ => ⟨S8x4096x4096, .f32⟩
  | .hbm, ⟨105, _⟩ => ⟨S8x4096x4096, .f32⟩
  | .hbm, ⟨106, _⟩ => ⟨S8x4096x256, .f32⟩
  | .hbm, ⟨107, _⟩ => ⟨S8x4096x256, .f32⟩
  | .hbm, ⟨108, _⟩ => ⟨S8x4096x128, .f32⟩
  | .hbm, ⟨109, _⟩ => ⟨S8x4096x128, .f32⟩
  | .hbm, ⟨110, _⟩ => ⟨S8x4096x128, .f32⟩
  | .hbm, ⟨111, _⟩ => ⟨S8x4096x128, .f32⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_call0_v0 : Ref sig .tc := ⟨.hbm, 20, rfl⟩
abbrev main_v13_1 : Ref sig .tc := ⟨.hbm, 21, rfl⟩
abbrev main_call0_v2 : Ref sig .tc := ⟨.hbm, 22, rfl⟩
abbrev main_v13_0 : Ref sig .tc := ⟨.hbm, 23, rfl⟩
abbrev main_call0_cst : Ref sig .tc := ⟨.hbm, 24, rfl⟩
abbrev main_v13_2 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_cst_9 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_call1_cst : Ref sig .tc := ⟨.hbm, 103, rfl⟩
abbrev main_call1_v0 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== GateGrad.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S16384x704 : Shape := ⟨2, ![16384, 704]⟩
abbrev S1024x1024 : Shape := ⟨2, ![1024, 1024]⟩
abbrev S704x1024 : Shape := ⟨2, ![704, 1024]⟩
abbrev S1024x704 : Shape := ⟨2, ![1024, 704]⟩

abbrev nBuf : Space → Nat
  | .hbm => 13
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S2816x1024, .bf16⟩
  | .hbm, ⟨5, _⟩ => ⟨S4096x4x704, .f32⟩
  | .hbm, ⟨6, _⟩ => ⟨S4x4096x704, .f32⟩
  | .hbm, ⟨7, _⟩ => ⟨S16384x704, .f32⟩
  | .hbm, ⟨8, _⟩ => ⟨S4096x4x704, .f32⟩
  | .hbm, ⟨9, _⟩ => ⟨S4x4096x704, .f32⟩
  | .hbm, ⟨10, _⟩ => ⟨S16384x704, .f32⟩
  | .hbm, ⟨11, _⟩ => ⟨S16384x704, .bf16⟩
  | .hbm, ⟨12, _⟩ => ⟨S16384x704, .bf16⟩
  | .local _ .vmem, ⟨0, _⟩ => ⟨S1024x1024, .f32⟩
  | .local _ .vmem, ⟨1, _⟩ => ⟨S1024x1024, .f32⟩
  | .local _ .vmem, ⟨2, _⟩ => ⟨S704x1024, .bf16⟩
  | .local _ .vmem, ⟨3, _⟩ => ⟨S704x1024, .bf16⟩
  | .local _ .vmem, ⟨4, _⟩ => ⟨S1024x704, .f32⟩
  | .local _ .vmem, ⟨5, _⟩ => ⟨S1024x704, .f32⟩
  | .local _ .vmem, ⟨6, _⟩ => ⟨S1024x704, .f32⟩
  | .local _ .vmem, ⟨7, _⟩ => ⟨S1024x704, .f32⟩
  | .local _ .vmem, ⟨8, _⟩ => ⟨S1024x704, .bf16⟩
  | .local _ .vmem, ⟨9, _⟩ => ⟨S1024x704, .bf16⟩
  | .local _ .vmem, ⟨10, _⟩ => ⟨S1024x704, .bf16⟩
  | .local _ .vmem, ⟨11, _⟩ => ⟨S1024x704, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateGradRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩
abbrev S4096x4x704 : Shape := ⟨3, ![4096, 4, 704]⟩
abbrev S4x4096x704 : Shape := ⟨3, ![4, 4096, 704]⟩
abbrev S16384x704 : Shape := ⟨2, ![16384, 704]⟩

abbrev nBuf : Space → Nat
  | .hbm => 36
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S2816x1024, .f32⟩
  | .hbm, ⟨3, _⟩ => ⟨S4096x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S1024x2816, .f32⟩
  | .hbm, ⟨20, _⟩ => ⟨S2816x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x4x704, .f32⟩
  | .hbm, ⟨29, _⟩ => ⟨S4x4096x704, .f32⟩
  | .hbm, ⟨30, _⟩ => ⟨S16384x704, .f32⟩
  | .hbm, ⟨31, _⟩ => ⟨S16384x704, .bf16⟩
  | .hbm, ⟨32, _⟩ => ⟨S4096x4x704, .f32⟩
  | .hbm, ⟨33, _⟩ => ⟨S4x4096x704, .f32⟩
  | .hbm, ⟨34, _⟩ => ⟨S16384x704, .f32⟩
  | .hbm, ⟨35, _⟩ => ⟨S16384x704, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩

abbrev nD : Nat := 1
abbrev τ : Topo := Topo.v7x

variable {F : FTy → Type} [FloatOps F]
-- ==== HiddenGrad.lean ====
abbrev S4096x2816 : Shape := ⟨2, ![4096, 2816]⟩
abbrev S1024x5632 : Shape := ⟨2, ![1024, 5632]⟩
abbrev S4096x4x704 : Shape := ⟨3, ![4096, 4, 704]⟩
abbrev S4x4096x704 : Shape := ⟨3, ![4, 4096, 704]⟩
abbrev S16384x704 : Shape := ⟨2, ![16384, 704]⟩
abbrev S1024x8x704 : Shape := ⟨3, ![1024, 8, 704]⟩
abbrev S8x1024x704 : Shape := ⟨3, ![8, 1024, 704]⟩
abbrev S4096x1024 : Shape := ⟨2, ![4096, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x1024x704 : Shape := ⟨3, ![1, 1024, 704]⟩
abbrev S1024x704 : Shape := ⟨2, ![1024, 704]⟩

abbrev nBuf : Space → Nat
  | .hbm => 15
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S4096x4x704, .bf16⟩
  | .hbm, ⟨4, _⟩ => ⟨S4x4096x704, .bf16⟩
  | .hbm, ⟨5, _⟩ => ⟨S16384x704, .bf16⟩
  | .hbm, ⟨6, _⟩ => ⟨S4096x4x704, .bf16⟩
  | .hbm, ⟨7, _⟩ => ⟨S4x4096x704, .bf16⟩
  | .hbm, ⟨8, _⟩ => ⟨S16384x704, .bf16⟩
  | .hbm, ⟨9, _⟩ => ⟨S1024x8x704, .f32⟩
  | .hbm, ⟨10, _⟩ => ⟨S8x1024x704, .f32⟩
  | .hbm, ⟨11, _⟩ => ⟨S8x1024x704, .bf16⟩
  | .hbm, ⟨12, _⟩ => ⟨S4x4096x704, .bf16⟩
  | .hbm, ⟨13, _⟩ => ⟨S4x4096x704, .bf16⟩
  | .hbm, ⟨14, _⟩ => ⟨S4096x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S8x1024x704, .bf16⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x704 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== HiddenGradRefIdeal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S4096x5632 : Shape := ⟨2, ![4096, 5632]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .f32⟩
  | .hbm, ⟨3, _⟩ => ⟨S_, .f32⟩
  | .hbm, ⟨4, _⟩ => ⟨S4096x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S4096x5632, .f32⟩
  | .hbm, ⟨11, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DownWeight.lean ====
abbrev S4096x2816 : Shape := ⟨2, ![4096, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S16384x704 : Shape := ⟨2, ![16384, 704]⟩
abbrev S2816x1024 : Shape := ⟨2, ![2816, 1024]⟩
abbrev S4096x704 : Shape := ⟨2, ![4096, 704]⟩
abbrev S704x1024 : Shape := ⟨2, ![704, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x4x704, .bf16⟩
  | .hbm, ⟨3, _⟩ => ⟨S4x4096x704, .bf16⟩
  | .hbm, ⟨4, _⟩ => ⟨S16384x704, .bf16⟩
  | .hbm, ⟨5, _⟩ => ⟨S2816x1024, .bf16⟩
  | .local _ .vmem, ⟨0, _⟩ => ⟨S4096x704, .bf16⟩
  | .local _ .vmem, ⟨1, _⟩ => ⟨S4096x704, .bf16⟩
  | .local _ .vmem, ⟨2, _⟩ => ⟨S4096x1024, .f32⟩
  | .local _ .vmem, ⟨3, _⟩ => ⟨S704x1024, .bf16⟩
  | .local _ .vmem, ⟨4, _⟩ => ⟨S704x1024, .bf16⟩
  | .local _ .vmem, ⟨5, _⟩ => ⟨S704x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownWeightRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GateWeight.lean ====
abbrev S4096x1024 : Shape := ⟨2, ![4096, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S16384x704 : Shape := ⟨2, ![16384, 704]⟩
abbrev S4096x704 : Shape := ⟨2, ![4096, 704]⟩
abbrev S1024x704 : Shape := ⟨2, ![1024, 704]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x4x704, .bf16⟩
  | .hbm, ⟨3, _⟩ => ⟨S4x4096x704, .bf16⟩
  | .hbm, ⟨4, _⟩ => ⟨S16384x704, .bf16⟩
  | .hbm, ⟨5, _⟩ => ⟨S4096x704, .bf16⟩
  | .local _ .vmem, ⟨0, _⟩ => ⟨S4096x1024, .bf16⟩
  | .local _ .vmem, ⟨1, _⟩ => ⟨S4096x704, .bf16⟩
  | .local _ .vmem, ⟨2, _⟩ => ⟨S4096x704, .bf16⟩
  | .local _ .vmem, ⟨3, _⟩ => ⟨S1024x704, .bf16⟩
  | .local _ .vmem, ⟨4, _⟩ => ⟨S1024x704, .bf16⟩
  | .local _ .vmem, ⟨5, _⟩ => ⟨S1024x704, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GateWeightRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩
abbrev S4096x704 : Shape := ⟨2, ![4096, 704]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x1024, .f32⟩
  | .hbm, ⟨3, _⟩ => ⟨S4096x2816, .f32⟩
  | .hbm, ⟨4, _⟩ => ⟨S_, .f32⟩
  | .hbm, ⟨5, _⟩ => ⟨S1024x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x4x704, .f32⟩
  | .hbm, ⟨10, _⟩ => ⟨S4x1024x704, .f32⟩
  | .hbm, ⟨11, _⟩ => ⟨S4096x704, .f32⟩
  | .hbm, ⟨12, _⟩ => ⟨S4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateUp.lean ====
abbrev S4096x1024 : Shape := ⟨2, ![4096, 1024]⟩
abbrev S1024x5632 : Shape := ⟨2, ![1024, 5632]⟩
abbrev S1024x8x704 : Shape := ⟨3, ![1024, 8, 704]⟩
abbrev S8x1024x704 : Shape := ⟨3, ![8, 1024, 704]⟩
abbrev S8192x704 : Shape := ⟨2, ![8192, 704]⟩
abbrev S16384x704 : Shape := ⟨2, ![16384, 704]⟩
abbrev S1024x1024 : Shape := ⟨2, ![1024, 1024]⟩
abbrev S1024x704 : Shape := ⟨2, ![1024, 704]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S1024x8x704, .f32⟩
  | .hbm, ⟨3, _⟩ => ⟨S8x1024x704, .f32⟩
  | .hbm, ⟨4, _⟩ => ⟨S8x1024x704, .bf16⟩
  | .hbm, ⟨5, _⟩ => ⟨S8192x704, .bf16⟩
  | .hbm, ⟨6, _⟩ => ⟨S16384x704, .f32⟩
  | .hbm, ⟨7, _⟩ => ⟨S16384x704, .f32⟩
  | .hbm, ⟨8, _⟩ => ⟨S16384x704, .bf16⟩
  | .local _ .vmem, ⟨0, _⟩ => ⟨S1024x1024, .bf16⟩
  | .local _ .vmem, ⟨1, _⟩ => ⟨S1024x1024, .bf16⟩
  | .local _ .vmem, ⟨2, _⟩ => ⟨S1024x704, .bf16⟩
  | .local _ .vmem, ⟨3, _⟩ => ⟨S1024x704, .bf16⟩
  | .local _ .vmem, ⟨4, _⟩ => ⟨S1024x704, .bf16⟩
  | .local _ .vmem, ⟨5, _⟩ => ⟨S1024x704, .bf16⟩
  | .local _ .vmem, ⟨6, _⟩ => ⟨S1024x704, .f32⟩
  | .local _ .vmem, ⟨7, _⟩ => ⟨S1024x704, .f32⟩
  | .local _ .vmem, ⟨8, _⟩ => ⟨S1024x704, .f32⟩
  | .local _ .vmem, ⟨9, _⟩ => ⟨S1024x704, .f32⟩
  | .local _ .vmem, ⟨10, _⟩ => ⟨S1024x704, .bf16⟩
  | .local _ .vmem, ⟨11, _⟩ => ⟨S1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S16384x704 : Shape := ⟨2, ![16384, 704]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x4x704, .f32⟩
  | .hbm, ⟨7, _⟩ => ⟨S4x4096x704, .f32⟩
  | .hbm, ⟨8, _⟩ => ⟨S16384x704, .f32⟩
  | .hbm, ⟨9, _⟩ => ⟨S4096x4x704, .f32⟩
  | .hbm, ⟨10, _⟩ => ⟨S4x4096x704, .f32⟩
  | .hbm, ⟨11, _⟩ => ⟨S16384x704, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x4x704, .f32⟩
  | .hbm, ⟨23, _⟩ => ⟨S4x4096x704, .f32⟩
  | .hbm, ⟨24, _⟩ => ⟨S16384x704, .f32⟩
  | .hbm, ⟨25, _⟩ => ⟨S16384x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S4096x4x704 : Shape := ⟨3, ![4096, 4, 704]⟩
abbrev S4x4096x704 : Shape := ⟨3, ![4, 4096, 704]⟩
abbrev S16384x704 : Shape := ⟨2, ![16384, 704]⟩
abbrev S4x704x1024 : Shape := ⟨3, ![4, 704, 1024]⟩
abbrev S4x1024x704 : Shape := ⟨3, ![4, 1024, 704]⟩
abbrev S1024x1024 : Shape := ⟨2, ![1024, 1024]⟩
abbrev S1x1024x704 : Shape := ⟨3, ![1, 1024, 704]⟩
abbrev S1024x704 : Shape := ⟨2, ![1024, 704]⟩
abbrev S1x704x1024 : Shape := ⟨3, ![1, 704, 1024]⟩
abbrev S704x1024 : Shape := ⟨2, ![704, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x4x704, .bf16⟩
  | .hbm, ⟨4, _⟩ => ⟨S4x4096x704, .bf16⟩
  | .hbm, ⟨5, _⟩ => ⟨S16384x704, .bf16⟩
  | .hbm, ⟨6, _⟩ => ⟨S2816x1024, .bf16⟩
  | .hbm, ⟨7, _⟩ => ⟨S4x4096x704, .bf16⟩
  | .hbm, ⟨8, _⟩ => ⟨S4x704x1024, .bf16⟩
  | .hbm, ⟨9, _⟩ => ⟨S4096x1024, .f32⟩
  | .local _ .vmem, ⟨0, _⟩ => ⟨S4x1024x704, .bf16⟩
  | .local _ .vmem, ⟨1, _⟩ => ⟨S4x1024x704, .bf16⟩
  | .local _ .vmem, ⟨2, _⟩ => ⟨S4x704x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== InGrad.lean ====
abbrev S4096x4224 : Shape := ⟨2, ![4096, 4224]⟩
abbrev S1024x4224 : Shape := ⟨2, ![1024, 4224]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .f32⟩
  | .hbm, ⟨2, _⟩ => ⟨S1024x4224, .bf16⟩
  | .hbm, ⟨3, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4224, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradRefIdeal.lean ====
abbrev S4096x4224 : Shape := ⟨2, ![4096, 4224]⟩
abbrev S1024x4224 : Shape := ⟨2, ![1024, 4224]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4224, .bf16⟩
  | .hbm, ⟨1, _⟩ => ⟨S1024x4224, .f32⟩
  | .hbm, ⟨2, _⟩ => ⟨S_, .f32⟩
  | .hbm, ⟨3, _⟩ => ⟨S4096x1024, .f32⟩
  | .hbm, ⟨4, _⟩ => ⟨S4096x4224, .f32⟩
  | .hbm, ⟨5, _⟩ => ⟨S4096x4224, .f32⟩
  | .hbm, ⟨6, _⟩ => ⟨S4096x1024, .f32⟩
  | _, _ => ⟨S4096x4224, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InWeight.lean ====
abbrev S4096x1024 : Shape := ⟨2, ![4096, 1024]⟩
abbrev S4096x4224 : Shape := ⟨2, ![4096, 4224]⟩
abbrev S1024x4224 : Shape := ⟨2, ![1024, 4224]⟩
abbrev S4096x384 : Shape := ⟨2, ![4096, 384]⟩
abbrev S1024x384 : Shape := ⟨2, ![1024, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S1024x4224, .bf16⟩
  | .local _ .vmem, ⟨0, _⟩ => ⟨S4096x1024, .bf16⟩
  | .local _ .vmem, ⟨1, _⟩ => ⟨S4096x384, .bf16⟩
  | .local _ .vmem, ⟨2, _⟩ => ⟨S4096x384, .bf16⟩
  | .local _ .vmem, ⟨3, _⟩ => ⟨S1024x384, .bf16⟩
  | .local _ .vmem, ⟨4, _⟩ => ⟨S1024x384, .bf16⟩
  | .local _ .vmem, ⟨5, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightRefIdeal.lean ====
abbrev S4096x1024 : Shape := ⟨2, ![4096, 1024]⟩
abbrev S4096x4224 : Shape := ⟨2, ![4096, 4224]⟩
abbrev S_ : Shape := ⟨0, ![]⟩
abbrev S1024x4224 : Shape := ⟨2, ![1024, 4224]⟩
abbrev S4224x1024 : Shape := ⟨2, ![4224, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4224, .bf16⟩
  | .hbm, ⟨2, _⟩ => ⟨S4096x1024, .f32⟩
  | .hbm, ⟨3, _⟩ => ⟨S4096x4224, .f32⟩
  | .hbm, ⟨4, _⟩ => ⟨S_, .f32⟩
  | .hbm, ⟨5, _⟩ => ⟨S1024x4224, .f32⟩
  | .hbm, ⟨6, _⟩ => ⟨S4096x4224, .f32⟩
  | .hbm, ⟨7, _⟩ => ⟨S4224x1024, .f32⟩
  | .hbm, ⟨8, _⟩ => ⟨S1024x4224, .f32⟩
  | .hbm, ⟨9, _⟩ => ⟨S1024x4224, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InProj.lean ====
abbrev S4096x1024 : Shape := ⟨2, ![4096, 1024]⟩
abbrev S1024x4224 : Shape := ⟨2, ![1024, 4224]⟩
abbrev S4096x4224 : Shape := ⟨2, ![4096, 4224]⟩
abbrev S1024x1024 : Shape := ⟨2, ![1024, 1024]⟩
abbrev S1024x384 : Shape := ⟨2, ![1024, 384]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .f32⟩
  | .hbm, ⟨2, _⟩ => ⟨S1024x4224, .bf16⟩
  | .hbm, ⟨3, _⟩ => ⟨S4096x4224, .f32⟩
  | .local _ .vmem, ⟨0, _⟩ => ⟨S1024x1024, .bf16⟩
  | .local _ .vmem, ⟨1, _⟩ => ⟨S1024x1024, .bf16⟩
  | .local _ .vmem, ⟨2, _⟩ => ⟨S1024x384, .bf16⟩
  | .local _ .vmem, ⟨3, _⟩ => ⟨S1024x384, .bf16⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjRefIdeal.lean ====
abbrev S4096x1024 : Shape := ⟨2, ![4096, 1024]⟩
abbrev S1024x4224 : Shape := ⟨2, ![1024, 4224]⟩
abbrev S4096x4224 : Shape := ⟨2, ![4096, 4224]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4224, .f32⟩
  | .hbm, ⟨2, _⟩ => ⟨S4096x1024, .f32⟩
  | .hbm, ⟨3, _⟩ => ⟨S4096x4224, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QkvGrad.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .f32⟩
  | .hbm, ⟨2, _⟩ => ⟨S1024x3072, .bf16⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvGradRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .f32⟩
  | .hbm, ⟨2, _⟩ => ⟨S_, .f32⟩
  | .hbm, ⟨3, _⟩ => ⟨S4096x1024, .f32⟩
  | .hbm, ⟨4, _⟩ => ⟨S4096x3072, .f32⟩
  | .hbm, ⟨5, _⟩ => ⟨S4096x3072, .f32⟩
  | .hbm, ⟨6, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QkvWeight.lean ====
abbrev S4096x1024 : Shape := ⟨2, ![4096, 1024]⟩
abbrev S4096x3072 : Shape := ⟨2, ![4096, 3072]⟩
abbrev S1024x3072 : Shape := ⟨2, ![1024, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvWeightRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S4096x1024, .f32⟩
  | .hbm, ⟨3, _⟩ => ⟨S4096x3072, .f32⟩
  | .hbm, ⟨4, _⟩ => ⟨S_, .f32⟩
  | .hbm, ⟨5, _⟩ => ⟨S1024x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QkvProj.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .f32⟩
  | .hbm, ⟨2, _⟩ => ⟨S1024x3072, .bf16⟩
  | .hbm, ⟨3, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvProjRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .f32⟩
  | .hbm, ⟨2, _⟩ => ⟨S4096x1024, .f32⟩
  | .hbm, ⟨3, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutGrad.lean ====
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutGradRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWeight.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== AttOutProj.lean ====
abbrev S4096x1024 : Shape := ⟨2, ![4096, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v11 : BitVec 1 := Scalar.cmpi .eq arg2 c0_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AttOutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== AttOutWeight.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttOutWeightRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== LatDownGrad.lean ====
abbrev S4096x512 : Shape := ⟨2, ![4096, 512]⟩
abbrev S1024x512 : Shape := ⟨2, ![1024, 512]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S1024x512, .f32⟩
  | .hbm, ⟨2, _⟩ => ⟨S1024x512, .bf16⟩
  | .hbm, ⟨3, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDownGradRefIdeal.lean ====
abbrev S4096x512 : Shape := ⟨2, ![4096, 512]⟩
abbrev S1024x512 : Shape := ⟨2, ![1024, 512]⟩
abbrev S_ : Shape := ⟨0, ![]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S1024x512, .f32⟩
  | .hbm, ⟨2, _⟩ => ⟨S_, .f32⟩
  | .hbm, ⟨3, _⟩ => ⟨S4096x1024, .f32⟩
  | .hbm, ⟨4, _⟩ => ⟨S4096x512, .f32⟩
  | .hbm, ⟨5, _⟩ => ⟨S4096x512, .f32⟩
  | .hbm, ⟨6, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== LatDownWeight.lean ====
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S1024x512, .bf16⟩
  | .local _ .vmem, ⟨0, _⟩ => ⟨S4096x1024, .bf16⟩
  | .local _ .vmem, ⟨1, _⟩ => ⟨S4096x512, .bf16⟩
  | .local _ .vmem, ⟨2, _⟩ => ⟨S1024x512, .bf16⟩
  | .local _ .vmem, ⟨3, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== LatDownWeightRefIdeal.lean ====
abbrev S4096x1024 : Shape := ⟨2, ![4096, 1024]⟩
abbrev S4096x512 : Shape := ⟨2, ![4096, 512]⟩
abbrev S_ : Shape := ⟨0, ![]⟩
abbrev S1024x512 : Shape := ⟨2, ![1024, 512]⟩
abbrev S512x1024 : Shape := ⟨2, ![512, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x1024, .f32⟩
  | .hbm, ⟨3, _⟩ => ⟨S4096x512, .f32⟩
  | .hbm, ⟨4, _⟩ => ⟨S_, .f32⟩
  | .hbm, ⟨5, _⟩ => ⟨S1024x512, .f32⟩
  | .hbm, ⟨6, _⟩ => ⟨S4096x512, .f32⟩
  | .hbm, ⟨7, _⟩ => ⟨S512x1024, .f32⟩
  | .hbm, ⟨8, _⟩ => ⟨S1024x512, .f32⟩
  | .hbm, ⟨9, _⟩ => ⟨S1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== LatDownProj.lean ====
abbrev S4096x1024 : Shape := ⟨2, ![4096, 1024]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S1024x512, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== LatDownProjRefIdeal.lean ====
abbrev S4096x1024 : Shape := ⟨2, ![4096, 1024]⟩
abbrev S1024x512 : Shape := ⟨2, ![1024, 512]⟩
abbrev S4096x512 : Shape := ⟨2, ![4096, 512]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x512, .f32⟩
  | .hbm, ⟨2, _⟩ => ⟨S4096x1024, .f32⟩
  | .hbm, ⟨3, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== QueryUpGrad.lean ====
abbrev S4096x2048 : Shape := ⟨2, ![4096, 2048]⟩
abbrev S256x2048 : Shape := ⟨2, ![256, 2048]⟩
abbrev S4096x256 : Shape := ⟨2, ![4096, 256]⟩
abbrev S1024x2048 : Shape := ⟨2, ![1024, 2048]⟩
abbrev S1024x256 : Shape := ⟨2, ![1024, 256]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S256x2048, .bf16⟩
  | .hbm, ⟨3, _⟩ => ⟨S4096x256, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryUpGradRefIdeal.lean ====
abbrev S4096x2048 : Shape := ⟨2, ![4096, 2048]⟩
abbrev S256x2048 : Shape := ⟨2, ![256, 2048]⟩
abbrev S_ : Shape := ⟨0, ![]⟩
abbrev S4096x256 : Shape := ⟨2, ![4096, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S_, .f32⟩
  | .hbm, ⟨3, _⟩ => ⟨S4096x256, .f32⟩
  | .hbm, ⟨4, _⟩ => ⟨S4096x2048, .f32⟩
  | .hbm, ⟨5, _⟩ => ⟨S4096x2048, .f32⟩
  | .hbm, ⟨6, _⟩ => ⟨S4096x256, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== QueryUpWeight.lean ====
abbrev S4096x256 : Shape := ⟨2, ![4096, 256]⟩
abbrev S4096x2048 : Shape := ⟨2, ![4096, 2048]⟩
abbrev S256x2048 : Shape := ⟨2, ![256, 2048]⟩
abbrev S4096x1024 : Shape := ⟨2, ![4096, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S256x2048, .bf16⟩
  | .local _ .vmem, ⟨0, _⟩ => ⟨S4096x256, .bf16⟩
  | .local _ .vmem, ⟨1, _⟩ => ⟨S4096x1024, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryUpWeightRefIdeal.lean ====
abbrev S4096x256 : Shape := ⟨2, ![4096, 256]⟩
abbrev S4096x2048 : Shape := ⟨2, ![4096, 2048]⟩
abbrev S_ : Shape := ⟨0, ![]⟩
abbrev S256x2048 : Shape := ⟨2, ![256, 2048]⟩
abbrev S2048x256 : Shape := ⟨2, ![2048, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x2048, .bf16⟩
  | .hbm, ⟨2, _⟩ => ⟨S4096x256, .f32⟩
  | .hbm, ⟨3, _⟩ => ⟨S4096x2048, .f32⟩
  | .hbm, ⟨4, _⟩ => ⟨S_, .f32⟩
  | .hbm, ⟨5, _⟩ => ⟨S256x2048, .f32⟩
  | .hbm, ⟨6, _⟩ => ⟨S4096x2048, .f32⟩
  | .hbm, ⟨7, _⟩ => ⟨S2048x256, .f32⟩
  | .hbm, ⟨8, _⟩ => ⟨S256x2048, .f32⟩
  | .hbm, ⟨9, _⟩ => ⟨S256x2048, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueryUpProj.lean ====
abbrev S4096x256 : Shape := ⟨2, ![4096, 256]⟩
abbrev S256x2048 : Shape := ⟨2, ![256, 2048]⟩
abbrev S4096x2048 : Shape := ⟨2, ![4096, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x2048, .f32⟩
  | .hbm, ⟨2, _⟩ => ⟨S256x2048, .bf16⟩
  | .hbm, ⟨3, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QueryUpProjRefIdeal.lean ====
abbrev S4096x256 : Shape := ⟨2, ![4096, 256]⟩
abbrev S256x2048 : Shape := ⟨2, ![256, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x2048, .f32⟩
  | .hbm, ⟨2, _⟩ => ⟨S4096x256, .f32⟩
  | .hbm, ⟨3, _⟩ => ⟨S4096x2048, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KeyUpGrad.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S128x2048, .f32⟩
  | .hbm, ⟨2, _⟩ => ⟨S128x2048, .bf16⟩
  | .hbm, ⟨3, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyUpGradRefIdeal.lean ====
abbrev S4096x2048 : Shape := ⟨2, ![4096, 2048]⟩
abbrev S128x2048 : Shape := ⟨2, ![128, 2048]⟩
abbrev S_ : Shape := ⟨0, ![]⟩
abbrev S4096x128 : Shape := ⟨2, ![4096, 128]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .f32⟩
  | .hbm, ⟨2, _⟩ => ⟨S_, .f32⟩
  | .hbm, ⟨3, _⟩ => ⟨S4096x128, .f32⟩
  | .hbm, ⟨4, _⟩ => ⟨S4096x2048, .f32⟩
  | .hbm, ⟨5, _⟩ => ⟨S4096x2048, .f32⟩
  | .hbm, ⟨6, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KeyUpWeight.lean ====
abbrev S4096x128 : Shape := ⟨2, ![4096, 128]⟩
abbrev S4096x2048 : Shape := ⟨2, ![4096, 2048]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyUpWeightRefIdeal.lean ====
abbrev S4096x128 : Shape := ⟨2, ![4096, 128]⟩
abbrev S4096x2048 : Shape := ⟨2, ![4096, 2048]⟩
abbrev S_ : Shape := ⟨0, ![]⟩
abbrev S128x2048 : Shape := ⟨2, ![128, 2048]⟩
abbrev S2048x128 : Shape := ⟨2, ![2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S4096x128, .f32⟩
  | .hbm, ⟨3, _⟩ => ⟨S4096x2048, .f32⟩
  | .hbm, ⟨4, _⟩ => ⟨S_, .f32⟩
  | .hbm, ⟨5, _⟩ => ⟨S128x2048, .f32⟩
  | .hbm, ⟨6, _⟩ => ⟨S4096x2048, .f32⟩
  | .hbm, ⟨7, _⟩ => ⟨S2048x128, .f32⟩
  | .hbm, ⟨8, _⟩ => ⟨S128x2048, .f32⟩
  | .hbm, ⟨9, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KeyUpProj.lean ====
abbrev S4096x128 : Shape := ⟨2, ![4096, 128]⟩
abbrev S128x2048 : Shape := ⟨2, ![128, 2048]⟩
abbrev S4096x2048 : Shape := ⟨2, ![4096, 2048]⟩
abbrev S1024x128 : Shape := ⟨2, ![1024, 128]⟩
abbrev S128x1024 : Shape := ⟨2, ![128, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S128x2048, .f32⟩
  | .hbm, ⟨2, _⟩ => ⟨S128x2048, .bf16⟩
  | .hbm, ⟨3, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S128x1024, .bf16⟩
  | .local _ .vmem, ⟨3, _⟩ => ⟨S128x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KeyUpProjRefIdeal.lean ====
abbrev S4096x128 : Shape := ⟨2, ![4096, 128]⟩
abbrev S128x2048 : Shape := ⟨2, ![128, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .f32⟩
  | .hbm, ⟨2, _⟩ => ⟨S4096x128, .f32⟩
  | .hbm, ⟨3, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LatentFwd.lean ====
abbrev S8x4096x128 : Shape := ⟨3, ![8, 4096, 128]⟩
abbrev S4096x128 : Shape := ⟨2, ![4096, 128]⟩
abbrev S4096x1024 : Shape := ⟨2, ![4096, 1024]⟩
abbrev S1x512x128 : Shape := ⟨3, ![1, 512, 128]⟩
abbrev S1x4096x128 : Shape := ⟨3, ![1, 4096, 128]⟩
abbrev S512x128 : Shape := ⟨2, ![512, 128]⟩
abbrev S512x256 : Shape := ⟨2, ![512, 256]⟩
abbrev S512x512 : Shape := ⟨2, ![512, 512]⟩
abbrev S512x1 : Shape := ⟨2, ![512, 1]⟩
abbrev S512 : Shape := ⟨1, ![512]⟩

abbrev nBuf : Space → Nat
  | .hbm => 7
  | .vmem => 13
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .bf16⟩
  | .hbm, ⟨3, _⟩ => ⟨S4096x128, .bf16⟩
  | .hbm, ⟨4, _⟩ => ⟨S8x4096x128, .bf16⟩
  | .hbm, ⟨5, _⟩ => ⟨S4096x1024, .f32⟩
  | .hbm, ⟨6, _⟩ => ⟨S4096x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S4096x128, .bf16⟩
  | .local _ .vmem, ⟨7, _⟩ => ⟨S1x4096x128, .bf16⟩
  | .local _ .vmem, ⟨8, _⟩ => ⟨S1x4096x128, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | _, _ => ⟨S8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.muli arg1 c1_i32
  let v15 : BitVec 32 := Scalar.subi v14 c0_i32
  let c1_i32_7 : BitVec 32 := 1#32
  let v17 : BitVec 32 := Scalar.divsi v15 c1_i32_7
  let v18 : BitVec 32 := Scalar.muli v17 c1_i32_7
  let v19 : BitVec 32 := Scalar.addi c0_i32 v18
  let c1_i32_8 : BitVec 32 := 1#32
  ⟨c0_i32, v19, c1_i32_8⟩
def k0_mult1 (i : grid0.Coords) (k0_t1 : Fin (k0_t1_loop i).trips) : BitVec 32 :=
  let c0_i32 : BitVec 32 := 0#32
  let c1_i32_8 : BitVec 32 := 1#32
  let arg9 : BitVec 32 := Scf.iv c0_i32 c1_i32_8 k0_t1
  let c512_i32_20 : BitVec 32 := 512#32
  let v40 : BitVec 32 := Scalar.muli arg9 c512_i32_20
  v40
def k0_off1 (i : grid0.Coords) (k0_t1 : Fin (k0_t1_loop i).trips) : Fin 3 → Nat :=
  let c0_21 : Index := 0#32
  let c0_i32 : BitVec 32 := 0#32
  let c1_i32_8 : BitVec 32 := 1#32
  let arg9 : BitVec 32 := Scf.iv c0_i32 c1_i32_8 k0_t1
  let c512_i32_20 : BitVec 32 := 512#32
  let v40 : BitVec 32 := Scalar.muli arg9 c512_i32_20
  let v41 : BitVec 32 := v40
  let v42 : Index := Scalar.indexCast v41
  let c0_22 : Index := 0#32
  ![0, v42.toNat, 0]
def k0_off2 (i : grid0.Coords) (k0_t1 : Fin (k0_t1_loop i).trips) : Fin 2 → Nat :=
  let c0_i32 : BitVec 32 := 0#32
  let c1_i32_8 : BitVec 32 := 1#32
  let arg9 : BitVec 32 := Scf.iv c0_i32 c1_i32_8 k0_t1
  let c512_i32_20 : BitVec 32 := 512#32
  let v40 : BitVec 32 := Scalar.muli arg9 c512_i32_20
  let v41 : BitVec 32 := v40
  let v45 : Index := Scalar.indexCast v41
  let c0_23 : Index := 0#32
  ![v45.toNat, 0]
@[reducible] def k0_t2_loop (i : grid0.Coords) : Scf.Loop 32 :=
  let c0_i32 : BitVec 32 := 0#32
  let arg1 : BitVec 32 := BitVec.ofNat 32 (i 1).val
  let c1_i32 : BitVec 32 := 1#32
  let v14 : BitVec 32 := Scalar.muli arg1 c1_i32
  let v15 : BitVec 32 := Scalar.subi v14 c0_i32
  let c1_i32_7 : BitVec 32 := 1#32
  let v17 : BitVec 32 := Scalar.divsi v15 c1_i32_7
  let v18 : BitVec 32 := Scalar.muli v17 c1_i32_7
  let v19 : BitVec 32 := Scalar.addi c0_i32 v18
  let v16 : BitVec 32 := Scalar.addi c0_i32 v15
  let c1_i32_9 : BitVec 32 := 1#32
  ⟨v19, v16, c1_i32_9⟩
def k0_mult2 (i : grid0.Coords) (k0_t2 : Fin (k0_t2_loop i).trips) : BitVec 32 :=
  let c0_i32 : BitVec 32 := 0#32
  let arg1 : BitVec 32 := BitVec.ofNat 32 (i 1).val
  let c1_i32 : BitVec 32 := 1#32
  let v14 : BitVec 32 := Scalar.muli arg1 c1_i32
  let v15 : BitVec 32 := Scalar.subi v14 c0_i32
  let c1_i32_7 : BitVec 32 := 1#32
  let v17 : BitVec 32 := Scalar.divsi v15 c1_i32_7
  let v18 : BitVec 32 := Scalar.muli v17 c1_i32_7
  let v19 : BitVec 32 := Scalar.addi c0_i32 v18
  let c1_i32_9 : BitVec 32 := 1#32
  let arg9 : BitVec 32 := Scf.iv v19 c1_i32_9 k0_t2
  let c512_i32_20 : BitVec 32 := 512#32
  let v40 : BitVec 32 := Scalar.muli arg9 c512_i32_20
  v40
def k0_off3 (i : grid0.Coords) (k0_t2 : Fin (k0_t2_loop i).trips) : Fin 3 → Nat :=
  let c0_21 : Index := 0#32
  let c0_i32 : BitVec 32 := 0#32
  let arg1 : BitVec 32 := BitVec.ofNat 32 (i 1).val
  let c1_i32 : BitVec 32 := 1#32
  let v14 : BitVec 32 := Scalar.muli arg1 c1_i32
  let v15 : BitVec 32 := Scalar.subi v14 c0_i32
  let c1_i32_7 : BitVec 32 := 1#32
  let v17 : BitVec 32 := Scalar.divsi v15 c1_i32_7
  let v18 : BitVec 32 := Scalar.muli v17 c1_i32_7
  let v19 : BitVec 32 := Scalar.addi c0_i32 v18
  let c1_i32_9 : BitVec 32 := 1#32
  let arg9 : BitVec 32 := Scf.iv v19 c1_i32_9 k0_t2
  let c512_i32_20 : BitVec 32 := 512#32
  let v40 : BitVec 32 := Scalar.muli arg9 c512_i32_20
  let v41 : BitVec 32 := v40
  let v42 : Index := Scalar.indexCast v41
  let c0_22 : Index := 0#32
  ![0, v42.toNat, 0]
def k0_off4 (i : grid0.Coords) (k0_t2 : Fin (k0_t2_loop i).trips) : Fin 2 → Nat :=
  let c0_i32 : BitVec 32 := 0#32
  let arg1 : BitVec 32 := BitVec.ofNat 32 (i 1).val
  let c1_i32 : BitVec 32 := 1#32
  let v14 : BitVec 32 := Scalar.muli arg1 c1_i32
  let v15 : BitVec 32 := Scalar.subi v14 c0_i32
  let c1_i32_7 : BitVec 32 := 1#32
  let v17 : BitVec 32 := Scalar.divsi v15 c1_i32_7
  let v18 : BitVec 32 := Scalar.muli v17 c1_i32_7
  let v19 : BitVec 32 := Scalar.addi c0_i32 v18
  let c1_i32_9 : BitVec 32 := 1#32
  let arg9 : BitVec 32 := Scf.iv v19 c1_i32_9 k0_t2
  let c512_i32_20 : BitVec 32 := 512#32
  let v40 : BitVec 32 := Scalar.muli arg9 c512_i32_20
  let v41 : BitVec 32 := v40
  let v45 : Index := Scalar.indexCast v41
  let c0_23 : Index := 0#32
  ![v45.toNat, 0]
@[reducible] def k0_t3_loop (i : grid0.Coords) : Scf.Loop 32 :=
  let arg1 : BitVec 32 := BitVec.ofNat 32 (i 1).val
  let c1_i32_10 : BitVec 32 := 1#32
  let v22 : BitVec 32 := Scalar.muli arg1 c1_i32_10
  let c1_i32_11 : BitVec 32 := 1#32
  let v23 : BitVec 32 := Scalar.addi arg1 c1_i32_11
  let c1_i32_12 : BitVec 32 := 1#32
  let v24 : BitVec 32 := Scalar.muli v23 c1_i32_12
  let v25 : BitVec 32 := Scalar.subi v24 v22
  let c1_i32_13 : BitVec 32 := 1#32
  let v27 : BitVec 32 := Scalar.divsi v25 c1_i32_13
  let v28 : BitVec 32 := Scalar.muli v27 c1_i32_13
  let v29 : BitVec 32 := Scalar.addi v22 v28
  let c1_i32_14 : BitVec 32 := 1#32
  ⟨v22, v29, c1_i32_14⟩
def k0_mult3 (i : grid0.Coords) (k0_t3 : Fin (k0_t3_loop i).trips) : BitVec 32 :=
  let arg1 : BitVec 32 := BitVec.ofNat 32 (i 1).val
  let c1_i32_10 : BitVec 32 := 1#32
  let v22 : BitVec 32 := Scalar.muli arg1 c1_i32_10
  let c1_i32_14 : BitVec 32 := 1#32
  let arg9 : BitVec 32 := Scf.iv v22 c1_i32_14 k0_t3
  let c512_i32_20 : BitVec 32 := 512#32
  let v40 : BitVec 32 := Scalar.muli arg9 c512_i32_20
  v40
def k0_off5 (i : grid0.Coords) (k0_t3 : Fin (k0_t3_loop i).trips) : Fin 3 → Nat :=
  let c0_21 : Index := 0#32
  let arg1 : BitVec 32 := BitVec.ofNat 32 (i 1).val
  let c1_i32_10 : BitVec 32 := 1#32
  let v22 : BitVec 32 := Scalar.muli arg1 c1_i32_10
  let c1_i32_14 : BitVec 32 := 1#32
  let arg9 : BitVec 32 := Scf.iv v22 c1_i32_14 k0_t3
  let c512_i32_20 : BitVec 32 := 512#32
  let v40 : BitVec 32 := Scalar.muli arg9 c512_i32_20
  let v41 : BitVec 32 := v40
  let v42 : Index := Scalar.indexCast v41
  let c0_22 : Index := 0#32
  ![0, v42.toNat, 0]
def k0_off6 (i : grid0.Coords) (k0_t3 : Fin (k0_t3_loop i).trips) : Fin 2 → Nat :=
  let arg1 : BitVec 32 := BitVec.ofNat 32 (i 1).val
  let c1_i32_10 : BitVec 32 := 1#32
  let v22 : BitVec 32 := Scalar.muli arg1 c1_i32_10
  let c1_i32_14 : BitVec 32 := 1#32
  let arg9 : BitVec 32 := Scf.iv v22 c1_i32_14 k0_t3
  let c512_i32_20 : BitVec 32 := 512#32
  let v40 : BitVec 32 := Scalar.muli arg9 c512_i32_20
  let v41 : BitVec 32 := v40
  let v45 : Index := Scalar.indexCast v41
  let c0_23 : Index := 0#32
  ![v45.toNat, 0]
@[reducible] def k0_t4_loop (i : grid0.Coords) : Scf.Loop 32 :=
  let arg1 : BitVec 32 := BitVec.ofNat 32 (i 1).val
  let c1_i32_10 : BitVec 32 := 1#32
  let v22 : BitVec 32 := Scalar.muli arg1 c1_i32_10
  let c1_i32_11 : BitVec 32 := 1#32
  let v23 : BitVec 32 := Scalar.addi arg1 c1_i32_11
  let c1_i32_12 : BitVec 32 := 1#32
  let v24 : BitVec 32 := Scalar.muli v23 c1_i32_12
  let v25 : BitVec 32 := Scalar.subi v24 v22
  let c1_i32_13 : BitVec 32 := 1#32
  let v27 : BitVec 32 := Scalar.divsi v25 c1_i32_13
  let v28 : BitVec 32 := Scalar.muli v27 c1_i32_13
  let v29 : BitVec 32 := Scalar.addi v22 v28
  let v26 : BitVec 32 := Scalar.addi v22 v25
  let c1_i32_15 : BitVec 32 := 1#32
  ⟨v29, v26, c1_i32_15⟩
def k0_mult4 (i : grid0.Coords) (k0_t4 : Fin (k0_t4_loop i).trips) : BitVec 32 :=
  let arg1 : BitVec 32 := BitVec.ofNat 32 (i 1).val
  let c1_i32_10 : BitVec 32 := 1#32
  let v22 : BitVec 32 := Scalar.muli arg1 c1_i32_10
  let c1_i32_11 : BitVec 32 := 1#32
  let v23 : BitVec 32 := Scalar.addi arg1 c1_i32_11
  let c1_i32_12 : BitVec 32 := 1#32
  let v24 : BitVec 32 := Scalar.muli v23 c1_i32_12
  let v25 : BitVec 32 := Scalar.subi v24 v22
  let c1_i32_13 : BitVec 32 := 1#32
  let v27 : BitVec 32 := Scalar.divsi v25 c1_i32_13
  let v28 : BitVec 32 := Scalar.muli v27 c1_i32_13
  let v29 : BitVec 32 := Scalar.addi v22 v28
  let c1_i32_15 : BitVec 32 := 1#32
  let arg9 : BitVec 32 := Scf.iv v29 c1_i32_15 k0_t4
  let c512_i32_20 : BitVec 32 := 512#32
  let v40 : BitVec 32 := Scalar.muli arg9 c512_i32_20
  v40
def k0_off7 (i : grid0.Coords) (k0_t4 : Fin (k0_t4_loop i).trips) : Fin 3 → Nat :=
  let c0_21 : Index := 0#32
  let arg1 : BitVec 32 := BitVec.ofNat 32 (i 1).val
  let c1_i32_10 : BitVec 32 := 1#32
  let v22 : BitVec 32 := Scalar.muli arg1 c1_i32_10
  let c1_i32_11 : BitVec 32 := 1#32
  let v23 : BitVec 32 := Scalar.addi arg1 c1_i32_11
  let c1_i32_12 : BitVec 32 := 1#32
  let v24 : BitVec 32 := Scalar.muli v23 c1_i32_12
  let v25 : BitVec 32 := Scalar.subi v24 v22
  let c1_i32_13 : BitVec 32 := 1#32
  let v27 : BitVec 32 := Scalar.divsi v25 c1_i32_13
  let v28 : BitVec 32 := Scalar.muli v27 c1_i32_13
  let v29 : BitVec 32 := Scalar.addi v22 v28
  let c1_i32_15 : BitVec 32 := 1#32
  let arg9 : BitVec 32 := Scf.iv v29 c1_i32_15 k0_t4
  let c512_i32_20 : BitVec 32 := 512#32
  let v40 : BitVec 32 := Scalar.muli arg9 c512_i32_20
  let v41 : BitVec 32 := v40
  let v42 : Index := Scalar.indexCast v41
  let c0_22 : Index := 0#32
  ![0, v42.toNat, 0]
def k0_off8 (i : grid0.Coords) (k0_t4 : Fin (k0_t4_loop i).trips) : Fin 2 → Nat :=
  let arg1 : BitVec 32 := BitVec.ofNat 32 (i 1).val
  let c1_i32_10 : BitVec 32 := 1#32
  let v22 : BitVec 32 := Scalar.muli arg1 c1_i32_10
  let c1_i32_11 : BitVec 32 := 1#32
  let v23 : BitVec 32 := Scalar.addi arg1 c1_i32_11
  let c1_i32_12 : BitVec 32 := 1#32
  let v24 : BitVec 32 := Scalar.muli v23 c1_i32_12
  let v25 : BitVec 32 := Scalar.subi v24 v22
  let c1_i32_13 : BitVec 32 := 1#32
  let v27 : BitVec 32 := Scalar.divsi v25 c1_i32_13
  let v28 : BitVec 32 := Scalar.muli v27 c1_i32_13
  let v29 : BitVec 32 := Scalar.addi v22 v28
  let c1_i32_15 : BitVec 32 := 1#32
  let arg9 : BitVec 32 := Scf.iv v29 c1_i32_15 k0_t4
  let c512_i32_20 : BitVec 32 := 512#32
  let v40 : BitVec 32 := Scalar.muli arg9 c512_i32_20
  let v41 : BitVec 32 := v40
  let v45 : Index := Scalar.indexCast v41
  let c0_23 : Index := 0#32
  ![v45.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== LatentFwdRefIdeal.lean ====
abbrev S8x4096x128 : Shape := ⟨3, ![8, 4096, 128]⟩
abbrev S4096x128 : Shape := ⟨2, ![4096, 128]⟩
abbrev S8x4096x256 : Shape := ⟨3, ![8, 4096, 256]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S4096x8x128 : Shape := ⟨3, ![4096, 8, 128]⟩
abbrev S4096x1024 : Shape := ⟨2, ![4096, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x128, .bf16⟩
  | .hbm, ⟨1, _⟩ => ⟨S8x4096x128, .bf16⟩
  | .hbm, ⟨2, _⟩ => ⟨S8x4096x128, .bf16⟩
  | .hbm, ⟨3, _⟩ => ⟨S4096x128, .bf16⟩
  | .hbm, ⟨4, _⟩ => ⟨S8x4096x128, .bf16⟩
  | .hbm, ⟨5, _⟩ => ⟨S8x4096x256, .bf16⟩
  | .hbm, ⟨6, _⟩ => ⟨S8x4096x128, .bf16⟩
  | .hbm, ⟨7, _⟩ => ⟨S8x4096x256, .bf16⟩
  | .hbm, ⟨8, _⟩ => ⟨S8x4096x256, .f32⟩
  | .hbm, ⟨9, _⟩ => ⟨S8x4096x256, .f32⟩
  | .hbm, ⟨10, _⟩ => ⟨S8x4096x128, .f32⟩
  | .hbm, ⟨11, _⟩ => ⟨S8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x4096x4096, .i1⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x128, .f32⟩
  | .hbm, ⟨49, _⟩ => ⟨S4096x8x128, .f32⟩
  | .hbm, ⟨50, _⟩ => ⟨S4096x1024, .f32⟩
  | .hbm, ⟨51, _⟩ => ⟨S8x4096x128, .f32⟩
  | .hbm, ⟨52, _⟩ => ⟨S4096x8x128, .f32⟩
  | .hbm, ⟨53, _⟩ => ⟨S4096x1024, .f32⟩
  | _, _ => ⟨S8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== AdamSmall.lean ====
abbrev S104x128 : Shape := ⟨2, ![104, 128]⟩

abbrev nBuf : Space → Nat
  | .hbm => 7
  | .vmem => 7
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S104x128, .f32⟩
  | .hbm, ⟨5, _⟩ => ⟨S104x128, .f32⟩
  | .hbm, ⟨6, _⟩ => ⟨S104x128, .f32⟩
  | .local _ .vmem, ⟨0, _⟩ => ⟨S104x128, .f32⟩
  | .local _ .vmem, ⟨1, _⟩ => ⟨S104x128, .f32⟩
  | .local _ .vmem, ⟨2, _⟩ => ⟨S104x128, .f32⟩
  | .local _ .vmem, ⟨3, _⟩ => ⟨S104x128, .f32⟩
  | .local _ .vmem, ⟨4, _⟩ => ⟨S104x128, .f32⟩
  | .local _ .vmem, ⟨5, _⟩ => ⟨S104x128, .f32⟩
  | .local _ .vmem, ⟨6, _⟩ => ⟨S104x128, .f32⟩
  | _, _ => ⟨S104x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S104x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S104x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S104x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S104x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S104x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S104x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S104x128 : Shape := ⟨2, ![104, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S104x128, .f32⟩
  | .hbm, ⟨1, _⟩ => ⟨S104x128, .f32⟩
  | .hbm, ⟨2, _⟩ => ⟨S104x128, .f32⟩
  | .hbm, ⟨3, _⟩ => ⟨S104x128, .f32⟩
  | .hbm, ⟨4, _⟩ => ⟨S_, .f32⟩
  | .hbm, ⟨5, _⟩ => ⟨S104x128, .f32⟩
  | .hbm, ⟨6, _⟩ => ⟨S104x128, .f32⟩
  | .hbm, ⟨7, _⟩ => ⟨S_, .f32⟩
  | .hbm, ⟨8, _⟩ => ⟨S104x128, .f32⟩
  | .hbm, ⟨9, _⟩ => ⟨S104x128, .f32⟩
  | .hbm, ⟨10, _⟩ => ⟨S104x128, .f32⟩
  | .hbm, ⟨11, _⟩ => ⟨S_, .f32⟩
  | .hbm, ⟨12, _⟩ => ⟨S104x128, .f32⟩
  | .hbm, ⟨13, _⟩ => ⟨S104x128, .f32⟩
  | .hbm, ⟨14, _⟩ => ⟨S104x128, .f32⟩
  | .hbm, ⟨15, _⟩ => ⟨S_, .f32⟩
  | .hbm, ⟨16, _⟩ => ⟨S104x128, .f32⟩
  | .hbm, ⟨17, _⟩ => ⟨S104x128, .f32⟩
  | .hbm, ⟨18, _⟩ => ⟨S104x128, .f32⟩
  | .hbm, ⟨19, _⟩ => ⟨S_, .f32⟩
  | .hbm, ⟨20, _⟩ => ⟨S104x128, .f32⟩
  | .hbm, ⟨21, _⟩ => ⟨S104x128, .f32⟩
  | .hbm, ⟨22, _⟩ => ⟨S_, .f32⟩
  | .hbm, ⟨23, _⟩ => ⟨S104x128, .f32⟩
  | .hbm, ⟨24, _⟩ => ⟨S104x128, .f32⟩
  | .hbm, ⟨25, _⟩ => ⟨S104x128, .f32⟩
  | .hbm, ⟨26, _⟩ => ⟨S_, .f32⟩
  | .hbm, ⟨27, _⟩ => ⟨S104x128, .f32⟩
  | .hbm, ⟨28, _⟩ => ⟨S104x128, .f32⟩
  | .hbm, ⟨29, _⟩ => ⟨S104x128, .f32⟩
  | .hbm, ⟨30, _⟩ => ⟨S_, .f32⟩
  | .hbm, ⟨31, _⟩ => ⟨S104x128, .f32⟩
  | .hbm, ⟨32, _⟩ => ⟨S104x128, .f32⟩
  | .hbm, ⟨33, _⟩ => ⟨S104x128, .f32⟩
  | .hbm, ⟨34, _⟩ => ⟨S_, .f32⟩
  | .hbm, ⟨35, _⟩ => ⟨S104x128, .f32⟩
  | .hbm, ⟨36, _⟩ => ⟨S104x128, .f32⟩
  | _, _ => ⟨S104x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumParts.lean ====
abbrev S2176x128 : Shape := ⟨2, ![2176, 128]⟩
abbrev S272x128 : Shape := ⟨2, ![272, 128]⟩

abbrev nBuf : Space → Nat
  | .hbm => 2
  | .vmem => 2
  | .smem => 0
  | _ => 0

abbrev bufTy : (tb : Table) → Fin (tcTables nBuf tb) → BufTy
  | .hbm, ⟨0, _⟩ => ⟨S2176x128, .f32⟩
  | .hbm, ⟨1, _⟩ => ⟨S272x128, .f32⟩
  | .local _ .vmem, ⟨0, _⟩ => ⟨S2176x128, .f32⟩
  | .local _ .vmem, ⟨1, _⟩ => ⟨S272x128, .f32⟩
  | _, _ => ⟨S2176x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumPartsRefIdeal.lean ====
abbrev S2176x128 : Shape := ⟨2, ![2176, 128]⟩
abbrev S8x272x128 : Shape := ⟨3, ![8, 272, 128]⟩
abbrev S_ : Shape := ⟨0, ![]⟩
abbrev S272x128 : Shape := ⟨2, ![272, 128]⟩

abbrev nBuf : Space → Nat
  | .hbm => 4
  | .vmem => 0
  | .smem => 0
  | _ => 0

abbrev bufTy : (tb : Table) → Fin (tcTables nBuf tb) → BufTy
  | .hbm, ⟨0, _⟩ => ⟨S2176x128, .f32⟩
  | .hbm, ⟨1, _⟩ => ⟨S8x272x128, .f32⟩
  | .hbm, ⟨2, _⟩ => ⟨S_, .f32⟩
  | .hbm, ⟨3, _⟩ => ⟨S272x128, .f32⟩
  | _, _ => ⟨S2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NormFwd.lean ====
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== UpdGateUp.lean ====
abbrev S8x1024x704 : Shape := ⟨3, ![8, 1024, 704]⟩
abbrev S1 : Shape := ⟨1, ![1]⟩
abbrev S1024x704 : Shape := ⟨2, ![1024, 704]⟩
abbrev S1x256x704 : Shape := ⟨3, ![1, 256, 704]⟩
abbrev S8x256x704 : Shape := ⟨3, ![8, 256, 704]⟩
abbrev S256x704 : Shape := ⟨2, ![256, 704]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S1x256x704, .bf16⟩
  | .local _ .vmem, ⟨1, _⟩ => ⟨S1x256x704, .bf16⟩
  | .local _ .vmem, ⟨2, _⟩ => ⟨S8x256x704, .bf16⟩
  | .local _ .vmem, ⟨3, _⟩ => ⟨S8x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | .local _ .smem, ⟨0, _⟩ => ⟨S1, .i32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdGateUpRefIdeal.lean ====
abbrev S8x1024x704 : Shape := ⟨3, ![8, 1024, 704]⟩
abbrev S1 : Shape := ⟨1, ![1]⟩
abbrev S1024x704 : Shape := ⟨2, ![1024, 704]⟩
abbrev S8 : Shape := ⟨1, ![8]⟩
abbrev S8x1x1 : Shape := ⟨3, ![8, 1, 1]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S8x1024x704, .bf16⟩
  | .hbm, ⟨2, _⟩ => ⟨S1, .i32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S8, .i32⟩
  | .hbm, ⟨7, _⟩ => ⟨S8, .i32⟩
  | .hbm, ⟨8, _⟩ => ⟨S8, .i1⟩
  | .hbm, ⟨9, _⟩ => ⟨S8x1x1, .i1⟩
  | .hbm, ⟨10, _⟩ => ⟨S8x1024x704, .f32⟩
  | .hbm, ⟨11, _⟩ => ⟨S8x1024x704, .f32⟩
  | .hbm, ⟨12, _⟩ => ⟨S8x1024x704, .i1⟩
  | .hbm, ⟨13, _⟩ => ⟨S8x1024x704, .f32⟩
  | .hbm, ⟨14, _⟩ => ⟨S_, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S1024x704, .f32⟩
  | .hbm, ⟨23, _⟩ => ⟨S_, .f32⟩
  | .hbm, ⟨24, _⟩ => ⟨S1024x704, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | .hbm, ⟨37, _⟩ => ⟨S1024x704, .f32⟩
  | .hbm, ⟨38, _⟩ => ⟨S_, .f32⟩
  | .hbm, ⟨39, _⟩ => ⟨S1024x704, .f32⟩
  | .hbm, ⟨40, _⟩ => ⟨S1024x704, .f32⟩
  | .hbm, ⟨41, _⟩ => ⟨S1024x704, .f32⟩
  | .hbm, ⟨42, _⟩ => ⟨S_, .f32⟩
  | .hbm, ⟨43, _⟩ => ⟨S1024x704, .f32⟩
  | .hbm, ⟨44, _⟩ => ⟨S1024x704, .f32⟩
  | .hbm, ⟨45, _⟩ => ⟨S1024x704, .f32⟩
  | .hbm, ⟨46, _⟩ => ⟨S_, .f32⟩
  | .hbm, ⟨47, _⟩ => ⟨S1024x704, .f32⟩
  | .hbm, ⟨48, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.LatentMath.lean ====
/- The quantities of the latent attention's backward pass at one query and one key, over the extended reals, and the
   split of a sum over the first `512 * (k + 1)` positions into the first `512 * k` and one block more. -/
module

public import Idealize.ShloMosaic.PureOps.Ideal
public import Idealize.ShloMosaic.Lib.Pointwise

@[expose] public section

noncomputable section

namespace Cert.Latent

open Idealize.ShloMosaic

/-- Two halves of 128 side by side: a query or a key of 256 from the part without position and the rotated part. -/
def cat (a b : Fin 128 → EReal) (e : Fin 256) : EReal :=
  if h : e.val < 128 then a ⟨e.val, h⟩ else b ⟨e.val - 128, by omega⟩

theorem cat_left (a b : Fin 128 → EReal) (d : Fin 128) (h : d.val < 256) : cat a b ⟨d.val, h⟩ = a d := dif_pos d.isLt

theorem cat_right (a b : Fin 128 → EReal) (d : Fin 128) (h : 128 + d.val < 256) : cat a b ⟨128 + d.val, h⟩ = b d := by
  unfold cat
  rw [dif_neg (by simp)]
  exact congrArg b (Fin.ext (by simp))

/-- The softmax weight of the key at position `p` for the query at position `n`, from the row's saved log-sum `l`:
    zero for a key after the query. -/
def weight (n p : ℕ) (q k : Fin 256 → EReal) (l : EReal) : EReal :=
  if p ≤ n then Ideal.exp (∑ e, q e * k e - l) else 0

/-- The gradient of the score of query `n` and key `p`: the weight times what the output's gradient `g` makes of the
    key's value `v` less what it makes of the query's output `o`. -/
def scoreGrad (n p : ℕ) (q k : Fin 256 → EReal) (l : EReal) (g v o : Fin 128 → EReal) : EReal :=
  weight n p q k l * (∑ d, g d * v d - ∑ d, g d * o d)

/-- `f` at a natural number, zero past its end. -/
def ext {N : ℕ} (f : Fin N → EReal) (n : ℕ) : EReal := if h : n < N then f ⟨n, h⟩ else 0

theorem ext_val {N : ℕ} (f : Fin N → EReal) (n : Fin N) : ext f n.val = f n := dif_pos n.isLt

theorem ext_of_lt {N : ℕ} (f : Fin N → EReal) {n : ℕ} (h : n < N) : ext f n = f ⟨n, h⟩ := dif_pos h

/-- The sum over all positions as the sum over the natural numbers below their count. -/
theorem sum_ext {N : ℕ} (f : Fin N → EReal) : ∑ n ∈ Finset.range N, ext f n = ∑ n, f n := by
  rw [Finset.sum_range]
  exact Finset.sum_congr rfl fun n _ => ext_val f n

/-- One block of 512 positions more. -/
theorem sum_block (f : ℕ → EReal) (k : ℕ) :
    ∑ n ∈ Finset.range (512 * (k + 1)), f n = ∑ n ∈ Finset.range (512 * k), f n + ∑ c : Fin 512, f (512 * k + c.val) := by
  rw [show 512 * (k + 1) = 512 * k + 512 by ring, Finset.sum_range_add, Finset.sum_range (n := 512)]

end Cert.Latent

end
-- ==== Proof.LatentPay.lean ====
/- What the latent attention's backward kernel computes from one block of queries and one block of keys, read at an
   index: the query gradient's, the key gradients' and the value gradient's new contents, of a trip before the diagonal
   and of the trip on it. -/
module

public import proofs.«01_k».proof.Proof.Gen.KernelIdeal.Skeleton
public import proofs.«01_k».proof.Proof.LatentMath
public import Idealize.ShloMosaic.Lib.Pointwise
public import Idealize.ShloMosaic.Lib.Affine

@[expose] public section

noncomputable section

namespace Cert.KernelIdeal.Latent

open Cert.KernelIdeal Cert.KernelIdeal.Gen Cert.Latent
open Idealize.ShloMosaic Idealize.ShloMosaic.TcCoe Idealize.ShloMosaic.Tactic Idealize.SL.Sem

/-- Row `r` of a block of head parts. -/
abbrev row3 {n : ℕ} {φ : EltTy} (x : (⟨3, ![1, n, 128]⟩ : Shape).Idx → Elt Ideal φ) (r : Fin n) : Fin 128 → Elt Ideal φ :=
  fun d => x (ix3 0 r d)

/-- Row `r` of a block of tokens' parts. -/
abbrev row2 {n : ℕ} {φ : EltTy} (x : (⟨2, ![n, 128]⟩ : Shape).Idx → Elt Ideal φ) (r : Fin n) : Fin 128 → Elt Ideal φ :=
  fun d => x (ix2 r d)

variable (v3 v5 : Vec Ideal S1x512x128 .bf16) (v8 v10 : Vec Ideal S512x128 .f32) (v15 : Vec Ideal S512x1 .f32)
  (v53 : Vec Ideal S1x512x128 .bf16) (v56 : Vec Ideal S512x128 .bf16) (v59 : Vec Ideal S1x512x128 .bf16)

/-- The block's queries. -/
theorem pay_q (r : Fin 512) (e : Fin 256) : k0_pay36 v3 v5 (ix2 r e) = cat (row3 v3 r) (row3 v5 r) e := by
  pointwise [k0_pay36, cat]

/-- The block's keys. -/
theorem pay_k (r : Fin 512) (e : Fin 256) : k0_pay9 v53 v56 (ix2 r e) = cat (row3 v53 r) (row2 v56 r) e := by
  pointwise [k0_pay9, cat]

/-- The block's keys, in the trip on the diagonal. -/
theorem pay_k' (r : Fin 512) (e : Fin 256) : k0_pay21 v53 v56 (ix2 r e) = cat (row3 v53 r) (row2 v56 r) e := by
  pointwise [k0_pay21, cat]

/-- The weights of a block before the diagonal. -/
theorem pay_w (n p : ℕ) (h : p ≤ n) (r c : Fin 512) :
    k0_pay10 (k0_pay36 v3 v5) (k0_pay39 v15) v53 v56 (ix2 r c)
      = weight n p (cat (row3 v3 r) (row3 v5 r)) (cat (row3 v53 c) (row2 v56 c)) (v15 (ix2 r 0)) := by
  rw [weight, if_pos h]
  pointwise [k0_pay10, k0_pay39]
  simp only [pay_q, pay_k]

/-- The score gradients of a block before the diagonal. -/
theorem pay_ds (n p : ℕ) (h : p ≤ n) (r c : Fin 512) :
    k0_pay11 (k0_pay36 v3 v5) (k0_pay37 v8) (k0_pay38 v8 v10) (k0_pay39 v15) v53 v56 v59 (ix2 r c)
      = scoreGrad n p (cat (row3 v3 r) (row3 v5 r)) (cat (row3 v53 c) (row2 v56 c)) (v15 (ix2 r 0))
          (row2 v8 r) (row3 v59 c) (row2 v10 r) := by
  rw [scoreGrad, ← pay_w v3 v5 v15 v53 v56 n p h r c]
  pointwise [k0_pay11, k0_pay37, k0_pay38]

/-- The query gradient carried by the loop, after a block before the diagonal. -/
theorem pay_dq (n p : Fin 512 → ℕ) (h : ∀ r c, p c ≤ n r) (acc : FVec Ideal S512x256 .f32) (r : Fin 512) (e : Fin 256) :
    k0_pay43 acc (k0_pay9 v53 v56)
        (k0_pay11 (k0_pay36 v3 v5) (k0_pay37 v8) (k0_pay38 v8 v10) (k0_pay39 v15) v53 v56 v59) (ix2 r e)
      = acc (ix2 r e) + ∑ c, scoreGrad (n r) (p c) (cat (row3 v3 r) (row3 v5 r)) (cat (row3 v53 c) (row2 v56 c)) (v15 (ix2 r 0))
          (row2 v8 r) (row3 v59 c) (row2 v10 r) * cat (row3 v53 c) (row2 v56 c) e := by
  pointwise [k0_pay43]
  simp only [pay_k, fun c => pay_ds v3 v5 v8 v10 v15 v53 v56 v59 (n r) (p c) (h r c) r c]

/-- The gradient of the keys' part without position, of a block before the diagonal, after this block of queries. -/
theorem pay_dkn (n p : Fin 512 → ℕ) (h : ∀ r c, p c ≤ n r) (v72 : Vec Ideal S1x512x128 .f32) (c : Fin 512) (d : Fin 128) :
    k0_pay13 (k0_pay36 v3 v5) (k0_pay37 v8) (k0_pay38 v8 v10) (k0_pay39 v15) v53 v56 v59 v72 (ix3 0 c d)
      = v72 (ix3 0 c d) + ∑ r, scoreGrad (n r) (p c) (cat (row3 v3 r) (row3 v5 r)) (cat (row3 v53 c) (row2 v56 c)) (v15 (ix2 r 0))
          (row2 v8 r) (row3 v59 c) (row2 v10 r) * row3 v3 r d := by
  pointwise [k0_pay13, k0_pay12]
  simp only [pay_q, cat_left, fun r => pay_ds v3 v5 v8 v10 v15 v53 v56 v59 (n r) (p c) (h r c) r c]

/-- The gradient of the keys' rotated part, likewise. -/
theorem pay_dkr (n p : Fin 512 → ℕ) (h : ∀ r c, p c ≤ n r) (v81 : Vec Ideal S1x512x128 .f32) (c : Fin 512) (d : Fin 128) :
    k0_pay14 (k0_pay36 v3 v5) (k0_pay37 v8) (k0_pay38 v8 v10) (k0_pay39 v15) v53 v56 v59 v81 (ix3 0 c d)
      = v81 (ix3 0 c d) + ∑ r, scoreGrad (n r) (p c) (cat (row3 v3 r) (row3 v5 r)) (cat (row3 v53 c) (row2 v56 c)) (v15 (ix2 r 0))
          (row2 v8 r) (row3 v59 c) (row2 v10 r) * row3 v5 r d := by
  pointwise [k0_pay14, k0_pay12]
  simp only [pay_q, cat_right, fun r => pay_ds v3 v5 v8 v10 v15 v53 v56 v59 (n r) (p c) (h r c) r c]

/-- The gradient of the values, likewise. -/
theorem pay_dv (n p : Fin 512 → ℕ) (h : ∀ r c, p c ≤ n r) (v90 : Vec Ideal S1x512x128 .f32) (c : Fin 512) (d : Fin 128) :
    k0_pay42 v8 (k0_pay10 (k0_pay36 v3 v5) (k0_pay39 v15) v53 v56) v90 (ix3 0 c d)
      = v90 (ix3 0 c d) + ∑ r, weight (n r) (p c) (cat (row3 v3 r) (row3 v5 r)) (cat (row3 v53 c) (row2 v56 c)) (v15 (ix2 r 0))
          * row2 v8 r d := by
  pointwise [k0_pay42, k0_pay37]
  simp only [fun r => pay_w v3 v5 v15 v53 v56 (n r) (p c) (h r c) r c]

/-- The kernel's mask on the diagonal block, of the order of a query and a key counted within it. -/
theorem mask_iff (i : grid0.Coords) (k : Fin (k0_t3_loop i).trips) (r c : Fin 512) :
    IntOp.cmpi CmpIPredicate.sge
        (IntOp.addi (IntOp.subi (BitVec.ofNat 32 r.val) (BitVec.ofNat 32 c.val)) (Scalar.muli (BitVec.ofNat 32 (i 1).val) 512#32))
        (Scalar.muli (Scf.iv (Scalar.muli (BitVec.ofNat 32 (i 1).val) 1#32) 1#32 k.val) 512#32)
      = if 512 * (i 1).val + c.val ≤ 512 * (i 1).val + r.val then 1#1 else 0#1 := by
  have hk : k.val = 0 := by have := Nat.lt_of_lt_of_le k.isLt (k0_t3_abs i).2.1; omega
  have hi : (i 1).val < 8 := (i 1).isLt
  have hr := r.isLt
  have hc := c.isLt
  have a : Affine.IsInt (Scalar.addi (Scalar.subi (BitVec.ofNat 32 r.val) (BitVec.ofNat 32 c.val)) (Scalar.muli (BitVec.ofNat 32 (i 1).val) 512#32))
      ((r.val : Int) - c.val + (i 1).val * 512) :=
    Affine.addi (Affine.subi (Affine.ofNat (e := r.val) r.val (by omega)) (Affine.ofNat (e := c.val) c.val (by omega)) (e := r.val - c.val) (by omega))
      (Affine.muli (Affine.ofNat (e := (i 1).val) (i 1).val (by omega)) (Affine.ofNat (e := 512) 512 (by omega)) (e := (i 1).val * 512) (by omega)) (by omega)
  have b : Affine.IsInt (Scalar.muli (Scf.iv (Scalar.muli (BitVec.ofNat 32 (i 1).val) 1#32) 1#32 k.val) 512#32) (((i 1).val : Int) * 512) :=
    Affine.muli (Affine.iv (Affine.muli (Affine.ofNat (e := (i 1).val) (i 1).val (by omega)) (Affine.ofNat (e := 1) 1 (by omega)) (e := (i 1).val) (by omega))
      (Affine.ofNat (e := 1) 1 (by omega)) k.val (e := (i 1).val) (by omega)) (Affine.ofNat (e := 512) 512 (by omega)) (by omega)
  by_cases h : 512 * (i 1).val + c.val ≤ 512 * (i 1).val + r.val
  · rw [if_pos h]; exact Affine.sge_holds a b (by omega)
  · rw [if_neg h]; exact (BitVec.eq_zero_or_eq_one _).resolve_right (Affine.sge_fails a b (by omega))

/-- The weights of the block on the diagonal. -/
theorem pay_w' (i : grid0.Coords) (k : Fin (k0_t3_loop i).trips) (r c : Fin 512) :
    k0_pay22 i (k0_pay36 v3 v5) (k0_pay39 v15) (k0_pay40 i) (Scalar.muli (BitVec.ofNat 32 (i 1).val) 1#32) 1#32 k v53 v56 (ix2 r c)
      = weight (512 * (i 1).val + r.val) (512 * (i 1).val + c.val) (cat (row3 v3 r) (row3 v5 r)) (cat (row3 v53 c) (row2 v56 c)) (v15 (ix2 r 0)) := by
  pointwise [k0_pay22, k0_pay39, k0_pay40]
  rw [mask_iff]
  simp only [pay_q, pay_k', weight]
  by_cases h : 512 * (i 1).val + c.val ≤ 512 * (i 1).val + r.val
  · rw [if_pos h, if_pos h]; rfl
  · rw [if_neg h, if_neg h]; rfl

/-- The score gradients of the block on the diagonal. -/
theorem pay_ds' (i : grid0.Coords) (k : Fin (k0_t3_loop i).trips) (r c : Fin 512) :
    k0_pay23 i (k0_pay36 v3 v5) (k0_pay37 v8) (k0_pay38 v8 v10) (k0_pay39 v15) (k0_pay40 i)
        (Scalar.muli (BitVec.ofNat 32 (i 1).val) 1#32) 1#32 k v53 v56 v59 (ix2 r c)
      = scoreGrad (512 * (i 1).val + r.val) (512 * (i 1).val + c.val) (cat (row3 v3 r) (row3 v5 r)) (cat (row3 v53 c) (row2 v56 c)) (v15 (ix2 r 0))
          (row2 v8 r) (row3 v59 c) (row2 v10 r) := by
  rw [scoreGrad, ← pay_w' v3 v5 v15 v53 v56 i k r c]
  pointwise [k0_pay23, k0_pay37, k0_pay38]

/-- The query gradient carried by the loop, after the block on the diagonal. -/
theorem pay_dq' (i : grid0.Coords) (k : Fin (k0_t3_loop i).trips) (acc : FVec Ideal S512x256 .f32) (r : Fin 512) (e : Fin 256) :
    k0_pay3 acc (k0_pay21 v53 v56)
        (k0_pay23 i (k0_pay36 v3 v5) (k0_pay37 v8) (k0_pay38 v8 v10) (k0_pay39 v15) (k0_pay40 i)
          (Scalar.muli (BitVec.ofNat 32 (i 1).val) 1#32) 1#32 k v53 v56 v59) (ix2 r e)
      = acc (ix2 r e) + ∑ c : Fin 512, scoreGrad (512 * (i 1).val + r.val) (512 * (i 1).val + c.val) (cat (row3 v3 r) (row3 v5 r))
          (cat (row3 v53 c) (row2 v56 c)) (v15 (ix2 r 0)) (row2 v8 r) (row3 v59 c) (row2 v10 r) * cat (row3 v53 c) (row2 v56 c) e := by
  pointwise [k0_pay3]
  simp only [pay_k', pay_ds']

/-- The gradient of the keys' part without position, of the block on the diagonal, after its block of queries. -/
theorem pay_dkn' (i : grid0.Coords) (k : Fin (k0_t3_loop i).trips) (v77 : Vec Ideal S1x512x128 .f32) (c : Fin 512) (d : Fin 128) :
    k0_pay25 i (k0_pay36 v3 v5) (k0_pay37 v8) (k0_pay38 v8 v10) (k0_pay39 v15) (k0_pay40 i)
          (Scalar.muli (BitVec.ofNat 32 (i 1).val) 1#32) 1#32 k v53 v56 v59 v77 (ix3 0 c d)
      = v77 (ix3 0 c d) + ∑ r : Fin 512, scoreGrad (512 * (i 1).val + r.val) (512 * (i 1).val + c.val) (cat (row3 v3 r) (row3 v5 r))
          (cat (row3 v53 c) (row2 v56 c)) (v15 (ix2 r 0)) (row2 v8 r) (row3 v59 c) (row2 v10 r) * row3 v3 r d := by
  pointwise [k0_pay25, k0_pay24]
  simp only [pay_q, cat_left, pay_ds']

/-- The gradient of the keys' rotated part, likewise. -/
theorem pay_dkr' (i : grid0.Coords) (k : Fin (k0_t3_loop i).trips) (v86 : Vec Ideal S1x512x128 .f32) (c : Fin 512) (d : Fin 128) :
    k0_pay1 (k0_pay26 i (k0_pay36 v3 v5) (k0_pay37 v8) (k0_pay38 v8 v10) (k0_pay39 v15) (k0_pay40 i)
          (Scalar.muli (BitVec.ofNat 32 (i 1).val) 1#32) 1#32 k v53 v56 v59 v86) (ix3 0 c d)
      = v86 (ix3 0 c d) + ∑ r : Fin 512, scoreGrad (512 * (i 1).val + r.val) (512 * (i 1).val + c.val) (cat (row3 v3 r) (row3 v5 r))
          (cat (row3 v53 c) (row2 v56 c)) (v15 (ix2 r 0)) (row2 v8 r) (row3 v59 c) (row2 v10 r) * row3 v5 r d := by
  pointwise [k0_pay1, k0_pay26, k0_pay24]
  simp only [pay_q, cat_right, pay_ds']

/-- The gradient of the values, likewise. -/
theorem pay_dv' (i : grid0.Coords) (k : Fin (k0_t3_loop i).trips) (v95 : Vec Ideal S1x512x128 .f32) (c : Fin 512) (d : Fin 128) :
    k0_pay2 (k0_pay37 v8) (k0_pay22 i (k0_pay36 v3 v5) (k0_pay39 v15) (k0_pay40 i)
          (Scalar.muli (BitVec.ofNat 32 (i 1).val) 1#32) 1#32 k v53 v56) v95 (ix3 0 c d)
      = v95 (ix3 0 c d) + ∑ r : Fin 512, weight (512 * (i 1).val + r.val) (512 * (i 1).val + c.val) (cat (row3 v3 r) (row3 v5 r))
          (cat (row3 v53 c) (row2 v56 c)) (v15 (ix2 r 0)) * row2 v8 r d := by
  pointwise [k0_pay2, k0_pay37]
  simp only [pay_w']

end Cert.KernelIdeal.Latent

end
-- ==== Proof.LatentTrip.lean ====
/- One trip of the latent attention's backward kernel's loops over the key blocks, read at an index: the query gradient
   the loop carries, and what the trip leaves in the staging buffers of the key and value gradients. -/
module

public import proofs.«01_k».proof.Proof.Gen.KernelIdeal.Loops
public import proofs.«01_k».proof.Proof.LatentPay
public import Idealize.ShloMosaic.Lib.WritesUnit
public import Idealize.ShloMosaic.Lib.Pipeline.ValueKit.Tiles

@[expose] public section

set_option maxRecDepth 16384

noncomputable section

namespace Cert.KernelIdeal.Latent

open Cert.KernelIdeal Cert.KernelIdeal.Gen Cert.Latent
open Idealize.ShloMosaic Idealize.ShloMosaic.TcCoe Idealize.ShloMosaic.Tactic Idealize.SL.Sem

/-- The loop over the blocks before the diagonal has as many trips as the query block's number. -/
theorem trips1 : ∀ i : grid0.Coords, (k0_t1_loop i).trips = (i 1).val := by decide +kernel

/-- The loop on the diagonal has one trip. -/
theorem trips3 : ∀ i : grid0.Coords, (k0_t3_loop i).trips = 1 := by decide +kernel

/-- Where the trip on the diagonal reads and writes the head's keys. -/
theorem off5_eq : ∀ (i : grid0.Coords) (k : Fin (k0_t3_loop i).trips), k0_off5 i k = ![0, 512 * (i 1).val, 0] := by decide +kernel

/-- Where it reads the rotated keys. -/
theorem off6_eq : ∀ (i : grid0.Coords) (k : Fin (k0_t3_loop i).trips), k0_off6 i k = ![512 * (i 1).val, 0] := by decide +kernel

/-- Row `c` of key block `k`, counted from the first key. -/
def at512 (k : ℕ) (hk : k < 8) (c : Fin 512) : Fin 4096 := ⟨512 * k + c.val, by omega⟩

section Load

variable {φ : EltTy} {k : ℕ} (hk : k < 8)

/-- A block of rows read through a rectangle of them, at an index. -/
theorem ld3 (X : S1x4096x128.Idx → Elt Ideal φ) {off : Fin 3 → ℕ} (h : off = ![0, 512 * k, 0]) (inb) (c : Fin 512) (d : Fin 128) :
    View.ld X (Rect.unit (s := S1x4096x128) off S1x512x128.size inb) (ix3 0 c d) = X (ix3 0 (at512 k hk c) d) :=
  View.ld_unit_apply_of X off S1x512x128.size inb (ix3 0 c d) (ix3 0 (at512 k hk c) d) fun a => by
    subst h
    fin_cases a <;> simp [at512, ix3]

/-- The same for rows of tokens. -/
theorem ld2 (X : S4096x128.Idx → Elt Ideal φ) {off : Fin 2 → ℕ} (h : off = ![512 * k, 0]) (inb) (c : Fin 512) (d : Fin 128) :
    View.ld X (Rect.unit (s := S4096x128) off S512x128.size inb) (ix2 c d) = X (ix2 (at512 k hk c) d) :=
  View.ld_unit_apply_of X off S512x128.size inb (ix2 c d) (ix2 (at512 k hk c) d) fun a => by
    subst h
    fin_cases a <;> simp [at512, ix2]

/-- A row of a block of rows read through a rectangle of them. -/
theorem row_ld3 (X : S1x4096x128.Idx → Elt Ideal φ) {off : Fin 3 → ℕ} (h : off = ![0, 512 * k, 0]) (inb) (c : Fin 512) :
    row3 (φ := φ) (View.ld X (Rect.unit (s := S1x4096x128) off S1x512x128.size inb)) c = row3 X (at512 k hk c) :=
  funext fun d => ld3 hk X h inb c d

/-- The same for rows of tokens. -/
theorem row_ld2 (X : S4096x128.Idx → Elt Ideal φ) {off : Fin 2 → ℕ} (h : off = ![512 * k, 0]) (inb) (c : Fin 512) :
    row2 (φ := φ) (View.ld X (Rect.unit (s := S4096x128) off S512x128.size inb)) c = row2 X (at512 k hk c) :=
  funext fun d => ld2 hk X h inb c d

end Load

/-- A block of rows stored over a buffer: its rows read the payload, the others what was there. -/
theorem read_store {sp : Space} (v : View sig .tc sp S1x4096x128 .f32) (f : v.ty.Contents (Elt Ideal)) {off : Fin 3 → ℕ} (k : ℕ)
    (hk : k < 8) (h : off = ![0, 512 * k, 0]) (inb) (w : Vec Ideal S1x512x128 .f32) (L : List (View.Piece (Elt Ideal) S1x4096x128 .f32))
    (j : Fin 4096) (d : Fin 128) (C : EReal)
    (hw : ∀ c : Fin 512, j = at512 k hk c → w (ix3 0 c d) = v.read (Elt Ideal) (v.writes (Elt Ideal) f L) (ix3 0 j d) + C) :
    v.read (Elt Ideal) (v.writes (Elt Ideal) f (⟨Rect.unit (s := S1x4096x128) off S1x512x128.size inb, w⟩ :: L)) (ix3 0 j d)
      = if j.val / 512 = k then v.read (Elt Ideal) (v.writes (Elt Ideal) f L) (ix3 0 j d) + C
        else v.read (Elt Ideal) (v.writes (Elt Ideal) f L) (ix3 0 j d) := by
  by_cases hj : j.val / 512 = k
  · rw [if_pos hj]
    have e : j = at512 k hk ⟨j.val - 512 * k, by omega⟩ := Fin.ext (by simp only [at512]; omega)
    rw [← hw _ e]
    refine View.read_writes_cons_unit_of_mem v f inb w L (ix3 0 j d) (ix3 0 ⟨j.val - 512 * k, by omega⟩ d) h fun a => ?_
    fin_cases a
    · simp [ix3]
    · simp [ix3]; omega
    · simp [ix3]
  · rw [if_neg hj]
    refine View.read_writes_cons_unit_of_not_mem v f inb w L (ix3 0 j d) h 1 ?_
    simp [ix3]
    omega

/-- The score gradient of query `r` of query block `i` and key `j`, of the block's arrays and the head's keys and values. -/
def sg (i : grid0.Coords) (v3 v5 : Vec Ideal S1x512x128 .bf16) (v8 v10 : Vec Ideal S512x128 .f32) (v15 : Vec Ideal S512x1 .f32)
    (xk : Vec Ideal S1x4096x128 .bf16) (xr : Vec Ideal S4096x128 .bf16) (xv : Vec Ideal S1x4096x128 .bf16) (r : Fin 512) (j : Fin 4096) : EReal :=
  scoreGrad (512 * (i 1).val + r.val) j.val (cat (row3 v3 r) (row3 v5 r)) (cat (row3 xk j) (row2 xr j)) (v15 (ix2 r 0))
    (row2 v8 r) (row3 xv j) (row2 v10 r)

/-- The weight of query `r` of query block `i` and key `j`, likewise. -/
def wt (i : grid0.Coords) (v3 v5 : Vec Ideal S1x512x128 .bf16) (v15 : Vec Ideal S512x1 .f32)
    (xk : Vec Ideal S1x4096x128 .bf16) (xr : Vec Ideal S4096x128 .bf16) (r : Fin 512) (j : Fin 4096) : EReal :=
  weight (512 * (i 1).val + r.val) j.val (cat (row3 v3 r) (row3 v5 r)) (cat (row3 xk j) (row2 xr j)) (v15 (ix2 r 0))

section Trips

variable (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
  (v3 v5 : Vec Ideal S1x512x128 .bf16) (v8 v10 : Vec Ideal S512x128 .f32) (v15 : Vec Ideal S512x1 .f32)
  (X4 : BufTy.Contents (Elt Ideal) arg4.view.ty) (X5 : BufTy.Contents (Elt Ideal) arg5.view.ty) (X6 : BufTy.Contents (Elt Ideal) arg6.view.ty)

/-- A trip before the diagonal adds its block of keys to the query gradient. -/
theorem trip1_acc (k : Fin (k0_t1_loop i).trips) (hk : k.val < (i 1).val) (h8 : k.val < 8) (acc : FVec Ideal S512x256 .f32) f12 f13 f14 (r : Fin 512) (e : Fin 256) :
    tripR_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 k acc f12 f13 f14 (ix2 r e)
      = acc (ix2 r e) + ∑ m, sg i v3 v5 v8 v10 v15 (arg4.view.read (Elt Ideal) X4) (arg5.view.read (Elt Ideal) X5) (arg6.view.read (Elt Ideal) X6) r (at512 k.val h8 m) * cat (row3 (arg4.view.read (Elt Ideal) X4) (at512 k.val h8 m)) (row2 (arg5.view.read (Elt Ideal) X5) (at512 k.val h8 m)) e := by
  unfold tripR_k0_t1 trip_k0_t1
  dsimp only
  simp only [trip_k0_t1.sl.r, trip_k0_t1.sl.r_1, trip_k0_t1.sl.r_2, View.readAt_eq_ld]
  rw [pay_dq (n := fun r => 512 * (i 1).val + r.val) (p := fun m => (at512 k.val h8 m).val) (h := fun r m => by simp only [at512]; omega)]
  simp only [sg, row_ld3 h8 _ (k0_off1_eq i k), row_ld2 h8 _ (k0_off2_eq i k), ld3 h8 _ (k0_off1_eq i k)]

/-- A trip before the diagonal adds the block's queries to the gradient of the keys' part without position, at the keys of its block. -/
theorem trip1_12 (k : Fin (k0_t1_loop i).trips) (hk : k.val < (i 1).val) (h8 : k.val < 8) (acc : FVec Ideal S512x256 .f32) f12 f13 f14 (j : Fin 4096) (d : Fin 128) :
    arg12.view.read (Elt Ideal) (arg12.view.writes (Elt Ideal) f12 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 k acc f12 f13 f14).1) (ix3 0 j d)
      = if j.val / 512 = k.val then arg12.view.read (Elt Ideal) f12 (ix3 0 j d) + ∑ r, sg i v3 v5 v8 v10 v15 (arg4.view.read (Elt Ideal) X4) (arg5.view.read (Elt Ideal) X5) (arg6.view.read (Elt Ideal) X6) r j * v3 (ix3 0 r d)
        else arg12.view.read (Elt Ideal) f12 (ix3 0 j d) := by
  unfold tripL_k0_t1 trip_k0_t1
  dsimp only
  simp only [trip_k0_t1.sl.r, trip_k0_t1.sl.r_1, trip_k0_t1.sl.r_2, View.readAt_eq_ld]
  refine read_store _ _ k.val h8 (k0_off1_eq i k) _ _ _ _ _ _ fun m hm => ?_
  rw [pay_dkn (n := fun r => 512 * (i 1).val + r.val) (p := fun m => (at512 k.val h8 m).val) (h := fun r m => by simp only [at512]; omega)]
  subst hm
  refine congrArg₂ (fun a b : EReal => a + b) (ld3 h8 _ (k0_off1_eq i k) _ m d) ?_
  simp only [sg, row_ld3 h8 _ (k0_off1_eq i k), row_ld2 h8 _ (k0_off2_eq i k)]

/-- A trip before the diagonal adds the block's queries to the gradient of the keys' rotated part, at the keys of its block. -/
theorem trip1_13 (k : Fin (k0_t1_loop i).trips) (hk : k.val < (i 1).val) (h8 : k.val < 8) (acc : FVec Ideal S512x256 .f32) f12 f13 f14 (j : Fin 4096) (d : Fin 128) :
    arg13.view.read (Elt Ideal) (arg13.view.writes (Elt Ideal) f13 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 k acc f12 f13 f14).2.1) (ix3 0 j d)
      = if j.val / 512 = k.val then arg13.view.read (Elt Ideal) f13 (ix3 0 j d) + ∑ r, sg i v3 v5 v8 v10 v15 (arg4.view.read (Elt Ideal) X4) (arg5.view.read (Elt Ideal) X5) (arg6.view.read (Elt Ideal) X6) r j * v5 (ix3 0 r d)
        else arg13.view.read (Elt Ideal) f13 (ix3 0 j d) := by
  unfold tripL_k0_t1 trip_k0_t1
  dsimp only
  simp only [trip_k0_t1.sl.r, trip_k0_t1.sl.r_1, trip_k0_t1.sl.r_2, View.readAt_eq_ld]
  refine read_store _ _ k.val h8 (k0_off1_eq i k) _ _ _ _ _ _ fun m hm => ?_
  rw [pay_dkr (n := fun r => 512 * (i 1).val + r.val) (p := fun m => (at512 k.val h8 m).val) (h := fun r m => by simp only [at512]; omega)]
  subst hm
  refine congrArg₂ (fun a b : EReal => a + b) (ld3 h8 _ (k0_off1_eq i k) _ m d) ?_
  simp only [sg, row_ld3 h8 _ (k0_off1_eq i k), row_ld2 h8 _ (k0_off2_eq i k)]

/-- A trip before the diagonal adds the block's queries to the gradient of the values, at the keys of its block. -/
theorem trip1_14 (k : Fin (k0_t1_loop i).trips) (hk : k.val < (i 1).val) (h8 : k.val < 8) (acc : FVec Ideal S512x256 .f32) f12 f13 f14 (j : Fin 4096) (d : Fin 128) :
    arg14.view.read (Elt Ideal) (arg14.view.writes (Elt Ideal) f14 (tripL_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 k acc f12 f13 f14).2.2) (ix3 0 j d)
      = if j.val / 512 = k.val then arg14.view.read (Elt Ideal) f14 (ix3 0 j d) + ∑ r, wt i v3 v5 v15 (arg4.view.read (Elt Ideal) X4) (arg5.view.read (Elt Ideal) X5) r j * v8 (ix2 r d)
        else arg14.view.read (Elt Ideal) f14 (ix3 0 j d) := by
  unfold tripL_k0_t1 trip_k0_t1
  dsimp only
  simp only [trip_k0_t1.sl.r, trip_k0_t1.sl.r_1, trip_k0_t1.sl.r_2, View.readAt_eq_ld]
  refine read_store _ _ k.val h8 (k0_off1_eq i k) _ _ _ _ _ _ fun m hm => ?_
  rw [pay_dv (n := fun r => 512 * (i 1).val + r.val) (p := fun m => (at512 k.val h8 m).val) (h := fun r m => by simp only [at512]; omega)]
  subst hm
  refine congrArg₂ (fun a b : EReal => a + b) (ld3 h8 _ (k0_off1_eq i k) _ m d) ?_
  simp only [wt, row_ld3 h8 _ (k0_off1_eq i k), row_ld2 h8 _ (k0_off2_eq i k)]

/-- A trip on the diagonal adds its block of keys to the query gradient. -/
theorem trip3_acc (k : Fin (k0_t3_loop i).trips) (h8 : (i 1).val < 8) (acc : FVec Ideal S512x256 .f32) f12 f13 f14 (r : Fin 512) (e : Fin 256) :
    tripR_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
      (k0_pay40 i) (Scalar.muli (BitVec.ofNat 32 (i 1).val) 1#32) X4 X5 X6 k acc f12 f13 f14 (ix2 r e)
      = acc (ix2 r e) + ∑ m, sg i v3 v5 v8 v10 v15 (arg4.view.read (Elt Ideal) X4) (arg5.view.read (Elt Ideal) X5) (arg6.view.read (Elt Ideal) X6) r (at512 (i 1).val h8 m) * cat (row3 (arg4.view.read (Elt Ideal) X4) (at512 (i 1).val h8 m)) (row2 (arg5.view.read (Elt Ideal) X5) (at512 (i 1).val h8 m)) e := by
  unfold tripR_k0_t3 trip_k0_t3
  dsimp only
  simp only [trip_k0_t3.sl.r, trip_k0_t3.sl.r_1, trip_k0_t3.sl.r_2, trip_k0_t3.sl.r_3, View.readAt_eq_ld]
  rw [pay_dq']
  simp only [sg, at512, row_ld3 h8 _ (off5_eq i k), row_ld2 h8 _ (off6_eq i k), ld3 h8 _ (off5_eq i k)]

/-- A trip on the diagonal adds the block's queries to the gradient of the keys' part without position, at the keys of its block. -/
theorem trip3_12 (k : Fin (k0_t3_loop i).trips) (h8 : (i 1).val < 8) (acc : FVec Ideal S512x256 .f32) f12 f13 f14 (j : Fin 4096) (d : Fin 128) :
    arg12.view.read (Elt Ideal) (arg12.view.writes (Elt Ideal) f12 (tripL_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
      (k0_pay40 i) (Scalar.muli (BitVec.ofNat 32 (i 1).val) 1#32) X4 X5 X6 k acc f12 f13 f14).1) (ix3 0 j d)
      = if j.val / 512 = (i 1).val then arg12.view.read (Elt Ideal) f12 (ix3 0 j d) + ∑ r, sg i v3 v5 v8 v10 v15 (arg4.view.read (Elt Ideal) X4) (arg5.view.read (Elt Ideal) X5) (arg6.view.read (Elt Ideal) X6) r j * v3 (ix3 0 r d)
        else arg12.view.read (Elt Ideal) f12 (ix3 0 j d) := by
  unfold tripL_k0_t3 trip_k0_t3
  dsimp only
  simp only [trip_k0_t3.sl.r, trip_k0_t3.sl.r_1, trip_k0_t3.sl.r_2, trip_k0_t3.sl.r_3, View.readAt_eq_ld]
  refine read_store _ _ (i 1).val h8 (off5_eq i k) _ _ _ _ _ _ fun m hm => ?_
  rw [pay_dkn']
  subst hm
  refine congrArg₂ (fun a b : EReal => a + b) (ld3 h8 _ (off5_eq i k) _ m d) ?_
  simp only [sg, row_ld3 h8 _ (off5_eq i k), row_ld2 h8 _ (off6_eq i k)]
  rfl

/-- A trip on the diagonal adds the block's queries to the gradient of the keys' rotated part, at the keys of its block. -/
theorem trip3_13 (k : Fin (k0_t3_loop i).trips) (h8 : (i 1).val < 8) (acc : FVec Ideal S512x256 .f32) f12 f13 f14 (j : Fin 4096) (d : Fin 128) :
    arg13.view.read (Elt Ideal) (arg13.view.writes (Elt Ideal) f13 (tripL_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
      (k0_pay40 i) (Scalar.muli (BitVec.ofNat 32 (i 1).val) 1#32) X4 X5 X6 k acc f12 f13 f14).2.1) (ix3 0 j d)
      = if j.val / 512 = (i 1).val then arg13.view.read (Elt Ideal) f13 (ix3 0 j d) + ∑ r, sg i v3 v5 v8 v10 v15 (arg4.view.read (Elt Ideal) X4) (arg5.view.read (Elt Ideal) X5) (arg6.view.read (Elt Ideal) X6) r j * v5 (ix3 0 r d)
        else arg13.view.read (Elt Ideal) f13 (ix3 0 j d) := by
  unfold tripL_k0_t3 trip_k0_t3
  dsimp only
  simp only [trip_k0_t3.sl.r, trip_k0_t3.sl.r_1, trip_k0_t3.sl.r_2, trip_k0_t3.sl.r_3, View.readAt_eq_ld]
  refine read_store _ _ (i 1).val h8 (off5_eq i k) _ _ _ _ _ _ fun m hm => ?_
  rw [pay_dkr']
  subst hm
  refine congrArg₂ (fun a b : EReal => a + b) (ld3 h8 _ (off5_eq i k) _ m d) ?_
  simp only [sg, row_ld3 h8 _ (off5_eq i k), row_ld2 h8 _ (off6_eq i k)]
  rfl

/-- A trip on the diagonal adds the block's queries to the gradient of the values, at the keys of its block. -/
theorem trip3_14 (k : Fin (k0_t3_loop i).trips) (h8 : (i 1).val < 8) (acc : FVec Ideal S512x256 .f32) f12 f13 f14 (j : Fin 4096) (d : Fin 128) :
    arg14.view.read (Elt Ideal) (arg14.view.writes (Elt Ideal) f14 (tripL_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
      (k0_pay40 i) (Scalar.muli (BitVec.ofNat 32 (i 1).val) 1#32) X4 X5 X6 k acc f12 f13 f14).2.2) (ix3 0 j d)
      = if j.val / 512 = (i 1).val then arg14.view.read (Elt Ideal) f14 (ix3 0 j d) + ∑ r, wt i v3 v5 v15 (arg4.view.read (Elt Ideal) X4) (arg5.view.read (Elt Ideal) X5) r j * v8 (ix2 r d)
        else arg14.view.read (Elt Ideal) f14 (ix3 0 j d) := by
  unfold tripL_k0_t3 trip_k0_t3
  dsimp only
  simp only [trip_k0_t3.sl.r, trip_k0_t3.sl.r_1, trip_k0_t3.sl.r_2, trip_k0_t3.sl.r_3, View.readAt_eq_ld]
  refine read_store _ _ (i 1).val h8 (off5_eq i k) _ _ _ _ _ _ fun m hm => ?_
  rw [pay_dv']
  subst hm
  refine congrArg₂ (fun a b : EReal => a + b) (ld3 h8 _ (off5_eq i k) _ m d) ?_
  simp only [wt, row_ld3 h8 _ (off5_eq i k), row_ld2 h8 _ (off6_eq i k)]
  rfl

end Trips

end Cert.KernelIdeal.Latent

end
-- ==== Proof.LatentLoop.lean ====
/- The latent attention's backward kernel's loops over the key blocks, read at an index: the query gradient after the
   loop, and what the loop leaves in the staging buffers of the key and value gradients. -/
module

public import proofs.«01_k».proof.Proof.LatentTrip

@[expose] public section

set_option maxRecDepth 16384

noncomputable section

namespace Cert.KernelIdeal.Latent

open Cert.KernelIdeal Cert.KernelIdeal.Gen Cert.Latent
open Idealize.ShloMosaic Idealize.ShloMosaic.TcCoe Idealize.ShloMosaic.Tactic Idealize.SL.Sem

/-- Key `j` of a head: its part without position, then its rotated part. -/
abbrev key (xk : Vec Ideal S1x4096x128 .bf16) (xr : Vec Ideal S4096x128 .bf16) (j : Fin 4096) : Fin 256 → EReal := cat (row3 xk j) (row2 xr j)

section Loops

variable (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
  (v3 v5 : Vec Ideal S1x512x128 .bf16) (v8 v10 : Vec Ideal S512x128 .f32) (v15 : Vec Ideal S512x1 .f32)
  (X4 : BufTy.Contents (Elt Ideal) arg4.view.ty) (X5 : BufTy.Contents (Elt Ideal) arg5.view.ty) (X6 : BufTy.Contents (Elt Ideal) arg6.view.ty)
  (G12 : BufTy.Contents (Elt Ideal) arg12.view.ty) (G13 : BufTy.Contents (Elt Ideal) arg13.view.ty) (G14 : BufTy.Contents (Elt Ideal) arg14.view.ty)
  (init : FVec Ideal S512x256 .f32)

/-- After `n` blocks before the diagonal, the query gradient is the sum over their keys. -/
theorem loop1_acc (r : Fin 512) (e : Fin 256) : ∀ (n : ℕ) (hn : n ≤ (i 1).val),
    (st_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 G12 G13 G14 init n).1 (ix2 r e)
      = init (ix2 r e) + ∑ m ∈ Finset.range (512 * n), ext (fun j => sg i v3 v5 v8 v10 v15 (arg4.view.read (Elt Ideal) X4) (arg5.view.read (Elt Ideal) X5) (arg6.view.read (Elt Ideal) X6) r j * key (arg4.view.read (Elt Ideal) X4) (arg5.view.read (Elt Ideal) X5) j e) m
  | 0, _ => by rw [st_k0_t1_zero]; simp
  | n + 1, hn => by
    have h8 : n < 8 := by have : (i 1).val < 8 := (i 1).isLt; omega
    have hk : n < (k0_t1_loop i).trips := by rw [trips1]; omega
    rw [st_k0_t1_succ (k := ⟨n, hk⟩)]
    refine (trip1_acc 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨n, hk⟩ (by simpa using hn) h8 _ _ _ _ r e).trans ?_
    rw [loop1_acc r e n (by omega), sum_block, add_assoc]
    refine congrArg _ (congrArg _ (Finset.sum_congr rfl fun m _ => ?_))
    rw [ext_of_lt _ (by have := m.isLt; omega)]
    rfl

/-- After the block on the diagonal, the query gradient has the sum over its keys besides. -/
theorem loop3_acc (r : Fin 512) (e : Fin 256) :
    (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 1).1 (ix2 r e)
      = init (ix2 r e) + ∑ m : Fin 512, ext (fun j => sg i v3 v5 v8 v10 v15 (arg4.view.read (Elt Ideal) X4) (arg5.view.read (Elt Ideal) X5) (arg6.view.read (Elt Ideal) X6) r j * key (arg4.view.read (Elt Ideal) X4) (arg5.view.read (Elt Ideal) X5) j e) (512 * (i 1).val + m.val) := by
  have h8 : (i 1).val < 8 := (i 1).isLt
  have hk : 0 < (k0_t3_loop i).trips := by rw [trips3]; omega
  have hs := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init ⟨0, hk⟩
  rw [show (⟨0, hk⟩ : Fin (k0_t3_loop i).trips).val + 1 = 1 from rfl] at hs
  rw [hs]
  refine (trip3_acc 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨0, hk⟩ h8 _ _ _ _ r e).trans ?_
  rw [st_k0_t3_zero]
  refine congrArg _ (Finset.sum_congr rfl fun m _ => ?_)
  rw [ext_of_lt _ (by have := m.isLt; omega)]
  rfl

/-- After `n` blocks before the diagonal, the gradient of the keys' part without position has the block's queries added at the keys of those blocks. -/
theorem loop1_12 (j : Fin 4096) (d : Fin 128) : ∀ (n : ℕ) (hn : n ≤ (i 1).val),
    arg12.view.read (Elt Ideal) (arg12.view.writes (Elt Ideal) G12 (st_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 G12 G13 G14 init n).2.1) (ix3 0 j d)
      = arg12.view.read (Elt Ideal) G12 (ix3 0 j d) + if j.val / 512 < n then ∑ r, sg i v3 v5 v8 v10 v15 (arg4.view.read (Elt Ideal) X4) (arg5.view.read (Elt Ideal) X5) (arg6.view.read (Elt Ideal) X6) r j * v3 (ix3 0 r d) else 0
  | 0, _ => by simp [st_k0_t1, View.writes_nil]
  | n + 1, hn => by
    have h8 : n < 8 := by have : (i 1).val < 8 := (i 1).isLt; omega
    have hk : n < (k0_t1_loop i).trips := by rw [trips1]; omega
    rw [st_k0_t1_succ (k := ⟨n, hk⟩)]
    dsimp only
    rw [View.writes_append]
    refine (trip1_12 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨n, hk⟩ (by simpa using hn) h8 _ _ _ _ j d).trans ?_
    rw [loop1_12 j d n (by omega)]
    by_cases h : j.val / 512 = n
    · rw [if_pos h, if_neg (by omega), if_pos (by omega), add_zero]
    · rw [if_neg h]
      exact congrArg _ (if_congr (by omega) rfl rfl)

/-- After the block on the diagonal, likewise at the keys of that block. -/
theorem loop3_12 (j : Fin 4096) (d : Fin 128) :
    arg12.view.read (Elt Ideal) (arg12.view.writes (Elt Ideal) G12 (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 1).2.1) (ix3 0 j d)
      = arg12.view.read (Elt Ideal) G12 (ix3 0 j d) + if j.val / 512 = (i 1).val then ∑ r, sg i v3 v5 v8 v10 v15 (arg4.view.read (Elt Ideal) X4) (arg5.view.read (Elt Ideal) X5) (arg6.view.read (Elt Ideal) X6) r j * v3 (ix3 0 r d) else 0 := by
  have h8 : (i 1).val < 8 := (i 1).isLt
  have hk : 0 < (k0_t3_loop i).trips := by rw [trips3]; omega
  have hs := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init ⟨0, hk⟩
  rw [show (⟨0, hk⟩ : Fin (k0_t3_loop i).trips).val + 1 = 1 from rfl] at hs
  rw [hs]
  dsimp only
  rw [View.writes_append]
  refine (trip3_12 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨0, hk⟩ h8 _ _ _ _ j d).trans ?_
  rw [show (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 0).2.1 = [] from rfl, View.writes_nil]
  by_cases h : j.val / 512 = (i 1).val
  · rw [if_pos h, if_pos h]
  · rw [if_neg h, if_neg h, add_zero]

/-- After `n` blocks before the diagonal, the gradient of the keys' rotated part has the block's queries added at the keys of those blocks. -/
theorem loop1_13 (j : Fin 4096) (d : Fin 128) : ∀ (n : ℕ) (hn : n ≤ (i 1).val),
    arg13.view.read (Elt Ideal) (arg13.view.writes (Elt Ideal) G13 (st_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 G12 G13 G14 init n).2.2.1) (ix3 0 j d)
      = arg13.view.read (Elt Ideal) G13 (ix3 0 j d) + if j.val / 512 < n then ∑ r, sg i v3 v5 v8 v10 v15 (arg4.view.read (Elt Ideal) X4) (arg5.view.read (Elt Ideal) X5) (arg6.view.read (Elt Ideal) X6) r j * v5 (ix3 0 r d) else 0
  | 0, _ => by simp [st_k0_t1, View.writes_nil]
  | n + 1, hn => by
    have h8 : n < 8 := by have : (i 1).val < 8 := (i 1).isLt; omega
    have hk : n < (k0_t1_loop i).trips := by rw [trips1]; omega
    rw [st_k0_t1_succ (k := ⟨n, hk⟩)]
    dsimp only
    rw [View.writes_append]
    refine (trip1_13 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨n, hk⟩ (by simpa using hn) h8 _ _ _ _ j d).trans ?_
    rw [loop1_13 j d n (by omega)]
    by_cases h : j.val / 512 = n
    · rw [if_pos h, if_neg (by omega), if_pos (by omega), add_zero]
    · rw [if_neg h]
      exact congrArg _ (if_congr (by omega) rfl rfl)

/-- After the block on the diagonal, likewise at the keys of that block. -/
theorem loop3_13 (j : Fin 4096) (d : Fin 128) :
    arg13.view.read (Elt Ideal) (arg13.view.writes (Elt Ideal) G13 (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 1).2.2.1) (ix3 0 j d)
      = arg13.view.read (Elt Ideal) G13 (ix3 0 j d) + if j.val / 512 = (i 1).val then ∑ r, sg i v3 v5 v8 v10 v15 (arg4.view.read (Elt Ideal) X4) (arg5.view.read (Elt Ideal) X5) (arg6.view.read (Elt Ideal) X6) r j * v5 (ix3 0 r d) else 0 := by
  have h8 : (i 1).val < 8 := (i 1).isLt
  have hk : 0 < (k0_t3_loop i).trips := by rw [trips3]; omega
  have hs := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init ⟨0, hk⟩
  rw [show (⟨0, hk⟩ : Fin (k0_t3_loop i).trips).val + 1 = 1 from rfl] at hs
  rw [hs]
  dsimp only
  rw [View.writes_append]
  refine (trip3_13 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨0, hk⟩ h8 _ _ _ _ j d).trans ?_
  rw [show (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 0).2.2.1 = [] from rfl, View.writes_nil]
  by_cases h : j.val / 512 = (i 1).val
  · rw [if_pos h, if_pos h]
  · rw [if_neg h, if_neg h, add_zero]

/-- After `n` blocks before the diagonal, the gradient of the values has the block's queries added at the keys of those blocks. -/
theorem loop1_14 (j : Fin 4096) (d : Fin 128) : ∀ (n : ℕ) (hn : n ≤ (i 1).val),
    arg14.view.read (Elt Ideal) (arg14.view.writes (Elt Ideal) G14 (st_k0_t1 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 G12 G13 G14 init n).2.2.2) (ix3 0 j d)
      = arg14.view.read (Elt Ideal) G14 (ix3 0 j d) + if j.val / 512 < n then ∑ r, wt i v3 v5 v15 (arg4.view.read (Elt Ideal) X4) (arg5.view.read (Elt Ideal) X5) r j * v8 (ix2 r d) else 0
  | 0, _ => by simp [st_k0_t1, View.writes_nil]
  | n + 1, hn => by
    have h8 : n < 8 := by have : (i 1).val < 8 := (i 1).isLt; omega
    have hk : n < (k0_t1_loop i).trips := by rw [trips1]; omega
    rw [st_k0_t1_succ (k := ⟨n, hk⟩)]
    dsimp only
    rw [View.writes_append]
    refine (trip1_14 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨n, hk⟩ (by simpa using hn) h8 _ _ _ _ j d).trans ?_
    rw [loop1_14 j d n (by omega)]
    by_cases h : j.val / 512 = n
    · rw [if_pos h, if_neg (by omega), if_pos (by omega), add_zero]
    · rw [if_neg h]
      exact congrArg _ (if_congr (by omega) rfl rfl)

/-- After the block on the diagonal, likewise at the keys of that block. -/
theorem loop3_14 (j : Fin 4096) (d : Fin 128) :
    arg14.view.read (Elt Ideal) (arg14.view.writes (Elt Ideal) G14 (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 1).2.2.2) (ix3 0 j d)
      = arg14.view.read (Elt Ideal) G14 (ix3 0 j d) + if j.val / 512 = (i 1).val then ∑ r, wt i v3 v5 v15 (arg4.view.read (Elt Ideal) X4) (arg5.view.read (Elt Ideal) X5) r j * v8 (ix2 r d) else 0 := by
  have h8 : (i 1).val < 8 := (i 1).isLt
  have hk : 0 < (k0_t3_loop i).trips := by rw [trips3]; omega
  have hs := st_k0_t3_succ 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init ⟨0, hk⟩
  rw [show (⟨0, hk⟩ : Fin (k0_t3_loop i).trips).val + 1 = 1 from rfl] at hs
  rw [hs]
  dsimp only
  rw [View.writes_append]
  refine (trip3_14 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 X4 X5 X6 ⟨0, hk⟩ h8 _ _ _ _ j d).trans ?_
  rw [show (st_k0_t3 𝒱 c bd i arg2 harg2 arg3 harg3 arg4 harg4 arg5 harg5 arg6 harg6 arg7 harg7 arg8 harg8 arg9 harg9 arg10 harg10 arg11 harg11 arg12 harg12 arg13 harg13 arg14 harg14 (k0_pay36 v3 v5) (k0_pay37 v8) (k0_pay38 v8 v10) (k0_pay39 v15)
        (k0_pay40 i) (Scalar.muli (BitVec.ofNat 32 (i 1).val) 1#32) X4 X5 X6 G12 G13 G14 init 0).2.2.2 = [] from rfl, View.writes_nil]
  by_cases h : j.val / 512 = (i 1).val
  · rw [if_pos h, if_pos h]
  · rw [if_neg h, if_neg h, add_zero]

end Loops

end Cert.KernelIdeal.Latent

end
-- ==== Proof.LatentPoint.lean ====
/- What one grid point of the latent attention's backward kernel leaves: the query gradient of its block of queries, and
   the head's key and value gradients with that block's part added. -/
module

public import proofs.«01_k».proof.Proof.Gen.KernelIdeal.Frame
public import proofs.«01_k».proof.Proof.LatentLoop
public import Idealize.ShloMosaic.Lib.Pipeline.ValueKit.Acc

@[expose] public section

set_option maxRecDepth 16384

noncomputable section

namespace Cert.KernelIdeal.Latent

open Cert.KernelIdeal Cert.KernelIdeal.Gen Cert.Latent
open Idealize.ShloMosaic Idealize.ShloMosaic.TcCoe Idealize.ShloMosaic.Tactic Idealize.SL.Sem

/-- The two loops of what is left over of the blocks have no trip. -/
theorem trips2 : ∀ i : grid0.Coords, (k0_t2_loop i).trips = 0 := by decide +kernel

/-- Likewise on the diagonal. -/
theorem trips4 : ∀ i : grid0.Coords, (k0_t4_loop i).trips = 0 := by decide +kernel

/-- A query's weight of a key past it is zero. -/
theorem wt_past (i : grid0.Coords) (v3 v5 v15 xk xr) (r : Fin 512) (j : Fin 4096) (h : (i 1).val < j.val / 512) : wt i v3 v5 v15 xk xr r j = 0 := by
  have := r.isLt
  exact if_neg (by omega)

/-- So is its score gradient. -/
theorem sg_past (i : grid0.Coords) (v3 v5 v8 v10 v15 xk xr xv) (r : Fin 512) (j : Fin 4096) (h : (i 1).val < j.val / 512) :
    sg i v3 v5 v8 v10 v15 xk xr xv r j = 0 := by
  have := wt_past i v3 v5 v15 xk xr r j h
  rw [wt] at this
  rw [sg, scoreGrad, this, zero_mul]

/-- Blocks before the diagonal and the block on it are all the blocks that count. -/
theorem both (i : grid0.Coords) (a b : EReal) (j : Fin 4096) (h : (i 1).val < j.val / 512 → b = 0) :
    a + (if j.val / 512 < (i 1).val then b else 0) + (if j.val / 512 = (i 1).val then b else 0) = a + b := by
  rcases lt_trichotomy (j.val / 512) (i 1).val with h1 | h1 | h1
  · rw [if_pos h1, if_neg (by omega), add_zero]
  · rw [if_neg (by omega), if_pos h1, add_zero]
  · rw [if_neg (by omega), if_neg (by omega), h h1, add_zero]

/-- The sum over the keys of the blocks up to the diagonal is the sum over all the keys. -/
theorem bothSum (i : grid0.Coords) (f : Fin 4096 → EReal) (h : ∀ j : Fin 4096, (i 1).val < j.val / 512 → f j = 0) :
    ∑ m ∈ Finset.range (512 * (i 1).val), ext f m + ∑ m : Fin 512, ext f (512 * (i 1).val + m.val) = ∑ j, f j := by
  have h8 : (i 1).val < 8 := (i 1).isLt
  rw [← sum_block, ← sum_ext f]
  refine Finset.sum_subset (Finset.range_subset_range.2 (by omega)) fun n hn hm => ?_
  rw [Finset.mem_range] at hn hm
  rw [ext_of_lt f hn]
  exact h _ (by simp only; omega)

/-- The query gradient's first half, stored. -/
theorem pay_left (z : FVec Ideal S512x256 .f32) (r : Fin 512) (d : Fin 128) : k0_pay7 z (ix3 0 r d) = z (ix2 r (d.castLE (by decide))) := by
  pointwise [k0_pay7]
  rfl

/-- Its second half. -/
theorem pay_right (z : FVec Ideal S512x256 .f32) (r : Fin 512) (d : Fin 128) : k0_pay8 z (ix3 0 r d) = z (ix2 r (d.natAdd 128)) := by
  pointwise [k0_pay8]
  rfl

/-- The column of a row's log-sum. -/
def lcol (x6 : Vec Ideal S512x128 .f32) : Vec Ideal S512x1 .f32 :=
  View.ld x6 (Rect.unit (s := S512x128) ![0, 0] ![512, 1] inb_S512x128_S512x1_0_0)

theorem lcol_apply (x6 : Vec Ideal S512x128 .f32) (r : Fin 512) : lcol x6 (ix2 r 0) = x6 (ix2 r 0) :=
  View.ld_unit_apply_of x6 ![0, 0] ![512, 1] inb_S512x128_S512x1_0_0 (ix2 r 0) (ix2 r 0) fun a => by
    fin_cases a <;> simp [ix2]

section Point

/-- A loop with no trip leaves what it is given. -/
theorem none2 (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole) (v3 v5 v8 v10 v15 v29 X4 X5 X6 G12 G13 G14) (init : FVec Ideal S512x256 .f32) :
    st_k0_t2 𝒱 c bd i arg2 harg2 arg3 harg3 arg4 harg4 arg5 harg5 arg6 harg6 arg7 harg7 arg8 harg8 arg9 harg9 arg10 harg10 arg11 harg11 arg12 harg12 arg13 harg13 arg14 harg14 v3 v5 v8 v10 v15 v29 X4 X5 X6 G12 G13 G14 init 0 = (init, [], [], []) := rfl

theorem none4 (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole) (v7 v9 v14 v16 v22 v39 X4 X5 X6 G12 G13 G14) (init : FVec Ideal S512x256 .f32) :
    st_k0_t4 𝒱 c bd i arg2 harg2 arg3 harg3 arg4 harg4 arg5 harg5 arg6 harg6 arg7 harg7 arg8 harg8 arg9 harg9 arg10 harg10 arg11 harg11 arg12 harg12 arg13 harg13 arg14 harg14 v7 v9 v14 v16 v22 v39 X4 X5 X6 G12 G13 G14 init 0 = (init, [], [], []) := rfl

variable (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x128 .f32) (harg10 : arg10.IsWhole) (arg11 : Memref sig .tc .vmem S1x512x128 .f32) (harg11 : arg11.IsWhole) (arg12 : Memref sig .tc .vmem S1x4096x128 .f32) (harg12 : arg12.IsWhole) (arg13 : Memref sig .tc .vmem S1x4096x128 .f32) (harg13 : arg13.IsWhole) (arg14 : Memref sig .tc .vmem S1x4096x128 .f32) (harg14 : arg14.IsWhole)
  (x0 x1 : Vec Ideal S1x512x128 .bf16) (x2 : Vec Ideal S1x4096x128 .bf16) (x3 : Vec Ideal S4096x128 .bf16) (x4 : Vec Ideal S1x4096x128 .bf16)
  (x5 x6 x7 : Vec Ideal S512x128 .f32) (y10 y11 y12 : Vec Ideal S1x4096x128 .f32)

/-- At a head's first block of queries, the query gradient's part without position. -/
theorem point_A_8 (hc0 : cond0_0 i) (r : Fin 512) (d : Fin 128) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r d) = ∑ j, sg i x0 x1 x7 x5 (lcol x6) x2 x3 x4 r j * x2 (ix3 0 j d) := by
  have h1 := trips1 i
  have h2 := trips2 i
  have h3 := trips3 i
  have h4 := trips4 i
  dsimp only [k0_t1_loop, k0_t2_loop, k0_t3_loop, k0_t4_loop] at h1 h2 h3 h4
  unfold out0_A_8 kernelRun0_A
  dsimp only
  rw [View.read_writes_junk_eq_canon, View.canon_unit_zero (by decide)]
  rw [pay_left]
  simp (disch := decide) only [h1, h2, h3, h4, none2, none4, View.writes_append, View.writes_nil, View.readAt_eq_ld, Memref.IsWhole.read_unread,
    View.ld_unit_lit', List.nil_append, List.append_nil, kernelRun0_A.sl.r, kernelRun0_A.sl.r_1, kernelRun0_A.sl.r_2, kernelRun0_A.sl.r_3, kernelRun0_A.sl.r_4,
    kernelRun0_A.sl.v32]
  rw [loop3_acc, loop1_acc (hn := le_refl _)]
  simp only [Memref.IsWhole.read_unread]
  pointwise [k0_pay41]
  rw [bothSum]
  · exact Finset.sum_congr rfl fun j _ => congrArg (fun z => sg i x0 x1 x7 x5 (lcol x6) x2 x3 x4 r j * z) (cat_left (row3 x2 j) (row2 x3 j) d (by omega))
  · exact fun j h => by rw [sg_past _ _ _ _ _ _ _ _ _ _ _ h, zero_mul]

/-- At a head's first block of queries, the query gradient's rotated part. -/
theorem point_A_9 (hc0 : cond0_0 i) (r : Fin 512) (d : Fin 128) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 r d) = ∑ j, sg i x0 x1 x7 x5 (lcol x6) x2 x3 x4 r j * x3 (ix2 j d) := by
  have h1 := trips1 i
  have h2 := trips2 i
  have h3 := trips3 i
  have h4 := trips4 i
  dsimp only [k0_t1_loop, k0_t2_loop, k0_t3_loop, k0_t4_loop] at h1 h2 h3 h4
  unfold out0_A_9 kernelRun0_A
  dsimp only
  rw [View.read_writes_junk_eq_canon, View.canon_unit_zero (by decide)]
  rw [pay_right]
  simp (disch := decide) only [h1, h2, h3, h4, none2, none4, View.writes_append, View.writes_nil, View.readAt_eq_ld, Memref.IsWhole.read_unread,
    View.ld_unit_lit', List.nil_append, List.append_nil, kernelRun0_A.sl.r, kernelRun0_A.sl.r_1, kernelRun0_A.sl.r_2, kernelRun0_A.sl.r_3, kernelRun0_A.sl.r_4,
    kernelRun0_A.sl.v32]
  rw [loop3_acc, loop1_acc (hn := le_refl _)]
  simp only [Memref.IsWhole.read_unread]
  pointwise [k0_pay41]
  rw [bothSum]
  · exact Finset.sum_congr rfl fun j _ => congrArg (fun z => sg i x0 x1 x7 x5 (lcol x6) x2 x3 x4 r j * z) (cat_right (row3 x2 j) (row2 x3 j) d (by omega))
  · exact fun j h => by rw [sg_past _ _ _ _ _ _ _ _ _ _ _ h, zero_mul]

/-- At a head's first block of queries, the gradient of the keys' part without position. -/
theorem point_A_10 (hc0 : cond0_0 i) (j : Fin 4096) (d : Fin 128) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 j d) = ∑ r, sg i x0 x1 x7 x5 (lcol x6) x2 x3 x4 r j * x0 (ix3 0 r d) := by
  have h1 := trips1 i
  have h2 := trips2 i
  have h3 := trips3 i
  have h4 := trips4 i
  dsimp only [k0_t1_loop, k0_t2_loop, k0_t3_loop, k0_t4_loop] at h1 h2 h3 h4
  unfold out0_A_10 kernelRun0_A
  dsimp only
  rw [View.read_writes_junk_eq_canon, ← View.read_writes_junk_eq_canon arg12.view]
  simp (disch := decide) only [h1, h2, h3, h4, none2, none4, View.writes_append, View.writes_nil, View.readAt_eq_ld, Memref.IsWhole.read_unread,
    View.ld_unit_lit', List.nil_append, List.append_nil, kernelRun0_A.sl.r, kernelRun0_A.sl.r_1, kernelRun0_A.sl.r_2, kernelRun0_A.sl.r_3, kernelRun0_A.sl.r_4,
    kernelRun0_A.sl.v32, kernelRun0_A.sl.H10_1]
  rw [loop3_12, loop1_12 (hn := le_refl _), both]
  · simp only [Memref.IsWhole.read_unread]
    rw [View.read_writes_junk_eq_canon, View.canon_unit_zero (by decide), show k0_pay33 (F := Ideal) (ix3 0 j d) = 0 from by pointwise [k0_pay33], zero_add]
    rfl
  · exact fun h => Finset.sum_eq_zero fun r _ => by rw [sg_past _ _ _ _ _ _ _ _ _ _ _ h, zero_mul]

/-- At a head's first block of queries, the gradient of the keys' rotated part. -/
theorem point_A_11 (hc0 : cond0_0 i) (j : Fin 4096) (d : Fin 128) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 j d) = ∑ r, sg i x0 x1 x7 x5 (lcol x6) x2 x3 x4 r j * x1 (ix3 0 r d) := by
  have h1 := trips1 i
  have h2 := trips2 i
  have h3 := trips3 i
  have h4 := trips4 i
  dsimp only [k0_t1_loop, k0_t2_loop, k0_t3_loop, k0_t4_loop] at h1 h2 h3 h4
  unfold out0_A_11 kernelRun0_A
  dsimp only
  rw [View.read_writes_junk_eq_canon, ← View.read_writes_junk_eq_canon arg13.view]
  simp (disch := decide) only [h1, h2, h3, h4, none2, none4, View.writes_append, View.writes_nil, View.readAt_eq_ld, Memref.IsWhole.read_unread,
    View.ld_unit_lit', List.nil_append, List.append_nil, kernelRun0_A.sl.r, kernelRun0_A.sl.r_1, kernelRun0_A.sl.r_2, kernelRun0_A.sl.r_3, kernelRun0_A.sl.r_4,
    kernelRun0_A.sl.v32, kernelRun0_A.sl.H11_1]
  rw [loop3_13, loop1_13 (hn := le_refl _), both]
  · simp only [Memref.IsWhole.read_unread]
    rw [View.read_writes_junk_eq_canon, View.canon_unit_zero (by decide), show k0_pay34 (F := Ideal) (ix3 0 j d) = 0 from by pointwise [k0_pay34], zero_add]
    rfl
  · exact fun h => Finset.sum_eq_zero fun r _ => by rw [sg_past _ _ _ _ _ _ _ _ _ _ _ h, zero_mul]

/-- At a head's first block of queries, the gradient of the values. -/
theorem point_A_12 (hc0 : cond0_0 i) (j : Fin 4096) (d : Fin 128) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 (ix3 0 j d) = ∑ r, wt i x0 x1 (lcol x6) x2 x3 r j * x7 (ix2 r d) := by
  have h1 := trips1 i
  have h2 := trips2 i
  have h3 := trips3 i
  have h4 := trips4 i
  dsimp only [k0_t1_loop, k0_t2_loop, k0_t3_loop, k0_t4_loop] at h1 h2 h3 h4
  unfold out0_A_12 kernelRun0_A
  dsimp only
  rw [View.read_writes_junk_eq_canon, ← View.read_writes_junk_eq_canon arg14.view]
  simp (disch := decide) only [h1, h2, h3, h4, none2, none4, View.writes_append, View.writes_nil, View.readAt_eq_ld, Memref.IsWhole.read_unread,
    View.ld_unit_lit', List.nil_append, List.append_nil, kernelRun0_A.sl.r, kernelRun0_A.sl.r_1, kernelRun0_A.sl.r_2, kernelRun0_A.sl.r_3, kernelRun0_A.sl.r_4,
    kernelRun0_A.sl.v32, kernelRun0_A.sl.H12_1]
  rw [loop3_14, loop1_14 (hn := le_refl _), both]
  · simp only [Memref.IsWhole.read_unread]
    rw [View.read_writes_junk_eq_canon, View.canon_unit_zero (by decide), show k0_pay35 (F := Ideal) (ix3 0 j d) = 0 from by pointwise [k0_pay35], zero_add]
    rfl
  · exact fun h => Finset.sum_eq_zero fun r _ => by rw [wt_past _ _ _ _ _ _ _ _ h, zero_mul]

/-- At a later block, the query gradient's part without position. -/
theorem point_B_8 (hc0 : ¬cond0_0 i) (r : Fin 512) (d : Fin 128) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 y11 y12 (ix3 0 r d) = ∑ j, sg i x0 x1 x7 x5 (lcol x6) x2 x3 x4 r j * x2 (ix3 0 j d) := by
  have h1 := trips1 i
  have h2 := trips2 i
  have h3 := trips3 i
  have h4 := trips4 i
  dsimp only [k0_t1_loop, k0_t2_loop, k0_t3_loop, k0_t4_loop] at h1 h2 h3 h4
  unfold out0_B_8 kernelRun0_B
  dsimp only
  rw [View.read_writes_junk_eq_canon, View.canon_unit_zero (by decide)]
  rw [pay_left]
  simp (disch := decide) only [h1, h2, h3, h4, none2, none4, View.writes_append, View.writes_nil, View.readAt_eq_ld, Memref.IsWhole.read_unread,
    View.ld_unit_lit', List.nil_append, List.append_nil, kernelRun0_B.sl.r, kernelRun0_B.sl.r_1, kernelRun0_B.sl.r_2, kernelRun0_B.sl.r_3, kernelRun0_B.sl.r_4,
    kernelRun0_B.sl.v32]
  rw [loop3_acc, loop1_acc (hn := le_refl _)]
  simp only [Memref.IsWhole.read_unread]
  pointwise [k0_pay41]
  rw [bothSum]
  · exact Finset.sum_congr rfl fun j _ => congrArg (fun z => sg i x0 x1 x7 x5 (lcol x6) x2 x3 x4 r j * z) (cat_left (row3 x2 j) (row2 x3 j) d (by omega))
  · exact fun j h => by rw [sg_past _ _ _ _ _ _ _ _ _ _ _ h, zero_mul]

/-- At a later block, the query gradient's rotated part. -/
theorem point_B_9 (hc0 : ¬cond0_0 i) (r : Fin 512) (d : Fin 128) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 y11 y12 (ix3 0 r d) = ∑ j, sg i x0 x1 x7 x5 (lcol x6) x2 x3 x4 r j * x3 (ix2 j d) := by
  have h1 := trips1 i
  have h2 := trips2 i
  have h3 := trips3 i
  have h4 := trips4 i
  dsimp only [k0_t1_loop, k0_t2_loop, k0_t3_loop, k0_t4_loop] at h1 h2 h3 h4
  unfold out0_B_9 kernelRun0_B
  dsimp only
  rw [View.read_writes_junk_eq_canon, View.canon_unit_zero (by decide)]
  rw [pay_right]
  simp (disch := decide) only [h1, h2, h3, h4, none2, none4, View.writes_append, View.writes_nil, View.readAt_eq_ld, Memref.IsWhole.read_unread,
    View.ld_unit_lit', List.nil_append, List.append_nil, kernelRun0_B.sl.r, kernelRun0_B.sl.r_1, kernelRun0_B.sl.r_2, kernelRun0_B.sl.r_3, kernelRun0_B.sl.r_4,
    kernelRun0_B.sl.v32]
  rw [loop3_acc, loop1_acc (hn := le_refl _)]
  simp only [Memref.IsWhole.read_unread]
  pointwise [k0_pay41]
  rw [bothSum]
  · exact Finset.sum_congr rfl fun j _ => congrArg (fun z => sg i x0 x1 x7 x5 (lcol x6) x2 x3 x4 r j * z) (cat_right (row3 x2 j) (row2 x3 j) d (by omega))
  · exact fun j h => by rw [sg_past _ _ _ _ _ _ _ _ _ _ _ h, zero_mul]

/-- At a later block, the gradient of the keys' part without position. -/
theorem point_B_10 (hc0 : ¬cond0_0 i) (j : Fin 4096) (d : Fin 128) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 y11 y12 (ix3 0 j d) = y10 (ix3 0 j d) + ∑ r, sg i x0 x1 x7 x5 (lcol x6) x2 x3 x4 r j * x0 (ix3 0 r d) := by
  have h1 := trips1 i
  have h2 := trips2 i
  have h3 := trips3 i
  have h4 := trips4 i
  dsimp only [k0_t1_loop, k0_t2_loop, k0_t3_loop, k0_t4_loop] at h1 h2 h3 h4
  unfold out0_B_10 kernelRun0_B
  dsimp only

  simp (disch := decide) only [h1, h2, h3, h4, none2, none4, View.writes_append, View.writes_nil, View.readAt_eq_ld, Memref.IsWhole.read_unread,
    View.ld_unit_lit', List.nil_append, List.append_nil, kernelRun0_B.sl.r, kernelRun0_B.sl.r_1, kernelRun0_B.sl.r_2, kernelRun0_B.sl.r_3, kernelRun0_B.sl.r_4,
    kernelRun0_B.sl.v32]
  rw [loop3_12, loop1_12 (hn := le_refl _), both]
  · simp only [Memref.IsWhole.read_unread]
    rfl
  · exact fun h => Finset.sum_eq_zero fun r _ => by rw [sg_past _ _ _ _ _ _ _ _ _ _ _ h, zero_mul]

/-- At a later block, the gradient of the keys' rotated part. -/
theorem point_B_11 (hc0 : ¬cond0_0 i) (j : Fin 4096) (d : Fin 128) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 y11 y12 (ix3 0 j d) = y11 (ix3 0 j d) + ∑ r, sg i x0 x1 x7 x5 (lcol x6) x2 x3 x4 r j * x1 (ix3 0 r d) := by
  have h1 := trips1 i
  have h2 := trips2 i
  have h3 := trips3 i
  have h4 := trips4 i
  dsimp only [k0_t1_loop, k0_t2_loop, k0_t3_loop, k0_t4_loop] at h1 h2 h3 h4
  unfold out0_B_11 kernelRun0_B
  dsimp only

  simp (disch := decide) only [h1, h2, h3, h4, none2, none4, View.writes_append, View.writes_nil, View.readAt_eq_ld, Memref.IsWhole.read_unread,
    View.ld_unit_lit', List.nil_append, List.append_nil, kernelRun0_B.sl.r, kernelRun0_B.sl.r_1, kernelRun0_B.sl.r_2, kernelRun0_B.sl.r_3, kernelRun0_B.sl.r_4,
    kernelRun0_B.sl.v32]
  rw [loop3_13, loop1_13 (hn := le_refl _), both]
  · simp only [Memref.IsWhole.read_unread]
    rfl
  · exact fun h => Finset.sum_eq_zero fun r _ => by rw [sg_past _ _ _ _ _ _ _ _ _ _ _ h, zero_mul]

/-- At a later block, the gradient of the values. -/
theorem point_B_12 (hc0 : ¬cond0_0 i) (j : Fin 4096) (d : Fin 128) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 y10 y11 y12 (ix3 0 j d) = y12 (ix3 0 j d) + ∑ r, wt i x0 x1 (lcol x6) x2 x3 r j * x7 (ix2 r d) := by
  have h1 := trips1 i
  have h2 := trips2 i
  have h3 := trips3 i
  have h4 := trips4 i
  dsimp only [k0_t1_loop, k0_t2_loop, k0_t3_loop, k0_t4_loop] at h1 h2 h3 h4
  unfold out0_B_12 kernelRun0_B
  dsimp only

  simp (disch := decide) only [h1, h2, h3, h4, none2, none4, View.writes_append, View.writes_nil, View.readAt_eq_ld, Memref.IsWhole.read_unread,
    View.ld_unit_lit', List.nil_append, List.append_nil, kernelRun0_B.sl.r, kernelRun0_B.sl.r_1, kernelRun0_B.sl.r_2, kernelRun0_B.sl.r_3, kernelRun0_B.sl.r_4,
    kernelRun0_B.sl.v32]
  rw [loop3_14, loop1_14 (hn := le_refl _), both]
  · simp only [Memref.IsWhole.read_unread]
    rfl
  · exact fun h => Finset.sum_eq_zero fun r _ => by rw [wt_past _ _ _ _ _ _ _ _ h, zero_mul]

end Point

end Cert.KernelIdeal.Latent

end
-- ==== Proof.LatentSpec.lean ====
/- The five gradients of the latent attention as sums over a head's queries and keys, from the row's saved log-sum and the
   attention's result: what the kernel's result arrays hold. -/
module

public import proofs.«01_k».proof.Proof.LatentMath
public import Idealize.ShloMosaic.Lib.Pointwise

@[expose] public section

noncomputable section

namespace Cert.Latent

open Idealize.ShloMosaic

/-- An array of heads, tokens and lanes. -/
abbrev Heads := (⟨3, ![8, 4096, 128]⟩ : Shape).Idx → EReal

/-- An array of tokens and lanes: the rotated keys, which the heads share. -/
abbrev Shared := (⟨2, ![4096, 128]⟩ : Shape).Idx → EReal

/-- An array of tokens and all the heads' lanes. -/
abbrev Tokens := (⟨2, ![4096, 1024]⟩ : Shape).Idx → EReal

/-- Lane `d` of head `h`, among all the heads' lanes. -/
def lane (h : Fin 8) (d : Fin 128) : Fin 1024 := ⟨128 * h.val + d.val, by omega⟩

/-- Head `h`'s query (or key) at token `n`, both parts. -/
def both3 (a b : Heads) (h : Fin 8) (n : Fin 4096) : Fin 256 → EReal := cat (fun d => a (ix3 h n d)) (fun d => b (ix3 h n d))

/-- Head `h`'s key at token `n`: its own part and the shared rotated part. -/
def both2 (a : Heads) (b : Shared) (h : Fin 8) (n : Fin 4096) : Fin 256 → EReal := cat (fun d => a (ix3 h n d)) (fun d => b (ix2 n d))

variable (qn qr kn : Heads) (kr : Shared) (v : Heads) (o lse g : Tokens)

/-- The weight of key `j` for head `h`'s query `n`. -/
def W (h : Fin 8) (n j : Fin 4096) : EReal := weight n.val j.val (both3 qn qr h n) (both2 kn kr h j) (lse (ix2 n (lane h 0)))

/-- The gradient of their score. -/
def S (h : Fin 8) (n j : Fin 4096) : EReal :=
  scoreGrad n.val j.val (both3 qn qr h n) (both2 kn kr h j) (lse (ix2 n (lane h 0)))
    (fun d => g (ix2 n (lane h d))) (fun d => v (ix3 h j d)) (fun d => o (ix2 n (lane h d)))

/-- The gradient of the queries' part without position. -/
def dqn : Heads := fun x => ∑ j, S qn qr kn kr v o lse g (x 0) (x 1) j * kn (ix3 (x 0) j (x 2))

/-- The gradient of the queries' rotated part. -/
def dqr : Heads := fun x => ∑ j, S qn qr kn kr v o lse g (x 0) (x 1) j * kr (ix2 j (x 2))

/-- The gradient of the keys' part without position. -/
def dkn : Heads := fun x => ∑ n, S qn qr kn kr v o lse g (x 0) n (x 1) * qn (ix3 (x 0) n (x 2))

/-- The gradient of the keys' rotated part, head by head. -/
def dkr : Heads := fun x => ∑ n, S qn qr kn kr v o lse g (x 0) n (x 1) * qr (ix3 (x 0) n (x 2))

/-- The gradient of the values. -/
def dv : Heads := fun x => ∑ n, W qn qr kn kr lse (x 0) n (x 1) * g (ix2 n (lane (x 0) (x 2)))

end Cert.Latent

end
-- ==== Proof.LatentArray.lean ====
/- What the latent attention's backward kernel's five result arrays hold: the sums over each head's queries and keys. -/
module

public import proofs.«01_k».proof.Proof.Gen.KernelIdeal.Value
public import proofs.«01_k».proof.Proof.LatentPoint
public import proofs.«01_k».proof.Proof.LatentSpec

@[expose] public section

set_option maxRecDepth 16384

noncomputable section

namespace Cert.KernelIdeal.Latent

open Cert.KernelIdeal Cert.KernelIdeal.Gen Cert.KernelIdeal.Value Cert.Latent
open Idealize.ShloMosaic Idealize.ShloMosaic.TcCoe Idealize.ShloMosaic.Tactic Idealize.SL.Sem

variable (m : (ℓ : Loc nD τ sig) → Buf (Elt Ideal) ℓ) (c : Dev nD)

/-- A grid point's head. -/
def hd (t : Fin cfg0.N) : Fin 8 := ⟨t.val / 8, by have := t.isLt; have : cfg0.N = 64 := N_0; omega⟩

/-- Row `r` of a grid point's block of queries, among all the tokens. -/
def row (t : Fin cfg0.N) (r : Fin 512) : Fin 4096 := ⟨512 * (t.val % 8) + r.val, by omega⟩

theorem coords1 : ∀ t : Fin cfg0.N, (grid0.coords t 1).val = t.val % 8 := (by decide +kernel : ∀ t : Fin grid0.N, (grid0.coords t 1).val = t.val % 8)

theorem index0 : ∀ t : Fin cfg0.N, win0_0.index t = ![t.val / 8, t.val % 8, 0] := (by decide +kernel : ∀ t : Fin grid0.N, win0_0.index t = ![t.val / 8, t.val % 8, 0])

theorem index1 : ∀ t : Fin cfg0.N, win0_1.index t = ![t.val / 8, t.val % 8, 0] := (by decide +kernel : ∀ t : Fin grid0.N, win0_1.index t = ![t.val / 8, t.val % 8, 0])

theorem index8 : ∀ t : Fin cfg0.N, win0_8.index t = ![t.val / 8, t.val % 8, 0] := (by decide +kernel : ∀ t : Fin grid0.N, win0_8.index t = ![t.val / 8, t.val % 8, 0])

theorem index9 : ∀ t : Fin cfg0.N, win0_9.index t = ![t.val / 8, t.val % 8, 0] := (by decide +kernel : ∀ t : Fin grid0.N, win0_9.index t = ![t.val / 8, t.val % 8, 0])

theorem index2 : ∀ t : Fin cfg0.N, win0_2.index t = ![t.val / 8, 0, 0] := (by decide +kernel : ∀ t : Fin grid0.N, win0_2.index t = ![t.val / 8, 0, 0])

theorem index4 : ∀ t : Fin cfg0.N, win0_4.index t = ![t.val / 8, 0, 0] := (by decide +kernel : ∀ t : Fin grid0.N, win0_4.index t = ![t.val / 8, 0, 0])

theorem index10 : ∀ t : Fin cfg0.N, win0_10.index t = ![t.val / 8, 0, 0] := (by decide +kernel : ∀ t : Fin grid0.N, win0_10.index t = ![t.val / 8, 0, 0])

theorem index11 : ∀ t : Fin cfg0.N, win0_11.index t = ![t.val / 8, 0, 0] := (by decide +kernel : ∀ t : Fin grid0.N, win0_11.index t = ![t.val / 8, 0, 0])

theorem index12 : ∀ t : Fin cfg0.N, win0_12.index t = ![t.val / 8, 0, 0] := (by decide +kernel : ∀ t : Fin grid0.N, win0_12.index t = ![t.val / 8, 0, 0])

theorem index3 : ∀ t : Fin cfg0.N, win0_3.index t = ![0, 0] := (by decide +kernel : ∀ t : Fin grid0.N, win0_3.index t = ![0, 0])

theorem index5 : ∀ t : Fin cfg0.N, win0_5.index t = ![t.val % 8, t.val / 8] := (by decide +kernel : ∀ t : Fin grid0.N, win0_5.index t = ![t.val % 8, t.val / 8])

theorem index6 : ∀ t : Fin cfg0.N, win0_6.index t = ![t.val % 8, t.val / 8] := (by decide +kernel : ∀ t : Fin grid0.N, win0_6.index t = ![t.val % 8, t.val / 8])

theorem index7 : ∀ t : Fin cfg0.N, win0_7.index t = ![t.val % 8, t.val / 8] := (by decide +kernel : ∀ t : Fin grid0.N, win0_7.index t = ![t.val % 8, t.val / 8])

/-- The queries' part without position, as the call finds it. -/
def a0 : Heads := V m c main_arg0

/-- The queries' rotated part, as the call finds it. -/
def a1 : Heads := V m c main_arg1

/-- The keys' part without position, as the call finds it. -/
def a2 : Heads := V m c main_arg2

/-- The keys' rotated part, as the call finds it. -/
def a3 : Shared := V m c main_arg3

/-- The values, as the call finds it. -/
def a4 : Heads := V m c main_arg4

/-- The attention's result, as the call finds it. -/
def a5 : Tokens := V m c main_v36

/-- The rows' log-sums, as the call finds it. -/
def a6 : Tokens := V m c main_v39

/-- The gradient of the attention's result, as the call finds it. -/
def a7 : Tokens := V m c main_arg5

/-- Window 0's block of an array, at an index. -/
theorem read0 (X : Heads) (t : Fin cfg0.N) (r : Fin 512) (d : Fin 128) :
    ((cfg0.win 0).blk t).view.read (Elt Ideal) X (ix3 0 r d) = X (ix3 (hd t) (row t r) d) := by
  rw [View.read_apply]
  have e := index0 t
  refine congrArg X (funext fun a => Fin.ext ?_)
  match a with
  | ⟨0, _⟩ => show win0_0.index t 0 * 1 + 1 * _ = _; rw [e]; show t.val / 8 * 1 + 1 * 0 = t.val / 8; omega
  | ⟨1, _⟩ => show win0_0.index t 1 * 512 + 1 * _ = _; rw [e]; show t.val % 8 * 512 + 1 * r.val = 512 * (t.val % 8) + r.val; omega
  | ⟨2, _⟩ => show win0_0.index t 2 * 128 + 1 * _ = _; rw [e]; show 0 * 128 + 1 * d.val = d.val; omega

/-- So the block of the call's array. -/
theorem blk0 (t : Fin cfg0.N) (r : Fin 512) (d : Fin 128) : iblk m c 0 t (ix3 0 r d) = a0 m c (ix3 (hd t) (row t r) d) := read0 (a0 m c) t r d

/-- A row of it. -/
theorem rows0 (t : Fin cfg0.N) (r : Fin 512) : row3 (iblk m c 0 t) r = fun d => a0 m c (ix3 (hd t) (row t r) d) := funext fun d => blk0 m c t r d

/-- Window 1's block of an array, at an index. -/
theorem read1 (X : Heads) (t : Fin cfg0.N) (r : Fin 512) (d : Fin 128) :
    ((cfg0.win 1).blk t).view.read (Elt Ideal) X (ix3 0 r d) = X (ix3 (hd t) (row t r) d) := by
  rw [View.read_apply]
  have e := index1 t
  refine congrArg X (funext fun a => Fin.ext ?_)
  match a with
  | ⟨0, _⟩ => show win0_1.index t 0 * 1 + 1 * _ = _; rw [e]; show t.val / 8 * 1 + 1 * 0 = t.val / 8; omega
  | ⟨1, _⟩ => show win0_1.index t 1 * 512 + 1 * _ = _; rw [e]; show t.val % 8 * 512 + 1 * r.val = 512 * (t.val % 8) + r.val; omega
  | ⟨2, _⟩ => show win0_1.index t 2 * 128 + 1 * _ = _; rw [e]; show 0 * 128 + 1 * d.val = d.val; omega

/-- So the block of the call's array. -/
theorem blk1 (t : Fin cfg0.N) (r : Fin 512) (d : Fin 128) : iblk m c 1 t (ix3 0 r d) = a1 m c (ix3 (hd t) (row t r) d) := read1 (a1 m c) t r d

/-- A row of it. -/
theorem rows1 (t : Fin cfg0.N) (r : Fin 512) : row3 (iblk m c 1 t) r = fun d => a1 m c (ix3 (hd t) (row t r) d) := funext fun d => blk1 m c t r d

/-- Window 2's block of an array, at an index. -/
theorem read2 (X : Heads) (t : Fin cfg0.N) (j : Fin 4096) (d : Fin 128) :
    ((cfg0.win 2).blk t).view.read (Elt Ideal) X (ix3 0 j d) = X (ix3 (hd t) j d) := by
  rw [View.read_apply]
  have e := index2 t
  refine congrArg X (funext fun a => Fin.ext ?_)
  match a with
  | ⟨0, _⟩ => show win0_2.index t 0 * 1 + 1 * _ = _; rw [e]; show t.val / 8 * 1 + 1 * 0 = t.val / 8; omega
  | ⟨1, _⟩ => show win0_2.index t 1 * 4096 + 1 * _ = _; rw [e]; show 0 * 4096 + 1 * j.val = j.val; omega
  | ⟨2, _⟩ => show win0_2.index t 2 * 128 + 1 * _ = _; rw [e]; show 0 * 128 + 1 * d.val = d.val; omega

/-- So the block of the call's array. -/
theorem blk2 (t : Fin cfg0.N) (j : Fin 4096) (d : Fin 128) : iblk m c 2 t (ix3 0 j d) = a2 m c (ix3 (hd t) j d) := read2 (a2 m c) t j d

/-- A row of it. -/
theorem rows2 (t : Fin cfg0.N) (j : Fin 4096) : row3 (iblk m c 2 t) j = fun d => a2 m c (ix3 (hd t) j d) := funext fun d => blk2 m c t j d

/-- Window 4's block of an array, at an index. -/
theorem read4 (X : Heads) (t : Fin cfg0.N) (j : Fin 4096) (d : Fin 128) :
    ((cfg0.win 4).blk t).view.read (Elt Ideal) X (ix3 0 j d) = X (ix3 (hd t) j d) := by
  rw [View.read_apply]
  have e := index4 t
  refine congrArg X (funext fun a => Fin.ext ?_)
  match a with
  | ⟨0, _⟩ => show win0_4.index t 0 * 1 + 1 * _ = _; rw [e]; show t.val / 8 * 1 + 1 * 0 = t.val / 8; omega
  | ⟨1, _⟩ => show win0_4.index t 1 * 4096 + 1 * _ = _; rw [e]; show 0 * 4096 + 1 * j.val = j.val; omega
  | ⟨2, _⟩ => show win0_4.index t 2 * 128 + 1 * _ = _; rw [e]; show 0 * 128 + 1 * d.val = d.val; omega

/-- So the block of the call's array. -/
theorem blk4 (t : Fin cfg0.N) (j : Fin 4096) (d : Fin 128) : iblk m c 4 t (ix3 0 j d) = a4 m c (ix3 (hd t) j d) := read4 (a4 m c) t j d

/-- A row of it. -/
theorem rows4 (t : Fin cfg0.N) (j : Fin 4096) : row3 (iblk m c 4 t) j = fun d => a4 m c (ix3 (hd t) j d) := funext fun d => blk4 m c t j d

/-- Window 3's block of an array, at an index. -/
theorem read3 (X : Shared) (t : Fin cfg0.N) (j : Fin 4096) (d : Fin 128) :
    ((cfg0.win 3).blk t).view.read (Elt Ideal) X (ix2 j d) = X (ix2 j d) := by
  rw [View.read_apply]
  have e := index3 t
  refine congrArg X (funext fun a => Fin.ext ?_)
  match a with
  | ⟨0, _⟩ => show win0_3.index t 0 * 4096 + 1 * _ = _; rw [e]; show 0 * 4096 + 1 * j.val = j.val; omega
  | ⟨1, _⟩ => show win0_3.index t 1 * 128 + 1 * _ = _; rw [e]; show 0 * 128 + 1 * d.val = d.val; omega

/-- So the block of the call's array. -/
theorem blk3 (t : Fin cfg0.N) (j : Fin 4096) (d : Fin 128) : iblk m c 3 t (ix2 j d) = a3 m c (ix2 j d) := read3 (a3 m c) t j d

/-- A row of it. -/
theorem rows3 (t : Fin cfg0.N) (j : Fin 4096) : row2 (iblk m c 3 t) j = fun d => a3 m c (ix2 j d) := funext fun d => blk3 m c t j d

/-- Window 5's block of an array, at an index. -/
theorem read5 (X : Tokens) (t : Fin cfg0.N) (r : Fin 512) (d : Fin 128) :
    ((cfg0.win 5).blk t).view.read (Elt Ideal) X (ix2 r d) = X (ix2 (row t r) (lane (hd t) d)) := by
  rw [View.read_apply]
  have e := index5 t
  refine congrArg X (funext fun a => Fin.ext ?_)
  match a with
  | ⟨0, _⟩ => show win0_5.index t 0 * 512 + 1 * _ = _; rw [e]; show t.val % 8 * 512 + 1 * r.val = 512 * (t.val % 8) + r.val; omega
  | ⟨1, _⟩ => show win0_5.index t 1 * 128 + 1 * _ = _; rw [e]; show t.val / 8 * 128 + 1 * d.val = 128 * (t.val / 8) + d.val; omega

/-- So the block of the call's array. -/
theorem blk5 (t : Fin cfg0.N) (r : Fin 512) (d : Fin 128) : iblk m c 5 t (ix2 r d) = a5 m c (ix2 (row t r) (lane (hd t) d)) := read5 (a5 m c) t r d

/-- A row of it. -/
theorem rows5 (t : Fin cfg0.N) (r : Fin 512) : row2 (iblk m c 5 t) r = fun d => a5 m c (ix2 (row t r) (lane (hd t) d)) := funext fun d => blk5 m c t r d

/-- Window 6's block of an array, at an index. -/
theorem read6 (X : Tokens) (t : Fin cfg0.N) (r : Fin 512) (d : Fin 128) :
    ((cfg0.win 6).blk t).view.read (Elt Ideal) X (ix2 r d) = X (ix2 (row t r) (lane (hd t) d)) := by
  rw [View.read_apply]
  have e := index6 t
  refine congrArg X (funext fun a => Fin.ext ?_)
  match a with
  | ⟨0, _⟩ => show win0_6.index t 0 * 512 + 1 * _ = _; rw [e]; show t.val % 8 * 512 + 1 * r.val = 512 * (t.val % 8) + r.val; omega
  | ⟨1, _⟩ => show win0_6.index t 1 * 128 + 1 * _ = _; rw [e]; show t.val / 8 * 128 + 1 * d.val = 128 * (t.val / 8) + d.val; omega

/-- So the block of the call's array. -/
theorem blk6 (t : Fin cfg0.N) (r : Fin 512) (d : Fin 128) : iblk m c 6 t (ix2 r d) = a6 m c (ix2 (row t r) (lane (hd t) d)) := read6 (a6 m c) t r d

/-- A row of it. -/
theorem rows6 (t : Fin cfg0.N) (r : Fin 512) : row2 (iblk m c 6 t) r = fun d => a6 m c (ix2 (row t r) (lane (hd t) d)) := funext fun d => blk6 m c t r d

/-- Window 7's block of an array, at an index. -/
theorem read7 (X : Tokens) (t : Fin cfg0.N) (r : Fin 512) (d : Fin 128) :
    ((cfg0.win 7).blk t).view.read (Elt Ideal) X (ix2 r d) = X (ix2 (row t r) (lane (hd t) d)) := by
  rw [View.read_apply]
  have e := index7 t
  refine congrArg X (funext fun a => Fin.ext ?_)
  match a with
  | ⟨0, _⟩ => show win0_7.index t 0 * 512 + 1 * _ = _; rw [e]; show t.val % 8 * 512 + 1 * r.val = 512 * (t.val % 8) + r.val; omega
  | ⟨1, _⟩ => show win0_7.index t 1 * 128 + 1 * _ = _; rw [e]; show t.val / 8 * 128 + 1 * d.val = 128 * (t.val / 8) + d.val; omega

/-- So the block of the call's array. -/
theorem blk7 (t : Fin cfg0.N) (r : Fin 512) (d : Fin 128) : iblk m c 7 t (ix2 r d) = a7 m c (ix2 (row t r) (lane (hd t) d)) := read7 (a7 m c) t r d

/-- A row of it. -/
theorem rows7 (t : Fin cfg0.N) (r : Fin 512) : row2 (iblk m c 7 t) r = fun d => a7 m c (ix2 (row t r) (lane (hd t) d)) := funext fun d => blk7 m c t r d

/-- The weights of a grid point are the head's. -/
theorem wt_eq (t : Fin cfg0.N) (r : Fin 512) (j : Fin 4096) :
    wt (grid0.coords t) (iblk m c 0 t) (iblk m c 1 t) (lcol (iblk m c 6 t)) (iblk m c 2 t) (iblk m c 3 t) r j
      = W (a0 m c) (a1 m c) (a2 m c) (a3 m c) (a6 m c) (hd t) (row t r) j := by
  unfold wt W both3 both2
  rw [lcol_apply, coords1]
  rw [rows0, rows1, rows2, rows3, blk6]
  rfl

/-- The score gradients of a grid point are the head's. -/
theorem sg_eq (t : Fin cfg0.N) (r : Fin 512) (j : Fin 4096) :
    sg (grid0.coords t) (iblk m c 0 t) (iblk m c 1 t) (iblk m c 7 t) (iblk m c 5 t) (lcol (iblk m c 6 t)) (iblk m c 2 t) (iblk m c 3 t) (iblk m c 4 t) r j
      = S (a0 m c) (a1 m c) (a2 m c) (a3 m c) (a4 m c) (a5 m c) (a6 m c) (a7 m c) (hd t) (row t r) j := by
  unfold sg S both3 both2
  rw [lcol_apply, coords1]
  rw [rows0, rows1, rows2, rows3, rows4, rows5, blk6, rows7]
  rfl

/-- The query gradient's part without position, after a grid point. -/
theorem outs8 (t : Fin cfg0.N) (r : Fin 512) (d : Fin 128) :
    (outsAt0 m c t.val t.isLt).1 (ix3 0 r d) = dqn (a0 m c) (a1 m c) (a2 m c) (a3 m c) (a4 m c) (a5 m c) (a6 m c) (a7 m c) (ix3 (hd t) (row t r) d) := by
  by_cases h0 : t.val % 8 = 0
  · rw [outsAt0_A m c t h0]
    dsimp only
    rw [point_A_8]
    simp only [sg_eq m c, blk2 m c]
    rfl
  · rw [outsAt0_B m c t h0]
    dsimp only
    rw [point_B_8]
    simp only [sg_eq m c, blk2 m c]
    rfl

/-- Its rotated part. -/
theorem outs9 (t : Fin cfg0.N) (r : Fin 512) (d : Fin 128) :
    (outsAt0 m c t.val t.isLt).2.1 (ix3 0 r d) = dqr (a0 m c) (a1 m c) (a2 m c) (a3 m c) (a4 m c) (a5 m c) (a6 m c) (a7 m c) (ix3 (hd t) (row t r) d) := by
  by_cases h0 : t.val % 8 = 0
  · rw [outsAt0_A m c t h0]
    dsimp only
    rw [point_A_9]
    simp only [sg_eq m c, blk3 m c]
    rfl
  · rw [outsAt0_B m c t h0]
    dsimp only
    rw [point_B_9]
    simp only [sg_eq m c, blk3 m c]
    rfl

/-- One query's part of the gradient of the keys' part without position. -/
def part10 (h : Fin 8) (j : Fin 4096) (d : Fin 128) (n : Fin 4096) : EReal := S (a0 m c) (a1 m c) (a2 m c) (a3 m c) (a4 m c) (a5 m c) (a6 m c) (a7 m c) h n j * a0 m c (ix3 h n d)

/-- A grid point's block of queries is a block of such parts. -/
theorem parts10 (t : Fin cfg0.N) (j : Fin 4096) (d : Fin 128) :
    ∑ r : Fin 512, sg (grid0.coords t) (iblk m c 0 t) (iblk m c 1 t) (iblk m c 7 t) (iblk m c 5 t) (lcol (iblk m c 6 t)) (iblk m c 2 t) (iblk m c 3 t) (iblk m c 4 t) r j * iblk m c 0 t (ix3 0 r d)
      = ∑ r : Fin 512, ext (part10 m c (hd t) j d) (512 * (t.val % 8) + r.val) :=
  Finset.sum_congr rfl fun r _ => by
    rw [ext_of_lt _ (by have := r.isLt; omega), sg_eq, blk0]
    rfl

/-- The gradient of the keys' part without position, after a grid point: the sum over the queries so far. -/
theorem outs10 (j : Fin 4096) (d : Fin 128) : ∀ (n : ℕ) (hn : n < cfg0.N),
    (outsAt0 m c n hn).2.2.1 (ix3 0 j d) = ∑ q ∈ Finset.range (512 * (n % 8 + 1)), ext (part10 m c (hd ⟨n, hn⟩) j d) q := by
  intro n
  induction n with
  | zero =>
    intro hn
    rw [outsAt0_A m c ⟨0, hn⟩ rfl]
    dsimp only
    rw [point_A_10, sum_block, parts10]
    simp only [Nat.zero_mod, Nat.mul_zero, Finset.range_zero, Finset.sum_empty, zero_add]
  | succ n ih =>
    intro hn
    have hN : cfg0.N = 64 := N_0
    by_cases h0 : (n + 1) % 8 = 0
    · rw [outsAt0_A m c ⟨n + 1, hn⟩ h0]
      dsimp only
      rw [point_A_10, sum_block, parts10]
      simp only [h0, Nat.mul_zero, Finset.range_zero, Finset.sum_empty, zero_add]
    · rw [outsAt0_B m c ⟨n + 1, hn⟩ h0]
      dsimp only
      rw [point_B_10, sum_block, parts10]
      have e : (n + 1) % 8 = n % 8 + 1 := by omega
      have eh : hd ⟨n + 1, hn⟩ = hd ⟨n, by omega⟩ := Fin.ext (by simp only [hd]; omega)
      simp only [e, eh]
      exact congrArg (fun a : EReal => a + _) (ih (by omega))

/-- After a head's last block of queries, the sum over all of them. -/
theorem last10 (t : Fin cfg0.N) (ht : t.val % 8 = 7) (j : Fin 4096) (d : Fin 128) :
    (outsAt0 m c t.val t.isLt).2.2.1 (ix3 0 j d) = dkn (a0 m c) (a1 m c) (a2 m c) (a3 m c) (a4 m c) (a5 m c) (a6 m c) (a7 m c) (ix3 (hd t) j d) := by
  rw [outs10, ht]
  exact sum_ext (part10 m c (hd t) j d)

/-- One query's part of the gradient of the keys' rotated part. -/
def part11 (h : Fin 8) (j : Fin 4096) (d : Fin 128) (n : Fin 4096) : EReal := S (a0 m c) (a1 m c) (a2 m c) (a3 m c) (a4 m c) (a5 m c) (a6 m c) (a7 m c) h n j * a1 m c (ix3 h n d)

/-- A grid point's block of queries is a block of such parts. -/
theorem parts11 (t : Fin cfg0.N) (j : Fin 4096) (d : Fin 128) :
    ∑ r : Fin 512, sg (grid0.coords t) (iblk m c 0 t) (iblk m c 1 t) (iblk m c 7 t) (iblk m c 5 t) (lcol (iblk m c 6 t)) (iblk m c 2 t) (iblk m c 3 t) (iblk m c 4 t) r j * iblk m c 1 t (ix3 0 r d)
      = ∑ r : Fin 512, ext (part11 m c (hd t) j d) (512 * (t.val % 8) + r.val) :=
  Finset.sum_congr rfl fun r _ => by
    rw [ext_of_lt _ (by have := r.isLt; omega), sg_eq, blk1]
    rfl

/-- The gradient of the keys' rotated part, after a grid point: the sum over the queries so far. -/
theorem outs11 (j : Fin 4096) (d : Fin 128) : ∀ (n : ℕ) (hn : n < cfg0.N),
    (outsAt0 m c n hn).2.2.2.1 (ix3 0 j d) = ∑ q ∈ Finset.range (512 * (n % 8 + 1)), ext (part11 m c (hd ⟨n, hn⟩) j d) q := by
  intro n
  induction n with
  | zero =>
    intro hn
    rw [outsAt0_A m c ⟨0, hn⟩ rfl]
    dsimp only
    rw [point_A_11, sum_block, parts11]
    simp only [Nat.zero_mod, Nat.mul_zero, Finset.range_zero, Finset.sum_empty, zero_add]
  | succ n ih =>
    intro hn
    have hN : cfg0.N = 64 := N_0
    by_cases h0 : (n + 1) % 8 = 0
    · rw [outsAt0_A m c ⟨n + 1, hn⟩ h0]
      dsimp only
      rw [point_A_11, sum_block, parts11]
      simp only [h0, Nat.mul_zero, Finset.range_zero, Finset.sum_empty, zero_add]
    · rw [outsAt0_B m c ⟨n + 1, hn⟩ h0]
      dsimp only
      rw [point_B_11, sum_block, parts11]
      have e : (n + 1) % 8 = n % 8 + 1 := by omega
      have eh : hd ⟨n + 1, hn⟩ = hd ⟨n, by omega⟩ := Fin.ext (by simp only [hd]; omega)
      simp only [e, eh]
      exact congrArg (fun a : EReal => a + _) (ih (by omega))

/-- After a head's last block of queries, the sum over all of them. -/
theorem last11 (t : Fin cfg0.N) (ht : t.val % 8 = 7) (j : Fin 4096) (d : Fin 128) :
    (outsAt0 m c t.val t.isLt).2.2.2.1 (ix3 0 j d) = dkr (a0 m c) (a1 m c) (a2 m c) (a3 m c) (a4 m c) (a5 m c) (a6 m c) (a7 m c) (ix3 (hd t) j d) := by
  rw [outs11, ht]
  exact sum_ext (part11 m c (hd t) j d)

/-- One query's part of the gradient of the values. -/
def part12 (h : Fin 8) (j : Fin 4096) (d : Fin 128) (n : Fin 4096) : EReal := W (a0 m c) (a1 m c) (a2 m c) (a3 m c) (a6 m c) h n j * a7 m c (ix2 n (lane h d))

/-- A grid point's block of queries is a block of such parts. -/
theorem parts12 (t : Fin cfg0.N) (j : Fin 4096) (d : Fin 128) :
    ∑ r : Fin 512, wt (grid0.coords t) (iblk m c 0 t) (iblk m c 1 t) (lcol (iblk m c 6 t)) (iblk m c 2 t) (iblk m c 3 t) r j * iblk m c 7 t (ix2 r d)
      = ∑ r : Fin 512, ext (part12 m c (hd t) j d) (512 * (t.val % 8) + r.val) :=
  Finset.sum_congr rfl fun r _ => by
    rw [ext_of_lt _ (by have := r.isLt; omega), wt_eq, blk7]
    rfl

/-- The gradient of the values, after a grid point: the sum over the queries so far. -/
theorem outs12 (j : Fin 4096) (d : Fin 128) : ∀ (n : ℕ) (hn : n < cfg0.N),
    (outsAt0 m c n hn).2.2.2.2 (ix3 0 j d) = ∑ q ∈ Finset.range (512 * (n % 8 + 1)), ext (part12 m c (hd ⟨n, hn⟩) j d) q := by
  intro n
  induction n with
  | zero =>
    intro hn
    rw [outsAt0_A m c ⟨0, hn⟩ rfl]
    dsimp only
    rw [point_A_12, sum_block, parts12]
    simp only [Nat.zero_mod, Nat.mul_zero, Finset.range_zero, Finset.sum_empty, zero_add]
  | succ n ih =>
    intro hn
    have hN : cfg0.N = 64 := N_0
    by_cases h0 : (n + 1) % 8 = 0
    · rw [outsAt0_A m c ⟨n + 1, hn⟩ h0]
      dsimp only
      rw [point_A_12, sum_block, parts12]
      simp only [h0, Nat.mul_zero, Finset.range_zero, Finset.sum_empty, zero_add]
    · rw [outsAt0_B m c ⟨n + 1, hn⟩ h0]
      dsimp only
      rw [point_B_12, sum_block, parts12]
      have e : (n + 1) % 8 = n % 8 + 1 := by omega
      have eh : hd ⟨n + 1, hn⟩ = hd ⟨n, by omega⟩ := Fin.ext (by simp only [hd]; omega)
      simp only [e, eh]
      exact congrArg (fun a : EReal => a + _) (ih (by omega))

/-- After a head's last block of queries, the sum over all of them. -/
theorem last12 (t : Fin cfg0.N) (ht : t.val % 8 = 7) (j : Fin 4096) (d : Fin 128) :
    (outsAt0 m c t.val t.isLt).2.2.2.2 (ix3 0 j d) = dv (a0 m c) (a1 m c) (a2 m c) (a3 m c) (a6 m c) (a7 m c) (ix3 (hd t) j d) := by
  rw [outs12, ht]
  exact sum_ext (part12 m c (hd t) j d)

/-- Window 8's block of a result array, at an index. -/
theorem read8 (X : Heads) (t : Fin cfg0.N) (r : Fin 512) (d : Fin 128) :
    ((cfg0.win 8).blk t).view.read (Elt Ideal) X (ix3 0 r d) = X (ix3 (hd t) (row t r) d) := by
  rw [View.read_apply]
  have e := index8 t
  refine congrArg X (funext fun a => Fin.ext ?_)
  match a with
  | ⟨0, _⟩ => show win0_8.index t 0 * 1 + 1 * _ = _; rw [e]; show t.val / 8 * 1 + 1 * 0 = t.val / 8; omega
  | ⟨1, _⟩ => show win0_8.index t 1 * 512 + 1 * _ = _; rw [e]; show t.val % 8 * 512 + 1 * r.val = 512 * (t.val % 8) + r.val; omega
  | ⟨2, _⟩ => show win0_8.index t 2 * 128 + 1 * _ = _; rw [e]; show 0 * 128 + 1 * d.val = d.val; omega

/-- What a grid point writes back to window 8's array is its block of the result. -/
theorem flush8 (t : Fin cfg0.N) (hf : (cfg0.win 8).flush t = true) :
    (dats m 0 c).flushed 8 t = ((cfg0.win 8).blk t).view.read (Elt Ideal) (dqn (a0 m c) (a1 m c) (a2 m c) (a3 m c) (a4 m c) (a5 m c) (a6 m c) (a7 m c) : Heads) := by
  rw [flushed8]
  funext x
  obtain ⟨a, r, d, rfl⟩ : ∃ (a : Fin 1) (r : Fin 512) (d : Fin 128), x = ix3 a r d := ⟨x 0, x 1, x 2, funext fun k => by fin_cases k <;> rfl⟩
  obtain rfl : a = 0 := Subsingleton.elim _ _
  refine Eq.trans ?_ (read8 (dqn (a0 m c) (a1 m c) (a2 m c) (a3 m c) (a4 m c) (a5 m c) (a6 m c) (a7 m c)) t r d).symm
  exact outs8 m c t r d

/-- What window 8's array holds in the end. -/
theorem final8 : (dats m 0 c).arrAt 8 cfg0.N = (dqn (a0 m c) (a1 m c) (a2 m c) (a3 m c) (a4 m c) (a5 m c) (a6 m c) (a7 m c) : Heads) :=
  (dats m 0 c).arrAt_eq_of_cover 8 (dqn (a0 m c) (a1 m c) (a2 m c) (a3 m c) (a4 m c) (a5 m c) (a6 m c) (a7 m c) : Heads) (flush8 m c) fun (x : S8x4096x128.Idx) => by
    have hN : cfg0.N = 64 := N_0
    have h0 : (x 0 : ℕ) < 8 := (x 0).isLt
    have h1 : (x 1 : ℕ) < 4096 := (x 1).isLt
    have h2 : (x 2 : ℕ) < 128 := (x 2).isLt
    obtain ⟨t, ht⟩ : ∃ t : Fin cfg0.N, t.val = 8 * (x 0 : ℕ) + (x 1 : ℕ) / 512 := ⟨⟨_, by omega⟩, rfl⟩
    refine ⟨t, flush0_8 t, ?_⟩
    show x ∈ ((View.whole main_v40_0).slice (win0_8.rect t)).set
    rw [View.set_slice_whole, Rect.mem_set_unit]
    have e := index8 t
    intro a
    match a with
    | ⟨0, _⟩ => show win0_8.index t 0 * 1 ≤ (x 0 : ℕ) ∧ (x 0 : ℕ) < win0_8.index t 0 * 1 + 1; rw [e]; show t.val / 8 * 1 ≤ (x 0 : ℕ) ∧ (x 0 : ℕ) < t.val / 8 * 1 + 1; omega
    | ⟨1, _⟩ => show win0_8.index t 1 * 512 ≤ (x 1 : ℕ) ∧ (x 1 : ℕ) < win0_8.index t 1 * 512 + 512; rw [e]; show t.val % 8 * 512 ≤ (x 1 : ℕ) ∧ (x 1 : ℕ) < t.val % 8 * 512 + 512; omega
    | ⟨2, _⟩ => show win0_8.index t 2 * 128 ≤ (x 2 : ℕ) ∧ (x 2 : ℕ) < win0_8.index t 2 * 128 + 128; rw [e]; show 0 * 128 ≤ (x 2 : ℕ) ∧ (x 2 : ℕ) < 0 * 128 + 128; omega

/-- Window 9's block of a result array, at an index. -/
theorem read9 (X : Heads) (t : Fin cfg0.N) (r : Fin 512) (d : Fin 128) :
    ((cfg0.win 9).blk t).view.read (Elt Ideal) X (ix3 0 r d) = X (ix3 (hd t) (row t r) d) := by
  rw [View.read_apply]
  have e := index9 t
  refine congrArg X (funext fun a => Fin.ext ?_)
  match a with
  | ⟨0, _⟩ => show win0_9.index t 0 * 1 + 1 * _ = _; rw [e]; show t.val / 8 * 1 + 1 * 0 = t.val / 8; omega
  | ⟨1, _⟩ => show win0_9.index t 1 * 512 + 1 * _ = _; rw [e]; show t.val % 8 * 512 + 1 * r.val = 512 * (t.val % 8) + r.val; omega
  | ⟨2, _⟩ => show win0_9.index t 2 * 128 + 1 * _ = _; rw [e]; show 0 * 128 + 1 * d.val = d.val; omega

/-- What a grid point writes back to window 9's array is its block of the result. -/
theorem flush9 (t : Fin cfg0.N) (hf : (cfg0.win 9).flush t = true) :
    (dats m 0 c).flushed 9 t = ((cfg0.win 9).blk t).view.read (Elt Ideal) (dqr (a0 m c) (a1 m c) (a2 m c) (a3 m c) (a4 m c) (a5 m c) (a6 m c) (a7 m c) : Heads) := by
  rw [flushed9]
  funext x
  obtain ⟨a, r, d, rfl⟩ : ∃ (a : Fin 1) (r : Fin 512) (d : Fin 128), x = ix3 a r d := ⟨x 0, x 1, x 2, funext fun k => by fin_cases k <;> rfl⟩
  obtain rfl : a = 0 := Subsingleton.elim _ _
  refine Eq.trans ?_ (read9 (dqr (a0 m c) (a1 m c) (a2 m c) (a3 m c) (a4 m c) (a5 m c) (a6 m c) (a7 m c)) t r d).symm
  exact outs9 m c t r d

/-- What window 9's array holds in the end. -/
theorem final9 : (dats m 0 c).arrAt 9 cfg0.N = (dqr (a0 m c) (a1 m c) (a2 m c) (a3 m c) (a4 m c) (a5 m c) (a6 m c) (a7 m c) : Heads) :=
  (dats m 0 c).arrAt_eq_of_cover 9 (dqr (a0 m c) (a1 m c) (a2 m c) (a3 m c) (a4 m c) (a5 m c) (a6 m c) (a7 m c) : Heads) (flush9 m c) fun (x : S8x4096x128.Idx) => by
    have hN : cfg0.N = 64 := N_0
    have h0 : (x 0 : ℕ) < 8 := (x 0).isLt
    have h1 : (x 1 : ℕ) < 4096 := (x 1).isLt
    have h2 : (x 2 : ℕ) < 128 := (x 2).isLt
    obtain ⟨t, ht⟩ : ∃ t : Fin cfg0.N, t.val = 8 * (x 0 : ℕ) + (x 1 : ℕ) / 512 := ⟨⟨_, by omega⟩, rfl⟩
    refine ⟨t, flush0_9 t, ?_⟩
    show x ∈ ((View.whole main_v40_1).slice (win0_9.rect t)).set
    rw [View.set_slice_whole, Rect.mem_set_unit]
    have e := index9 t
    intro a
    match a with
    | ⟨0, _⟩ => show win0_9.index t 0 * 1 ≤ (x 0 : ℕ) ∧ (x 0 : ℕ) < win0_9.index t 0 * 1 + 1; rw [e]; show t.val / 8 * 1 ≤ (x 0 : ℕ) ∧ (x 0 : ℕ) < t.val / 8 * 1 + 1; omega
    | ⟨1, _⟩ => show win0_9.index t 1 * 512 ≤ (x 1 : ℕ) ∧ (x 1 : ℕ) < win0_9.index t 1 * 512 + 512; rw [e]; show t.val % 8 * 512 ≤ (x 1 : ℕ) ∧ (x 1 : ℕ) < t.val % 8 * 512 + 512; omega
    | ⟨2, _⟩ => show win0_9.index t 2 * 128 ≤ (x 2 : ℕ) ∧ (x 2 : ℕ) < win0_9.index t 2 * 128 + 128; rw [e]; show 0 * 128 ≤ (x 2 : ℕ) ∧ (x 2 : ℕ) < 0 * 128 + 128; omega

/-- Window 10's block of a result array, at an index. -/
theorem read10 (X : Heads) (t : Fin cfg0.N) (r : Fin 4096) (d : Fin 128) :
    ((cfg0.win 10).blk t).view.read (Elt Ideal) X (ix3 0 r d) = X (ix3 (hd t) r d) := by
  rw [View.read_apply]
  have e := index10 t
  refine congrArg X (funext fun a => Fin.ext ?_)
  match a with
  | ⟨0, _⟩ => show win0_10.index t 0 * 1 + 1 * _ = _; rw [e]; show t.val / 8 * 1 + 1 * 0 = t.val / 8; omega
  | ⟨1, _⟩ => show win0_10.index t 1 * 4096 + 1 * _ = _; rw [e]; show 0 * 4096 + 1 * r.val = r.val; omega
  | ⟨2, _⟩ => show win0_10.index t 2 * 128 + 1 * _ = _; rw [e]; show 0 * 128 + 1 * d.val = d.val; omega

/-- What a grid point writes back to window 10's array is its block of the result. -/
theorem flush10 (t : Fin cfg0.N) (hf : (cfg0.win 10).flush t = true) :
    (dats m 0 c).flushed 10 t = ((cfg0.win 10).blk t).view.read (Elt Ideal) (dkn (a0 m c) (a1 m c) (a2 m c) (a3 m c) (a4 m c) (a5 m c) (a6 m c) (a7 m c) : Heads) := by
  rw [flushed10]
  funext x
  obtain ⟨a, r, d, rfl⟩ : ∃ (a : Fin 1) (r : Fin 4096) (d : Fin 128), x = ix3 a r d := ⟨x 0, x 1, x 2, funext fun k => by fin_cases k <;> rfl⟩
  obtain rfl : a = 0 := Subsingleton.elim _ _
  refine Eq.trans ?_ (read10 (dkn (a0 m c) (a1 m c) (a2 m c) (a3 m c) (a4 m c) (a5 m c) (a6 m c) (a7 m c)) t r d).symm
  exact last10 m c t (by have := (flush0_10 t).mp hf; omega) r d

/-- What window 10's array holds in the end. -/
theorem final10 : (dats m 0 c).arrAt 10 cfg0.N = (dkn (a0 m c) (a1 m c) (a2 m c) (a3 m c) (a4 m c) (a5 m c) (a6 m c) (a7 m c) : Heads) :=
  (dats m 0 c).arrAt_eq_of_cover 10 (dkn (a0 m c) (a1 m c) (a2 m c) (a3 m c) (a4 m c) (a5 m c) (a6 m c) (a7 m c) : Heads) (flush10 m c) fun (x : S8x4096x128.Idx) => by
    have hN : cfg0.N = 64 := N_0
    have h0 : (x 0 : ℕ) < 8 := (x 0).isLt
    have h1 : (x 1 : ℕ) < 4096 := (x 1).isLt
    have h2 : (x 2 : ℕ) < 128 := (x 2).isLt
    obtain ⟨t, ht⟩ : ∃ t : Fin cfg0.N, t.val = 8 * (x 0 : ℕ) + 7 := ⟨⟨_, by omega⟩, rfl⟩
    refine ⟨t, (flush0_10 t).mpr (by omega), ?_⟩
    show x ∈ ((View.whole main_v40_2).slice (win0_10.rect t)).set
    rw [View.set_slice_whole, Rect.mem_set_unit]
    have e := index10 t
    intro a
    match a with
    | ⟨0, _⟩ => show win0_10.index t 0 * 1 ≤ (x 0 : ℕ) ∧ (x 0 : ℕ) < win0_10.index t 0 * 1 + 1; rw [e]; show t.val / 8 * 1 ≤ (x 0 : ℕ) ∧ (x 0 : ℕ) < t.val / 8 * 1 + 1; omega
    | ⟨1, _⟩ => show win0_10.index t 1 * 4096 ≤ (x 1 : ℕ) ∧ (x 1 : ℕ) < win0_10.index t 1 * 4096 + 4096; rw [e]; show 0 * 4096 ≤ (x 1 : ℕ) ∧ (x 1 : ℕ) < 0 * 4096 + 4096; omega
    | ⟨2, _⟩ => show win0_10.index t 2 * 128 ≤ (x 2 : ℕ) ∧ (x 2 : ℕ) < win0_10.index t 2 * 128 + 128; rw [e]; show 0 * 128 ≤ (x 2 : ℕ) ∧ (x 2 : ℕ) < 0 * 128 + 128; omega

/-- Window 11's block of a result array, at an index. -/
theorem read11 (X : Heads) (t : Fin cfg0.N) (r : Fin 4096) (d : Fin 128) :
    ((cfg0.win 11).blk t).view.read (Elt Ideal) X (ix3 0 r d) = X (ix3 (hd t) r d) := by
  rw [View.read_apply]
  have e := index11 t
  refine congrArg X (funext fun a => Fin.ext ?_)
  match a with
  | ⟨0, _⟩ => show win0_11.index t 0 * 1 + 1 * _ = _; rw [e]; show t.val / 8 * 1 + 1 * 0 = t.val / 8; omega
  | ⟨1, _⟩ => show win0_11.index t 1 * 4096 + 1 * _ = _; rw [e]; show 0 * 4096 + 1 * r.val = r.val; omega
  | ⟨2, _⟩ => show win0_11.index t 2 * 128 + 1 * _ = _; rw [e]; show 0 * 128 + 1 * d.val = d.val; omega

/-- What a grid point writes back to window 11's array is its block of the result. -/
theorem flush11 (t : Fin cfg0.N) (hf : (cfg0.win 11).flush t = true) :
    (dats m 0 c).flushed 11 t = ((cfg0.win 11).blk t).view.read (Elt Ideal) (dkr (a0 m c) (a1 m c) (a2 m c) (a3 m c) (a4 m c) (a5 m c) (a6 m c) (a7 m c) : Heads) := by
  rw [flushed11]
  funext x
  obtain ⟨a, r, d, rfl⟩ : ∃ (a : Fin 1) (r : Fin 4096) (d : Fin 128), x = ix3 a r d := ⟨x 0, x 1, x 2, funext fun k => by fin_cases k <;> rfl⟩
  obtain rfl : a = 0 := Subsingleton.elim _ _
  refine Eq.trans ?_ (read11 (dkr (a0 m c) (a1 m c) (a2 m c) (a3 m c) (a4 m c) (a5 m c) (a6 m c) (a7 m c)) t r d).symm
  exact last11 m c t (by have := (flush0_11 t).mp hf; omega) r d

/-- What window 11's array holds in the end. -/
theorem final11 : (dats m 0 c).arrAt 11 cfg0.N = (dkr (a0 m c) (a1 m c) (a2 m c) (a3 m c) (a4 m c) (a5 m c) (a6 m c) (a7 m c) : Heads) :=
  (dats m 0 c).arrAt_eq_of_cover 11 (dkr (a0 m c) (a1 m c) (a2 m c) (a3 m c) (a4 m c) (a5 m c) (a6 m c) (a7 m c) : Heads) (flush11 m c) fun (x : S8x4096x128.Idx) => by
    have hN : cfg0.N = 64 := N_0
    have h0 : (x 0 : ℕ) < 8 := (x 0).isLt
    have h1 : (x 1 : ℕ) < 4096 := (x 1).isLt
    have h2 : (x 2 : ℕ) < 128 := (x 2).isLt
    obtain ⟨t, ht⟩ : ∃ t : Fin cfg0.N, t.val = 8 * (x 0 : ℕ) + 7 := ⟨⟨_, by omega⟩, rfl⟩
    refine ⟨t, (flush0_11 t).mpr (by omega), ?_⟩
    show x ∈ ((View.whole main_v40_3).slice (win0_11.rect t)).set
    rw [View.set_slice_whole, Rect.mem_set_unit]
    have e := index11 t
    intro a
    match a with
    | ⟨0, _⟩ => show win0_11.index t 0 * 1 ≤ (x 0 : ℕ) ∧ (x 0 : ℕ) < win0_11.index t 0 * 1 + 1; rw [e]; show t.val / 8 * 1 ≤ (x 0 : ℕ) ∧ (x 0 : ℕ) < t.val / 8 * 1 + 1; omega
    | ⟨1, _⟩ => show win0_11.index t 1 * 4096 ≤ (x 1 : ℕ) ∧ (x 1 : ℕ) < win0_11.index t 1 * 4096 + 4096; rw [e]; show 0 * 4096 ≤ (x 1 : ℕ) ∧ (x 1 : ℕ) < 0 * 4096 + 4096; omega
    | ⟨2, _⟩ => show win0_11.index t 2 * 128 ≤ (x 2 : ℕ) ∧ (x 2 : ℕ) < win0_11.index t 2 * 128 + 128; rw [e]; show 0 * 128 ≤ (x 2 : ℕ) ∧ (x 2 : ℕ) < 0 * 128 + 128; omega

/-- Window 12's block of a result array, at an index. -/
theorem read12 (X : Heads) (t : Fin cfg0.N) (r : Fin 4096) (d : Fin 128) :
    ((cfg0.win 12).blk t).view.read (Elt Ideal) X (ix3 0 r d) = X (ix3 (hd t) r d) := by
  rw [View.read_apply]
  have e := index12 t
  refine congrArg X (funext fun a => Fin.ext ?_)
  match a with
  | ⟨0, _⟩ => show win0_12.index t 0 * 1 + 1 * _ = _; rw [e]; show t.val / 8 * 1 + 1 * 0 = t.val / 8; omega
  | ⟨1, _⟩ => show win0_12.index t 1 * 4096 + 1 * _ = _; rw [e]; show 0 * 4096 + 1 * r.val = r.val; omega
  | ⟨2, _⟩ => show win0_12.index t 2 * 128 + 1 * _ = _; rw [e]; show 0 * 128 + 1 * d.val = d.val; omega

/-- What a grid point writes back to window 12's array is its block of the result. -/
theorem flush12 (t : Fin cfg0.N) (hf : (cfg0.win 12).flush t = true) :
    (dats m 0 c).flushed 12 t = ((cfg0.win 12).blk t).view.read (Elt Ideal) (dv (a0 m c) (a1 m c) (a2 m c) (a3 m c) (a6 m c) (a7 m c) : Heads) := by
  rw [flushed12]
  funext x
  obtain ⟨a, r, d, rfl⟩ : ∃ (a : Fin 1) (r : Fin 4096) (d : Fin 128), x = ix3 a r d := ⟨x 0, x 1, x 2, funext fun k => by fin_cases k <;> rfl⟩
  obtain rfl : a = 0 := Subsingleton.elim _ _
  refine Eq.trans ?_ (read12 (dv (a0 m c) (a1 m c) (a2 m c) (a3 m c) (a6 m c) (a7 m c)) t r d).symm
  exact last12 m c t (by have := (flush0_12 t).mp hf; omega) r d

/-- What window 12's array holds in the end. -/
theorem final12 : (dats m 0 c).arrAt 12 cfg0.N = (dv (a0 m c) (a1 m c) (a2 m c) (a3 m c) (a6 m c) (a7 m c) : Heads) :=
  (dats m 0 c).arrAt_eq_of_cover 12 (dv (a0 m c) (a1 m c) (a2 m c) (a3 m c) (a6 m c) (a7 m c) : Heads) (flush12 m c) fun (x : S8x4096x128.Idx) => by
    have hN : cfg0.N = 64 := N_0
    have h0 : (x 0 : ℕ) < 8 := (x 0).isLt
    have h1 : (x 1 : ℕ) < 4096 := (x 1).isLt
    have h2 : (x 2 : ℕ) < 128 := (x 2).isLt
    obtain ⟨t, ht⟩ : ∃ t : Fin cfg0.N, t.val = 8 * (x 0 : ℕ) + 7 := ⟨⟨_, by omega⟩, rfl⟩
    refine ⟨t, (flush0_12 t).mpr (by omega), ?_⟩
    show x ∈ ((View.whole main_v40_4).slice (win0_12.rect t)).set
    rw [View.set_slice_whole, Rect.mem_set_unit]
    have e := index12 t
    intro a
    match a with
    | ⟨0, _⟩ => show win0_12.index t 0 * 1 ≤ (x 0 : ℕ) ∧ (x 0 : ℕ) < win0_12.index t 0 * 1 + 1; rw [e]; show t.val / 8 * 1 ≤ (x 0 : ℕ) ∧ (x 0 : ℕ) < t.val / 8 * 1 + 1; omega
    | ⟨1, _⟩ => show win0_12.index t 1 * 4096 ≤ (x 1 : ℕ) ∧ (x 1 : ℕ) < win0_12.index t 1 * 4096 + 4096; rw [e]; show 0 * 4096 ≤ (x 1 : ℕ) ∧ (x 1 : ℕ) < 0 * 4096 + 4096; omega
    | ⟨2, _⟩ => show win0_12.index t 2 * 128 ≤ (x 2 : ℕ) ∧ (x 2 : ℕ) < win0_12.index t 2 * 128 + 128; rw [e]; show 0 * 128 ≤ (x 2 : ℕ) ∧ (x 2 : ℕ) < 0 * 128 + 128; omega

end Cert.KernelIdeal.Latent

end
-- ==== Proof.LatentRef.lean ====
/- The reference's stages of the latent attention's backward pass, element by element. -/
module

public import proofs.«01_k».proof.Proof.Gen.ReferenceIdeal.Read
public import proofs.«01_k».proof.Proof.LatentSpec

@[expose] public section

set_option maxRecDepth 16384

noncomputable section

namespace Cert.ReferenceIdeal.Latent

open Cert.ReferenceIdeal Cert.ReferenceIdeal.Gen Cert.ReferenceIdeal.Read Cert.Latent
open Idealize.ShloMosaic Idealize.ShloMosaic.TcCoe Idealize.ShloMosaic.Tactic

variable (x0 x1 x2 : Heads) (x3 : Shared) (x4 : Heads) (x5 : Tokens)

/-- The queries, both parts. -/
theorem q_at (h : Fin 8) (n : Fin 4096) (e : Fin 256) : val_main_v3 (F := Ideal) x0 x1 (ix3 h n e) = both3 x0 x1 h n e := by
  pointwise [val_main_v3, val_main_v0, both3, cat]

/-- The keys, both parts. -/
theorem k_at (h : Fin 8) (n : Fin 4096) (e : Fin 256) : val_main_v4 (F := Ideal) x2 x3 (ix3 h n e) = both2 x2 x3 h n e := by
  pointwise [val_main_v4, val_main_v2, val_main_v1, both2, cat]

/-- The values. -/
theorem v_at (h : Fin 8) (n : Fin 4096) (d : Fin 128) : val_main_v5 (F := Ideal) x4 (ix3 h n d) = x4 (ix3 h n d) := by
  pointwise [val_main_v5]

/-- The word of minus infinity. -/
theorem ofBits_negInf : Ideal.ofBits .f32 0xFF800000#32 = ⊥ := by
  simp [Ideal.ofBits, Ideal.ieee]

/-- The word of one. -/
theorem ofBits_one : Ideal.ofBits .f32 0x3F800000#32 = 1 := by
  simp [Ideal.ofBits, Ideal.ieee, -EReal.coe_mul]; norm_num

/-- The comparison of two token positions as signed words. -/
theorem sle_at (j n : Fin 4096) : IntOp.cmpi CmpIPredicate.sle (BitVec.ofNat 32 j.val) (BitVec.ofNat 32 n.val) = if j ≤ n then 1#1 else 0#1 := by
  have hj := j.isLt
  have hn := n.isLt
  have a : Affine.IsInt (BitVec.ofNat 32 j.val) (j.val : Int) := Affine.ofNat (e := j.val) j.val (by omega)
  have b : Affine.IsInt (BitVec.ofNat 32 n.val) (n.val : Int) := Affine.ofNat (e := n.val) n.val (by omega)
  by_cases h : j ≤ n
  · rw [if_pos h]; exact Affine.sle_holds a b (by have := Fin.le_def.mp h; omega)
  · rw [if_neg h]; exact (BitVec.eq_zero_or_eq_one _).resolve_right (Affine.sle_fails a b (by have := mt Fin.le_def.mpr h; omega))

/-- Which keys a query sees. -/
theorem sees (h : Fin 8) (n j : Fin 4096) : val_main_v13_1 (F := Ideal) (ix3 h n j) = if j ≤ n then 1#1 else 0#1 := by
  pointwise [val_main_v13_1, val_main_v12, val_main_v11, val_main_v10, val_main_v9, val_main_v8, val_main_v7]
  exact sle_at j n

/-- A choice by that word. -/
theorem select_sees (j n : Fin 4096) (a b : EReal) : Scalar.select (if j ≤ n then 1#1 else 0#1) a b = if j ≤ n then a else b := by
  split <;> rfl

/-- The masked scores. -/
def Z (h : Fin 8) (n j : Fin 4096) : EReal := if j ≤ n then ∑ e, both3 x0 x1 h n e * both2 x2 x3 h j e else ⊥

/-- The greatest score of a row. -/
def M (h : Fin 8) (n : Fin 4096) : EReal := (Finset.univ : Finset (Fin 4096)).fold max ⊥ (Z x0 x1 x2 x3 h n)

/-- The exponential of a score less its row's greatest. -/
def E (h : Fin 8) (n j : Fin 4096) : EReal := Ideal.exp (Z x0 x1 x2 x3 h n j - M x0 x1 x2 x3 h n)

/-- A row's sum of exponentials. -/
def L (h : Fin 8) (n : Fin 4096) : EReal := ∑ j, E x0 x1 x2 x3 h n j

/-- The softmax weights. -/
def P (h : Fin 8) (n j : Fin 4096) : EReal := Ideal.div (E x0 x1 x2 x3 h n j) (L x0 x1 x2 x3 h n)

/-- The gradient of a weight. -/
def dP (h : Fin 8) (n j : Fin 4096) : EReal := ∑ d, x5 (ix2 n (lane h d)) * x4 (ix3 h j d)

/-- The gradient of a score. -/
def dZ (h : Fin 8) (n j : Fin 4096) : EReal :=
  if j ≤ n then
    (Ideal.div (dP x4 x5 h n j) (L x0 x1 x2 x3 h n)
      + -(∑ k, dP x4 x5 h n k * Ideal.div 1 (L x0 x1 x2 x3 h n * L x0 x1 x2 x3 h n) * E x0 x1 x2 x3 h n k)) * E x0 x1 x2 x3 h n j
  else 0

theorem z_at (h : Fin 8) (n j : Fin 4096) : val_main_v13_0 (F := Ideal) x0 x1 x2 x3 (ix3 h n j) = Z x0 x1 x2 x3 h n j := by
  pointwise [val_main_v13_0, val_main_v6, q_at, k_at, sees, val_main_call0_v2, val_main_call0_v0, val_main_cst]
  rw [select_sees]
  exact if_congr Iff.rfl rfl ofBits_negInf

theorem m_at (h : Fin 8) (n : Fin 4096) : val_main_v21 (F := Ideal) x0 x1 x2 x3 (ix2 h n) = M x0 x1 x2 x3 h n := by
  pointwise [val_main_v21, val_main_cst_2, z_at]
  rw [ofBits_negInf]; rfl

end Cert.ReferenceIdeal.Latent

end
-- ==== Proof.LatentGrad.lean ====
/- The reference's softmax, its saved log-sum, its result and the values' gradient, element by element. -/
module

public import proofs.«01_k».proof.Proof.LatentRef

@[expose] public section

set_option maxRecDepth 16384

noncomputable section

namespace Cert.ReferenceIdeal.Latent

open Cert.ReferenceIdeal Cert.ReferenceIdeal.Gen Cert.ReferenceIdeal.Read Cert.Latent
open Idealize.ShloMosaic Idealize.ShloMosaic.TcCoe Idealize.ShloMosaic.Tactic

variable (x0 x1 x2 : Heads) (x3 : Shared) (x4 : Heads) (x5 : Tokens)

theorem m28_at (h : Fin 8) (n : Fin 4096) : val_main_v28 (F := Ideal) x0 x1 x2 x3 (ix2 h n) = M x0 x1 x2 x3 h n := by
  have a : val_main_v27 (F := Ideal) (ix2 h n) = ⊥ := by
    pointwise [val_main_v27, val_main_cst_4]
    exact ofBits_negInf
  rw [val_main_v28_apply, a, m_at]
  generalize M x0 x1 x2 x3 h n = y
  exact max_eq_right bot_le

theorem e_at (h : Fin 8) (n j : Fin 4096) : val_main_v41 (F := Ideal) x0 x1 x2 x3 (ix3 h n j) = E x0 x1 x2 x3 h n j := by
  unfold E
  pointwise [val_main_v41, val_main_v40, val_main_v39, val_main_v38, m28_at, z_at]

theorem l_at (h : Fin 8) (n : Fin 4096) : val_main_v42 (F := Ideal) x0 x1 x2 x3 (ix2 h n) = L x0 x1 x2 x3 h n := by
  unfold L
  pointwise [val_main_v42, val_main_cst_10, e_at]

theorem p_at (h : Fin 8) (n j : Fin 4096) : val_main_v45 (F := Ideal) x0 x1 x2 x3 (ix3 h n j) = P x0 x1 x2 x3 h n j := by
  unfold P
  pointwise [val_main_v45, val_main_v44, val_main_v43, l_at, e_at]

theorem e51_at (h : Fin 8) (n j : Fin 4096) : val_main_v51 (F := Ideal) x0 x1 x2 x3 (ix3 h n j) = E x0 x1 x2 x3 h n j := by
  unfold E
  have hm : val_main_v14 (F := Ideal) x0 x1 x2 x3 = val_main_v21 (F := Ideal) x0 x1 x2 x3 := rfl
  pointwise [val_main_v51, val_main_v50, val_main_v49, val_main_v20, hm, m_at, z_at]

/-- The saved log-sum of a row. -/
theorem lse_at (h : Fin 8) (n : Fin 4096) : val_main_v55 (F := Ideal) x0 x1 x2 x3 (ix3 h n 0) = M x0 x1 x2 x3 h n + Ideal.log (L x0 x1 x2 x3 h n) := by
  have hm : val_main_v14 (F := Ideal) x0 x1 x2 x3 = val_main_v21 (F := Ideal) x0 x1 x2 x3 := rfl
  have a : val_main_v20 (F := Ideal) x0 x1 x2 x3 (ix3 h n 0) = M x0 x1 x2 x3 h n := by pointwise [val_main_v20, hm, m_at]
  have b : val_main_v53 (F := Ideal) x0 x1 x2 x3 (ix3 h n 0) = L x0 x1 x2 x3 h n := by
    unfold L
    pointwise [val_main_v53, val_main_v52, val_main_cst_12, e51_at]
  rw [val_main_v55_apply, val_main_v54_apply, a, b]
  generalize M x0 x1 x2 x3 h n = y
  generalize L x0 x1 x2 x3 h n = l
  rfl

/-- The attention's result, head by head. -/
theorem o_at (h : Fin 8) (n : Fin 4096) (d : Fin 128) : val_main_v56 (F := Ideal) x0 x1 x2 x3 x4 (ix3 h n d)
    = ∑ j, P x0 x1 x2 x3 h n j * x4 (ix3 h j d) := by
  pointwise [val_main_v56, p_at, v_at]

/-- The result's gradient, head by head. -/
theorem g_at (h : Fin 8) (n : Fin 4096) (d : Fin 128) : val_main_v60 (F := Ideal) x5 (ix3 h n d) = x5 (ix2 n (lane h d)) := by
  pointwise [val_main_v60, val_main_v59]
  exact congrArg x5 (congrArg (ix2 n) (Fin.ext (by show h.val * 128 + d.val = 128 * h.val + d.val; omega)))

/-- The gradient of the values. -/
theorem dv_at (h : Fin 8) (j : Fin 4096) (d : Fin 128) : val_main_v62 (F := Ideal) x0 x1 x2 x3 x5 (ix3 h j d)
    = ∑ n, x5 (ix2 n (lane h d)) * P x0 x1 x2 x3 h n j := by
  pointwise [val_main_v62, val_main_v61, g_at, p_at]

theorem dp_at (h : Fin 8) (n j : Fin 4096) : val_main_v63 (F := Ideal) x4 x5 (ix3 h n j) = dP x4 x5 h n j := by
  unfold dP
  pointwise [val_main_v63, g_at, v_at]

end Cert.ReferenceIdeal.Latent

end
-- ==== Proof.LatentHost.lean ====
/- What the latent attention's backward call finds in its argument arrays: the arguments themselves, and the attention's
   result and log-sums as the reference computes them. -/
module

public import proofs.«01_k».proof.Proof.LatentArray
public import proofs.«01_k».proof.Proof.LatentGrad
public import Idealize.ShloMosaic.Lib.StableHlo.RunRead

@[expose] public section

set_option maxRecDepth 16384

noncomputable section

namespace Cert.KernelIdeal.Latent

open Cert.KernelIdeal Cert.KernelIdeal.Gen Cert.KernelIdeal.Value Cert.Latent
open Idealize.ShloMosaic Idealize.ShloMosaic.TcCoe Idealize.ShloMosaic.Tactic Idealize.SL.Sem Idealize.ShloMosaic.StableHlo

variable (m : (ℓ : Loc nD τ sig) → Buf (Elt Ideal) ℓ) (c : Dev nD)

theorem a0_eq : a0 m c = m ((c.tc : Thread nD τ).loc main_arg0) := V_main_arg0 m c
theorem a1_eq : a1 m c = m ((c.tc : Thread nD τ).loc main_arg1) := V_main_arg1 m c
theorem a2_eq : a2 m c = m ((c.tc : Thread nD τ).loc main_arg2) := V_main_arg2 m c
theorem a3_eq : a3 m c = m ((c.tc : Thread nD τ).loc main_arg3) := V_main_arg3 m c
theorem a4_eq : a4 m c = m ((c.tc : Thread nD τ).loc main_arg4) := V_main_arg4 m c
theorem a7_eq : a7 m c = m ((c.tc : Thread nD τ).loc main_arg5) := V_main_arg5 m c

/-- The attention's result as the call finds it. -/
theorem a5_eq : a5 m c = Cert.ReferenceIdeal.Read.val_main_v58 (F := Ideal) (a0 m c) (a1 m c) (a2 m c) (a3 m c) (a4 m c) := by
  rw [a0_eq, a1_eq, a2_eq, a3_eq, a4_eq]
  unfold a5
  unfold_abbrev_sides
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  rfl

/-- The log-sums as the call finds them: each head's row of one number, repeated over the head's lanes. -/
theorem a6_eq : a6 m c = shapeCast S4096x1024 (transpose S4096x8x128 [1, 0, 2]
    (broadcastInDim S8x4096x128 ![0, 1, 2] bcast_S8x4096x1_S8x4096x128_0_1_2
      (Cert.ReferenceIdeal.Read.val_main_v55 (F := Ideal) (a0 m c) (a1 m c) (a2 m c) (a3 m c)))
    transposes_S8x4096x128_S4096x8x128_1_0_2) shapeCasts_S4096x8x128_S4096x1024 := by
  rw [a0_eq, a1_eq, a2_eq, a3_eq]
  unfold a6
  unfold_abbrev_sides
  simp only [hostOps0, hostOps0_1, hostOps0_2, List.flatten_cons, List.flatten_nil, List.append_nil, List.cons_append, List.nil_append,
    TRef.nullary, TRef.ternary, TRef.unary, TRef.toBuf, TRef.ofBuf, cast_eq]
  after_results_simp
  rfl

/-- Head `h`'s part of a row of all the heads' lanes, read from the array with the heads first. -/
theorem tokens_at (x : Heads) (h : Fin 8) (n : Fin 4096) (d : Fin 128) :
    shapeCast S4096x1024 (transpose S4096x8x128 [1, 0, 2] x transposes_S8x4096x128_S4096x8x128_1_0_2) shapeCasts_S4096x8x128_S4096x1024
      (ix2 n (lane h d)) = x (ix3 h n d) := by
  rw [shapeCast_apply _ _ _ (ix3 n h d) (by
    rw [Shape.rowMajor_val_three, Shape.rowMajor_val_two]
    show (n.val * 8 + h.val) * 128 + d.val = n.val * 1024 + (128 * h.val + d.val)
    omega)]
  pointwise

theorem a5_at (h : Fin 8) (n : Fin 4096) (d : Fin 128) : a5 m c (ix2 n (lane h d))
    = ∑ j, Cert.ReferenceIdeal.Latent.P (a0 m c) (a1 m c) (a2 m c) (a3 m c) h n j * a4 m c (ix3 h j d) := by
  rw [a5_eq]
  exact (tokens_at _ h n d).trans (Cert.ReferenceIdeal.Latent.o_at ..)

theorem a6_at (h : Fin 8) (n : Fin 4096) (d : Fin 128) : a6 m c (ix2 n (lane h d))
    = Cert.ReferenceIdeal.Latent.M (a0 m c) (a1 m c) (a2 m c) (a3 m c) h n
      + Ideal.log (Cert.ReferenceIdeal.Latent.L (a0 m c) (a1 m c) (a2 m c) (a3 m c) h n) := by
  rw [a6_eq]
  refine (tokens_at _ h n d).trans (Eq.trans ?_ (Cert.ReferenceIdeal.Latent.lse_at _ _ _ _ h n))
  generalize Cert.ReferenceIdeal.Read.val_main_v55 (F := Ideal) (a0 m c) (a1 m c) (a2 m c) (a3 m c) = y
  pointwise

end Cert.KernelIdeal.Latent

end
-- ==== Proof.LatentScore.lean ====
/- The reference's gradients of the latent attention's scores, queries and keys, element by element. -/
module

public import proofs.«01_k».proof.Proof.LatentGrad

@[expose] public section

set_option maxRecDepth 16384

noncomputable section

namespace Cert.ReferenceIdeal.Latent

open Cert.ReferenceIdeal Cert.ReferenceIdeal.Gen Cert.ReferenceIdeal.Read Cert.Latent
open Idealize.ShloMosaic Idealize.ShloMosaic.TcCoe Idealize.ShloMosaic.Tactic

variable (x0 x1 x2 : Heads) (x3 : Shared) (x4 : Heads) (x5 : Tokens)

theorem inv_at (h : Fin 8) (n j : Fin 4096) : val_main_v64 (F := Ideal) x0 x1 x2 x3 (ix3 h n j)
    = Ideal.div 1 (L x0 x1 x2 x3 h n * L x0 x1 x2 x3 h n) := by
  pointwise [val_main_v64, val_main_v48, val_main_v47, val_main_v46, val_main_v43, val_main_cst_11, l_at]

theorem s67_at (h : Fin 8) (n : Fin 4096) : val_main_v67 (F := Ideal) x0 x1 x2 x3 x4 x5 (ix2 h n)
    = ∑ k, dP x4 x5 h n k * Ideal.div 1 (L x0 x1 x2 x3 h n * L x0 x1 x2 x3 h n) * E x0 x1 x2 x3 h n k := by
  pointwise [val_main_v67, val_main_v66, val_main_v65, val_main_cst_13, inv_at, dp_at, e_at]

theorem s73_at (h : Fin 8) (n j : Fin 4096) : val_main_v73 (F := Ideal) x0 x1 x2 x3 x4 x5 (ix3 h n j)
    = -(∑ k, dP x4 x5 h n k * Ideal.div 1 (L x0 x1 x2 x3 h n * L x0 x1 x2 x3 h n) * E x0 x1 x2 x3 h n k) := by
  pointwise [val_main_v73, val_main_v72, val_main_v69, val_main_v68, val_main_cst_14, s67_at]
  exact Fintype.sum_unique _

theorem dz_at (h : Fin 8) (n j : Fin 4096) : val_main_v76 (F := Ideal) x0 x1 x2 x3 x4 x5 (ix3 h n j) = dZ x0 x1 x2 x3 x4 x5 h n j := by
  have a : val_main_v70 (F := Ideal) x0 x1 x2 x3 (ix3 h n j) = L x0 x1 x2 x3 h n := by
    pointwise [val_main_v70, val_main_v43, l_at]
  have b : val_main_call1_v0 (F := Ideal) (ix3 h n j) = 0 := by pointwise [val_main_call1_v0, val_main_call1_cst]
  rw [val_main_v76_apply, val_main_v75_apply, val_main_v74_apply, val_main_v71_apply, a, b, sees, s73_at, dp_at, e_at, select_sees]
  unfold dZ
  generalize L x0 x1 x2 x3 h n = l
  generalize E x0 x1 x2 x3 h n = e
  rfl

/-- The gradient of the queries. -/
theorem dq_at (h : Fin 8) (n : Fin 4096) (e : Fin 256) : val_main_v78 (F := Ideal) x0 x1 x2 x3 x4 x5 (ix3 h n e)
    = ∑ j, dZ x0 x1 x2 x3 x4 x5 h n j * both2 x2 x3 h j e := by
  pointwise [val_main_v78, dz_at, k_at]

/-- The gradient of the keys. -/
theorem dk_at (h : Fin 8) (j : Fin 4096) (e : Fin 256) : val_main_v77 (F := Ideal) x0 x1 x2 x3 x4 x5 (ix3 h j e)
    = ∑ n, dZ x0 x1 x2 x3 x4 x5 h n j * both3 x0 x1 h n e := by
  pointwise [val_main_v77, dz_at, q_at]

theorem dqn_at (h : Fin 8) (n : Fin 4096) (d : Fin 128) : val_main_v79 (F := Ideal) x0 x1 x2 x3 x4 x5 (ix3 h n d)
    = ∑ j, dZ x0 x1 x2 x3 x4 x5 h n j * x2 (ix3 h j d) := by
  pointwise [val_main_v79, dq_at]
  exact Finset.sum_congr rfl fun j _ => congrArg (dZ x0 x1 x2 x3 x4 x5 h n j * ·) (cat_left _ _ d _)

theorem dqr_at (h : Fin 8) (n : Fin 4096) (d : Fin 128) : val_main_v80 (F := Ideal) x0 x1 x2 x3 x4 x5 (ix3 h n d)
    = ∑ j, dZ x0 x1 x2 x3 x4 x5 h n j * x3 (ix2 j d) := by
  pointwise [val_main_v80, dq_at]
  exact Finset.sum_congr rfl fun j _ => congrArg (dZ x0 x1 x2 x3 x4 x5 h n j * ·) (cat_right _ _ d _)

theorem dkn_at (h : Fin 8) (j : Fin 4096) (d : Fin 128) : val_main_v81 (F := Ideal) x0 x1 x2 x3 x4 x5 (ix3 h j d)
    = ∑ n, dZ x0 x1 x2 x3 x4 x5 h n j * x0 (ix3 h n d) := by
  pointwise [val_main_v81, dk_at]
  exact Finset.sum_congr rfl fun n _ => congrArg (dZ x0 x1 x2 x3 x4 x5 h n j * ·) (cat_left _ _ d _)

theorem dkr_at (h : Fin 8) (j : Fin 4096) (d : Fin 128) : val_main_v82 (F := Ideal) x0 x1 x2 x3 x4 x5 (ix3 h j d)
    = ∑ n, dZ x0 x1 x2 x3 x4 x5 h n j * x1 (ix3 h n d) := by
  pointwise [val_main_v82, dk_at]
  exact Finset.sum_congr rfl fun n _ => congrArg (dZ x0 x1 x2 x3 x4 x5 h n j * ·) (cat_right _ _ d _)

end Cert.ReferenceIdeal.Latent

end
-- ==== Proof.Reals.lean ====
/- The extended reals that are real numbers: sums and products of them, and the test for being one. -/
module

public import Idealize.ShloMosaic.PureOps.Ideal

@[expose] public section

noncomputable section

namespace Cert

open Idealize.ShloMosaic

/-- A sum of real numbers as extended reals. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsReal (x : EReal) : Prop := ∃ r : ℝ, x = (r : EReal)

theorem IsReal.sum_mul {ι : Type} [Fintype ι] {f g : ι → EReal} (hf : ∀ i, IsReal (f i)) (hg : ∀ i, IsReal (g i)) : IsReal (∑ i, f i * g i) := by
  choose a ha using hf
  choose b hb using hg
  refine ⟨∑ i, a i * b i, ?_⟩
  rw [← sum_real]
  exact Finset.sum_congr rfl fun i _ => by rw [ha, hb, EReal.coe_mul]

/-- A value whose absolute value is below infinity is a real number. -/
theorem isReal_of_lt (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h1 : x ≠ ⊤ := by
    rintro rfl
    simp [Ideal.cmp] at h
  have h2 : x ≠ ⊥ := by
    rintro rfl
    simp [Ideal.cmp] at h
  exact ⟨x.toReal, (EReal.coe_toReal h1 h2).symm⟩

/-- The logistic function. -/
def logistic (x : EReal) : EReal := Ideal.div 1 (1 + Ideal.exp (0 - x))

theorem IsReal.logistic {x : EReal} (h : IsReal x) : IsReal (logistic x) := by
  obtain ⟨r, rfl⟩ := h
  refine ⟨(1 + Real.exp (-r))⁻¹, ?_⟩
  have e : (1 : EReal) + Ideal.exp (0 - (r : EReal)) = ((1 + Real.exp (-r) : ℝ) : EReal) := by
    rw [zero_sub, ← EReal.coe_neg, EReal.coe_add, EReal.coe_one]; rfl
  have p : (1 + Real.exp (-r) : ℝ) ≠ 0 := by positivity
  unfold Cert.logistic Ideal.div
  rw [e, if_neg (by exact_mod_cast p), one_mul, EReal.coe_inv]

/-- The gradient of `x` times its logistic, for real numbers: the two ways of writing it. -/
theorem gate_real {a u s g : EReal} (ha : IsReal a) (hu : IsReal u) (hs : IsReal s) (hg : IsReal g) :
    a * u * s * (1 + g * (1 - s)) = a * u * s + g * (a * u) * (s * (1 - s)) := by
  obtain ⟨a, rfl⟩ := ha; obtain ⟨u, rfl⟩ := hu; obtain ⟨s, rfl⟩ := hs; obtain ⟨g, rfl⟩ := hg
  norm_cast
  ring

theorem one_add_exp_ne_zero (x : EReal) : 1 + Ideal.exp x ≠ 0 := by
  induction x with
  | bot => show (1 : EReal) + 0 ≠ 0; simp
  | top =>
    show (1 : EReal) + ⊤ ≠ 0
    rw [← EReal.coe_one, EReal.coe_add_top]
    exact EReal.top_ne_zero
  | coe r =>
    show (1 : EReal) + ((Real.exp r : ℝ) : EReal) ≠ 0
    have p : (1 + Real.exp r : ℝ) ≠ 0 := by positivity
    exact_mod_cast p

/-- `x` over one plus the exponential of `-x` is `x` times its logistic, for every extended real. -/
theorem gated_eq (x : EReal) : Ideal.div x (1 + Ideal.exp (0 - x)) = x * logistic x := by
  unfold logistic Ideal.div
  rw [if_neg (one_add_exp_ne_zero _), if_neg (one_add_exp_ne_zero _), one_mul]

end Cert

end
-- ==== Proof.LatentRow.lean ====
/- One row of the latent attention over the real numbers: the weights from the saved log-sum are the softmax, and the
   score's gradient by way of the result is the softmax's own. -/
module

public import proofs.«01_k».proof.Proof.LatentMath
public import proofs.«01_k».proof.Proof.Reals

@[expose] public section

noncomputable section

namespace Cert.Latent

open Idealize.ShloMosaic

/-- The quotient of two real numbers. -/
theorem div_real (a : ℝ) {b : ℝ} (hb : b ≠ 0) : Ideal.div (a : EReal) (b : EReal) = ((a / b : ℝ) : EReal) := by
  rw [Ideal.div_coe hb, ← EReal.coe_mul]
  congr 1
  ring

variable {N : ℕ} (s : Fin N → ℝ) (n : Fin N)

/-- A row's scores, minus infinity after its own position. -/
def row (j : Fin N) : EReal := if j ≤ n then (s j : EReal) else ⊥

/-- The greatest score of a row is a real number. -/
theorem row_max : ∃ μ : ℝ, (Finset.univ : Finset (Fin N)).fold max ⊥ (row s n) = (μ : EReal) := by
  have h1 : (Finset.univ : Finset (Fin N)).sup (row s n) < ⊤ := by
    rw [Finset.sup_lt_iff bot_lt_top]
    intro j _
    unfold row
    split
    · exact EReal.coe_lt_top _
    · exact bot_lt_top
  have h2 : ⊥ < (Finset.univ : Finset (Fin N)).sup (row s n) := by
    refine lt_of_lt_of_le ?_ (Finset.le_sup (Finset.mem_univ n))
    unfold row
    rw [if_pos le_rfl]
    exact EReal.bot_lt_coe _
  exact ⟨_, (EReal.coe_toReal h1.ne h2.ne').symm⟩

variable (μ : ℝ)

/-- The exponential of a score less `μ`, zero after the row's own position. -/
def expo (j : Fin N) : ℝ := if j ≤ n then Real.exp (s j - μ) else 0

theorem exp_row (j : Fin N) : Ideal.exp (row s n j - (μ : EReal)) = (expo s n μ j : EReal) := by
  unfold row expo
  split
  · rw [← EReal.coe_sub, Ideal.exp_coe]
  · rw [EReal.bot_sub, Ideal.exp_bot, EReal.coe_zero]

theorem expo_sum_pos : 0 < ∑ j, expo s n μ j := by
  refine Finset.sum_pos' (fun j _ => ?_) ⟨n, Finset.mem_univ n, ?_⟩
  · unfold expo
    split
    · exact (Real.exp_pos _).le
    · exact le_rfl
  · unfold expo
    rw [if_pos le_rfl]
    exact Real.exp_pos _

/-- The weight from the saved log-sum is the exponential over the row's sum. -/
theorem weight_row {l : ℝ} (hl : 0 < l) (j : Fin N) :
    (if j ≤ n then Ideal.exp ((s j : EReal) - ((μ : EReal) + Ideal.log (l : EReal))) else 0) = ((expo s n μ j / l : ℝ) : EReal) := by
  unfold expo
  split
  · rw [Ideal.log_coe, if_neg (not_le.mpr hl), ← EReal.coe_add, ← EReal.coe_sub, Ideal.exp_coe, ← sub_sub, Real.exp_sub,
      Real.exp_log hl]
  · rw [zero_div, EReal.coe_zero]

/-- The two forms of the score's gradient: `e` the exponentials, `l` their sum, `d` the weights' gradients. -/
theorem grad_row (e d : Fin N → ℝ) {l : ℝ} (hl : 0 < l) (j : Fin N) :
    ((e j / l : ℝ) : EReal) * ((d j : EReal) - ((∑ k, e k / l * d k : ℝ) : EReal))
      = (Ideal.div (d j : EReal) (l : EReal) + -(∑ k, (d k : EReal) * Ideal.div 1 ((l : EReal) * (l : EReal)) * (e k : EReal)))
        * (e j : EReal) := by
  have h1 : ∀ k, (d k : EReal) * Ideal.div 1 ((l : EReal) * (l : EReal)) * (e k : EReal) = ((d k * (1 / (l * l)) * e k : ℝ) : EReal) := by
    intro k
    rw [← EReal.coe_mul, ← EReal.coe_one, div_real 1 (mul_pos hl hl).ne', ← EReal.coe_mul, ← EReal.coe_mul]
  rw [Finset.sum_congr rfl fun k _ => h1 k, sum_real, div_real _ hl.ne', ← EReal.coe_neg, ← EReal.coe_add, ← EReal.coe_mul,
    ← EReal.coe_sub, ← EReal.coe_mul]
  congr 1
  have h2 : ∑ k, e k / l * d k = l * ∑ k, d k * (1 / (l * l)) * e k := by
    rw [Finset.mul_sum]
    refine Finset.sum_congr rfl fun k _ => ?_
    field_simp
  rw [h2]
  field_simp
  ring

end Cert.Latent

end
-- ==== Proof.LatentEq.lean ====
/- At arguments that are real numbers, the kernel's weights and score gradients are the reference's. -/
module

public import proofs.«01_k».proof.Proof.LatentRow
public import proofs.«01_k».proof.Proof.LatentRef

@[expose] public section

noncomputable section

namespace Cert.Latent

open Idealize.ShloMosaic Cert.ReferenceIdeal.Latent

variable {x0 x1 x2 : Heads} {x3 : Shared} {x4 : Heads} {x5 : Tokens}

theorem real_both3 (h0 : ∀ i, IsReal (x0 i)) (h1 : ∀ i, IsReal (x1 i)) (h : Fin 8) (n : Fin 4096) (e : Fin 256) : IsReal (both3 x0 x1 h n e) := by
  unfold both3 cat
  split
  · exact h0 _
  · exact h1 _

theorem real_both2 (h2 : ∀ i, IsReal (x2 i)) (h3 : ∀ i, IsReal (x3 i)) (h : Fin 8) (n : Fin 4096) (e : Fin 256) : IsReal (both2 x2 x3 h n e) := by
  unfold both2 cat
  split
  · exact h2 _
  · exact h3 _

/-- What one row of the reference is, over the real numbers: its scores, its greatest score, its exponentials and their sum. -/
theorem row_real (h0 : ∀ i, IsReal (x0 i)) (h1 : ∀ i, IsReal (x1 i)) (h2 : ∀ i, IsReal (x2 i)) (h3 : ∀ i, IsReal (x3 i))
    (h : Fin 8) (n : Fin 4096) : ∃ (s : Fin 4096 → ℝ) (μ : ℝ),
      (∀ j, ∑ e, both3 x0 x1 h n e * both2 x2 x3 h j e = (s j : EReal)) ∧ M x0 x1 x2 x3 h n = (μ : EReal)
      ∧ (∀ j, E x0 x1 x2 x3 h n j = (expo s n μ j : EReal)) ∧ L x0 x1 x2 x3 h n = ((∑ j, expo s n μ j : ℝ) : EReal) := by
  choose s hs using fun j : Fin 4096 => IsReal.sum_mul (real_both3 h0 h1 h n) (real_both2 h2 h3 h j)
  have hz : Z x0 x1 x2 x3 h n = row s n := funext fun j => by
    unfold Z row
    rw [hs]
  obtain ⟨μ, hμ⟩ := row_max s n
  have hm : M x0 x1 x2 x3 h n = (μ : EReal) := by
    unfold Cert.ReferenceIdeal.Latent.M
    rw [hz]
    exact hμ
  have he : ∀ j, E x0 x1 x2 x3 h n j = (expo s n μ j : EReal) := fun j => by
    unfold E
    rw [hm, hz]
    exact exp_row s n μ j
  refine ⟨s, μ, hs, hm, he, ?_⟩
  unfold L
  rw [Finset.sum_congr rfl fun j _ => he j, sum_real]

/-- The weight from the saved log-sum, as a real number. -/
theorem weight_real {s : Fin 4096 → ℝ} {μ l : ℝ} (hl : 0 < l) {h : Fin 8} {n : Fin 4096} {lse : Tokens}
    (hs : ∀ j, ∑ e, both3 x0 x1 h n e * both2 x2 x3 h j e = (s j : EReal))
    (hlse : lse (ix2 n (lane h 0)) = (μ : EReal) + Ideal.log (l : EReal)) (j : Fin 4096) :
    W x0 x1 x2 x3 lse h n j = ((expo s n μ j / l : ℝ) : EReal) := by
  unfold W weight
  rw [hlse, hs, ← weight_row s n μ hl j]
  exact if_congr Fin.le_def.symm rfl rfl

/-- The kernel's weights are the softmax. -/
theorem W_eq (h0 : ∀ i, IsReal (x0 i)) (h1 : ∀ i, IsReal (x1 i)) (h2 : ∀ i, IsReal (x2 i)) (h3 : ∀ i, IsReal (x3 i)) {lse : Tokens}
    (h : Fin 8) (n j : Fin 4096)
    (hlse : lse (ix2 n (lane h 0)) = M x0 x1 x2 x3 h n + Ideal.log (L x0 x1 x2 x3 h n)) :
    W x0 x1 x2 x3 lse h n j = P x0 x1 x2 x3 h n j := by
  obtain ⟨s, μ, hs, hm, he, hL⟩ := row_real h0 h1 h2 h3 h n
  have hl := expo_sum_pos s n μ
  rw [hm, hL] at hlse
  rw [weight_real hl hs hlse]
  unfold P
  rw [he, hL, div_real _ hl.ne']

/-- The kernel's score gradients are the reference's. -/
theorem S_eq (h0 : ∀ i, IsReal (x0 i)) (h1 : ∀ i, IsReal (x1 i)) (h2 : ∀ i, IsReal (x2 i)) (h3 : ∀ i, IsReal (x3 i))
    (h4 : ∀ i, IsReal (x4 i)) (h5 : ∀ i, IsReal (x5 i)) {o lse : Tokens} (h : Fin 8) (n j : Fin 4096)
    (hlse : lse (ix2 n (lane h 0)) = M x0 x1 x2 x3 h n + Ideal.log (L x0 x1 x2 x3 h n))
    (ho : ∀ d, o (ix2 n (lane h d)) = ∑ k, P x0 x1 x2 x3 h n k * x4 (ix3 h k d)) :
    S x0 x1 x2 x3 x4 o lse x5 h n j = dZ x0 x1 x2 x3 x4 x5 h n j := by
  have hW := W_eq h0 h1 h2 h3 h n j hlse
  obtain ⟨s, μ, hs, hm, he, hL⟩ := row_real h0 h1 h2 h3 h n
  have hl := expo_sum_pos s n μ
  choose g hg using h5
  choose v hv using h4
  have hP : ∀ k, P x0 x1 x2 x3 h n k = ((expo s n μ k / (∑ j, expo s n μ j) : ℝ) : EReal) := fun k => by
    unfold P
    rw [he, hL, div_real _ hl.ne']
  have hd : ∀ k, dP x4 x5 h n k = ((∑ d, g (ix2 n (lane h d)) * v (ix3 h k d) : ℝ) : EReal) := fun k => by
    unfold dP
    rw [← sum_real]
    exact Finset.sum_congr rfl fun d _ => by rw [hg, hv, EReal.coe_mul]
  have hdelta : ∑ d, x5 (ix2 n (lane h d)) * o (ix2 n (lane h d))
      = ((∑ k, expo s n μ k / (∑ j, expo s n μ j) * (∑ d, g (ix2 n (lane h d)) * v (ix3 h k d)) : ℝ) : EReal) := by
    have h1 : ∀ d, x5 (ix2 n (lane h d)) * o (ix2 n (lane h d))
        = ((g (ix2 n (lane h d)) * ∑ k, expo s n μ k / (∑ j, expo s n μ j) * v (ix3 h k d) : ℝ) : EReal) := fun d => by
      rw [ho, EReal.coe_mul, ← sum_real, hg]
      exact congrArg (_ * ·) (Finset.sum_congr rfl fun k _ => by rw [hP, hv, EReal.coe_mul])
    rw [Finset.sum_congr rfl fun d _ => h1 d, sum_real]
    refine congrArg _ ?_
    simp only [Finset.mul_sum]
    rw [Finset.sum_comm]
    exact Finset.sum_congr rfl fun k _ => Finset.sum_congr rfl fun d _ => by ring
  have hS : S x0 x1 x2 x3 x4 o lse x5 h n j
      = W x0 x1 x2 x3 lse h n j * (dP x4 x5 h n j - ∑ d, x5 (ix2 n (lane h d)) * o (ix2 n (lane h d))) := rfl
  rw [hS, hW, hP, hdelta, hd]
  unfold dZ
  by_cases hj : j ≤ n
  · rw [if_pos hj]
    simp only [hL, hd, he]
    exact grad_row (expo s n μ) (fun k => ∑ d, g (ix2 n (lane h d)) * v (ix3 h k d)) hl j
  · have h0 : expo s n μ j = 0 := if_neg hj
    rw [if_neg hj, h0, zero_div, EReal.coe_zero, zero_mul]

end Cert.Latent

end
-- ==== Proof.LatentClaim.lean ====
/- The latent attention's backward call and the reference end with the same five gradients, from arguments that are real
   numbers. -/
module

public import proofs.«01_k».proof.Defs
public import proofs.«01_k».proof.Proof.LatentHost
public import proofs.«01_k».proof.Proof.LatentScore
public import proofs.«01_k».proof.Proof.LatentEq

@[expose] public section

noncomputable section

namespace Cert.Latent

open Idealize.ShloMosaic Idealize.ShloMosaic.TcCoe Idealize.SL.Sem

/-- The shape relations the precondition states. -/
instance finiteFacts : Cert.Pre_finite.Facts where
  bitsLt_bf16_f32 := by decide
  bcast_S_S8x4096x128 := by decide
  bcast_S_S4096x128 := by decide
  bcast_S_S4096x1024 := by decide

variable {m : (ℓ : Loc Cert.KernelIdeal.nD Cert.KernelIdeal.τ Cert.KernelIdeal.sig) → Buf (Elt Ideal) ℓ}

section
open Cert.KernelIdeal Cert.KernelIdeal.Latent

theorem real0 (h : Cert.Pre_KernelIdeal_finite m) (c : Dev nD) : ∀ i, IsReal (a0 m c i) := by
  rw [a0_eq]; exact fun i => isReal_of_lt _ (congrFun (h c).1 i)
theorem real1 (h : Cert.Pre_KernelIdeal_finite m) (c : Dev nD) : ∀ i, IsReal (a1 m c i) := by
  rw [a1_eq]; exact fun i => isReal_of_lt _ (congrFun (h c).2.1 i)
theorem real2 (h : Cert.Pre_KernelIdeal_finite m) (c : Dev nD) : ∀ i, IsReal (a2 m c i) := by
  rw [a2_eq]; exact fun i => isReal_of_lt _ (congrFun (h c).2.2.1 i)
theorem real3 (h : Cert.Pre_KernelIdeal_finite m) (c : Dev nD) : ∀ i, IsReal (a3 m c i) := by
  rw [a3_eq]; exact fun i => isReal_of_lt _ (congrFun (h c).2.2.2.1 i)
theorem real4 (h : Cert.Pre_KernelIdeal_finite m) (c : Dev nD) : ∀ i, IsReal (a4 m c i) := by
  rw [a4_eq]; exact fun i => isReal_of_lt _ (congrFun (h c).2.2.2.2.1 i)
theorem real7 (h : Cert.Pre_KernelIdeal_finite m) (c : Dev nD) : ∀ i, IsReal (a7 m c i) := by
  rw [a7_eq]; exact fun i => isReal_of_lt _ (congrFun (h c).2.2.2.2.2 i)

/-- The kernel's weights, at what the call finds, are the reference's softmax. -/
theorem W_run (h : Cert.Pre_KernelIdeal_finite m) (c : Dev nD) (k : Fin 8) (n j : Fin 4096) :
    W (a0 m c) (a1 m c) (a2 m c) (a3 m c) (a6 m c) k n j
      = Cert.ReferenceIdeal.Latent.P (a0 m c) (a1 m c) (a2 m c) (a3 m c) k n j :=
  W_eq (real0 h c) (real1 h c) (real2 h c) (real3 h c) k n j (a6_at m c k n 0)

/-- The kernel's score gradients, at what the call finds, are the reference's. -/
theorem S_run (h : Cert.Pre_KernelIdeal_finite m) (c : Dev nD) (k : Fin 8) (n j : Fin 4096) :
    S (a0 m c) (a1 m c) (a2 m c) (a3 m c) (a4 m c) (a5 m c) (a6 m c) (a7 m c) k n j
      = Cert.ReferenceIdeal.Latent.dZ (a0 m c) (a1 m c) (a2 m c) (a3 m c) (a4 m c) (a7 m c) k n j :=
  S_eq (real0 h c) (real1 h c) (real2 h c) (real3 h c) (real4 h c) (real7 h c) k n j (a6_at m c k n 0) (a5_at m c k n)

open Cert.ReferenceIdeal.Read Cert.ReferenceIdeal.Latent

theorem dqn_eq (h : Cert.Pre_KernelIdeal_finite m) (c : Dev nD) :
    dqn (a0 m c) (a1 m c) (a2 m c) (a3 m c) (a4 m c) (a5 m c) (a6 m c) (a7 m c)
      = val_main_v79 (F := Ideal) (a0 m c) (a1 m c) (a2 m c) (a3 m c) (a4 m c) (a7 m c) :=
  funext fun x => by
    obtain ⟨k, n, d, rfl⟩ : ∃ k n d, x = ix3 k n d := ⟨_, _, _, eq_ix3 x⟩
    refine Eq.trans ?_ (dqn_at _ _ _ _ _ _ k n d).symm
    exact Finset.sum_congr rfl fun j _ => congrArg (· * _) (S_run h c k n j)

theorem dqr_eq (h : Cert.Pre_KernelIdeal_finite m) (c : Dev nD) :
    dqr (a0 m c) (a1 m c) (a2 m c) (a3 m c) (a4 m c) (a5 m c) (a6 m c) (a7 m c)
      = val_main_v80 (F := Ideal) (a0 m c) (a1 m c) (a2 m c) (a3 m c) (a4 m c) (a7 m c) :=
  funext fun x => by
    obtain ⟨k, n, d, rfl⟩ : ∃ k n d, x = ix3 k n d := ⟨_, _, _, eq_ix3 x⟩
    refine Eq.trans ?_ (dqr_at _ _ _ _ _ _ k n d).symm
    exact Finset.sum_congr rfl fun j _ => congrArg (· * _) (S_run h c k n j)

theorem dkn_eq (h : Cert.Pre_KernelIdeal_finite m) (c : Dev nD) :
    dkn (a0 m c) (a1 m c) (a2 m c) (a3 m c) (a4 m c) (a5 m c) (a6 m c) (a7 m c)
      = val_main_v81 (F := Ideal) (a0 m c) (a1 m c) (a2 m c) (a3 m c) (a4 m c) (a7 m c) :=
  funext fun x => by
    obtain ⟨k, j, d, rfl⟩ : ∃ k j d, x = ix3 k j d := ⟨_, _, _, eq_ix3 x⟩
    refine Eq.trans ?_ (dkn_at _ _ _ _ _ _ k j d).symm
    exact Finset.sum_congr rfl fun n _ => congrArg (· * _) (S_run h c k n j)

theorem dkr_eq (h : Cert.Pre_KernelIdeal_finite m) (c : Dev nD) :
    dkr (a0 m c) (a1 m c) (a2 m c) (a3 m c) (a4 m c) (a5 m c) (a6 m c) (a7 m c)
      = val_main_v82 (F := Ideal) (a0 m c) (a1 m c) (a2 m c) (a3 m c) (a4 m c) (a7 m c) :=
  funext fun x => by
    obtain ⟨k, j, d, rfl⟩ : ∃ k j d, x = ix3 k j d := ⟨_, _, _, eq_ix3 x⟩
    refine Eq.trans ?_ (dkr_at _ _ _ _ _ _ k j d).symm
    exact Finset.sum_congr rfl fun n _ => congrArg (· * _) (S_run h c k n j)

theorem dv_eq (h : Cert.Pre_KernelIdeal_finite m) (c : Dev nD) :
    dv (a0 m c) (a1 m c) (a2 m c) (a3 m c) (a6 m c) (a7 m c)
      = val_main_v62 (F := Ideal) (a0 m c) (a1 m c) (a2 m c) (a3 m c) (a7 m c) :=
  funext fun x => by
    obtain ⟨k, j, d, rfl⟩ : ∃ k j d, x = ix3 k j d := ⟨_, _, _, eq_ix3 x⟩
    refine Eq.trans ?_ (dv_at _ _ _ _ _ k j d).symm
    exact Finset.sum_congr rfl fun n _ => (congrArg (· * _) (W_run h c k n j)).trans (mul_comm _ _)

end

/-- The reference's run leaves its arguments as they were and every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
        ∧ r.2.sem = fun _ => 0) :=
  (θ_run _ _ _).mono (fun r h => ⟨fun c => (h c).2.2.2.2.2, sem_eq_zero_of_no_sems (by decide) r.2⟩)
    (Cert.ReferenceIdeal.Value.run (F := Ideal) m g)

variable (m' : (ℓ : Loc Cert.ReferenceIdeal.nD Cert.ReferenceIdeal.τ Cert.ReferenceIdeal.sig) → Buf (Elt Ideal) ℓ)

set_option maxHeartbeats 1000000 in
/-- The reference's `dqn` is what the kernel's array `8` ends with. -/
theorem out_dqn (h : Cert.Pre_KernelIdeal_finite m) (c : Dev Cert.KernelIdeal.nD)
    (e0 : m' ((c.tc : Thread Cert.ReferenceIdeal.nD Cert.ReferenceIdeal.τ).loc Cert.ReferenceIdeal.main_arg0) = Cert.KernelIdeal.Latent.a0 m c)
    (e1 : m' ((c.tc : Thread Cert.ReferenceIdeal.nD Cert.ReferenceIdeal.τ).loc Cert.ReferenceIdeal.main_arg1) = Cert.KernelIdeal.Latent.a1 m c)
    (e2 : m' ((c.tc : Thread Cert.ReferenceIdeal.nD Cert.ReferenceIdeal.τ).loc Cert.ReferenceIdeal.main_arg2) = Cert.KernelIdeal.Latent.a2 m c)
    (e3 : m' ((c.tc : Thread Cert.ReferenceIdeal.nD Cert.ReferenceIdeal.τ).loc Cert.ReferenceIdeal.main_arg3) = Cert.KernelIdeal.Latent.a3 m c)
    (e4 : m' ((c.tc : Thread Cert.ReferenceIdeal.nD Cert.ReferenceIdeal.τ).loc Cert.ReferenceIdeal.main_arg4) = Cert.KernelIdeal.Latent.a4 m c)
    (e5 : m' ((c.tc : Thread Cert.ReferenceIdeal.nD Cert.ReferenceIdeal.τ).loc Cert.ReferenceIdeal.main_arg5) = Cert.KernelIdeal.Latent.a7 m c) :
    Cert.ReferenceIdeal.Value.res_main_v79 m' c = (Cert.KernelIdeal.Gen.dats m 0 c).arrAt 8 Cert.KernelIdeal.cfg0.N := by
  rw [Cert.ReferenceIdeal.Read.val_main_v79_eq, e0, e1, e2, e3, e4, e5]
  exact ((Cert.KernelIdeal.Latent.final8 m c).trans (dqn_eq h c)).symm

set_option maxHeartbeats 1000000 in
/-- The reference's `dqr` is what the kernel's array `9` ends with. -/
theorem out_dqr (h : Cert.Pre_KernelIdeal_finite m) (c : Dev Cert.KernelIdeal.nD)
    (e0 : m' ((c.tc : Thread Cert.ReferenceIdeal.nD Cert.ReferenceIdeal.τ).loc Cert.ReferenceIdeal.main_arg0) = Cert.KernelIdeal.Latent.a0 m c)
    (e1 : m' ((c.tc : Thread Cert.ReferenceIdeal.nD Cert.ReferenceIdeal.τ).loc Cert.ReferenceIdeal.main_arg1) = Cert.KernelIdeal.Latent.a1 m c)
    (e2 : m' ((c.tc : Thread Cert.ReferenceIdeal.nD Cert.ReferenceIdeal.τ).loc Cert.ReferenceIdeal.main_arg2) = Cert.KernelIdeal.Latent.a2 m c)
    (e3 : m' ((c.tc : Thread Cert.ReferenceIdeal.nD Cert.ReferenceIdeal.τ).loc Cert.ReferenceIdeal.main_arg3) = Cert.KernelIdeal.Latent.a3 m c)
    (e4 : m' ((c.tc : Thread Cert.ReferenceIdeal.nD Cert.ReferenceIdeal.τ).loc Cert.ReferenceIdeal.main_arg4) = Cert.KernelIdeal.Latent.a4 m c)
    (e5 : m' ((c.tc : Thread Cert.ReferenceIdeal.nD Cert.ReferenceIdeal.τ).loc Cert.ReferenceIdeal.main_arg5) = Cert.KernelIdeal.Latent.a7 m c) :
    Cert.ReferenceIdeal.Value.res_main_v80 m' c = (Cert.KernelIdeal.Gen.dats m 0 c).arrAt 9 Cert.KernelIdeal.cfg0.N := by
  rw [Cert.ReferenceIdeal.Read.val_main_v80_eq, e0, e1, e2, e3, e4, e5]
  exact ((Cert.KernelIdeal.Latent.final9 m c).trans (dqr_eq h c)).symm

set_option maxHeartbeats 1000000 in
/-- The reference's `dkn` is what the kernel's array `10` ends with. -/
theorem out_dkn (h : Cert.Pre_KernelIdeal_finite m) (c : Dev Cert.KernelIdeal.nD)
    (e0 : m' ((c.tc : Thread Cert.ReferenceIdeal.nD Cert.ReferenceIdeal.τ).loc Cert.ReferenceIdeal.main_arg0) = Cert.KernelIdeal.Latent.a0 m c)
    (e1 : m' ((c.tc : Thread Cert.ReferenceIdeal.nD Cert.ReferenceIdeal.τ).loc Cert.ReferenceIdeal.main_arg1) = Cert.KernelIdeal.Latent.a1 m c)
    (e2 : m' ((c.tc : Thread Cert.ReferenceIdeal.nD Cert.ReferenceIdeal.τ).loc Cert.ReferenceIdeal.main_arg2) = Cert.KernelIdeal.Latent.a2 m c)
    (e3 : m' ((c.tc : Thread Cert.ReferenceIdeal.nD Cert.ReferenceIdeal.τ).loc Cert.ReferenceIdeal.main_arg3) = Cert.KernelIdeal.Latent.a3 m c)
    (e4 : m' ((c.tc : Thread Cert.ReferenceIdeal.nD Cert.ReferenceIdeal.τ).loc Cert.ReferenceIdeal.main_arg4) = Cert.KernelIdeal.Latent.a4 m c)
    (e5 : m' ((c.tc : Thread Cert.ReferenceIdeal.nD Cert.ReferenceIdeal.τ).loc Cert.ReferenceIdeal.main_arg5) = Cert.KernelIdeal.Latent.a7 m c) :
    Cert.ReferenceIdeal.Value.res_main_v81 m' c = (Cert.KernelIdeal.Gen.dats m 0 c).arrAt 10 Cert.KernelIdeal.cfg0.N := by
  rw [Cert.ReferenceIdeal.Read.val_main_v81_eq, e0, e1, e2, e3, e4, e5]
  exact ((Cert.KernelIdeal.Latent.final10 m c).trans (dkn_eq h c)).symm

set_option maxHeartbeats 1000000 in
/-- The reference's `dkr` is what the kernel's array `11` ends with. -/
theorem out_dkr (h : Cert.Pre_KernelIdeal_finite m) (c : Dev Cert.KernelIdeal.nD)
    (e0 : m' ((c.tc : Thread Cert.ReferenceIdeal.nD Cert.ReferenceIdeal.τ).loc Cert.ReferenceIdeal.main_arg0) = Cert.KernelIdeal.Latent.a0 m c)
    (e1 : m' ((c.tc : Thread Cert.ReferenceIdeal.nD Cert.ReferenceIdeal.τ).loc Cert.ReferenceIdeal.main_arg1) = Cert.KernelIdeal.Latent.a1 m c)
    (e2 : m' ((c.tc : Thread Cert.ReferenceIdeal.nD Cert.ReferenceIdeal.τ).loc Cert.ReferenceIdeal.main_arg2) = Cert.KernelIdeal.Latent.a2 m c)
    (e3 : m' ((c.tc : Thread Cert.ReferenceIdeal.nD Cert.ReferenceIdeal.τ).loc Cert.ReferenceIdeal.main_arg3) = Cert.KernelIdeal.Latent.a3 m c)
    (e4 : m' ((c.tc : Thread Cert.ReferenceIdeal.nD Cert.ReferenceIdeal.τ).loc Cert.ReferenceIdeal.main_arg4) = Cert.KernelIdeal.Latent.a4 m c)
    (e5 : m' ((c.tc : Thread Cert.ReferenceIdeal.nD Cert.ReferenceIdeal.τ).loc Cert.ReferenceIdeal.main_arg5) = Cert.KernelIdeal.Latent.a7 m c) :
    Cert.ReferenceIdeal.Value.res_main_v82 m' c = (Cert.KernelIdeal.Gen.dats m 0 c).arrAt 11 Cert.KernelIdeal.cfg0.N := by
  rw [Cert.ReferenceIdeal.Read.val_main_v82_eq, e0, e1, e2, e3, e4, e5]
  exact ((Cert.KernelIdeal.Latent.final11 m c).trans (dkr_eq h c)).symm

set_option maxHeartbeats 1000000 in
/-- The reference's `dv` is what the kernel's array `12` ends with. -/
theorem out_dv (h : Cert.Pre_KernelIdeal_finite m) (c : Dev Cert.KernelIdeal.nD)
    (e0 : m' ((c.tc : Thread Cert.ReferenceIdeal.nD Cert.ReferenceIdeal.τ).loc Cert.ReferenceIdeal.main_arg0) = Cert.KernelIdeal.Latent.a0 m c)
    (e1 : m' ((c.tc : Thread Cert.ReferenceIdeal.nD Cert.ReferenceIdeal.τ).loc Cert.ReferenceIdeal.main_arg1) = Cert.KernelIdeal.Latent.a1 m c)
    (e2 : m' ((c.tc : Thread Cert.ReferenceIdeal.nD Cert.ReferenceIdeal.τ).loc Cert.ReferenceIdeal.main_arg2) = Cert.KernelIdeal.Latent.a2 m c)
    (e3 : m' ((c.tc : Thread Cert.ReferenceIdeal.nD Cert.ReferenceIdeal.τ).loc Cert.ReferenceIdeal.main_arg3) = Cert.KernelIdeal.Latent.a3 m c)
    (e5 : m' ((c.tc : Thread Cert.ReferenceIdeal.nD Cert.ReferenceIdeal.τ).loc Cert.ReferenceIdeal.main_arg5) = Cert.KernelIdeal.Latent.a7 m c) :
    Cert.ReferenceIdeal.Value.res_main_v62 m' c = (Cert.KernelIdeal.Gen.dats m 0 c).arrAt 12 Cert.KernelIdeal.cfg0.N := by
  rw [Cert.ReferenceIdeal.Read.val_main_v62_eq, e0, e1, e2, e3, e5]
  exact ((Cert.KernelIdeal.Latent.final12 m c).trans (dv_eq h c)).symm

set_option maxHeartbeats 1000000 in
/-- The value claim: from equal arguments that are real numbers the two programs end with equal gradients. -/
theorem same_gradients : Cert.algebraic_KernelIdeal_ReferenceIdeal_pre_finite := by
  intro m g m' g' hpre hag
  refine ⟨_, _, _, _, _, Cert.KernelIdeal.Value.run_blocks m g, (θ_run _ _ _).mono (fun r h c => ?_) (Cert.ReferenceIdeal.Value.run (F := Ideal) m' g')⟩
  obtain ⟨r0, r1, r2, r3, r4, k0, k1, k2, k3, k4, k5⟩ := h c
  obtain ⟨e0, e1, e2, e3, e4, e5⟩ := hag c
  have e0 := e0.trans (Cert.KernelIdeal.Latent.a0_eq m c).symm
  have e1 := e1.trans (Cert.KernelIdeal.Latent.a1_eq m c).symm
  have e2 := e2.trans (Cert.KernelIdeal.Latent.a2_eq m c).symm
  have e3 := e3.trans (Cert.KernelIdeal.Latent.a3_eq m c).symm
  have e4 := e4.trans (Cert.KernelIdeal.Latent.a4_eq m c).symm
  have e5 := e5.trans (Cert.KernelIdeal.Latent.a7_eq m c).symm
  exact ⟨r0.trans (out_dqn m' hpre c e0 e1 e2 e3 e4 e5), r1.trans (out_dqr m' hpre c e0 e1 e2 e3 e4 e5),
    r2.trans (out_dkn m' hpre c e0 e1 e2 e3 e4 e5), r3.trans (out_dkr m' hpre c e0 e1 e2 e3 e4 e5),
    r4.trans (out_dv m' hpre c e0 e1 e2 e3 e5), k0, k1, k2, k3, k4, k5⟩

end Cert.Latent

end
-- ==== Proof.Parts.lean ====
/- A sum over an axis as the sums over its parts of equal length, and the array with the parts one after the other read
   at an index. -/
module

public import Idealize.ShloMosaic.PureOps.Ideal
public import Idealize.ShloMosaic.Lib.Pointwise
public import Idealize.ShloMosaic.Lib.Pipeline.Value

@[expose] public section

noncomputable section

namespace Cert.Parts

open Idealize.ShloMosaic Idealize.ShloMosaic.Tactic

/-- Position `q` of part `s`, where the parts have length `b`. -/
def at_ {a b : ℕ} (s : Fin a) (q : Fin b) : Fin (a * b) :=
  ⟨b * s.val + q.val, by
    have h1 := s.isLt; have h2 := q.isLt
    calc b * s.val + q.val < b * s.val + b := by omega
      _ = b * (s.val + 1) := by ring
      _ ≤ b * a := Nat.mul_le_mul_left b h1
      _ = a * b := Nat.mul_comm b a⟩

/-- The sum over the axis is the sum of the parts' sums. -/
theorem sum_parts {a b : ℕ} (f : Fin (a * b) → EReal) : ∑ k, f k = ∑ s : Fin a, ∑ q : Fin b, f (at_ s q) := by
  rw [← Equiv.sum_comp finProdFinEquiv, Fintype.sum_prod_type]
  refine Finset.sum_congr rfl fun s _ => Finset.sum_congr rfl fun q _ => congrArg f (Fin.ext ?_)
  show q.val + b * s.val = b * s.val + q.val
  omega

/-- Hidden unit `k` of part `j`, among all the hidden units. -/
def unit (j : Fin 4) (k : Fin 704) : Fin 2816 := ⟨704 * j.val + k.val, by omega⟩

/-- Row `n` of part `j`, among the rows of all the parts one after the other. -/
def rowOf (j : Fin 4) (n : Fin 4096) : Fin 16384 := ⟨4096 * j.val + n.val, by omega⟩

/-- Column `k` of shard `s` of both first weights side by side. -/
def col (s : Fin 8) (k : Fin 704) : Fin 5632 := ⟨704 * s.val + k.val, by omega⟩

/-- The gate's shard that part `j` of the hidden units takes. -/
def lo (j : Fin 4) : Fin 8 := ⟨j.val, by omega⟩

/-- The other weight's shard that part `j` of the hidden units takes. -/
def hi (j : Fin 4) : Fin 8 := ⟨4 + j.val, by omega⟩

/-- Hidden unit `q`'s column in the gate's half. -/
def left (q : Fin 2816) : Fin 5632 := ⟨q.val, by omega⟩

/-- Hidden unit `q`'s column in the other half. -/
def right (q : Fin 2816) : Fin 5632 := ⟨2816 + q.val, by omega⟩

theorem col_lo (j : Fin 4) (k : Fin 704) : col (lo j) k = left (unit j k) := rfl

theorem col_hi (j : Fin 4) (k : Fin 704) : col (hi j) k = right (unit j k) := Fin.ext (by
  show 704 * (4 + j.val) + k.val = 2816 + (704 * j.val + k.val)
  omega)

/-- The sum over the hidden units, part by part. -/
theorem sum_units (f : Fin 2816 → EReal) : ∑ q, f q = ∑ j, ∑ k, f (unit j k) := sum_parts (a := 4) (b := 704) f

/-- The sum over both halves. -/
theorem sum_halves (f : Fin 5632 → EReal) : ∑ q, f q = (∑ q, f (left q)) + ∑ q, f (right q) := by
  refine (sum_parts (a := 2) (b := 2816) f).trans ((Fin.sum_univ_two _).trans ?_)
  exact congrArg₂ (· + ·) (Finset.sum_congr rfl fun q _ => congrArg f (Fin.ext (by show 2816 * 0 + q.val = q.val; omega)))
    (Finset.sum_congr rfl fun q _ => congrArg f (Fin.ext (by show 2816 * 1 + q.val = 2816 + q.val; omega)))

section Layout

variable {α : Type} (x : (⟨2, ![4096, 2816]⟩ : Shape).Idx → α)

/-- The parts of the hidden units of all tokens. -/
theorem parts_at {h1 h2} (j : Fin 4) (n : Fin 4096) (k : Fin 704) :
    transpose (⟨3, ![4, 4096, 704]⟩ : Shape) [1, 0, 2] (shapeCast (⟨3, ![4096, 4, 704]⟩ : Shape) x h1) h2 (ix3 j n k) = x (ix2 n (unit j k)) := by
  refine Eq.trans (b := shapeCast (⟨3, ![4096, 4, 704]⟩ : Shape) x h1 (ix3 n j k)) (by pointwise) ?_
  exact shapeCast_apply _ _ _ (ix2 n (unit j k)) (by
    rw [Shape.rowMajor_val_three, Shape.rowMajor_val_two]
    show n.val * 2816 + (704 * j.val + k.val) = (n.val * 4 + j.val) * 704 + k.val
    omega)

/-- The parts one after the other, as rows. -/
theorem blocks_at {h1 h2 h3} (j : Fin 4) (n : Fin 4096) (k : Fin 704) :
    shapeCast (⟨2, ![16384, 704]⟩ : Shape) (transpose (⟨3, ![4, 4096, 704]⟩ : Shape) [1, 0, 2] (shapeCast (⟨3, ![4096, 4, 704]⟩ : Shape) x h1) h2) h3
      (ix2 (rowOf j n) k) = x (ix2 n (unit j k)) := by
  rw [shapeCast_apply _ _ _ (ix3 j n k) (by
    rw [Shape.rowMajor_val_three, Shape.rowMajor_val_two]
    show (j.val * 4096 + n.val) * 704 + k.val = (4096 * j.val + n.val) * 704 + k.val
    omega)]
  exact parts_at x j n k

/-- The rows cut in parts again. -/
theorem cut_at {h4} (y : (⟨2, ![16384, 704]⟩ : Shape).Idx → α) (j : Fin 4) (n : Fin 4096) (k : Fin 704) :
    shapeCast (⟨3, ![4, 4096, 704]⟩ : Shape) y h4 (ix3 j n k) = y (ix2 (rowOf j n) k) :=
  shapeCast_apply _ _ _ (ix2 (rowOf j n) k) (by
    rw [Shape.rowMajor_val_three, Shape.rowMajor_val_two]
    show (4096 * j.val + n.val) * 704 + k.val = (j.val * 4096 + n.val) * 704 + k.val
    omega)

/-- The shards of both first weights. -/
theorem shards_at {h1 h2} (w : (⟨2, ![1024, 5632]⟩ : Shape).Idx → α) (s : Fin 8) (d : Fin 1024) (k : Fin 704) :
    transpose (⟨3, ![8, 1024, 704]⟩ : Shape) [1, 0, 2] (shapeCast (⟨3, ![1024, 8, 704]⟩ : Shape) w h1) h2 (ix3 s d k) = w (ix2 d (col s k)) := by
  refine Eq.trans (b := shapeCast (⟨3, ![1024, 8, 704]⟩ : Shape) w h1 (ix3 d s k)) (by pointwise) ?_
  exact shapeCast_apply _ _ _ (ix2 d (col s k)) (by
    rw [Shape.rowMajor_val_three, Shape.rowMajor_val_two]
    show d.val * 5632 + (704 * s.val + k.val) = (d.val * 8 + s.val) * 704 + k.val
    omega)

/-- Every row of all the parts is a row of one of them. -/
theorem exists_rowOf (p : Fin 16384) : ∃ j n, p = rowOf j n :=
  ⟨⟨p.val / 4096, by omega⟩, ⟨p.val % 4096, by omega⟩, Fin.ext (by show p.val = 4096 * (p.val / 4096) + p.val % 4096; omega)⟩

/-- The array of the parts one after the other. -/
def stacked (y : (⟨2, ![4096, 2816]⟩ : Shape).Idx → α) : (⟨2, ![16384, 704]⟩ : Shape).Idx → α := fun p =>
  y (ix2 ⟨(p 0).val % 4096, Nat.mod_lt _ (by norm_num)⟩ (unit ⟨(p 0).val / 4096, by have : (p 0).val < 16384 := (p 0).isLt; omega⟩ (p 1)))

theorem stacked_at (y : (⟨2, ![4096, 2816]⟩ : Shape).Idx → α) (j : Fin 4) (n : Fin 4096) (k : Fin 704) :
    stacked y (ix2 (rowOf j n) k) = y (ix2 n (unit j k)) := by
  have e0 : (rowOf j n).val % 4096 = n.val := by show (4096 * j.val + n.val) % 4096 = n.val; omega
  have e1 : (rowOf j n).val / 4096 = j.val := by show (4096 * j.val + n.val) / 4096 = j.val; omega
  exact congrArg y (congrArg₂ ix2 (Fin.ext e0) (congrArg (fun i => unit i k) (Fin.ext e1)))

/-- An array whose elements are an array's of the parts is the array of the parts one after the other. -/
theorem eq_stacked {z : (⟨2, ![16384, 704]⟩ : Shape).Idx → α} {y : (⟨2, ![4096, 2816]⟩ : Shape).Idx → α}
    (h : ∀ j n k, z (ix2 (rowOf j n) k) = y (ix2 n (unit j k))) : z = stacked y := funext fun p => by
  obtain ⟨q, k, rfl⟩ : ∃ q k, p = ix2 q k := ⟨_, _, eq_ix2 p⟩
  obtain ⟨j, n, rfl⟩ := exists_rowOf q
  exact (h j n k).trans (stacked_at y j n k).symm

/-- Row `d` of part `j` of a weight's columns, the parts one after the other. -/
def wrow (j : Fin 4) (d : Fin 1024) : Fin 4096 := ⟨1024 * j.val + d.val, by omega⟩

/-- The parts of a weight's columns one after the other. -/
def wstacked (y : (⟨2, ![1024, 2816]⟩ : Shape).Idx → α) : (⟨2, ![4096, 704]⟩ : Shape).Idx → α := fun p =>
  y (ix2 ⟨(p 0).val % 1024, Nat.mod_lt _ (by norm_num)⟩ (unit ⟨(p 0).val / 1024, by have : (p 0).val < 4096 := (p 0).isLt; omega⟩ (p 1)))

theorem wstacked_at (y : (⟨2, ![1024, 2816]⟩ : Shape).Idx → α) (j : Fin 4) (d : Fin 1024) (k : Fin 704) :
    wstacked y (ix2 (wrow j d) k) = y (ix2 d (unit j k)) := by
  have e0 : (wrow j d).val % 1024 = d.val := by show (1024 * j.val + d.val) % 1024 = d.val; omega
  have e1 : (wrow j d).val / 1024 = j.val := by show (1024 * j.val + d.val) / 1024 = j.val; omega
  exact congrArg y (congrArg₂ ix2 (Fin.ext e0) (congrArg (fun i => unit i k) (Fin.ext e1)))

theorem wblocks_at {h1 h2 h3} (y : (⟨2, ![1024, 2816]⟩ : Shape).Idx → α) (j : Fin 4) (d : Fin 1024) (k : Fin 704) :
    shapeCast (⟨2, ![4096, 704]⟩ : Shape) (transpose (⟨3, ![4, 1024, 704]⟩ : Shape) [1, 0, 2] (shapeCast (⟨3, ![1024, 4, 704]⟩ : Shape) y h1) h2) h3
      (ix2 (wrow j d) k) = y (ix2 d (unit j k)) := by
  rw [shapeCast_apply _ _ _ (ix3 j d k) (by
    rw [Shape.rowMajor_val_three, Shape.rowMajor_val_two]
    show (j.val * 1024 + d.val) * 704 + k.val = (1024 * j.val + d.val) * 704 + k.val
    omega)]
  refine Eq.trans (b := shapeCast (⟨3, ![1024, 4, 704]⟩ : Shape) y h1 (ix3 d j k)) (by pointwise) ?_
  exact shapeCast_apply _ _ _ (ix2 d (unit j k)) (by
    rw [Shape.rowMajor_val_three, Shape.rowMajor_val_two]
    show d.val * 2816 + (704 * j.val + k.val) = (d.val * 4 + j.val) * 704 + k.val
    omega)

/-- The host's arrangement of a weight is the array of its parts. -/
theorem wblocks_eq {h1 h2 h3} (y : (⟨2, ![1024, 2816]⟩ : Shape).Idx → α) :
    shapeCast (⟨2, ![4096, 704]⟩ : Shape) (transpose (⟨3, ![4, 1024, 704]⟩ : Shape) [1, 0, 2] (shapeCast (⟨3, ![1024, 4, 704]⟩ : Shape) y h1) h2) h3
      = wstacked y := funext fun p => by
  obtain ⟨q, k, rfl⟩ : ∃ q k, p = ix2 q k := ⟨_, _, eq_ix2 p⟩
  obtain ⟨j, d, rfl⟩ : ∃ j d, q = wrow j d :=
    ⟨⟨q.val / 1024, by omega⟩, ⟨q.val % 1024, by omega⟩, Fin.ext (by show q.val = 1024 * (q.val / 1024) + q.val % 1024; omega)⟩
  exact (wblocks_at y j d k).trans (wstacked_at y j d k).symm

/-- Row `d` of shard `s` of both first weights, the shards one after the other. -/
def srow (s : Fin 8) (d : Fin 1024) : Fin 8192 := ⟨1024 * s.val + d.val, by omega⟩

theorem srows_at {h} (y : (⟨3, ![8, 1024, 704]⟩ : Shape).Idx → α) (s : Fin 8) (d : Fin 1024) (k : Fin 704) :
    shapeCast (⟨2, ![8192, 704]⟩ : Shape) y h (ix2 (srow s d) k) = y (ix3 s d k) :=
  shapeCast_apply _ _ _ (ix3 s d k) (by
    rw [Shape.rowMajor_val_three, Shape.rowMajor_val_two]
    show (s.val * 1024 + d.val) * 704 + k.val = (1024 * s.val + d.val) * 704 + k.val
    omega)

/-- The second weight's rows cut in parts. -/
theorem wcut_at {h} (y : (⟨2, ![2816, 1024]⟩ : Shape).Idx → α) (j : Fin 4) (k : Fin 704) (d : Fin 1024) :
    shapeCast (⟨3, ![4, 704, 1024]⟩ : Shape) y h (ix3 j k d) = y (ix2 (unit j k) d) :=
  shapeCast_apply _ _ _ (ix2 (unit j k) d) (by
    rw [Shape.rowMajor_val_three, Shape.rowMajor_val_two]
    show (704 * j.val + k.val) * 1024 + d.val = (j.val * 704 + k.val) * 1024 + d.val
    omega)

end Layout

end Cert.Parts

end
-- ==== Proof.GateGrad.lean ====
/- The gradients of the gate and of the other hidden value, through the second weight and the gated product: what the
   kernel's two result arrays hold, and that they are the reference's wherever every argument's element is a real number. -/
module

public import proofs.«01_k».proof.Proof.Gen.GateGradIdeal.Value
public import proofs.«01_k».proof.Proof.Gen.GateGradRefIdeal.Read
public import proofs.«01_k».proof.Proof.Parts
public import proofs.«01_k».proof.Proof.Reals
public import Idealize.ShloMosaic.Lib.StableHlo.RunRead
public import Idealize.ShloMosaic.Lib.Pointwise
public import proofs.«01_k».proof.Defs

@[expose] public section

set_option maxRecDepth 16384

noncomputable section

namespace Cert.GateGradIdeal.Own

open Cert.GateGradIdeal Cert.GateGradIdeal.Gen Cert.GateGradIdeal.Value Cert.Parts
open Idealize.ShloMosaic Idealize.ShloMosaic.TcCoe Idealize.ShloMosaic.Tactic Idealize.SL.Sem Idealize.ShloMosaic.StableHlo

/-- A hidden value of all tokens. -/
abbrev Wide := Vec Ideal S4096x2816 .f32
/-- The same, the parts one after the other. -/
abbrev Rows := Vec Ideal S16384x704 .f32
/-- A gradient, the parts one after the other. -/
abbrev Grad := Vec Ideal S16384x704 .bf16
/-- The gradient of the network's result. -/
abbrev Tokens := Vec Ideal S4096x1024 .f32

/-- The gradient of the gated product. -/
def da (w : S2816x1024.Idx → EReal) (dy : Tokens) (n : Fin 4096) (q : Fin 2816) : EReal := ∑ d, dy (ix2 n d) * w (ix2 q d)

/-- The gate's gradient. -/
def dgate (g u : Wide) (w : S2816x1024.Idx → EReal) (dy : Tokens) : S4096x2816.Idx → EReal := fun x =>
  da w dy (x 0) (x 1) * u x * logistic (g x) * (1 + g x * (1 - logistic (g x)))

/-- The other hidden value's gradient. -/
def dup (g : Wide) (w : S2816x1024.Idx → EReal) (dy : Tokens) : S4096x2816.Idx → EReal := fun x =>
  da w dy (x 0) (x 1) * g x * logistic (g x)

section Point

variable (x0 : Vec Ideal S1024x1024 .f32) (x1 : Vec Ideal S704x1024 .bf16) (x2 x3 : Vec Ideal S1024x704 .f32) (r : Fin 1024) (k : Fin 704)

/-- The block of the gate's gradient that a grid point computes. -/
theorem block4 : out0_4 (F := Ideal) x0 x1 x2 x3 (ix2 r k)
    = ((∑ d, x0 (ix2 r d) * x1 (ix2 k d)) * x3 (ix2 r k) * logistic (x2 (ix2 r k)) * (1 + x2 (ix2 r k) * (1 - logistic (x2 (ix2 r k)))) : EReal) := by
  unfold out0_4
  rw [View.canon_unit_zero (by decide)]
  pointwise [k0_pay4, k0_pay3, k0_pay2, k0_pay1]
  rfl

/-- The block of the other gradient. -/
theorem block5 : out0_5 (F := Ideal) x0 x1 x2 x3 (ix2 r k)
    = ((∑ d, x0 (ix2 r d) * x1 (ix2 k d)) * x2 (ix2 r k) * logistic (x2 (ix2 r k)) : EReal) := by
  unfold out0_5
  rw [View.canon_unit_zero (by decide)]
  pointwise [k0_pay5, k0_pay3, k0_pay2, k0_pay1]
  rfl

end Point

section Run

variable (m : (ℓ : Loc nD τ sig) → Buf (Elt Ideal) ℓ) (c : Dev nD)

/-- A grid point's part of the hidden units. -/
def pt (t : Fin cfg0.N) : Fin 4 := ⟨t.val / 4, by have := t.isLt; have : cfg0.N = 16 := N_0; omega⟩

/-- Row `r` of a grid point's block of tokens, among all the tokens. -/
def tok (t : Fin cfg0.N) (r : Fin 1024) : Fin 4096 := ⟨1024 * (t.val % 4) + r.val, by omega⟩

theorem index0 : ∀ t : Fin cfg0.N, win0_0.index t = ![t.val % 4, 0] := (by decide +kernel : ∀ t : Fin grid0.N, win0_0.index t = ![t.val % 4, 0])
theorem index1 : ∀ t : Fin cfg0.N, win0_1.index t = ![t.val / 4, 0] := (by decide +kernel : ∀ t : Fin grid0.N, win0_1.index t = ![t.val / 4, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

/-- The result's gradient, as the call finds it. -/
def a0 : Tokens := V m c main_arg3
/-- The weight, as the call finds it. -/
def a1 : Vec Ideal S2816x1024 .bf16 := V m c main_v0
/-- The gate, as the call finds it. -/
def a2 : Rows := V m c main_v3
/-- The other hidden value, as the call finds it. -/
def a3 : Rows := V m c main_v6
/-- The gate as the program's argument. -/
def b0 : Wide := m ((c.tc : Thread nD τ).loc main_arg0)
/-- The other hidden value as the program's argument. -/
def b1 : Wide := m ((c.tc : Thread nD τ).loc main_arg1)
/-- The weight as the program's argument. -/
def b2 : Vec Ideal S2816x1024 .f32 := m ((c.tc : Thread nD τ).loc main_arg2)
/-- The result's gradient as the program's argument. -/
def b3 : Tokens := m ((c.tc : Thread nD τ).loc main_arg3)

theorem a0_eq : a0 m c = b3 m c := V_main_arg3 m c

theorem a1_at (q : Fin 2816) (d : Fin 1024) : a1 m c (ix2 q d) = b2 m c (ix2 q d) := by
  have e : a1 m c = truncf (F := Ideal) (φ := .f32) .bf16 (b2 m c) bitsLt_bf16_f32 := by
    unfold a1 b2
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- The array of the parts, as the call finds it, holds the argument's element of the same token and unit. -/
theorem a2_at (j : Fin 4) (n : Fin 4096) (k : Fin 704) : a2 m c (ix2 (rowOf j n) k) = b0 m c (ix2 n (unit j k)) := by
  have e : a2 m c = shapeCast S16384x704 (transpose S4x4096x704 [1, 0, 2] (shapeCast S4096x4x704 (b0 m c)
      shapeCasts_S4096x2816_S4096x4x704) transposes_S4096x4x704_S4x4096x704_1_0_2) shapeCasts_S4x4096x704_S16384x704 := by
    unfold a2 b0
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact blocks_at (b0 m c) j n k

/-- The array of the parts, as the call finds it, holds the argument's element of the same token and unit. -/
theorem a3_at (j : Fin 4) (n : Fin 4096) (k : Fin 704) : a3 m c (ix2 (rowOf j n) k) = b1 m c (ix2 n (unit j k)) := by
  have e : a3 m c = shapeCast S16384x704 (transpose S4x4096x704 [1, 0, 2] (shapeCast S4096x4x704 (b1 m c)
      shapeCasts_S4096x2816_S4096x4x704) transposes_S4096x4x704_S4x4096x704_1_0_2) shapeCasts_S4x4096x704_S16384x704 := by
    unfold a3 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact blocks_at (b1 m c) j n k

/-- Window 0's block of an array, at an index. -/
theorem read0 (X : Tokens) (t : Fin cfg0.N) (r : Fin 1024) (d : Fin 1024) :
    ((cfg0.win 0).blk t).view.read (Elt Ideal) X (ix2 r d) = X (ix2 (tok t r) d) := by
  rw [View.read_apply]
  have e := index0 t
  refine congrArg X (funext fun a => Fin.ext ?_)
  match a with
  | ⟨0, _⟩ => show win0_0.index t 0 * 1024 + 1 * _ = _; rw [e]; show t.val % 4 * 1024 + 1 * r.val = 1024 * (t.val % 4) + r.val; omega
  | ⟨1, _⟩ => show win0_0.index t 1 * 1024 + 1 * _ = _; rw [e]; show 0 * 1024 + 1 * d.val = d.val; omega

/-- Window 1's block of an array, at an index. -/
theorem read1 (X : Vec Ideal S2816x1024 .bf16) (t : Fin cfg0.N) (k : Fin 704) (d : Fin 1024) :
    ((cfg0.win 1).blk t).view.read (Elt Ideal) X (ix2 k d) = X (ix2 (unit (pt t) k) d) := by
  rw [View.read_apply]
  have e := index1 t
  refine congrArg X (funext fun a => Fin.ext ?_)
  match a with
  | ⟨0, _⟩ => show win0_1.index t 0 * 704 + 1 * _ = _; rw [e]; show t.val / 4 * 704 + 1 * k.val = 704 * (t.val / 4) + k.val; omega
  | ⟨1, _⟩ => show win0_1.index t 1 * 1024 + 1 * _ = _; rw [e]; show 0 * 1024 + 1 * d.val = d.val; omega

/-- Window 2's block of an array, at an index. -/
theorem read2 (X : Rows) (t : Fin cfg0.N) (r : Fin 1024) (k : Fin 704) :
    ((cfg0.win 2).blk t).view.read (Elt Ideal) X (ix2 r k) = X (ix2 (rowOf (pt t) (tok t r)) k) := by
  rw [View.read_apply]
  have e := index2 t
  refine congrArg X (funext fun a => Fin.ext ?_)
  match a with
  | ⟨0, _⟩ => show win0_2.index t 0 * 1024 + 1 * _ = _; rw [e]; show t.val * 1024 + 1 * r.val = 4096 * (t.val / 4) + (1024 * (t.val % 4) + r.val); omega
  | ⟨1, _⟩ => show win0_2.index t 1 * 704 + 1 * _ = _; rw [e]; show 0 * 704 + 1 * k.val = k.val; omega

/-- Window 3's block of an array, at an index. -/
theorem read3 (X : Rows) (t : Fin cfg0.N) (r : Fin 1024) (k : Fin 704) :
    ((cfg0.win 3).blk t).view.read (Elt Ideal) X (ix2 r k) = X (ix2 (rowOf (pt t) (tok t r)) k) := by
  rw [View.read_apply]
  have e := index3 t
  refine congrArg X (funext fun a => Fin.ext ?_)
  match a with
  | ⟨0, _⟩ => show win0_3.index t 0 * 1024 + 1 * _ = _; rw [e]; show t.val * 1024 + 1 * r.val = 4096 * (t.val / 4) + (1024 * (t.val % 4) + r.val); omega
  | ⟨1, _⟩ => show win0_3.index t 1 * 704 + 1 * _ = _; rw [e]; show 0 * 704 + 1 * k.val = k.val; omega

/-- Window 4's block of an array, at an index. -/
theorem read4 (X : Grad) (t : Fin cfg0.N) (r : Fin 1024) (k : Fin 704) :
    ((cfg0.win 4).blk t).view.read (Elt Ideal) X (ix2 r k) = X (ix2 (rowOf (pt t) (tok t r)) k) := by
  rw [View.read_apply]
  have e := index4 t
  refine congrArg X (funext fun a => Fin.ext ?_)
  match a with
  | ⟨0, _⟩ => show win0_4.index t 0 * 1024 + 1 * _ = _; rw [e]; show t.val * 1024 + 1 * r.val = 4096 * (t.val / 4) + (1024 * (t.val % 4) + r.val); omega
  | ⟨1, _⟩ => show win0_4.index t 1 * 704 + 1 * _ = _; rw [e]; show 0 * 704 + 1 * k.val = k.val; omega

/-- Window 5's block of an array, at an index. -/
theorem read5 (X : Grad) (t : Fin cfg0.N) (r : Fin 1024) (k : Fin 704) :
    ((cfg0.win 5).blk t).view.read (Elt Ideal) X (ix2 r k) = X (ix2 (rowOf (pt t) (tok t r)) k) := by
  rw [View.read_apply]
  have e := index5 t
  refine congrArg X (funext fun a => Fin.ext ?_)
  match a with
  | ⟨0, _⟩ => show win0_5.index t 0 * 1024 + 1 * _ = _; rw [e]; show t.val * 1024 + 1 * r.val = 4096 * (t.val / 4) + (1024 * (t.val % 4) + r.val); omega
  | ⟨1, _⟩ => show win0_5.index t 1 * 704 + 1 * _ = _; rw [e]; show 0 * 704 + 1 * k.val = k.val; omega

theorem blk0 (t : Fin cfg0.N) (r : Fin 1024) (d : Fin 1024) : iblk m c 0 t (ix2 r d) = a0 m c (ix2 (tok t r) d) := read0 (a0 m c) t r d
theorem blk1 (t : Fin cfg0.N) (k : Fin 704) (d : Fin 1024) : iblk m c 1 t (ix2 k d) = a1 m c (ix2 (unit (pt t) k) d) := read1 (a1 m c) t k d
theorem blk2 (t : Fin cfg0.N) (r : Fin 1024) (k : Fin 704) : iblk m c 2 t (ix2 r k) = a2 m c (ix2 (rowOf (pt t) (tok t r)) k) := read2 (a2 m c) t r k
theorem blk3 (t : Fin cfg0.N) (r : Fin 1024) (k : Fin 704) : iblk m c 3 t (ix2 r k) = a3 m c (ix2 (rowOf (pt t) (tok t r)) k) := read3 (a3 m c) t r k

/-- A grid point's block of the gradient of the gated product. -/
theorem da_block (t : Fin cfg0.N) (r : Fin 1024) (k : Fin 704) (x0 : Vec Ideal S1024x1024 .f32) (x1 : Vec Ideal S704x1024 .bf16)
    (h0 : ∀ d, x0 (ix2 r d) = b3 m c (ix2 (tok t r) d)) (h1 : ∀ d, x1 (ix2 k d) = b2 m c (ix2 (unit (pt t) k) d)) :
    (∑ d, x0 (ix2 r d) * x1 (ix2 k d) : EReal) = da (b2 m c) (b3 m c) (tok t r) (unit (pt t) k) :=
  Finset.sum_congr rfl fun d _ => congrArg₂ (· * ·) (h0 d) (h1 d)

theorem gate_block (t : Fin cfg0.N) (r : Fin 1024) (k : Fin 704) : iblk m c 2 t (ix2 r k) = b0 m c (ix2 (tok t r) (unit (pt t) k)) :=
  (blk2 m c t r k).trans (a2_at m c _ _ k)

theorem up_block (t : Fin cfg0.N) (r : Fin 1024) (k : Fin 704) : iblk m c 3 t (ix2 r k) = b1 m c (ix2 (tok t r) (unit (pt t) k)) :=
  (blk3 m c t r k).trans (a3_at m c _ _ k)

/-- What a grid point writes back to window 4's array is its block of the gradient. -/
theorem flush4 (t : Fin cfg0.N) (hf : (cfg0.win 4).flush t = true) :
    (dats m 0 c).flushed 4 t = ((cfg0.win 4).blk t).view.read (Elt Ideal) (stacked (dgate (b0 m c) (b1 m c) (b2 m c) (b3 m c)) : Grad) := by
  rw [flushed4]
  funext x
  obtain ⟨r, k, rfl⟩ : ∃ (r : Fin 1024) (k : Fin 704), x = ix2 r k := ⟨x 0, x 1, funext fun k => by fin_cases k <;> rfl⟩
  refine Eq.trans ?_ ((read4 (stacked (dgate (b0 m c) (b1 m c) (b2 m c) (b3 m c)) : Grad) t r k).trans (stacked_at _ _ _ _)).symm
  refine (block4 (iblk m c 0 t) (iblk m c 1 t) (iblk m c 2 t) (iblk m c 3 t) r k).trans ?_
  rw [da_block m c t r k (iblk m c 0 t) (iblk m c 1 t) (fun d => (blk0 m c t r d).trans (congrFun (a0_eq m c) _))
    (fun d => (blk1 m c t k d).trans (a1_at m c _ d)), gate_block m c t r k, up_block m c t r k]
  rfl

/-- What window 4's array holds in the end. -/
theorem final4 : (dats m 0 c).arrAt 4 cfg0.N = (stacked (dgate (b0 m c) (b1 m c) (b2 m c) (b3 m c)) : Grad) :=
  (dats m 0 c).arrAt_eq_of_cover 4 ((stacked (dgate (b0 m c) (b1 m c) (b2 m c) (b3 m c)) : Grad)) (flush4 m c) fun (x : S16384x704.Idx) => by
    have hN : cfg0.N = 16 := N_0
    have h0 : (x 0 : ℕ) < 16384 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_4 t, ?_⟩
    show x ∈ ((View.whole main_v7_0).slice (win0_4.rect t)).set
    rw [View.set_slice_whole, Rect.mem_set_unit]
    have e := index4 t
    intro a
    match a with
    | ⟨0, _⟩ => show win0_4.index t 0 * 1024 ≤ (x 0 : ℕ) ∧ (x 0 : ℕ) < win0_4.index t 0 * 1024 + 1024; rw [e]; show t.val * 1024 ≤ (x 0 : ℕ) ∧ (x 0 : ℕ) < t.val * 1024 + 1024; omega
    | ⟨1, _⟩ => show win0_4.index t 1 * 704 ≤ (x 1 : ℕ) ∧ (x 1 : ℕ) < win0_4.index t 1 * 704 + 704; rw [e]; show 0 * 704 ≤ (x 1 : ℕ) ∧ (x 1 : ℕ) < 0 * 704 + 704; omega

/-- What a grid point writes back to window 5's array is its block of the gradient. -/
theorem flush5 (t : Fin cfg0.N) (hf : (cfg0.win 5).flush t = true) :
    (dats m 0 c).flushed 5 t = ((cfg0.win 5).blk t).view.read (Elt Ideal) (stacked (dup (b0 m c) (b2 m c) (b3 m c)) : Grad) := by
  rw [flushed5]
  funext x
  obtain ⟨r, k, rfl⟩ : ∃ (r : Fin 1024) (k : Fin 704), x = ix2 r k := ⟨x 0, x 1, funext fun k => by fin_cases k <;> rfl⟩
  refine Eq.trans ?_ ((read5 (stacked (dup (b0 m c) (b2 m c) (b3 m c)) : Grad) t r k).trans (stacked_at _ _ _ _)).symm
  refine (block5 (iblk m c 0 t) (iblk m c 1 t) (iblk m c 2 t) (iblk m c 3 t) r k).trans ?_
  rw [da_block m c t r k (iblk m c 0 t) (iblk m c 1 t) (fun d => (blk0 m c t r d).trans (congrFun (a0_eq m c) _))
    (fun d => (blk1 m c t k d).trans (a1_at m c _ d)), gate_block m c t r k]
  rfl

/-- What window 5's array holds in the end. -/
theorem final5 : (dats m 0 c).arrAt 5 cfg0.N = (stacked (dup (b0 m c) (b2 m c) (b3 m c)) : Grad) :=
  (dats m 0 c).arrAt_eq_of_cover 5 ((stacked (dup (b0 m c) (b2 m c) (b3 m c)) : Grad)) (flush5 m c) fun (x : S16384x704.Idx) => by
    have hN : cfg0.N = 16 := N_0
    have h0 : (x 0 : ℕ) < 16384 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_5 t, ?_⟩
    show x ∈ ((View.whole main_v7_1).slice (win0_5.rect t)).set
    rw [View.set_slice_whole, Rect.mem_set_unit]
    have e := index5 t
    intro a
    match a with
    | ⟨0, _⟩ => show win0_5.index t 0 * 1024 ≤ (x 0 : ℕ) ∧ (x 0 : ℕ) < win0_5.index t 0 * 1024 + 1024; rw [e]; show t.val * 1024 ≤ (x 0 : ℕ) ∧ (x 0 : ℕ) < t.val * 1024 + 1024; omega
    | ⟨1, _⟩ => show win0_5.index t 1 * 704 ≤ (x 1 : ℕ) ∧ (x 1 : ℕ) < win0_5.index t 1 * 704 + 704; rw [e]; show 0 * 704 ≤ (x 1 : ℕ) ∧ (x 1 : ℕ) < 0 * 704 + 704; omega

end Run

section Ref

open Cert.GateGradRefIdeal.Read

variable (x0 x1 : Wide) (x2 : Vec Ideal S2816x1024 .f32) (x3 : Tokens)

theorem ref_da (n : Fin 4096) (q : Fin 2816) : val_main_v5 (F := Ideal) x2 x3 (ix2 n q) = da x2 x3 n q := by
  rw [val_main_v5_apply]
  exact Finset.sum_congr rfl fun d _ => congrArg₂ (· * ·) (congrArg x3 (funext fun a => by fin_cases a <;> rfl)) (congrArg x2 (funext fun a => by fin_cases a <;> rfl))

theorem ref_logistic (i : S4096x2816.Idx) : val_main_v0_2 (F := Ideal) x0 i = logistic (x0 i) := by
  obtain ⟨n, q, rfl⟩ : ∃ (n : Fin 4096) (q : Fin 2816), i = ix2 n q := ⟨_, _, eq_ix2 i⟩
  pointwise [val_main_v0_2, val_main_call0_v4, val_main_call0_v3, val_main_call0_v2, val_main_call0_v1, val_main_call0_v0, val_main_call0_cst, val_main_call0_cst_0]
  rw [logistic, zero_sub]

theorem ref_gate (n : Fin 4096) (q : Fin 2816) : val_main_v8 (F := Ideal) x0 x1 x2 x3 (ix2 n q)
    = (da x2 x3 n q * x1 (ix2 n q) * logistic (x0 (ix2 n q))
      + x0 (ix2 n q) * (da x2 x3 n q * x1 (ix2 n q)) * (logistic (x0 (ix2 n q)) * (1 - logistic (x0 (ix2 n q)))) : EReal) := by
  pointwise [val_main_v8, val_main_call1_v1, val_main_call1_v2, val_main_call1_v0, val_main_v7, val_main_v0_1, val_main_call0_v7, val_main_call0_v6, val_main_call0_cst_1]
  rw [ref_da, ref_logistic]

theorem ref_up (n : Fin 4096) (q : Fin 2816) : val_main_v6 (F := Ideal) x0 x2 x3 (ix2 n q)
    = (x0 (ix2 n q) * logistic (x0 (ix2 n q)) * da x2 x3 n q : EReal) := by
  pointwise [val_main_v6, val_main_v0_0]
  rw [ref_da, ref_logistic]

theorem ref12 (j : Fin 4) (n : Fin 4096) (k : Fin 704) :
    val_main_v12 (F := Ideal) x0 x1 x2 x3 (ix2 (rowOf j n) k) = val_main_v8 (F := Ideal) x0 x1 x2 x3 (ix2 n (unit j k)) :=
  blocks_at (val_main_v8 (F := Ideal) x0 x1 x2 x3) j n k

theorem ref16 (j : Fin 4) (n : Fin 4096) (k : Fin 704) :
    val_main_v16 (F := Ideal) x0 x2 x3 (ix2 (rowOf j n) k) = val_main_v6 (F := Ideal) x0 x2 x3 (ix2 n (unit j k)) :=
  blocks_at (val_main_v6 (F := Ideal) x0 x2 x3) j n k

/-- The reference's gradient of the gate, of real numbers. -/
theorem ref12_eq (h0 : ∀ i, IsReal (x0 i)) (h1 : ∀ i, IsReal (x1 i)) (h2 : ∀ i, IsReal (x2 i)) (h3 : ∀ i, IsReal (x3 i)) :
    val_main_v12 (F := Ideal) x0 x1 x2 x3 = (stacked (dgate x0 x1 x2 x3) : Grad) :=
  eq_stacked fun j n k => by
    rw [ref12]
    refine (ref_gate x0 x1 x2 x3 n (unit j k)).trans (gate_real ?_ (h1 _) (h0 _).logistic (h0 _)).symm
    exact IsReal.sum_mul (fun d => h3 _) (fun d => h2 _)

/-- The reference's gradient of the other hidden value. -/
theorem ref16_eq : val_main_v16 (F := Ideal) x0 x2 x3 = (stacked (dup x0 x2 x3) : Grad) :=
  eq_stacked fun j n k => by
    rw [ref16]
    refine (ref_up x0 x2 x3 n (unit j k)).trans ?_
    exact (mul_comm _ _).trans (mul_assoc _ _ _).symm

end Ref

/-- The shape relations the precondition states. -/
instance numbersFacts : Cert.Pre_numbers.Facts where
  bcast_S_S4096x2816 := by decide
  bcast_S_S2816x1024 := by decide
  bcast_S_S4096x1024 := by decide

/-- The reference's run leaves its arguments as they were and every counter at zero. -/
theorem reference_frame : Cert.quiescent_GateGradRefIdeal := fun m g _ =>
  (θ_run _ _ _).mono (fun r h => ⟨fun c => (h c).2.2, sem_eq_zero_of_no_sems (by decide) r.2⟩) (Cert.GateGradRefIdeal.Value.run (F := Ideal) m g)

/-- From equal arguments that are real numbers the two programs end with equal gradients. -/
theorem same_gradients : Cert.algebraic_GateGradIdeal_GateGradRefIdeal_pre_numbers := by
  intro m g m' g' hpre hag
  refine ⟨_, _, Cert.GateGradIdeal.Value.run_blocks m g, (θ_run _ _ _).mono (fun r h c => ?_) (Cert.GateGradRefIdeal.Value.run (F := Ideal) m' g')⟩
  obtain ⟨r0, r1, k⟩ := h c
  obtain ⟨e0, e1, e2, e3⟩ := hag c
  obtain ⟨p0, p1, p2, p3⟩ := hpre c
  have h0 : ∀ i, IsReal (b0 m c i) := fun i => isReal_of_lt _ (congrFun p0 i)
  have h1 : ∀ i, IsReal (b1 m c i) := fun i => isReal_of_lt _ (congrFun p1 i)
  have h2 : ∀ i, IsReal (b2 m c i) := fun i => isReal_of_lt _ (congrFun p2 i)
  have h3 : ∀ i, IsReal (b3 m c i) := fun i => isReal_of_lt _ (congrFun p3 i)
  refine ⟨r0.trans ?_, r1.trans ?_, k⟩
  · rw [Cert.GateGradRefIdeal.Read.val_main_v12_eq, e0, e1, e2, e3]
    exact (ref12_eq (b0 m c) (b1 m c) (b2 m c) (b3 m c) h0 h1 h2 h3).trans (final4 m c).symm
  · rw [Cert.GateGradRefIdeal.Read.val_main_v16_eq, e0, e2, e3]
    exact (ref16_eq (b0 m c) (b2 m c) (b3 m c)).trans (final5 m c).symm

end Cert.GateGradIdeal.Own

end
-- ==== Proof.HiddenGrad.lean ====
/- The gradient of the network's input through its two first weights: what the kernel's result array holds, and that the
   reference's is the same sum, over all hidden units at once instead of part by part. -/
module

public import proofs.«01_k».proof.Proof.Gen.HiddenGradIdeal.Value
public import proofs.«01_k».proof.Proof.Gen.HiddenGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.HiddenGradIdeal.Own

open Cert.HiddenGradIdeal Cert.HiddenGradIdeal.Gen Cert.HiddenGradIdeal.Value Cert.Parts
open Idealize.ShloMosaic Idealize.ShloMosaic.TcCoe Idealize.ShloMosaic.Tactic Idealize.SL.Sem Idealize.ShloMosaic.StableHlo

/-- A gradient of the hidden units, part by part. -/
abbrev Units := Vec Ideal S4x4096x704 .bf16
/-- Both first weights, part by part: the gate's four parts, then the other's. -/
abbrev Weights := Vec Ideal S8x1024x704 .bf16
/-- The gradient of the network's input. -/
abbrev Hidden := Vec Ideal S4096x1024 .f32

/-- Part `j`'s contribution to the gradient at token `n` and channel `d`. -/
def part (a b : Units) (w : Weights) (n : Fin 4096) (d : Fin 1024) (j : Fin 4) : EReal :=
  (∑ k, a (ix3 j n k) * w (ix3 (lo j) d k)) + ∑ k, b (ix3 j n k) * w (ix3 (hi j) d k)

/-- The gradient the kernel's result array ends with. -/
def dh (a b : Units) (w : Weights) : Hidden := fun x => ∑ j, part a b w (x 0) (x 1) j

/-- The block of the result that a grid point computes. -/
theorem block_at (x0 x1 : Vec Ideal S4x512x704 .bf16) (x2 : Weights) (r : Fin 512) (d : Fin 1024) :
    out0_3 (F := Ideal) x0 x1 x2 (ix2 r d)
      = (∑ j, ((∑ k, x0 (ix3 j r k) * x2 (ix3 (lo j) d k)) + ∑ k, x1 (ix3 j r k) * x2 (ix3 (hi j) d k)) : EReal) := by
  unfold out0_3
  rw [View.canon_unit_zero (by decide)]
  pointwise [k0_pay1, k0_pay2, k0_pay3]
  simp only [Fin.sum_univ_four, ← add_assoc]
  rfl

section Run

variable (m : (ℓ : Loc nD τ sig) → Buf (Elt Ideal) ℓ) (c : Dev nD)

/-- Row `r` of a grid point's block of tokens, among all the tokens. -/
def row (t : Fin cfg0.N) (r : Fin 512) : Fin 4096 := ⟨512 * t.val + r.val, by have := t.isLt; have : cfg0.N = 8 := N_0; omega⟩

theorem index0 : ∀ t : Fin cfg0.N, win0_0.index t = ![0, t.val, 0] := (by decide +kernel : ∀ t : Fin grid0.N, win0_0.index t = ![0, t.val, 0])
theorem index1 : ∀ t : Fin cfg0.N, win0_1.index t = ![0, t.val, 0] := (by decide +kernel : ∀ t : Fin grid0.N, win0_1.index t = ![0, t.val, 0])
theorem index2 : ∀ t : Fin cfg0.N, win0_2.index t = ![0, 0, 0] := (by decide +kernel : ∀ t : Fin grid0.N, win0_2.index t = ![0, 0, 0])
theorem index3 : ∀ t : Fin cfg0.N, win0_3.index t = ![t.val, 0] := (by decide +kernel : ∀ t : Fin grid0.N, win0_3.index t = ![t.val, 0])

/-- The gate's gradient, as the call finds it. -/
def a0 : Units := V m c main_v9
/-- The other gradient, as the call finds it. -/
def a1 : Units := V m c main_v10
/-- The weights, as the call finds them. -/
def a2 : Weights := V m c main_v8

theorem read0 (X : Units) (t : Fin cfg0.N) (j : Fin 4) (r : Fin 512) (k : Fin 704) :
    ((cfg0.win 0).blk t).view.read (Elt Ideal) X (ix3 j r k) = X (ix3 j (row t r) k) := by
  rw [View.read_apply]
  have e := index0 t
  refine congrArg X (funext fun a => Fin.ext ?_)
  match a with
  | ⟨0, _⟩ => show win0_0.index t 0 * 4 + 1 * _ = _; rw [e]; show 0 * 4 + 1 * j.val = j.val; omega
  | ⟨1, _⟩ => show win0_0.index t 1 * 512 + 1 * _ = _; rw [e]; show t.val * 512 + 1 * r.val = 512 * t.val + r.val; omega
  | ⟨2, _⟩ => show win0_0.index t 2 * 704 + 1 * _ = _; rw [e]; show 0 * 704 + 1 * k.val = k.val; omega

theorem read1 (X : Units) (t : Fin cfg0.N) (j : Fin 4) (r : Fin 512) (k : Fin 704) :
    ((cfg0.win 1).blk t).view.read (Elt Ideal) X (ix3 j r k) = X (ix3 j (row t r) k) := by
  rw [View.read_apply]
  have e := index1 t
  refine congrArg X (funext fun a => Fin.ext ?_)
  match a with
  | ⟨0, _⟩ => show win0_1.index t 0 * 4 + 1 * _ = _; rw [e]; show 0 * 4 + 1 * j.val = j.val; omega
  | ⟨1, _⟩ => show win0_1.index t 1 * 512 + 1 * _ = _; rw [e]; show t.val * 512 + 1 * r.val = 512 * t.val + r.val; omega
  | ⟨2, _⟩ => show win0_1.index t 2 * 704 + 1 * _ = _; rw [e]; show 0 * 704 + 1 * k.val = k.val; omega

theorem read2 (X : Weights) (t : Fin cfg0.N) (s : Fin 8) (d : Fin 1024) (k : Fin 704) :
    ((cfg0.win 2).blk t).view.read (Elt Ideal) X (ix3 s d k) = X (ix3 s d k) := by
  rw [View.read_apply]
  have e := index2 t
  refine congrArg X (funext fun a => Fin.ext ?_)
  match a with
  | ⟨0, _⟩ => show win0_2.index t 0 * 8 + 1 * _ = _; rw [e]; show 0 * 8 + 1 * s.val = s.val; omega
  | ⟨1, _⟩ => show win0_2.index t 1 * 1024 + 1 * _ = _; rw [e]; show 0 * 1024 + 1 * d.val = d.val; omega
  | ⟨2, _⟩ => show win0_2.index t 2 * 704 + 1 * _ = _; rw [e]; show 0 * 704 + 1 * k.val = k.val; omega

theorem read3 (X : Hidden) (t : Fin cfg0.N) (r : Fin 512) (d : Fin 1024) :
    ((cfg0.win 3).blk t).view.read (Elt Ideal) X (ix2 r d) = X (ix2 (row t r) d) := by
  rw [View.read_apply]
  have e := index3 t
  refine congrArg X (funext fun a => Fin.ext ?_)
  match a with
  | ⟨0, _⟩ => show win0_3.index t 0 * 512 + 1 * _ = _; rw [e]; show t.val * 512 + 1 * r.val = 512 * t.val + r.val; omega
  | ⟨1, _⟩ => show win0_3.index t 1 * 1024 + 1 * _ = _; rw [e]; show 0 * 1024 + 1 * d.val = d.val; omega

theorem blk0 (t : Fin cfg0.N) (j : Fin 4) (r : Fin 512) (k : Fin 704) : iblk m c 0 t (ix3 j r k) = a0 m c (ix3 j (row t r) k) := read0 (a0 m c) t j r k
theorem blk1 (t : Fin cfg0.N) (j : Fin 4) (r : Fin 512) (k : Fin 704) : iblk m c 1 t (ix3 j r k) = a1 m c (ix3 j (row t r) k) := read1 (a1 m c) t j r k
theorem blk2 (t : Fin cfg0.N) (s : Fin 8) (d : Fin 1024) (k : Fin 704) : iblk m c 2 t (ix3 s d k) = a2 m c (ix3 s d k) := read2 (a2 m c) t s d k

/-- What a grid point writes back is its block of the gradient. -/
theorem flush3 (t : Fin cfg0.N) (hf : (cfg0.win 3).flush t = true) :
    (dats m 0 c).flushed 3 t = ((cfg0.win 3).blk t).view.read (Elt Ideal) (dh (a0 m c) (a1 m c) (a2 m c)) := by
  rw [flushed3]
  funext x
  obtain ⟨r, d, rfl⟩ : ∃ (r : Fin 512) (d : Fin 1024), x = ix2 r d := ⟨x 0, x 1, funext fun k => by fin_cases k <;> rfl⟩
  refine Eq.trans ?_ (read3 (dh (a0 m c) (a1 m c) (a2 m c)) t r d).symm
  refine (block_at (iblk m c 0 t) (iblk m c 1 t) (iblk m c 2 t) r d).trans ?_
  exact Finset.sum_congr rfl fun j _ => congrArg₂ (· + ·)
    (Finset.sum_congr rfl fun k _ => congrArg₂ (· * ·) (blk0 m c t j r k) (blk2 m c t (lo j) d k))
    (Finset.sum_congr rfl fun k _ => congrArg₂ (· * ·) (blk1 m c t j r k) (blk2 m c t (hi j) d k))

/-- What the result array holds in the end. -/
theorem final3 : (dats m 0 c).arrAt 3 cfg0.N = dh (a0 m c) (a1 m c) (a2 m c) :=
  (dats m 0 c).arrAt_eq_of_cover 3 (dh (a0 m c) (a1 m c) (a2 m c)) (flush3 m c) fun (x : S4096x1024.Idx) => by
    have hN : cfg0.N = 8 := N_0
    have h0 : (x 0 : ℕ) < 4096 := (x 0).isLt
    have h1 : (x 1 : ℕ) < 1024 := (x 1).isLt
    obtain ⟨t, ht⟩ : ∃ t : Fin cfg0.N, t.val = (x 0 : ℕ) / 512 := ⟨⟨_, by omega⟩, rfl⟩
    refine ⟨t, flush0_3 t, ?_⟩
    show x ∈ ((View.whole main_v11).slice (win0_3.rect t)).set
    rw [View.set_slice_whole, Rect.mem_set_unit]
    have e := index3 t
    intro a
    match a with
    | ⟨0, _⟩ => show win0_3.index t 0 * 512 ≤ (x 0 : ℕ) ∧ (x 0 : ℕ) < win0_3.index t 0 * 512 + 512; rw [e]; show t.val * 512 ≤ (x 0 : ℕ) ∧ (x 0 : ℕ) < t.val * 512 + 512; omega
    | ⟨1, _⟩ => show win0_3.index t 1 * 1024 ≤ (x 1 : ℕ) ∧ (x 1 : ℕ) < win0_3.index t 1 * 1024 + 1024; rw [e]; show 0 * 1024 ≤ (x 1 : ℕ) ∧ (x 1 : ℕ) < 0 * 1024 + 1024; omega

/-- The gate's gradient as the program's argument. -/
def b0 : Vec Ideal S4096x2816 .bf16 := m ((c.tc : Thread nD τ).loc main_arg0)
/-- The other gradient as the program's argument. -/
def b1 : Vec Ideal S4096x2816 .bf16 := m ((c.tc : Thread nD τ).loc main_arg1)
/-- The weights as the program's argument. -/
def b2 : Vec Ideal S1024x5632 .f32 := m ((c.tc : Thread nD τ).loc main_arg2)

theorem a0_at (j : Fin 4) (n : Fin 4096) (k : Fin 704) : a0 m c (ix3 j n k) = b0 m c (ix2 n (unit j k)) := by
  have e : a0 m c = shapeCast S4x4096x704 (shapeCast S16384x704 (transpose S4x4096x704 [1, 0, 2] (shapeCast S4096x4x704 (b0 m c)
      shapeCasts_S4096x2816_S4096x4x704) transposes_S4096x4x704_S4x4096x704_1_0_2) shapeCasts_S4x4096x704_S16384x704) shapeCasts_S16384x704_S4x4096x704 := by
    unfold a0 b0
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact (cut_at _ j n k).trans (blocks_at (b0 m c) j n k)

theorem a1_at (j : Fin 4) (n : Fin 4096) (k : Fin 704) : a1 m c (ix3 j n k) = b1 m c (ix2 n (unit j k)) := by
  have e : a1 m c = shapeCast S4x4096x704 (shapeCast S16384x704 (transpose S4x4096x704 [1, 0, 2] (shapeCast S4096x4x704 (b1 m c)
      shapeCasts_S4096x2816_S4096x4x704) transposes_S4096x4x704_S4x4096x704_1_0_2) shapeCasts_S4x4096x704_S16384x704) shapeCasts_S16384x704_S4x4096x704 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact (cut_at _ j n k).trans (blocks_at (b1 m c) j n k)

theorem a2_at (s : Fin 8) (d : Fin 1024) (k : Fin 704) : a2 m c (ix3 s d k) = b2 m c (ix2 d (col s k)) := by
  have e : a2 m c = truncf (F := Ideal) (φ := .f32) .bf16 (transpose S8x1024x704 [1, 0, 2] (shapeCast S1024x8x704 (b2 m c)
      shapeCasts_S1024x5632_S1024x8x704) transposes_S1024x8x704_S8x1024x704_1_0_2) bitsLt_bf16_f32 := by
    unfold a2 b2
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact shards_at (b2 m c) s d k

end Run

section Ref

open Cert.HiddenGradRefIdeal.Read

variable (x0 x1 : Vec Ideal S4096x2816 .bf16) (x2 : Vec Ideal S1024x5632 .f32)

theorem both_left (n : Fin 4096) (q : Fin 2816) : val_main_v6 (F := Ideal) x0 x1 (ix2 n (left q)) = x0 (ix2 n q) := by
  pointwise [val_main_v6, val_main_v4, val_main_v5, left]

theorem both_right (n : Fin 4096) (q : Fin 2816) : val_main_v6 (F := Ideal) x0 x1 (ix2 n (right q)) = x1 (ix2 n q) := by
  pointwise [val_main_v6, val_main_v4, val_main_v5, right]

/-- The reference's gradient, part by part. -/
theorem ref_at (n : Fin 4096) (d : Fin 1024) : val_main_v7 (F := Ideal) x0 x1 x2 (ix2 n d)
    = ∑ j, ((∑ k, x0 (ix2 n (unit j k)) * x2 (ix2 d (col (lo j) k))) + ∑ k, x1 (ix2 n (unit j k)) * x2 (ix2 d (col (hi j) k))) := by
  rw [val_main_v7_apply]
  refine Eq.trans (b := ∑ k : Fin 5632, val_main_v6 (F := Ideal) x0 x1 (ix2 n k) * x2 (ix2 d k)) ?_ ?_
  · exact Finset.sum_congr rfl fun k _ => congrArg₂ (· * ·) (congrArg _ (funext fun a => by fin_cases a <;> rfl)) (congrArg _ (funext fun a => by fin_cases a <;> rfl))
  · rw [sum_halves, sum_units, sum_units, Finset.sum_add_distrib]
    simp only [both_left, both_right, col_lo, col_hi]

end Ref

variable (m : (ℓ : Loc nD τ sig) → Buf (Elt Ideal) ℓ)

/-- The kernel's result is the reference's. -/
theorem same (c : Dev nD) : (dats m 0 c).arrAt 3 cfg0.N = Cert.HiddenGradRefIdeal.Read.val_main_v7 (F := Ideal) (b0 m c) (b1 m c) (b2 m c) := by
  rw [final3]
  funext x
  obtain ⟨n, d, rfl⟩ : ∃ (n : Fin 4096) (d : Fin 1024), x = ix2 n d := ⟨_, _, eq_ix2 x⟩
  refine Eq.trans ?_ (ref_at _ _ _ n d).symm
  exact Finset.sum_congr rfl fun j _ => congrArg₂ (· + ·)
    (Finset.sum_congr rfl fun k _ => congrArg₂ (· * ·) (a0_at m c j n k) (a2_at m c (lo j) d k))
    (Finset.sum_congr rfl fun k _ => congrArg₂ (· * ·) (a1_at m c j n k) (a2_at m c (hi j) d k))

/-- The reference's run leaves its arguments as they were and every counter at zero. -/
theorem reference_frame : Cert.quiescent_HiddenGradRefIdeal := fun m g _ =>
  (θ_run _ _ _).mono (fun r h => ⟨fun c => (h c).2, sem_eq_zero_of_no_sems (by decide) r.2⟩) (Cert.HiddenGradRefIdeal.Value.run (F := Ideal) m g)

/-- From equal arguments the two programs end with equal gradients. -/
theorem same_gradient : Cert.algebraic_HiddenGradIdeal_HiddenGradRefIdeal := by
  intro m g m' g' _ hag
  refine ⟨_, Cert.HiddenGradIdeal.Value.run_blocks m g, (θ_run _ _ _).mono (fun r h c => ?_) (Cert.HiddenGradRefIdeal.Value.run (F := Ideal) m' g')⟩
  obtain ⟨r0, k⟩ := h c
  obtain ⟨e0, e1, e2⟩ := hag c
  refine ⟨r0.trans ?_, k⟩
  rw [Cert.HiddenGradRefIdeal.Read.val_main_v7_eq, e0, e1, e2]
  exact (same m c).symm

end Cert.HiddenGradIdeal.Own

end
-- ==== Proof.DownWeight.lean ====
/- The gradient of the network's second weight: what the kernel's result array holds, each part of the hidden units a
   block of rows, and that it is the reference's product. -/
module

public import proofs.«01_k».proof.Proof.Gen.DownWeightIdeal.Value
public import proofs.«01_k».proof.Proof.Gen.DownWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.DownWeightIdeal.Own

open Cert.DownWeightIdeal Cert.DownWeightIdeal.Gen Cert.DownWeightIdeal.Value Cert.Parts
open Idealize.ShloMosaic Idealize.ShloMosaic.TcCoe Idealize.ShloMosaic.Tactic Idealize.SL.Sem Idealize.ShloMosaic.StableHlo

/-- The hidden units of all tokens, the parts one after the other. -/
abbrev Rows := Vec Ideal S16384x704 .bf16
/-- The gradient of the network's result. -/
abbrev Tokens := Vec Ideal S4096x1024 .f32
/-- The gradient of the weight. -/
abbrev Weight := Vec Ideal S2816x1024 .bf16

/-- The product over the tokens of the hidden units and the result's gradient. -/
def dw (a : Vec Ideal S4096x2816 .bf16) (dy : Tokens) : Weight := fun x => (∑ n, a (ix2 n (x 0)) * dy (ix2 n (x 1)) : EReal)

section Point

variable (c : Dev nD) (i : grid0.Coords) (arg3 : Memref sig .tc .vmem S4096x704 .bf16) (harg3 : arg3.IsWhole) (arg4 : Memref sig .tc .vmem S4096x1024 .f32) (harg4 : arg4.IsWhole)
  (arg5 : Memref sig .tc .vmem S704x1024 .bf16) (harg5 : arg5.IsWhole) (arg6 : Memref sig .tc .vmem S704x1024 .f32) (harg6 : arg6.IsWhole)
  (hc0 : cond0_0 i) (hc1 : ¬cond0_1 i) (hc2 : cond0_2 i) (x0 : Vec Ideal S4096x704 .bf16) (x1 : Tokens)

/-- The block of the result that a grid point computes. -/
theorem block_at (r : Fin 704) (d : Fin 1024) :
    out0_A_2 c i arg3 harg3 arg4 harg4 arg5 harg5 arg6 harg6 hc0 hc1 hc2 x0 x1 (ix2 r d) = (∑ n, x0 (ix2 n r) * x1 (ix2 n d) : EReal) := by
  unfold out0_A_2 kernelRun0_A
  dsimp only
  rw [View.read_writes_junk_eq_canon, View.canon_unit_zero (by decide)]
  unfold kernelRun0_A.sl.v14 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- A grid point's part of the hidden units. -/
def pt (t : Fin cfg0.N) : Fin 4 := ⟨t.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The hidden units, as the call finds them. -/
def a0 : Rows := V m c main_v2
/-- The result's gradient, as the call finds it. -/
def a1 : Tokens := V m c main_arg1
/-- The hidden units as the program's argument. -/
def b0 : Vec Ideal S4096x2816 .bf16 := m ((c.tc : Thread nD τ).loc main_arg0)
/-- The result's gradient as the program's argument. -/
def b1 : Tokens := m ((c.tc : Thread nD τ).loc main_arg1)

theorem a1_eq : a1 m c = b1 m c := V_main_arg1 m c

/-- The array of the parts, as the call finds it, holds the argument's element of the same token and unit. -/
theorem a0_at (j : Fin 4) (n : Fin 4096) (k : Fin 704) : a0 m c (ix2 (rowOf j n) k) = b0 m c (ix2 n (unit j k)) := by
  have e : a0 m c = shapeCast S16384x704 (transpose S4x4096x704 [1, 0, 2] (shapeCast S4096x4x704 (b0 m c)
      shapeCasts_S4096x2816_S4096x4x704) transposes_S4096x4x704_S4x4096x704_1_0_2) shapeCasts_S4x4096x704_S16384x704 := by
    unfold a0 b0
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact blocks_at (b0 m c) j n k

/-- Window 0's block of an array, at an index. -/
theorem read0 (X : Rows) (t : Fin cfg0.N) (n : Fin 4096) (k : Fin 704) :
    ((cfg0.win 0).blk t).view.read (Elt Ideal) X (ix2 n k) = X (ix2 (rowOf (pt t) n) k) := by
  rw [View.read_apply]
  have e := index0 t
  refine congrArg X (funext fun a => Fin.ext ?_)
  match a with
  | ⟨0, _⟩ => show win0_0.index t 0 * 4096 + 1 * _ = _; rw [e]; show t.val * 4096 + 1 * n.val = 4096 * t.val + n.val; omega
  | ⟨1, _⟩ => show win0_0.index t 1 * 704 + 1 * _ = _; rw [e]; show 0 * 704 + 1 * k.val = k.val; omega

/-- Window 1's block is the whole array. -/
theorem read1 (X : Tokens) (t : Fin cfg0.N) (n : Fin 4096) (d : Fin 1024) :
    ((cfg0.win 1).blk t).view.read (Elt Ideal) X (ix2 n d) = X (ix2 n d) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 1024 + 1 * _ = _; rw [e]; show 0 * 1024 + 1 * d.val = d.val; omega

/-- Window 2's block of an array, at an index. -/
theorem read2 (X : Weight) (t : Fin cfg0.N) (k : Fin 704) (d : Fin 1024) :
    ((cfg0.win 2).blk t).view.read (Elt Ideal) X (ix2 k d) = X (ix2 (unit (pt t) k) d) := by
  rw [View.read_apply]
  have e := index2 t
  refine congrArg X (funext fun a => Fin.ext ?_)
  match a with
  | ⟨0, _⟩ => show win0_2.index t 0 * 704 + 1 * _ = _; rw [e]; show t.val * 704 + 1 * k.val = 704 * t.val + k.val; omega
  | ⟨1, _⟩ => show win0_2.index t 1 * 1024 + 1 * _ = _; rw [e]; show 0 * 1024 + 1 * d.val = d.val; omega

theorem blk0 (t : Fin cfg0.N) (n : Fin 4096) (k : Fin 704) : iblk m c 0 t (ix2 n k) = a0 m c (ix2 (rowOf (pt t) n) k) := read0 (a0 m c) t n k
theorem blk1 (t : Fin cfg0.N) (n : Fin 4096) (d : Fin 1024) : iblk m c 1 t (ix2 n d) = a1 m c (ix2 n d) := read1 (a1 m c) t n d

/-- What a grid point writes back is its block of the gradient. -/
theorem flush2 (t : Fin cfg0.N) (hf : (cfg0.win 2).flush t = true) :
    (dats m 0 c).flushed 2 t = ((cfg0.win 2).blk t).view.read (Elt Ideal) (dw (b0 m c) (b1 m c)) := by
  rw [flushed2_A]
  funext x
  obtain ⟨k, d, rfl⟩ : ∃ (k : Fin 704) (d : Fin 1024), x = ix2 k d := ⟨x 0, x 1, funext fun k => by fin_cases k <;> rfl⟩
  refine Eq.trans ?_ (read2 (dw (b0 m c) (b1 m c)) t k d).symm
  refine (block_at c _ _ _ _ _ _ _ _ _ _ _ _ (iblk m c 0 t) (iblk m c 1 t) k d).trans ?_
  exact Finset.sum_congr rfl fun n _ => congrArg₂ (· * ·) ((blk0 m c t n k).trans (a0_at m c (pt t) n k)) ((blk1 m c t n d).trans (congrFun (a1_eq m c) _))

/-- What the result array holds in the end. -/
theorem final2 : (dats m 0 c).arrAt 2 cfg0.N = dw (b0 m c) (b1 m c) :=
  (dats m 0 c).arrAt_eq_of_cover 2 (dw (b0 m c) (b1 m c)) (flush2 m c) fun (x : S2816x1024.Idx) => by
    have hN : cfg0.N = 4 := N_0
    have h0 : (x 0 : ℕ) < 2816 := (x 0).isLt
    have h1 : (x 1 : ℕ) < 1024 := (x 1).isLt
    obtain ⟨t, ht⟩ : ∃ t : Fin cfg0.N, t.val = (x 0 : ℕ) / 704 := ⟨⟨_, by omega⟩, rfl⟩
    refine ⟨t, flush0_2 t, ?_⟩
    show x ∈ ((View.whole main_v3).slice (win0_2.rect t)).set
    rw [View.set_slice_whole, Rect.mem_set_unit]
    have e := index2 t
    intro a
    match a with
    | ⟨0, _⟩ => show win0_2.index t 0 * 704 ≤ (x 0 : ℕ) ∧ (x 0 : ℕ) < win0_2.index t 0 * 704 + 704; rw [e]; show t.val * 704 ≤ (x 0 : ℕ) ∧ (x 0 : ℕ) < t.val * 704 + 704; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.DownWeightRefIdeal.Read

/-- The reference's gradient. -/
theorem ref_eq (x0 : Vec Ideal S4096x2816 .bf16) (x1 : Tokens) : val_main_v5 (F := Ideal) x0 x1 = dw x0 x1 := by
  funext x
  obtain ⟨q, d, rfl⟩ : ∃ (q : Fin 2816) (d : Fin 1024), x = ix2 q d := ⟨_, _, eq_ix2 x⟩
  refine Eq.trans (b := val_main_v3 (F := Ideal) x0 x1 (ix2 d q)) (by pointwise [val_main_v5, val_main_v4]) ?_
  rw [val_main_v3_apply]
  refine Finset.sum_congr rfl fun n _ => (mul_comm _ _).trans (congrArg₂ (· * ·) ?_ (congrArg x1 (funext fun a => by fin_cases a <;> rfl)))
  exact congrArg x0 (funext fun a => by fin_cases a <;> rfl)

end Ref

/-- The reference's run leaves its arguments as they were and every counter at zero. -/
theorem reference_frame : Cert.quiescent_DownWeightRefIdeal := fun m g _ =>
  (θ_run _ _ _).mono (fun r h => ⟨fun c => (h c).2, sem_eq_zero_of_no_sems (by decide) r.2⟩) (Cert.DownWeightRefIdeal.Value.run (F := Ideal) m g)

/-- From equal arguments the two programs end with equal gradients. -/
theorem same_gradient : Cert.algebraic_DownWeightIdeal_DownWeightRefIdeal := by
  intro m g m' g' _ hag
  refine ⟨_, Cert.DownWeightIdeal.Value.run_blocks m g, (θ_run _ _ _).mono (fun r h c => ?_) (Cert.DownWeightRefIdeal.Value.run (F := Ideal) m' g')⟩
  obtain ⟨r0, k⟩ := h c
  obtain ⟨e0, e1⟩ := hag c
  refine ⟨r0.trans ?_, k⟩
  rw [Cert.DownWeightRefIdeal.Read.val_main_v5_eq, e0, e1]
  exact (ref_eq _ _).trans (final2 m c).symm

end Cert.DownWeightIdeal.Own

end
-- ==== Proof.GateWeight.lean ====
/- The gradient of one of the network's two first weights: what the kernel's result array holds, each part of the hidden
   units a block of rows, and that it is the reference's product, arranged the same way. -/
module

public import proofs.«01_k».proof.Proof.Gen.GateWeightIdeal.Value
public import proofs.«01_k».proof.Proof.Gen.GateWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.GateWeightIdeal.Own

open Cert.GateWeightIdeal Cert.GateWeightIdeal.Gen Cert.GateWeightIdeal.Value Cert.Parts
open Idealize.ShloMosaic Idealize.ShloMosaic.TcCoe Idealize.ShloMosaic.Tactic Idealize.SL.Sem Idealize.ShloMosaic.StableHlo

/-- The network's argument. -/
abbrev Tokens := Vec Ideal S4096x1024 .bf16
/-- A gradient of the hidden units of all tokens. -/
abbrev Wide := Vec Ideal S4096x2816 .bf16
/-- The same, the parts one after the other. -/
abbrev Rows := Vec Ideal S16384x704 .bf16
/-- The gradient of the weight, the parts one after the other. -/
abbrev Weight := Vec Ideal S4096x704 .bf16

/-- The product over the tokens of the argument and the gradient. -/
def dw (h : Tokens) (y : Wide) : (⟨2, ![1024, 2816]⟩ : Shape).Idx → EReal := fun x => (∑ n, h (ix2 n (x 0)) * y (ix2 n (x 1)) : EReal)

section Point

variable (c : Dev nD) (i : grid0.Coords) (arg3 : Memref sig .tc .vmem S4096x1024 .bf16) (harg3 : arg3.IsWhole) (arg4 : Memref sig .tc .vmem S4096x704 .bf16) (harg4 : arg4.IsWhole)
  (arg5 : Memref sig .tc .vmem S1024x704 .bf16) (harg5 : arg5.IsWhole) (arg6 : Memref sig .tc .vmem S1024x704 .f32) (harg6 : arg6.IsWhole)
  (hc0 : cond0_0 i) (hc1 : ¬cond0_1 i) (hc2 : cond0_2 i) (x0 : Tokens) (x1 : Vec Ideal S4096x704 .bf16)

/-- The block of the result that a grid point computes. -/
theorem block_at (d : Fin 1024) (k : Fin 704) :
    out0_A_2 c i arg3 harg3 arg4 harg4 arg5 harg5 arg6 harg6 hc0 hc1 hc2 x0 x1 (ix2 d k) = (∑ n, x0 (ix2 n d) * x1 (ix2 n k) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- A grid point's part of the hidden units. -/
def pt (t : Fin cfg0.N) : Fin 4 := ⟨t.val, by have := t.isLt; have : cfg0.N = 4 := N_0; omega⟩

theorem index0 : ∀ t : Fin cfg0.N, win0_0.index t = ![0, 0] := (by decide +kernel : ∀ t : Fin grid0.N, win0_0.index t = ![0, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])

/-- The network's argument, as the call finds it. -/
def a0 : Tokens := V m c main_arg0
/-- The gradient of the hidden units, as the call finds it. -/
def a1 : Rows := V m c main_v2
/-- The network's argument as the program's argument. -/
def b0 : Tokens := m ((c.tc : Thread nD τ).loc main_arg0)
/-- The gradient of the hidden units as the program's argument. -/
def b1 : Wide := m ((c.tc : Thread nD τ).loc main_arg1)

theorem a0_eq : a0 m c = b0 m c := V_main_arg0 m c

/-- The array of the parts, as the call finds it, holds the argument's element of the same token and unit. -/
theorem a1_at (j : Fin 4) (n : Fin 4096) (k : Fin 704) : a1 m c (ix2 (rowOf j n) k) = b1 m c (ix2 n (unit j k)) := by
  have e : a1 m c = shapeCast S16384x704 (transpose S4x4096x704 [1, 0, 2] (shapeCast S4096x4x704 (b1 m c)
      shapeCasts_S4096x2816_S4096x4x704) transposes_S4096x4x704_S4x4096x704_1_0_2) shapeCasts_S4x4096x704_S16384x704 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact blocks_at (b1 m c) j n k

/-- Window 0's block is the whole array. -/
theorem read0 (X : Tokens) (t : Fin cfg0.N) (n : Fin 4096) (d : Fin 1024) :
    ((cfg0.win 0).blk t).view.read (Elt Ideal) X (ix2 n d) = X (ix2 n d) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 1024 + 1 * _ = _; rw [e]; show 0 * 1024 + 1 * d.val = d.val; omega

/-- Window 1's block of an array, at an index. -/
theorem read1 (X : Rows) (t : Fin cfg0.N) (n : Fin 4096) (k : Fin 704) :
    ((cfg0.win 1).blk t).view.read (Elt Ideal) X (ix2 n k) = X (ix2 (rowOf (pt t) n) k) := by
  rw [View.read_apply]
  have e := index1 t
  refine congrArg X (funext fun a => Fin.ext ?_)
  match a with
  | ⟨0, _⟩ => show win0_1.index t 0 * 4096 + 1 * _ = _; rw [e]; show t.val * 4096 + 1 * n.val = 4096 * t.val + n.val; omega
  | ⟨1, _⟩ => show win0_1.index t 1 * 704 + 1 * _ = _; rw [e]; show 0 * 704 + 1 * k.val = k.val; omega

/-- Window 2's block of an array, at an index. -/
theorem read2 (X : Weight) (t : Fin cfg0.N) (d : Fin 1024) (k : Fin 704) :
    ((cfg0.win 2).blk t).view.read (Elt Ideal) X (ix2 d k) = X (ix2 (wrow (pt t) d) k) := by
  rw [View.read_apply]
  have e := index2 t
  refine congrArg X (funext fun a => Fin.ext ?_)
  match a with
  | ⟨0, _⟩ => show win0_2.index t 0 * 1024 + 1 * _ = _; rw [e]; show t.val * 1024 + 1 * d.val = 1024 * t.val + d.val; omega
  | ⟨1, _⟩ => show win0_2.index t 1 * 704 + 1 * _ = _; rw [e]; show 0 * 704 + 1 * k.val = k.val; omega

theorem blk0 (t : Fin cfg0.N) (n : Fin 4096) (d : Fin 1024) : iblk m c 0 t (ix2 n d) = a0 m c (ix2 n d) := read0 (a0 m c) t n d
theorem blk1 (t : Fin cfg0.N) (n : Fin 4096) (k : Fin 704) : iblk m c 1 t (ix2 n k) = a1 m c (ix2 (rowOf (pt t) n) k) := read1 (a1 m c) t n k

/-- What a grid point writes back is its block of the gradient. -/
theorem flush2 (t : Fin cfg0.N) (hf : (cfg0.win 2).flush t = true) :
    (dats m 0 c).flushed 2 t = ((cfg0.win 2).blk t).view.read (Elt Ideal) (wstacked (dw (b0 m c) (b1 m c)) : Weight) := by
  rw [flushed2_A]
  funext x
  obtain ⟨d, k, rfl⟩ : ∃ (d : Fin 1024) (k : Fin 704), x = ix2 d k := ⟨x 0, x 1, funext fun k => by fin_cases k <;> rfl⟩
  refine Eq.trans ?_ ((read2 (wstacked (dw (b0 m c) (b1 m c)) : Weight) t d k).trans (wstacked_at _ _ _ _)).symm
  refine (block_at c _ _ _ _ _ _ _ _ _ _ _ _ (iblk m c 0 t) (iblk m c 1 t) d k).trans ?_
  exact Finset.sum_congr rfl fun n _ => congrArg₂ (· * ·) ((blk0 m c t n d).trans (congrFun (a0_eq m c) _)) ((blk1 m c t n k).trans (a1_at m c (pt t) n k))

/-- What the result array holds in the end. -/
theorem final2 : (dats m 0 c).arrAt 2 cfg0.N = (wstacked (dw (b0 m c) (b1 m c)) : Weight) :=
  (dats m 0 c).arrAt_eq_of_cover 2 ((wstacked (dw (b0 m c) (b1 m c)) : Weight)) (flush2 m c) fun (x : S4096x704.Idx) => by
    have hN : cfg0.N = 4 := N_0
    have h0 : (x 0 : ℕ) < 4096 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v3).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 704 ≤ (x 1 : ℕ) ∧ (x 1 : ℕ) < win0_2.index t 1 * 704 + 704; rw [e]; show 0 * 704 ≤ (x 1 : ℕ) ∧ (x 1 : ℕ) < 0 * 704 + 704; omega

end Run

section Ref

open Cert.GateWeightRefIdeal.Read

/-- The reference's product. -/
theorem ref_dw (x0 : Tokens) (x1 : Wide) : val_main_v5 (F := Ideal) x0 x1 = dw x0 x1 := by
  funext x
  obtain ⟨d, q, rfl⟩ : ∃ (d : Fin 1024) (q : Fin 2816), x = ix2 d q := ⟨_, _, eq_ix2 x⟩
  refine Eq.trans (b := val_main_v4 (F := Ideal) x0 x1 (ix2 q d)) (by pointwise [val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

/-- The reference's gradient. -/
theorem ref_eq (x0 : Tokens) (x1 : Wide) : val_main_v9 (F := Ideal) x0 x1 = (wstacked (dw x0 x1) : Weight) :=
  (wblocks_eq (val_main_v5 (F := Ideal) x0 x1)).trans (congrArg wstacked (ref_dw x0 x1))

end Ref

/-- The reference's run leaves its arguments as they were and every counter at zero. -/
theorem reference_frame : Cert.quiescent_GateWeightRefIdeal := fun m g _ =>
  (θ_run _ _ _).mono (fun r h => ⟨fun c => (h c).2, sem_eq_zero_of_no_sems (by decide) r.2⟩) (Cert.GateWeightRefIdeal.Value.run (F := Ideal) m g)

/-- From equal arguments the two programs end with equal gradients. -/
theorem same_gradient : Cert.algebraic_GateWeightIdeal_GateWeightRefIdeal := by
  intro m g m' g' _ hag
  refine ⟨_, Cert.GateWeightIdeal.Value.run_blocks m g, (θ_run _ _ _).mono (fun r h c => ?_) (Cert.GateWeightRefIdeal.Value.run (F := Ideal) m' g')⟩
  obtain ⟨r0, k⟩ := h c
  obtain ⟨e0, e1⟩ := hag c
  refine ⟨r0.trans ?_, k⟩
  rw [Cert.GateWeightRefIdeal.Read.val_main_v9_eq, e0, e1]
  exact (ref_eq _ _).trans (final2 m c).symm

end Cert.GateWeightIdeal.Own

end
-- ==== Proof.GateUp.lean ====
/- The network's hidden units: what the kernel's three result arrays hold, each part of the hidden units a block of
   rows, and that they are the reference's gate, other hidden value and gated product, arranged the same way. -/
module

public import proofs.«01_k».proof.Proof.Gen.GateUpIdeal.Value
public import proofs.«01_k».proof.Proof.Gen.GateUpRefIdeal.Read
public import proofs.«01_k».proof.Proof.Parts
public import proofs.«01_k».proof.Proof.Reals
public import Idealize.ShloMosaic.Lib.StableHlo.RunRead
public import Idealize.ShloMosaic.Lib.Pointwise
public import proofs.«01_k».proof.Defs

@[expose] public section

set_option maxRecDepth 16384

noncomputable section

namespace Cert.GateUpIdeal.Own

open Cert.GateUpIdeal Cert.GateUpIdeal.Gen Cert.GateUpIdeal.Value Cert.Parts
open Idealize.ShloMosaic Idealize.ShloMosaic.TcCoe Idealize.ShloMosaic.Tactic Idealize.SL.Sem Idealize.ShloMosaic.StableHlo

/-- The network's argument. -/
abbrev Tokens := Vec Ideal S4096x1024 .bf16
/-- Both first weights side by side. -/
abbrev Weights := Vec Ideal S1024x5632 .f32
/-- The weights' shards one after the other. -/
abbrev Shards := Vec Ideal S8192x704 .bf16
/-- A hidden value of all tokens, the parts one after the other. -/
abbrev Rows := Vec Ideal S16384x704 .f32
/-- The gated product of all tokens, the parts one after the other. -/
abbrev Half := Vec Ideal S16384x704 .bf16
/-- The shape of a hidden value of all tokens. -/
abbrev SW : Shape := ⟨2, ![4096, 2816]⟩

/-- A hidden value: the product with the weights' columns `e`. -/
def hid (e : Fin 2816 → Fin 5632) (h : Tokens) (w : Weights) : SW.Idx → EReal := fun x => ∑ d, h (ix2 (x 0) d) * w (ix2 d (e (x 1)))

/-- The gated product. -/
def act (h : Tokens) (w : Weights) : SW.Idx → EReal := fun x => hid left h w x * logistic (hid left h w x) * hid right h w x

section Point

variable (x0 : Vec Ideal S1024x1024 .bf16) (x1 x2 : Vec Ideal S1024x704 .bf16) (r : Fin 1024) (k : Fin 704)

theorem block3 : out0_3 (F := Ideal) x0 x1 x2 (ix2 r k) = (∑ d, x0 (ix2 r d) * x1 (ix2 d k) : EReal) := by
  unfold out0_3
  rw [View.canon_unit_zero (by decide)]
  pointwise [k0_pay1]

theorem block4 : out0_4 (F := Ideal) x0 x1 x2 (ix2 r k) = (∑ d, x0 (ix2 r d) * x2 (ix2 d k) : EReal) := by
  unfold out0_4
  rw [View.canon_unit_zero (by decide)]
  pointwise [k0_pay2]

theorem block5 : out0_5 (F := Ideal) x0 x1 x2 (ix2 r k)
    = ((∑ d, x0 (ix2 r d) * x1 (ix2 d k)) * logistic (∑ d, x0 (ix2 r d) * x1 (ix2 d k)) * ∑ d, x0 (ix2 r d) * x2 (ix2 d k) : EReal) := by
  unfold out0_5
  rw [View.canon_unit_zero (by decide)]
  pointwise [k0_pay3, k0_pay1, k0_pay2]
  exact congrArg₂ (· * ·) (gated_eq _) rfl

end Point

section Run

variable (m : (ℓ : Loc nD τ sig) → Buf (Elt Ideal) ℓ) (c : Dev nD)

/-- A grid point's part of the hidden units. -/
def pt (t : Fin cfg0.N) : Fin 4 := ⟨t.val / 4, by have := t.isLt; have : cfg0.N = 16 := N_0; omega⟩

/-- Row `r` of a grid point's block of tokens, among all the tokens. -/
def tok (t : Fin cfg0.N) (r : Fin 1024) : Fin 4096 := ⟨1024 * (t.val % 4) + r.val, by omega⟩

theorem index0 : ∀ t : Fin cfg0.N, win0_0.index t = ![t.val % 4, 0] := (by decide +kernel : ∀ t : Fin grid0.N, win0_0.index t = ![t.val % 4, 0])
theorem index1 : ∀ t : Fin cfg0.N, win0_1.index t = ![t.val / 4, 0] := (by decide +kernel : ∀ t : Fin grid0.N, win0_1.index t = ![t.val / 4, 0])
theorem index2 : ∀ t : Fin cfg0.N, win0_2.index t = ![(t.val / 4 + 4), 0] := (by decide +kernel : ∀ t : Fin grid0.N, win0_2.index t = ![(t.val / 4 + 4), 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

/-- The network's argument, as the call finds it. -/
def a0 : Tokens := V m c main_arg0
/-- The weights' shards, as the call finds them. -/
def a1 : Shards := V m c main_v3
/-- The network's argument as the program's argument. -/
def b0 : Tokens := m ((c.tc : Thread nD τ).loc main_arg0)
/-- The weights as the program's argument. -/
def b1 : Weights := m ((c.tc : Thread nD τ).loc main_arg1)

theorem a0_eq : a0 m c = b0 m c := V_main_arg0 m c

theorem a1_at (s : Fin 8) (d : Fin 1024) (k : Fin 704) : a1 m c (ix2 (srow s d) k) = b1 m c (ix2 d (col s k)) := by
  have e : a1 m c = shapeCast S8192x704 (truncf (F := Ideal) (φ := .f32) .bf16 (transpose S8x1024x704 [1, 0, 2] (shapeCast S1024x8x704 (b1 m c)
      shapeCasts_S1024x5632_S1024x8x704) transposes_S1024x8x704_S8x1024x704_1_0_2) bitsLt_bf16_f32) shapeCasts_S8x1024x704_S8192x704 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  refine (srows_at _ s d k).trans ?_
  exact shards_at (b1 m c) s d k

/-- Window 0's block of an array, at an index. -/
theorem read0 (X : Tokens) (t : Fin cfg0.N) (r : Fin 1024) (d : Fin 1024) :
    ((cfg0.win 0).blk t).view.read (Elt Ideal) X (ix2 r d) = X (ix2 (tok t r) d) := by
  rw [View.read_apply]
  have e := index0 t
  refine congrArg X (funext fun a => Fin.ext ?_)
  match a with
  | ⟨0, _⟩ => show win0_0.index t 0 * 1024 + 1 * _ = _; rw [e]; show t.val % 4 * 1024 + 1 * r.val = 1024 * (t.val % 4) + r.val; omega
  | ⟨1, _⟩ => show win0_0.index t 1 * 1024 + 1 * _ = _; rw [e]; show 0 * 1024 + 1 * d.val = d.val; omega

/-- Window 1's block of an array, at an index. -/
theorem read1 (X : Shards) (t : Fin cfg0.N) (d : Fin 1024) (k : Fin 704) :
    ((cfg0.win 1).blk t).view.read (Elt Ideal) X (ix2 d k) = X (ix2 (srow (lo (pt t)) d) k) := by
  rw [View.read_apply]
  have e := index1 t
  refine congrArg X (funext fun a => Fin.ext ?_)
  match a with
  | ⟨0, _⟩ => show win0_1.index t 0 * 1024 + 1 * _ = _; rw [e]; show t.val / 4 * 1024 + 1 * d.val = 1024 * (t.val / 4) + d.val; omega
  | ⟨1, _⟩ => show win0_1.index t 1 * 704 + 1 * _ = _; rw [e]; show 0 * 704 + 1 * k.val = k.val; omega

/-- Window 2's block of an array, at an index. -/
theorem read2 (X : Shards) (t : Fin cfg0.N) (d : Fin 1024) (k : Fin 704) :
    ((cfg0.win 2).blk t).view.read (Elt Ideal) X (ix2 d k) = X (ix2 (srow (hi (pt t)) d) k) := by
  rw [View.read_apply]
  have e := index2 t
  refine congrArg X (funext fun a => Fin.ext ?_)
  match a with
  | ⟨0, _⟩ => show win0_2.index t 0 * 1024 + 1 * _ = _; rw [e]; show (t.val / 4 + 4) * 1024 + 1 * d.val = 1024 * (4 + t.val / 4) + d.val; omega
  | ⟨1, _⟩ => show win0_2.index t 1 * 704 + 1 * _ = _; rw [e]; show 0 * 704 + 1 * k.val = k.val; omega

/-- Window 3's block of an array, at an index. -/
theorem read3 (X : Rows) (t : Fin cfg0.N) (r : Fin 1024) (k : Fin 704) :
    ((cfg0.win 3).blk t).view.read (Elt Ideal) X (ix2 r k) = X (ix2 (rowOf (pt t) (tok t r)) k) := by
  rw [View.read_apply]
  have e := index3 t
  refine congrArg X (funext fun a => Fin.ext ?_)
  match a with
  | ⟨0, _⟩ => show win0_3.index t 0 * 1024 + 1 * _ = _; rw [e]; show t.val * 1024 + 1 * r.val = 4096 * (t.val / 4) + (1024 * (t.val % 4) + r.val); omega
  | ⟨1, _⟩ => show win0_3.index t 1 * 704 + 1 * _ = _; rw [e]; show 0 * 704 + 1 * k.val = k.val; omega

/-- Window 4's block of an array, at an index. -/
theorem read4 (X : Rows) (t : Fin cfg0.N) (r : Fin 1024) (k : Fin 704) :
    ((cfg0.win 4).blk t).view.read (Elt Ideal) X (ix2 r k) = X (ix2 (rowOf (pt t) (tok t r)) k) := by
  rw [View.read_apply]
  have e := index4 t
  refine congrArg X (funext fun a => Fin.ext ?_)
  match a with
  | ⟨0, _⟩ => show win0_4.index t 0 * 1024 + 1 * _ = _; rw [e]; show t.val * 1024 + 1 * r.val = 4096 * (t.val / 4) + (1024 * (t.val % 4) + r.val); omega
  | ⟨1, _⟩ => show win0_4.index t 1 * 704 + 1 * _ = _; rw [e]; show 0 * 704 + 1 * k.val = k.val; omega

/-- Window 5's block of an array, at an index. -/
theorem read5 (X : Half) (t : Fin cfg0.N) (r : Fin 1024) (k : Fin 704) :
    ((cfg0.win 5).blk t).view.read (Elt Ideal) X (ix2 r k) = X (ix2 (rowOf (pt t) (tok t r)) k) := by
  rw [View.read_apply]
  have e := index5 t
  refine congrArg X (funext fun a => Fin.ext ?_)
  match a with
  | ⟨0, _⟩ => show win0_5.index t 0 * 1024 + 1 * _ = _; rw [e]; show t.val * 1024 + 1 * r.val = 4096 * (t.val / 4) + (1024 * (t.val % 4) + r.val); omega
  | ⟨1, _⟩ => show win0_5.index t 1 * 704 + 1 * _ = _; rw [e]; show 0 * 704 + 1 * k.val = k.val; omega

theorem blk0 (t : Fin cfg0.N) (r : Fin 1024) (d : Fin 1024) : iblk m c 0 t (ix2 r d) = a0 m c (ix2 (tok t r) d) := read0 (a0 m c) t r d
theorem blk1 (t : Fin cfg0.N) (d : Fin 1024) (k : Fin 704) : iblk m c 1 t (ix2 d k) = b1 m c (ix2 d (left (unit (pt t) k))) :=
  (read1 (a1 m c) t d k).trans (a1_at m c _ d k)
theorem blk2 (t : Fin cfg0.N) (d : Fin 1024) (k : Fin 704) : iblk m c 2 t (ix2 d k) = b1 m c (ix2 d (right (unit (pt t) k))) :=
  ((read2 (a1 m c) t d k).trans (a1_at m c _ d k)).trans (congrArg (fun q => b1 m c (ix2 d q)) (col_hi _ _))

/-- A grid point's block of a hidden value. -/
theorem hid_block (e : Fin 2816 → Fin 5632) (t : Fin cfg0.N) (r : Fin 1024) (k : Fin 704) (x0 : Vec Ideal S1024x1024 .bf16) (x1 : Vec Ideal S1024x704 .bf16)
    (h0 : ∀ d, x0 (ix2 r d) = b0 m c (ix2 (tok t r) d)) (h1 : ∀ d, x1 (ix2 d k) = b1 m c (ix2 d (e (unit (pt t) k)))) :
    (∑ d, x0 (ix2 r d) * x1 (ix2 d k) : EReal) = hid e (b0 m c) (b1 m c) (ix2 (tok t r) (unit (pt t) k)) :=
  Finset.sum_congr rfl fun d _ => congrArg₂ (· * ·) (h0 d) (h1 d)

theorem gate_block (t : Fin cfg0.N) (r : Fin 1024) (k : Fin 704) (x0 : Vec Ideal S1024x1024 .bf16) (x1 : Vec Ideal S1024x704 .bf16)
    (h0 : x0 = iblk m c 0 t) (h1 : x1 = iblk m c 1 t) :
    (∑ d, x0 (ix2 r d) * x1 (ix2 d k) : EReal) = hid left (b0 m c) (b1 m c) (ix2 (tok t r) (unit (pt t) k)) := by
  subst h0 h1
  exact hid_block m c left t r k _ _ (fun d => (blk0 m c t r d).trans (congrFun (a0_eq m c) _)) (fun d => blk1 m c t d k)

theorem up_block (t : Fin cfg0.N) (r : Fin 1024) (k : Fin 704) (x0 : Vec Ideal S1024x1024 .bf16) (x1 : Vec Ideal S1024x704 .bf16)
    (h0 : x0 = iblk m c 0 t) (h1 : x1 = iblk m c 2 t) :
    (∑ d, x0 (ix2 r d) * x1 (ix2 d k) : EReal) = hid right (b0 m c) (b1 m c) (ix2 (tok t r) (unit (pt t) k)) := by
  subst h0 h1
  exact hid_block m c right t r k _ _ (fun d => (blk0 m c t r d).trans (congrFun (a0_eq m c) _)) (fun d => blk2 m c t d k)

/-- What a grid point writes back to window 3's array is its block of the result. -/
theorem flush3 (t : Fin cfg0.N) (hf : (cfg0.win 3).flush t = true) :
    (dats m 0 c).flushed 3 t = ((cfg0.win 3).blk t).view.read (Elt Ideal) (stacked (hid left (b0 m c) (b1 m c)) : Rows) := by
  rw [flushed3]
  funext x
  obtain ⟨r, k, rfl⟩ : ∃ (r : Fin 1024) (k : Fin 704), x = ix2 r k := ⟨x 0, x 1, funext fun k => by fin_cases k <;> rfl⟩
  refine Eq.trans ?_ ((read3 (stacked (hid left (b0 m c) (b1 m c)) : Rows) t r k).trans (stacked_at _ _ _ _)).symm
  refine (block3 (iblk m c 0 t) (iblk m c 1 t) (iblk m c 2 t) r k).trans ?_
  exact gate_block m c t r k (iblk m c 0 t) (iblk m c 1 t) rfl rfl

/-- What window 3's array holds in the end. -/
theorem final3 : (dats m 0 c).arrAt 3 cfg0.N = (stacked (hid left (b0 m c) (b1 m c)) : Rows) :=
  (dats m 0 c).arrAt_eq_of_cover 3 ((stacked (hid left (b0 m c) (b1 m c)) : Rows)) (flush3 m c) fun (x : S16384x704.Idx) => by
    have hN : cfg0.N = 16 := N_0
    have h0 : (x 0 : ℕ) < 16384 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_3 t, ?_⟩
    show x ∈ ((View.whole main_v4_0).slice (win0_3.rect t)).set
    rw [View.set_slice_whole, Rect.mem_set_unit]
    have e := index3 t
    intro a
    match a with
    | ⟨0, _⟩ => show win0_3.index t 0 * 1024 ≤ (x 0 : ℕ) ∧ (x 0 : ℕ) < win0_3.index t 0 * 1024 + 1024; rw [e]; show t.val * 1024 ≤ (x 0 : ℕ) ∧ (x 0 : ℕ) < t.val * 1024 + 1024; omega
    | ⟨1, _⟩ => show win0_3.index t 1 * 704 ≤ (x 1 : ℕ) ∧ (x 1 : ℕ) < win0_3.index t 1 * 704 + 704; rw [e]; show 0 * 704 ≤ (x 1 : ℕ) ∧ (x 1 : ℕ) < 0 * 704 + 704; omega

/-- What a grid point writes back to window 4's array is its block of the result. -/
theorem flush4 (t : Fin cfg0.N) (hf : (cfg0.win 4).flush t = true) :
    (dats m 0 c).flushed 4 t = ((cfg0.win 4).blk t).view.read (Elt Ideal) (stacked (hid right (b0 m c) (b1 m c)) : Rows) := by
  rw [flushed4]
  funext x
  obtain ⟨r, k, rfl⟩ : ∃ (r : Fin 1024) (k : Fin 704), x = ix2 r k := ⟨x 0, x 1, funext fun k => by fin_cases k <;> rfl⟩
  refine Eq.trans ?_ ((read4 (stacked (hid right (b0 m c) (b1 m c)) : Rows) t r k).trans (stacked_at _ _ _ _)).symm
  refine (block4 (iblk m c 0 t) (iblk m c 1 t) (iblk m c 2 t) r k).trans ?_
  exact up_block m c t r k (iblk m c 0 t) (iblk m c 2 t) rfl rfl

/-- What window 4's array holds in the end. -/
theorem final4 : (dats m 0 c).arrAt 4 cfg0.N = (stacked (hid right (b0 m c) (b1 m c)) : Rows) :=
  (dats m 0 c).arrAt_eq_of_cover 4 ((stacked (hid right (b0 m c) (b1 m c)) : Rows)) (flush4 m c) fun (x : S16384x704.Idx) => by
    have hN : cfg0.N = 16 := N_0
    have h0 : (x 0 : ℕ) < 16384 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_4 t, ?_⟩
    show x ∈ ((View.whole main_v4_1).slice (win0_4.rect t)).set
    rw [View.set_slice_whole, Rect.mem_set_unit]
    have e := index4 t
    intro a
    match a with
    | ⟨0, _⟩ => show win0_4.index t 0 * 1024 ≤ (x 0 : ℕ) ∧ (x 0 : ℕ) < win0_4.index t 0 * 1024 + 1024; rw [e]; show t.val * 1024 ≤ (x 0 : ℕ) ∧ (x 0 : ℕ) < t.val * 1024 + 1024; omega
    | ⟨1, _⟩ => show win0_4.index t 1 * 704 ≤ (x 1 : ℕ) ∧ (x 1 : ℕ) < win0_4.index t 1 * 704 + 704; rw [e]; show 0 * 704 ≤ (x 1 : ℕ) ∧ (x 1 : ℕ) < 0 * 704 + 704; omega

/-- What a grid point writes back to window 5's array is its block of the result. -/
theorem flush5 (t : Fin cfg0.N) (hf : (cfg0.win 5).flush t = true) :
    (dats m 0 c).flushed 5 t = ((cfg0.win 5).blk t).view.read (Elt Ideal) (stacked (act (b0 m c) (b1 m c)) : Half) := by
  rw [flushed5]
  funext x
  obtain ⟨r, k, rfl⟩ : ∃ (r : Fin 1024) (k : Fin 704), x = ix2 r k := ⟨x 0, x 1, funext fun k => by fin_cases k <;> rfl⟩
  refine Eq.trans ?_ ((read5 (stacked (act (b0 m c) (b1 m c)) : Half) t r k).trans (stacked_at _ _ _ _)).symm
  refine (block5 (iblk m c 0 t) (iblk m c 1 t) (iblk m c 2 t) r k).trans ?_
  rw [gate_block m c t r k (iblk m c 0 t) (iblk m c 1 t) rfl rfl, up_block m c t r k (iblk m c 0 t) (iblk m c 2 t) rfl rfl]
  rfl

/-- What window 5's array holds in the end. -/
theorem final5 : (dats m 0 c).arrAt 5 cfg0.N = (stacked (act (b0 m c) (b1 m c)) : Half) :=
  (dats m 0 c).arrAt_eq_of_cover 5 ((stacked (act (b0 m c) (b1 m c)) : Half)) (flush5 m c) fun (x : S16384x704.Idx) => by
    have hN : cfg0.N = 16 := N_0
    have h0 : (x 0 : ℕ) < 16384 := (x 0).isLt
    have h1 : (x 1 : ℕ) < 704 := (x 1).isLt
    obtain ⟨t, ht⟩ : ∃ t : Fin cfg0.N, t.val = (x 0 : ℕ) / 1024 := ⟨⟨_, by omega⟩, rfl⟩
    refine ⟨t, flush0_5 t, ?_⟩
    show x ∈ ((View.whole main_v4_2).slice (win0_5.rect t)).set
    rw [View.set_slice_whole, Rect.mem_set_unit]
    have e := index5 t
    intro a
    match a with
    | ⟨0, _⟩ => show win0_5.index t 0 * 1024 ≤ (x 0 : ℕ) ∧ (x 0 : ℕ) < win0_5.index t 0 * 1024 + 1024; rw [e]; show t.val * 1024 ≤ (x 0 : ℕ) ∧ (x 0 : ℕ) < t.val * 1024 + 1024; omega
    | ⟨1, _⟩ => show win0_5.index t 1 * 704 ≤ (x 1 : ℕ) ∧ (x 1 : ℕ) < win0_5.index t 1 * 704 + 704; rw [e]; show 0 * 704 ≤ (x 1 : ℕ) ∧ (x 1 : ℕ) < 0 * 704 + 704; omega

end Run

section Ref

open Cert.GateUpRefIdeal.Read

variable (x0 : Tokens) (x1 : Weights)

theorem ref1 (n : Fin 4096) (q : Fin 5632) : val_main_v1 (F := Ideal) x0 x1 (ix2 n q) = (∑ d, x0 (ix2 n d) * x1 (ix2 d q) : EReal) := by
  rw [val_main_v1_apply]
  exact Finset.sum_congr rfl fun d _ => congrArg₂ (· * ·) (congrArg x0 (funext fun a => by fin_cases a <;> rfl)) (congrArg x1 (funext fun a => by fin_cases a <;> rfl))

theorem ref2 (n : Fin 4096) (q : Fin 2816) : val_main_v2 (F := Ideal) x0 x1 (ix2 n q) = hid left x0 x1 (ix2 n q) := by
  rw [val_main_v2_apply]
  exact (congrArg _ (funext fun a => by fin_cases a <;> rfl)).trans (ref1 x0 x1 n (left q))

theorem ref3 (n : Fin 4096) (q : Fin 2816) : val_main_v3 (F := Ideal) x0 x1 (ix2 n q) = hid right x0 x1 (ix2 n q) := by
  rw [val_main_v3_apply]
  exact (congrArg _ (funext fun a => by fin_cases a <;> rfl)).trans (ref1 x0 x1 n (right q))

theorem ref11 (n : Fin 4096) (q : Fin 2816) : val_main_v11 (F := Ideal) x0 x1 (ix2 n q) = act x0 x1 (ix2 n q) := by
  refine Eq.trans (b := val_main_v2 (F := Ideal) x0 x1 (ix2 n q) * logistic (val_main_v2 (F := Ideal) x0 x1 (ix2 n q)) * val_main_v3 (F := Ideal) x0 x1 (ix2 n q)) ?_ ?_
  · pointwise [val_main_v11, val_main_v10, val_main_call0_v5, val_main_call0_v4, val_main_call0_v3, val_main_call0_v2, val_main_call0_v1, val_main_call0_v0, val_main_call0_cst, val_main_call0_cst_0]
    rw [logistic, zero_sub]
  · rw [ref2, ref3]
    rfl

theorem ref6_eq : val_main_v6 (F := Ideal) x0 x1 = (stacked (hid left x0 x1) : Rows) :=
  eq_stacked fun j n k => (blocks_at (val_main_v2 (F := Ideal) x0 x1) j n k).trans (ref2 x0 x1 n (unit j k))

theorem ref9_eq : val_main_v9 (F := Ideal) x0 x1 = (stacked (hid right x0 x1) : Rows) :=
  eq_stacked fun j n k => (blocks_at (val_main_v3 (F := Ideal) x0 x1) j n k).trans (ref3 x0 x1 n (unit j k))

theorem ref15_eq : val_main_v15 (F := Ideal) x0 x1 = (stacked (act x0 x1) : Half) :=
  eq_stacked fun j n k => (blocks_at (val_main_v11 (F := Ideal) x0 x1) j n k).trans (ref11 x0 x1 n (unit j k))

end Ref

/-- The reference's run leaves its arguments as they were and every counter at zero. -/
theorem reference_frame : Cert.quiescent_GateUpRefIdeal := fun m g _ =>
  (θ_run _ _ _).mono (fun r h => ⟨fun c => (h c).2.2.2, sem_eq_zero_of_no_sems (by decide) r.2⟩) (Cert.GateUpRefIdeal.Value.run (F := Ideal) m g)

/-- From equal arguments the two programs end with equal results. -/
theorem same_units : Cert.algebraic_GateUpIdeal_GateUpRefIdeal := by
  intro m g m' g' _ hag
  refine ⟨_, _, _, Cert.GateUpIdeal.Value.run_blocks m g, (θ_run _ _ _).mono (fun r h c => ?_) (Cert.GateUpRefIdeal.Value.run (F := Ideal) m' g')⟩
  obtain ⟨r0, r1, r2, k⟩ := h c
  obtain ⟨e0, e1⟩ := hag c
  refine ⟨r0.trans ?_, r1.trans ?_, r2.trans ?_, k⟩
  · rw [Cert.GateUpRefIdeal.Read.val_main_v6_eq, e0, e1]
    exact (ref6_eq (b0 m c) (b1 m c)).trans (final3 m c).symm
  · rw [Cert.GateUpRefIdeal.Read.val_main_v9_eq, e0, e1]
    exact (ref9_eq (b0 m c) (b1 m c)).trans (final4 m c).symm
  · rw [Cert.GateUpRefIdeal.Read.val_main_v15_eq, e0, e1]
    exact (ref15_eq (b0 m c) (b1 m c)).trans (final5 m c).symm

end Cert.GateUpIdeal.Own

end
-- ==== Proof.Down.lean ====
/- The network's result: what the kernel's result array holds, its sum over the hidden units taken part by part, and
   that it is the reference's. -/
module

public import proofs.«01_k».proof.Proof.Gen.DownIdeal.Value
public import proofs.«01_k».proof.Proof.Gen.DownRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.DownIdeal.Own

open Cert.DownIdeal Cert.DownIdeal.Gen Cert.DownIdeal.Value Cert.Parts
open Idealize.ShloMosaic Idealize.ShloMosaic.TcCoe Idealize.ShloMosaic.Tactic Idealize.SL.Sem Idealize.ShloMosaic.StableHlo

/-- Tokens of the network's width. -/
abbrev Tokens := Vec Ideal S4096x1024 .f32
/-- The hidden units of all tokens. -/
abbrev Wide := Vec Ideal S4096x2816 .bf16
/-- The hidden units of all tokens, cut in parts. -/
abbrev Parts := Vec Ideal S4x4096x704 .bf16
/-- The weight, cut in parts. -/
abbrev WParts := Vec Ideal S4x704x1024 .bf16

/-- The network's argument plus the product of the hidden units and the weight. -/
def down (a : Wide) (w : S2816x1024.Idx → EReal) (x : Tokens) : Tokens := fun i => (x i + ∑ q, a (ix2 (i 0) q) * w (ix2 q (i 1)) : EReal)

/-- The block of the result that a grid point computes. -/
theorem block_at (x0 : Vec Ideal S4x1024x704 .bf16) (x1 : WParts) (x2 : Vec Ideal S1024x1024 .f32) (r d : Fin 1024) :
    out0_3 (F := Ideal) x0 x1 x2 (ix2 r d) = (x2 (ix2 r d) + ∑ j : Fin 4, ∑ k, x0 (ix3 j r k) * x1 (ix3 j k d) : EReal) := by
  unfold out0_3
  rw [View.canon_unit_zero (by decide), Fin.sum_univ_four, ← add_assoc, ← add_assoc, ← add_assoc]
  pointwise [k0_pay1]

section Run

variable (m : (ℓ : Loc nD τ sig) → Buf (Elt Ideal) ℓ) (c : Dev nD)

/-- Row `r` of a grid point's block of tokens, among all the tokens. -/
def tok (t : Fin cfg0.N) (r : Fin 1024) : Fin 4096 := ⟨1024 * t.val + r.val, by have := t.isLt; have : cfg0.N = 4 := N_0; omega⟩

theorem index0 : ∀ t : Fin cfg0.N, win0_0.index t = ![0, t.val, 0] := (by decide +kernel : ∀ t : Fin grid0.N, win0_0.index t = ![0, t.val, 0])
theorem index1 : ∀ t : Fin cfg0.N, win0_1.index t = ![0, 0, 0] := (by decide +kernel : ∀ t : Fin grid0.N, win0_1.index t = ![0, 0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

/-- The hidden units, as the call finds them. -/
def a0 : Parts := V m c main_v4
/-- The weight, as the call finds it. -/
def a1 : WParts := V m c main_v5
/-- The network's argument, as the call finds it. -/
def a2 : Tokens := V m c main_arg2
/-- The hidden units as the program's argument. -/
def b0 : Wide := m ((c.tc : Thread nD τ).loc main_arg0)
/-- The weight as the program's argument. -/
def b1 : Vec Ideal S2816x1024 .f32 := m ((c.tc : Thread nD τ).loc main_arg1)
/-- The network's argument as the program's argument. -/
def b2 : Tokens := m ((c.tc : Thread nD τ).loc main_arg2)

theorem a2_eq : a2 m c = b2 m c := V_main_arg2 m c

theorem a0_at (j : Fin 4) (n : Fin 4096) (k : Fin 704) : a0 m c (ix3 j n k) = b0 m c (ix2 n (unit j k)) := by
  have e : a0 m c = shapeCast S4x4096x704 (shapeCast S16384x704 (transpose S4x4096x704 [1, 0, 2] (shapeCast S4096x4x704 (b0 m c)
      shapeCasts_S4096x2816_S4096x4x704) transposes_S4096x4x704_S4x4096x704_1_0_2) shapeCasts_S4x4096x704_S16384x704) shapeCasts_S16384x704_S4x4096x704 := by
    unfold a0 b0
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact (cut_at _ j n k).trans (blocks_at (b0 m c) j n k)

theorem a1_at (j : Fin 4) (k : Fin 704) (d : Fin 1024) : a1 m c (ix3 j k d) = b1 m c (ix2 (unit j k) d) := by
  have e : a1 m c = shapeCast S4x704x1024 (truncf (F := Ideal) (φ := .f32) .bf16 (b1 m c) bitsLt_bf16_f32) shapeCasts_S2816x1024_S4x704x1024 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  exact wcut_at _ j k d

/-- Window 0's block of an array, at an index. -/
theorem read0 (X : Parts) (t : Fin cfg0.N) (j : Fin 4) (r : Fin 1024) (k : Fin 704) :
    ((cfg0.win 0).blk t).view.read (Elt Ideal) X (ix3 j r k) = X (ix3 j (tok t r) k) := by
  rw [View.read_apply]
  have e := index0 t
  refine congrArg X (funext fun a => Fin.ext ?_)
  match a with
  | ⟨0, _⟩ => show win0_0.index t 0 * 4 + 1 * _ = _; rw [e]; show 0 * 4 + 1 * j.val = j.val; omega
  | ⟨1, _⟩ => show win0_0.index t 1 * 1024 + 1 * _ = _; rw [e]; show t.val * 1024 + 1 * r.val = 1024 * t.val + r.val; omega
  | ⟨2, _⟩ => show win0_0.index t 2 * 704 + 1 * _ = _; rw [e]; show 0 * 704 + 1 * k.val = k.val; omega

/-- Window 1's block is the whole array. -/
theorem read1 (X : WParts) (t : Fin cfg0.N) (j : Fin 4) (k : Fin 704) (d : Fin 1024) :
    ((cfg0.win 1).blk t).view.read (Elt Ideal) X (ix3 j k d) = X (ix3 j k d) := by
  rw [View.read_apply]
  have e := index1 t
  refine congrArg X (funext fun a => Fin.ext ?_)
  match a with
  | ⟨0, _⟩ => show win0_1.index t 0 * 4 + 1 * _ = _; rw [e]; show 0 * 4 + 1 * j.val = j.val; omega
  | ⟨1, _⟩ => show win0_1.index t 1 * 704 + 1 * _ = _; rw [e]; show 0 * 704 + 1 * k.val = k.val; omega
  | ⟨2, _⟩ => show win0_1.index t 2 * 1024 + 1 * _ = _; rw [e]; show 0 * 1024 + 1 * d.val = d.val; omega

/-- Window 2's block of an array, at an index. -/
theorem read2 (X : Tokens) (t : Fin cfg0.N) (r : Fin 1024) (d : Fin 1024) :
    ((cfg0.win 2).blk t).view.read (Elt Ideal) X (ix2 r d) = X (ix2 (tok t r) d) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 1024 + 1 * _ = _; rw [e]; show 0 * 1024 + 1 * d.val = d.val; omega

/-- Window 3's block of an array, at an index. -/
theorem read3 (X : Tokens) (t : Fin cfg0.N) (r : Fin 1024) (d : Fin 1024) :
    ((cfg0.win 3).blk t).view.read (Elt Ideal) X (ix2 r d) = X (ix2 (tok t r) d) := by
  rw [View.read_apply]
  have e := index3 t
  refine congrArg X (funext fun a => Fin.ext ?_)
  match a with
  | ⟨0, _⟩ => show win0_3.index t 0 * 1024 + 1 * _ = _; rw [e]; show t.val * 1024 + 1 * r.val = 1024 * t.val + r.val; omega
  | ⟨1, _⟩ => show win0_3.index t 1 * 1024 + 1 * _ = _; rw [e]; show 0 * 1024 + 1 * d.val = d.val; omega

theorem blk0 (t : Fin cfg0.N) (j : Fin 4) (r : Fin 1024) (k : Fin 704) : iblk m c 0 t (ix3 j r k) = a0 m c (ix3 j (tok t r) k) := read0 (a0 m c) t j r k
theorem blk1 (t : Fin cfg0.N) (j : Fin 4) (k : Fin 704) (d : Fin 1024) : iblk m c 1 t (ix3 j k d) = a1 m c (ix3 j k d) := read1 (a1 m c) t j k d
theorem blk2 (t : Fin cfg0.N) (r : Fin 1024) (d : Fin 1024) : iblk m c 2 t (ix2 r d) = a2 m c (ix2 (tok t r) d) := read2 (a2 m c) t r d

/-- What a grid point writes back is its block of the result. -/
theorem flush3 (t : Fin cfg0.N) (hf : (cfg0.win 3).flush t = true) :
    (dats m 0 c).flushed 3 t = ((cfg0.win 3).blk t).view.read (Elt Ideal) (down (b0 m c) (b1 m c) (b2 m c)) := by
  rw [flushed3]
  funext x
  obtain ⟨r, d, rfl⟩ : ∃ (r : Fin 1024) (d : Fin 1024), x = ix2 r d := ⟨x 0, x 1, funext fun k => by fin_cases k <;> rfl⟩
  refine Eq.trans ?_ (read3 (down (b0 m c) (b1 m c) (b2 m c)) t r d).symm
  refine (block_at (iblk m c 0 t) (iblk m c 1 t) (iblk m c 2 t) r d).trans ?_
  refine congrArg₂ (· + ·) ((blk2 m c t r d).trans (congrFun (a2_eq m c) _)) (Eq.trans ?_ (sum_units _).symm)
  exact Finset.sum_congr rfl fun j _ => Finset.sum_congr rfl fun k _ =>
    congrArg₂ (· * ·) ((blk0 m c t j r k).trans (a0_at m c j _ k)) ((blk1 m c t j k d).trans (a1_at m c j k d))

/-- What the result array holds in the end. -/
theorem final3 : (dats m 0 c).arrAt 3 cfg0.N = down (b0 m c) (b1 m c) (b2 m c) :=
  (dats m 0 c).arrAt_eq_of_cover 3 (down (b0 m c) (b1 m c) (b2 m c)) (flush3 m c) fun (x : S4096x1024.Idx) => by
    have hN : cfg0.N = 4 := N_0
    have h0 : (x 0 : ℕ) < 4096 := (x 0).isLt
    have h1 : (x 1 : ℕ) < 1024 := (x 1).isLt
    obtain ⟨t, ht⟩ : ∃ t : Fin cfg0.N, t.val = (x 0 : ℕ) / 1024 := ⟨⟨_, by omega⟩, rfl⟩
    refine ⟨t, flush0_3 t, ?_⟩
    show x ∈ ((View.whole main_v6).slice (win0_3.rect t)).set
    rw [View.set_slice_whole, Rect.mem_set_unit]
    have e := index3 t
    intro a
    match a with
    | ⟨0, _⟩ => show win0_3.index t 0 * 1024 ≤ (x 0 : ℕ) ∧ (x 0 : ℕ) < win0_3.index t 0 * 1024 + 1024; rw [e]; show t.val * 1024 ≤ (x 0 : ℕ) ∧ (x 0 : ℕ) < t.val * 1024 + 1024; omega
    | ⟨1, _⟩ => show win0_3.index t 1 * 1024 ≤ (x 1 : ℕ) ∧ (x 1 : ℕ) < win0_3.index t 1 * 1024 + 1024; rw [e]; show 0 * 1024 ≤ (x 1 : ℕ) ∧ (x 1 : ℕ) < 0 * 1024 + 1024; omega

end Run

section Ref

open Cert.DownRefIdeal.Read

/-- The reference's result. -/
theorem ref_eq (x0 : Wide) (x1 : Vec Ideal S2816x1024 .f32) (x2 : Tokens) : val_main_v2 (F := Ideal) x0 x1 x2 = down x0 x1 x2 := by
  funext x
  obtain ⟨n, d, rfl⟩ : ∃ (n : Fin 4096) (d : Fin 1024), x = ix2 n d := ⟨_, _, eq_ix2 x⟩
  rw [val_main_v2_apply, val_main_v1_apply]
  refine congrArg₂ (· + ·) rfl ?_
  exact Finset.sum_congr rfl fun q _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_DownRefIdeal := fun m g _ =>
  (θ_run _ _ _).mono (fun r h => ⟨fun c => (h c).2, sem_eq_zero_of_no_sems (by decide) r.2⟩) (Cert.DownRefIdeal.Value.run (F := Ideal) m g)

/-- From equal arguments the two programs end with equal results. -/
theorem same_result : Cert.algebraic_DownIdeal_DownRefIdeal := by
  intro m g m' g' _ hag
  refine ⟨_, Cert.DownIdeal.Value.run_blocks m g, (θ_run _ _ _).mono (fun r h c => ?_) (Cert.DownRefIdeal.Value.run (F := Ideal) m' g')⟩
  obtain ⟨r0, k⟩ := h c
  obtain ⟨e0, e1, e2⟩ := hag c
  refine ⟨r0.trans ?_, k⟩
  rw [Cert.DownRefIdeal.Read.val_main_v2_eq, e0, e1, e2]
  exact (ref_eq _ _ _).trans (final3 m c).symm

end Cert.DownIdeal.Own

end
-- ==== Proof.InGrad.lean ====
/- The gradient that the first projection of a gated DeltaNet hands back: what the kernel's result array holds, a product with the
   transposed weight, its sum over the columns taken in three parts that are carried from one grid point to the next,
   and that it is the reference's. -/
module

public import proofs.«01_k».proof.Proof.Gen.InGradIdeal.Value
public import proofs.«01_k».proof.Proof.Gen.InGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.InGradIdeal.Own

open Cert.InGradIdeal Cert.InGradIdeal.Gen Cert.InGradIdeal.Value Cert.Parts
open Idealize.ShloMosaic Idealize.ShloMosaic.TcCoe Idealize.ShloMosaic.Tactic Idealize.SL.Sem Idealize.ShloMosaic.StableHlo

/-- The first factor. -/
abbrev Left := Vec Ideal S4096x4224 .bf16
/-- The second factor, as the program takes it. -/
abbrev Right := Vec Ideal S1024x4224 .f32
/-- The second factor, as the kernel takes it. -/
abbrev Cast := Vec Ideal S1024x4224 .bf16
/-- The result. -/
abbrev Result := Vec Ideal S4096x1024 .f32

/-- The product of the first factor and the second, transposed. -/
def total (a : Left) (w : Right) : Result := fun i => (∑ n, a (ix2 (i 0) n) * w (ix2 (i 1) n) : EReal)

section Point

variable (c : Dev nD) (i : grid0.Coords) (arg3 : Memref sig .tc .vmem S1024x1408 .bf16) (harg3 : arg3.IsWhole) (arg4 : Memref sig .tc .vmem S1024x1408 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1408 .bf16) (x1 : Vec Ideal S1024x1408 .bf16) (xs : Vec Ideal S1024x1024 .f32)

/-- The first grid point of a block leaves its part of the sum in the carried array. -/
theorem first_at (hc0 : cond0_0 i) (hc1 : ¬cond0_1 i) (hc2 : ¬cond0_2 i) (r : Fin 1024) (q : Fin 1024) :
    sout0_A_0 c i arg3 harg3 arg4 harg4 arg5 harg5 arg6 harg6 hc0 hc1 hc2 x0 x1 (ix2 r q) = (∑ n, x0 (ix2 r n) * x1 (ix2 q n) : EReal) := by
  unfold sout0_A_0 kernelRun0_A
  dsimp only
  rw [View.read_writes_junk_eq_canon, View.canon_unit_zero (by decide)]
  simp only [View.readAt_eq_ld, Memref.IsWhole.read_unread]
  pointwise [k0_pay1, k0_pay2]

/-- The second adds its part. -/
theorem second_at (hc0 : ¬cond0_0 i) (hc1 : cond0_1 i) (hc2 : ¬cond0_2 i) (r : Fin 1024) (q : Fin 1024) :
    sout0_B_0 c i arg3 harg3 arg4 harg4 arg5 harg5 arg6 harg6 hc0 hc1 hc2 x0 x1 xs (ix2 r q) = (xs (ix2 r q) + ∑ n, x0 (ix2 r n) * x1 (ix2 q n) : EReal) := by
  unfold sout0_B_0 kernelRun0_B
  dsimp only
  rw [View.read_writes_junk_eq_canon, View.canon_unit_zero (by decide)]
  simp only [View.readAt_eq_ld, Memref.IsWhole.read_unread]
  pointwise [k0_pay1, k0_pay3]

/-- The last adds its part and copies the sum to the result. -/
theorem last_at (hc0 : ¬cond0_0 i) (hc1 : cond0_1 i) (hc2 : cond0_2 i) (r : Fin 1024) (q : Fin 1024) :
    out0_C_2 c i arg3 harg3 arg4 harg4 arg5 harg5 arg6 harg6 hc0 hc1 hc2 x0 x1 xs (ix2 r q) = (xs (ix2 r q) + ∑ n, x0 (ix2 r n) * x1 (ix2 q n) : EReal) := by
  unfold out0_C_2 kernelRun0_C
  dsimp only
  rw [View.read_writes_junk_eq_canon, View.canon_unit_zero (by decide)]
  unfold kernelRun0_C.sl.v13 kernelRun0_C.sl.HS0_1
  rw [View.readCov_unit_zero _ (by decide)]
  simp only [View.readAt_eq_ld, Memref.IsWhole.read_unread]
  pointwise [k0_pay1, k0_pay3]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 3) + r.val, by have := t.isLt; have : cfg0.N = 12 := N_0; omega⟩

/-- Index `n` of a grid point's part of the sum, among all that are summed over. -/
def idx (t : Fin cfg0.N) (n : Fin 1408) : Fin 4224 := ⟨1408 * (t.val % 3) + n.val, by have := t.isLt; have : cfg0.N = 12 := N_0; omega⟩

theorem index0 : ∀ t : Fin cfg0.N, win0_0.index t = ![(t.val / 3), (t.val % 3)] := (by decide +kernel : ∀ t : Fin grid0.N, win0_0.index t = ![(t.val / 3), (t.val % 3)])
theorem index1 : ∀ t : Fin cfg0.N, win0_1.index t = ![0, (t.val % 3)] := (by decide +kernel : ∀ t : Fin grid0.N, win0_1.index t = ![0, (t.val % 3)])
theorem index2 : ∀ t : Fin cfg0.N, win0_2.index t = ![(t.val / 3), 0] := (by decide +kernel : ∀ t : Fin grid0.N, win0_2.index t = ![(t.val / 3), 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x4224.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1408) :
    ((cfg0.win 0).blk t).view.read (Elt Ideal) X (ix2 r n) = X (ix2 (row t r) (idx t n)) := by
  rw [View.read_apply]
  have e := index0 t
  refine congrArg X (funext fun a => Fin.ext ?_)
  match a with
  | ⟨0, _⟩ => show win0_0.index t 0 * 1024 + 1 * _ = _; rw [e]; show (t.val / 3) * 1024 + 1 * r.val = 1024 * (t.val / 3) + r.val; omega
  | ⟨1, _⟩ => show win0_0.index t 1 * 1408 + 1 * _ = _; rw [e]; show (t.val % 3) * 1408 + 1 * n.val = 1408 * (t.val % 3) + n.val; omega

/-- Window 1's block of an array, at an index. -/
theorem read1 (X : Cast) (t : Fin cfg0.N) (q : Fin 1024) (n : Fin 1408) :
    ((cfg0.win 1).blk t).view.read (Elt Ideal) X (ix2 q n) = X (ix2 q (idx t n)) := by
  rw [View.read_apply]
  have e := index1 t
  refine congrArg X (funext fun a => Fin.ext ?_)
  match a with
  | ⟨0, _⟩ => show win0_1.index t 0 * 1024 + 1 * _ = _; rw [e]; show 0 * 1024 + 1 * q.val = q.val; omega
  | ⟨1, _⟩ => show win0_1.index t 1 * 1408 + 1 * _ = _; rw [e]; show (t.val % 3) * 1408 + 1 * n.val = 1408 * (t.val % 3) + n.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show (t.val / 3) * 1024 + 1 * r.val = 1024 * (t.val / 3) + r.val; omega
  | ⟨1, _⟩ => show win0_2.index t 1 * 1024 + 1 * _ = _; rw [e]; show 0 * 1024 + 1 * q.val = q.val; omega

theorem blk0 (t : Fin cfg0.N) (r : Fin 1024) (n : Fin 1408) : iblk m c 0 t (ix2 r n) = a0 m c (ix2 (row t r) (idx t n)) := read0 (a0 m c) t r n
theorem blk1 (t : Fin cfg0.N) (q : Fin 1024) (n : Fin 1408) : iblk m c 1 t (ix2 q n) = a1 m c (ix2 q (idx t n)) := read1 (a1 m c) t q n

/-- A grid point's part of the sum. -/
def part (t : Fin cfg0.N) (r : Fin 1024) (q : Fin 1024) : EReal := ∑ n, b0 m c (ix2 (row t r) (idx t n)) * b1 m c (ix2 q (idx t n))

theorem part_eq (t : Fin cfg0.N) (r : Fin 1024) (q : Fin 1024) (x0 : Vec Ideal S1024x1408 .bf16) (x1 : Vec Ideal S1024x1408 .bf16)
    (h0 : x0 = iblk m c 0 t) (h1 : x1 = iblk m c 1 t) : (∑ n, x0 (ix2 r n) * x1 (ix2 q n) : EReal) = part m c t r q :=
  Finset.sum_congr rfl fun n _ => congrArg₂ (· * ·) ((congrFun h0 _).trans ((blk0 m c t r n).trans (congrFun (a0_eq m c) _)))
    ((congrFun h1 _).trans ((blk1 m c t q n).trans (a1_at m c _)))

/-- What the carried array holds after a grid point. -/
def held (t : Fin cfg0.N) : Vec Ideal S1024x1024 .f32 := (outsAt0 m c t.val t.isLt).2

theorem held_first (t : Fin cfg0.N) (h : t.val % 3 = 0) (r : Fin 1024) (q : Fin 1024) : held m c t (ix2 r q) = part m c t r q := by
  unfold held
  rw [outsAt0_A m c t h (by omega) (by omega)]
  dsimp only
  exact (first_at c _ _ _ _ _ _ _ _ _ (iblk m c 0 t) (iblk m c 1 t) _ _ _ r q).trans (part_eq m c t r q _ _ rfl rfl)

theorem held_second (t s : Fin cfg0.N) (h : t.val % 3 = 1) (e : s.val = t.val - 1) (r : Fin 1024) (q : Fin 1024) :
    held m c t (ix2 r q) = held m c s (ix2 r q) + part m c t r q := by
  obtain rfl : s = ⟨t.val - 1, Nat.lt_of_le_of_lt (Nat.sub_le _ _) t.isLt⟩ := Fin.ext e
  unfold held
  rw [outsAt0_B m c t (by omega) (by omega) (by omega)]
  dsimp only
  exact (second_at c _ _ _ _ _ _ _ _ _ (iblk m c 0 t) (iblk m c 1 t) _ _ _ _ r q).trans (congrArg (_ + ·) (part_eq m c t r q _ _ rfl rfl))

/-- What the last grid point of a block writes back is the block of the whole sum. -/
theorem flush2 (t : Fin cfg0.N) (hf : (cfg0.win 2).flush t = true) :
    (dats m 0 c).flushed 2 t = ((cfg0.win 2).blk t).view.read (Elt Ideal) (total (b0 m c) (b1 m c)) := by
  have h := (flush0_2 t).mp hf
  have hN : cfg0.N = 12 := N_0
  have hN' := t.isLt
  rw [flushed2_C m c t (by omega) (by omega) (by omega)]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  obtain ⟨s, hs⟩ : ∃ s : Fin cfg0.N, s.val = t.val - 1 := ⟨⟨t.val - 1, by omega⟩, rfl⟩
  obtain ⟨u, hu⟩ : ∃ u : Fin cfg0.N, u.val = s.val - 1 := ⟨⟨s.val - 1, by omega⟩, rfl⟩
  have e : held m c ⟨t.val - 1, Nat.lt_of_le_of_lt (Nat.sub_le _ _) t.isLt⟩ = held m c s := congrArg (held m c) (Fin.ext hs.symm)
  refine Eq.trans (b := part m c u r q + part m c s r q + part m c t r q) ?_ ?_
  · refine (last_at c _ _ _ _ _ _ _ _ _ (iblk m c 0 t) (iblk m c 1 t) _ _ _ _ r q).trans ?_
    exact congrArg₂ (· + ·) ((congrFun e _).trans ((held_second m c s u (by omega) hu r q).trans (congrArg (· + _) (held_first m c u (by omega) r q)))) (part_eq m c t r q _ _ rfl rfl)
  · refine Eq.trans ?_ (sum_parts (a := 3) (b := 1408) fun n : Fin 4224 => b0 m c (ix2 (row t r) n) * b1 m c (ix2 q n)).symm
    refine Eq.trans ?_ (Fin.sum_univ_three _).symm
    refine congrArg₂ (· + ·) (congrArg₂ (· + ·) ?_ ?_) ?_
    · exact Finset.sum_congr rfl fun n _ => congrArg₂ (· * ·) (congrArg₂ (fun n r => b0 m c (ix2 r n)) (Fin.ext (by show 1408 * (u.val % 3) + n.val = 1408 * 0 + n.val; omega) : idx u n = at_ (b := 1408) (0 : Fin 3) n) (Fin.ext (by show 1024 * (u.val / 3) + r.val = 1024 * (t.val / 3) + r.val; omega) : row u r = row t r))
        (congrArg (fun n => b1 m c (ix2 q n)) (Fin.ext (by show 1408 * (u.val % 3) + n.val = 1408 * 0 + n.val; omega) : idx u n = at_ (b := 1408) (0 : Fin 3) n))
    · exact Finset.sum_congr rfl fun n _ => congrArg₂ (· * ·) (congrArg₂ (fun n r => b0 m c (ix2 r n)) (Fin.ext (by show 1408 * (s.val % 3) + n.val = 1408 * 1 + n.val; omega) : idx s n = at_ (b := 1408) (1 : Fin 3) n) (Fin.ext (by show 1024 * (s.val / 3) + r.val = 1024 * (t.val / 3) + r.val; omega) : row s r = row t r))
        (congrArg (fun n => b1 m c (ix2 q n)) (Fin.ext (by show 1408 * (s.val % 3) + n.val = 1408 * 1 + n.val; omega) : idx s n = at_ (b := 1408) (1 : Fin 3) n))
    · exact Finset.sum_congr rfl fun n _ => congrArg₂ (· * ·) (congrArg₂ (fun n r => b0 m c (ix2 r n)) (Fin.ext (by show 1408 * (t.val % 3) + n.val = 1408 * 2 + n.val; omega) : idx t n = at_ (b := 1408) (2 : Fin 3) n) (Fin.ext (by show 1024 * (t.val / 3) + r.val = 1024 * (t.val / 3) + r.val; omega) : row t r = row t r))
        (congrArg (fun n => b1 m c (ix2 q n)) (Fin.ext (by show 1408 * (t.val % 3) + n.val = 1408 * 2 + n.val; omega) : idx t n = at_ (b := 1408) (2 : Fin 3) n))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x1024.Idx) => by
    have hN : cfg0.N = 12 := N_0
    have h0 : (x 0 : ℕ) < 4096 := (x 0).isLt
    have h1 : (x 1 : ℕ) < 1024 := (x 1).isLt
    obtain ⟨t, ht⟩ : ∃ t : Fin cfg0.N, t.val = 3 * ((x 0 : ℕ) / 1024) + 2 := ⟨⟨_, by omega⟩, rfl⟩
    refine ⟨t, (flush0_2 t).mpr (by omega), ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 3) * 1024 ≤ (x 0 : ℕ) ∧ (x 0 : ℕ) < (t.val / 3) * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.InGradRefIdeal.Read

/-- The reference's result. -/
theorem ref_eq (x0 : Left) (x1 : Right) : val_main_v3 (F := Ideal) x0 x1 = total x0 x1 := by
  funext x
  obtain ⟨r, q, rfl⟩ : ∃ (r : Fin 4096) (q : Fin 1024), x = ix2 r q := ⟨_, _, eq_ix2 x⟩
  rw [val_main_v3_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_InGradRefIdeal := fun m g _ =>
  (θ_run _ _ _).mono (fun r h => ⟨fun c => (h c).2, sem_eq_zero_of_no_sems (by decide) r.2⟩) (Cert.InGradRefIdeal.Value.run (F := Ideal) m g)

/-- From equal arguments the two programs end with equal gradients. -/
theorem same_gradient : Cert.algebraic_InGradIdeal_InGradRefIdeal := by
  intro m g m' g' _ hag
  refine ⟨_, Cert.InGradIdeal.Value.run_blocks m g, (θ_run _ _ _).mono (fun r h c => ?_) (Cert.InGradRefIdeal.Value.run (F := Ideal) m' g')⟩
  obtain ⟨r0, k⟩ := h c
  obtain ⟨e0, e1⟩ := hag c
  refine ⟨r0.trans ?_, k⟩
  rw [Cert.InGradRefIdeal.Read.val_main_v3_eq, e0, e1]
  exact (ref_eq _ _).trans (final2 m c).symm

end Cert.InGradIdeal.Own

end
-- ==== Proof.InWeight.lean ====
/- The gradient of the first projection's weight, of a gated DeltaNet: what the kernel's result array holds, a product over the tokens, block of columns by block of columns, and that it is the
   reference's. -/
module

public import proofs.«01_k».proof.Proof.Gen.InWeightIdeal.Value
public import proofs.«01_k».proof.Proof.Gen.InWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.InWeightIdeal.Own

open Cert.InWeightIdeal Cert.InWeightIdeal.Gen Cert.InWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S4096x4224 .bf16
/-- The result. -/
abbrev Result := Vec Ideal S1024x4224 .bf16

/-- The product over the tokens of the two factors. -/
def total (a : Left) (w : S4096x4224.Idx → EReal) : Result := fun i => (∑ n, a (ix2 n (i 0)) * w (ix2 n (i 1)) : EReal)

section Point

variable (c : Dev nD) (i : grid0.Coords) (arg3 : Memref sig .tc .vmem S4096x1024 .bf16) (harg3 : arg3.IsWhole) (arg4 : Memref sig .tc .vmem S4096x384 .bf16) (harg4 : arg4.IsWhole) (arg5 : Memref sig .tc .vmem S1024x384 .bf16) (harg5 : arg5.IsWhole) (arg6 : Memref sig .tc .vmem S1024x384 .f32) (harg6 : arg6.IsWhole)
  (hc0 : cond0_0 i) (hc1 : ¬cond0_1 i) (hc2 : cond0_2 i) (x0 : Vec Ideal S4096x1024 .bf16) (x1 : Vec Ideal S4096x384 .bf16)

/-- The block of the result that a grid point computes. -/
theorem block_at (r : Fin 1024) (q : Fin 384) :
    out0_A_2 c i arg3 harg3 arg4 harg4 arg5 harg5 arg6 harg6 hc0 hc1 hc2 x0 x1 (ix2 r q) = (∑ n, x0 (ix2 n r) * x1 (ix2 n q) : EReal) := by
  unfold out0_A_2 kernelRun0_A
  dsimp only
  rw [View.read_writes_junk_eq_canon, View.canon_unit_zero (by decide)]
  unfold kernelRun0_A.sl.v12 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- Column `q` of a grid point's block, among all the columns. -/
def col (t : Fin cfg0.N) (q : Fin 384) : Fin 4224 := ⟨384 * t.val + q.val, by have := t.isLt; have : cfg0.N = 11 := N_0; omega⟩

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x4224.Idx) : a1 m c x = b1 m c x := congrFun (V_main_arg1 m c) x

/-- Window 0's block of an array, at an index. -/
theorem read0 (X : Left) (t : Fin cfg0.N) (n : Fin 4096) (r : Fin 1024) :
    ((cfg0.win 0).blk t).view.read (Elt Ideal) X (ix2 n r) = X (ix2 n r) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 1024 + 1 * _ = _; rw [e]; show 0 * 1024 + 1 * r.val = r.val; omega

/-- Window 1's block of an array, at an index. -/
theorem read1 (X : Right) (t : Fin cfg0.N) (n : Fin 4096) (q : Fin 384) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 384 + 1 * _ = _; rw [e]; show t.val * 384 + 1 * q.val = 384 * t.val + q.val; omega

/-- Window 2's block of an array, at an index. -/
theorem read2 (X : Result) (t : Fin cfg0.N) (r : Fin 1024) (q : Fin 384) :
    ((cfg0.win 2).blk t).view.read (Elt Ideal) X (ix2 r q) = X (ix2 r (col t q)) := by
  rw [View.read_apply]
  have e := index2 t
  refine congrArg X (funext fun a => Fin.ext ?_)
  match a with
  | ⟨0, _⟩ => show win0_2.index t 0 * 1024 + 1 * _ = _; rw [e]; show 0 * 1024 + 1 * r.val = r.val; omega
  | ⟨1, _⟩ => show win0_2.index t 1 * 384 + 1 * _ = _; rw [e]; show t.val * 384 + 1 * q.val = 384 * t.val + q.val; omega

theorem blk0 (t : Fin cfg0.N) (n : Fin 4096) (r : Fin 1024) : iblk m c 0 t (ix2 n r) = a0 m c (ix2 n r) := read0 (a0 m c) t n r
theorem blk1 (t : Fin cfg0.N) (n : Fin 4096) (q : Fin 384) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 384), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t n r).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S1024x4224.Idx) => by
    have hN : cfg0.N = 11 := N_0
    have h0 : (x 0 : ℕ) < 1024 := (x 0).isLt
    have h1 : (x 1 : ℕ) < 4224 := (x 1).isLt
    obtain ⟨t, ht⟩ : ∃ t : Fin cfg0.N, t.val = (x 1 : ℕ) / 384 := ⟨⟨_, by omega⟩, rfl⟩
    refine ⟨t, flush0_2 t, ?_⟩
    show x ∈ ((View.whole main_v0).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show 0 * 1024 ≤ (x 0 : ℕ) ∧ (x 0 : ℕ) < 0 * 1024 + 1024; omega
    | ⟨1, _⟩ => show win0_2.index t 1 * 384 ≤ (x 1 : ℕ) ∧ (x 1 : ℕ) < win0_2.index t 1 * 384 + 384; rw [e]; show t.val * 384 ≤ (x 1 : ℕ) ∧ (x 1 : ℕ) < t.val * 384 + 384; omega

end Run

section Ref

open Cert.InWeightRefIdeal.Read

/-- The reference's result. -/
theorem ref_eq (x0 : Left) (x1 : Right) : val_main_v6 (F := Ideal) x0 x1 = total x0 x1 := by
  funext x
  obtain ⟨r, q, rfl⟩ : ∃ (r : Fin 1024) (q : Fin 4224), x = ix2 r q := ⟨_, _, eq_ix2 x⟩
  refine Eq.trans (b := val_main_v4 (F := Ideal) x0 x1 (ix2 q r)) (by pointwise [val_main_v6, val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_InWeightRefIdeal := fun m g _ =>
  (θ_run _ _ _).mono (fun r h => ⟨fun c => (h c).2, sem_eq_zero_of_no_sems (by decide) r.2⟩) (Cert.InWeightRefIdeal.Value.run (F := Ideal) m g)

/-- From equal arguments the two programs end with equal gradients. -/
theorem same_gradient : Cert.algebraic_InWeightIdeal_InWeightRefIdeal := by
  intro m g m' g' _ hag
  refine ⟨_, Cert.InWeightIdeal.Value.run_blocks m g, (θ_run _ _ _).mono (fun r h c => ?_) (Cert.InWeightRefIdeal.Value.run (F := Ideal) m' g')⟩
  obtain ⟨r0, k⟩ := h c
  obtain ⟨e0, e1⟩ := hag c
  refine ⟨r0.trans ?_, k⟩
  rw [Cert.InWeightRefIdeal.Read.val_main_v6_eq, e0, e1]
  exact (ref_eq _ _).trans (final2 m c).symm

end Cert.InWeightIdeal.Own

end
-- ==== Proof.InProj.lean ====
/- The first projection of a gated DeltaNet: what the kernel's result array holds, the argument times the weight, block of tokens by block of columns, and that it is the
   reference's. -/
module

public import proofs.«01_k».proof.Proof.Gen.InProjIdeal.Value
public import proofs.«01_k».proof.Proof.Gen.InProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.InProjIdeal.Own

open Cert.InProjIdeal Cert.InProjIdeal.Gen Cert.InProjIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S1024x4224 .f32
/-- The second factor, as the kernel takes it. -/
abbrev Cast := Vec Ideal S1024x4224 .bf16
/-- The result. -/
abbrev Result := Vec Ideal S4096x4224 .f32

/-- The product of the two factors. -/
def total (a : Left) (w : S1024x4224.Idx → EReal) : Result := fun i => (∑ n, a (ix2 (i 0) n) * w (ix2 n (i 1)) : EReal)

section Point

variable (c : Dev nD) (i : grid0.Coords) (arg3 : Memref sig .tc .vmem S1024x1024 .bf16) (harg3 : arg3.IsWhole) (arg4 : Memref sig .tc .vmem S1024x384 .bf16) (harg4 : arg4.IsWhole) (arg5 : Memref sig .tc .vmem S1024x384 .f32) (harg5 : arg5.IsWhole) (arg6 : Memref sig .tc .vmem S1024x384 .f32) (harg6 : arg6.IsWhole)
  (hc0 : cond0_0 i) (hc1 : ¬cond0_1 i) (hc2 : cond0_2 i) (x0 : Vec Ideal S1024x1024 .bf16) (x1 : Vec Ideal S1024x384 .bf16)

/-- The block of the result that a grid point computes. -/
theorem block_at (r : Fin 1024) (q : Fin 384) :
    out0_A_2 c i arg3 harg3 arg4 harg4 arg5 harg5 arg6 harg6 hc0 hc1 hc2 x0 x1 (ix2 r q) = (∑ n, x0 (ix2 r n) * x1 (ix2 n q) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 11) + r.val, by have := t.isLt; have : cfg0.N = 44 := N_0; omega⟩

/-- Column `q` of a grid point's block, among all the columns. -/
def col (t : Fin cfg0.N) (q : Fin 384) : Fin 4224 := ⟨384 * (t.val % 11) + q.val, by have := t.isLt; have : cfg0.N = 44 := N_0; omega⟩

theorem index0 : ∀ t : Fin cfg0.N, win0_0.index t = ![(t.val / 11), 0] := (by decide +kernel : ∀ t : Fin grid0.N, win0_0.index t = ![(t.val / 11), 0])
theorem index1 : ∀ t : Fin cfg0.N, win0_1.index t = ![0, (t.val % 11)] := (by decide +kernel : ∀ t : Fin grid0.N, win0_1.index t = ![0, (t.val % 11)])
theorem index2 : ∀ t : Fin cfg0.N, win0_2.index t = ![(t.val / 11), (t.val % 11)] := (by decide +kernel : ∀ t : Fin grid0.N, win0_2.index t = ![(t.val / 11), (t.val % 11)])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x4224.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show (t.val / 11) * 1024 + 1 * r.val = 1024 * (t.val / 11) + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (n : Fin 1024) (q : Fin 384) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 1024 + 1 * _ = _; rw [e]; show 0 * 1024 + 1 * n.val = n.val; omega
  | ⟨1, _⟩ => show win0_1.index t 1 * 384 + 1 * _ = _; rw [e]; show (t.val % 11) * 384 + 1 * q.val = 384 * (t.val % 11) + q.val; omega

/-- Window 2's block of an array, at an index. -/
theorem read2 (X : Result) (t : Fin cfg0.N) (r : Fin 1024) (q : Fin 384) :
    ((cfg0.win 2).blk t).view.read (Elt Ideal) X (ix2 r q) = X (ix2 (row t r) (col t q)) := by
  rw [View.read_apply]
  have e := index2 t
  refine congrArg X (funext fun a => Fin.ext ?_)
  match a with
  | ⟨0, _⟩ => show win0_2.index t 0 * 1024 + 1 * _ = _; rw [e]; show (t.val / 11) * 1024 + 1 * r.val = 1024 * (t.val / 11) + r.val; omega
  | ⟨1, _⟩ => show win0_2.index t 1 * 384 + 1 * _ = _; rw [e]; show (t.val % 11) * 384 + 1 * q.val = 384 * (t.val % 11) + q.val; omega

theorem blk0 (t : Fin cfg0.N) (r : Fin 1024) (n : Fin 1024) : iblk m c 0 t (ix2 r n) = a0 m c (ix2 (row t r) n) := read0 (a0 m c) t r n
theorem blk1 (t : Fin cfg0.N) (n : Fin 1024) (q : Fin 384) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 384), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x4224.Idx) => by
    have hN : cfg0.N = 44 := N_0
    have h0 : (x 0 : ℕ) < 4096 := (x 0).isLt
    have h1 : (x 1 : ℕ) < 4224 := (x 1).isLt
    obtain ⟨t, ht⟩ : ∃ t : Fin cfg0.N, t.val = 11 * ((x 0 : ℕ) / 1024) + (x 1 : ℕ) / 384 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 11) * 1024 ≤ (x 0 : ℕ) ∧ (x 0 : ℕ) < (t.val / 11) * 1024 + 1024; omega
    | ⟨1, _⟩ => show win0_2.index t 1 * 384 ≤ (x 1 : ℕ) ∧ (x 1 : ℕ) < win0_2.index t 1 * 384 + 384; rw [e]; show (t.val % 11) * 384 ≤ (x 1 : ℕ) ∧ (x 1 : ℕ) < (t.val % 11) * 384 + 384; omega

end Run

section Ref

open Cert.InProjRefIdeal.Read

/-- The reference's result. -/
theorem ref_eq (x0 : Left) (x1 : Right) : val_main_v1 (F := Ideal) x0 x1 = total x0 x1 := by
  funext x
  obtain ⟨r, q, rfl⟩ : ∃ (r : Fin 4096) (q : Fin 4224), x = ix2 r q := ⟨_, _, eq_ix2 x⟩
  rw [val_main_v1_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_InProjRefIdeal := fun m g _ =>
  (θ_run _ _ _).mono (fun r h => ⟨fun c => (h c).2, sem_eq_zero_of_no_sems (by decide) r.2⟩) (Cert.InProjRefIdeal.Value.run (F := Ideal) m g)

/-- From equal arguments the two programs end with equal results. -/
theorem same_result : Cert.algebraic_InProjIdeal_InProjRefIdeal := by
  intro m g m' g' _ hag
  refine ⟨_, Cert.InProjIdeal.Value.run_blocks m g, (θ_run _ _ _).mono (fun r h c => ?_) (Cert.InProjRefIdeal.Value.run (F := Ideal) m' g')⟩
  obtain ⟨r0, k⟩ := h c
  obtain ⟨e0, e1⟩ := hag c
  refine ⟨r0.trans ?_, k⟩
  rw [Cert.InProjRefIdeal.Read.val_main_v1_eq, e0, e1]
  exact (ref_eq _ _).trans (final2 m c).symm

end Cert.InProjIdeal.Own

end
-- ==== Proof.QkvGrad.lean ====
/- The gradient that the first projection of the stick-breaking attention hands back: what the kernel's result array holds, a product with
   the transposed weight, its sum over the columns taken in three parts that are carried from one grid point to the next,
   and that it is the reference's. -/
module

public import proofs.«01_k».proof.Proof.Gen.QkvGradIdeal.Value
public import proofs.«01_k».proof.Proof.Gen.QkvGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QkvGradIdeal.Own

open Cert.QkvGradIdeal Cert.QkvGradIdeal.Gen Cert.QkvGradIdeal.Value Cert.Parts
open Idealize.ShloMosaic Idealize.ShloMosaic.TcCoe Idealize.ShloMosaic.Tactic Idealize.SL.Sem Idealize.ShloMosaic.StableHlo

/-- The first factor. -/
abbrev Left := Vec Ideal S4096x3072 .bf16
/-- The second factor, as the program takes it. -/
abbrev Right := Vec Ideal S1024x3072 .f32
/-- The second factor, as the kernel takes it. -/
abbrev Cast := Vec Ideal S1024x3072 .bf16
/-- The result. -/
abbrev Result := Vec Ideal S4096x1024 .f32

/-- The product of the first factor and the second, transposed. -/
def total (a : Left) (w : Right) : Result := fun i => (∑ n, a (ix2 (i 0) n) * w (ix2 (i 1) n) : EReal)

section Point

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (x0 : Vec Ideal S1024x1024 .bf16) (x1 : Vec Ideal S1024x1024 .bf16) (xs : Vec Ideal S1024x1024 .f32)

/-- The first grid point of a block leaves its part of the sum in the carried array. -/
theorem first_at (hc0 : cond0_0 i) (hc1 : ¬cond0_1 i) (hc2 : ¬cond0_2 i) (r : Fin 1024) (q : Fin 1024) :
    sout0_A_0 c i arg3 harg3 arg4 harg4 arg5 harg5 arg6 harg6 hc0 hc1 hc2 x0 x1 (ix2 r q) = (∑ n, x0 (ix2 r n) * x1 (ix2 q n) : EReal) := by
  unfold sout0_A_0 kernelRun0_A
  dsimp only
  rw [View.read_writes_junk_eq_canon, View.canon_unit_zero (by decide)]
  simp only [View.readAt_eq_ld, Memref.IsWhole.read_unread]
  pointwise [k0_pay1, k0_pay2]

/-- The second adds its part. -/
theorem second_at (hc0 : ¬cond0_0 i) (hc1 : cond0_1 i) (hc2 : ¬cond0_2 i) (r : Fin 1024) (q : Fin 1024) :
    sout0_B_0 c i arg3 harg3 arg4 harg4 arg5 harg5 arg6 harg6 hc0 hc1 hc2 x0 x1 xs (ix2 r q) = (xs (ix2 r q) + ∑ n, x0 (ix2 r n) * x1 (ix2 q n) : EReal) := by
  unfold sout0_B_0 kernelRun0_B
  dsimp only
  rw [View.read_writes_junk_eq_canon, View.canon_unit_zero (by decide)]
  simp only [View.readAt_eq_ld, Memref.IsWhole.read_unread]
  pointwise [k0_pay1, k0_pay3]

/-- The last adds its part and copies the sum to the result. -/
theorem last_at (hc0 : ¬cond0_0 i) (hc1 : cond0_1 i) (hc2 : cond0_2 i) (r : Fin 1024) (q : Fin 1024) :
    out0_C_2 c i arg3 harg3 arg4 harg4 arg5 harg5 arg6 harg6 hc0 hc1 hc2 x0 x1 xs (ix2 r q) = (xs (ix2 r q) + ∑ n, x0 (ix2 r n) * x1 (ix2 q n) : EReal) := by
  unfold out0_C_2 kernelRun0_C
  dsimp only
  rw [View.read_writes_junk_eq_canon, View.canon_unit_zero (by decide)]
  unfold kernelRun0_C.sl.v13 kernelRun0_C.sl.HS0_1
  rw [View.readCov_unit_zero _ (by decide)]
  simp only [View.readAt_eq_ld, Memref.IsWhole.read_unread]
  pointwise [k0_pay1, k0_pay3]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 3) + r.val, by have := t.isLt; have : cfg0.N = 12 := N_0; omega⟩

/-- Index `n` of a grid point's part of the sum, among all that are summed over. -/
def idx (t : Fin cfg0.N) (n : Fin 1024) : Fin 3072 := ⟨1024 * (t.val % 3) + n.val, by have := t.isLt; have : cfg0.N = 12 := N_0; omega⟩

theorem index0 : ∀ t : Fin cfg0.N, win0_0.index t = ![(t.val / 3), (t.val % 3)] := (by decide +kernel : ∀ t : Fin grid0.N, win0_0.index t = ![(t.val / 3), (t.val % 3)])
theorem index1 : ∀ t : Fin cfg0.N, win0_1.index t = ![0, (t.val % 3)] := (by decide +kernel : ∀ t : Fin grid0.N, win0_1.index t = ![0, (t.val % 3)])
theorem index2 : ∀ t : Fin cfg0.N, win0_2.index t = ![(t.val / 3), 0] := (by decide +kernel : ∀ t : Fin grid0.N, win0_2.index t = ![(t.val / 3), 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x3072.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) (idx t n)) := by
  rw [View.read_apply]
  have e := index0 t
  refine congrArg X (funext fun a => Fin.ext ?_)
  match a with
  | ⟨0, _⟩ => show win0_0.index t 0 * 1024 + 1 * _ = _; rw [e]; show (t.val / 3) * 1024 + 1 * r.val = 1024 * (t.val / 3) + r.val; omega
  | ⟨1, _⟩ => show win0_0.index t 1 * 1024 + 1 * _ = _; rw [e]; show (t.val % 3) * 1024 + 1 * n.val = 1024 * (t.val % 3) + n.val; omega

/-- Window 1's block of an array, at an index. -/
theorem read1 (X : Cast) (t : Fin cfg0.N) (q : Fin 1024) (n : Fin 1024) :
    ((cfg0.win 1).blk t).view.read (Elt Ideal) X (ix2 q n) = X (ix2 q (idx t n)) := by
  rw [View.read_apply]
  have e := index1 t
  refine congrArg X (funext fun a => Fin.ext ?_)
  match a with
  | ⟨0, _⟩ => show win0_1.index t 0 * 1024 + 1 * _ = _; rw [e]; show 0 * 1024 + 1 * q.val = q.val; omega
  | ⟨1, _⟩ => show win0_1.index t 1 * 1024 + 1 * _ = _; rw [e]; show (t.val % 3) * 1024 + 1 * n.val = 1024 * (t.val % 3) + n.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show (t.val / 3) * 1024 + 1 * r.val = 1024 * (t.val / 3) + r.val; omega
  | ⟨1, _⟩ => show win0_2.index t 1 * 1024 + 1 * _ = _; rw [e]; show 0 * 1024 + 1 * q.val = q.val; omega

theorem blk0 (t : Fin cfg0.N) (r : Fin 1024) (n : Fin 1024) : iblk m c 0 t (ix2 r n) = a0 m c (ix2 (row t r) (idx t n)) := read0 (a0 m c) t r n
theorem blk1 (t : Fin cfg0.N) (q : Fin 1024) (n : Fin 1024) : iblk m c 1 t (ix2 q n) = a1 m c (ix2 q (idx t n)) := read1 (a1 m c) t q n

/-- A grid point's part of the sum. -/
def part (t : Fin cfg0.N) (r : Fin 1024) (q : Fin 1024) : EReal := ∑ n, b0 m c (ix2 (row t r) (idx t n)) * b1 m c (ix2 q (idx t n))

theorem part_eq (t : Fin cfg0.N) (r : Fin 1024) (q : Fin 1024) (x0 : Vec Ideal S1024x1024 .bf16) (x1 : Vec Ideal S1024x1024 .bf16)
    (h0 : x0 = iblk m c 0 t) (h1 : x1 = iblk m c 1 t) : (∑ n, x0 (ix2 r n) * x1 (ix2 q n) : EReal) = part m c t r q :=
  Finset.sum_congr rfl fun n _ => congrArg₂ (· * ·) ((congrFun h0 _).trans ((blk0 m c t r n).trans (congrFun (a0_eq m c) _)))
    ((congrFun h1 _).trans ((blk1 m c t q n).trans (a1_at m c _)))

/-- What the carried array holds after a grid point. -/
def held (t : Fin cfg0.N) : Vec Ideal S1024x1024 .f32 := (outsAt0 m c t.val t.isLt).2

theorem held_first (t : Fin cfg0.N) (h : t.val % 3 = 0) (r : Fin 1024) (q : Fin 1024) : held m c t (ix2 r q) = part m c t r q := by
  unfold held
  rw [outsAt0_A m c t h (by omega) (by omega)]
  dsimp only
  exact (first_at c _ _ _ _ _ _ _ _ _ (iblk m c 0 t) (iblk m c 1 t) _ _ _ r q).trans (part_eq m c t r q _ _ rfl rfl)

theorem held_second (t s : Fin cfg0.N) (h : t.val % 3 = 1) (e : s.val = t.val - 1) (r : Fin 1024) (q : Fin 1024) :
    held m c t (ix2 r q) = held m c s (ix2 r q) + part m c t r q := by
  obtain rfl : s = ⟨t.val - 1, Nat.lt_of_le_of_lt (Nat.sub_le _ _) t.isLt⟩ := Fin.ext e
  unfold held
  rw [outsAt0_B m c t (by omega) (by omega) (by omega)]
  dsimp only
  exact (second_at c _ _ _ _ _ _ _ _ _ (iblk m c 0 t) (iblk m c 1 t) _ _ _ _ r q).trans (congrArg (_ + ·) (part_eq m c t r q _ _ rfl rfl))

/-- What the last grid point of a block writes back is the block of the whole sum. -/
theorem flush2 (t : Fin cfg0.N) (hf : (cfg0.win 2).flush t = true) :
    (dats m 0 c).flushed 2 t = ((cfg0.win 2).blk t).view.read (Elt Ideal) (total (b0 m c) (b1 m c)) := by
  have h := (flush0_2 t).mp hf
  have hN : cfg0.N = 12 := N_0
  have hN' := t.isLt
  rw [flushed2_C m c t (by omega) (by omega) (by omega)]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  obtain ⟨s, hs⟩ : ∃ s : Fin cfg0.N, s.val = t.val - 1 := ⟨⟨t.val - 1, by omega⟩, rfl⟩
  obtain ⟨u, hu⟩ : ∃ u : Fin cfg0.N, u.val = s.val - 1 := ⟨⟨s.val - 1, by omega⟩, rfl⟩
  have e : held m c ⟨t.val - 1, Nat.lt_of_le_of_lt (Nat.sub_le _ _) t.isLt⟩ = held m c s := congrArg (held m c) (Fin.ext hs.symm)
  refine Eq.trans (b := part m c u r q + part m c s r q + part m c t r q) ?_ ?_
  · refine (last_at c _ _ _ _ _ _ _ _ _ (iblk m c 0 t) (iblk m c 1 t) _ _ _ _ r q).trans ?_
    exact congrArg₂ (· + ·) ((congrFun e _).trans ((held_second m c s u (by omega) hu r q).trans (congrArg (· + _) (held_first m c u (by omega) r q)))) (part_eq m c t r q _ _ rfl rfl)
  · refine Eq.trans ?_ (sum_parts (a := 3) (b := 1024) fun n : Fin 3072 => b0 m c (ix2 (row t r) n) * b1 m c (ix2 q n)).symm
    refine Eq.trans ?_ (Fin.sum_univ_three _).symm
    refine congrArg₂ (· + ·) (congrArg₂ (· + ·) ?_ ?_) ?_
    · exact Finset.sum_congr rfl fun n _ => congrArg₂ (· * ·) (congrArg₂ (fun n r => b0 m c (ix2 r n)) (Fin.ext (by show 1024 * (u.val % 3) + n.val = 1024 * 0 + n.val; omega) : idx u n = at_ (b := 1024) (0 : Fin 3) n) (Fin.ext (by show 1024 * (u.val / 3) + r.val = 1024 * (t.val / 3) + r.val; omega) : row u r = row t r))
        (congrArg (fun n => b1 m c (ix2 q n)) (Fin.ext (by show 1024 * (u.val % 3) + n.val = 1024 * 0 + n.val; omega) : idx u n = at_ (b := 1024) (0 : Fin 3) n))
    · exact Finset.sum_congr rfl fun n _ => congrArg₂ (· * ·) (congrArg₂ (fun n r => b0 m c (ix2 r n)) (Fin.ext (by show 1024 * (s.val % 3) + n.val = 1024 * 1 + n.val; omega) : idx s n = at_ (b := 1024) (1 : Fin 3) n) (Fin.ext (by show 1024 * (s.val / 3) + r.val = 1024 * (t.val / 3) + r.val; omega) : row s r = row t r))
        (congrArg (fun n => b1 m c (ix2 q n)) (Fin.ext (by show 1024 * (s.val % 3) + n.val = 1024 * 1 + n.val; omega) : idx s n = at_ (b := 1024) (1 : Fin 3) n))
    · exact Finset.sum_congr rfl fun n _ => congrArg₂ (· * ·) (congrArg₂ (fun n r => b0 m c (ix2 r n)) (Fin.ext (by show 1024 * (t.val % 3) + n.val = 1024 * 2 + n.val; omega) : idx t n = at_ (b := 1024) (2 : Fin 3) n) (Fin.ext (by show 1024 * (t.val / 3) + r.val = 1024 * (t.val / 3) + r.val; omega) : row t r = row t r))
        (congrArg (fun n => b1 m c (ix2 q n)) (Fin.ext (by show 1024 * (t.val % 3) + n.val = 1024 * 2 + n.val; omega) : idx t n = at_ (b := 1024) (2 : Fin 3) n))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x1024.Idx) => by
    have hN : cfg0.N = 12 := N_0
    have h0 : (x 0 : ℕ) < 4096 := (x 0).isLt
    have h1 : (x 1 : ℕ) < 1024 := (x 1).isLt
    obtain ⟨t, ht⟩ : ∃ t : Fin cfg0.N, t.val = 3 * ((x 0 : ℕ) / 1024) + 2 := ⟨⟨_, by omega⟩, rfl⟩
    refine ⟨t, (flush0_2 t).mpr (by omega), ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 3) * 1024 ≤ (x 0 : ℕ) ∧ (x 0 : ℕ) < (t.val / 3) * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.QkvGradRefIdeal.Read

/-- The reference's result. -/
theorem ref_eq (x0 : Left) (x1 : Right) : val_main_v3 (F := Ideal) x0 x1 = total x0 x1 := by
  funext x
  obtain ⟨r, q, rfl⟩ : ∃ (r : Fin 4096) (q : Fin 1024), x = ix2 r q := ⟨_, _, eq_ix2 x⟩
  rw [val_main_v3_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_QkvGradRefIdeal := fun m g _ =>
  (θ_run _ _ _).mono (fun r h => ⟨fun c => (h c).2, sem_eq_zero_of_no_sems (by decide) r.2⟩) (Cert.QkvGradRefIdeal.Value.run (F := Ideal) m g)

/-- From equal arguments the two programs end with equal gradients. -/
theorem same_gradient : Cert.algebraic_QkvGradIdeal_QkvGradRefIdeal := by
  intro m g m' g' _ hag
  refine ⟨_, Cert.QkvGradIdeal.Value.run_blocks m g, (θ_run _ _ _).mono (fun r h c => ?_) (Cert.QkvGradRefIdeal.Value.run (F := Ideal) m' g')⟩
  obtain ⟨r0, k⟩ := h c
  obtain ⟨e0, e1⟩ := hag c
  refine ⟨r0.trans ?_, k⟩
  rw [Cert.QkvGradRefIdeal.Read.val_main_v3_eq, e0, e1]
  exact (ref_eq _ _).trans (final2 m c).symm

end Cert.QkvGradIdeal.Own

end
-- ==== Proof.QkvWeight.lean ====
/- The gradient of the first projection's weight, of the stick-breaking attention: what the kernel's result array holds, a product over the tokens, block of columns by block of columns, and that it is the
   reference's. -/
module

public import proofs.«01_k».proof.Proof.Gen.QkvWeightIdeal.Value
public import proofs.«01_k».proof.Proof.Gen.QkvWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QkvWeightIdeal.Own

open Cert.QkvWeightIdeal Cert.QkvWeightIdeal.Gen Cert.QkvWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S4096x3072 .bf16
/-- The result. -/
abbrev Result := Vec Ideal S1024x3072 .bf16

/-- The product over the tokens of the two factors. -/
def total (a : Left) (w : S4096x3072.Idx → EReal) : Result := fun i => (∑ n, a (ix2 n (i 0)) * w (ix2 n (i 1)) : EReal)

section Point

variable (c : Dev nD) (i : grid0.Coords) (arg3 : Memref sig .tc .vmem S4096x1024 .bf16) (harg3 : arg3.IsWhole) (arg4 : Memref sig .tc .vmem S4096x1024 .bf16) (harg4 : arg4.IsWhole) (arg5 : Memref sig .tc .vmem S1024x1024 .bf16) (harg5 : arg5.IsWhole) (arg6 : Memref sig .tc .vmem S1024x1024 .f32) (harg6 : arg6.IsWhole)
  (hc0 : cond0_0 i) (hc1 : ¬cond0_1 i) (hc2 : cond0_2 i) (x0 : Vec Ideal S4096x1024 .bf16) (x1 : Vec Ideal S4096x1024 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 n r) * x1 (ix2 n q) : EReal) := by
  unfold out0_A_2 kernelRun0_A
  dsimp only
  rw [View.read_writes_junk_eq_canon, View.canon_unit_zero (by decide)]
  unfold kernelRun0_A.sl.v12 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- Column `q` of a grid point's block, among all the columns. -/
def col (t : Fin cfg0.N) (q : Fin 1024) : Fin 3072 := ⟨1024 * t.val + q.val, by have := t.isLt; have : cfg0.N = 3 := N_0; omega⟩

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x3072.Idx) : a1 m c x = b1 m c x := congrFun (V_main_arg1 m c) x

/-- Window 0's block of an array, at an index. -/
theorem read0 (X : Left) (t : Fin cfg0.N) (n : Fin 4096) (r : Fin 1024) :
    ((cfg0.win 0).blk t).view.read (Elt Ideal) X (ix2 n r) = X (ix2 n r) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 1024 + 1 * _ = _; rw [e]; show 0 * 1024 + 1 * r.val = r.val; omega

/-- Window 1's block of an array, at an index. -/
theorem read1 (X : Right) (t : Fin cfg0.N) (n : Fin 4096) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 1024 + 1 * _ = _; rw [e]; show t.val * 1024 + 1 * q.val = 1024 * t.val + q.val; omega

/-- Window 2's block of an array, at an index. -/
theorem read2 (X : Result) (t : Fin cfg0.N) (r : Fin 1024) (q : Fin 1024) :
    ((cfg0.win 2).blk t).view.read (Elt Ideal) X (ix2 r q) = X (ix2 r (col t q)) := by
  rw [View.read_apply]
  have e := index2 t
  refine congrArg X (funext fun a => Fin.ext ?_)
  match a with
  | ⟨0, _⟩ => show win0_2.index t 0 * 1024 + 1 * _ = _; rw [e]; show 0 * 1024 + 1 * r.val = r.val; omega
  | ⟨1, _⟩ => show win0_2.index t 1 * 1024 + 1 * _ = _; rw [e]; show t.val * 1024 + 1 * q.val = 1024 * t.val + q.val; omega

theorem blk0 (t : Fin cfg0.N) (n : Fin 4096) (r : Fin 1024) : iblk m c 0 t (ix2 n r) = a0 m c (ix2 n r) := read0 (a0 m c) t n r
theorem blk1 (t : Fin cfg0.N) (n : Fin 4096) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t n r).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S1024x3072.Idx) => by
    have hN : cfg0.N = 3 := N_0
    have h0 : (x 0 : ℕ) < 1024 := (x 0).isLt
    have h1 : (x 1 : ℕ) < 3072 := (x 1).isLt
    obtain ⟨t, ht⟩ : ∃ t : Fin cfg0.N, t.val = (x 1 : ℕ) / 1024 := ⟨⟨_, by omega⟩, rfl⟩
    refine ⟨t, flush0_2 t, ?_⟩
    show x ∈ ((View.whole main_v0).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show 0 * 1024 ≤ (x 0 : ℕ) ∧ (x 0 : ℕ) < 0 * 1024 + 1024; omega
    | ⟨1, _⟩ => show win0_2.index t 1 * 1024 ≤ (x 1 : ℕ) ∧ (x 1 : ℕ) < win0_2.index t 1 * 1024 + 1024; rw [e]; show t.val * 1024 ≤ (x 1 : ℕ) ∧ (x 1 : ℕ) < t.val * 1024 + 1024; omega

end Run

section Ref

open Cert.QkvWeightRefIdeal.Read

/-- The reference's result. -/
theorem ref_eq (x0 : Left) (x1 : Right) : val_main_v6 (F := Ideal) x0 x1 = total x0 x1 := by
  funext x
  obtain ⟨r, q, rfl⟩ : ∃ (r : Fin 1024) (q : Fin 3072), x = ix2 r q := ⟨_, _, eq_ix2 x⟩
  refine Eq.trans (b := val_main_v4 (F := Ideal) x0 x1 (ix2 q r)) (by pointwise [val_main_v6, val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_QkvWeightRefIdeal := fun m g _ =>
  (θ_run _ _ _).mono (fun r h => ⟨fun c => (h c).2, sem_eq_zero_of_no_sems (by decide) r.2⟩) (Cert.QkvWeightRefIdeal.Value.run (F := Ideal) m g)

/-- From equal arguments the two programs end with equal gradients. -/
theorem same_gradient : Cert.algebraic_QkvWeightIdeal_QkvWeightRefIdeal := by
  intro m g m' g' _ hag
  refine ⟨_, Cert.QkvWeightIdeal.Value.run_blocks m g, (θ_run _ _ _).mono (fun r h c => ?_) (Cert.QkvWeightRefIdeal.Value.run (F := Ideal) m' g')⟩
  obtain ⟨r0, k⟩ := h c
  obtain ⟨e0, e1⟩ := hag c
  refine ⟨r0.trans ?_, k⟩
  rw [Cert.QkvWeightRefIdeal.Read.val_main_v6_eq, e0, e1]
  exact (ref_eq _ _).trans (final2 m c).symm

end Cert.QkvWeightIdeal.Own

end
-- ==== Proof.QkvProj.lean ====
/- The first projection of the stick-breaking attention: what the kernel's result array holds, the argument times the weight, block of tokens by block of columns, and that it is the
   reference's. -/
module

public import proofs.«01_k».proof.Proof.Gen.QkvProjIdeal.Value
public import proofs.«01_k».proof.Proof.Gen.QkvProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QkvProjIdeal.Own

open Cert.QkvProjIdeal Cert.QkvProjIdeal.Gen Cert.QkvProjIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S1024x3072 .f32
/-- The second factor, as the kernel takes it. -/
abbrev Cast := Vec Ideal S1024x3072 .bf16
/-- The result. -/
abbrev Result := Vec Ideal S4096x3072 .f32

/-- The product of the two factors. -/
def total (a : Left) (w : S1024x3072.Idx → EReal) : Result := fun i => (∑ n, a (ix2 (i 0) n) * w (ix2 n (i 1)) : EReal)

section Point

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (hc0 : cond0_0 i) (hc1 : ¬cond0_1 i) (hc2 : cond0_2 i) (x0 : Vec Ideal S1024x1024 .bf16) (x1 : Vec Ideal S1024x1024 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 r n) * x1 (ix2 n q) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 3) + r.val, by have := t.isLt; have : cfg0.N = 12 := N_0; omega⟩

/-- Column `q` of a grid point's block, among all the columns. -/
def col (t : Fin cfg0.N) (q : Fin 1024) : Fin 3072 := ⟨1024 * (t.val % 3) + q.val, by have := t.isLt; have : cfg0.N = 12 := N_0; omega⟩

theorem index0 : ∀ t : Fin cfg0.N, win0_0.index t = ![(t.val / 3), 0] := (by decide +kernel : ∀ t : Fin grid0.N, win0_0.index t = ![(t.val / 3), 0])
theorem index1 : ∀ t : Fin cfg0.N, win0_1.index t = ![0, (t.val % 3)] := (by decide +kernel : ∀ t : Fin grid0.N, win0_1.index t = ![0, (t.val % 3)])
theorem index2 : ∀ t : Fin cfg0.N, win0_2.index t = ![(t.val / 3), (t.val % 3)] := (by decide +kernel : ∀ t : Fin grid0.N, win0_2.index t = ![(t.val / 3), (t.val % 3)])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x3072.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show (t.val / 3) * 1024 + 1 * r.val = 1024 * (t.val / 3) + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (n : Fin 1024) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 1024 + 1 * _ = _; rw [e]; show 0 * 1024 + 1 * n.val = n.val; omega
  | ⟨1, _⟩ => show win0_1.index t 1 * 1024 + 1 * _ = _; rw [e]; show (t.val % 3) * 1024 + 1 * q.val = 1024 * (t.val % 3) + q.val; omega

/-- Window 2's block of an array, at an index. -/
theorem read2 (X : Result) (t : Fin cfg0.N) (r : Fin 1024) (q : Fin 1024) :
    ((cfg0.win 2).blk t).view.read (Elt Ideal) X (ix2 r q) = X (ix2 (row t r) (col t q)) := by
  rw [View.read_apply]
  have e := index2 t
  refine congrArg X (funext fun a => Fin.ext ?_)
  match a with
  | ⟨0, _⟩ => show win0_2.index t 0 * 1024 + 1 * _ = _; rw [e]; show (t.val / 3) * 1024 + 1 * r.val = 1024 * (t.val / 3) + r.val; omega
  | ⟨1, _⟩ => show win0_2.index t 1 * 1024 + 1 * _ = _; rw [e]; show (t.val % 3) * 1024 + 1 * q.val = 1024 * (t.val % 3) + q.val; omega

theorem blk0 (t : Fin cfg0.N) (r : Fin 1024) (n : Fin 1024) : iblk m c 0 t (ix2 r n) = a0 m c (ix2 (row t r) n) := read0 (a0 m c) t r n
theorem blk1 (t : Fin cfg0.N) (n : Fin 1024) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x3072.Idx) => by
    have hN : cfg0.N = 12 := N_0
    have h0 : (x 0 : ℕ) < 4096 := (x 0).isLt
    have h1 : (x 1 : ℕ) < 3072 := (x 1).isLt
    obtain ⟨t, ht⟩ : ∃ t : Fin cfg0.N, t.val = 3 * ((x 0 : ℕ) / 1024) + (x 1 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 3) * 1024 ≤ (x 0 : ℕ) ∧ (x 0 : ℕ) < (t.val / 3) * 1024 + 1024; omega
    | ⟨1, _⟩ => show win0_2.index t 1 * 1024 ≤ (x 1 : ℕ) ∧ (x 1 : ℕ) < win0_2.index t 1 * 1024 + 1024; rw [e]; show (t.val % 3) * 1024 ≤ (x 1 : ℕ) ∧ (x 1 : ℕ) < (t.val % 3) * 1024 + 1024; omega

end Run

section Ref

open Cert.QkvProjRefIdeal.Read

/-- The reference's result. -/
theorem ref_eq (x0 : Left) (x1 : Right) : val_main_v1 (F := Ideal) x0 x1 = total x0 x1 := by
  funext x
  obtain ⟨r, q, rfl⟩ : ∃ (r : Fin 4096) (q : Fin 3072), x = ix2 r q := ⟨_, _, eq_ix2 x⟩
  rw [val_main_v1_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_QkvProjRefIdeal := fun m g _ =>
  (θ_run _ _ _).mono (fun r h => ⟨fun c => (h c).2, sem_eq_zero_of_no_sems (by decide) r.2⟩) (Cert.QkvProjRefIdeal.Value.run (F := Ideal) m g)

/-- From equal arguments the two programs end with equal results. -/
theorem same_result : Cert.algebraic_QkvProjIdeal_QkvProjRefIdeal := by
  intro m g m' g' _ hag
  refine ⟨_, Cert.QkvProjIdeal.Value.run_blocks m g, (θ_run _ _ _).mono (fun r h c => ?_) (Cert.QkvProjRefIdeal.Value.run (F := Ideal) m' g')⟩
  obtain ⟨r0, k⟩ := h c
  obtain ⟨e0, e1⟩ := hag c
  refine ⟨r0.trans ?_, k⟩
  rw [Cert.QkvProjRefIdeal.Read.val_main_v1_eq, e0, e1]
  exact (ref_eq _ _).trans (final2 m c).symm

end Cert.QkvProjIdeal.Own

end
-- ==== Proof.OutGrad.lean ====
/- The gradient a mixer's last projection hands back: what the kernel's result array holds, a product with the transposed weight, block of tokens by block of tokens, and that it is the
   reference's. -/
module

public import proofs.«01_k».proof.Proof.Gen.OutGradIdeal.Value
public import proofs.«01_k».proof.Proof.Gen.OutGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.OutGradIdeal.Own

open Cert.OutGradIdeal Cert.OutGradIdeal.Gen Cert.OutGradIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .f32
/-- The second factor, as the program takes it. -/
abbrev Right := Vec Ideal S1024x1024 .f32
/-- The second factor, as the kernel takes it. -/
abbrev Cast := Vec Ideal S1024x1024 .bf16
/-- The result. -/
abbrev Result := Vec Ideal S4096x1024 .f32

/-- The product of the first factor and the second, transposed. -/
def total (a : Left) (w : S1024x1024.Idx → EReal) : Result := fun i => (∑ n, a (ix2 (i 0) n) * w (ix2 (i 1) n) : EReal)

section Point

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole)
  (hc0 : cond0_0 i) (hc1 : ¬cond0_1 i) (hc2 : cond0_2 i) (x0 : Vec Ideal S1024x1024 .f32) (x1 : Vec Ideal S1024x1024 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 r n) * x1 (ix2 q n) : EReal) := by
  unfold out0_A_2 kernelRun0_A
  dsimp only
  rw [View.read_writes_junk_eq_canon, View.canon_unit_zero (by decide)]
  unfold kernelRun0_A.sl.v14 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x1024.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (q : Fin 1024) (n : Fin 1024) :
    ((cfg0.win 1).blk t).view.read (Elt Ideal) X (ix2 q n) = X (ix2 q n) := by
  rw [View.read_apply]
  have e := index1 t
  refine congrArg X (funext fun a => Fin.ext ?_)
  match a with
  | ⟨0, _⟩ => show win0_1.index t 0 * 1024 + 1 * _ = _; rw [e]; show 0 * 1024 + 1 * q.val = q.val; omega
  | ⟨1, _⟩ => show win0_1.index t 1 * 1024 + 1 * _ = _; rw [e]; show 0 * 1024 + 1 * n.val = n.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 1024 + 1 * _ = _; rw [e]; show 0 * 1024 + 1 * q.val = q.val; omega

theorem blk0 (t : Fin cfg0.N) (r : Fin 1024) (n : Fin 1024) : iblk m c 0 t (ix2 r n) = a0 m c (ix2 (row t r) n) := read0 (a0 m c) t r n
theorem blk1 (t : Fin cfg0.N) (q : Fin 1024) (n : Fin 1024) : iblk m c 1 t (ix2 q n) = a1 m c (ix2 q n) := read1 (a1 m c) t q n

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t q n).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x1024.Idx) => by
    have hN : cfg0.N = 4 := N_0
    have h0 : (x 0 : ℕ) < 4096 := (x 0).isLt
    have h1 : (x 1 : ℕ) < 1024 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.OutGradRefIdeal.Read

/-- The reference's result. -/
theorem ref_eq (x0 : Left) (x1 : Right) : val_main_v2 (F := Ideal) x0 x1 = total x0 x1 := by
  funext x
  obtain ⟨r, q, rfl⟩ : ∃ (r : Fin 4096) (q : Fin 1024), x = ix2 r q := ⟨_, _, eq_ix2 x⟩
  rw [val_main_v2_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_OutGradRefIdeal := fun m g _ =>
  (θ_run _ _ _).mono (fun r h => ⟨fun c => (h c).2, sem_eq_zero_of_no_sems (by decide) r.2⟩) (Cert.OutGradRefIdeal.Value.run (F := Ideal) m g)

/-- From equal arguments the two programs end with equal gradients. -/
theorem same_gradient : Cert.algebraic_OutGradIdeal_OutGradRefIdeal := by
  intro m g m' g' _ hag
  refine ⟨_, Cert.OutGradIdeal.Value.run_blocks m g, (θ_run _ _ _).mono (fun r h c => ?_) (Cert.OutGradRefIdeal.Value.run (F := Ideal) m' g')⟩
  obtain ⟨r0, k⟩ := h c
  obtain ⟨e0, e1⟩ := hag c
  refine ⟨r0.trans ?_, k⟩
  rw [Cert.OutGradRefIdeal.Read.val_main_v2_eq, e0, e1]
  exact (ref_eq _ _).trans (final2 m c).symm

end Cert.OutGradIdeal.Own

end
-- ==== Proof.OutWeight.lean ====
/- The gradient of a mixer's last projection's weight: what the kernel's result array holds, a product over the tokens, its sum taken in
   two halves, the first of which is carried from one grid point to the next,
   and that it is the reference's. -/
module

public import proofs.«01_k».proof.Proof.Gen.OutWeightIdeal.Value
public import proofs.«01_k».proof.Proof.Gen.OutWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.OutWeightIdeal.Own

open Cert.OutWeightIdeal Cert.OutWeightIdeal.Gen Cert.OutWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S4096x1024 .f32
/-- The result. -/
abbrev Result := Vec Ideal S1024x1024 .bf16

/-- The product over the tokens of the two factors. -/
def total (a : Left) (w : Right) : Result := fun i => (∑ n, a (ix2 n (i 0)) * w (ix2 n (i 1)) : EReal)

section Point

variable (c : Dev nD) (i : grid0.Coords) (arg3 : Memref sig .tc .vmem S2048x1024 .bf16) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .bf16) (x1 : Vec Ideal S2048x1024 .f32) (xs : Vec Ideal S1024x1024 .f32)

/-- The first grid point of a block leaves its part of the sum in the carried array. -/
theorem first_at (hc0 : cond0_0 i) (hc1 : ¬cond0_1 i) (hc2 : ¬cond0_2 i) (r : Fin 1024) (q : Fin 1024) :
    sout0_A_0 c i arg3 harg3 arg4 harg4 arg5 harg5 arg6 harg6 hc0 hc1 hc2 x0 x1 (ix2 r q) = (∑ n, x0 (ix2 n r) * x1 (ix2 n q) : EReal) := by
  unfold sout0_A_0 kernelRun0_A
  dsimp only
  rw [View.read_writes_junk_eq_canon, View.canon_unit_zero (by decide)]
  simp only [View.readAt_eq_ld, Memref.IsWhole.read_unread]
  pointwise [k0_pay1, k0_pay2]

/-- The last adds its part and copies the sum to the result. -/
theorem last_at (hc0 : ¬cond0_0 i) (hc1 : cond0_1 i) (hc2 : cond0_2 i) (r : Fin 1024) (q : Fin 1024) :
    out0_B_2 c i arg3 harg3 arg4 harg4 arg5 harg5 arg6 harg6 hc0 hc1 hc2 x0 x1 xs (ix2 r q) = (xs (ix2 r q) + ∑ n, x0 (ix2 n r) * x1 (ix2 n q) : EReal) := by
  unfold out0_B_2 kernelRun0_B
  dsimp only
  rw [View.read_writes_junk_eq_canon, View.canon_unit_zero (by decide)]
  unfold kernelRun0_B.sl.v13 kernelRun0_B.sl.HS0_1
  rw [View.readCov_unit_zero _ (by decide)]
  simp only [View.readAt_eq_ld, Memref.IsWhole.read_unread]
  pointwise [k0_pay1, k0_pay3, k0_pay4]

end Point

section Run

variable (m : (ℓ : Loc nD τ sig) → Buf (Elt Ideal) ℓ) (c : Dev nD)

/-- Index `n` of a grid point's part of the sum, among all that are summed over. -/
def idx (t : Fin cfg0.N) (n : Fin 2048) : Fin 4096 := ⟨2048 * t.val + n.val, by have := t.isLt; have : cfg0.N = 2 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x1024.Idx) : a1 m c x = b1 m c x := congrFun (V_main_arg1 m c) x

/-- Window 0's block of an array, at an index. -/
theorem read0 (X : Left) (t : Fin cfg0.N) (n : Fin 2048) (r : Fin 1024) :
    ((cfg0.win 0).blk t).view.read (Elt Ideal) X (ix2 n r) = X (ix2 (idx t n) r) := by
  rw [View.read_apply]
  have e := index0 t
  refine congrArg X (funext fun a => Fin.ext ?_)
  match a with
  | ⟨0, _⟩ => show win0_0.index t 0 * 2048 + 1 * _ = _; rw [e]; show t.val * 2048 + 1 * n.val = 2048 * t.val + n.val; omega
  | ⟨1, _⟩ => show win0_0.index t 1 * 1024 + 1 * _ = _; rw [e]; show 0 * 1024 + 1 * r.val = r.val; omega

/-- Window 1's block of an array, at an index. -/
theorem read1 (X : Right) (t : Fin cfg0.N) (n : Fin 2048) (q : Fin 1024) :
    ((cfg0.win 1).blk t).view.read (Elt Ideal) X (ix2 n q) = X (ix2 (idx t n) q) := by
  rw [View.read_apply]
  have e := index1 t
  refine congrArg X (funext fun a => Fin.ext ?_)
  match a with
  | ⟨0, _⟩ => show win0_1.index t 0 * 2048 + 1 * _ = _; rw [e]; show t.val * 2048 + 1 * n.val = 2048 * t.val + n.val; omega
  | ⟨1, _⟩ => show win0_1.index t 1 * 1024 + 1 * _ = _; rw [e]; show 0 * 1024 + 1 * q.val = q.val; omega

/-- Window 2's block of an array, at an index. -/
theorem read2 (X : Result) (t : Fin cfg0.N) (r : Fin 1024) (q : Fin 1024) :
    ((cfg0.win 2).blk t).view.read (Elt Ideal) X (ix2 r q) = X (ix2 r q) := by
  rw [View.read_apply]
  have e := index2 t
  refine congrArg X (funext fun a => Fin.ext ?_)
  match a with
  | ⟨0, _⟩ => show win0_2.index t 0 * 1024 + 1 * _ = _; rw [e]; show 0 * 1024 + 1 * r.val = r.val; omega
  | ⟨1, _⟩ => show win0_2.index t 1 * 1024 + 1 * _ = _; rw [e]; show 0 * 1024 + 1 * q.val = q.val; omega

theorem blk0 (t : Fin cfg0.N) (n : Fin 2048) (r : Fin 1024) : iblk m c 0 t (ix2 n r) = a0 m c (ix2 (idx t n) r) := read0 (a0 m c) t n r
theorem blk1 (t : Fin cfg0.N) (n : Fin 2048) (q : Fin 1024) : iblk m c 1 t (ix2 n q) = a1 m c (ix2 (idx t n) q) := read1 (a1 m c) t n q

/-- A grid point's part of the sum. -/
def part (t : Fin cfg0.N) (r : Fin 1024) (q : Fin 1024) : EReal := ∑ n, b0 m c (ix2 (idx t n) r) * b1 m c (ix2 (idx t n) q)

theorem part_eq (t : Fin cfg0.N) (r : Fin 1024) (q : Fin 1024) (x0 : Vec Ideal S2048x1024 .bf16) (x1 : Vec Ideal S2048x1024 .f32)
    (h0 : x0 = iblk m c 0 t) (h1 : x1 = iblk m c 1 t) : (∑ n, x0 (ix2 n r) * x1 (ix2 n q) : EReal) = part m c t r q :=
  Finset.sum_congr rfl fun n _ => congrArg₂ (· * ·) ((congrFun h0 _).trans ((blk0 m c t n r).trans (congrFun (a0_eq m c) _)))
    ((congrFun h1 _).trans ((blk1 m c t n q).trans (a1_at m c _)))

/-- What the carried array holds after a grid point. -/
def held (t : Fin cfg0.N) : Vec Ideal S1024x1024 .f32 := (outsAt0 m c t.val t.isLt).2

theorem held_first (t : Fin cfg0.N) (h : t.val % 2 = 0) (r : Fin 1024) (q : Fin 1024) : held m c t (ix2 r q) = part m c t r q := by
  unfold held
  rw [outsAt0_A m c t h (by omega) (by omega)]
  dsimp only
  exact (first_at c _ _ _ _ _ _ _ _ _ (iblk m c 0 t) (iblk m c 1 t) _ _ _ r q).trans (part_eq m c t r q _ _ rfl rfl)

/-- What the last grid point of a block writes back is the block of the whole sum. -/
theorem flush2 (t : Fin cfg0.N) (hf : (cfg0.win 2).flush t = true) :
    (dats m 0 c).flushed 2 t = ((cfg0.win 2).blk t).view.read (Elt Ideal) (total (b0 m c) (b1 m c)) := by
  have h := (flush0_2 t).mp hf
  have hN : cfg0.N = 2 := N_0
  have hN' := t.isLt
  rw [flushed2_B m c t (by omega) (by omega) (by omega)]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  obtain ⟨s, hs⟩ : ∃ s : Fin cfg0.N, s.val = t.val - 1 := ⟨⟨t.val - 1, by omega⟩, rfl⟩
  have e : held m c ⟨t.val - 1, Nat.lt_of_le_of_lt (Nat.sub_le _ _) t.isLt⟩ = held m c s := congrArg (held m c) (Fin.ext hs.symm)
  refine Eq.trans (b := part m c s r q + part m c t r q) ?_ ?_
  · refine (last_at c _ _ _ _ _ _ _ _ _ (iblk m c 0 t) (iblk m c 1 t) _ _ _ _ r q).trans ?_
    exact congrArg₂ (· + ·) ((congrFun e _).trans (held_first m c s (by omega) r q)) (part_eq m c t r q _ _ rfl rfl)
  · refine Eq.trans ?_ (sum_parts (a := 2) (b := 2048) fun n : Fin 4096 => b0 m c (ix2 n r) * b1 m c (ix2 n q)).symm
    refine Eq.trans ?_ (Fin.sum_univ_two _).symm
    refine congrArg₂ (· + ·) ?_ ?_
    · exact Finset.sum_congr rfl fun n _ => congrArg₂ (· * ·) (congrArg₂ (fun n r => b0 m c (ix2 n r)) (Fin.ext (by show 2048 * s.val + n.val = 2048 * 0 + n.val; omega) : idx s n = at_ (b := 2048) (0 : Fin 2) n) rfl)
        (congrArg (fun n => b1 m c (ix2 n q)) (Fin.ext (by show 2048 * s.val + n.val = 2048 * 0 + n.val; omega) : idx s n = at_ (b := 2048) (0 : Fin 2) n))
    · exact Finset.sum_congr rfl fun n _ => congrArg₂ (· * ·) (congrArg₂ (fun n r => b0 m c (ix2 n r)) (Fin.ext (by show 2048 * t.val + n.val = 2048 * 1 + n.val; omega) : idx t n = at_ (b := 2048) (1 : Fin 2) n) rfl)
        (congrArg (fun n => b1 m c (ix2 n q)) (Fin.ext (by show 2048 * t.val + n.val = 2048 * 1 + n.val; omega) : idx t n = at_ (b := 2048) (1 : Fin 2) n))

/-- What the result array holds in the end. -/
theorem final2 : (dats m 0 c).arrAt 2 cfg0.N = total (b0 m c) (b1 m c) :=
  (dats m 0 c).arrAt_eq_of_cover 2 (total (b0 m c) (b1 m c)) (flush2 m c) fun (x : S1024x1024.Idx) => by
    have hN : cfg0.N = 2 := N_0
    have h0 : (x 0 : ℕ) < 1024 := (x 0).isLt
    have h1 : (x 1 : ℕ) < 1024 := (x 1).isLt
    obtain ⟨t, ht⟩ : ∃ t : Fin cfg0.N, t.val = 1 := ⟨⟨_, by omega⟩, rfl⟩
    refine ⟨t, (flush0_2 t).mpr (by omega), ?_⟩
    show x ∈ ((View.whole main_v0).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show 0 * 1024 ≤ (x 0 : ℕ) ∧ (x 0 : ℕ) < 0 * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.OutWeightRefIdeal.Read

/-- The reference's result. -/
theorem ref_eq (x0 : Left) (x1 : Right) : val_main_v5 (F := Ideal) x0 x1 = total x0 x1 := by
  funext x
  obtain ⟨r, q, rfl⟩ : ∃ (r : Fin 1024) (q : Fin 1024), x = ix2 r q := ⟨_, _, eq_ix2 x⟩
  refine Eq.trans (b := val_main_v3 (F := Ideal) x0 x1 (ix2 q r)) (by pointwise [val_main_v5, val_main_v4]) ?_
  rw [val_main_v3_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_OutWeightRefIdeal := fun m g _ =>
  (θ_run _ _ _).mono (fun r h => ⟨fun c => (h c).2, sem_eq_zero_of_no_sems (by decide) r.2⟩) (Cert.OutWeightRefIdeal.Value.run (F := Ideal) m g)

/-- From equal arguments the two programs end with equal gradients. -/
theorem same_gradient : Cert.algebraic_OutWeightIdeal_OutWeightRefIdeal := by
  intro m g m' g' _ hag
  refine ⟨_, Cert.OutWeightIdeal.Value.run_blocks m g, (θ_run _ _ _).mono (fun r h c => ?_) (Cert.OutWeightRefIdeal.Value.run (F := Ideal) m' g')⟩
  obtain ⟨r0, k⟩ := h c
  obtain ⟨e0, e1⟩ := hag c
  refine ⟨r0.trans ?_, k⟩
  rw [Cert.OutWeightRefIdeal.Read.val_main_v5_eq, e0, e1]
  exact (ref_eq _ _).trans (final2 m c).symm

end Cert.OutWeightIdeal.Own

end
-- ==== Proof.OutProj.lean ====
/- The last projection of a mixer: what the kernel's result array holds, the mixer's argument plus a product with the weight, block of tokens by block of tokens, and that it is the
   reference's. -/
module

public import proofs.«01_k».proof.Proof.Gen.OutProjIdeal.Value
public import proofs.«01_k».proof.Proof.Gen.OutProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.OutProjIdeal.Own

open Cert.OutProjIdeal Cert.OutProjIdeal.Gen Cert.OutProjIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S1024x1024 .f32
/-- The second factor, as the kernel takes it. -/
abbrev Cast := Vec Ideal S1024x1024 .bf16
/-- The result. -/
abbrev Result := Vec Ideal S4096x1024 .f32

/-- An array plus the product of the two factors. -/
def total (a : Left) (w : S1024x1024.Idx → EReal) (x : Result) : Result := fun i => (x i + ∑ n, a (ix2 (i 0) n) * w (ix2 n (i 1)) : EReal)

section Point

variable (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (hc0 : cond0_0 i) (hc1 : ¬cond0_1 i) (hc2 : cond0_2 i) (x0 : Vec Ideal S1024x1024 .bf16) (x1 : Vec Ideal S1024x1024 .bf16) (x2 : Vec Ideal S1024x1024 .f32)

/-- The block of the result that a grid point computes. -/
theorem block_at (r : Fin 1024) (q : Fin 1024) :
    out0_A_3 c i arg3 harg3 arg4 harg4 arg5 harg5 arg6 harg6 arg7 harg7 hc0 hc1 hc2 x0 x1 x2 (ix2 r q) = (x2 (ix2 r q) + ∑ n, x0 (ix2 r n) * x1 (ix2 n q) : EReal) := by
  unfold out0_A_3 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2, k0_pay4]
  exact add_comm _ _

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

/-- The first factor, as the call finds it. -/
def a0 : Left := V m c main_arg0
/-- The second factor, as the call finds it. -/
def a1 : Cast := V m c main_v0
/-- The array added, as the call finds it. -/
def a2 : Result := V m c main_arg2
/-- The first factor as the program's argument. -/
def b0 : Left := m ((c.tc : Thread nD τ).loc main_arg0)
/-- The second factor as the program's argument. -/
def b1 : Right := m ((c.tc : Thread nD τ).loc main_arg1)
/-- The array added as the program's argument. -/
def b2 : Result := m ((c.tc : Thread nD τ).loc main_arg2)

theorem a0_eq : a0 m c = b0 m c := V_main_arg0 m c

theorem a2_eq : a2 m c = b2 m c := V_main_arg2 m c

/-- The call finds the second factor converted: its numbers are the argument's. -/
theorem a1_at (x : S1024x1024.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (n : Fin 1024) (q : Fin 1024) :
    ((cfg0.win 1).blk t).view.read (Elt Ideal) X (ix2 n q) = X (ix2 n q) := by
  rw [View.read_apply]
  have e := index1 t
  refine congrArg X (funext fun a => Fin.ext ?_)
  match a with
  | ⟨0, _⟩ => show win0_1.index t 0 * 1024 + 1 * _ = _; rw [e]; show 0 * 1024 + 1 * n.val = n.val; omega
  | ⟨1, _⟩ => show win0_1.index t 1 * 1024 + 1 * _ = _; rw [e]; show 0 * 1024 + 1 * q.val = q.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 1024 + 1 * _ = _; rw [e]; show 0 * 1024 + 1 * q.val = q.val; omega

/-- Window 3's block of an array, at an index. -/
theorem read3 (X : Result) (t : Fin cfg0.N) (r : Fin 1024) (q : Fin 1024) :
    ((cfg0.win 3).blk t).view.read (Elt Ideal) X (ix2 r q) = X (ix2 (row t r) q) := by
  rw [View.read_apply]
  have e := index3 t
  refine congrArg X (funext fun a => Fin.ext ?_)
  match a with
  | ⟨0, _⟩ => show win0_3.index t 0 * 1024 + 1 * _ = _; rw [e]; show t.val * 1024 + 1 * r.val = 1024 * t.val + r.val; omega
  | ⟨1, _⟩ => show win0_3.index t 1 * 1024 + 1 * _ = _; rw [e]; show 0 * 1024 + 1 * q.val = q.val; omega

theorem blk0 (t : Fin cfg0.N) (r : Fin 1024) (n : Fin 1024) : iblk m c 0 t (ix2 r n) = a0 m c (ix2 (row t r) n) := read0 (a0 m c) t r n
theorem blk1 (t : Fin cfg0.N) (n : Fin 1024) (q : Fin 1024) : iblk m c 1 t (ix2 n q) = a1 m c (ix2 n q) := read1 (a1 m c) t n q
theorem blk2 (t : Fin cfg0.N) (r : Fin 1024) (q : Fin 1024) : iblk m c 2 t (ix2 r q) = a2 m c (ix2 (row t r) q) := read2 (a2 m c) t r q

/-- What a grid point writes back is its block of the result. -/
theorem flush3 (t : Fin cfg0.N) (hf : (cfg0.win 3).flush t = true) :
    (dats m 0 c).flushed 3 t = ((cfg0.win 3).blk t).view.read (Elt Ideal) (total (b0 m c) (b1 m c) (b2 m c)) := by
  rw [flushed3_A]
  funext x
  obtain ⟨r, q, rfl⟩ : ∃ (r : Fin 1024) (q : Fin 1024), x = ix2 r q := ⟨x 0, x 1, funext fun k => by fin_cases k <;> rfl⟩
  refine Eq.trans ?_ (read3 (total (b0 m c) (b1 m c) (b2 m c)) t r q).symm
  refine (block_at c _ _ _ _ _ _ _ _ _ _ _ _ _ _ (iblk m c 0 t) (iblk m c 1 t) (iblk m c 2 t) r q).trans ?_
  refine congrArg₂ (· + ·) ((blk2 m c t r q).trans (congrFun (a2_eq m c) _)) ?_
  exact Finset.sum_congr rfl fun n _ => congrArg₂ (· * ·) ((blk0 m c t r n).trans (congrFun (a0_eq m c) _)) ((blk1 m c t n q).trans (a1_at m c _))

/-- What the result array holds in the end. -/
theorem final3 : (dats m 0 c).arrAt 3 cfg0.N = total (b0 m c) (b1 m c) (b2 m c) :=
  (dats m 0 c).arrAt_eq_of_cover 3 (total (b0 m c) (b1 m c) (b2 m c)) (flush3 m c) fun (x : S4096x1024.Idx) => by
    have hN : cfg0.N = 4 := N_0
    have h0 : (x 0 : ℕ) < 4096 := (x 0).isLt
    have h1 : (x 1 : ℕ) < 1024 := (x 1).isLt
    obtain ⟨t, ht⟩ : ∃ t : Fin cfg0.N, t.val = (x 0 : ℕ) / 1024 := ⟨⟨_, by omega⟩, rfl⟩
    refine ⟨t, flush0_3 t, ?_⟩
    show x ∈ ((View.whole main_v1).slice (win0_3.rect t)).set
    rw [View.set_slice_whole, Rect.mem_set_unit]
    have e := index3 t
    intro a
    match a with
    | ⟨0, _⟩ => show win0_3.index t 0 * 1024 ≤ (x 0 : ℕ) ∧ (x 0 : ℕ) < win0_3.index t 0 * 1024 + 1024; rw [e]; show t.val * 1024 ≤ (x 0 : ℕ) ∧ (x 0 : ℕ) < t.val * 1024 + 1024; omega
    | ⟨1, _⟩ => show win0_3.index t 1 * 1024 ≤ (x 1 : ℕ) ∧ (x 1 : ℕ) < win0_3.index t 1 * 1024 + 1024; rw [e]; show 0 * 1024 ≤ (x 1 : ℕ) ∧ (x 1 : ℕ) < 0 * 1024 + 1024; omega

end Run

section Ref

open Cert.OutProjRefIdeal.Read

/-- The reference's result. -/
theorem ref_eq (x0 : Left) (x1 : Right) (x2 : Result) : val_main_v2 (F := Ideal) x0 x1 x2 = total x0 x1 x2 := by
  funext x
  obtain ⟨r, q, rfl⟩ : ∃ (r : Fin 4096) (q : Fin 1024), x = ix2 r q := ⟨_, _, eq_ix2 x⟩
  rw [val_main_v2_apply, val_main_v1_apply]
  exact congrArg₂ (· + ·) rfl (Finset.sum_congr rfl fun n _ => congrArg₂ (· * ·) (congrArg x0 (funext fun a => by fin_cases a <;> rfl)) (congrArg x1 (funext fun a => by fin_cases a <;> rfl)))

end Ref

/-- The reference's run leaves its arguments as they were and every counter at zero. -/
theorem reference_frame : Cert.quiescent_OutProjRefIdeal := fun m g _ =>
  (θ_run _ _ _).mono (fun r h => ⟨fun c => (h c).2, sem_eq_zero_of_no_sems (by decide) r.2⟩) (Cert.OutProjRefIdeal.Value.run (F := Ideal) m g)

/-- From equal arguments the two programs end with equal results. -/
theorem same_result : Cert.algebraic_OutProjIdeal_OutProjRefIdeal := by
  intro m g m' g' _ hag
  refine ⟨_, Cert.OutProjIdeal.Value.run_blocks m g, (θ_run _ _ _).mono (fun r h c => ?_) (Cert.OutProjRefIdeal.Value.run (F := Ideal) m' g')⟩
  obtain ⟨r0, k⟩ := h c
  obtain ⟨e0, e1, e2⟩ := hag c
  refine ⟨r0.trans ?_, k⟩
  rw [Cert.OutProjRefIdeal.Read.val_main_v2_eq, e0, e1, e2]
  exact (ref_eq _ _ _).trans (final3 m c).symm

end Cert.OutProjIdeal.Own

end
-- ==== Proof.AttOutProj.lean ====
/- The last projection of the two attentions: what the kernel's result array
   holds, the mixer's argument plus a product with the weight, block of tokens by block of tokens,
   and that it is the reference's. -/
module

public import proofs.«01_k».proof.Proof.Gen.AttOutProjIdeal.Value
public import proofs.«01_k».proof.Proof.Gen.AttOutProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.AttOutProjIdeal.Own

open Cert.AttOutProjIdeal Cert.AttOutProjIdeal.Gen Cert.AttOutProjIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .f32
/-- The second factor, as the program takes it. -/
abbrev Right := Vec Ideal S1024x1024 .f32
/-- The second factor, as the kernel takes it. -/
abbrev Cast := Vec Ideal S1024x1024 .bf16
/-- The result. -/
abbrev Result := Vec Ideal S4096x1024 .f32

/-- An array plus the product of the two factors. -/
def total (a : Left) (w : S1024x1024.Idx → EReal) (x : Result) : Result := fun i => (x i + ∑ n, a (ix2 (i 0) n) * w (ix2 n (i 1)) : EReal)

section Point

variable (c : Dev nD) (i : grid0.Coords) (arg3 : Memref sig .tc .vmem S1024x1024 .f32) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .f32) (harg7 : arg7.IsWhole)
  (hc0 : cond0_0 i) (hc1 : ¬cond0_1 i) (hc2 : cond0_2 i) (x0 : Vec Ideal S1024x1024 .f32) (x1 : Vec Ideal S1024x1024 .bf16) (x2 : Vec Ideal S1024x1024 .f32)

/-- The block of the result that a grid point computes. -/
theorem block_at (r : Fin 1024) (q : Fin 1024) :
    out0_A_3 c i arg3 harg3 arg4 harg4 arg5 harg5 arg6 harg6 arg7 harg7 hc0 hc1 hc2 x0 x1 x2 (ix2 r q) = (x2 (ix2 r q) + ∑ n, x0 (ix2 r n) * x1 (ix2 n q) : EReal) := by
  unfold out0_A_3 kernelRun0_A
  dsimp only
  rw [View.read_writes_junk_eq_canon, View.canon_unit_zero (by decide)]
  unfold kernelRun0_A.sl.v14 kernelRun0_A.sl.HS0_1
  rw [View.readCov_unit_zero _ (by decide)]
  simp only [View.readAt_eq_ld, Memref.IsWhole.read_unread]
  pointwise [k0_pay1, k0_pay2, k0_pay4]
  exact add_comm _ _

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])

/-- The first factor, as the call finds it. -/
def a0 : Left := V m c main_arg0
/-- The second factor, as the call finds it. -/
def a1 : Cast := V m c main_v0
/-- The array added, as the call finds it. -/
def a2 : Result := V m c main_arg2
/-- The first factor as the program's argument. -/
def b0 : Left := m ((c.tc : Thread nD τ).loc main_arg0)
/-- The second factor as the program's argument. -/
def b1 : Right := m ((c.tc : Thread nD τ).loc main_arg1)
/-- The array added as the program's argument. -/
def b2 : Result := m ((c.tc : Thread nD τ).loc main_arg2)

theorem a0_eq : a0 m c = b0 m c := V_main_arg0 m c

theorem a2_eq : a2 m c = b2 m c := V_main_arg2 m c

/-- The call finds the second factor converted: its numbers are the argument's. -/
theorem a1_at (x : S1024x1024.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (n : Fin 1024) (q : Fin 1024) :
    ((cfg0.win 1).blk t).view.read (Elt Ideal) X (ix2 n q) = X (ix2 n q) := by
  rw [View.read_apply]
  have e := index1 t
  refine congrArg X (funext fun a => Fin.ext ?_)
  match a with
  | ⟨0, _⟩ => show win0_1.index t 0 * 1024 + 1 * _ = _; rw [e]; show 0 * 1024 + 1 * n.val = n.val; omega
  | ⟨1, _⟩ => show win0_1.index t 1 * 1024 + 1 * _ = _; rw [e]; show 0 * 1024 + 1 * q.val = q.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 1024 + 1 * _ = _; rw [e]; show 0 * 1024 + 1 * q.val = q.val; omega

/-- Window 3's block of an array, at an index. -/
theorem read3 (X : Result) (t : Fin cfg0.N) (r : Fin 1024) (q : Fin 1024) :
    ((cfg0.win 3).blk t).view.read (Elt Ideal) X (ix2 r q) = X (ix2 (row t r) q) := by
  rw [View.read_apply]
  have e := index3 t
  refine congrArg X (funext fun a => Fin.ext ?_)
  match a with
  | ⟨0, _⟩ => show win0_3.index t 0 * 1024 + 1 * _ = _; rw [e]; show t.val * 1024 + 1 * r.val = 1024 * t.val + r.val; omega
  | ⟨1, _⟩ => show win0_3.index t 1 * 1024 + 1 * _ = _; rw [e]; show 0 * 1024 + 1 * q.val = q.val; omega

theorem blk0 (t : Fin cfg0.N) (r : Fin 1024) (n : Fin 1024) : iblk m c 0 t (ix2 r n) = a0 m c (ix2 (row t r) n) := read0 (a0 m c) t r n
theorem blk1 (t : Fin cfg0.N) (n : Fin 1024) (q : Fin 1024) : iblk m c 1 t (ix2 n q) = a1 m c (ix2 n q) := read1 (a1 m c) t n q
theorem blk2 (t : Fin cfg0.N) (r : Fin 1024) (q : Fin 1024) : iblk m c 2 t (ix2 r q) = a2 m c (ix2 (row t r) q) := read2 (a2 m c) t r q

/-- What a grid point writes back is its block of the result. -/
theorem flush3 (t : Fin cfg0.N) (hf : (cfg0.win 3).flush t = true) :
    (dats m 0 c).flushed 3 t = ((cfg0.win 3).blk t).view.read (Elt Ideal) (total (b0 m c) (b1 m c) (b2 m c)) := by
  rw [flushed3_A]
  funext x
  obtain ⟨r, q, rfl⟩ : ∃ (r : Fin 1024) (q : Fin 1024), x = ix2 r q := ⟨x 0, x 1, funext fun k => by fin_cases k <;> rfl⟩
  refine Eq.trans ?_ (read3 (total (b0 m c) (b1 m c) (b2 m c)) t r q).symm
  refine (block_at c _ _ _ _ _ _ _ _ _ _ _ _ _ _ (iblk m c 0 t) (iblk m c 1 t) (iblk m c 2 t) r q).trans ?_
  refine congrArg₂ (· + ·) ((blk2 m c t r q).trans (congrFun (a2_eq m c) _)) ?_
  exact Finset.sum_congr rfl fun n _ => congrArg₂ (· * ·) ((blk0 m c t r n).trans (congrFun (a0_eq m c) _)) ((blk1 m c t n q).trans (a1_at m c _))

/-- What the result array holds in the end. -/
theorem final3 : (dats m 0 c).arrAt 3 cfg0.N = total (b0 m c) (b1 m c) (b2 m c) :=
  (dats m 0 c).arrAt_eq_of_cover 3 (total (b0 m c) (b1 m c) (b2 m c)) (flush3 m c) fun (x : S4096x1024.Idx) => by
    have hN : cfg0.N = 4 := N_0
    have h0 : (x 0 : ℕ) < 4096 := (x 0).isLt
    have h1 : (x 1 : ℕ) < 1024 := (x 1).isLt
    obtain ⟨t, ht⟩ : ∃ t : Fin cfg0.N, t.val = (x 0 : ℕ) / 1024 := ⟨⟨_, by omega⟩, rfl⟩
    refine ⟨t, flush0_3 t, ?_⟩
    show x ∈ ((View.whole main_v1).slice (win0_3.rect t)).set
    rw [View.set_slice_whole, Rect.mem_set_unit]
    have e := index3 t
    intro a
    match a with
    | ⟨0, _⟩ => show win0_3.index t 0 * 1024 ≤ (x 0 : ℕ) ∧ (x 0 : ℕ) < win0_3.index t 0 * 1024 + 1024; rw [e]; show t.val * 1024 ≤ (x 0 : ℕ) ∧ (x 0 : ℕ) < t.val * 1024 + 1024; omega
    | ⟨1, _⟩ => show win0_3.index t 1 * 1024 ≤ (x 1 : ℕ) ∧ (x 1 : ℕ) < win0_3.index t 1 * 1024 + 1024; rw [e]; show 0 * 1024 ≤ (x 1 : ℕ) ∧ (x 1 : ℕ) < 0 * 1024 + 1024; omega

end Run

section Ref

open Cert.AttOutProjRefIdeal.Read

/-- The reference's result. -/
theorem ref_eq (x0 : Left) (x1 : Right) (x2 : Result) : val_main_v1 (F := Ideal) x0 x1 x2 = total x0 x1 x2 := by
  funext x
  obtain ⟨r, q, rfl⟩ : ∃ (r : Fin 4096) (q : Fin 1024), x = ix2 r q := ⟨_, _, eq_ix2 x⟩
  rw [val_main_v1_apply, val_main_v0_apply]
  exact congrArg₂ (· + ·) rfl (Finset.sum_congr rfl fun n _ => congrArg₂ (· * ·) (congrArg x0 (funext fun a => by fin_cases a <;> rfl)) (congrArg x1 (funext fun a => by fin_cases a <;> rfl)))

end Ref

/-- The reference's run leaves its arguments as they were and every counter at zero. -/
theorem reference_frame : Cert.quiescent_AttOutProjRefIdeal := fun m g _ =>
  (θ_run _ _ _).mono (fun r h => ⟨fun c => (h c).2, sem_eq_zero_of_no_sems (by decide) r.2⟩) (Cert.AttOutProjRefIdeal.Value.run (F := Ideal) m g)

/-- From equal arguments the two programs end with equal results. -/
theorem same_result : Cert.algebraic_AttOutProjIdeal_AttOutProjRefIdeal := by
  intro m g m' g' _ hag
  refine ⟨_, Cert.AttOutProjIdeal.Value.run_blocks m g, (θ_run _ _ _).mono (fun r h c => ?_) (Cert.AttOutProjRefIdeal.Value.run (F := Ideal) m' g')⟩
  obtain ⟨r0, k⟩ := h c
  obtain ⟨e0, e1, e2⟩ := hag c
  refine ⟨r0.trans ?_, k⟩
  rw [Cert.AttOutProjRefIdeal.Read.val_main_v1_eq, e0, e1, e2]
  exact (ref_eq _ _ _).trans (final3 m c).symm

end Cert.AttOutProjIdeal.Own

end
-- ==== Proof.AttOutWeight.lean ====
/- The gradient of the weight of the two attentions' last projection: what the kernel's result array holds, a
   product over the tokens, its sum taken in two halves, the first of which is carried from one grid point to the next,
   and that it is the reference's. -/
module

public import proofs.«01_k».proof.Proof.Gen.AttOutWeightIdeal.Value
public import proofs.«01_k».proof.Proof.Gen.AttOutWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.AttOutWeightIdeal.Own

open Cert.AttOutWeightIdeal Cert.AttOutWeightIdeal.Gen Cert.AttOutWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .f32
/-- The second factor, as the program takes it. -/
abbrev Right := Vec Ideal S4096x1024 .f32
/-- The result. -/
abbrev Result := Vec Ideal S1024x1024 .bf16

/-- The product over the tokens of the two factors. -/
def total (a : Left) (w : Right) : Result := fun i => (∑ n, a (ix2 n (i 0)) * w (ix2 n (i 1)) : EReal)

section Point

variable (c : Dev nD) (i : grid0.Coords) (arg3 : Memref sig .tc .vmem S2048x1024 .f32) (harg3 : arg3.IsWhole) (arg4 : Memref sig .tc .vmem S2048x1024 .f32) (harg4 : arg4.IsWhole) (arg5 : Memref sig .tc .vmem S1024x1024 .bf16) (harg5 : arg5.IsWhole) (arg6 : Memref sig .tc .vmem S1024x1024 .f32) (harg6 : arg6.IsWhole)
  (x0 : Vec Ideal S2048x1024 .f32) (x1 : Vec Ideal S2048x1024 .f32) (xs : Vec Ideal S1024x1024 .f32)

/-- The first grid point of a block leaves its part of the sum in the carried array. -/
theorem first_at (hc0 : cond0_0 i) (hc1 : ¬cond0_1 i) (hc2 : ¬cond0_2 i) (r : Fin 1024) (q : Fin 1024) :
    sout0_A_0 c i arg3 harg3 arg4 harg4 arg5 harg5 arg6 harg6 hc0 hc1 hc2 x0 x1 (ix2 r q) = (∑ n, x0 (ix2 n r) * x1 (ix2 n q) : EReal) := by
  unfold sout0_A_0 kernelRun0_A
  dsimp only
  rw [View.read_writes_junk_eq_canon, View.canon_unit_zero (by decide)]
  simp only [View.readAt_eq_ld, Memref.IsWhole.read_unread]
  pointwise [k0_pay1, k0_pay2]

/-- The last adds its part and copies the sum to the result. -/
theorem last_at (hc0 : ¬cond0_0 i) (hc1 : cond0_1 i) (hc2 : cond0_2 i) (r : Fin 1024) (q : Fin 1024) :
    out0_B_2 c i arg3 harg3 arg4 harg4 arg5 harg5 arg6 harg6 hc0 hc1 hc2 x0 x1 xs (ix2 r q) = (xs (ix2 r q) + ∑ n, x0 (ix2 n r) * x1 (ix2 n q) : EReal) := by
  unfold out0_B_2 kernelRun0_B
  dsimp only
  rw [View.read_writes_junk_eq_canon, View.canon_unit_zero (by decide)]
  unfold kernelRun0_B.sl.v14 kernelRun0_B.sl.HS0_1
  rw [View.readCov_unit_zero _ (by decide)]
  simp only [View.readAt_eq_ld, Memref.IsWhole.read_unread]
  pointwise [k0_pay1, k0_pay3, k0_pay4]

end Point

section Run

variable (m : (ℓ : Loc nD τ sig) → Buf (Elt Ideal) ℓ) (c : Dev nD)

/-- Index `n` of a grid point's part of the sum, among all that are summed over. -/
def idx (t : Fin cfg0.N) (n : Fin 2048) : Fin 4096 := ⟨2048 * t.val + n.val, by have := t.isLt; have : cfg0.N = 2 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x1024.Idx) : a1 m c x = b1 m c x := congrFun (V_main_arg1 m c) x

/-- Window 0's block of an array, at an index. -/
theorem read0 (X : Left) (t : Fin cfg0.N) (n : Fin 2048) (r : Fin 1024) :
    ((cfg0.win 0).blk t).view.read (Elt Ideal) X (ix2 n r) = X (ix2 (idx t n) r) := by
  rw [View.read_apply]
  have e := index0 t
  refine congrArg X (funext fun a => Fin.ext ?_)
  match a with
  | ⟨0, _⟩ => show win0_0.index t 0 * 2048 + 1 * _ = _; rw [e]; show t.val * 2048 + 1 * n.val = 2048 * t.val + n.val; omega
  | ⟨1, _⟩ => show win0_0.index t 1 * 1024 + 1 * _ = _; rw [e]; show 0 * 1024 + 1 * r.val = r.val; omega

/-- Window 1's block of an array, at an index. -/
theorem read1 (X : Right) (t : Fin cfg0.N) (n : Fin 2048) (q : Fin 1024) :
    ((cfg0.win 1).blk t).view.read (Elt Ideal) X (ix2 n q) = X (ix2 (idx t n) q) := by
  rw [View.read_apply]
  have e := index1 t
  refine congrArg X (funext fun a => Fin.ext ?_)
  match a with
  | ⟨0, _⟩ => show win0_1.index t 0 * 2048 + 1 * _ = _; rw [e]; show t.val * 2048 + 1 * n.val = 2048 * t.val + n.val; omega
  | ⟨1, _⟩ => show win0_1.index t 1 * 1024 + 1 * _ = _; rw [e]; show 0 * 1024 + 1 * q.val = q.val; omega

/-- Window 2's block of an array, at an index. -/
theorem read2 (X : Result) (t : Fin cfg0.N) (r : Fin 1024) (q : Fin 1024) :
    ((cfg0.win 2).blk t).view.read (Elt Ideal) X (ix2 r q) = X (ix2 r q) := by
  rw [View.read_apply]
  have e := index2 t
  refine congrArg X (funext fun a => Fin.ext ?_)
  match a with
  | ⟨0, _⟩ => show win0_2.index t 0 * 1024 + 1 * _ = _; rw [e]; show 0 * 1024 + 1 * r.val = r.val; omega
  | ⟨1, _⟩ => show win0_2.index t 1 * 1024 + 1 * _ = _; rw [e]; show 0 * 1024 + 1 * q.val = q.val; omega

theorem blk0 (t : Fin cfg0.N) (n : Fin 2048) (r : Fin 1024) : iblk m c 0 t (ix2 n r) = a0 m c (ix2 (idx t n) r) := read0 (a0 m c) t n r
theorem blk1 (t : Fin cfg0.N) (n : Fin 2048) (q : Fin 1024) : iblk m c 1 t (ix2 n q) = a1 m c (ix2 (idx t n) q) := read1 (a1 m c) t n q

/-- A grid point's part of the sum. -/
def part (t : Fin cfg0.N) (r : Fin 1024) (q : Fin 1024) : EReal := ∑ n, b0 m c (ix2 (idx t n) r) * b1 m c (ix2 (idx t n) q)

theorem part_eq (t : Fin cfg0.N) (r : Fin 1024) (q : Fin 1024) (x0 : Vec Ideal S2048x1024 .f32) (x1 : Vec Ideal S2048x1024 .f32)
    (h0 : x0 = iblk m c 0 t) (h1 : x1 = iblk m c 1 t) : (∑ n, x0 (ix2 n r) * x1 (ix2 n q) : EReal) = part m c t r q :=
  Finset.sum_congr rfl fun n _ => congrArg₂ (· * ·) ((congrFun h0 _).trans ((blk0 m c t n r).trans (congrFun (a0_eq m c) _)))
    ((congrFun h1 _).trans ((blk1 m c t n q).trans (a1_at m c _)))

/-- What the carried array holds after a grid point. -/
def held (t : Fin cfg0.N) : Vec Ideal S1024x1024 .f32 := (outsAt0 m c t.val t.isLt).2

theorem held_first (t : Fin cfg0.N) (h : t.val % 2 = 0) (r : Fin 1024) (q : Fin 1024) : held m c t (ix2 r q) = part m c t r q := by
  unfold held
  rw [outsAt0_A m c t h (by omega) (by omega)]
  dsimp only
  exact (first_at c _ _ _ _ _ _ _ _ _ (iblk m c 0 t) (iblk m c 1 t) _ _ _ r q).trans (part_eq m c t r q _ _ rfl rfl)

/-- What the last grid point of a block writes back is the block of the whole sum. -/
theorem flush2 (t : Fin cfg0.N) (hf : (cfg0.win 2).flush t = true) :
    (dats m 0 c).flushed 2 t = ((cfg0.win 2).blk t).view.read (Elt Ideal) (total (b0 m c) (b1 m c)) := by
  have h := (flush0_2 t).mp hf
  have hN : cfg0.N = 2 := N_0
  have hN' := t.isLt
  rw [flushed2_B m c t (by omega) (by omega) (by omega)]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  obtain ⟨s, hs⟩ : ∃ s : Fin cfg0.N, s.val = t.val - 1 := ⟨⟨t.val - 1, by omega⟩, rfl⟩
  have e : held m c ⟨t.val - 1, Nat.lt_of_le_of_lt (Nat.sub_le _ _) t.isLt⟩ = held m c s := congrArg (held m c) (Fin.ext hs.symm)
  refine Eq.trans (b := part m c s r q + part m c t r q) ?_ ?_
  · refine (last_at c _ _ _ _ _ _ _ _ _ (iblk m c 0 t) (iblk m c 1 t) _ _ _ _ r q).trans ?_
    exact congrArg₂ (· + ·) ((congrFun e _).trans (held_first m c s (by omega) r q)) (part_eq m c t r q _ _ rfl rfl)
  · refine Eq.trans ?_ (sum_parts (a := 2) (b := 2048) fun n : Fin 4096 => b0 m c (ix2 n r) * b1 m c (ix2 n q)).symm
    refine Eq.trans ?_ (Fin.sum_univ_two _).symm
    refine congrArg₂ (· + ·) ?_ ?_
    · exact Finset.sum_congr rfl fun n _ => congrArg₂ (· * ·) (congrArg₂ (fun n r => b0 m c (ix2 n r)) (Fin.ext (by show 2048 * s.val + n.val = 2048 * 0 + n.val; omega) : idx s n = at_ (b := 2048) (0 : Fin 2) n) rfl)
        (congrArg (fun n => b1 m c (ix2 n q)) (Fin.ext (by show 2048 * s.val + n.val = 2048 * 0 + n.val; omega) : idx s n = at_ (b := 2048) (0 : Fin 2) n))
    · exact Finset.sum_congr rfl fun n _ => congrArg₂ (· * ·) (congrArg₂ (fun n r => b0 m c (ix2 n r)) (Fin.ext (by show 2048 * t.val + n.val = 2048 * 1 + n.val; omega) : idx t n = at_ (b := 2048) (1 : Fin 2) n) rfl)
        (congrArg (fun n => b1 m c (ix2 n q)) (Fin.ext (by show 2048 * t.val + n.val = 2048 * 1 + n.val; omega) : idx t n = at_ (b := 2048) (1 : Fin 2) n))

/-- What the result array holds in the end. -/
theorem final2 : (dats m 0 c).arrAt 2 cfg0.N = total (b0 m c) (b1 m c) :=
  (dats m 0 c).arrAt_eq_of_cover 2 (total (b0 m c) (b1 m c)) (flush2 m c) fun (x : S1024x1024.Idx) => by
    have hN : cfg0.N = 2 := N_0
    have h0 : (x 0 : ℕ) < 1024 := (x 0).isLt
    have h1 : (x 1 : ℕ) < 1024 := (x 1).isLt
    obtain ⟨t, ht⟩ : ∃ t : Fin cfg0.N, t.val = 1 := ⟨⟨_, by omega⟩, rfl⟩
    refine ⟨t, (flush0_2 t).mpr (by omega), ?_⟩
    show x ∈ ((View.whole main_v0).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show 0 * 1024 ≤ (x 0 : ℕ) ∧ (x 0 : ℕ) < 0 * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.AttOutWeightRefIdeal.Read

/-- The reference's result. -/
theorem ref_eq (x0 : Left) (x1 : Right) : val_main_v4 (F := Ideal) x0 x1 = total x0 x1 := by
  funext x
  obtain ⟨r, q, rfl⟩ : ∃ (r : Fin 1024) (q : Fin 1024), x = ix2 r q := ⟨_, _, eq_ix2 x⟩
  refine Eq.trans (b := val_main_v2 (F := Ideal) x0 x1 (ix2 q r)) (by pointwise [val_main_v4, val_main_v3]) ?_
  rw [val_main_v2_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_AttOutWeightRefIdeal := fun m g _ =>
  (θ_run _ _ _).mono (fun r h => ⟨fun c => (h c).2, sem_eq_zero_of_no_sems (by decide) r.2⟩) (Cert.AttOutWeightRefIdeal.Value.run (F := Ideal) m g)

/-- From equal arguments the two programs end with equal gradients. -/
theorem same_gradient : Cert.algebraic_AttOutWeightIdeal_AttOutWeightRefIdeal := by
  intro m g m' g' _ hag
  refine ⟨_, Cert.AttOutWeightIdeal.Value.run_blocks m g, (θ_run _ _ _).mono (fun r h c => ?_) (Cert.AttOutWeightRefIdeal.Value.run (F := Ideal) m' g')⟩
  obtain ⟨r0, k⟩ := h c
  obtain ⟨e0, e1⟩ := hag c
  refine ⟨r0.trans ?_, k⟩
  rw [Cert.AttOutWeightRefIdeal.Read.val_main_v4_eq, e0, e1]
  exact (ref_eq _ _).trans (final2 m c).symm

end Cert.AttOutWeightIdeal.Own

end
-- ==== Proof.LatDownGrad.lean ====
/- The gradient that the latent attention's first projection hands back: what the kernel's result array
   holds, a product with the transposed weight, block of tokens by block of tokens,
   and that it is the reference's. -/
module

public import proofs.«01_k».proof.Proof.Gen.LatDownGradIdeal.Value
public import proofs.«01_k».proof.Proof.Gen.LatDownGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.LatDownGradIdeal.Own

open Cert.LatDownGradIdeal Cert.LatDownGradIdeal.Gen Cert.LatDownGradIdeal.Value Cert.Parts
open Idealize.ShloMosaic Idealize.ShloMosaic.TcCoe Idealize.ShloMosaic.Tactic Idealize.SL.Sem Idealize.ShloMosaic.StableHlo

/-- The first factor. -/
abbrev Left := Vec Ideal S4096x512 .bf16
/-- The second factor, as the program takes it. -/
abbrev Right := Vec Ideal S1024x512 .f32
/-- The second factor, as the kernel takes it. -/
abbrev Cast := Vec Ideal S1024x512 .bf16
/-- The result. -/
abbrev Result := Vec Ideal S4096x1024 .f32

/-- The product of the first factor and the second, transposed. -/
def total (a : Left) (w : S1024x512.Idx → EReal) : Result := fun i => (∑ n, a (ix2 (i 0) n) * w (ix2 (i 1) n) : EReal)

section Point

variable (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x1024 .f32) (harg5 : arg5.IsWhole) (arg6 : Memref sig .tc .vmem S1024x1024 .f32) (harg6 : arg6.IsWhole)
  (hc0 : cond0_0 i) (hc1 : ¬cond0_1 i) (hc2 : cond0_2 i) (x0 : Vec Ideal S1024x512 .bf16) (x1 : Vec Ideal S1024x512 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 r n) * x1 (ix2 q n) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x512.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 512) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 512 + 1 * _ = _; rw [e]; show 0 * 512 + 1 * n.val = n.val; omega

/-- Window 1's block of an array, at an index. -/
theorem read1 (X : Cast) (t : Fin cfg0.N) (q : Fin 1024) (n : Fin 512) :
    ((cfg0.win 1).blk t).view.read (Elt Ideal) X (ix2 q n) = X (ix2 q n) := by
  rw [View.read_apply]
  have e := index1 t
  refine congrArg X (funext fun a => Fin.ext ?_)
  match a with
  | ⟨0, _⟩ => show win0_1.index t 0 * 1024 + 1 * _ = _; rw [e]; show 0 * 1024 + 1 * q.val = q.val; omega
  | ⟨1, _⟩ => show win0_1.index t 1 * 512 + 1 * _ = _; rw [e]; show 0 * 512 + 1 * n.val = n.val; omega

/-- Window 2's block of an array, at an index. -/
theorem read2 (X : Result) (t : Fin cfg0.N) (r : Fin 1024) (q : Fin 1024) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 1024 + 1 * _ = _; rw [e]; show 0 * 1024 + 1 * q.val = q.val; omega

theorem blk0 (t : Fin cfg0.N) (r : Fin 1024) (n : Fin 512) : iblk m c 0 t (ix2 r n) = a0 m c (ix2 (row t r) n) := read0 (a0 m c) t r n
theorem blk1 (t : Fin cfg0.N) (q : Fin 1024) (n : Fin 512) : iblk m c 1 t (ix2 q n) = a1 m c (ix2 q n) := read1 (a1 m c) t q n

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t q n).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x1024.Idx) => by
    have hN : cfg0.N = 4 := N_0
    have h0 : (x 0 : ℕ) < 4096 := (x 0).isLt
    have h1 : (x 1 : ℕ) < 1024 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.LatDownGradRefIdeal.Read

/-- The reference's result. -/
theorem ref_eq (x0 : Left) (x1 : Right) : val_main_v3 (F := Ideal) x0 x1 = total x0 x1 := by
  funext x
  obtain ⟨r, q, rfl⟩ : ∃ (r : Fin 4096) (q : Fin 1024), x = ix2 r q := ⟨_, _, eq_ix2 x⟩
  rw [val_main_v3_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_LatDownGradRefIdeal := fun m g _ =>
  (θ_run _ _ _).mono (fun r h => ⟨fun c => (h c).2, sem_eq_zero_of_no_sems (by decide) r.2⟩) (Cert.LatDownGradRefIdeal.Value.run (F := Ideal) m g)

/-- From equal arguments the two programs end with equal gradients. -/
theorem same_gradient : Cert.algebraic_LatDownGradIdeal_LatDownGradRefIdeal := by
  intro m g m' g' _ hag
  refine ⟨_, Cert.LatDownGradIdeal.Value.run_blocks m g, (θ_run _ _ _).mono (fun r h c => ?_) (Cert.LatDownGradRefIdeal.Value.run (F := Ideal) m' g')⟩
  obtain ⟨r0, k⟩ := h c
  obtain ⟨e0, e1⟩ := hag c
  refine ⟨r0.trans ?_, k⟩
  rw [Cert.LatDownGradRefIdeal.Read.val_main_v3_eq, e0, e1]
  exact (ref_eq _ _).trans (final2 m c).symm

end Cert.LatDownGradIdeal.Own

end
-- ==== Proof.LatDownWeight.lean ====
/- The gradient of the weight of the latent attention's first projection: what the kernel's result array
   holds, a product over the tokens,
   and that it is the reference's. -/
module

public import proofs.«01_k».proof.Proof.Gen.LatDownWeightIdeal.Value
public import proofs.«01_k».proof.Proof.Gen.LatDownWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.LatDownWeightIdeal.Own

open Cert.LatDownWeightIdeal Cert.LatDownWeightIdeal.Gen Cert.LatDownWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S4096x512 .bf16
/-- The result. -/
abbrev Result := Vec Ideal S1024x512 .bf16

/-- The product over the tokens of the two factors. -/
def total (a : Left) (w : S4096x512.Idx → EReal) : Result := fun i => (∑ n, a (ix2 n (i 0)) * w (ix2 n (i 1)) : EReal)

section Point

variable (c : Dev nD) (i : grid0.Coords) (arg3 : Memref sig .tc .vmem S4096x1024 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S1024x512 .f32) (harg6 : arg6.IsWhole)
  (hc0 : cond0_0 i) (hc1 : ¬cond0_1 i) (hc2 : cond0_2 i) (x0 : Vec Ideal S4096x1024 .bf16) (x1 : Vec Ideal S4096x512 .bf16)

/-- The block of the result that a grid point computes. -/
theorem block_at (r : Fin 1024) (q : Fin 512) :
    out0_A_2 c i arg3 harg3 arg4 harg4 arg5 harg5 arg6 harg6 hc0 hc1 hc2 x0 x1 (ix2 r q) = (∑ n, x0 (ix2 n r) * x1 (ix2 n q) : EReal) := by
  unfold out0_A_2 kernelRun0_A
  dsimp only
  rw [View.read_writes_junk_eq_canon, View.canon_unit_zero (by decide)]
  unfold kernelRun0_A.sl.v12 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x512.Idx) : a1 m c x = b1 m c x := congrFun (V_main_arg1 m c) x

/-- Window 0's block of an array, at an index. -/
theorem read0 (X : Left) (t : Fin cfg0.N) (n : Fin 4096) (r : Fin 1024) :
    ((cfg0.win 0).blk t).view.read (Elt Ideal) X (ix2 n r) = X (ix2 n r) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 1024 + 1 * _ = _; rw [e]; show 0 * 1024 + 1 * r.val = r.val; omega

/-- Window 1's block of an array, at an index. -/
theorem read1 (X : Right) (t : Fin cfg0.N) (n : Fin 4096) (q : Fin 512) :
    ((cfg0.win 1).blk t).view.read (Elt Ideal) X (ix2 n q) = X (ix2 n q) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 512 + 1 * _ = _; rw [e]; show 0 * 512 + 1 * q.val = q.val; omega

/-- Window 2's block of an array, at an index. -/
theorem read2 (X : Result) (t : Fin cfg0.N) (r : Fin 1024) (q : Fin 512) :
    ((cfg0.win 2).blk t).view.read (Elt Ideal) X (ix2 r q) = X (ix2 r q) := by
  rw [View.read_apply]
  have e := index2 t
  refine congrArg X (funext fun a => Fin.ext ?_)
  match a with
  | ⟨0, _⟩ => show win0_2.index t 0 * 1024 + 1 * _ = _; rw [e]; show 0 * 1024 + 1 * r.val = r.val; omega
  | ⟨1, _⟩ => show win0_2.index t 1 * 512 + 1 * _ = _; rw [e]; show 0 * 512 + 1 * q.val = q.val; omega

theorem blk0 (t : Fin cfg0.N) (n : Fin 4096) (r : Fin 1024) : iblk m c 0 t (ix2 n r) = a0 m c (ix2 n r) := read0 (a0 m c) t n r
theorem blk1 (t : Fin cfg0.N) (n : Fin 4096) (q : Fin 512) : iblk m c 1 t (ix2 n q) = a1 m c (ix2 n q) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 512), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t n r).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S1024x512.Idx) => by
    have hN : cfg0.N = 1 := N_0
    have h0 : (x 0 : ℕ) < 1024 := (x 0).isLt
    have h1 : (x 1 : ℕ) < 512 := (x 1).isLt
    obtain ⟨t, ht⟩ : ∃ t : Fin cfg0.N, t.val = 0 := ⟨⟨_, by omega⟩, rfl⟩
    refine ⟨t, flush0_2 t, ?_⟩
    show x ∈ ((View.whole main_v0).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show 0 * 1024 ≤ (x 0 : ℕ) ∧ (x 0 : ℕ) < 0 * 1024 + 1024; omega
    | ⟨1, _⟩ => show win0_2.index t 1 * 512 ≤ (x 1 : ℕ) ∧ (x 1 : ℕ) < win0_2.index t 1 * 512 + 512; rw [e]; show 0 * 512 ≤ (x 1 : ℕ) ∧ (x 1 : ℕ) < 0 * 512 + 512; omega

end Run

section Ref

open Cert.LatDownWeightRefIdeal.Read

/-- The reference's result. -/
theorem ref_eq (x0 : Left) (x1 : Right) : val_main_v6 (F := Ideal) x0 x1 = total x0 x1 := by
  funext x
  obtain ⟨r, q, rfl⟩ : ∃ (r : Fin 1024) (q : Fin 512), x = ix2 r q := ⟨_, _, eq_ix2 x⟩
  refine Eq.trans (b := val_main_v4 (F := Ideal) x0 x1 (ix2 q r)) (by pointwise [val_main_v6, val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_LatDownWeightRefIdeal := fun m g _ =>
  (θ_run _ _ _).mono (fun r h => ⟨fun c => (h c).2, sem_eq_zero_of_no_sems (by decide) r.2⟩) (Cert.LatDownWeightRefIdeal.Value.run (F := Ideal) m g)

/-- From equal arguments the two programs end with equal gradients. -/
theorem same_gradient : Cert.algebraic_LatDownWeightIdeal_LatDownWeightRefIdeal := by
  intro m g m' g' _ hag
  refine ⟨_, Cert.LatDownWeightIdeal.Value.run_blocks m g, (θ_run _ _ _).mono (fun r h c => ?_) (Cert.LatDownWeightRefIdeal.Value.run (F := Ideal) m' g')⟩
  obtain ⟨r0, k⟩ := h c
  obtain ⟨e0, e1⟩ := hag c
  refine ⟨r0.trans ?_, k⟩
  rw [Cert.LatDownWeightRefIdeal.Read.val_main_v6_eq, e0, e1]
  exact (ref_eq _ _).trans (final2 m c).symm

end Cert.LatDownWeightIdeal.Own

end
-- ==== Proof.LatDownProj.lean ====
/- The latent attention's first projection: what the kernel's result array
   holds, the argument times the weight,
   and that it is the reference's. -/
module

public import proofs.«01_k».proof.Proof.Gen.LatDownProjIdeal.Value
public import proofs.«01_k».proof.Proof.Gen.LatDownProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.LatDownProjIdeal.Own

open Cert.LatDownProjIdeal Cert.LatDownProjIdeal.Gen Cert.LatDownProjIdeal.Value Cert.Parts
open Idealize.ShloMosaic Idealize.ShloMosaic.TcCoe Idealize.ShloMosaic.Tactic Idealize.SL.Sem Idealize.ShloMosaic.StableHlo

/-- The first factor. -/
abbrev Left := Vec Ideal S4096x1024 .bf16
/-- The second factor, as the program takes it. -/
abbrev Right := Vec Ideal S1024x512 .f32
/-- The second factor, as the kernel takes it. -/
abbrev Cast := Vec Ideal S1024x512 .bf16
/-- The result. -/
abbrev Result := Vec Ideal S4096x512 .f32

/-- The product of the two factors. -/
def total (a : Left) (w : S1024x512.Idx → EReal) : Result := fun i => (∑ n, a (ix2 (i 0) n) * w (ix2 n (i 1)) : EReal)

section Point

variable (c : Dev nD) (i : grid0.Coords) (arg3 : Memref sig .tc .vmem S1024x1024 .bf16) (harg3 : arg3.IsWhole) (arg4 : Memref sig .tc .vmem S1024x512 .bf16) (harg4 : arg4.IsWhole) (arg5 : Memref sig .tc .vmem S1024x512 .f32) (harg5 : arg5.IsWhole) (arg6 : Memref sig .tc .vmem S1024x512 .f32) (harg6 : arg6.IsWhole)
  (hc0 : cond0_0 i) (hc1 : ¬cond0_1 i) (hc2 : cond0_2 i) (x0 : Vec Ideal S1024x1024 .bf16) (x1 : Vec Ideal S1024x512 .bf16)

/-- The block of the result that a grid point computes. -/
theorem block_at (r : Fin 1024) (q : Fin 512) :
    out0_A_2 c i arg3 harg3 arg4 harg4 arg5 harg5 arg6 harg6 hc0 hc1 hc2 x0 x1 (ix2 r q) = (∑ n, x0 (ix2 r n) * x1 (ix2 n q) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S1024x512.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 1024) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 1024 + 1 * _ = _; rw [e]; show 0 * 1024 + 1 * n.val = n.val; omega

/-- Window 1's block of an array, at an index. -/
theorem read1 (X : Cast) (t : Fin cfg0.N) (n : Fin 1024) (q : Fin 512) :
    ((cfg0.win 1).blk t).view.read (Elt Ideal) X (ix2 n q) = X (ix2 n q) := by
  rw [View.read_apply]
  have e := index1 t
  refine congrArg X (funext fun a => Fin.ext ?_)
  match a with
  | ⟨0, _⟩ => show win0_1.index t 0 * 1024 + 1 * _ = _; rw [e]; show 0 * 1024 + 1 * n.val = n.val; omega
  | ⟨1, _⟩ => show win0_1.index t 1 * 512 + 1 * _ = _; rw [e]; show 0 * 512 + 1 * q.val = q.val; omega

/-- Window 2's block of an array, at an index. -/
theorem read2 (X : Result) (t : Fin cfg0.N) (r : Fin 1024) (q : Fin 512) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 512 + 1 * _ = _; rw [e]; show 0 * 512 + 1 * q.val = q.val; omega

theorem blk0 (t : Fin cfg0.N) (r : Fin 1024) (n : Fin 1024) : iblk m c 0 t (ix2 r n) = a0 m c (ix2 (row t r) n) := read0 (a0 m c) t r n
theorem blk1 (t : Fin cfg0.N) (n : Fin 1024) (q : Fin 512) : iblk m c 1 t (ix2 n q) = a1 m c (ix2 n q) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 512), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x512.Idx) => by
    have hN : cfg0.N = 4 := N_0
    have h0 : (x 0 : ℕ) < 4096 := (x 0).isLt
    have h1 : (x 1 : ℕ) < 512 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 512 ≤ (x 1 : ℕ) ∧ (x 1 : ℕ) < win0_2.index t 1 * 512 + 512; rw [e]; show 0 * 512 ≤ (x 1 : ℕ) ∧ (x 1 : ℕ) < 0 * 512 + 512; omega

end Run

section Ref

open Cert.LatDownProjRefIdeal.Read

/-- The reference's result. -/
theorem ref_eq (x0 : Left) (x1 : Right) : val_main_v1 (F := Ideal) x0 x1 = total x0 x1 := by
  funext x
  obtain ⟨r, q, rfl⟩ : ∃ (r : Fin 4096) (q : Fin 512), x = ix2 r q := ⟨_, _, eq_ix2 x⟩
  rw [val_main_v1_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_LatDownProjRefIdeal := fun m g _ =>
  (θ_run _ _ _).mono (fun r h => ⟨fun c => (h c).2, sem_eq_zero_of_no_sems (by decide) r.2⟩) (Cert.LatDownProjRefIdeal.Value.run (F := Ideal) m g)

/-- From equal arguments the two programs end with equal results. -/
theorem same_result : Cert.algebraic_LatDownProjIdeal_LatDownProjRefIdeal := by
  intro m g m' g' _ hag
  refine ⟨_, Cert.LatDownProjIdeal.Value.run_blocks m g, (θ_run _ _ _).mono (fun r h c => ?_) (Cert.LatDownProjRefIdeal.Value.run (F := Ideal) m' g')⟩
  obtain ⟨r0, k⟩ := h c
  obtain ⟨e0, e1⟩ := hag c
  refine ⟨r0.trans ?_, k⟩
  rw [Cert.LatDownProjRefIdeal.Read.val_main_v1_eq, e0, e1]
  exact (ref_eq _ _).trans (final2 m c).symm

end Cert.LatDownProjIdeal.Own

end
-- ==== Proof.QueryUpGrad.lean ====
/- The gradient that the latent attention's projection to the queries hands back: what the kernel's result array
   holds, a product with the transposed weight, block of tokens by block of tokens,
   and that it is the reference's. -/
module

public import proofs.«01_k».proof.Proof.Gen.QueryUpGradIdeal.Value
public import proofs.«01_k».proof.Proof.Gen.QueryUpGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QueryUpGradIdeal.Own

open Cert.QueryUpGradIdeal Cert.QueryUpGradIdeal.Gen Cert.QueryUpGradIdeal.Value Cert.Parts
open Idealize.ShloMosaic Idealize.ShloMosaic.TcCoe Idealize.ShloMosaic.Tactic Idealize.SL.Sem Idealize.ShloMosaic.StableHlo

/-- The first factor. -/
abbrev Left := Vec Ideal S4096x2048 .bf16
/-- The second factor, as the program takes it. -/
abbrev Right := Vec Ideal S256x2048 .f32
/-- The second factor, as the kernel takes it. -/
abbrev Cast := Vec Ideal S256x2048 .bf16
/-- The result. -/
abbrev Result := Vec Ideal S4096x256 .f32

/-- The product of the first factor and the second, transposed. -/
def total (a : Left) (w : S256x2048.Idx → EReal) : Result := fun i => (∑ n, a (ix2 (i 0) n) * w (ix2 (i 1) n) : EReal)

section Point

variable (c : Dev nD) (i : grid0.Coords) (arg3 : Memref sig .tc .vmem S1024x2048 .bf16) (harg3 : arg3.IsWhole) (arg4 : Memref sig .tc .vmem S256x2048 .bf16) (harg4 : arg4.IsWhole) (arg5 : Memref sig .tc .vmem S1024x256 .f32) (harg5 : arg5.IsWhole) (arg6 : Memref sig .tc .vmem S1024x256 .f32) (harg6 : arg6.IsWhole)
  (hc0 : cond0_0 i) (hc1 : ¬cond0_1 i) (hc2 : cond0_2 i) (x0 : Vec Ideal S1024x2048 .bf16) (x1 : Vec Ideal S256x2048 .bf16)

/-- The block of the result that a grid point computes. -/
theorem block_at (r : Fin 1024) (q : Fin 256) :
    out0_A_2 c i arg3 harg3 arg4 harg4 arg5 harg5 arg6 harg6 hc0 hc1 hc2 x0 x1 (ix2 r q) = (∑ n, x0 (ix2 r n) * x1 (ix2 q n) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S256x2048.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 2048) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 2048 + 1 * _ = _; rw [e]; show 0 * 2048 + 1 * n.val = n.val; omega

/-- Window 1's block of an array, at an index. -/
theorem read1 (X : Cast) (t : Fin cfg0.N) (q : Fin 256) (n : Fin 2048) :
    ((cfg0.win 1).blk t).view.read (Elt Ideal) X (ix2 q n) = X (ix2 q n) := by
  rw [View.read_apply]
  have e := index1 t
  refine congrArg X (funext fun a => Fin.ext ?_)
  match a with
  | ⟨0, _⟩ => show win0_1.index t 0 * 256 + 1 * _ = _; rw [e]; show 0 * 256 + 1 * q.val = q.val; omega
  | ⟨1, _⟩ => show win0_1.index t 1 * 2048 + 1 * _ = _; rw [e]; show 0 * 2048 + 1 * n.val = n.val; omega

/-- Window 2's block of an array, at an index. -/
theorem read2 (X : Result) (t : Fin cfg0.N) (r : Fin 1024) (q : Fin 256) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 256 + 1 * _ = _; rw [e]; show 0 * 256 + 1 * q.val = q.val; omega

theorem blk0 (t : Fin cfg0.N) (r : Fin 1024) (n : Fin 2048) : iblk m c 0 t (ix2 r n) = a0 m c (ix2 (row t r) n) := read0 (a0 m c) t r n
theorem blk1 (t : Fin cfg0.N) (q : Fin 256) (n : Fin 2048) : iblk m c 1 t (ix2 q n) = a1 m c (ix2 q n) := read1 (a1 m c) t q n

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 256), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t q n).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x256.Idx) => by
    have hN : cfg0.N = 4 := N_0
    have h0 : (x 0 : ℕ) < 4096 := (x 0).isLt
    have h1 : (x 1 : ℕ) < 256 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 256 ≤ (x 1 : ℕ) ∧ (x 1 : ℕ) < win0_2.index t 1 * 256 + 256; rw [e]; show 0 * 256 ≤ (x 1 : ℕ) ∧ (x 1 : ℕ) < 0 * 256 + 256; omega

end Run

section Ref

open Cert.QueryUpGradRefIdeal.Read

/-- The reference's result. -/
theorem ref_eq (x0 : Left) (x1 : Right) : val_main_v3 (F := Ideal) x0 x1 = total x0 x1 := by
  funext x
  obtain ⟨r, q, rfl⟩ : ∃ (r : Fin 4096) (q : Fin 256), x = ix2 r q := ⟨_, _, eq_ix2 x⟩
  rw [val_main_v3_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_QueryUpGradRefIdeal := fun m g _ =>
  (θ_run _ _ _).mono (fun r h => ⟨fun c => (h c).2, sem_eq_zero_of_no_sems (by decide) r.2⟩) (Cert.QueryUpGradRefIdeal.Value.run (F := Ideal) m g)

/-- From equal arguments the two programs end with equal gradients. -/
theorem same_gradient : Cert.algebraic_QueryUpGradIdeal_QueryUpGradRefIdeal := by
  intro m g m' g' _ hag
  refine ⟨_, Cert.QueryUpGradIdeal.Value.run_blocks m g, (θ_run _ _ _).mono (fun r h c => ?_) (Cert.QueryUpGradRefIdeal.Value.run (F := Ideal) m' g')⟩
  obtain ⟨r0, k⟩ := h c
  obtain ⟨e0, e1⟩ := hag c
  refine ⟨r0.trans ?_, k⟩
  rw [Cert.QueryUpGradRefIdeal.Read.val_main_v3_eq, e0, e1]
  exact (ref_eq _ _).trans (final2 m c).symm

end Cert.QueryUpGradIdeal.Own

end
-- ==== Proof.QueryUpWeight.lean ====
/- The gradient of the weight of the latent attention's projection to the queries: what the kernel's result array
   holds, a product over the tokens,
   and that it is the reference's. -/
module

public import proofs.«01_k».proof.Proof.Gen.QueryUpWeightIdeal.Value
public import proofs.«01_k».proof.Proof.Gen.QueryUpWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QueryUpWeightIdeal.Own

open Cert.QueryUpWeightIdeal Cert.QueryUpWeightIdeal.Gen Cert.QueryUpWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x256 .bf16
/-- The second factor, as the program takes it. -/
abbrev Right := Vec Ideal S4096x2048 .bf16
/-- The result. -/
abbrev Result := Vec Ideal S256x2048 .bf16

/-- The product over the tokens of the two factors. -/
def total (a : Left) (w : S4096x2048.Idx → EReal) : Result := fun i => (∑ n, a (ix2 n (i 0)) * w (ix2 n (i 1)) : EReal)

section Point

variable (c : Dev nD) (i : grid0.Coords) (arg3 : Memref sig .tc .vmem S4096x256 .bf16) (harg3 : arg3.IsWhole) (arg4 : Memref sig .tc .vmem S4096x1024 .bf16) (harg4 : arg4.IsWhole) (arg5 : Memref sig .tc .vmem S256x1024 .bf16) (harg5 : arg5.IsWhole) (arg6 : Memref sig .tc .vmem S256x1024 .f32) (harg6 : arg6.IsWhole)
  (hc0 : cond0_0 i) (hc1 : ¬cond0_1 i) (hc2 : cond0_2 i) (x0 : Vec Ideal S4096x256 .bf16) (x1 : Vec Ideal S4096x1024 .bf16)

/-- The block of the result that a grid point computes. -/
theorem block_at (r : Fin 256) (q : Fin 1024) :
    out0_A_2 c i arg3 harg3 arg4 harg4 arg5 harg5 arg6 harg6 hc0 hc1 hc2 x0 x1 (ix2 r q) = (∑ n, x0 (ix2 n r) * x1 (ix2 n q) : EReal) := by
  unfold out0_A_2 kernelRun0_A
  dsimp only
  rw [View.read_writes_junk_eq_canon, View.canon_unit_zero (by decide)]
  unfold kernelRun0_A.sl.v12 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- Column `q` of a grid point's block, among all the columns. -/
def col (t : Fin cfg0.N) (q : Fin 1024) : Fin 2048 := ⟨1024 * t.val + q.val, by have := t.isLt; have : cfg0.N = 2 := N_0; omega⟩

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x2048.Idx) : a1 m c x = b1 m c x := congrFun (V_main_arg1 m c) x

/-- Window 0's block of an array, at an index. -/
theorem read0 (X : Left) (t : Fin cfg0.N) (n : Fin 4096) (r : Fin 256) :
    ((cfg0.win 0).blk t).view.read (Elt Ideal) X (ix2 n r) = X (ix2 n r) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 256 + 1 * _ = _; rw [e]; show 0 * 256 + 1 * r.val = r.val; omega

/-- Window 1's block of an array, at an index. -/
theorem read1 (X : Right) (t : Fin cfg0.N) (n : Fin 4096) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 1024 + 1 * _ = _; rw [e]; show t.val * 1024 + 1 * q.val = 1024 * t.val + q.val; omega

/-- Window 2's block of an array, at an index. -/
theorem read2 (X : Result) (t : Fin cfg0.N) (r : Fin 256) (q : Fin 1024) :
    ((cfg0.win 2).blk t).view.read (Elt Ideal) X (ix2 r q) = X (ix2 r (col t q)) := by
  rw [View.read_apply]
  have e := index2 t
  refine congrArg X (funext fun a => Fin.ext ?_)
  match a with
  | ⟨0, _⟩ => show win0_2.index t 0 * 256 + 1 * _ = _; rw [e]; show 0 * 256 + 1 * r.val = r.val; omega
  | ⟨1, _⟩ => show win0_2.index t 1 * 1024 + 1 * _ = _; rw [e]; show t.val * 1024 + 1 * q.val = 1024 * t.val + q.val; omega

theorem blk0 (t : Fin cfg0.N) (n : Fin 4096) (r : Fin 256) : iblk m c 0 t (ix2 n r) = a0 m c (ix2 n r) := read0 (a0 m c) t n r
theorem blk1 (t : Fin cfg0.N) (n : Fin 4096) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 256) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t n r).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S256x2048.Idx) => by
    have hN : cfg0.N = 2 := N_0
    have h0 : (x 0 : ℕ) < 256 := (x 0).isLt
    have h1 : (x 1 : ℕ) < 2048 := (x 1).isLt
    obtain ⟨t, ht⟩ : ∃ t : Fin cfg0.N, t.val = (x 1 : ℕ) / 1024 := ⟨⟨_, by omega⟩, rfl⟩
    refine ⟨t, flush0_2 t, ?_⟩
    show x ∈ ((View.whole main_v0).slice (win0_2.rect t)).set
    rw [View.set_slice_whole, Rect.mem_set_unit]
    have e := index2 t
    intro a
    match a with
    | ⟨0, _⟩ => show win0_2.index t 0 * 256 ≤ (x 0 : ℕ) ∧ (x 0 : ℕ) < win0_2.index t 0 * 256 + 256; rw [e]; show 0 * 256 ≤ (x 0 : ℕ) ∧ (x 0 : ℕ) < 0 * 256 + 256; omega
    | ⟨1, _⟩ => show win0_2.index t 1 * 1024 ≤ (x 1 : ℕ) ∧ (x 1 : ℕ) < win0_2.index t 1 * 1024 + 1024; rw [e]; show t.val * 1024 ≤ (x 1 : ℕ) ∧ (x 1 : ℕ) < t.val * 1024 + 1024; omega

end Run

section Ref

open Cert.QueryUpWeightRefIdeal.Read

/-- The reference's result. -/
theorem ref_eq (x0 : Left) (x1 : Right) : val_main_v6 (F := Ideal) x0 x1 = total x0 x1 := by
  funext x
  obtain ⟨r, q, rfl⟩ : ∃ (r : Fin 256) (q : Fin 2048), x = ix2 r q := ⟨_, _, eq_ix2 x⟩
  refine Eq.trans (b := val_main_v4 (F := Ideal) x0 x1 (ix2 q r)) (by pointwise [val_main_v6, val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_QueryUpWeightRefIdeal := fun m g _ =>
  (θ_run _ _ _).mono (fun r h => ⟨fun c => (h c).2, sem_eq_zero_of_no_sems (by decide) r.2⟩) (Cert.QueryUpWeightRefIdeal.Value.run (F := Ideal) m g)

/-- From equal arguments the two programs end with equal gradients. -/
theorem same_gradient : Cert.algebraic_QueryUpWeightIdeal_QueryUpWeightRefIdeal := by
  intro m g m' g' _ hag
  refine ⟨_, Cert.QueryUpWeightIdeal.Value.run_blocks m g, (θ_run _ _ _).mono (fun r h c => ?_) (Cert.QueryUpWeightRefIdeal.Value.run (F := Ideal) m' g')⟩
  obtain ⟨r0, k⟩ := h c
  obtain ⟨e0, e1⟩ := hag c
  refine ⟨r0.trans ?_, k⟩
  rw [Cert.QueryUpWeightRefIdeal.Read.val_main_v6_eq, e0, e1]
  exact (ref_eq _ _).trans (final2 m c).symm

end Cert.QueryUpWeightIdeal.Own

end
-- ==== Proof.QueryUpProj.lean ====
/- The latent attention's projection to the queries: what the kernel's result array
   holds, the argument times the weight,
   and that it is the reference's. -/
module

public import proofs.«01_k».proof.Proof.Gen.QueryUpProjIdeal.Value
public import proofs.«01_k».proof.Proof.Gen.QueryUpProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.QueryUpProjIdeal.Own

open Cert.QueryUpProjIdeal Cert.QueryUpProjIdeal.Gen Cert.QueryUpProjIdeal.Value Cert.Parts
open Idealize.ShloMosaic Idealize.ShloMosaic.TcCoe Idealize.ShloMosaic.Tactic Idealize.SL.Sem Idealize.ShloMosaic.StableHlo

/-- The first factor. -/
abbrev Left := Vec Ideal S4096x256 .bf16
/-- The second factor, as the program takes it. -/
abbrev Right := Vec Ideal S256x2048 .f32
/-- The second factor, as the kernel takes it. -/
abbrev Cast := Vec Ideal S256x2048 .bf16
/-- The result. -/
abbrev Result := Vec Ideal S4096x2048 .f32

/-- The product of the two factors. -/
def total (a : Left) (w : S256x2048.Idx → EReal) : Result := fun i => (∑ n, a (ix2 (i 0) n) * w (ix2 n (i 1)) : EReal)

section Point

variable (c : Dev nD) (i : grid0.Coords) (arg3 : Memref sig .tc .vmem S1024x256 .bf16) (harg3 : arg3.IsWhole) (arg4 : Memref sig .tc .vmem S256x1024 .bf16) (harg4 : arg4.IsWhole) (arg5 : Memref sig .tc .vmem S1024x1024 .f32) (harg5 : arg5.IsWhole) (arg6 : Memref sig .tc .vmem S1024x1024 .f32) (harg6 : arg6.IsWhole)
  (hc0 : cond0_0 i) (hc1 : ¬cond0_1 i) (hc2 : cond0_2 i) (x0 : Vec Ideal S1024x256 .bf16) (x1 : Vec Ideal S256x1024 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 r n) * x1 (ix2 n q) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 2) + r.val, by have := t.isLt; have : cfg0.N = 8 := N_0; omega⟩

/-- Column `q` of a grid point's block, among all the columns. -/
def col (t : Fin cfg0.N) (q : Fin 1024) : Fin 2048 := ⟨1024 * (t.val % 2) + q.val, by have := t.isLt; have : cfg0.N = 8 := N_0; omega⟩

theorem index0 : ∀ t : Fin cfg0.N, win0_0.index t = ![(t.val / 2), 0] := (by decide +kernel : ∀ t : Fin grid0.N, win0_0.index t = ![(t.val / 2), 0])
theorem index1 : ∀ t : Fin cfg0.N, win0_1.index t = ![0, (t.val % 2)] := (by decide +kernel : ∀ t : Fin grid0.N, win0_1.index t = ![0, (t.val % 2)])
theorem index2 : ∀ t : Fin cfg0.N, win0_2.index t = ![(t.val / 2), (t.val % 2)] := (by decide +kernel : ∀ t : Fin grid0.N, win0_2.index t = ![(t.val / 2), (t.val % 2)])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S256x2048.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 256) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show (t.val / 2) * 1024 + 1 * r.val = 1024 * (t.val / 2) + r.val; omega
  | ⟨1, _⟩ => show win0_0.index t 1 * 256 + 1 * _ = _; rw [e]; show 0 * 256 + 1 * n.val = n.val; omega

/-- Window 1's block of an array, at an index. -/
theorem read1 (X : Cast) (t : Fin cfg0.N) (n : Fin 256) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 256 + 1 * _ = _; rw [e]; show 0 * 256 + 1 * n.val = n.val; omega
  | ⟨1, _⟩ => show win0_1.index t 1 * 1024 + 1 * _ = _; rw [e]; show (t.val % 2) * 1024 + 1 * q.val = 1024 * (t.val % 2) + q.val; omega

/-- Window 2's block of an array, at an index. -/
theorem read2 (X : Result) (t : Fin cfg0.N) (r : Fin 1024) (q : Fin 1024) :
    ((cfg0.win 2).blk t).view.read (Elt Ideal) X (ix2 r q) = X (ix2 (row t r) (col t q)) := by
  rw [View.read_apply]
  have e := index2 t
  refine congrArg X (funext fun a => Fin.ext ?_)
  match a with
  | ⟨0, _⟩ => show win0_2.index t 0 * 1024 + 1 * _ = _; rw [e]; show (t.val / 2) * 1024 + 1 * r.val = 1024 * (t.val / 2) + r.val; omega
  | ⟨1, _⟩ => show win0_2.index t 1 * 1024 + 1 * _ = _; rw [e]; show (t.val % 2) * 1024 + 1 * q.val = 1024 * (t.val % 2) + q.val; omega

theorem blk0 (t : Fin cfg0.N) (r : Fin 1024) (n : Fin 256) : iblk m c 0 t (ix2 r n) = a0 m c (ix2 (row t r) n) := read0 (a0 m c) t r n
theorem blk1 (t : Fin cfg0.N) (n : Fin 256) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x2048.Idx) => by
    have hN : cfg0.N = 8 := N_0
    have h0 : (x 0 : ℕ) < 4096 := (x 0).isLt
    have h1 : (x 1 : ℕ) < 2048 := (x 1).isLt
    obtain ⟨t, ht⟩ : ∃ t : Fin cfg0.N, t.val = 2 * ((x 0 : ℕ) / 1024) + (x 1 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 2) * 1024 ≤ (x 0 : ℕ) ∧ (x 0 : ℕ) < (t.val / 2) * 1024 + 1024; omega
    | ⟨1, _⟩ => show win0_2.index t 1 * 1024 ≤ (x 1 : ℕ) ∧ (x 1 : ℕ) < win0_2.index t 1 * 1024 + 1024; rw [e]; show (t.val % 2) * 1024 ≤ (x 1 : ℕ) ∧ (x 1 : ℕ) < (t.val % 2) * 1024 + 1024; omega

end Run

section Ref

open Cert.QueryUpProjRefIdeal.Read

/-- The reference's result. -/
theorem ref_eq (x0 : Left) (x1 : Right) : val_main_v1 (F := Ideal) x0 x1 = total x0 x1 := by
  funext x
  obtain ⟨r, q, rfl⟩ : ∃ (r : Fin 4096) (q : Fin 2048), x = ix2 r q := ⟨_, _, eq_ix2 x⟩
  rw [val_main_v1_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_QueryUpProjRefIdeal := fun m g _ =>
  (θ_run _ _ _).mono (fun r h => ⟨fun c => (h c).2, sem_eq_zero_of_no_sems (by decide) r.2⟩) (Cert.QueryUpProjRefIdeal.Value.run (F := Ideal) m g)

/-- From equal arguments the two programs end with equal results. -/
theorem same_result : Cert.algebraic_QueryUpProjIdeal_QueryUpProjRefIdeal := by
  intro m g m' g' _ hag
  refine ⟨_, Cert.QueryUpProjIdeal.Value.run_blocks m g, (θ_run _ _ _).mono (fun r h c => ?_) (Cert.QueryUpProjRefIdeal.Value.run (F := Ideal) m' g')⟩
  obtain ⟨r0, k⟩ := h c
  obtain ⟨e0, e1⟩ := hag c
  refine ⟨r0.trans ?_, k⟩
  rw [Cert.QueryUpProjRefIdeal.Read.val_main_v1_eq, e0, e1]
  exact (ref_eq _ _).trans (final2 m c).symm

end Cert.QueryUpProjIdeal.Own

end
-- ==== Proof.KeyUpGrad.lean ====
/- The gradient that the latent attention's projection to keys and values hands back: what the kernel's result array
   holds, a product with the transposed weight, block of tokens by block of tokens,
   and that it is the reference's. -/
module

public import proofs.«01_k».proof.Proof.Gen.KeyUpGradIdeal.Value
public import proofs.«01_k».proof.Proof.Gen.KeyUpGradRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.KeyUpGradIdeal.Own

open Cert.KeyUpGradIdeal Cert.KeyUpGradIdeal.Gen Cert.KeyUpGradIdeal.Value Cert.Parts
open Idealize.ShloMosaic Idealize.ShloMosaic.TcCoe Idealize.ShloMosaic.Tactic Idealize.SL.Sem Idealize.ShloMosaic.StableHlo

/-- The first factor. -/
abbrev Left := Vec Ideal S4096x2048 .bf16
/-- The second factor, as the program takes it. -/
abbrev Right := Vec Ideal S128x2048 .f32
/-- The second factor, as the kernel takes it. -/
abbrev Cast := Vec Ideal S128x2048 .bf16
/-- The result. -/
abbrev Result := Vec Ideal S4096x128 .f32

/-- The product of the first factor and the second, transposed. -/
def total (a : Left) (w : S128x2048.Idx → EReal) : Result := fun i => (∑ n, a (ix2 (i 0) n) * w (ix2 (i 1) n) : EReal)

section Point

variable (c : Dev nD) (i : grid0.Coords) (arg3 : Memref sig .tc .vmem S1024x2048 .bf16) (harg3 : arg3.IsWhole) (arg4 : Memref sig .tc .vmem S128x2048 .bf16) (harg4 : arg4.IsWhole) (arg5 : Memref sig .tc .vmem S1024x128 .f32) (harg5 : arg5.IsWhole) (arg6 : Memref sig .tc .vmem S1024x128 .f32) (harg6 : arg6.IsWhole)
  (hc0 : cond0_0 i) (hc1 : ¬cond0_1 i) (hc2 : cond0_2 i) (x0 : Vec Ideal S1024x2048 .bf16) (x1 : Vec Ideal S128x2048 .bf16)

/-- The block of the result that a grid point computes. -/
theorem block_at (r : Fin 1024) (q : Fin 128) :
    out0_A_2 c i arg3 harg3 arg4 harg4 arg5 harg5 arg6 harg6 hc0 hc1 hc2 x0 x1 (ix2 r q) = (∑ n, x0 (ix2 r n) * x1 (ix2 q n) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * t.val + r.val, by have := t.isLt; have : cfg0.N = 4 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S128x2048.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 2048) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show t.val * 1024 + 1 * r.val = 1024 * t.val + r.val; omega
  | ⟨1, _⟩ => show win0_0.index t 1 * 2048 + 1 * _ = _; rw [e]; show 0 * 2048 + 1 * n.val = n.val; omega

/-- Window 1's block of an array, at an index. -/
theorem read1 (X : Cast) (t : Fin cfg0.N) (q : Fin 128) (n : Fin 2048) :
    ((cfg0.win 1).blk t).view.read (Elt Ideal) X (ix2 q n) = X (ix2 q n) := by
  rw [View.read_apply]
  have e := index1 t
  refine congrArg X (funext fun a => Fin.ext ?_)
  match a with
  | ⟨0, _⟩ => show win0_1.index t 0 * 128 + 1 * _ = _; rw [e]; show 0 * 128 + 1 * q.val = q.val; omega
  | ⟨1, _⟩ => show win0_1.index t 1 * 2048 + 1 * _ = _; rw [e]; show 0 * 2048 + 1 * n.val = n.val; omega

/-- Window 2's block of an array, at an index. -/
theorem read2 (X : Result) (t : Fin cfg0.N) (r : Fin 1024) (q : Fin 128) :
    ((cfg0.win 2).blk t).view.read (Elt Ideal) X (ix2 r q) = X (ix2 (row t r) q) := by
  rw [View.read_apply]
  have e := index2 t
  refine congrArg X (funext fun a => Fin.ext ?_)
  match a with
  | ⟨0, _⟩ => show win0_2.index t 0 * 1024 + 1 * _ = _; rw [e]; show t.val * 1024 + 1 * r.val = 1024 * t.val + r.val; omega
  | ⟨1, _⟩ => show win0_2.index t 1 * 128 + 1 * _ = _; rw [e]; show 0 * 128 + 1 * q.val = q.val; omega

theorem blk0 (t : Fin cfg0.N) (r : Fin 1024) (n : Fin 2048) : iblk m c 0 t (ix2 r n) = a0 m c (ix2 (row t r) n) := read0 (a0 m c) t r n
theorem blk1 (t : Fin cfg0.N) (q : Fin 128) (n : Fin 2048) : iblk m c 1 t (ix2 q n) = a1 m c (ix2 q n) := read1 (a1 m c) t q n

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 128), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t q n).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x128.Idx) => by
    have hN : cfg0.N = 4 := N_0
    have h0 : (x 0 : ℕ) < 4096 := (x 0).isLt
    have h1 : (x 1 : ℕ) < 128 := (x 1).isLt
    obtain ⟨t, ht⟩ : ∃ t : Fin cfg0.N, t.val = (x 0 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show t.val * 1024 ≤ (x 0 : ℕ) ∧ (x 0 : ℕ) < t.val * 1024 + 1024; omega
    | ⟨1, _⟩ => show win0_2.index t 1 * 128 ≤ (x 1 : ℕ) ∧ (x 1 : ℕ) < win0_2.index t 1 * 128 + 128; rw [e]; show 0 * 128 ≤ (x 1 : ℕ) ∧ (x 1 : ℕ) < 0 * 128 + 128; omega

end Run

section Ref

open Cert.KeyUpGradRefIdeal.Read

/-- The reference's result. -/
theorem ref_eq (x0 : Left) (x1 : Right) : val_main_v3 (F := Ideal) x0 x1 = total x0 x1 := by
  funext x
  obtain ⟨r, q, rfl⟩ : ∃ (r : Fin 4096) (q : Fin 128), x = ix2 r q := ⟨_, _, eq_ix2 x⟩
  rw [val_main_v3_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_KeyUpGradRefIdeal := fun m g _ =>
  (θ_run _ _ _).mono (fun r h => ⟨fun c => (h c).2, sem_eq_zero_of_no_sems (by decide) r.2⟩) (Cert.KeyUpGradRefIdeal.Value.run (F := Ideal) m g)

/-- From equal arguments the two programs end with equal gradients. -/
theorem same_gradient : Cert.algebraic_KeyUpGradIdeal_KeyUpGradRefIdeal := by
  intro m g m' g' _ hag
  refine ⟨_, Cert.KeyUpGradIdeal.Value.run_blocks m g, (θ_run _ _ _).mono (fun r h c => ?_) (Cert.KeyUpGradRefIdeal.Value.run (F := Ideal) m' g')⟩
  obtain ⟨r0, k⟩ := h c
  obtain ⟨e0, e1⟩ := hag c
  refine ⟨r0.trans ?_, k⟩
  rw [Cert.KeyUpGradRefIdeal.Read.val_main_v3_eq, e0, e1]
  exact (ref_eq _ _).trans (final2 m c).symm

end Cert.KeyUpGradIdeal.Own

end
-- ==== Proof.KeyUpWeight.lean ====
/- The gradient of the weight of the latent attention's projection to keys and values: what the kernel's result array
   holds, a product over the tokens,
   and that it is the reference's. -/
module

public import proofs.«01_k».proof.Proof.Gen.KeyUpWeightIdeal.Value
public import proofs.«01_k».proof.Proof.Gen.KeyUpWeightRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.KeyUpWeightIdeal.Own

open Cert.KeyUpWeightIdeal Cert.KeyUpWeightIdeal.Gen Cert.KeyUpWeightIdeal.Value Cert.Parts
open Idealize.ShloMosaic Idealize.ShloMosaic.TcCoe Idealize.ShloMosaic.Tactic Idealize.SL.Sem Idealize.ShloMosaic.StableHlo

/-- The first factor. -/
abbrev Left := Vec Ideal S4096x128 .bf16
/-- The second factor, as the program takes it. -/
abbrev Right := Vec Ideal S4096x2048 .bf16
/-- The result. -/
abbrev Result := Vec Ideal S128x2048 .bf16

/-- The product over the tokens of the two factors. -/
def total (a : Left) (w : S4096x2048.Idx → EReal) : Result := fun i => (∑ n, a (ix2 n (i 0)) * w (ix2 n (i 1)) : EReal)

section Point

variable (c : Dev nD) (i : grid0.Coords) (arg3 : Memref sig .tc .vmem S4096x128 .bf16) (harg3 : arg3.IsWhole) (arg4 : Memref sig .tc .vmem S4096x1024 .bf16) (harg4 : arg4.IsWhole) (arg5 : Memref sig .tc .vmem S128x1024 .bf16) (harg5 : arg5.IsWhole) (arg6 : Memref sig .tc .vmem S128x1024 .f32) (harg6 : arg6.IsWhole)
  (hc0 : cond0_0 i) (hc1 : ¬cond0_1 i) (hc2 : cond0_2 i) (x0 : Vec Ideal S4096x128 .bf16) (x1 : Vec Ideal S4096x1024 .bf16)

/-- The block of the result that a grid point computes. -/
theorem block_at (r : Fin 128) (q : Fin 1024) :
    out0_A_2 c i arg3 harg3 arg4 harg4 arg5 harg5 arg6 harg6 hc0 hc1 hc2 x0 x1 (ix2 r q) = (∑ n, x0 (ix2 n r) * x1 (ix2 n q) : EReal) := by
  unfold out0_A_2 kernelRun0_A
  dsimp only
  rw [View.read_writes_junk_eq_canon, View.canon_unit_zero (by decide)]
  unfold kernelRun0_A.sl.v12 kernelRun0_A.sl.HS0_1
  rw [View.readCov_unit_zero _ (by decide)]
  simp only [View.readAt_eq_ld, Memref.IsWhole.read_unread]
  pointwise [k0_pay1, k0_pay2, k0_pay4]

end Point

section Run

variable (m : (ℓ : Loc nD τ sig) → Buf (Elt Ideal) ℓ) (c : Dev nD)

/-- Column `q` of a grid point's block, among all the columns. -/
def col (t : Fin cfg0.N) (q : Fin 1024) : Fin 2048 := ⟨1024 * t.val + q.val, by have := t.isLt; have : cfg0.N = 2 := N_0; omega⟩

theorem index0 : ∀ t : Fin cfg0.N, win0_0.index t = ![0, 0] := (by decide +kernel : ∀ t : Fin grid0.N, win0_0.index t = ![0, 0])
theorem index1 : ∀ t : Fin cfg0.N, win0_1.index t = ![0, t.val] := (by decide +kernel : ∀ t : Fin grid0.N, win0_1.index t = ![0, t.val])
theorem index2 : ∀ t : Fin cfg0.N, win0_2.index t = ![0, t.val] := (by decide +kernel : ∀ t : Fin grid0.N, win0_2.index t = ![0, t.val])

/-- The first factor, as the call finds it. -/
def a0 : Left := V m c main_arg0
/-- The second factor, as the call finds it. -/
def a1 : Right := V m c main_arg1
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

theorem a1_at (x : S4096x2048.Idx) : a1 m c x = b1 m c x := congrFun (V_main_arg1 m c) x

/-- Window 0's block of an array, at an index. -/
theorem read0 (X : Left) (t : Fin cfg0.N) (n : Fin 4096) (r : Fin 128) :
    ((cfg0.win 0).blk t).view.read (Elt Ideal) X (ix2 n r) = X (ix2 n r) := by
  rw [View.read_apply]
  have e := index0 t
  refine congrArg X (funext fun a => Fin.ext ?_)
  match a with
  | ⟨0, _⟩ => show win0_0.index t 0 * 4096 + 1 * _ = _; rw [e]; show 0 * 4096 + 1 * n.val = n.val; omega
  | ⟨1, _⟩ => show win0_0.index t 1 * 128 + 1 * _ = _; rw [e]; show 0 * 128 + 1 * r.val = r.val; omega

/-- Window 1's block of an array, at an index. -/
theorem read1 (X : Right) (t : Fin cfg0.N) (n : Fin 4096) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 4096 + 1 * _ = _; rw [e]; show 0 * 4096 + 1 * n.val = n.val; omega
  | ⟨1, _⟩ => show win0_1.index t 1 * 1024 + 1 * _ = _; rw [e]; show t.val * 1024 + 1 * q.val = 1024 * t.val + q.val; omega

/-- Window 2's block of an array, at an index. -/
theorem read2 (X : Result) (t : Fin cfg0.N) (r : Fin 128) (q : Fin 1024) :
    ((cfg0.win 2).blk t).view.read (Elt Ideal) X (ix2 r q) = X (ix2 r (col t q)) := by
  rw [View.read_apply]
  have e := index2 t
  refine congrArg X (funext fun a => Fin.ext ?_)
  match a with
  | ⟨0, _⟩ => show win0_2.index t 0 * 128 + 1 * _ = _; rw [e]; show 0 * 128 + 1 * r.val = r.val; omega
  | ⟨1, _⟩ => show win0_2.index t 1 * 1024 + 1 * _ = _; rw [e]; show t.val * 1024 + 1 * q.val = 1024 * t.val + q.val; omega

theorem blk0 (t : Fin cfg0.N) (n : Fin 4096) (r : Fin 128) : iblk m c 0 t (ix2 n r) = a0 m c (ix2 n r) := read0 (a0 m c) t n r
theorem blk1 (t : Fin cfg0.N) (n : Fin 4096) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 128) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t n r).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S128x2048.Idx) => by
    have hN : cfg0.N = 2 := N_0
    have h0 : (x 0 : ℕ) < 128 := (x 0).isLt
    have h1 : (x 1 : ℕ) < 2048 := (x 1).isLt
    obtain ⟨t, ht⟩ : ∃ t : Fin cfg0.N, t.val = (x 1 : ℕ) / 1024 := ⟨⟨_, by omega⟩, rfl⟩
    refine ⟨t, flush0_2 t, ?_⟩
    show x ∈ ((View.whole main_v0).slice (win0_2.rect t)).set
    rw [View.set_slice_whole, Rect.mem_set_unit]
    have e := index2 t
    intro a
    match a with
    | ⟨0, _⟩ => show win0_2.index t 0 * 128 ≤ (x 0 : ℕ) ∧ (x 0 : ℕ) < win0_2.index t 0 * 128 + 128; rw [e]; show 0 * 128 ≤ (x 0 : ℕ) ∧ (x 0 : ℕ) < 0 * 128 + 128; omega
    | ⟨1, _⟩ => show win0_2.index t 1 * 1024 ≤ (x 1 : ℕ) ∧ (x 1 : ℕ) < win0_2.index t 1 * 1024 + 1024; rw [e]; show t.val * 1024 ≤ (x 1 : ℕ) ∧ (x 1 : ℕ) < t.val * 1024 + 1024; omega

end Run

section Ref

open Cert.KeyUpWeightRefIdeal.Read

/-- The reference's result. -/
theorem ref_eq (x0 : Left) (x1 : Right) : val_main_v6 (F := Ideal) x0 x1 = total x0 x1 := by
  funext x
  obtain ⟨r, q, rfl⟩ : ∃ (r : Fin 128) (q : Fin 2048), x = ix2 r q := ⟨_, _, eq_ix2 x⟩
  refine Eq.trans (b := val_main_v4 (F := Ideal) x0 x1 (ix2 q r)) (by pointwise [val_main_v6, val_main_v5]) ?_
  rw [val_main_v4_apply]
  refine Finset.sum_congr rfl fun n _ => (mul_comm _ _).trans (congrArg₂ (· * ·) ?_ ?_)
  · exact congrArg x0 (funext fun a => by fin_cases a <;> rfl)
  · exact congrArg x1 (funext fun a => by fin_cases a <;> rfl)

end Ref

/-- The reference's run leaves its arguments as they were and every counter at zero. -/
theorem reference_frame : Cert.quiescent_KeyUpWeightRefIdeal := fun m g _ =>
  (θ_run _ _ _).mono (fun r h => ⟨fun c => (h c).2, sem_eq_zero_of_no_sems (by decide) r.2⟩) (Cert.KeyUpWeightRefIdeal.Value.run (F := Ideal) m g)

/-- From equal arguments the two programs end with equal gradients. -/
theorem same_gradient : Cert.algebraic_KeyUpWeightIdeal_KeyUpWeightRefIdeal := by
  intro m g m' g' _ hag
  refine ⟨_, Cert.KeyUpWeightIdeal.Value.run_blocks m g, (θ_run _ _ _).mono (fun r h c => ?_) (Cert.KeyUpWeightRefIdeal.Value.run (F := Ideal) m' g')⟩
  obtain ⟨r0, k⟩ := h c
  obtain ⟨e0, e1⟩ := hag c
  refine ⟨r0.trans ?_, k⟩
  rw [Cert.KeyUpWeightRefIdeal.Read.val_main_v6_eq, e0, e1]
  exact (ref_eq _ _).trans (final2 m c).symm

end Cert.KeyUpWeightIdeal.Own

end
-- ==== Proof.KeyUpProj.lean ====
/- The latent attention's projection to keys and values: what the kernel's result array
   holds, the argument times the weight,
   and that it is the reference's. -/
module

public import proofs.«01_k».proof.Proof.Gen.KeyUpProjIdeal.Value
public import proofs.«01_k».proof.Proof.Gen.KeyUpProjRefIdeal.Read
public import proofs.«01_k».proof.Proof.Parts
public import Idealize.ShloMosaic.Lib.StableHlo.RunRead
public import Idealize.ShloMosaic.Lib.Pointwise
public import proofs.«01_k».proof.Defs

@[expose] public section

set_option maxRecDepth 16384

noncomputable section

namespace Cert.KeyUpProjIdeal.Own

open Cert.KeyUpProjIdeal Cert.KeyUpProjIdeal.Gen Cert.KeyUpProjIdeal.Value Cert.Parts
open Idealize.ShloMosaic Idealize.ShloMosaic.TcCoe Idealize.ShloMosaic.Tactic Idealize.SL.Sem Idealize.ShloMosaic.StableHlo

/-- The first factor. -/
abbrev Left := Vec Ideal S4096x128 .bf16
/-- The second factor, as the program takes it. -/
abbrev Right := Vec Ideal S128x2048 .f32
/-- The second factor, as the kernel takes it. -/
abbrev Cast := Vec Ideal S128x2048 .bf16
/-- The result. -/
abbrev Result := Vec Ideal S4096x2048 .f32

/-- The product of the two factors. -/
def total (a : Left) (w : S128x2048.Idx → EReal) : Result := fun i => (∑ n, a (ix2 (i 0) n) * w (ix2 n (i 1)) : EReal)

section Point

variable (c : Dev nD) (i : grid0.Coords) (arg3 : Memref sig .tc .vmem S1024x128 .bf16) (harg3 : arg3.IsWhole) (arg4 : Memref sig .tc .vmem S128x1024 .bf16) (harg4 : arg4.IsWhole) (arg5 : Memref sig .tc .vmem S1024x1024 .f32) (harg5 : arg5.IsWhole) (arg6 : Memref sig .tc .vmem S1024x1024 .f32) (harg6 : arg6.IsWhole)
  (hc0 : cond0_0 i) (hc1 : ¬cond0_1 i) (hc2 : cond0_2 i) (x0 : Vec Ideal S1024x128 .bf16) (x1 : Vec Ideal S128x1024 .bf16)

/-- The block of the result that a grid point computes. -/
theorem block_at (r : Fin 1024) (q : Fin 1024) :
    out0_A_2 c i arg3 harg3 arg4 harg4 arg5 harg5 arg6 harg6 hc0 hc1 hc2 x0 x1 (ix2 r q) = (∑ n, x0 (ix2 r n) * x1 (ix2 n q) : EReal) := by
  unfold out0_A_2 kernelRun0_A
  dsimp only
  rw [View.read_writes_junk_eq_canon, View.canon_unit_zero (by decide)]
  unfold kernelRun0_A.sl.v13 kernelRun0_A.sl.HS0_1
  rw [View.readCov_unit_zero _ (by decide)]
  simp only [View.readAt_eq_ld, Memref.IsWhole.read_unread]
  pointwise [k0_pay1, k0_pay2]

end Point

section Run

variable (m : (ℓ : Loc nD τ sig) → Buf (Elt Ideal) ℓ) (c : Dev nD)

/-- Row `r` of a grid point's block, among all the rows. -/
def row (t : Fin cfg0.N) (r : Fin 1024) : Fin 4096 := ⟨1024 * (t.val / 2) + r.val, by have := t.isLt; have : cfg0.N = 8 := N_0; omega⟩

/-- Column `q` of a grid point's block, among all the columns. -/
def col (t : Fin cfg0.N) (q : Fin 1024) : Fin 2048 := ⟨1024 * (t.val % 2) + q.val, by have := t.isLt; have : cfg0.N = 8 := N_0; omega⟩

theorem index0 : ∀ t : Fin cfg0.N, win0_0.index t = ![(t.val / 2), 0] := (by decide +kernel : ∀ t : Fin grid0.N, win0_0.index t = ![(t.val / 2), 0])
theorem index1 : ∀ t : Fin cfg0.N, win0_1.index t = ![0, (t.val % 2)] := (by decide +kernel : ∀ t : Fin grid0.N, win0_1.index t = ![0, (t.val % 2)])
theorem index2 : ∀ t : Fin cfg0.N, win0_2.index t = ![(t.val / 2), (t.val % 2)] := (by decide +kernel : ∀ t : Fin grid0.N, win0_2.index t = ![(t.val / 2), (t.val % 2)])

/-- The first factor, as the call finds it. -/
def a0 : Left := V m c main_arg0
/-- The second factor, as the call finds it. -/
def a1 : Cast := V m c main_v0
/-- The first factor as the program's argument. -/
def b0 : Left := m ((c.tc : Thread nD τ).loc main_arg0)
/-- The second factor as the program's argument. -/
def b1 : Right := m ((c.tc : Thread nD τ).loc main_arg1)

theorem a0_eq : a0 m c = b0 m c := V_main_arg0 m c

/-- The call finds the second factor converted: its numbers are the argument's. -/
theorem a1_at (x : S128x2048.Idx) : a1 m c x = b1 m c x := by
  have e : a1 m c = truncf (F := Ideal) (φ := .f32) .bf16 (b1 m c) bitsLt_bf16_f32 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
  rw [e]
  rfl

/-- Window 0's block of an array, at an index. -/
theorem read0 (X : Left) (t : Fin cfg0.N) (r : Fin 1024) (n : Fin 128) :
    ((cfg0.win 0).blk t).view.read (Elt Ideal) X (ix2 r n) = X (ix2 (row t r) n) := by
  rw [View.read_apply]
  have e := index0 t
  refine congrArg X (funext fun a => Fin.ext ?_)
  match a with
  | ⟨0, _⟩ => show win0_0.index t 0 * 1024 + 1 * _ = _; rw [e]; show (t.val / 2) * 1024 + 1 * r.val = 1024 * (t.val / 2) + r.val; omega
  | ⟨1, _⟩ => show win0_0.index t 1 * 128 + 1 * _ = _; rw [e]; show 0 * 128 + 1 * n.val = n.val; omega

/-- Window 1's block of an array, at an index. -/
theorem read1 (X : Cast) (t : Fin cfg0.N) (n : Fin 128) (q : Fin 1024) :
    ((cfg0.win 1).blk t).view.read (Elt Ideal) X (ix2 n q) = X (ix2 n (col t q)) := by
  rw [View.read_apply]
  have e := index1 t
  refine congrArg X (funext fun a => Fin.ext ?_)
  match a with
  | ⟨0, _⟩ => show win0_1.index t 0 * 128 + 1 * _ = _; rw [e]; show 0 * 128 + 1 * n.val = n.val; omega
  | ⟨1, _⟩ => show win0_1.index t 1 * 1024 + 1 * _ = _; rw [e]; show (t.val % 2) * 1024 + 1 * q.val = 1024 * (t.val % 2) + q.val; omega

/-- Window 2's block of an array, at an index. -/
theorem read2 (X : Result) (t : Fin cfg0.N) (r : Fin 1024) (q : Fin 1024) :
    ((cfg0.win 2).blk t).view.read (Elt Ideal) X (ix2 r q) = X (ix2 (row t r) (col t q)) := by
  rw [View.read_apply]
  have e := index2 t
  refine congrArg X (funext fun a => Fin.ext ?_)
  match a with
  | ⟨0, _⟩ => show win0_2.index t 0 * 1024 + 1 * _ = _; rw [e]; show (t.val / 2) * 1024 + 1 * r.val = 1024 * (t.val / 2) + r.val; omega
  | ⟨1, _⟩ => show win0_2.index t 1 * 1024 + 1 * _ = _; rw [e]; show (t.val % 2) * 1024 + 1 * q.val = 1024 * (t.val % 2) + q.val; omega

theorem blk0 (t : Fin cfg0.N) (r : Fin 1024) (n : Fin 128) : iblk m c 0 t (ix2 r n) = a0 m c (ix2 (row t r) n) := read0 (a0 m c) t r n
theorem blk1 (t : Fin cfg0.N) (n : Fin 128) (q : Fin 1024) : iblk m c 1 t (ix2 n q) = a1 m c (ix2 n (col t q)) := read1 (a1 m c) t n q

/-- What a grid point writes back is its block of the result. -/
theorem flush2 (t : Fin cfg0.N) (hf : (cfg0.win 2).flush t = true) :
    (dats m 0 c).flushed 2 t = ((cfg0.win 2).blk t).view.read (Elt Ideal) (total (b0 m c) (b1 m c)) := by
  rw [flushed2_A]
  funext x
  obtain ⟨r, q, rfl⟩ : ∃ (r : Fin 1024) (q : Fin 1024), x = ix2 r q := ⟨x 0, x 1, funext fun k => by fin_cases k <;> rfl⟩
  refine Eq.trans ?_ (read2 (total (b0 m c) (b1 m c)) t r q).symm
  refine (block_at c _ _ _ _ _ _ _ _ _ _ _ _ (iblk m c 0 t) (iblk m c 1 t) r q).trans ?_
  exact Finset.sum_congr rfl fun n _ => congrArg₂ (· * ·) ((blk0 m c t r n).trans (congrFun (a0_eq m c) _)) ((blk1 m c t n q).trans (a1_at m c _))

/-- What the result array holds in the end. -/
theorem final2 : (dats m 0 c).arrAt 2 cfg0.N = total (b0 m c) (b1 m c) :=
  (dats m 0 c).arrAt_eq_of_cover 2 (total (b0 m c) (b1 m c)) (flush2 m c) fun (x : S4096x2048.Idx) => by
    have hN : cfg0.N = 8 := N_0
    have h0 : (x 0 : ℕ) < 4096 := (x 0).isLt
    have h1 : (x 1 : ℕ) < 2048 := (x 1).isLt
    obtain ⟨t, ht⟩ : ∃ t : Fin cfg0.N, t.val = 2 * ((x 0 : ℕ) / 1024) + (x 1 : ℕ) / 1024 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 1024 ≤ (x 0 : ℕ) ∧ (x 0 : ℕ) < win0_2.index t 0 * 1024 + 1024; rw [e]; show (t.val / 2) * 1024 ≤ (x 0 : ℕ) ∧ (x 0 : ℕ) < (t.val / 2) * 1024 + 1024; omega
    | ⟨1, _⟩ => show win0_2.index t 1 * 1024 ≤ (x 1 : ℕ) ∧ (x 1 : ℕ) < win0_2.index t 1 * 1024 + 1024; rw [e]; show (t.val % 2) * 1024 ≤ (x 1 : ℕ) ∧ (x 1 : ℕ) < (t.val % 2) * 1024 + 1024; omega

end Run

section Ref

open Cert.KeyUpProjRefIdeal.Read

/-- The reference's result. -/
theorem ref_eq (x0 : Left) (x1 : Right) : val_main_v1 (F := Ideal) x0 x1 = total x0 x1 := by
  funext x
  obtain ⟨r, q, rfl⟩ : ∃ (r : Fin 4096) (q : Fin 2048), x = ix2 r q := ⟨_, _, eq_ix2 x⟩
  rw [val_main_v1_apply]
  exact Finset.sum_congr rfl fun n _ => congrArg₂ (· * ·) (congrArg x0 (funext fun a => by fin_cases a <;> rfl)) (congrArg x1 (funext fun a => by fin_cases a <;> rfl))

end Ref

/-- The reference's run leaves its arguments as they were and every counter at zero. -/
theorem reference_frame : Cert.quiescent_KeyUpProjRefIdeal := fun m g _ =>
  (θ_run _ _ _).mono (fun r h => ⟨fun c => (h c).2, sem_eq_zero_of_no_sems (by decide) r.2⟩) (Cert.KeyUpProjRefIdeal.Value.run (F := Ideal) m g)

/-- From equal arguments the two programs end with equal results. -/
theorem same_result : Cert.algebraic_KeyUpProjIdeal_KeyUpProjRefIdeal := by
  intro m g m' g' _ hag
  refine ⟨_, Cert.KeyUpProjIdeal.Value.run_blocks m g, (θ_run _ _ _).mono (fun r h c => ?_) (Cert.KeyUpProjRefIdeal.Value.run (F := Ideal) m' g')⟩
  obtain ⟨r0, k⟩ := h c
  obtain ⟨e0, e1⟩ := hag c
  refine ⟨r0.trans ?_, k⟩
  rw [Cert.KeyUpProjRefIdeal.Read.val_main_v1_eq, e0, e1]
  exact (ref_eq _ _).trans (final2 m c).symm

end Cert.KeyUpProjIdeal.Own

end
-- ==== Proof.LatentFwdPay.lean ====
/- What the latent attention's kernel computes from one block of queries and one block of keys, read at an index: a row's
   greatest score, its sum of exponentials and its weighted sum of values, of a trip before the diagonal and of the trip
   on it, and what it stores at the end. -/
module

public import proofs.«01_k».proof.Proof.Gen.LatentFwdIdeal.Skeleton
public import proofs.«01_k».proof.Proof.LatentMath
public import Idealize.ShloMosaic.Lib.Pointwise
public import Idealize.ShloMosaic.Lib.Affine

@[expose] public section

noncomputable section

namespace Cert.LatentFwdIdeal.Own

open Cert.LatentFwdIdeal Cert.LatentFwdIdeal.Gen Cert.Latent
open Idealize.ShloMosaic Idealize.ShloMosaic.TcCoe Idealize.ShloMosaic.Tactic Idealize.SL.Sem

/-- Row `r` of a block of head parts. -/
abbrev row3 {n : ℕ} {φ : EltTy} (x : (⟨3, ![1, n, 128]⟩ : Shape).Idx → Elt Ideal φ) (r : Fin n) : Fin 128 → Elt Ideal φ :=
  fun d => x (ix3 0 r d)

/-- Row `r` of a block of tokens' parts. -/
abbrev row2 {n : ℕ} {φ : EltTy} (x : (⟨2, ![n, 128]⟩ : Shape).Idx → Elt Ideal φ) (r : Fin n) : Fin 128 → Elt Ideal φ :=
  fun d => x (ix2 r d)

/-- The word of minus infinity. -/
theorem ofBits_bot : Ideal.ofBits .f32 0xFF800000#32 = ⊥ := by
  simp [Ideal.ofBits, Ideal.ieee]

variable (v0 v2 : Vec Ideal S1x512x128 .bf16) (acc : FVec Ideal S512x128 .f32) (m l : FVec Ideal S512x1 .f32)
  (v43 : Vec Ideal S1x512x128 .bf16) (v46 : Vec Ideal S512x128 .bf16) (v61 : Vec Ideal S1x512x128 .bf16)

/-- The block's queries. -/
theorem pay_q (r : Fin 512) (e : Fin 256) : k0_pay2 v0 v2 (ix2 r e) = cat (row3 v0 r) (row3 v2 r) e := by
  pointwise [k0_pay2, cat]

/-- The block's keys. -/
theorem pay_k (c : Fin 512) (e : Fin 256) :
    concatenate S512x256 1 [⟨S512x128, shapeCast S512x128 v43 shapeCasts_S1x512x128_S512x128⟩, ⟨S512x128, v46⟩] concatenates_S512x128_S512x128_S512x256_d1 (ix2 c e)
      = cat (row3 v43 c) (row2 v46 c) e := by
  pointwise [cat]

/-- The scores of a block before the diagonal. -/
theorem pay_s (r c : Fin 512) :
    k0_pay7 v0 v2 v43 v46 (ix2 r c) = ∑ e, cat (row3 v0 r) (row3 v2 r) e * cat (row3 v43 c) (row2 v46 c) e := by
  unfold k0_pay7
  generalize hk : concatenate S512x256 1 [⟨S512x128, shapeCast S512x128 v43 shapeCasts_S1x512x128_S512x128⟩, ⟨S512x128, v46⟩] concatenates_S512x128_S512x128_S512x256_d1 = y
  have hy : ∀ (c : Fin 512) (e : Fin 256), y (ix2 c e) = cat (row3 v43 c) (row2 v46 c) e := fun c e => by
    rw [← hk]
    exact pay_k v43 v46 c e
  pointwise []
  simp only [pay_q, hy]

/-- A row's greatest score after a block before the diagonal. -/
theorem pay_m (r : Fin 512) :
    k0_pay8 v0 v2 m v43 v46 (ix2 r 0)
      = max (m (ix2 r 0)) ((Finset.univ : Finset (Fin 512)).fold max ⊥ fun c => ∑ e, cat (row3 v0 r) (row3 v2 r) e * cat (row3 v43 c) (row2 v46 c) e) := by
  pointwise [k0_pay8]
  simp only [pay_s, ofBits_bot]

/-- Its sum of exponentials. -/
theorem pay_l (r : Fin 512) :
    k0_pay12 v0 v2 m l v43 v46 (ix2 r 0)
      = l (ix2 r 0) * Ideal.exp (m (ix2 r 0) - k0_pay8 v0 v2 m v43 v46 (ix2 r 0))
        + ∑ c, Ideal.exp (∑ e, cat (row3 v0 r) (row3 v2 r) e * cat (row3 v43 c) (row2 v46 c) e - k0_pay8 v0 v2 m v43 v46 (ix2 r 0)) := by
  pointwise [k0_pay12, k0_pay9, k0_pay10]
  simp only [pay_s]

/-- Its weighted sum of values. -/
theorem pay_a (r : Fin 512) (d : Fin 128) :
    k0_pay11 v0 v2 acc m v43 v46 v61 (ix2 r d)
      = acc (ix2 r d) * Ideal.exp (m (ix2 r 0) - k0_pay8 v0 v2 m v43 v46 (ix2 r 0))
        + ∑ c, Ideal.exp (∑ e, cat (row3 v0 r) (row3 v2 r) e * cat (row3 v43 c) (row2 v46 c) e - k0_pay8 v0 v2 m v43 v46 (ix2 r 0))
            * row3 v61 c d := by
  pointwise [k0_pay11, k0_pay9, k0_pay10]
  simp only [pay_s]

/-- The kernel's mask on the diagonal block, of the order of a query and a key counted within it. -/
theorem mask_iff (i : grid0.Coords) (k : Fin (k0_t3_loop i).trips) (r c : Fin 512) :
    IntOp.cmpi CmpIPredicate.sge
        (IntOp.addi (IntOp.subi (BitVec.ofNat 32 r.val) (BitVec.ofNat 32 c.val)) (Scalar.muli (BitVec.ofNat 32 (i 1).val) 512#32))
        (Scalar.muli (Scf.iv (Scalar.muli (BitVec.ofNat 32 (i 1).val) 1#32) 1#32 k.val) 512#32)
      = if 512 * (i 1).val + c.val ≤ 512 * (i 1).val + r.val then 1#1 else 0#1 := by
  have hk : k.val = 0 := by have := Nat.lt_of_lt_of_le k.isLt (k0_t3_abs i).2.1; omega
  have hi : (i 1).val < 8 := (i 1).isLt
  have hr := r.isLt
  have hc := c.isLt
  have a : Affine.IsInt (Scalar.addi (Scalar.subi (BitVec.ofNat 32 r.val) (BitVec.ofNat 32 c.val)) (Scalar.muli (BitVec.ofNat 32 (i 1).val) 512#32))
      ((r.val : Int) - c.val + (i 1).val * 512) :=
    Affine.addi (Affine.subi (Affine.ofNat (e := r.val) r.val (by omega)) (Affine.ofNat (e := c.val) c.val (by omega)) (e := r.val - c.val) (by omega))
      (Affine.muli (Affine.ofNat (e := (i 1).val) (i 1).val (by omega)) (Affine.ofNat (e := 512) 512 (by omega)) (e := (i 1).val * 512) (by omega)) (by omega)
  have b : Affine.IsInt (Scalar.muli (Scf.iv (Scalar.muli (BitVec.ofNat 32 (i 1).val) 1#32) 1#32 k.val) 512#32) (((i 1).val : Int) * 512) :=
    Affine.muli (Affine.iv (Affine.muli (Affine.ofNat (e := (i 1).val) (i 1).val (by omega)) (Affine.ofNat (e := 1) 1 (by omega)) (e := (i 1).val) (by omega))
      (Affine.ofNat (e := 1) 1 (by omega)) k.val (e := (i 1).val) (by omega)) (Affine.ofNat (e := 512) 512 (by omega)) (by omega)
  by_cases h : 512 * (i 1).val + c.val ≤ 512 * (i 1).val + r.val
  · rw [if_pos h]; exact Affine.sge_holds a b (by omega)
  · rw [if_neg h]; exact (BitVec.eq_zero_or_eq_one _).resolve_right (Affine.sge_fails a b (by omega))

/-- The scores of the block on the diagonal, minus infinity for a key after the query. -/
theorem pay_s' (i : grid0.Coords) (k : Fin (k0_t3_loop i).trips) (r c : Fin 512) :
    k0_pay19 i v0 v2 k v43 v46 (ix2 r c)
      = if 512 * (i 1).val + c.val ≤ 512 * (i 1).val + r.val then ∑ e, cat (row3 v0 r) (row3 v2 r) e * cat (row3 v43 c) (row2 v46 c) e else ⊥ := by
  unfold k0_pay19
  generalize hk : concatenate S512x256 1 [⟨S512x128, shapeCast S512x128 v43 shapeCasts_S1x512x128_S512x128⟩, ⟨S512x128, v46⟩] concatenates_S512x128_S512x128_S512x256_d1 = y
  have hy : ∀ (c : Fin 512) (e : Fin 256), y (ix2 c e) = cat (row3 v43 c) (row2 v46 c) e := fun c e => by
    rw [← hk]
    exact pay_k v43 v46 c e
  pointwise [k0_pay3]
  rw [mask_iff]
  simp only [pay_q, hy]
  by_cases h : 512 * (i 1).val + c.val ≤ 512 * (i 1).val + r.val
  · rw [if_pos h, if_pos h]; rfl
  · rw [if_neg h, if_neg h]; exact ofBits_bot

/-- A row's greatest score after the block on the diagonal. -/
theorem pay_m' (i : grid0.Coords) (k : Fin (k0_t3_loop i).trips) (r : Fin 512) :
    k0_pay20 i v0 v2 k m v43 v46 (ix2 r 0)
      = max (m (ix2 r 0)) ((Finset.univ : Finset (Fin 512)).fold max ⊥ fun c => if 512 * (i 1).val + c.val ≤ 512 * (i 1).val + r.val then ∑ e, cat (row3 v0 r) (row3 v2 r) e * cat (row3 v43 c) (row2 v46 c) e else ⊥) := by
  pointwise [k0_pay20]
  simp only [pay_s', ofBits_bot]

/-- Its sum of exponentials. -/
theorem pay_l' (i : grid0.Coords) (k : Fin (k0_t3_loop i).trips) (r : Fin 512) :
    k0_pay24 i v0 v2 k m l v43 v46 (ix2 r 0)
      = l (ix2 r 0) * Ideal.exp (m (ix2 r 0) - k0_pay20 i v0 v2 k m v43 v46 (ix2 r 0))
        + ∑ c : Fin 512, Ideal.exp ((if 512 * (i 1).val + c.val ≤ 512 * (i 1).val + r.val then ∑ e, cat (row3 v0 r) (row3 v2 r) e * cat (row3 v43 c) (row2 v46 c) e else ⊥) - k0_pay20 i v0 v2 k m v43 v46 (ix2 r 0)) := by
  pointwise [k0_pay24, k0_pay21, k0_pay22]
  simp only [pay_s']

/-- Its weighted sum of values. -/
theorem pay_a' (i : grid0.Coords) (k : Fin (k0_t3_loop i).trips) (r : Fin 512) (d : Fin 128) :
    k0_pay23 i v0 v2 k acc m v43 v46 v61 (ix2 r d)
      = acc (ix2 r d) * Ideal.exp (m (ix2 r 0) - k0_pay20 i v0 v2 k m v43 v46 (ix2 r 0))
        + ∑ c : Fin 512, Ideal.exp ((if 512 * (i 1).val + c.val ≤ 512 * (i 1).val + r.val then ∑ e, cat (row3 v0 r) (row3 v2 r) e * cat (row3 v43 c) (row2 v46 c) e else ⊥) - k0_pay20 i v0 v2 k m v43 v46 (ix2 r 0))
            * row3 v61 c d := by
  pointwise [k0_pay23, k0_pay21, k0_pay22]
  simp only [pay_s']

/-- Before the first block: the weighted sum. -/
theorem start_a (r : Fin 512) (d : Fin 128) : (k0_pay4 (F := Ideal)) (ix2 r d) = 0 := by
  pointwise [k0_pay4]

/-- The greatest score. -/
theorem start_m (r : Fin 512) : (k0_pay5 (F := Ideal)) (ix2 r 0) = ⊥ := by
  pointwise [k0_pay5]
  exact ofBits_bot

/-- The sum of exponentials. -/
theorem start_l (r : Fin 512) : (k0_pay6 (F := Ideal)) (ix2 r 0) = 0 := by
  pointwise [k0_pay6]

/-- What is stored of the weighted sum. -/
theorem end_a (r : Fin 512) (d : Fin 128) : k0_pay31 acc l (ix2 r d) = Ideal.div (acc (ix2 r d)) (l (ix2 r 0)) := by
  pointwise [k0_pay31]

/-- What is stored of the greatest score and the sum. -/
theorem end_m (r : Fin 512) (d : Fin 128) : k0_pay1 m l (ix2 r d) = m (ix2 r 0) + Ideal.log (l (ix2 r 0)) := by
  pointwise [k0_pay1]

end Cert.LatentFwdIdeal.Own

end
-- ==== Proof.LatentFwdMath.lean ====
/- One row of the latent attention taken a block of keys at a time, over the real numbers: the running greatest score, sum
   of exponentials and weighted sum of values hold what the keys so far make of them, and give the softmax at the end. -/
module

public import proofs.«01_k».proof.Proof.LatentRow

@[expose] public section

noncomputable section

namespace Cert.Latent

open Idealize.ShloMosaic

variable (s : ℕ → ℝ) (v : ℕ → Fin 128 → EReal) (n : ℕ)

/-- The score of the key at position `p` for the query at position `n`, minus infinity for a key after the query. -/
def score (p : ℕ) : EReal := if p ≤ n then (s p : EReal) else ⊥

/-- The exponential of that score less `μ`. -/
def expAt (μ : ℝ) (p : ℕ) : ℝ := if p ≤ n then Real.exp (s p - μ) else 0

theorem exp_score (μ : ℝ) (p : ℕ) : Ideal.exp (score s n p - (μ : EReal)) = (expAt s n μ p : EReal) := by
  unfold score expAt
  split
  · rw [← EReal.coe_sub, Ideal.exp_coe]
  · rw [EReal.bot_sub, Ideal.exp_bot, EReal.coe_zero]

/-- Exponentials less one number are those less another, times the exponential of the difference. -/
theorem expAt_shift (μ ν : ℝ) (p : ℕ) : expAt s n μ p * Real.exp (μ - ν) = expAt s n ν p := by
  unfold expAt
  split
  · rw [← Real.exp_add]
    congr 1
    ring
  · rw [zero_mul]

/-- A row before its first key: the greatest score minus infinity, both sums zero. -/
def Fresh (a : Fin 128 → EReal) (m l : EReal) : Prop := m = ⊥ ∧ l = 0 ∧ ∀ d, a d = 0

/-- A row after its first `N` keys: the sums of the exponentials less some real number, and of those times the values. -/
def Upto (N : ℕ) (a : Fin 128 → EReal) (m l : EReal) : Prop :=
  ∃ μ : ℝ, m = (μ : EReal) ∧ l = ((∑ p ∈ Finset.range N, expAt s n μ p : ℝ) : EReal)
    ∧ ∀ d, a d = ∑ p ∈ Finset.range N, (expAt s n μ p : EReal) * v p d

/-- A sum times a real number that is not negative, whatever the terms. -/
theorem sum_mul_real {ι : Type} (S : Finset ι) (f : ι → EReal) {c : ℝ} (hc : 0 ≤ c) : (∑ i ∈ S, f i) * (c : EReal) = ∑ i ∈ S, f i * (c : EReal) := by
  classical
  induction S using Finset.induction_on with
  | empty => simp
  | insert i S hi ih =>
    rw [Finset.sum_insert hi, Finset.sum_insert hi, ← ih]
    exact EReal.right_distrib_of_nonneg_of_ne_top (EReal.coe_nonneg.2 hc) (EReal.coe_ne_top c) _ _

/-- The greatest score of a block whose first key the query sees is a real number. -/
theorem block_max {N : ℕ} (hN : N ≤ n) (z : Fin 512 → EReal) (hz : ∀ c, z c = score s n (N + c.val)) :
    ∃ β : ℝ, (Finset.univ : Finset (Fin 512)).fold max ⊥ z = (β : EReal) := by
  have h1 : (Finset.univ : Finset (Fin 512)).sup z < ⊤ := by
    rw [Finset.sup_lt_iff bot_lt_top]
    intro c _
    rw [hz]
    unfold score
    split
    · exact EReal.coe_lt_top _
    · exact bot_lt_top
  have h2 : ⊥ < (Finset.univ : Finset (Fin 512)).sup z := by
    refine lt_of_lt_of_le ?_ (Finset.le_sup (Finset.mem_univ (0 : Fin 512)))
    rw [hz]
    unfold score
    rw [if_pos (by simpa using hN)]
    exact EReal.bot_lt_coe _
  exact ⟨_, (EReal.coe_toReal h1.ne h2.ne').symm⟩

/-- One block of keys more. -/
theorem step {N : ℕ} (hN : N ≤ n) {a a' : Fin 128 → EReal} {m m' l l' : EReal} {z : Fin 512 → EReal} {w : Fin 512 → Fin 128 → EReal}
    (h : (N = 0 ∧ Fresh a m l) ∨ Upto s v n N a m l)
    (hz : ∀ c, z c = score s n (N + c.val)) (hw : ∀ c d, w c d = v (N + c.val) d)
    (hm : m' = max m ((Finset.univ : Finset (Fin 512)).fold max ⊥ z))
    (hl : l' = l * Ideal.exp (m - m') + ∑ c, Ideal.exp (z c - m'))
    (ha : ∀ d, a' d = a d * Ideal.exp (m - m') + ∑ c, Ideal.exp (z c - m') * w c d) :
    Upto s v n (N + 512) a' m' l' := by
  obtain ⟨β, hβ⟩ := block_max s n hN z hz
  rw [hβ] at hm
  have hblock : ∀ ν : ℝ, ∑ c, Ideal.exp (z c - (ν : EReal)) = ((∑ c : Fin 512, expAt s n ν (N + c.val) : ℝ) : EReal) := fun ν => by
    rw [← sum_real]
    exact Finset.sum_congr rfl fun c _ => by rw [hz, exp_score]
  have hblock' : ∀ (ν : ℝ) (d : Fin 128), ∑ c, Ideal.exp (z c - (ν : EReal)) * w c d
      = ∑ c : Fin 512, (expAt s n ν (N + c.val) : EReal) * v (N + c.val) d := fun ν d =>
    Finset.sum_congr rfl fun c _ => by rw [hz, exp_score, hw]
  rcases h with ⟨rfl, rfl, rfl, h0⟩ | ⟨μ, rfl, rfl, h0⟩
  · rw [max_eq_right bot_le] at hm
    subst hm
    refine ⟨β, rfl, ?_, fun d => ?_⟩
    · rw [hl, zero_mul, zero_add, hblock, Finset.sum_range (n := 0 + 512)]
      simp only [zero_add]
    · rw [ha, h0, zero_mul, zero_add, hblock', Finset.sum_range (n := 0 + 512)]
      simp only [zero_add]
  · rw [← EReal.coe_strictMono.monotone.map_max] at hm
    subst hm
    refine ⟨max μ β, rfl, ?_, fun d => ?_⟩
    · rw [hl, hblock, ← EReal.coe_sub, Ideal.exp_coe, ← EReal.coe_mul, ← EReal.coe_add, Finset.sum_range_add, Finset.sum_mul,
        Finset.sum_range (n := 512)]
      simp only [expAt_shift]
    · rw [ha, h0, hblock', ← EReal.coe_sub, Ideal.exp_coe, sum_mul_real _ _ (Real.exp_pos _).le, Finset.sum_range_add,
        Finset.sum_range (n := 512)]
      simp only [mul_right_comm _ (v _ d), ← EReal.coe_mul, expAt_shift]

/-- Past the query's own position the sums gain nothing. -/
theorem sum_past {N K : ℕ} (hN : n < N) (hK : N ≤ K) (μ : ℝ) (f : ℕ → EReal) :
    ∑ p ∈ Finset.range N, (expAt s n μ p : EReal) * f p = ∑ p ∈ Finset.range K, (expAt s n μ p : EReal) * f p := by
  refine Finset.sum_subset (Finset.range_subset_range.2 hK) fun p _ hp => ?_
  rw [Finset.mem_range] at hp
  unfold expAt
  rw [if_neg (by omega), EReal.coe_zero, zero_mul]

/-- So at the end the weighted sum of the values over the sum of the exponentials is the softmax's, and the greatest score plus
    the sum's logarithm is the row's log-sum, whatever real number `ν` the exponentials are taken less. -/
theorem finish {K : ℕ} {S : Fin K → ℝ} {w : Fin K → Fin 128 → EReal} {i : Fin K} {N : ℕ} (hs : ∀ j : Fin K, s j.val = S j)
    (hv : ∀ (j : Fin K) d, v j.val d = w j d) (hn : n = i.val) (hN : n < N) (hK : N ≤ K) {a : Fin 128 → EReal} {m l : EReal}
    (h : Upto s v n N a m l) (ν : ℝ) :
    m + Ideal.log l = (ν : EReal) + Ideal.log ((∑ j, expo S i ν j : ℝ) : EReal)
    ∧ ∀ d, Ideal.div (a d) l = ∑ j, Ideal.div (expo S i ν j : EReal) ((∑ j, expo S i ν j : ℝ) : EReal) * w j d := by
  obtain ⟨μ, rfl, rfl, ha⟩ := h
  have hexp : ∀ j : Fin K, expAt s n μ j.val = expo S i ν j * Real.exp (ν - μ) := fun j => by
    rw [← expAt_shift s n ν μ]
    congr 1
    unfold expAt expo
    rw [hs, hn]
    exact if_congr Fin.le_def.symm rfl rfl
  have hsum : ∀ f : ℕ → EReal, ∑ p ∈ Finset.range N, (expAt s n μ p : EReal) * f p
      = ∑ j : Fin K, ((expo S i ν j * Real.exp (ν - μ) : ℝ) : EReal) * f j.val := fun f => by
    rw [sum_past s n hN hK, Finset.sum_range]
    exact Finset.sum_congr rfl fun j _ => by rw [hexp]
  have hone : ∑ p ∈ Finset.range N, expAt s n μ p = (∑ j : Fin K, expo S i ν j) * Real.exp (ν - μ) := by
    have := hsum fun _ => 1
    simp only [mul_one, sum_real, EReal.coe_eq_coe_iff] at this
    rw [this, Finset.sum_mul]
  have hpos := expo_sum_pos S i ν
  have he := Real.exp_pos (ν - μ)
  constructor
  · rw [hone, Ideal.log_coe, if_neg (not_le.mpr (mul_pos hpos he)), Ideal.log_coe, if_neg (not_le.mpr hpos), ← EReal.coe_add,
      ← EReal.coe_add, Real.log_mul hpos.ne' he.ne', Real.log_exp]
    congr 1
    ring
  · intro d
    rw [ha, hone, hsum fun p => v p d, Ideal.div_coe (mul_pos hpos he).ne', sum_mul_real _ _ (one_div_pos.2 (mul_pos hpos he)).le]
    refine Finset.sum_congr rfl fun j _ => ?_
    rw [div_real _ hpos.ne', hv, mul_right_comm, ← EReal.coe_mul]
    congr 2
    field_simp

end Cert.Latent

end
-- ==== Proof.LatentFwdLoop.lean ====
/- The latent attention's kernel's loops over the key blocks, row by row: what a row's greatest score, sum of exponentials
   and weighted sum of values hold after the blocks before the diagonal and after the one on it. -/
module

public import proofs.«01_k».proof.Proof.Gen.LatentFwdIdeal.Loops
public import proofs.«01_k».proof.Proof.LatentFwdPay
public import proofs.«01_k».proof.Proof.LatentFwdMath
public import Idealize.ShloMosaic.Lib.WritesUnit
public import Idealize.ShloMosaic.Lib.Pipeline.ValueKit.Tiles

@[expose] public section

set_option maxRecDepth 16384

noncomputable section

namespace Cert.LatentFwdIdeal.Own

open Cert.LatentFwdIdeal Cert.LatentFwdIdeal.Gen Cert.Latent
open Idealize.ShloMosaic Idealize.ShloMosaic.TcCoe Idealize.ShloMosaic.Tactic Idealize.SL.Sem

/-- The loop over the blocks before the diagonal has as many trips as the query block's number. -/
theorem trips1 : ∀ i : grid0.Coords, (k0_t1_loop i).trips = (i 1).val := by decide +kernel

/-- The loop on the diagonal has one trip. -/
theorem trips3 : ∀ i : grid0.Coords, (k0_t3_loop i).trips = 1 := by decide +kernel

/-- The two loops of what is left over of the blocks have no trip. -/
theorem trips2 : ∀ i : grid0.Coords, (k0_t2_loop i).trips = 0 := by decide +kernel

/-- Likewise on the diagonal. -/
theorem trips4 : ∀ i : grid0.Coords, (k0_t4_loop i).trips = 0 := by decide +kernel

/-- Where the trip on the diagonal reads the head's keys and values. -/
theorem off5_eq : ∀ (i : grid0.Coords) (k : Fin (k0_t3_loop i).trips), k0_off5 i k = ![0, 512 * (i 1).val, 0] := by decide +kernel

/-- Where it reads the rotated keys. -/
theorem off6_eq : ∀ (i : grid0.Coords) (k : Fin (k0_t3_loop i).trips), k0_off6 i k = ![512 * (i 1).val, 0] := by decide +kernel

/-- Row `c` of key block `k`, counted from the first key. -/
def at512 (k : ℕ) (hk : k < 8) (c : Fin 512) : Fin 4096 := ⟨512 * k + c.val, by omega⟩

section Load

variable {φ : EltTy} {k : ℕ} (hk : k < 8)

/-- A block of rows read through a rectangle of them, at an index. -/
theorem ld3 (X : S1x4096x128.Idx → Elt Ideal φ) {off : Fin 3 → ℕ} (h : off = ![0, 512 * k, 0]) (inb) (c : Fin 512) (d : Fin 128) :
    View.ld X (Rect.unit (s := S1x4096x128) off S1x512x128.size inb) (ix3 0 c d) = X (ix3 0 (at512 k hk c) d) :=
  View.ld_unit_apply_of X off S1x512x128.size inb (ix3 0 c d) (ix3 0 (at512 k hk c) d) fun a => by
    subst h
    fin_cases a <;> simp [at512, ix3]

/-- The same for rows of tokens. -/
theorem ld2 (X : S4096x128.Idx → Elt Ideal φ) {off : Fin 2 → ℕ} (h : off = ![512 * k, 0]) (inb) (c : Fin 512) (d : Fin 128) :
    View.ld X (Rect.unit (s := S4096x128) off S512x128.size inb) (ix2 c d) = X (ix2 (at512 k hk c) d) :=
  View.ld_unit_apply_of X off S512x128.size inb (ix2 c d) (ix2 (at512 k hk c) d) fun a => by
    subst h
    fin_cases a <;> simp [at512, ix2]

/-- A row of a block of rows read through a rectangle of them. -/
theorem row_ld3 (X : S1x4096x128.Idx → Elt Ideal φ) {off : Fin 3 → ℕ} (h : off = ![0, 512 * k, 0]) (inb) (c : Fin 512) :
    row3 (φ := φ) (View.ld X (Rect.unit (s := S1x4096x128) off S1x512x128.size inb)) c = row3 X (at512 k hk c) :=
  funext fun d => ld3 hk X h inb c d

/-- The same for rows of tokens. -/
theorem row_ld2 (X : S4096x128.Idx → Elt Ideal φ) {off : Fin 2 → ℕ} (h : off = ![512 * k, 0]) (inb) (c : Fin 512) :
    row2 (φ := φ) (View.ld X (Rect.unit (s := S4096x128) off S512x128.size inb)) c = row2 X (at512 k hk c) :=
  funext fun d => ld2 hk X h inb c d

end Load

section Trips

variable (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole)
  (v0 v2 : Vec Ideal S1x512x128 .bf16)
  (X4 : BufTy.Contents (Elt Ideal) arg4.view.ty) (X5 : BufTy.Contents (Elt Ideal) arg5.view.ty) (X6 : BufTy.Contents (Elt Ideal) arg6.view.ty)
  (s : ℕ → ℝ) (v : ℕ → Fin 128 → EReal) (r : Fin 512)

/-- A row's three carried values after a state of the loops. -/
abbrev RowUpto (i : grid0.Coords) (r : Fin 512) (N : ℕ) (st : FVec Ideal S512x128 .f32 × FVec Ideal S512x1 .f32 × FVec Ideal S512x1 .f32) : Prop :=
  Upto s v (512 * (i 1).val + r.val) N (fun d => st.1 (ix2 r d)) (st.2.1 (ix2 r 0)) (st.2.2 (ix2 r 0))

/-- The row's scores are the real numbers `s`, and the values are `v`. -/
structure Given (v0 v2 : Vec Ideal S1x512x128 .bf16) (xk : Vec Ideal S1x4096x128 .bf16) (xr : Vec Ideal S4096x128 .bf16)
    (xv : Vec Ideal S1x4096x128 .bf16) (s : ℕ → ℝ) (v : ℕ → Fin 128 → EReal) (r : Fin 512) : Prop where
  score : ∀ j : Fin 4096, ∑ e, cat (row3 v0 r) (row3 v2 r) e * cat (row3 xk j) (row2 xr j) e = (s j.val : EReal)
  value : ∀ (j : Fin 4096) d, row3 xv j d = v j.val d

variable (hg : Given v0 v2 (arg4.view.read (Elt Ideal) X4) (arg5.view.read (Elt Ideal) X5) (arg6.view.read (Elt Ideal) X6) s v r)

include hg in
/-- A trip before the diagonal takes the row one block on. -/
theorem trip1 (k : Fin (k0_t1_loop i).trips) (hk : k.val < (i 1).val) (h8 : k.val < 8)
    (st : FVec Ideal S512x128 .f32 × FVec Ideal S512x1 .f32 × FVec Ideal S512x1 .f32)
    (h : (512 * k.val = 0 ∧ Fresh (fun d => st.1 (ix2 r d)) (st.2.1 (ix2 r 0)) (st.2.2 (ix2 r 0))) ∨ RowUpto s v i r (512 * k.val) st) :
    RowUpto s v i r (512 * k.val + 512) (tripR_k0_t1 𝒱 c bd i arg2 harg2 arg3 harg3 arg4 harg4 arg5 harg5 arg6 harg6 arg7 harg7 arg8 harg8 v0 v2 X4 X5 X6 k st) := by
  unfold tripR_k0_t1 trip_k0_t1
  dsimp only
  simp only [View.readAt_eq_ld]
  refine step (z := fun c => ∑ e, cat (row3 v0 r) (row3 v2 r) e * cat (row3 (arg4.view.read (Elt Ideal) X4) (at512 k.val h8 c)) (row2 (arg5.view.read (Elt Ideal) X5) (at512 k.val h8 c)) e)
    (w := fun c d => row3 (arg6.view.read (Elt Ideal) X6) (at512 k.val h8 c) d) s v _ (by omega) h (fun c => ?_) (fun c d => hg.value _ d) ?_ ?_ (fun d => ?_)
  · rw [hg.score, score, if_pos (by omega)]
    rfl
  · simp only [pay_m, row_ld3 h8 _ (k0_off1_eq i k), row_ld2 h8 _ (k0_off2_eq i k)]
  · simp only [pay_l, row_ld3 h8 _ (k0_off1_eq i k), row_ld2 h8 _ (k0_off2_eq i k)]
  · simp only [pay_a, row_ld3 h8 _ (k0_off1_eq i k), row_ld2 h8 _ (k0_off2_eq i k)]
    exact congrArg _ (Finset.sum_congr rfl fun x _ => congrArg _ (ld3 h8 _ (k0_off1_eq i k) _ x d))

include hg in
/-- The trip on the diagonal takes the row one block on. -/
theorem trip3 (k : Fin (k0_t3_loop i).trips) (h8 : (i 1).val < 8)
    (st : FVec Ideal S512x128 .f32 × FVec Ideal S512x1 .f32 × FVec Ideal S512x1 .f32)
    (h : (512 * (i 1).val = 0 ∧ Fresh (fun d => st.1 (ix2 r d)) (st.2.1 (ix2 r 0)) (st.2.2 (ix2 r 0))) ∨ RowUpto s v i r (512 * (i 1).val) st) :
    RowUpto s v i r (512 * (i 1).val + 512) (tripR_k0_t3 𝒱 c bd i arg2 harg2 arg3 harg3 arg4 harg4 arg5 harg5 arg6 harg6 arg7 harg7 arg8 harg8 v0 v2 X4 X5 X6 k st) := by
  unfold tripR_k0_t3 trip_k0_t3
  dsimp only
  simp only [View.readAt_eq_ld]
  refine step (z := fun c => if 512 * (i 1).val + c.val ≤ 512 * (i 1).val + r.val then
        ∑ e, cat (row3 v0 r) (row3 v2 r) e * cat (row3 (arg4.view.read (Elt Ideal) X4) (at512 (i 1).val h8 c)) (row2 (arg5.view.read (Elt Ideal) X5) (at512 (i 1).val h8 c)) e else ⊥)
    (w := fun c d => row3 (arg6.view.read (Elt Ideal) X6) (at512 (i 1).val h8 c) d) s v _ (by omega) h (fun c => ?_) (fun c d => hg.value _ d) ?_ ?_ (fun d => ?_)
  · rw [hg.score, score]
    rfl
  · simp only [pay_m', row_ld3 h8 _ (off5_eq i k), row_ld2 h8 _ (off6_eq i k)]
  · simp only [pay_l', row_ld3 h8 _ (off5_eq i k), row_ld2 h8 _ (off6_eq i k)]
  · simp only [pay_a', row_ld3 h8 _ (off5_eq i k), row_ld2 h8 _ (off6_eq i k)]
    exact congrArg _ (Finset.sum_congr rfl fun x _ => congrArg _ (ld3 h8 _ (off5_eq i k) _ x d))

include hg in
/-- After `n` blocks before the diagonal. -/
theorem loop1 (init : FVec Ideal S512x128 .f32 × FVec Ideal S512x1 .f32 × FVec Ideal S512x1 .f32)
    (h0 : Fresh (fun d => init.1 (ix2 r d)) (init.2.1 (ix2 r 0)) (init.2.2 (ix2 r 0))) : ∀ (n : ℕ) (hn : n ≤ (i 1).val),
    (512 * n = 0 ∧ Fresh (fun d => (st_k0_t1 𝒱 c bd i arg2 harg2 arg3 harg3 arg4 harg4 arg5 harg5 arg6 harg6 arg7 harg7 arg8 harg8 v0 v2 X4 X5 X6 init n).1 (ix2 r d))
        ((st_k0_t1 𝒱 c bd i arg2 harg2 arg3 harg3 arg4 harg4 arg5 harg5 arg6 harg6 arg7 harg7 arg8 harg8 v0 v2 X4 X5 X6 init n).2.1 (ix2 r 0)) ((st_k0_t1 𝒱 c bd i arg2 harg2 arg3 harg3 arg4 harg4 arg5 harg5 arg6 harg6 arg7 harg7 arg8 harg8 v0 v2 X4 X5 X6 init n).2.2 (ix2 r 0)))
      ∨ RowUpto s v i r (512 * n) (st_k0_t1 𝒱 c bd i arg2 harg2 arg3 harg3 arg4 harg4 arg5 harg5 arg6 harg6 arg7 harg7 arg8 harg8 v0 v2 X4 X5 X6 init n)
  | 0, _ => .inl ⟨rfl, by rw [st_k0_t1_zero]; exact h0⟩
  | n + 1, hn => by
    have h8 : n < 8 := by have : (i 1).val < 8 := (i 1).isLt; omega
    have hk : n < (k0_t1_loop i).trips := by rw [trips1]; omega
    right
    rw [st_k0_t1_succ (k := ⟨n, hk⟩)]
    exact trip1 𝒱 c bd i arg2 harg2 arg3 harg3 arg4 harg4 arg5 harg5 arg6 harg6 arg7 harg7 arg8 harg8 v0 v2 X4 X5 X6 s v r hg ⟨n, hk⟩ (by simpa using hn) h8 _ (loop1 init h0 n (by omega))

include hg in
/-- After the block on the diagonal. -/
theorem loop3 (init : FVec Ideal S512x128 .f32 × FVec Ideal S512x1 .f32 × FVec Ideal S512x1 .f32)
    (h : (512 * (i 1).val = 0 ∧ Fresh (fun d => init.1 (ix2 r d)) (init.2.1 (ix2 r 0)) (init.2.2 (ix2 r 0))) ∨ RowUpto s v i r (512 * (i 1).val) init) :
    RowUpto s v i r (512 * (i 1).val + 512) (st_k0_t3 𝒱 c bd i arg2 harg2 arg3 harg3 arg4 harg4 arg5 harg5 arg6 harg6 arg7 harg7 arg8 harg8 v0 v2 X4 X5 X6 init 1) := by
  have h8 : (i 1).val < 8 := (i 1).isLt
  have hk : 0 < (k0_t3_loop i).trips := by rw [trips3]; omega
  have hs := st_k0_t3_succ 𝒱 c bd i arg2 harg2 arg3 harg3 arg4 harg4 arg5 harg5 arg6 harg6 arg7 harg7 arg8 harg8 v0 v2 X4 X5 X6 init ⟨0, hk⟩
  rw [show (⟨0, hk⟩ : Fin (k0_t3_loop i).trips).val + 1 = 1 from rfl] at hs
  rw [hs]
  exact trip3 𝒱 c bd i arg2 harg2 arg3 harg3 arg4 harg4 arg5 harg5 arg6 harg6 arg7 harg7 arg8 harg8 v0 v2 X4 X5 X6 s v r hg ⟨0, hk⟩ h8 _ h

end Trips

end Cert.LatentFwdIdeal.Own

end
-- ==== Proof.LatentFwdPoint.lean ====
/- What one grid point of the latent attention's kernel leaves: for each query of its block the weighted sum of the values
   over the sum of the exponentials, and the greatest score plus the logarithm of that sum. -/
module

public import proofs.«01_k».proof.Proof.Gen.LatentFwdIdeal.Frame
public import proofs.«01_k».proof.Proof.LatentFwdLoop
public import Idealize.ShloMosaic.Lib.Pipeline.ValueKit.Acc

@[expose] public section

set_option maxRecDepth 16384

noncomputable section

namespace Cert.LatentFwdIdeal.Own

open Cert.LatentFwdIdeal Cert.LatentFwdIdeal.Gen Cert.Latent
open Idealize.ShloMosaic Idealize.ShloMosaic.TcCoe Idealize.ShloMosaic.Tactic Idealize.SL.Sem

/-- A loop with no trip leaves what it is given. -/
theorem none2 (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (v0 v2 X4 X5 X6)
    (init : FVec Ideal S512x128 .f32 × FVec Ideal S512x1 .f32 × FVec Ideal S512x1 .f32) :
    st_k0_t2 𝒱 c bd i arg2 harg2 arg3 harg3 arg4 harg4 arg5 harg5 arg6 harg6 arg7 harg7 arg8 harg8 v0 v2 X4 X5 X6 init 0 = init := rfl

/-- Likewise on the diagonal. -/
theorem none4 (𝒱 : Variants) (c : Dev nD) (bd : Option 𝒱.V) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole) (v0 v2 X4 X5 X6)
    (init : FVec Ideal S512x128 .f32 × FVec Ideal S512x1 .f32 × FVec Ideal S512x1 .f32) :
    st_k0_t4 𝒱 c bd i arg2 harg2 arg3 harg3 arg4 harg4 arg5 harg5 arg6 harg6 arg7 harg7 arg8 harg8 v0 v2 X4 X5 X6 init 0 = init := rfl

variable (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x4096x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S512x128 .f32) (harg7 : arg7.IsWhole) (arg8 : Memref sig .tc .vmem S512x128 .f32) (harg8 : arg8.IsWhole)
  (x0 x1 : Vec Ideal S1x512x128 .bf16) (x2 : Vec Ideal S1x4096x128 .bf16) (x3 : Vec Ideal S4096x128 .bf16) (x4 : Vec Ideal S1x4096x128 .bf16)

/-- What a row holds after its last block is over, and what the point stores of it. -/
theorem point (s : ℕ → ℝ) (v : ℕ → Fin 128 → EReal) (r : Fin 512) (hg : Given x0 x1 x2 x3 x4 s v r) :
    ∃ st : FVec Ideal S512x128 .f32 × FVec Ideal S512x1 .f32 × FVec Ideal S512x1 .f32, RowUpto s v i r (512 * (i 1).val + 512) st
      ∧ (∀ d, out0_A_5 c i arg2 harg2 arg3 harg3 arg4 harg4 arg5 harg5 arg6 harg6 arg7 harg7 arg8 harg8 x0 x1 x2 x3 x4 (ix2 r d) = Ideal.div (st.1 (ix2 r d)) (st.2.2 (ix2 r 0)))
      ∧ ∀ d, out0_A_6 c i arg2 harg2 arg3 harg3 arg4 harg4 arg5 harg5 arg6 harg6 arg7 harg7 arg8 harg8 x0 x1 x2 x3 x4 (ix2 r d) = st.2.1 (ix2 r 0) + Ideal.log (st.2.2 (ix2 r 0)) := by
  have h1 : Scf.trips (k0_t1_loop i).lb (k0_t1_loop i).ub (k0_t1_loop i).st = (i 1).val := trips1 i
  have h2 : Scf.trips (k0_t2_loop i).lb (k0_t2_loop i).ub (k0_t2_loop i).st = 0 := trips2 i
  have h3 : Scf.trips (k0_t3_loop i).lb (k0_t3_loop i).ub (k0_t3_loop i).st = 1 := trips3 i
  have h4 : Scf.trips (k0_t4_loop i).lb (k0_t4_loop i).ub (k0_t4_loop i).st = 0 := trips4 i
  have hg' : Given x0 x1 (arg4.view.read (Elt Ideal) (harg4.unread x2)) (arg5.view.read (Elt Ideal) (harg5.unread x3)) (arg6.view.read (Elt Ideal) (harg6.unread x4)) s v r := by
    simpa only [Memref.IsWhole.read_unread] using hg
  refine ⟨_, loop3 Variants.none c none i arg2 harg2 arg3 harg3 arg4 harg4 arg5 harg5 arg6 harg6 arg7 harg7 arg8 harg8 x0 x1 (harg4.unread x2) (harg5.unread x3) (harg6.unread x4) s v r hg' _
    (loop1 Variants.none c none i arg2 harg2 arg3 harg3 arg4 harg4 arg5 harg5 arg6 harg6 arg7 harg7 arg8 harg8 x0 x1 (harg4.unread x2) (harg5.unread x3) (harg6.unread x4) s v r hg' (k0_pay4, k0_pay5, k0_pay6)
      ⟨start_m r, start_l r, fun d => start_a r d⟩ (i 1).val le_rfl), fun d => ?_, fun d => ?_⟩
  · unfold out0_A_5 kernelRun0_A
    dsimp only
    rw [View.read_writes_junk_eq_canon, View.canon_unit_zero (by decide)]
    simp (disch := decide) only [h1, h2, h3, h4, none2, none4, View.readAt_eq_ld, Memref.IsWhole.read_unread, View.ld_unit_lit',
      kernelRun0_A.sl.r, kernelRun0_A.sl.r_1, kernelRun0_A.sl.r_2, Prod.mk.eta]
    exact end_a _ _ r d
  · unfold out0_A_6 kernelRun0_A
    dsimp only
    rw [View.read_writes_junk_eq_canon, View.canon_unit_zero (by decide)]
    simp (disch := decide) only [h1, h2, h3, h4, none2, none4, View.readAt_eq_ld, Memref.IsWhole.read_unread, View.ld_unit_lit',
      kernelRun0_A.sl.r, kernelRun0_A.sl.r_1, kernelRun0_A.sl.r_2, Prod.mk.eta]
    exact end_m _ _ r d

end Cert.LatentFwdIdeal.Own

end
-- ==== Proof.LatentFwdArray.lean ====
/- What the latent attention's kernel's two result arrays hold, where the queries and keys are real numbers: each token's softmax
   of its scores times the values, and its scores' log-sum. -/
module

public import proofs.«01_k».proof.Proof.Gen.LatentFwdIdeal.Value
public import proofs.«01_k».proof.Proof.LatentFwdPoint
public import proofs.«01_k».proof.Proof.LatentEq

@[expose] public section

set_option maxRecDepth 16384

noncomputable section

namespace Cert.LatentFwdIdeal.Own

open Cert.LatentFwdIdeal Cert.LatentFwdIdeal.Gen Cert.LatentFwdIdeal.Value Cert.Latent
open Cert.ReferenceIdeal.Latent (M E L P)
open Idealize.ShloMosaic Idealize.ShloMosaic.TcCoe Idealize.ShloMosaic.Tactic Idealize.SL.Sem

variable (m : (ℓ : Loc nD τ sig) → Buf (Elt Ideal) ℓ) (c : Dev nD)

/-- A grid point's head. -/
def hd (t : Fin cfg0.N) : Fin 8 := ⟨t.val / 8, by have := t.isLt; have : cfg0.N = 64 := N_0; omega⟩

/-- Row `r` of a grid point's block of queries, among all the tokens. -/
def row (t : Fin cfg0.N) (r : Fin 512) : Fin 4096 := ⟨512 * (t.val % 8) + r.val, by omega⟩

theorem coords1 : ∀ t : Fin cfg0.N, (grid0.coords t 1).val = t.val % 8 := (by decide +kernel : ∀ t : Fin grid0.N, (grid0.coords t 1).val = t.val % 8)

theorem index0 : ∀ t : Fin cfg0.N, win0_0.index t = ![t.val / 8, t.val % 8, 0] := (by decide +kernel : ∀ t : Fin grid0.N, win0_0.index t = ![t.val / 8, t.val % 8, 0])

theorem index1 : ∀ t : Fin cfg0.N, win0_1.index t = ![t.val / 8, t.val % 8, 0] := (by decide +kernel : ∀ t : Fin grid0.N, win0_1.index t = ![t.val / 8, t.val % 8, 0])

theorem index2 : ∀ t : Fin cfg0.N, win0_2.index t = ![t.val / 8, 0, 0] := (by decide +kernel : ∀ t : Fin grid0.N, win0_2.index t = ![t.val / 8, 0, 0])

theorem index4 : ∀ t : Fin cfg0.N, win0_4.index t = ![t.val / 8, 0, 0] := (by decide +kernel : ∀ t : Fin grid0.N, win0_4.index t = ![t.val / 8, 0, 0])

theorem index3 : ∀ t : Fin cfg0.N, win0_3.index t = ![0, 0] := (by decide +kernel : ∀ t : Fin grid0.N, win0_3.index t = ![0, 0])

theorem index5 : ∀ t : Fin cfg0.N, win0_5.index t = ![t.val % 8, t.val / 8] := (by decide +kernel : ∀ t : Fin grid0.N, win0_5.index t = ![t.val % 8, t.val / 8])

theorem index6 : ∀ t : Fin cfg0.N, win0_6.index t = ![t.val % 8, t.val / 8] := (by decide +kernel : ∀ t : Fin grid0.N, win0_6.index t = ![t.val % 8, t.val / 8])

/-- The queries' part without position, as the call finds it. -/
def a0 : Heads := m ((c.tc : Thread nD τ).loc main_arg0)

/-- The queries' rotated part, as the call finds it. -/
def a1 : Heads := m ((c.tc : Thread nD τ).loc main_arg1)

/-- The keys' part without position, as the call finds it. -/
def a2 : Heads := m ((c.tc : Thread nD τ).loc main_arg2)

/-- The keys' rotated part, as the call finds it. -/
def a3 : Shared := m ((c.tc : Thread nD τ).loc main_arg3)

/-- The values, as the call finds them. -/
def a4 : Heads := m ((c.tc : Thread nD τ).loc main_arg4)

/-- Window 0's block of an array, at an index. -/
theorem read0 (X : Heads) (t : Fin cfg0.N) (r : Fin 512) (d : Fin 128) :
    ((cfg0.win 0).blk t).view.read (Elt Ideal) X (ix3 0 r d) = X (ix3 (hd t) (row t r) d) := by
  rw [View.read_apply]
  have e := index0 t
  refine congrArg X (funext fun a => Fin.ext ?_)
  match a with
  | ⟨0, _⟩ => show win0_0.index t 0 * 1 + 1 * _ = _; rw [e]; show t.val / 8 * 1 + 1 * 0 = t.val / 8; omega
  | ⟨1, _⟩ => show win0_0.index t 1 * 512 + 1 * _ = _; rw [e]; show t.val % 8 * 512 + 1 * r.val = 512 * (t.val % 8) + r.val; omega
  | ⟨2, _⟩ => show win0_0.index t 2 * 128 + 1 * _ = _; rw [e]; show 0 * 128 + 1 * d.val = d.val; omega

/-- So the block of the call's array. -/
theorem blk0 (t : Fin cfg0.N) (r : Fin 512) (d : Fin 128) : iblk m c 0 t (ix3 0 r d) = a0 m c (ix3 (hd t) (row t r) d) := read0 (a0 m c) t r d

/-- A row of it. -/
theorem rows0 (t : Fin cfg0.N) (r : Fin 512) : row3 (iblk m c 0 t) r = fun d => a0 m c (ix3 (hd t) (row t r) d) := funext fun d => blk0 m c t r d

/-- Window 1's block of an array, at an index. -/
theorem read1 (X : Heads) (t : Fin cfg0.N) (r : Fin 512) (d : Fin 128) :
    ((cfg0.win 1).blk t).view.read (Elt Ideal) X (ix3 0 r d) = X (ix3 (hd t) (row t r) d) := by
  rw [View.read_apply]
  have e := index1 t
  refine congrArg X (funext fun a => Fin.ext ?_)
  match a with
  | ⟨0, _⟩ => show win0_1.index t 0 * 1 + 1 * _ = _; rw [e]; show t.val / 8 * 1 + 1 * 0 = t.val / 8; omega
  | ⟨1, _⟩ => show win0_1.index t 1 * 512 + 1 * _ = _; rw [e]; show t.val % 8 * 512 + 1 * r.val = 512 * (t.val % 8) + r.val; omega
  | ⟨2, _⟩ => show win0_1.index t 2 * 128 + 1 * _ = _; rw [e]; show 0 * 128 + 1 * d.val = d.val; omega

/-- So the block of the call's array. -/
theorem blk1 (t : Fin cfg0.N) (r : Fin 512) (d : Fin 128) : iblk m c 1 t (ix3 0 r d) = a1 m c (ix3 (hd t) (row t r) d) := read1 (a1 m c) t r d

/-- A row of it. -/
theorem rows1 (t : Fin cfg0.N) (r : Fin 512) : row3 (iblk m c 1 t) r = fun d => a1 m c (ix3 (hd t) (row t r) d) := funext fun d => blk1 m c t r d

/-- Window 2's block of an array, at an index. -/
theorem read2 (X : Heads) (t : Fin cfg0.N) (j : Fin 4096) (d : Fin 128) :
    ((cfg0.win 2).blk t).view.read (Elt Ideal) X (ix3 0 j d) = X (ix3 (hd t) j d) := by
  rw [View.read_apply]
  have e := index2 t
  refine congrArg X (funext fun a => Fin.ext ?_)
  match a with
  | ⟨0, _⟩ => show win0_2.index t 0 * 1 + 1 * _ = _; rw [e]; show t.val / 8 * 1 + 1 * 0 = t.val / 8; omega
  | ⟨1, _⟩ => show win0_2.index t 1 * 4096 + 1 * _ = _; rw [e]; show 0 * 4096 + 1 * j.val = j.val; omega
  | ⟨2, _⟩ => show win0_2.index t 2 * 128 + 1 * _ = _; rw [e]; show 0 * 128 + 1 * d.val = d.val; omega

/-- So the block of the call's array. -/
theorem blk2 (t : Fin cfg0.N) (j : Fin 4096) (d : Fin 128) : iblk m c 2 t (ix3 0 j d) = a2 m c (ix3 (hd t) j d) := read2 (a2 m c) t j d

/-- A row of it. -/
theorem rows2 (t : Fin cfg0.N) (j : Fin 4096) : row3 (iblk m c 2 t) j = fun d => a2 m c (ix3 (hd t) j d) := funext fun d => blk2 m c t j d

/-- Window 4's block of an array, at an index. -/
theorem read4 (X : Heads) (t : Fin cfg0.N) (j : Fin 4096) (d : Fin 128) :
    ((cfg0.win 4).blk t).view.read (Elt Ideal) X (ix3 0 j d) = X (ix3 (hd t) j d) := by
  rw [View.read_apply]
  have e := index4 t
  refine congrArg X (funext fun a => Fin.ext ?_)
  match a with
  | ⟨0, _⟩ => show win0_4.index t 0 * 1 + 1 * _ = _; rw [e]; show t.val / 8 * 1 + 1 * 0 = t.val / 8; omega
  | ⟨1, _⟩ => show win0_4.index t 1 * 4096 + 1 * _ = _; rw [e]; show 0 * 4096 + 1 * j.val = j.val; omega
  | ⟨2, _⟩ => show win0_4.index t 2 * 128 + 1 * _ = _; rw [e]; show 0 * 128 + 1 * d.val = d.val; omega

/-- So the block of the call's array. -/
theorem blk4 (t : Fin cfg0.N) (j : Fin 4096) (d : Fin 128) : iblk m c 4 t (ix3 0 j d) = a4 m c (ix3 (hd t) j d) := read4 (a4 m c) t j d

/-- A row of it. -/
theorem rows4 (t : Fin cfg0.N) (j : Fin 4096) : row3 (iblk m c 4 t) j = fun d => a4 m c (ix3 (hd t) j d) := funext fun d => blk4 m c t j d

/-- Window 3's block of an array, at an index. -/
theorem read3 (X : Shared) (t : Fin cfg0.N) (j : Fin 4096) (d : Fin 128) :
    ((cfg0.win 3).blk t).view.read (Elt Ideal) X (ix2 j d) = X (ix2 j d) := by
  rw [View.read_apply]
  have e := index3 t
  refine congrArg X (funext fun a => Fin.ext ?_)
  match a with
  | ⟨0, _⟩ => show win0_3.index t 0 * 4096 + 1 * _ = _; rw [e]; show 0 * 4096 + 1 * j.val = j.val; omega
  | ⟨1, _⟩ => show win0_3.index t 1 * 128 + 1 * _ = _; rw [e]; show 0 * 128 + 1 * d.val = d.val; omega

/-- So the block of the call's array. -/
theorem blk3 (t : Fin cfg0.N) (j : Fin 4096) (d : Fin 128) : iblk m c 3 t (ix2 j d) = a3 m c (ix2 j d) := read3 (a3 m c) t j d

/-- A row of it. -/
theorem rows3 (t : Fin cfg0.N) (j : Fin 4096) : row2 (iblk m c 3 t) j = fun d => a3 m c (ix2 j d) := funext fun d => blk3 m c t j d

/-- Window 5's block of a result array, at an index. -/
theorem read5 (X : Tokens) (t : Fin cfg0.N) (r : Fin 512) (d : Fin 128) :
    ((cfg0.win 5).blk t).view.read (Elt Ideal) X (ix2 r d) = X (ix2 (row t r) (lane (hd t) d)) := by
  rw [View.read_apply]
  have e := index5 t
  refine congrArg X (funext fun a => Fin.ext ?_)
  match a with
  | ⟨0, _⟩ => show win0_5.index t 0 * 512 + 1 * _ = _; rw [e]; show t.val % 8 * 512 + 1 * r.val = 512 * (t.val % 8) + r.val; omega
  | ⟨1, _⟩ => show win0_5.index t 1 * 128 + 1 * _ = _; rw [e]; show t.val / 8 * 128 + 1 * d.val = 128 * (t.val / 8) + d.val; omega

/-- Window 6's block of a result array, at an index. -/
theorem read6 (X : Tokens) (t : Fin cfg0.N) (r : Fin 512) (d : Fin 128) :
    ((cfg0.win 6).blk t).view.read (Elt Ideal) X (ix2 r d) = X (ix2 (row t r) (lane (hd t) d)) := by
  rw [View.read_apply]
  have e := index6 t
  refine congrArg X (funext fun a => Fin.ext ?_)
  match a with
  | ⟨0, _⟩ => show win0_6.index t 0 * 512 + 1 * _ = _; rw [e]; show t.val % 8 * 512 + 1 * r.val = 512 * (t.val % 8) + r.val; omega
  | ⟨1, _⟩ => show win0_6.index t 1 * 128 + 1 * _ = _; rw [e]; show t.val / 8 * 128 + 1 * d.val = 128 * (t.val / 8) + d.val; omega

/-- Head by head, in a row of all the heads' lanes. -/
def sideBySide (X : Heads) : Tokens := fun x =>
  X (ix3 ⟨(x 1).val / 128, by have h : (x 1).val < 1024 := (x 1).isLt; show (x 1).val / 128 < 8; omega⟩ (x 0) ⟨(x 1).val % 128, Nat.mod_lt _ (by decide)⟩)

theorem sideBySide_at (X : Heads) (h : Fin 8) (n : Fin 4096) (d : Fin 128) : sideBySide X (ix2 n (lane h d)) = X (ix3 h n d) :=
  congrArg X (funext fun a => Fin.ext (by
    match a with
    | ⟨0, _⟩ => show (128 * h.val + d.val) / 128 = h.val; omega
    | ⟨1, _⟩ => rfl
    | ⟨2, _⟩ => show (128 * h.val + d.val) % 128 = d.val; omega))

theorem tokens_cases (x : (⟨2, ![4096, 1024]⟩ : Shape).Idx) : ∃ n h d, x = ix2 n (lane h d) := by
  have h1 : (x 1 : ℕ) < 1024 := (x 1).isLt
  refine ⟨x 0, ⟨(x 1).val / 128, by omega⟩, ⟨(x 1).val % 128, Nat.mod_lt _ (by decide)⟩, funext fun a => Fin.ext ?_⟩
  match a with
  | ⟨0, _⟩ => rfl
  | ⟨1, _⟩ => show (x 1).val = 128 * ((x 1).val / 128) + (x 1).val % 128; omega

/-- The attention's result: each token's softmax of its scores times the values. -/
def attended : Tokens := sideBySide fun x => ∑ j, P (a0 m c) (a1 m c) (a2 m c) (a3 m c) (x 0) (x 1) j * a4 m c (ix3 (x 0) j (x 2))

/-- The scores' log-sums, repeated over a head's lanes. -/
def logSums : Tokens := sideBySide fun x => M (a0 m c) (a1 m c) (a2 m c) (a3 m c) (x 0) (x 1) + Ideal.log (L (a0 m c) (a1 m c) (a2 m c) (a3 m c) (x 0) (x 1))

theorem attended_at (h : Fin 8) (n : Fin 4096) (d : Fin 128) : attended m c (ix2 n (lane h d)) = ∑ j, P (a0 m c) (a1 m c) (a2 m c) (a3 m c) h n j * a4 m c (ix3 h j d) :=
  sideBySide_at _ h n d

theorem logSums_at (h : Fin 8) (n : Fin 4096) (d : Fin 128) : logSums m c (ix2 n (lane h d)) = M (a0 m c) (a1 m c) (a2 m c) (a3 m c) h n + Ideal.log (L (a0 m c) (a1 m c) (a2 m c) (a3 m c) h n) :=
  sideBySide_at _ h n d

variable {m c}

/-- What a grid point leaves, where the queries and keys are real numbers. -/
theorem outs (h0 : ∀ i, IsReal (a0 m c i)) (h1 : ∀ i, IsReal (a1 m c i)) (h2 : ∀ i, IsReal (a2 m c i)) (h3 : ∀ i, IsReal (a3 m c i)) (t : Fin cfg0.N) (r : Fin 512) (d : Fin 128) :
    out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix2 r d) = attended m c (ix2 (row t r) (lane (hd t) d))
    ∧ out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) (ix2 r d) = logSums m c (ix2 (row t r) (lane (hd t) d)) := by
  obtain ⟨s, μ, hs, hM, hE, hL⟩ := row_real h0 h1 h2 h3 (hd t) (row t r)
  have e1 := coords1 t
  have hm : t.val % 8 < 8 := Nat.mod_lt _ (by decide)
  have hg : Given (iblk m c 0 t) (iblk m c 1 t) (iblk m c 2 t) (iblk m c 3 t) (iblk m c 4 t) (fun p => if h : p < 4096 then s ⟨p, h⟩ else 0)
      (fun p d => if h : p < 4096 then a4 m c (ix3 (hd t) ⟨p, h⟩ d) else 0) r := by
    refine ⟨fun j => ?_, fun j d => ?_⟩
    · rw [dif_pos j.isLt, ← hs j, rows0, rows1, rows2, rows3]
      rfl
    · rw [dif_pos j.isLt, rows4]
  obtain ⟨st, hst, h5, h6⟩ := point c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (iblk m c 4 t) _ _ r hg
  obtain ⟨hl, ha⟩ := finish _ _ _ (S := s) (w := fun j d => a4 m c (ix3 (hd t) j d)) (i := row t r) (fun j => dif_pos j.isLt) (fun j d => dif_pos j.isLt)
    (by rw [e1]; rfl) (by have := r.isLt; omega) (by omega) hst μ
  constructor
  · rw [h5, attended_at]
    refine (ha d).trans (Finset.sum_congr rfl fun j _ => ?_)
    show _ = Ideal.div (E (a0 m c) (a1 m c) (a2 m c) (a3 m c) (hd t) (row t r) j) (L (a0 m c) (a1 m c) (a2 m c) (a3 m c) (hd t) (row t r)) * a4 m c (ix3 (hd t) j d)
    rw [hE, hL]
  · rw [h6, logSums_at, hM, hL]
    exact hl

/-- What a grid point writes back to window 5's array is its block of the result. -/
theorem flush5 (h0 : ∀ i, IsReal (a0 m c i)) (h1 : ∀ i, IsReal (a1 m c i)) (h2 : ∀ i, IsReal (a2 m c i)) (h3 : ∀ i, IsReal (a3 m c i)) (t : Fin cfg0.N) (hf : (cfg0.win 5).flush t = true) :
    (dats m 0 c).flushed 5 t = ((cfg0.win 5).blk t).view.read (Elt Ideal) (attended m c : Tokens) := by
  rw [flushed5_A]
  funext x
  obtain ⟨r, d, rfl⟩ : ∃ (r : Fin 512) (d : Fin 128), x = ix2 r d := ⟨x 0, x 1, funext fun k => by fin_cases k <;> rfl⟩
  refine Eq.trans ?_ (read5 (attended m c) t r d).symm
  exact (outs h0 h1 h2 h3 t r d).1

/-- What window 5's array holds in the end. -/
theorem final5 (h0 : ∀ i, IsReal (a0 m c i)) (h1 : ∀ i, IsReal (a1 m c i)) (h2 : ∀ i, IsReal (a2 m c i)) (h3 : ∀ i, IsReal (a3 m c i)) :
    (dats m 0 c).arrAt 5 cfg0.N = (attended m c : Tokens) :=
  (dats m 0 c).arrAt_eq_of_cover 5 (attended m c : Tokens) (flush5 h0 h1 h2 h3) fun (x : S4096x1024.Idx) => by
    have hN : cfg0.N = 64 := N_0
    have h0 : (x 0 : ℕ) < 4096 := (x 0).isLt
    have h1 : (x 1 : ℕ) < 1024 := (x 1).isLt
    obtain ⟨t, ht⟩ : ∃ t : Fin cfg0.N, t.val = 8 * ((x 1 : ℕ) / 128) + (x 0 : ℕ) / 512 := ⟨⟨_, by omega⟩, rfl⟩
    refine ⟨t, flush0_5 t, ?_⟩
    show x ∈ ((View.whole main_v0_0).slice (win0_5.rect t)).set
    rw [View.set_slice_whole, Rect.mem_set_unit]
    have e := index5 t
    intro a
    match a with
    | ⟨0, _⟩ => show win0_5.index t 0 * 512 ≤ (x 0 : ℕ) ∧ (x 0 : ℕ) < win0_5.index t 0 * 512 + 512; rw [e]; show t.val % 8 * 512 ≤ (x 0 : ℕ) ∧ (x 0 : ℕ) < t.val % 8 * 512 + 512; omega
    | ⟨1, _⟩ => show win0_5.index t 1 * 128 ≤ (x 1 : ℕ) ∧ (x 1 : ℕ) < win0_5.index t 1 * 128 + 128; rw [e]; show t.val / 8 * 128 ≤ (x 1 : ℕ) ∧ (x 1 : ℕ) < t.val / 8 * 128 + 128; omega

/-- What a grid point writes back to window 6's array is its block of the result. -/
theorem flush6 (h0 : ∀ i, IsReal (a0 m c i)) (h1 : ∀ i, IsReal (a1 m c i)) (h2 : ∀ i, IsReal (a2 m c i)) (h3 : ∀ i, IsReal (a3 m c i)) (t : Fin cfg0.N) (hf : (cfg0.win 6).flush t = true) :
    (dats m 0 c).flushed 6 t = ((cfg0.win 6).blk t).view.read (Elt Ideal) (logSums m c : Tokens) := by
  rw [flushed6_A]
  funext x
  obtain ⟨r, d, rfl⟩ : ∃ (r : Fin 512) (d : Fin 128), x = ix2 r d := ⟨x 0, x 1, funext fun k => by fin_cases k <;> rfl⟩
  refine Eq.trans ?_ (read6 (logSums m c) t r d).symm
  exact (outs h0 h1 h2 h3 t r d).2

/-- What window 6's array holds in the end. -/
theorem final6 (h0 : ∀ i, IsReal (a0 m c i)) (h1 : ∀ i, IsReal (a1 m c i)) (h2 : ∀ i, IsReal (a2 m c i)) (h3 : ∀ i, IsReal (a3 m c i)) :
    (dats m 0 c).arrAt 6 cfg0.N = (logSums m c : Tokens) :=
  (dats m 0 c).arrAt_eq_of_cover 6 (logSums m c : Tokens) (flush6 h0 h1 h2 h3) fun (x : S4096x1024.Idx) => by
    have hN : cfg0.N = 64 := N_0
    have h0 : (x 0 : ℕ) < 4096 := (x 0).isLt
    have h1 : (x 1 : ℕ) < 1024 := (x 1).isLt
    obtain ⟨t, ht⟩ : ∃ t : Fin cfg0.N, t.val = 8 * ((x 1 : ℕ) / 128) + (x 0 : ℕ) / 512 := ⟨⟨_, by omega⟩, rfl⟩
    refine ⟨t, flush0_6 t, ?_⟩
    show x ∈ ((View.whole main_v0_1).slice (win0_6.rect t)).set
    rw [View.set_slice_whole, Rect.mem_set_unit]
    have e := index6 t
    intro a
    match a with
    | ⟨0, _⟩ => show win0_6.index t 0 * 512 ≤ (x 0 : ℕ) ∧ (x 0 : ℕ) < win0_6.index t 0 * 512 + 512; rw [e]; show t.val % 8 * 512 ≤ (x 0 : ℕ) ∧ (x 0 : ℕ) < t.val % 8 * 512 + 512; omega
    | ⟨1, _⟩ => show win0_6.index t 1 * 128 ≤ (x 1 : ℕ) ∧ (x 1 : ℕ) < win0_6.index t 1 * 128 + 128; rw [e]; show t.val / 8 * 128 ≤ (x 1 : ℕ) ∧ (x 1 : ℕ) < t.val / 8 * 128 + 128; omega

end Cert.LatentFwdIdeal.Own

end
-- ==== Proof.LatentFwdRef.lean ====
/- The reference's two results of the latent attention, element by element. -/
module

public import proofs.«01_k».proof.Proof.Gen.LatentFwdRefIdeal.Read
public import proofs.«01_k».proof.Proof.LatentRef

@[expose] public section

set_option maxRecDepth 16384

noncomputable section

namespace Cert.LatentFwdRefIdeal.Own

open Cert.LatentFwdRefIdeal Cert.LatentFwdRefIdeal.Gen Cert.LatentFwdRefIdeal.Read Cert.Latent
open Cert.ReferenceIdeal.Latent (ofBits_negInf sle_at select_sees Z M E L P)
open Idealize.ShloMosaic Idealize.ShloMosaic.TcCoe Idealize.ShloMosaic.Tactic

variable (x0 x1 x2 : Heads) (x3 : Shared) (x4 : Heads)

/-- The queries, both parts. -/
theorem q_at (h : Fin 8) (n : Fin 4096) (e : Fin 256) : val_main_v3 (F := Ideal) x0 x1 (ix3 h n e) = both3 x0 x1 h n e := by
  pointwise [val_main_v3, val_main_v0, both3, cat]

/-- The keys, both parts. -/
theorem k_at (h : Fin 8) (n : Fin 4096) (e : Fin 256) : val_main_v4 (F := Ideal) x2 x3 (ix3 h n e) = both2 x2 x3 h n e := by
  pointwise [val_main_v4, val_main_v2, val_main_v1, both2, cat]

/-- The values. -/
theorem v_at (h : Fin 8) (n : Fin 4096) (d : Fin 128) : val_main_v5 (F := Ideal) x4 (ix3 h n d) = x4 (ix3 h n d) := by
  pointwise [val_main_v5]

/-- Which keys a query sees. -/
theorem sees (h : Fin 8) (n j : Fin 4096) : val_main_call0_v1 (F := Ideal) (ix3 h n j) = if j ≤ n then 1#1 else 0#1 := by
  pointwise [val_main_call0_v1, val_main_v12, val_main_v11, val_main_v10, val_main_v9, val_main_v8, val_main_v7]
  exact sle_at j n

theorem z_at (h : Fin 8) (n j : Fin 4096) : val_main_v13 (F := Ideal) x0 x1 x2 x3 (ix3 h n j) = Z x0 x1 x2 x3 h n j := by
  pointwise [val_main_v13, val_main_v6, q_at, k_at, sees, val_main_call0_v2, val_main_call0_v0, val_main_cst]
  rw [select_sees]
  exact if_congr Iff.rfl rfl ofBits_negInf

theorem m14_at (h : Fin 8) (n : Fin 4096) : val_main_v14 (F := Ideal) x0 x1 x2 x3 (ix2 h n) = M x0 x1 x2 x3 h n := by
  pointwise [val_main_v14, val_main_cst_0, z_at]
  rw [ofBits_negInf]; rfl

theorem m16_at (h : Fin 8) (n : Fin 4096) : val_main_v16 (F := Ideal) x0 x1 x2 x3 (ix2 h n) = M x0 x1 x2 x3 h n := by
  pointwise [val_main_v16, val_main_cst_1, z_at]
  rw [ofBits_negInf]; rfl

theorem m18_at (h : Fin 8) (n : Fin 4096) : val_main_v18 (F := Ideal) x0 x1 x2 x3 (ix2 h n) = M x0 x1 x2 x3 h n := by
  have a : val_main_v17 (F := Ideal) (ix2 h n) = ⊥ := by
    pointwise [val_main_v17, val_main_cst_2]
    exact ofBits_negInf
  rw [val_main_v18_apply, a, m16_at]
  generalize M x0 x1 x2 x3 h n = y
  exact max_eq_right bot_le

theorem e_at (h : Fin 8) (n j : Fin 4096) : val_main_v22 (F := Ideal) x0 x1 x2 x3 (ix3 h n j) = E x0 x1 x2 x3 h n j := by
  unfold E
  pointwise [val_main_v22, val_main_v21, val_main_v20, val_main_v19, m18_at, z_at]

theorem l_at (h : Fin 8) (n : Fin 4096) : val_main_v23 (F := Ideal) x0 x1 x2 x3 (ix2 h n) = L x0 x1 x2 x3 h n := by
  unfold L
  pointwise [val_main_v23, val_main_cst_3, e_at]

theorem p_at (h : Fin 8) (n j : Fin 4096) : val_main_v26 (F := Ideal) x0 x1 x2 x3 (ix3 h n j) = P x0 x1 x2 x3 h n j := by
  unfold P
  pointwise [val_main_v26, val_main_v25, val_main_v24, l_at, e_at]

theorem e29_at (h : Fin 8) (n j : Fin 4096) : val_main_v29 (F := Ideal) x0 x1 x2 x3 (ix3 h n j) = E x0 x1 x2 x3 h n j := by
  unfold E
  pointwise [val_main_v29, val_main_v28, val_main_v27, val_main_v15, m14_at, z_at]

/-- The log-sum of a row. -/
theorem lse_at (h : Fin 8) (n : Fin 4096) : val_main_v33 (F := Ideal) x0 x1 x2 x3 (ix3 h n 0) = M x0 x1 x2 x3 h n + Ideal.log (L x0 x1 x2 x3 h n) := by
  have a : val_main_v15 (F := Ideal) x0 x1 x2 x3 (ix3 h n 0) = M x0 x1 x2 x3 h n := by pointwise [val_main_v15, m14_at]
  have b : val_main_v31 (F := Ideal) x0 x1 x2 x3 (ix3 h n 0) = L x0 x1 x2 x3 h n := by
    unfold L
    pointwise [val_main_v31, val_main_v30, val_main_cst_4, e29_at]
  rw [val_main_v33_apply, val_main_v32_apply, a, b]
  generalize M x0 x1 x2 x3 h n = y
  generalize L x0 x1 x2 x3 h n = l
  rfl

/-- Head `h`'s part of a row of all the heads' lanes, read from the array with the heads first. -/
theorem tokens_at (x : Heads) (h : Fin 8) (n : Fin 4096) (d : Fin 128) :
    shapeCast S4096x1024 (transpose S4096x8x128 [1, 0, 2] x transposes_S8x4096x128_S4096x8x128_1_0_2) shapeCasts_S4096x8x128_S4096x1024
      (ix2 n (lane h d)) = x (ix3 h n d) := by
  rw [shapeCast_apply _ _ _ (ix3 n h d) (by
    rw [Shape.rowMajor_val_three, Shape.rowMajor_val_two]
    show (n.val * 8 + h.val) * 128 + d.val = n.val * 1024 + (128 * h.val + d.val)
    omega)]
  pointwise

/-- The attention's result. -/
theorem o_at (h : Fin 8) (n : Fin 4096) (d : Fin 128) : val_main_v36 (F := Ideal) x0 x1 x2 x3 x4 (ix2 n (lane h d))
    = ∑ j, P x0 x1 x2 x3 h n j * x4 (ix3 h j d) := by
  refine (tokens_at _ h n d).trans ?_
  pointwise [val_main_v34, p_at, v_at]

/-- The log-sums. -/
theorem sums_at (h : Fin 8) (n : Fin 4096) (d : Fin 128) : val_main_v39 (F := Ideal) x0 x1 x2 x3 (ix2 n (lane h d))
    = M x0 x1 x2 x3 h n + Ideal.log (L x0 x1 x2 x3 h n) := by
  refine (tokens_at _ h n d).trans ?_
  pointwise [val_main_v37, lse_at]

end Cert.LatentFwdRefIdeal.Own

end
-- ==== Proof.LatentFwd.lean ====
/- The latent attention's kernel and the reference end with the same result and log-sums, where the queries and keys are real
   numbers. -/
module

public import proofs.«01_k».proof.Defs
public import proofs.«01_k».proof.Proof.LatentFwdArray
public import proofs.«01_k».proof.Proof.LatentFwdRef

@[expose] public section

noncomputable section

namespace Cert.LatentFwdIdeal.Own

open Cert.LatentFwdIdeal Cert.Latent
open Idealize.ShloMosaic Idealize.ShloMosaic.TcCoe Idealize.SL.Sem

/-- The shape relations the precondition states. -/
instance realsFacts : Cert.Pre_reals.Facts where
  bitsLt_bf16_f32 := by decide
  bcast_S_S8x4096x128 := by decide
  bcast_S_S4096x128 := by decide

variable {m : (ℓ : Loc nD τ sig) → Buf (Elt Ideal) ℓ}

theorem real0 (h : Cert.Pre_LatentFwdIdeal_reals m) (c : Dev nD) : ∀ i, IsReal (a0 m c i) := fun i => isReal_of_lt _ (congrFun (h c).1 i)
theorem real1 (h : Cert.Pre_LatentFwdIdeal_reals m) (c : Dev nD) : ∀ i, IsReal (a1 m c i) := fun i => isReal_of_lt _ (congrFun (h c).2.1 i)
theorem real2 (h : Cert.Pre_LatentFwdIdeal_reals m) (c : Dev nD) : ∀ i, IsReal (a2 m c i) := fun i => isReal_of_lt _ (congrFun (h c).2.2.1 i)
theorem real3 (h : Cert.Pre_LatentFwdIdeal_reals m) (c : Dev nD) : ∀ i, IsReal (a3 m c i) := fun i => isReal_of_lt _ (congrFun (h c).2.2.2 i)

/-- The reference's run leaves its arguments as they were and every counter at zero. -/
theorem reference_frame : Cert.quiescent_LatentFwdRefIdeal := fun m g _ =>
  (θ_run _ _ _).mono (fun r h => ⟨fun c => (h c).2.2, sem_eq_zero_of_no_sems (by decide) r.2⟩) (Cert.LatentFwdRefIdeal.Value.run (F := Ideal) m g)

variable (m' : (ℓ : Loc Cert.LatentFwdRefIdeal.nD Cert.LatentFwdRefIdeal.τ Cert.LatentFwdRefIdeal.sig) → Buf (Elt Ideal) ℓ)

/-- The reference's attention is what the kernel's first array ends with. -/
theorem out_o (h : Cert.Pre_LatentFwdIdeal_reals m) (c : Dev nD)
    (e0 : m' ((c.tc : Thread Cert.LatentFwdRefIdeal.nD Cert.LatentFwdRefIdeal.τ).loc Cert.LatentFwdRefIdeal.main_arg0) = a0 m c)
    (e1 : m' ((c.tc : Thread Cert.LatentFwdRefIdeal.nD Cert.LatentFwdRefIdeal.τ).loc Cert.LatentFwdRefIdeal.main_arg1) = a1 m c)
    (e2 : m' ((c.tc : Thread Cert.LatentFwdRefIdeal.nD Cert.LatentFwdRefIdeal.τ).loc Cert.LatentFwdRefIdeal.main_arg2) = a2 m c)
    (e3 : m' ((c.tc : Thread Cert.LatentFwdRefIdeal.nD Cert.LatentFwdRefIdeal.τ).loc Cert.LatentFwdRefIdeal.main_arg3) = a3 m c)
    (e4 : m' ((c.tc : Thread Cert.LatentFwdRefIdeal.nD Cert.LatentFwdRefIdeal.τ).loc Cert.LatentFwdRefIdeal.main_arg4) = a4 m c) :
    Cert.LatentFwdRefIdeal.Value.res_main_v36 m' c = (Gen.dats m 0 c).arrAt 5 cfg0.N := by
  rw [Cert.LatentFwdRefIdeal.Read.val_main_v36_eq, e0, e1, e2, e3, e4]
  refine Eq.trans (funext fun x => ?_) (final5 (real0 h c) (real1 h c) (real2 h c) (real3 h c)).symm
  obtain ⟨n, k, d, rfl⟩ := tokens_cases x
  exact (Cert.LatentFwdRefIdeal.Own.o_at _ _ _ _ _ k n d).trans (attended_at m c k n d).symm

/-- The reference's log-sums are what the kernel's second array ends with. -/
theorem out_sums (h : Cert.Pre_LatentFwdIdeal_reals m) (c : Dev nD)
    (e0 : m' ((c.tc : Thread Cert.LatentFwdRefIdeal.nD Cert.LatentFwdRefIdeal.τ).loc Cert.LatentFwdRefIdeal.main_arg0) = a0 m c)
    (e1 : m' ((c.tc : Thread Cert.LatentFwdRefIdeal.nD Cert.LatentFwdRefIdeal.τ).loc Cert.LatentFwdRefIdeal.main_arg1) = a1 m c)
    (e2 : m' ((c.tc : Thread Cert.LatentFwdRefIdeal.nD Cert.LatentFwdRefIdeal.τ).loc Cert.LatentFwdRefIdeal.main_arg2) = a2 m c)
    (e3 : m' ((c.tc : Thread Cert.LatentFwdRefIdeal.nD Cert.LatentFwdRefIdeal.τ).loc Cert.LatentFwdRefIdeal.main_arg3) = a3 m c) :
    Cert.LatentFwdRefIdeal.Read.val_main_v39 (F := Ideal) (m' ((c.tc : Thread Cert.LatentFwdRefIdeal.nD Cert.LatentFwdRefIdeal.τ).loc Cert.LatentFwdRefIdeal.main_arg0)) (m' ((c.tc : Thread Cert.LatentFwdRefIdeal.nD Cert.LatentFwdRefIdeal.τ).loc Cert.LatentFwdRefIdeal.main_arg1)) (m' ((c.tc : Thread Cert.LatentFwdRefIdeal.nD Cert.LatentFwdRefIdeal.τ).loc Cert.LatentFwdRefIdeal.main_arg2)) (m' ((c.tc : Thread Cert.LatentFwdRefIdeal.nD Cert.LatentFwdRefIdeal.τ).loc Cert.LatentFwdRefIdeal.main_arg3))
      = (Gen.dats m 0 c).arrAt 6 cfg0.N := by
  rw [e0, e1, e2, e3]
  refine Eq.trans (funext fun x => ?_) (final6 (real0 h c) (real1 h c) (real2 h c) (real3 h c)).symm
  obtain ⟨n, k, d, rfl⟩ := tokens_cases x
  exact (Cert.LatentFwdRefIdeal.Own.sums_at _ _ _ _ k n d).trans (logSums_at m c k n d).symm

set_option maxHeartbeats 1000000 in
/-- The value claim: from equal arguments whose queries and keys are real numbers the two programs end with equal results. -/
theorem same_results : Cert.algebraic_LatentFwdIdeal_LatentFwdRefIdeal_pre_reals := by
  intro m g m' g' hpre hag
  refine ⟨_, _, Cert.LatentFwdIdeal.Value.run_blocks m g, (θ_run _ _ _).mono (fun r h c => ?_) (Cert.LatentFwdRefIdeal.Value.run (F := Ideal) m' g')⟩
  obtain ⟨r0, r1, k0, k1, k2, k3, k4⟩ := h c
  obtain ⟨e0, e1, e2, e3, e4⟩ := hag c
  exact ⟨r0.trans (out_o m' hpre c e0 e1 e2 e3 e4),
    r1.trans ((Cert.LatentFwdRefIdeal.Read.val_main_v39_eq _ _ _ _).trans (out_sums m' hpre c e0 e1 e2 e3)), k0, k1, k2, k3, k4⟩

end Cert.LatentFwdIdeal.Own

end
-- ==== Proof.AdamSmall.lean ====
/- The small weights' update: that the kernel's deltas and new moments are the reference's, index by index. -/
module

public import proofs.«01_k».proof.Proof.Gen.AdamSmallIdeal.Value
public import proofs.«01_k».proof.Proof.Gen.AdamSmallRefIdeal.Read
public import Idealize.ShloMosaic.Lib.StableHlo.RunRead
public import Idealize.ShloMosaic.Lib.Pointwise
public import proofs.«01_k».proof.Defs

@[expose] public section

set_option maxRecDepth 16384

noncomputable section

namespace Cert.AdamSmallIdeal.Own

open Cert.AdamSmallIdeal Cert.AdamSmallIdeal.Gen Cert.AdamSmallIdeal.Value
open Idealize.ShloMosaic Idealize.ShloMosaic.TcCoe Idealize.ShloMosaic.Tactic Idealize.SL.Sem Idealize.ShloMosaic.StableHlo

section Ref

open Cert.AdamSmallRefIdeal.Read

/-- The packed small weights. -/
abbrev Packed := Vec Ideal S104x128 .f32

/-- The reference's new first moment. -/
theorem ref_first (x1 x2 : Packed) : val_main_v4 (F := Ideal) x1 x2 = G5 (F := Ideal) x1 x2 := by
  funext i
  rw [val_main_v4_apply, val_main_v1_apply, val_main_v3_apply, val_main_v0_apply, val_main_v2_apply]
  rfl

/-- The reference's new second moment. -/
theorem ref_second (x1 x3 : Packed) : val_main_v10 (F := Ideal) x1 x3 = G6 (F := Ideal) x1 x3 := by
  funext i
  rw [val_main_v10_apply, val_main_v6_apply, val_main_v9_apply, val_main_v5_apply, val_main_v8_apply, val_main_v7_apply]
  rfl

/-- The reference's delta. -/
theorem ref_delta (x0 x1 x2 x3 : Packed) : val_main_v23 (F := Ideal) x0 x1 x2 x3 = G4 (F := Ideal) x0 x1 x2 x3 := by
  funext i
  rw [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, ref_first, ref_second]
  rfl

end Ref

/-- The reference's run leaves its arguments as they were and every counter at zero. -/
theorem reference_frame : Cert.quiescent_AdamSmallRefIdeal := fun m g _ =>
  (θ_run _ _ _).mono (fun r h => ⟨fun c => (h c).2.2.2, sem_eq_zero_of_no_sems (by decide) r.2⟩) (Cert.AdamSmallRefIdeal.Value.run (F := Ideal) m g)

/-- From equal arguments the two programs end with equal results. -/
theorem same_results : Cert.algebraic_AdamSmallIdeal_AdamSmallRefIdeal := by
  intro m g m' g' _ hag
  refine ⟨_, _, _, Cert.AdamSmallIdeal.Value.run m g, (θ_run _ _ _).mono (fun r h c => ?_) (Cert.AdamSmallRefIdeal.Value.run (F := Ideal) m' g')⟩
  obtain ⟨r0, r1, r2, k⟩ := h c
  obtain ⟨e0, e1, e2, e3⟩ := hag c
  refine ⟨r0.trans ?_, r1.trans ?_, r2.trans ?_, k⟩
  · rw [Cert.AdamSmallRefIdeal.Read.val_main_v23_eq, e0, e1, e2, e3]
    exact ref_delta _ _ _ _
  · rw [Cert.AdamSmallRefIdeal.Read.val_main_v4_eq, e1, e2]
    exact ref_first _ _
  · rw [Cert.AdamSmallRefIdeal.Read.val_main_v10_eq, e1, e3]
    exact ref_second _ _

end Cert.AdamSmallIdeal.Own

end
-- ==== Proof.SumParts.lean ====
/- The sum of the devices' parts: that the kernel's sum, taken block by block, is the reference's sum over the devices. -/
module

public import proofs.«01_k».proof.Proof.Gen.SumPartsIdeal.Value
public import proofs.«01_k».proof.Proof.Gen.SumPartsRefIdeal.Read
public import Idealize.ShloMosaic.Lib.StableHlo.RunRead
public import Idealize.ShloMosaic.Lib.Pointwise
public import proofs.«01_k».proof.Defs

@[expose] public section

set_option maxRecDepth 16384

noncomputable section

namespace Cert.SumPartsIdeal.Own

open Cert.SumPartsIdeal Cert.SumPartsIdeal.Gen Cert.SumPartsIdeal.Value
open Idealize.ShloMosaic Idealize.ShloMosaic.TcCoe Idealize.ShloMosaic.Tactic Idealize.SL.Sem Idealize.ShloMosaic.StableHlo

/-- All devices' parts, one below the other. -/
abbrev Stack := Vec Ideal S2176x128 .f32

/-- The kernel's sum of the parts, at an index. -/
theorem sum_at (a : Stack) (i : S272x128.Idx) : G1 (F := Ideal) a i = (∑ k : Fin 8, a (Cert.SumPartsRefIdeal.Read.idx_main_v0 (Cert.SumPartsRefIdeal.Read.idx_main_v1 i k)) : EReal) := by
  have h0 : (i 0 : ℕ) < 272 := (i 0).isLt
  have h1 : (i 1 : ℕ) < 128 := (i 1).isLt
  rw [Fin.sum_univ_eight]
  pointwise [k0_pay1]
  have key : ∀ (k : ℕ) (hk : k < 8) (p : S2176x128.Idx), (p 0 : ℕ) = 272 * k + i 0 → (p 1 : ℕ) = i 1 →
      p = Cert.SumPartsRefIdeal.Read.idx_main_v0 (Cert.SumPartsRefIdeal.Read.idx_main_v1 i ⟨k, hk⟩) := by
    intro k hk p p0 p1
    funext b; apply Fin.ext
    match b with
    | ⟨0, _⟩ => exact p0.trans (by show 272 * k + (i 0 : ℕ) = ((k * 272 + (i 0 : ℕ)) * 128 + (i 1 : ℕ)) / 128; omega)
    | ⟨1, _⟩ => exact p1.trans (by show (i 1 : ℕ) = ((k * 272 + (i 0 : ℕ)) * 128 + (i 1 : ℕ)) % 128; omega)
  exact congrArg₂ (· + ·) (congrArg₂ (· + ·) (congrArg₂ (· + ·) (congrArg₂ (· + ·) (congrArg₂ (· + ·) (congrArg₂ (· + ·) (congrArg₂ (· + ·) (congrArg a (key 0 (by decide) _ (by show (i 0 : ℕ) = 272 * 0 + (i 0 : ℕ); omega) rfl))
    (congrArg a (key 1 (by decide) _ (by show 272 + (i 0 : ℕ) = 272 * 1 + (i 0 : ℕ); omega) rfl)))
    (congrArg a (key 2 (by decide) _ (by show 544 + (i 0 : ℕ) = 272 * 2 + (i 0 : ℕ); omega) rfl)))
    (congrArg a (key 3 (by decide) _ (by show 816 + (i 0 : ℕ) = 272 * 3 + (i 0 : ℕ); omega) rfl)))
    (congrArg a (key 4 (by decide) _ (by show 1088 + (i 0 : ℕ) = 272 * 4 + (i 0 : ℕ); omega) rfl)))
    (congrArg a (key 5 (by decide) _ (by show 1360 + (i 0 : ℕ) = 272 * 5 + (i 0 : ℕ); omega) rfl)))
    (congrArg a (key 6 (by decide) _ (by show 1632 + (i 0 : ℕ) = 272 * 6 + (i 0 : ℕ); omega) rfl)))
    (congrArg a (key 7 (by decide) _ (by show 1904 + (i 0 : ℕ) = 272 * 7 + (i 0 : ℕ); omega) rfl))

/-- The reference's sum. -/
theorem ref_eq (x0 : Stack) : Cert.SumPartsRefIdeal.Read.val_main_v1 (F := Ideal) x0 = G1 (F := Ideal) x0 := by
  funext i
  rw [Cert.SumPartsRefIdeal.Read.val_main_v1_apply, sum_at]
  have z : Cert.SumPartsRefIdeal.Read.val_main_cst (F := Ideal) (Shape.Idx.first Cert.SumPartsRefIdeal.Gen.h_S_) = (0 : EReal) := Ideal.ofBits_zero_f32
  rw [z, zero_add]
  exact Finset.sum_congr rfl fun k _ => Cert.SumPartsRefIdeal.Read.val_main_v0_apply _ _

/-- The reference's run leaves its arguments as they were and every counter at zero. -/
theorem reference_frame : Cert.quiescent_SumPartsRefIdeal := fun m g _ =>
  (θ_run _ _ _).mono (fun r h => ⟨fun c => (h c).2, sem_eq_zero_of_no_sems (by decide) r.2⟩) (Cert.SumPartsRefIdeal.Value.run (F := Ideal) m g)

/-- From equal arguments the two programs end with equal results. -/
theorem same_result : Cert.algebraic_SumPartsIdeal_SumPartsRefIdeal := by
  intro m g m' g' _ hag
  refine ⟨_, Cert.SumPartsIdeal.Value.run m g, (θ_run _ _ _).mono (fun r h c => ?_) (Cert.SumPartsRefIdeal.Value.run (F := Ideal) m' g')⟩
  obtain ⟨r0, k⟩ := h c
  have e0 := hag c
  refine ⟨r0.trans ?_, k⟩
  rw [Cert.SumPartsRefIdeal.Read.val_main_v1_eq, e0]
  exact ref_eq _

end Cert.SumPartsIdeal.Own

end
-- ==== Proof.NormFwd.lean ====
/- The norm: what the kernel's result array holds, block of tokens by block of tokens, and that it is the reference's. -/
module

public import proofs.«01_k».proof.Proof.Gen.NormFwdIdeal.Value
public import proofs.«01_k».proof.Proof.Gen.NormFwdRefIdeal.Read
public import Idealize.ShloMosaic.Lib.StableHlo.RunRead
public import Idealize.ShloMosaic.Lib.Pointwise
public import proofs.«01_k».proof.Defs

@[expose] public section

set_option maxRecDepth 16384

noncomputable section

namespace Cert.NormFwdIdeal.Own

open Cert.NormFwdIdeal Cert.NormFwdIdeal.Gen Cert.NormFwdIdeal.Value
open Idealize.ShloMosaic Idealize.ShloMosaic.TcCoe Idealize.ShloMosaic.Tactic Idealize.SL.Sem Idealize.ShloMosaic.StableHlo

/-- Tokens of the network's width. -/
abbrev Tokens := Vec Ideal S4096x1024 .f32
/-- The tokens' norms. -/
abbrev Norms := Vec Ideal S4096x1024 .bf16
/-- The norm's weight. -/
abbrev Scale := Vec Ideal S1024 .f32

/-- The norm of a row, from the sum of its squares: one value of the row over the root mean square, scaled. -/
def normed (x s w : EReal) : EReal :=
  x * Ideal.rsqrt (Ideal.div s (Ideal.ofBits .f32 0x44800000#32) + Ideal.ofBits .f32 0x358637BD#32) * w

/-- The norm of every token. -/
def norm (x : Tokens) (w : Scale) : Norms := fun i => normed (x i) (∑ k : Fin 1024, (x (ix2 (i 0) k) * x (ix2 (i 0) k) : EReal)) (w (ix1 (i 1)))

/-- The block of the result that a grid point computes. -/
theorem block_at (x0 : Vec Ideal S512x1024 .f32) (x1 : Vec Ideal S1x1024 .f32) (r : Fin 512) (d : Fin 1024) :
    out0_2 (F := Ideal) x0 x1 (ix2 r d) = normed (x0 (ix2 r d)) (∑ k : Fin 1024, (x0 (ix2 r k) * x0 (ix2 r k) : EReal)) (x1 (ix2 0 d)) := by
  unfold out0_2
  rw [View.canon_unit_zero (by decide)]
  pointwise [k0_pay1]
  rfl

section Run

variable (m : (ℓ : Loc nD τ sig) → Buf (Elt Ideal) ℓ) (c : Dev nD)

/-- Row `r` of a grid point's block of tokens, among all the tokens. -/
def tok (t : Fin cfg0.N) (r : Fin 512) : Fin 4096 := ⟨512 * t.val + r.val, by have := t.isLt; have : cfg0.N = 8 := N_0; omega⟩

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![t.val, 0] := (by decide +kernel : ∀ t : Fin grid0.N, win0_2.index t = ![t.val, 0])

/-- The tokens, as the call finds them. -/
def a0 : Tokens := V m c main_arg0
/-- The weight, as the call finds it. -/
def a1 : Vec Ideal S1x1024 .f32 := V m c main_v0
/-- The tokens as the program's argument. -/
def b0 : Tokens := m ((c.tc : Thread nD τ).loc main_arg0)
/-- The weight as the program's argument. -/
def b1 : Scale := m ((c.tc : Thread nD τ).loc main_arg1)

theorem a0_eq : a0 m c = b0 m c := V_main_arg0 m c

theorem a1_at (d : Fin 1024) : a1 m c (ix2 0 d) = b1 m c (ix1 d) := by
  have e : a1 m c = shapeCast S1x1024 (b1 m c) shapeCasts_S1024_S1x1024 := by
    unfold a1 b1
    unfold_abbrev_sides
    simp only [hostOps0, List.flatten_cons, List.flatten_nil, List.append_nil, List.cons_append, List.nil_append,
      TRef.nullary, TRef.ternary, TRef.unary, TRef.toBuf, TRef.ofBuf, cast_eq]
    after_results_simp
    rfl
  rw [e]
  pointwise []

/-- Window 0's block of an array, at an index. -/
theorem read0 (X : Tokens) (t : Fin cfg0.N) (r : Fin 512) (d : Fin 1024) :
    ((cfg0.win 0).blk t).view.read (Elt Ideal) X (ix2 r d) = X (ix2 (tok t r) d) := by
  rw [View.read_apply]
  have e := index0 t
  refine congrArg X (funext fun a => Fin.ext ?_)
  match a with
  | ⟨0, _⟩ => show win0_0.index t 0 * 512 + 1 * _ = _; rw [e]; show t.val * 512 + 1 * r.val = 512 * t.val + r.val; omega
  | ⟨1, _⟩ => show win0_0.index t 1 * 1024 + 1 * _ = _; rw [e]; show 0 * 1024 + 1 * d.val = d.val; omega

/-- Window 1's block is the whole array. -/
theorem read1 (X : Vec Ideal S1x1024 .f32) (t : Fin cfg0.N) (d : Fin 1024) :
    ((cfg0.win 1).blk t).view.read (Elt Ideal) X (ix2 (0 : Fin 1) d) = X (ix2 0 d) := by
  rw [View.read_apply]
  have e := index1 t
  refine congrArg X (funext fun a => Fin.ext ?_)
  match a with
  | ⟨0, _⟩ => show win0_1.index t 0 * 1 + 1 * _ = _; rw [e]; show 0 * 1 + 1 * 0 = 0; omega
  | ⟨1, _⟩ => show win0_1.index t 1 * 1024 + 1 * _ = _; rw [e]; show 0 * 1024 + 1 * d.val = d.val; omega

/-- Window 2's block of an array, at an index. -/
theorem read2 (X : Norms) (t : Fin cfg0.N) (r : Fin 512) (d : Fin 1024) :
    ((cfg0.win 2).blk t).view.read (Elt Ideal) X (ix2 r d) = X (ix2 (tok t r) d) := by
  rw [View.read_apply]
  have e := index2 t
  refine congrArg X (funext fun a => Fin.ext ?_)
  match a with
  | ⟨0, _⟩ => show win0_2.index t 0 * 512 + 1 * _ = _; rw [e]; show t.val * 512 + 1 * r.val = 512 * t.val + r.val; omega
  | ⟨1, _⟩ => show win0_2.index t 1 * 1024 + 1 * _ = _; rw [e]; show 0 * 1024 + 1 * d.val = d.val; omega

theorem blk0 (t : Fin cfg0.N) (r : Fin 512) (d : Fin 1024) : iblk m c 0 t (ix2 r d) = b0 m c (ix2 (tok t r) d) :=
  (read0 (a0 m c) t r d).trans (congrFun (a0_eq m c) _)
theorem blk1 (t : Fin cfg0.N) (d : Fin 1024) : iblk m c 1 t (ix2 (0 : Fin 1) d) = b1 m c (ix1 d) := (read1 (a1 m c) t d).trans (a1_at m c d)

/-- What a grid point writes back is its block of the result. -/
theorem flush2 (t : Fin cfg0.N) (hf : (cfg0.win 2).flush t = true) :
    (dats m 0 c).flushed 2 t = ((cfg0.win 2).blk t).view.read (Elt Ideal) (norm (b0 m c) (b1 m c)) := by
  rw [flushed2]
  funext x
  obtain ⟨r, d, rfl⟩ : ∃ (r : Fin 512) (d : Fin 1024), x = ix2 r d := ⟨x 0, x 1, funext fun k => by fin_cases k <;> rfl⟩
  refine Eq.trans ?_ (read2 (norm (b0 m c) (b1 m c)) t r d).symm
  refine (block_at (iblk m c 0 t) (iblk m c 1 t) r d).trans ?_
  have s : (∑ k : Fin 1024, (@id (Vec Ideal S512x1024 .f32) (iblk m c 0 t) (ix2 r k) * @id (Vec Ideal S512x1024 .f32) (iblk m c 0 t) (ix2 r k) : EReal))
      = ∑ k : Fin 1024, (b0 m c (ix2 (tok t r) k) * b0 m c (ix2 (tok t r) k) : EReal) :=
    Finset.sum_congr rfl fun k _ => congrArg₂ (· * ·) (blk0 m c t r k) (blk0 m c t r k)
  exact (congrArg₂ (fun p q => normed p q _) (blk0 m c t r d) s).trans (congrArg (normed _ _) (blk1 m c t d))

/-- What the result array holds in the end. -/
theorem final2 : (dats m 0 c).arrAt 2 cfg0.N = norm (b0 m c) (b1 m c) :=
  (dats m 0 c).arrAt_eq_of_cover 2 (norm (b0 m c) (b1 m c)) (flush2 m c) fun (x : S4096x1024.Idx) => by
    have hN : cfg0.N = 8 := N_0
    have h0 : (x 0 : ℕ) < 4096 := (x 0).isLt
    have h1 : (x 1 : ℕ) < 1024 := (x 1).isLt
    obtain ⟨t, ht⟩ : ∃ t : Fin cfg0.N, t.val = (x 0 : ℕ) / 512 := ⟨⟨_, by omega⟩, rfl⟩
    refine ⟨t, flush0_2 t, ?_⟩
    show x ∈ ((View.whole main_v1).slice (win0_2.rect t)).set
    rw [View.set_slice_whole, Rect.mem_set_unit]
    have e := index2 t
    intro a
    match a with
    | ⟨0, _⟩ => show win0_2.index t 0 * 512 ≤ (x 0 : ℕ) ∧ (x 0 : ℕ) < win0_2.index t 0 * 512 + 512; rw [e]; show t.val * 512 ≤ (x 0 : ℕ) ∧ (x 0 : ℕ) < t.val * 512 + 512; omega
    | ⟨1, _⟩ => show win0_2.index t 1 * 1024 ≤ (x 1 : ℕ) ∧ (x 1 : ℕ) < win0_2.index t 1 * 1024 + 1024; rw [e]; show 0 * 1024 ≤ (x 1 : ℕ) ∧ (x 1 : ℕ) < 0 * 1024 + 1024; omega

end Run

section Ref

open Cert.NormFwdRefIdeal.Read

/-- The reference's result. -/
theorem ref_eq (x0 : Tokens) (x1 : Scale) : val_main_v13 (F := Ideal) x0 x1 = norm x0 x1 := by
  funext x
  obtain ⟨n, d, rfl⟩ : ∃ (n : Fin 4096) (d : Fin 1024), x = ix2 n d := ⟨_, _, eq_ix2 x⟩
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

end Ref

/-- The reference's run leaves its arguments as they were and every counter at zero. -/
theorem reference_frame : Cert.quiescent_NormFwdRefIdeal := fun m g _ =>
  (θ_run _ _ _).mono (fun r h => ⟨fun c => (h c).2, sem_eq_zero_of_no_sems (by decide) r.2⟩) (Cert.NormFwdRefIdeal.Value.run (F := Ideal) m g)

/-- From equal arguments the two programs end with equal results. -/
theorem same_result : Cert.algebraic_NormFwdIdeal_NormFwdRefIdeal := by
  intro m g m' g' _ hag
  refine ⟨_, Cert.NormFwdIdeal.Value.run_blocks m g, (θ_run _ _ _).mono (fun r h c => ?_) (Cert.NormFwdRefIdeal.Value.run (F := Ideal) m' g')⟩
  obtain ⟨r0, k⟩ := h c
  obtain ⟨e0, e1⟩ := hag c
  refine ⟨r0.trans ?_, k⟩
  rw [Cert.NormFwdRefIdeal.Read.val_main_v13_eq, e0, e1]
  exact (ref_eq _ _).trans (final2 m c).symm

end Cert.NormFwdIdeal.Own

end
-- ==== Proof.UpdGateUp.lean ====
/- A big weight's update, at the shape of the shard of `w_gate_up`: the sum of the eight devices' parts of its gradient, of which
   the device's own part is picked by its number, then the AdamW step. The kernel's grid cuts the 1024 rows in four blocks. -/
module

public import proofs.«01_k».proof.Proof.Gen.UpdGateUpIdeal.Frame
public import proofs.«01_k».proof.Proof.Gen.UpdGateUp.Frame
public import proofs.«01_k».proof.Proof.Gen.UpdGateUpRefIdeal.Read
public import Idealize.ShloMosaic.Lib.StableHlo.RunRead
public import Idealize.ShloMosaic.Lib.Pointwise
public import proofs.«01_k».proof.Defs

@[expose] public section

set_option maxRecDepth 16384

noncomputable section

namespace Cert.UpdGateUpIdeal.Own

open Cert.UpdGateUpIdeal Cert.UpdGateUpIdeal.Gen
open Idealize.ShloMosaic Idealize.ShloMosaic.TcCoe Idealize.ShloMosaic.Tactic Idealize.SL.Sem Idealize.ShloMosaic.StableHlo

instance deviceFacts : Cert.Pre_device.Facts where
  bcast_S_S1 := by decide

/-- From the precondition: the device's number is below eight. -/
theorem below {F : FTy → Type} [FloatOps F] {a b : FVec F Cert.Pre_device.S8x1024x704 .bf16} {d : IVec Cert.Pre_device.S1 32} {w x y : FVec F Cert.Pre_device.S1024x704 .f32}
    (h : Cert.Pre_device.fn (F := F) a b d w x y = fun _ => 1#1) : (d (ix1 (0 : Fin 1))).toNat < 8 := by
  have andi_one (a b : BitVec 1) : IntOp.andi a b = 1#1 ↔ a = 1#1 ∧ b = 1#1 := by revert a b; decide
  have ofBool_eq_one (p : Bool) : (BitVec.ofBool p = 1#1) ↔ p = true := by cases p <;> decide
  have k := congrFun h (ix1 (0 : Fin 1))
  simp only [Cert.Pre_device.fn, constantI, broadcastInDim, cmpi, andi, andi_one] at k
  generalize d (ix1 (0 : Fin 1)) = e at k ⊢
  simp only [ofBool_eq_one, IntOp.cmpi, BitVec.sle, BitVec.slt, decide_eq_true_eq, BitVec.toInt, BitVec.toNat_ofNat] at k
  simp at k
  omega

/-- Eight devices' parts of a gradient. -/
abbrev Parts := Vec Ideal S8x1024x704 .bf16
/-- A weight, its moments, its gradient or its delta. -/
abbrev Weight := Vec Ideal S1024x704 .f32

/-- Device `j`'s part, on device `d`: what the device has itself, or what it was sent. -/
def part (d j : BitVec 32) (own got : EReal) : EReal := if d = j then own else got

/-- The gradient's sum over the eight devices. -/
def total (s r : Parts) (d : BitVec 32) (a : Fin 1024) (b : Fin 704) : EReal :=
  ∑ k : Fin 8, part d (BitVec.ofNat 32 k.val) (s (ix3 k a b)) (r (ix3 k a b))

/-- The new first moment, from the gradient and the old one. -/
def first (g x : EReal) : EReal := Ideal.ofBits .f32 0x3F666666#32 * x + Ideal.ofBits .f32 0x3DCCCCCD#32 * g

/-- The new second moment, from the gradient and the old one. -/
def second (g y : EReal) : EReal := Ideal.ofBits .f32 0x3F7FBE77#32 * y + Ideal.ofBits .f32 0x3A83126F#32 * (g * g)

/-- The weight's change. -/
def change (g w x y : EReal) : EReal :=
  Ideal.ofBits .f32 0xBA83126F#32
    * (Ideal.div (Ideal.div (first g x) (Ideal.ofBits .f32 0x3F26BD02#32))
        (Ideal.sqrt (Ideal.div (second g y) (Ideal.ofBits .f32 0x3C231ACC#32)) + Ideal.ofBits .f32 0x322BCC77#32)
      + Ideal.ofBits .f32 0x3C23D70A#32 * w)

theorem pick_scalar (d j : BitVec 32) (a b : Ideal .bf16) : Scalar.select (Scalar.cmpi .eq d j) a b = part d j a b := by
  unfold Scalar.select Scalar.cmpi IntOp.cmpi part
  have one : ∀ b : Bool, BitVec.ofBool b = 1#1 ↔ b = true := by decide
  exact if_congr ((one (d == j)).trans beq_iff_eq) rfl rfl

theorem sums1 (d : Elt Ideal .i32) (v2 v4 v9 v11 v17 v19 : Vec Ideal S1x256x704 .bf16) (r : Fin 256) (q : Fin 704) :
    k0_pay1 (F := Ideal) d v2 v4 v9 v11 v17 v19 (ix2 r q)
      = part d 0#32 (v2 (ix3 0 r q)) (v4 (ix3 0 r q)) + part d 1#32 (v9 (ix3 0 r q)) (v11 (ix3 0 r q)) + part d 2#32 (v17 (ix3 0 r q)) (v19 (ix3 0 r q)) := by
  simp only [← pick_scalar]
  pointwise [k0_pay1]

theorem sums2 (d : Elt Ideal .i32) (v25 v27 : Vec Ideal S1x256x704 .bf16) (r : Fin 256) (q : Fin 704) :
    k0_pay2 (F := Ideal) d v25 v27 (ix2 r q) = part d 3#32 (v25 (ix3 0 r q)) (v27 (ix3 0 r q)) := by
  simp only [← pick_scalar]
  pointwise [k0_pay2]

theorem sums3 (d : Elt Ideal .i32) (v23 : FVec Ideal S256x704 .f32) (v29 : FVec Ideal S256x704 .bf16) (v33 v35 v41 v43 v49 v51 : Vec Ideal S1x256x704 .bf16) (r : Fin 256) (q : Fin 704) :
    k0_pay3 (F := Ideal) d v23 v29 v33 v35 v41 v43 v49 v51 (ix2 r q)
      = ((v23 (ix2 r q) + v29 (ix2 r q) + part d 4#32 (v33 (ix3 0 r q)) (v35 (ix3 0 r q)) + part d 5#32 (v41 (ix3 0 r q)) (v43 (ix3 0 r q))
        + part d 6#32 (v49 (ix3 0 r q)) (v51 (ix3 0 r q)) : EReal)) := by
  simp only [← pick_scalar]
  pointwise [k0_pay3]

theorem sums4 (d : Elt Ideal .i32) (v57 v59 : Vec Ideal S1x256x704 .bf16) (r : Fin 256) (q : Fin 704) :
    k0_pay4 (F := Ideal) d v57 v59 (ix2 r q) = part d 7#32 (v57 (ix3 0 r q)) (v59 (ix3 0 r q)) := by
  simp only [← pick_scalar]
  pointwise [k0_pay4]

theorem pay5_at (a : Vec Ideal S256x704 .f32) (b : Vec Ideal S256x704 .bf16) (r : Fin 256) (q : Fin 704) :
    k0_pay5 (F := Ideal) a b (ix2 r q) = (a (ix2 r q) + b (ix2 r q) : EReal) := by
  pointwise [k0_pay5]

theorem pay6_at (a : Vec Ideal S256x704 .f32) (b : Vec Ideal S256x704 .bf16) (x : Vec Ideal S256x704 .f32) (r : Fin 256) (q : Fin 704) :
    k0_pay6 (F := Ideal) a b x (ix2 r q) = first (k0_pay5 (F := Ideal) a b (ix2 r q)) (x (ix2 r q)) := by
  generalize hg : k0_pay5 (F := Ideal) a b = g
  unfold k0_pay6 first
  rw [hg]
  pointwise []

theorem pay7_at (a : Vec Ideal S256x704 .f32) (b : Vec Ideal S256x704 .bf16) (x : Vec Ideal S256x704 .f32) (r : Fin 256) (q : Fin 704) :
    k0_pay7 (F := Ideal) a b x (ix2 r q) = second (k0_pay5 (F := Ideal) a b (ix2 r q)) (x (ix2 r q)) := by
  generalize hg : k0_pay5 (F := Ideal) a b = g
  unfold k0_pay7 second
  rw [hg]
  pointwise []

theorem pay8_at (a : Vec Ideal S256x704 .f32) (b : Vec Ideal S256x704 .bf16) (w x y : Vec Ideal S256x704 .f32) (r : Fin 256) (q : Fin 704) :
    k0_pay8 (F := Ideal) a b w x y (ix2 r q) = change (k0_pay5 (F := Ideal) a b (ix2 r q)) (w (ix2 r q)) (x (ix2 r q)) (y (ix2 r q)) := by
  unfold change
  rw [← pay6_at, ← pay7_at]
  generalize hg : k0_pay6 (F := Ideal) a b x = g
  generalize hh : k0_pay7 (F := Ideal) a b y = h
  unfold k0_pay8
  rw [hg, hh]
  pointwise []

section Block

variable (c : Dev nD) (i : grid0.Coords) (a0 : Memref sig .tc .vmem S1x256x704 .bf16) (h0 : a0.IsWhole) (a1 : Memref sig .tc .vmem S8x256x704 .bf16) (h1 : a1.IsWhole) (a2 : Memref sig .tc .vmem S256x704 .f32) (h2 : a2.IsWhole) (a3 : Memref sig .tc .vmem S256x704 .f32) (h3 : a3.IsWhole) (a4 : Memref sig .tc .vmem S256x704 .f32) (h4 : a4.IsWhole) (a5 : Memref sig .tc .vmem S256x704 .f32) (h5 : a5.IsWhole) (a6 : Memref sig .tc .vmem S256x704 .f32) (h6 : a6.IsWhole) (a7 : Memref sig .tc .vmem S256x704 .f32) (h7 : a7.IsWhole) (a8 : Memref sig .tc .vmem S256x704 .f32) (h8 : a8.IsWhole)
  (x0 : Vec Ideal S1x256x704 .bf16) (x1 : Vec Ideal S8x256x704 .bf16) (x2 x3 x4 : Vec Ideal S256x704 .f32) (xt : TbBuf0 (F := Ideal) c tbM0_0) (r : Fin 256) (q : Fin 704)

/-- The sum over the devices, at an index of a block. -/
theorem sum_at : k0_pay5 (F := Ideal) (kernelRun0_A.sl.r_3 c a0 h0 a1 h1 x0 x1 xt) (kernelRun0_A.sl.r_4 c a0 h0 a1 h1 x0 x1 xt) (ix2 r q)
    = ∑ k : Fin 8, part (kernelRun0_A.sl.r c xt) (BitVec.ofNat 32 k.val) (x0 (ix3 0 r q)) (x1 (ix3 k r q)) := by
  unfold kernelRun0_A.sl.r_3 kernelRun0_A.sl.r_4
  rw [pay5_at, sums3, sums4]
  unfold kernelRun0_A.sl.r_1 kernelRun0_A.sl.r_2
  rw [sums1, sums2]
  simp only [View.readAt_eq_ld, Memref.IsWhole.read_unread]
  generalize kernelRun0_A.sl.r c xt = d
  rw [Fin.sum_univ_eight]
  pointwise []

/-- The device's number, as the body reads it. -/
theorem word_eq : kernelRun0_A.sl.r c xt = xt (ix1 (0 : Fin 1)) := by
  unfold kernelRun0_A.sl.r
  have one : ∀ z : Fin 1, z.val = 0 := fun z => by omega
  refine congrArg xt (funext fun a => Fin.ext ?_)
  match a with
  | ⟨0, _⟩ => exact (one _).trans (one _).symm

theorem block5 : out0_A_5 (F := Ideal) c i a0 h0 a1 h1 a2 h2 a3 h3 a4 h4 a5 h5 a6 h6 a7 h7 a8 h8 x0 x1 x2 x3 x4 xt (ix2 r q)
    = ∑ k : Fin 8, part (kernelRun0_A.sl.r c xt) (BitVec.ofNat 32 k.val) (x0 (ix3 0 r q)) (x1 (ix3 k r q)) := by
  unfold out0_A_5 kernelRun0_A
  dsimp only
  rw [View.read_writes_junk_eq_canon, View.canon_unit_zero (by decide)]
  exact sum_at c a0 h0 a1 h1 x0 x1 xt r q

theorem block7 : out0_A_7 (F := Ideal) c i a0 h0 a1 h1 a2 h2 a3 h3 a4 h4 a5 h5 a6 h6 a7 h7 a8 h8 x0 x1 x2 x3 x4 xt (ix2 r q)
    = first (∑ k : Fin 8, part (kernelRun0_A.sl.r c xt) (BitVec.ofNat 32 k.val) (x0 (ix3 0 r q)) (x1 (ix3 k r q))) (x3 (ix2 r q)) := by
  unfold out0_A_7 kernelRun0_A
  dsimp only
  rw [View.read_writes_junk_eq_canon, View.canon_unit_zero (by decide), pay6_at, sum_at]
  simp only [View.readAt_eq_ld, Memref.IsWhole.read_unread]
  pointwise []

theorem block8 : out0_A_8 (F := Ideal) c i a0 h0 a1 h1 a2 h2 a3 h3 a4 h4 a5 h5 a6 h6 a7 h7 a8 h8 x0 x1 x2 x3 x4 xt (ix2 r q)
    = second (∑ k : Fin 8, part (kernelRun0_A.sl.r c xt) (BitVec.ofNat 32 k.val) (x0 (ix3 0 r q)) (x1 (ix3 k r q))) (x4 (ix2 r q)) := by
  unfold out0_A_8 kernelRun0_A
  dsimp only
  rw [View.read_writes_junk_eq_canon, View.canon_unit_zero (by decide), pay7_at, sum_at]
  simp only [View.readAt_eq_ld, Memref.IsWhole.read_unread]
  pointwise []

theorem block6 : out0_A_6 (F := Ideal) c i a0 h0 a1 h1 a2 h2 a3 h3 a4 h4 a5 h5 a6 h6 a7 h7 a8 h8 x0 x1 x2 x3 x4 xt (ix2 r q)
    = change (∑ k : Fin 8, part (kernelRun0_A.sl.r c xt) (BitVec.ofNat 32 k.val) (x0 (ix3 0 r q)) (x1 (ix3 k r q))) (x2 (ix2 r q)) (x3 (ix2 r q)) (x4 (ix2 r q)) := by
  unfold out0_A_6 kernelRun0_A
  dsimp only
  rw [View.read_writes_junk_eq_canon, View.canon_unit_zero (by decide), pay8_at, sum_at]
  simp only [View.readAt_eq_ld, Memref.IsWhole.read_unread]
  pointwise []

end Block

section Run

variable (m : (ℓ : Loc nD τ sig) → Buf (Elt Ideal) ℓ) (c : Dev nD) (hO : Ok m)

/-- Row `r` of a grid point's block, among all the weight's rows. -/
def row (t : Fin grid0.N) (r : Fin 256) : Fin 1024 := ⟨256 * t.val + r.val, by have := t.isLt; have : grid0.N = 4 := N_0; omega⟩

theorem point (t : Fin grid0.N) : (grid0.coords t 0).val = t.val := (by decide +kernel : ∀ t : Fin grid0.N, (grid0.coords t 0).val = t.val) t

theorem index1 (t : Fin grid0.N) : cc0_transform_1 (grid0.coords t) = ![0, t.val, 0] := (by decide +kernel : ∀ t : Fin grid0.N, cc0_transform_1 (grid0.coords t) = ![0, t.val, 0]) t
theorem index2 (t : Fin grid0.N) : cc0_transform_2 (grid0.coords t) = ![t.val, 0] := (by decide +kernel : ∀ t : Fin grid0.N, cc0_transform_2 (grid0.coords t) = ![t.val, 0]) t
theorem index3 (t : Fin grid0.N) : cc0_transform_3 (grid0.coords t) = ![t.val, 0] := (by decide +kernel : ∀ t : Fin grid0.N, cc0_transform_3 (grid0.coords t) = ![t.val, 0]) t
theorem index4 (t : Fin grid0.N) : cc0_transform_4 (grid0.coords t) = ![t.val, 0] := (by decide +kernel : ∀ t : Fin grid0.N, cc0_transform_4 (grid0.coords t) = ![t.val, 0]) t
theorem index5 (t : Fin grid0.N) : cc0_transform_5 (grid0.coords t) = ![t.val, 0] := (by decide +kernel : ∀ t : Fin grid0.N, cc0_transform_5 (grid0.coords t) = ![t.val, 0]) t
theorem index6 (t : Fin grid0.N) : cc0_transform_6 (grid0.coords t) = ![t.val, 0] := (by decide +kernel : ∀ t : Fin grid0.N, cc0_transform_6 (grid0.coords t) = ![t.val, 0]) t
theorem index7 (t : Fin grid0.N) : cc0_transform_7 (grid0.coords t) = ![t.val, 0] := (by decide +kernel : ∀ t : Fin grid0.N, cc0_transform_7 (grid0.coords t) = ![t.val, 0]) t
theorem index8 (t : Fin grid0.N) : cc0_transform_8 (grid0.coords t) = ![t.val, 0] := (by decide +kernel : ∀ t : Fin grid0.N, cc0_transform_8 (grid0.coords t) = ![t.val, 0]) t

/-- The device's number. -/
def device : BitVec 32 := m ((c.tc : Thread nD τ).loc main_arg2) (ix1 (0 : Fin 1))
/-- The device's own parts. -/
def b0 : Parts := m ((c.tc : Thread nD τ).loc main_arg0)
/-- The parts it was sent. -/
def b1 : Parts := m ((c.tc : Thread nD τ).loc main_arg1)
/-- The weight. -/
def b3 : Weight := m ((c.tc : Thread nD τ).loc main_arg3)
/-- Its first moment. -/
def b4 : Weight := m ((c.tc : Thread nD τ).loc main_arg4)
/-- Its second moment. -/
def b5 : Weight := m ((c.tc : Thread nD τ).loc main_arg5)

/-- The block of the device's own parts that a grid point reads. -/
def own (t : Fin grid0.N) : Vec Ideal S1x256x704 .bf16 := iblk m hO c 0 t
/-- The block of the parts it was sent. -/
def got (t : Fin grid0.N) : Vec Ideal S8x256x704 .bf16 := iblk m hO c 1 t
/-- The block of the weight. -/
def wBlock (t : Fin grid0.N) : Vec Ideal S256x704 .f32 := iblk m hO c 2 t
/-- The block of its first moment. -/
def xBlock (t : Fin grid0.N) : Vec Ideal S256x704 .f32 := iblk m hO c 3 t
/-- The block of its second moment. -/
def yBlock (t : Fin grid0.N) : Vec Ideal S256x704 .f32 := iblk m hO c 4 t
/-- The array of the device's number, as the body finds it. -/
def table : TbBuf0 (F := Ideal) c tbM0_0 := tbl m 0

theorem only : c = 0 := by revert c; decide

theorem table_at : table m c (ix1 (0 : Fin 1)) = device m c := by
  obtain rfl := only c
  rfl

theorem index0 (t : Fin grid0.N) : cc0_transform_0 inb_S1_S1_0 numel1_S1 (tbl m) (grid0.coords t) = ![(device m c).toNat, t.val, 0] := by
  obtain rfl := only c
  unfold cc0_transform_0
  have e := point t
  have h : t.val < 4 := lt_of_lt_of_eq t.isLt N_0
  have one : ∀ z : Fin 1, z.val = 0 := fun z => by omega
  funext a
  match a with
  | ⟨0, _⟩ =>
    show (m (((0 : Dev nD) : Thread nD τ).loc main_arg2) _).toNat = (m (((0 : Dev nD) : Thread nD τ).loc main_arg2) (ix1 (0 : Fin 1))).toNat
    refine congrArg (fun z => (m (((0 : Dev nD) : Thread nD τ).loc main_arg2) z).toNat) (funext fun b => Fin.ext ?_)
    match b with
    | ⟨0, _⟩ => exact (one _).trans (one _).symm
  | ⟨1, _⟩ => show (BitVec.ofNat 32 (grid0.coords t 0).val).toNat = t.val; rw [e, BitVec.toNat_ofNat]; omega
  | ⟨2, _⟩ => rfl

/-- The device's own part, where it reads it. -/
theorem own_at (t : Fin grid0.N) (r : Fin 256) (q : Fin 704) (k : Fin 8) (hk : (device m c).toNat = k.val) :
    own m c hO t (ix3 (0 : Fin 1) r q) = b0 m c (ix3 k (row t r) q) := by
  have e := index0 m c t
  unfold own iblk b0
  refine congrArg (b0 m c) (funext fun a => Fin.ext ?_)
  match a with
  | ⟨0, _⟩ => show cc0_transform_0 inb_S1_S1_0 numel1_S1 (tbl m) (grid0.coords t) 0 * 1 + 1 * 0 = k.val; rw [e]; show (device m c).toNat * 1 + 1 * 0 = k.val; omega
  | ⟨1, _⟩ => show cc0_transform_0 inb_S1_S1_0 numel1_S1 (tbl m) (grid0.coords t) 1 * 256 + 1 * r.val = 256 * t.val + r.val; rw [e]; show t.val * 256 + 1 * r.val = 256 * t.val + r.val; omega
  | ⟨2, _⟩ => show cc0_transform_0 inb_S1_S1_0 numel1_S1 (tbl m) (grid0.coords t) 2 * 704 + 1 * q.val = q.val; rw [e]; show 0 * 704 + 1 * q.val = q.val; omega

/-- A part it was sent, where it reads it. -/
theorem got_at (t : Fin grid0.N) (k : Fin 8) (r : Fin 256) (q : Fin 704) : got m c hO t (ix3 k r q) = b1 m c (ix3 k (row t r) q) := by
  have e := index1 t
  unfold got iblk b1
  refine congrArg (b1 m c) (funext fun a => Fin.ext ?_)
  match a with
  | ⟨0, _⟩ => show cc0_transform_1 (grid0.coords t) 0 * 8 + 1 * k.val = k.val; rw [e]; show 0 * 8 + 1 * k.val = k.val; omega
  | ⟨1, _⟩ => show cc0_transform_1 (grid0.coords t) 1 * 256 + 1 * r.val = 256 * t.val + r.val; rw [e]; show t.val * 256 + 1 * r.val = 256 * t.val + r.val; omega
  | ⟨2, _⟩ => show cc0_transform_1 (grid0.coords t) 2 * 704 + 1 * q.val = q.val; rw [e]; show 0 * 704 + 1 * q.val = q.val; omega

theorem wBlock_at (t : Fin grid0.N) (r : Fin 256) (q : Fin 704) : wBlock m c hO t (ix2 r q) = b3 m c (ix2 (row t r) q) := by
  have e := index2 t
  unfold wBlock iblk b3
  refine congrArg (b3 m c) (funext fun a => Fin.ext ?_)
  match a with
  | ⟨0, _⟩ => show cc0_transform_2 (grid0.coords t) 0 * 256 + 1 * r.val = 256 * t.val + r.val; rw [e]; show t.val * 256 + 1 * r.val = 256 * t.val + r.val; omega
  | ⟨1, _⟩ => show cc0_transform_2 (grid0.coords t) 1 * 704 + 1 * q.val = q.val; rw [e]; show 0 * 704 + 1 * q.val = q.val; omega

theorem xBlock_at (t : Fin grid0.N) (r : Fin 256) (q : Fin 704) : xBlock m c hO t (ix2 r q) = b4 m c (ix2 (row t r) q) := by
  have e := index3 t
  unfold xBlock iblk b4
  refine congrArg (b4 m c) (funext fun a => Fin.ext ?_)
  match a with
  | ⟨0, _⟩ => show cc0_transform_3 (grid0.coords t) 0 * 256 + 1 * r.val = 256 * t.val + r.val; rw [e]; show t.val * 256 + 1 * r.val = 256 * t.val + r.val; omega
  | ⟨1, _⟩ => show cc0_transform_3 (grid0.coords t) 1 * 704 + 1 * q.val = q.val; rw [e]; show 0 * 704 + 1 * q.val = q.val; omega

theorem yBlock_at (t : Fin grid0.N) (r : Fin 256) (q : Fin 704) : yBlock m c hO t (ix2 r q) = b5 m c (ix2 (row t r) q) := by
  have e := index4 t
  unfold yBlock iblk b5
  refine congrArg (b5 m c) (funext fun a => Fin.ext ?_)
  match a with
  | ⟨0, _⟩ => show cc0_transform_4 (grid0.coords t) 0 * 256 + 1 * r.val = 256 * t.val + r.val; rw [e]; show t.val * 256 + 1 * r.val = 256 * t.val + r.val; omega
  | ⟨1, _⟩ => show cc0_transform_4 (grid0.coords t) 1 * 704 + 1 * q.val = q.val; rw [e]; show 0 * 704 + 1 * q.val = q.val; omega

/-- The gradient. -/
def gradient : Weight := fun x => total (b0 m c) (b1 m c) (device m c) (x 0) (x 1)
/-- The weight's delta. -/
def delta : Weight := fun x => change (gradient m c x) (b3 m c x) (b4 m c x) (b5 m c x)
/-- The new first moment. -/
def moment1 : Weight := fun x => first (gradient m c x) (b4 m c x)
/-- The new second moment. -/
def moment2 : Weight := fun x => second (gradient m c x) (b5 m c x)

/-- A block's sum over the devices is the gradient's. -/
theorem parts (t : Fin grid0.N) (r : Fin 256) (q : Fin 704) :
    (∑ k : Fin 8, part (kernelRun0_A.sl.r (F := Ideal) c (table m c)) (BitVec.ofNat 32 k.val) (own m c hO t (ix3 0 r q)) (got m c hO t (ix3 k r q)))
      = gradient m c (ix2 (row t r) q) := by
  rw [word_eq, table_at m c]
  show _ = ∑ k : Fin 8, part (device m c) (BitVec.ofNat 32 k.val) (b0 m c (ix3 k (row t r) q)) (b1 m c (ix3 k (row t r) q))
  refine Finset.sum_congr rfl fun k _ => ?_
  have hk := k.isLt
  unfold part
  refine ite_congr rfl (fun h => ?_) fun h => ?_
  · refine own_at m c hO t r q k ?_
    rw [h, BitVec.toNat_ofNat]
    omega
  · exact got_at m c hO t k r q

/-- What a grid point leaves in the result's block. -/
theorem left5 (t : Fin grid0.N) (r : Fin 256) (q : Fin 704) : (outsAt0 m hO c t).1 (ix2 r q) = gradient m c (ix2 (row t r) q) := by
  have h : (outsAt0 m hO c t).1 = out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
      (own m c hO t) (got m c hO t) (wBlock m c hO t) (xBlock m c hO t) (yBlock m c hO t) (table m c) := by
    dsimp only [outsAt0, own, got, wBlock, xBlock, yBlock, table]
  rw [h, block5]
  exact parts m c hO t r q

/-- The result's block of a grid point, at an index. -/
theorem read5 (X : Weight) (t : Fin grid0.N) (r : Fin 256) (q : Fin 704) :
    (((cfgM m hO).win 5).blk t).view.read (Elt Ideal) X (ix2 r q) = X (ix2 (row t r) q) := by
  have e := index5 t
  refine congrArg X (funext fun a => Fin.ext ?_)
  match a with
  | ⟨0, _⟩ => show cc0_transform_5 (grid0.coords t) 0 * 256 + 1 * r.val = 256 * t.val + r.val; rw [e]; show t.val * 256 + 1 * r.val = 256 * t.val + r.val; omega
  | ⟨1, _⟩ => show cc0_transform_5 (grid0.coords t) 1 * 704 + 1 * q.val = q.val; rw [e]; show 0 * 704 + 1 * q.val = q.val; omega

/-- What a grid point writes back is its block of the result. -/
theorem flush5 (t : Fin (cfgM m hO).N) (hf : ((cfgM m hO).win 5).flush t = true) :
    (dats m hO 0 c).flushed 5 t = (((cfgM m hO).win 5).blk t).view.read (Elt Ideal) (gradient m c) := by
  show ((cfgM m hO).win 5).cut ((cfgM m hO).grid.coords t) ((dats m hO 0 c).after 5 t) = _
  rw [after0_5]
  refine funext fun (x : S256x704.Idx) => ?_
  obtain ⟨r, q, rfl⟩ : ∃ (r : Fin 256) (q : Fin 704), x = ix2 r q := ⟨x 0, x 1, funext fun k => by fin_cases k <;> rfl⟩
  exact (left5 m c hO t r q).trans (read5 m hO (gradient m c) t r q).symm

/-- What the result array holds in the end. -/
theorem final5 : (dats m hO 0 c).arrAt 5 (cfgM m hO).N = gradient m c :=
  (dats m hO 0 c).arrAt_eq_of_cover 5 (gradient m c) (flush5 m c hO) fun (x : S1024x704.Idx) => by
    have hN : grid0.N = 4 := N_0
    have h0 : (x 0 : ℕ) < 1024 := (x 0).isLt
    have h1 : (x 1 : ℕ) < 704 := (x 1).isLt
    obtain ⟨t, ht⟩ : ∃ t : Fin grid0.N, t.val = (x 0 : ℕ) / 256 := ⟨⟨_, by omega⟩, rfl⟩
    refine ⟨t, flush0_5 (adm m hO) t, ?_⟩
    show x ∈ ((View.whole main_v0_0).slice (Rect.block (s := S1024x704) S256x704.size (cc0_transform_5 (grid0.coords t)) (hinb0_5 (grid0.coords t)))).set
    rw [View.set_slice_whole, Rect.mem_set_unit]
    have e := index5 t
    intro a
    match a with
    | ⟨0, _⟩ => show cc0_transform_5 (grid0.coords t) 0 * 256 ≤ (x 0 : ℕ) ∧ (x 0 : ℕ) < cc0_transform_5 (grid0.coords t) 0 * 256 + 256; rw [e]; show t.val * 256 ≤ (x 0 : ℕ) ∧ (x 0 : ℕ) < t.val * 256 + 256; omega
    | ⟨1, _⟩ => show cc0_transform_5 (grid0.coords t) 1 * 704 ≤ (x 1 : ℕ) ∧ (x 1 : ℕ) < cc0_transform_5 (grid0.coords t) 1 * 704 + 704; rw [e]; show 0 * 704 ≤ (x 1 : ℕ) ∧ (x 1 : ℕ) < 0 * 704 + 704; omega

/-- What a grid point leaves in the result's block. -/
theorem left6 (t : Fin grid0.N) (r : Fin 256) (q : Fin 704) : (outsAt0 m hO c t).2.1 (ix2 r q) = delta m c (ix2 (row t r) q) := by
  have h : (outsAt0 m hO c t).2.1 = out0_A_6 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
      (own m c hO t) (got m c hO t) (wBlock m c hO t) (xBlock m c hO t) (yBlock m c hO t) (table m c) := by
    dsimp only [outsAt0, own, got, wBlock, xBlock, yBlock, table]
  rw [h, block6]
  exact (congrArg₂ (fun g w => change g w _ _) (parts m c hO t r q) (wBlock_at m c hO t r q)).trans
    (congrArg₂ (change _ _) (xBlock_at m c hO t r q) (yBlock_at m c hO t r q))

/-- The result's block of a grid point, at an index. -/
theorem read6 (X : Weight) (t : Fin grid0.N) (r : Fin 256) (q : Fin 704) :
    (((cfgM m hO).win 6).blk t).view.read (Elt Ideal) X (ix2 r q) = X (ix2 (row t r) q) := by
  have e := index6 t
  refine congrArg X (funext fun a => Fin.ext ?_)
  match a with
  | ⟨0, _⟩ => show cc0_transform_6 (grid0.coords t) 0 * 256 + 1 * r.val = 256 * t.val + r.val; rw [e]; show t.val * 256 + 1 * r.val = 256 * t.val + r.val; omega
  | ⟨1, _⟩ => show cc0_transform_6 (grid0.coords t) 1 * 704 + 1 * q.val = q.val; rw [e]; show 0 * 704 + 1 * q.val = q.val; omega

/-- What a grid point writes back is its block of the result. -/
theorem flush6 (t : Fin (cfgM m hO).N) (hf : ((cfgM m hO).win 6).flush t = true) :
    (dats m hO 0 c).flushed 6 t = (((cfgM m hO).win 6).blk t).view.read (Elt Ideal) (delta m c) := by
  show ((cfgM m hO).win 6).cut ((cfgM m hO).grid.coords t) ((dats m hO 0 c).after 6 t) = _
  rw [after0_6]
  refine funext fun (x : S256x704.Idx) => ?_
  obtain ⟨r, q, rfl⟩ : ∃ (r : Fin 256) (q : Fin 704), x = ix2 r q := ⟨x 0, x 1, funext fun k => by fin_cases k <;> rfl⟩
  exact (left6 m c hO t r q).trans (read6 m hO (delta m c) t r q).symm

/-- What the result array holds in the end. -/
theorem final6 : (dats m hO 0 c).arrAt 6 (cfgM m hO).N = delta m c :=
  (dats m hO 0 c).arrAt_eq_of_cover 6 (delta m c) (flush6 m c hO) fun (x : S1024x704.Idx) => by
    have hN : grid0.N = 4 := N_0
    have h0 : (x 0 : ℕ) < 1024 := (x 0).isLt
    have h1 : (x 1 : ℕ) < 704 := (x 1).isLt
    obtain ⟨t, ht⟩ : ∃ t : Fin grid0.N, t.val = (x 0 : ℕ) / 256 := ⟨⟨_, by omega⟩, rfl⟩
    refine ⟨t, flush0_6 (adm m hO) t, ?_⟩
    show x ∈ ((View.whole main_v0_1).slice (Rect.block (s := S1024x704) S256x704.size (cc0_transform_6 (grid0.coords t)) (hinb0_6 (grid0.coords t)))).set
    rw [View.set_slice_whole, Rect.mem_set_unit]
    have e := index6 t
    intro a
    match a with
    | ⟨0, _⟩ => show cc0_transform_6 (grid0.coords t) 0 * 256 ≤ (x 0 : ℕ) ∧ (x 0 : ℕ) < cc0_transform_6 (grid0.coords t) 0 * 256 + 256; rw [e]; show t.val * 256 ≤ (x 0 : ℕ) ∧ (x 0 : ℕ) < t.val * 256 + 256; omega
    | ⟨1, _⟩ => show cc0_transform_6 (grid0.coords t) 1 * 704 ≤ (x 1 : ℕ) ∧ (x 1 : ℕ) < cc0_transform_6 (grid0.coords t) 1 * 704 + 704; rw [e]; show 0 * 704 ≤ (x 1 : ℕ) ∧ (x 1 : ℕ) < 0 * 704 + 704; omega

/-- What a grid point leaves in the result's block. -/
theorem left7 (t : Fin grid0.N) (r : Fin 256) (q : Fin 704) : (outsAt0 m hO c t).2.2.1 (ix2 r q) = moment1 m c (ix2 (row t r) q) := by
  have h : (outsAt0 m hO c t).2.2.1 = out0_A_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
      (own m c hO t) (got m c hO t) (wBlock m c hO t) (xBlock m c hO t) (yBlock m c hO t) (table m c) := by
    dsimp only [outsAt0, own, got, wBlock, xBlock, yBlock, table]
  rw [h, block7]
  exact congrArg₂ first (parts m c hO t r q) (xBlock_at m c hO t r q)

/-- The result's block of a grid point, at an index. -/
theorem read7 (X : Weight) (t : Fin grid0.N) (r : Fin 256) (q : Fin 704) :
    (((cfgM m hO).win 7).blk t).view.read (Elt Ideal) X (ix2 r q) = X (ix2 (row t r) q) := by
  have e := index7 t
  refine congrArg X (funext fun a => Fin.ext ?_)
  match a with
  | ⟨0, _⟩ => show cc0_transform_7 (grid0.coords t) 0 * 256 + 1 * r.val = 256 * t.val + r.val; rw [e]; show t.val * 256 + 1 * r.val = 256 * t.val + r.val; omega
  | ⟨1, _⟩ => show cc0_transform_7 (grid0.coords t) 1 * 704 + 1 * q.val = q.val; rw [e]; show 0 * 704 + 1 * q.val = q.val; omega

/-- What a grid point writes back is its block of the result. -/
theorem flush7 (t : Fin (cfgM m hO).N) (hf : ((cfgM m hO).win 7).flush t = true) :
    (dats m hO 0 c).flushed 7 t = (((cfgM m hO).win 7).blk t).view.read (Elt Ideal) (moment1 m c) := by
  show ((cfgM m hO).win 7).cut ((cfgM m hO).grid.coords t) ((dats m hO 0 c).after 7 t) = _
  rw [after0_7]
  refine funext fun (x : S256x704.Idx) => ?_
  obtain ⟨r, q, rfl⟩ : ∃ (r : Fin 256) (q : Fin 704), x = ix2 r q := ⟨x 0, x 1, funext fun k => by fin_cases k <;> rfl⟩
  exact (left7 m c hO t r q).trans (read7 m hO (moment1 m c) t r q).symm

/-- What the result array holds in the end. -/
theorem final7 : (dats m hO 0 c).arrAt 7 (cfgM m hO).N = moment1 m c :=
  (dats m hO 0 c).arrAt_eq_of_cover 7 (moment1 m c) (flush7 m c hO) fun (x : S1024x704.Idx) => by
    have hN : grid0.N = 4 := N_0
    have h0 : (x 0 : ℕ) < 1024 := (x 0).isLt
    have h1 : (x 1 : ℕ) < 704 := (x 1).isLt
    obtain ⟨t, ht⟩ : ∃ t : Fin grid0.N, t.val = (x 0 : ℕ) / 256 := ⟨⟨_, by omega⟩, rfl⟩
    refine ⟨t, flush0_7 (adm m hO) t, ?_⟩
    show x ∈ ((View.whole main_v0_2).slice (Rect.block (s := S1024x704) S256x704.size (cc0_transform_7 (grid0.coords t)) (hinb0_7 (grid0.coords t)))).set
    rw [View.set_slice_whole, Rect.mem_set_unit]
    have e := index7 t
    intro a
    match a with
    | ⟨0, _⟩ => show cc0_transform_7 (grid0.coords t) 0 * 256 ≤ (x 0 : ℕ) ∧ (x 0 : ℕ) < cc0_transform_7 (grid0.coords t) 0 * 256 + 256; rw [e]; show t.val * 256 ≤ (x 0 : ℕ) ∧ (x 0 : ℕ) < t.val * 256 + 256; omega
    | ⟨1, _⟩ => show cc0_transform_7 (grid0.coords t) 1 * 704 ≤ (x 1 : ℕ) ∧ (x 1 : ℕ) < cc0_transform_7 (grid0.coords t) 1 * 704 + 704; rw [e]; show 0 * 704 ≤ (x 1 : ℕ) ∧ (x 1 : ℕ) < 0 * 704 + 704; omega

/-- What a grid point leaves in the result's block. -/
theorem left8 (t : Fin grid0.N) (r : Fin 256) (q : Fin 704) : (outsAt0 m hO c t).2.2.2 (ix2 r q) = moment2 m c (ix2 (row t r) q) := by
  have h : (outsAt0 m hO c t).2.2.2 = out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t)
      (own m c hO t) (got m c hO t) (wBlock m c hO t) (xBlock m c hO t) (yBlock m c hO t) (table m c) := by
    dsimp only [outsAt0, own, got, wBlock, xBlock, yBlock, table]
  rw [h, block8]
  exact congrArg₂ second (parts m c hO t r q) (yBlock_at m c hO t r q)

/-- The result's block of a grid point, at an index. -/
theorem read8 (X : Weight) (t : Fin grid0.N) (r : Fin 256) (q : Fin 704) :
    (((cfgM m hO).win 8).blk t).view.read (Elt Ideal) X (ix2 r q) = X (ix2 (row t r) q) := by
  have e := index8 t
  refine congrArg X (funext fun a => Fin.ext ?_)
  match a with
  | ⟨0, _⟩ => show cc0_transform_8 (grid0.coords t) 0 * 256 + 1 * r.val = 256 * t.val + r.val; rw [e]; show t.val * 256 + 1 * r.val = 256 * t.val + r.val; omega
  | ⟨1, _⟩ => show cc0_transform_8 (grid0.coords t) 1 * 704 + 1 * q.val = q.val; rw [e]; show 0 * 704 + 1 * q.val = q.val; omega

/-- What a grid point writes back is its block of the result. -/
theorem flush8 (t : Fin (cfgM m hO).N) (hf : ((cfgM m hO).win 8).flush t = true) :
    (dats m hO 0 c).flushed 8 t = (((cfgM m hO).win 8).blk t).view.read (Elt Ideal) (moment2 m c) := by
  show ((cfgM m hO).win 8).cut ((cfgM m hO).grid.coords t) ((dats m hO 0 c).after 8 t) = _
  rw [after0_8]
  refine funext fun (x : S256x704.Idx) => ?_
  obtain ⟨r, q, rfl⟩ : ∃ (r : Fin 256) (q : Fin 704), x = ix2 r q := ⟨x 0, x 1, funext fun k => by fin_cases k <;> rfl⟩
  exact (left8 m c hO t r q).trans (read8 m hO (moment2 m c) t r q).symm

/-- What the result array holds in the end. -/
theorem final8 : (dats m hO 0 c).arrAt 8 (cfgM m hO).N = moment2 m c :=
  (dats m hO 0 c).arrAt_eq_of_cover 8 (moment2 m c) (flush8 m c hO) fun (x : S1024x704.Idx) => by
    have hN : grid0.N = 4 := N_0
    have h0 : (x 0 : ℕ) < 1024 := (x 0).isLt
    have h1 : (x 1 : ℕ) < 704 := (x 1).isLt
    obtain ⟨t, ht⟩ : ∃ t : Fin grid0.N, t.val = (x 0 : ℕ) / 256 := ⟨⟨_, by omega⟩, rfl⟩
    refine ⟨t, flush0_8 (adm m hO) t, ?_⟩
    show x ∈ ((View.whole main_v0_3).slice (Rect.block (s := S1024x704) S256x704.size (cc0_transform_8 (grid0.coords t)) (hinb0_8 (grid0.coords t)))).set
    rw [View.set_slice_whole, Rect.mem_set_unit]
    have e := index8 t
    intro a
    match a with
    | ⟨0, _⟩ => show cc0_transform_8 (grid0.coords t) 0 * 256 ≤ (x 0 : ℕ) ∧ (x 0 : ℕ) < cc0_transform_8 (grid0.coords t) 0 * 256 + 256; rw [e]; show t.val * 256 ≤ (x 0 : ℕ) ∧ (x 0 : ℕ) < t.val * 256 + 256; omega
    | ⟨1, _⟩ => show cc0_transform_8 (grid0.coords t) 1 * 704 ≤ (x 1 : ℕ) ∧ (x 1 : ℕ) < cc0_transform_8 (grid0.coords t) 1 * 704 + 704; rw [e]; show 0 * 704 ≤ (x 1 : ℕ) ∧ (x 1 : ℕ) < 0 * 704 + 704; omega

end Run

section Ref

open Cert.UpdGateUpRefIdeal.Read

/-- The reference's sum over the devices. -/
theorem ref_gradient (x0 x1 : Parts) (x2 : IVec S1 32) (i : S1024x704.Idx) :
    val_main_v7 (F := Ideal) x0 x1 x2 i = total x0 x1 (x2 (ix1 (0 : Fin 1))) (i 0) (i 1) := by
  rw [val_main_v7_apply]
  have z : val_main_cst (F := Ideal) (Shape.Idx.first Cert.UpdGateUpRefIdeal.Gen.h_S_) = (0 : EReal) := Ideal.ofBits_zero_f32
  rw [z, zero_add]
  refine Finset.sum_congr rfl fun k _ => ?_
  rw [val_main_v6_apply, val_main_call0_v0_apply, val_main_v3_apply, val_main_v2_apply, val_main_v0_apply, val_main_v1_apply, val_main_v4_apply, val_main_v5_apply]
  have e0 : idx_main_v7 i k = ix3 k (i 0) (i 1) := funext fun a => by match a with | ⟨0, _⟩ => rfl | ⟨1, _⟩ => rfl | ⟨2, _⟩ => rfl
  have e1 : ∀ j, idx_main_v1 j = ix1 (0 : Fin 1) := fun j => funext fun a => by match a with | ⟨0, _⟩ => rfl
  rw [e0, e1]
  have one : ∀ b : Bool, BitVec.ofBool b = 1#1 ↔ b = true := by decide
  exact if_congr ((one (BitVec.ofNat 32 k.val == x2 (ix1 0))).trans (beq_iff_eq.trans eq_comm)) rfl rfl

/-- The reference's new first moment. -/
theorem ref_first (x0 x1 : Parts) (x2 : IVec S1 32) (x4 : Weight) (i : S1024x704.Idx) :
    val_main_v12 (F := Ideal) x0 x1 x2 x4 i = first (total x0 x1 (x2 (ix1 (0 : Fin 1))) (i 0) (i 1)) (x4 i) := by
  rw [val_main_v12_apply, val_main_v9_apply, val_main_v11_apply, val_main_v8_apply, val_main_v10_apply, ref_gradient]
  rfl

/-- The reference's new second moment. -/
theorem ref_second (x0 x1 : Parts) (x2 : IVec S1 32) (x5 : Weight) (i : S1024x704.Idx) :
    val_main_v18 (F := Ideal) x0 x1 x2 x5 i = second (total x0 x1 (x2 (ix1 (0 : Fin 1))) (i 0) (i 1)) (x5 i) := by
  rw [val_main_v18_apply, val_main_v14_apply, val_main_v17_apply, val_main_v13_apply, val_main_v16_apply, val_main_v15_apply, ref_gradient]
  rfl

/-- The reference's delta. -/
theorem ref_change (x0 x1 : Parts) (x2 : IVec S1 32) (x3 x4 x5 : Weight) (i : S1024x704.Idx) :
    val_main_v31 (F := Ideal) x0 x1 x2 x3 x4 x5 i = change (total x0 x1 (x2 (ix1 (0 : Fin 1))) (i 0) (i 1)) (x3 i) (x4 i) (x5 i) := by
  rw [val_main_v31_apply, val_main_v30_apply, val_main_v29_apply, val_main_v28_apply, val_main_v27_apply, val_main_v26_apply, val_main_v25_apply,
    val_main_v24_apply, val_main_v23_apply, val_main_v22_apply, val_main_v21_apply, val_main_v20_apply, val_main_v19_apply, ref_first, ref_second]
  rfl

end Ref

/-- The device's number is below eight, so the block of its own part is inside the array. -/
theorem fits (m : (ℓ : Loc nD τ sig) → Buf (Elt Ideal) ℓ) (h : Cert.Pre_UpdGateUpIdeal m) : Ok m := by
  have k := below (h 0)
  intro i
  have hi : (i 0).val < 4 := (i 0).isLt
  have e : cc0_transform_0 inb_S1_S1_0 numel1_S1 (tbl m) i = ![(m (((0 : Dev nD) : Thread nD τ).loc main_arg2) (ix1 (0 : Fin 1))).toNat, (i 0).val, 0] := by
    unfold cc0_transform_0
    funext a
    match a with
    | ⟨0, _⟩ =>
      show (m (((0 : Dev nD) : Thread nD τ).loc main_arg2) _).toNat = (m (((0 : Dev nD) : Thread nD τ).loc main_arg2) (ix1 (0 : Fin 1))).toNat
      refine congrArg (fun z => (m (((0 : Dev nD) : Thread nD τ).loc main_arg2) z).toNat) (funext fun b => Fin.ext ?_)
      have h1 : ∀ z : Fin 1, z.val = 0 := fun z => by omega
      match b with
      | ⟨0, _⟩ => exact (h1 _).trans (h1 _).symm
    | ⟨1, _⟩ => show (BitVec.ofNat 32 (i 0).val).toNat = (i 0).val; rw [BitVec.toNat_ofNat]; omega
    | ⟨2, _⟩ => rfl
  refine ⟨fun a => ?_, .inr (Affine.block_words_dvd (of_decide_eq_true rfl) (by decide))⟩
  rw [e]
  match a with
  | ⟨0, _⟩ => show ((m (((0 : Dev nD) : Thread nD τ).loc main_arg2) (ix1 (0 : Fin 1))).toNat + 1) * 1 ≤ 8; omega
  | ⟨1, _⟩ => show ((i 0).val + 1) * 256 ≤ 1024; omega
  | ⟨2, _⟩ => show (0 + 1) * 704 ≤ 704; omega

/-- The kernel's run, as printed. -/
theorem kernel_frame : Cert.quiescent_UpdGateUpIdeal := fun m g h => Cert.UpdGateUpIdeal.Gen.frame m g (fits m h)

/-- The reference's run leaves its arguments as they were and every counter at zero. -/
theorem reference_frame : Cert.quiescent_UpdGateUpRefIdeal := fun m g _ =>
  (θ_run _ _ _).mono (fun r h => ⟨fun c => (h c).2.2.2.2, sem_eq_zero_of_no_sems (by decide) r.2⟩) (Cert.UpdGateUpRefIdeal.Value.run (F := Ideal) m g)

/-- The kernel's run ends with its results at the gradient, the delta and the moments, and its arguments as they were. -/
theorem kernel_run (m : (ℓ : Loc nD τ sig) → Buf (Elt Ideal) ℓ) (g : Dev nD → PrngReg) (hO : Ok m) :
    θ_run defs (onTc (τ := τ) (main (F := Ideal))) ⟨m, fun _ => 0, g⟩ (fun r => ∀ c : Dev nD,
      r.2.mem ((c.tc : Thread nD τ).loc main_v0_0) = gradient m c
      ∧ r.2.mem ((c.tc : Thread nD τ).loc main_v0_1) = delta m c
      ∧ r.2.mem ((c.tc : Thread nD τ).loc main_v0_2) = moment1 m c
      ∧ r.2.mem ((c.tc : Thread nD τ).loc main_v0_3) = moment2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (final5 m c hO), ((h.1 c).1 6).trans (final6 m c hO), ((h.1 c).1 7).trans (final7 m c hO),
    ((h.1 c).1 8).trans (final8 m c hO), h.2 c⟩) (θ_run_and (run_main m g hO) (unchanged m g hO))

/-- From equal arguments the two programs end with equal results. -/
theorem same_results : Cert.algebraic_UpdGateUpIdeal_UpdGateUpRefIdeal := by
  intro m g m' g' hp hag
  refine ⟨_, _, _, _, kernel_run m g (fits m hp), (θ_run _ _ _).mono (fun r h c => ?_) (Cert.UpdGateUpRefIdeal.Value.run (F := Ideal) m' g')⟩
  obtain ⟨r0, r1, r2, r3, k⟩ := h c
  obtain ⟨e0, e1, e2, e3, e4, e5⟩ := hag c
  refine ⟨r0.trans ?_, r1.trans ?_, r2.trans ?_, r3.trans ?_, k⟩
  · rw [Cert.UpdGateUpRefIdeal.Read.val_main_v7_eq, e0, e1, e2]
    exact funext fun i => ref_gradient _ _ _ i
  · rw [Cert.UpdGateUpRefIdeal.Read.val_main_v31_eq, e0, e1, e2, e3, e4, e5]
    exact funext fun i => ref_change _ _ _ _ _ _ i
  · rw [Cert.UpdGateUpRefIdeal.Read.val_main_v12_eq, e0, e1, e2, e4]
    exact funext fun i => ref_first _ _ _ _ i
  · rw [Cert.UpdGateUpRefIdeal.Read.val_main_v18_eq, e0, e1, e2, e5]
    exact funext fun i => ref_second _ _ _ _ i

end Cert.UpdGateUpIdeal.Own

namespace Cert.UpdGateUp.Own

open Cert.UpdGateUp Cert.UpdGateUp.Gen
open Idealize.ShloMosaic Idealize.ShloMosaic.TcCoe Idealize.ShloMosaic.Tactic Idealize.SL.Sem Idealize.ShloMosaic.StableHlo

/-- The same of the kernel's own words. -/
theorem fits (m : (ℓ : Loc nD τ sig) → Buf (Elt Bits) ℓ) (h : Cert.Pre_UpdGateUp m) : Ok m := by
  have k := Cert.UpdGateUpIdeal.Own.below (h 0)
  intro i
  have hi : (i 0).val < 4 := (i 0).isLt
  have e : cc0_transform_0 inb_S1_S1_0 numel1_S1 (tbl m) i = ![(m (((0 : Dev nD) : Thread nD τ).loc main_arg2) (ix1 (0 : Fin 1))).toNat, (i 0).val, 0] := by
    unfold cc0_transform_0
    funext a
    match a with
    | ⟨0, _⟩ =>
      show (m (((0 : Dev nD) : Thread nD τ).loc main_arg2) _).toNat = (m (((0 : Dev nD) : Thread nD τ).loc main_arg2) (ix1 (0 : Fin 1))).toNat
      refine congrArg (fun z => (m (((0 : Dev nD) : Thread nD τ).loc main_arg2) z).toNat) (funext fun b => Fin.ext ?_)
      have h1 : ∀ z : Fin 1, z.val = 0 := fun z => by omega
      match b with
      | ⟨0, _⟩ => exact (h1 _).trans (h1 _).symm
    | ⟨1, _⟩ => show (BitVec.ofNat 32 (i 0).val).toNat = (i 0).val; rw [BitVec.toNat_ofNat]; omega
    | ⟨2, _⟩ => rfl
  refine ⟨fun a => ?_, .inr (Affine.block_words_dvd (of_decide_eq_true rfl) (by decide))⟩
  rw [e]
  match a with
  | ⟨0, _⟩ => show ((m (((0 : Dev nD) : Thread nD τ).loc main_arg2) (ix1 (0 : Fin 1))).toNat + 1) * 1 ≤ 8; omega
  | ⟨1, _⟩ => show ((i 0).val + 1) * 256 ≤ 1024; omega
  | ⟨2, _⟩ => show (0 + 1) * 704 ≤ 704; omega

/-- The kernel's run. -/
theorem kernel_frame : Cert.quiescent_UpdGateUp := fun m g h => Cert.UpdGateUp.Gen.frame m g (fits m h)

end Cert.UpdGateUp.Own

end
-- ==== Proof.lean ====
/- The claims about the calls, from their generated frames and the value proofs: the latent attention's backward call in
   Proof/Latent*.lean, each of the other calls in the module of its name. -/
module

public import proofs.«01_k».proof.Defs
public import proofs.«01_k».proof.Proof.Gen.Kernel.Frame
public import proofs.«01_k».proof.Proof.Gen.KernelIdeal.Frame
public import proofs.«01_k».proof.Proof.Gen.GateGrad.Frame
public import proofs.«01_k».proof.Proof.Gen.GateGradIdeal.Frame
public import proofs.«01_k».proof.Proof.Gen.HiddenGrad.Frame
public import proofs.«01_k».proof.Proof.Gen.HiddenGradIdeal.Frame
public import proofs.«01_k».proof.Proof.Gen.DownWeight.Frame
public import proofs.«01_k».proof.Proof.Gen.DownWeightIdeal.Frame
public import proofs.«01_k».proof.Proof.Gen.GateWeight.Frame
public import proofs.«01_k».proof.Proof.Gen.GateWeightIdeal.Frame
public import proofs.«01_k».proof.Proof.Gen.GateUp.Frame
public import proofs.«01_k».proof.Proof.Gen.GateUpIdeal.Frame
public import proofs.«01_k».proof.Proof.Gen.Down.Frame
public import proofs.«01_k».proof.Proof.Gen.DownIdeal.Frame
public import proofs.«01_k».proof.Proof.Gen.InGrad.Frame
public import proofs.«01_k».proof.Proof.Gen.InGradIdeal.Frame
public import proofs.«01_k».proof.Proof.Gen.InWeight.Frame
public import proofs.«01_k».proof.Proof.Gen.InWeightIdeal.Frame
public import proofs.«01_k».proof.Proof.Gen.InProj.Frame
public import proofs.«01_k».proof.Proof.Gen.InProjIdeal.Frame
public import proofs.«01_k».proof.Proof.Gen.QkvGrad.Frame
public import proofs.«01_k».proof.Proof.Gen.QkvGradIdeal.Frame
public import proofs.«01_k».proof.Proof.Gen.QkvWeight.Frame
public import proofs.«01_k».proof.Proof.Gen.QkvWeightIdeal.Frame
public import proofs.«01_k».proof.Proof.Gen.QkvProj.Frame
public import proofs.«01_k».proof.Proof.Gen.QkvProjIdeal.Frame
public import proofs.«01_k».proof.Proof.Gen.OutGrad.Frame
public import proofs.«01_k».proof.Proof.Gen.OutGradIdeal.Frame
public import proofs.«01_k».proof.Proof.Gen.OutWeight.Frame
public import proofs.«01_k».proof.Proof.Gen.OutWeightIdeal.Frame
public import proofs.«01_k».proof.Proof.Gen.OutProj.Frame
public import proofs.«01_k».proof.Proof.Gen.OutProjIdeal.Frame
public import proofs.«01_k».proof.Proof.Gen.AttOutProj.Frame
public import proofs.«01_k».proof.Proof.Gen.AttOutProjIdeal.Frame
public import proofs.«01_k».proof.Proof.Gen.AttOutWeight.Frame
public import proofs.«01_k».proof.Proof.Gen.AttOutWeightIdeal.Frame
public import proofs.«01_k».proof.Proof.Gen.LatDownGrad.Frame
public import proofs.«01_k».proof.Proof.Gen.LatDownGradIdeal.Frame
public import proofs.«01_k».proof.Proof.Gen.LatDownWeight.Frame
public import proofs.«01_k».proof.Proof.Gen.LatDownWeightIdeal.Frame
public import proofs.«01_k».proof.Proof.Gen.LatDownProj.Frame
public import proofs.«01_k».proof.Proof.Gen.LatDownProjIdeal.Frame
public import proofs.«01_k».proof.Proof.Gen.QueryUpGrad.Frame
public import proofs.«01_k».proof.Proof.Gen.QueryUpGradIdeal.Frame
public import proofs.«01_k».proof.Proof.Gen.QueryUpWeight.Frame
public import proofs.«01_k».proof.Proof.Gen.QueryUpWeightIdeal.Frame
public import proofs.«01_k».proof.Proof.Gen.QueryUpProj.Frame
public import proofs.«01_k».proof.Proof.Gen.QueryUpProjIdeal.Frame
public import proofs.«01_k».proof.Proof.Gen.KeyUpGrad.Frame
public import proofs.«01_k».proof.Proof.Gen.KeyUpGradIdeal.Frame
public import proofs.«01_k».proof.Proof.Gen.KeyUpWeight.Frame
public import proofs.«01_k».proof.Proof.Gen.KeyUpWeightIdeal.Frame
public import proofs.«01_k».proof.Proof.Gen.KeyUpProj.Frame
public import proofs.«01_k».proof.Proof.Gen.KeyUpProjIdeal.Frame
public import proofs.«01_k».proof.Proof.Gen.LatentFwd.Frame
public import proofs.«01_k».proof.Proof.Gen.LatentFwdIdeal.Frame
public import proofs.«01_k».proof.Proof.Gen.AdamSmall.Frame
public import proofs.«01_k».proof.Proof.Gen.AdamSmallIdeal.Frame
public import proofs.«01_k».proof.Proof.Gen.SumParts.Frame
public import proofs.«01_k».proof.Proof.Gen.SumPartsIdeal.Frame
public import proofs.«01_k».proof.Proof.Gen.NormFwd.Frame
public import proofs.«01_k».proof.Proof.Gen.NormFwdIdeal.Frame
public import proofs.«01_k».proof.Proof.Gen.UpdGateUp.Frame
public import proofs.«01_k».proof.Proof.Gen.UpdGateUpIdeal.Frame
public import proofs.«01_k».proof.Proof.LatentClaim
public import proofs.«01_k».proof.Proof.GateGrad
public import proofs.«01_k».proof.Proof.HiddenGrad
public import proofs.«01_k».proof.Proof.DownWeight
public import proofs.«01_k».proof.Proof.GateWeight
public import proofs.«01_k».proof.Proof.GateUp
public import proofs.«01_k».proof.Proof.Down
public import proofs.«01_k».proof.Proof.InGrad
public import proofs.«01_k».proof.Proof.InWeight
public import proofs.«01_k».proof.Proof.InProj
public import proofs.«01_k».proof.Proof.QkvGrad
public import proofs.«01_k».proof.Proof.QkvWeight
public import proofs.«01_k».proof.Proof.QkvProj
public import proofs.«01_k».proof.Proof.OutGrad
public import proofs.«01_k».proof.Proof.OutWeight
public import proofs.«01_k».proof.Proof.OutProj
public import proofs.«01_k».proof.Proof.AttOutProj
public import proofs.«01_k».proof.Proof.AttOutWeight
public import proofs.«01_k».proof.Proof.LatDownGrad
public import proofs.«01_k».proof.Proof.LatDownWeight
public import proofs.«01_k».proof.Proof.LatDownProj
public import proofs.«01_k».proof.Proof.QueryUpGrad
public import proofs.«01_k».proof.Proof.QueryUpWeight
public import proofs.«01_k».proof.Proof.QueryUpProj
public import proofs.«01_k».proof.Proof.KeyUpGrad
public import proofs.«01_k».proof.Proof.KeyUpWeight
public import proofs.«01_k».proof.Proof.KeyUpProj
public import proofs.«01_k».proof.Proof.LatentFwd
public import proofs.«01_k».proof.Proof.AdamSmall
public import proofs.«01_k».proof.Proof.SumParts
public import proofs.«01_k».proof.Proof.NormFwd
public import proofs.«01_k».proof.Proof.UpdGateUp

@[expose] public section

noncomputable section

namespace Cert.Proof

open Idealize.ShloMosaic Idealize.SL.Sem

/-- For every call: the frames of the kernel, of its idealization and of the reference, that the idealization is the
    kernel's own text, and that it and the reference end with equal results. -/
theorem claim : Cert.Claim :=
  ⟨Cert.Kernel.Gen.facts, Cert.KernelIdeal.Gen.facts, Cert.ReferenceIdeal.Gen.facts, Cert.GateGrad.Gen.facts, Cert.GateGradIdeal.Gen.facts,
    Cert.GateGradRefIdeal.Gen.facts, Cert.HiddenGrad.Gen.facts, Cert.HiddenGradIdeal.Gen.facts, Cert.HiddenGradRefIdeal.Gen.facts,
    Cert.DownWeight.Gen.facts, Cert.DownWeightIdeal.Gen.facts, Cert.DownWeightRefIdeal.Gen.facts, Cert.GateWeight.Gen.facts,
    Cert.GateWeightIdeal.Gen.facts, Cert.GateWeightRefIdeal.Gen.facts, Cert.GateUp.Gen.facts, Cert.GateUpIdeal.Gen.facts,
    Cert.GateUpRefIdeal.Gen.facts, Cert.Down.Gen.facts, Cert.DownIdeal.Gen.facts, Cert.DownRefIdeal.Gen.facts, Cert.InGrad.Gen.facts,
    Cert.InGradIdeal.Gen.facts, Cert.InGradRefIdeal.Gen.facts, Cert.InWeight.Gen.facts, Cert.InWeightIdeal.Gen.facts,
    Cert.InWeightRefIdeal.Gen.facts, Cert.InProj.Gen.facts, Cert.InProjIdeal.Gen.facts, Cert.InProjRefIdeal.Gen.facts, Cert.QkvGrad.Gen.facts,
    Cert.QkvGradIdeal.Gen.facts, Cert.QkvGradRefIdeal.Gen.facts, Cert.QkvWeight.Gen.facts, Cert.QkvWeightIdeal.Gen.facts,
    Cert.QkvWeightRefIdeal.Gen.facts, Cert.QkvProj.Gen.facts, Cert.QkvProjIdeal.Gen.facts, Cert.QkvProjRefIdeal.Gen.facts, Cert.OutGrad.Gen.facts,
    Cert.OutGradIdeal.Gen.facts, Cert.OutGradRefIdeal.Gen.facts, Cert.OutWeight.Gen.facts, Cert.OutWeightIdeal.Gen.facts,
    Cert.OutWeightRefIdeal.Gen.facts, Cert.OutProj.Gen.facts, Cert.OutProjIdeal.Gen.facts, Cert.OutProjRefIdeal.Gen.facts, Cert.AttOutProj.Gen.facts,
    Cert.AttOutProjIdeal.Gen.facts, Cert.AttOutProjRefIdeal.Gen.facts, Cert.AttOutWeight.Gen.facts, Cert.AttOutWeightIdeal.Gen.facts,
    Cert.AttOutWeightRefIdeal.Gen.facts, Cert.LatDownGrad.Gen.facts, Cert.LatDownGradIdeal.Gen.facts, Cert.LatDownGradRefIdeal.Gen.facts,
    Cert.LatDownWeight.Gen.facts, Cert.LatDownWeightIdeal.Gen.facts, Cert.LatDownWeightRefIdeal.Gen.facts, Cert.LatDownProj.Gen.facts,
    Cert.LatDownProjIdeal.Gen.facts, Cert.LatDownProjRefIdeal.Gen.facts, Cert.QueryUpGrad.Gen.facts, Cert.QueryUpGradIdeal.Gen.facts,
    Cert.QueryUpGradRefIdeal.Gen.facts, Cert.QueryUpWeight.Gen.facts, Cert.QueryUpWeightIdeal.Gen.facts, Cert.QueryUpWeightRefIdeal.Gen.facts,
    Cert.QueryUpProj.Gen.facts, Cert.QueryUpProjIdeal.Gen.facts, Cert.QueryUpProjRefIdeal.Gen.facts, Cert.KeyUpGrad.Gen.facts,
    Cert.KeyUpGradIdeal.Gen.facts, Cert.KeyUpGradRefIdeal.Gen.facts, Cert.KeyUpWeight.Gen.facts, Cert.KeyUpWeightIdeal.Gen.facts,
    Cert.KeyUpWeightRefIdeal.Gen.facts, Cert.KeyUpProj.Gen.facts, Cert.KeyUpProjIdeal.Gen.facts, Cert.KeyUpProjRefIdeal.Gen.facts,
    Cert.LatentFwd.Gen.facts, Cert.LatentFwdIdeal.Gen.facts, Cert.LatentFwdRefIdeal.Gen.facts, Cert.AdamSmall.Gen.facts,
    Cert.AdamSmallIdeal.Gen.facts, Cert.AdamSmallRefIdeal.Gen.facts, Cert.SumParts.Gen.facts, Cert.SumPartsIdeal.Gen.facts,
    Cert.SumPartsRefIdeal.Gen.facts, Cert.NormFwd.Gen.facts, Cert.NormFwdIdeal.Gen.facts, Cert.NormFwdRefIdeal.Gen.facts, Cert.UpdGateUp.Gen.facts,
    Cert.UpdGateUpIdeal.Gen.facts, Cert.UpdGateUpRefIdeal.Gen.facts, Cert.Latent.finiteFacts, Cert.GateGradIdeal.Own.numbersFacts,
    Cert.LatentFwdIdeal.Own.realsFacts, Cert.UpdGateUpIdeal.Own.deviceFacts,
    fun m g _ => Cert.Kernel.Gen.frame m g, fun m g _ => Cert.KernelIdeal.Gen.frame m g, fun m g _ => Cert.KernelIdeal.Gen.frame m g,
    fun m g _ => Cert.Latent.reference_frame m g, fun m g _ => Cert.Latent.reference_frame m g,
    fun m g _ => Cert.GateGrad.Gen.frame m g, fun m g _ => Cert.GateGradIdeal.Gen.frame m g, fun m g _ => Cert.GateGradIdeal.Gen.frame m g,
    Cert.GateGradIdeal.Own.reference_frame, fun m g _ => Cert.GateGradIdeal.Own.reference_frame m g trivial,
    fun m g _ => Cert.HiddenGrad.Gen.frame m g, fun m g _ => Cert.HiddenGradIdeal.Gen.frame m g, Cert.HiddenGradIdeal.Own.reference_frame,
    fun m g _ => Cert.DownWeight.Gen.frame m g, fun m g _ => Cert.DownWeightIdeal.Gen.frame m g, Cert.DownWeightIdeal.Own.reference_frame,
    fun m g _ => Cert.GateWeight.Gen.frame m g, fun m g _ => Cert.GateWeightIdeal.Gen.frame m g, Cert.GateWeightIdeal.Own.reference_frame,
    fun m g _ => Cert.GateUp.Gen.frame m g, fun m g _ => Cert.GateUpIdeal.Gen.frame m g, Cert.GateUpIdeal.Own.reference_frame,
    fun m g _ => Cert.Down.Gen.frame m g, fun m g _ => Cert.DownIdeal.Gen.frame m g, Cert.DownIdeal.Own.reference_frame,
    fun m g _ => Cert.InGrad.Gen.frame m g, fun m g _ => Cert.InGradIdeal.Gen.frame m g, Cert.InGradIdeal.Own.reference_frame,
    fun m g _ => Cert.InWeight.Gen.frame m g, fun m g _ => Cert.InWeightIdeal.Gen.frame m g, Cert.InWeightIdeal.Own.reference_frame,
    fun m g _ => Cert.InProj.Gen.frame m g, fun m g _ => Cert.InProjIdeal.Gen.frame m g, Cert.InProjIdeal.Own.reference_frame,
    fun m g _ => Cert.QkvGrad.Gen.frame m g, fun m g _ => Cert.QkvGradIdeal.Gen.frame m g, Cert.QkvGradIdeal.Own.reference_frame,
    fun m g _ => Cert.QkvWeight.Gen.frame m g, fun m g _ => Cert.QkvWeightIdeal.Gen.frame m g, Cert.QkvWeightIdeal.Own.reference_frame,
    fun m g _ => Cert.QkvProj.Gen.frame m g, fun m g _ => Cert.QkvProjIdeal.Gen.frame m g, Cert.QkvProjIdeal.Own.reference_frame,
    fun m g _ => Cert.OutGrad.Gen.frame m g, fun m g _ => Cert.OutGradIdeal.Gen.frame m g, Cert.OutGradIdeal.Own.reference_frame,
    fun m g _ => Cert.OutWeight.Gen.frame m g, fun m g _ => Cert.OutWeightIdeal.Gen.frame m g, Cert.OutWeightIdeal.Own.reference_frame,
    fun m g _ => Cert.OutProj.Gen.frame m g, fun m g _ => Cert.OutProjIdeal.Gen.frame m g, Cert.OutProjIdeal.Own.reference_frame,
    fun m g _ => Cert.AttOutProj.Gen.frame m g, fun m g _ => Cert.AttOutProjIdeal.Gen.frame m g, Cert.AttOutProjIdeal.Own.reference_frame,
    fun m g _ => Cert.AttOutWeight.Gen.frame m g, fun m g _ => Cert.AttOutWeightIdeal.Gen.frame m g, Cert.AttOutWeightIdeal.Own.reference_frame,
    fun m g _ => Cert.LatDownGrad.Gen.frame m g, fun m g _ => Cert.LatDownGradIdeal.Gen.frame m g, Cert.LatDownGradIdeal.Own.reference_frame,
    fun m g _ => Cert.LatDownWeight.Gen.frame m g, fun m g _ => Cert.LatDownWeightIdeal.Gen.frame m g, Cert.LatDownWeightIdeal.Own.reference_frame,
    fun m g _ => Cert.LatDownProj.Gen.frame m g, fun m g _ => Cert.LatDownProjIdeal.Gen.frame m g, Cert.LatDownProjIdeal.Own.reference_frame,
    fun m g _ => Cert.QueryUpGrad.Gen.frame m g, fun m g _ => Cert.QueryUpGradIdeal.Gen.frame m g, Cert.QueryUpGradIdeal.Own.reference_frame,
    fun m g _ => Cert.QueryUpWeight.Gen.frame m g, fun m g _ => Cert.QueryUpWeightIdeal.Gen.frame m g, Cert.QueryUpWeightIdeal.Own.reference_frame,
    fun m g _ => Cert.QueryUpProj.Gen.frame m g, fun m g _ => Cert.QueryUpProjIdeal.Gen.frame m g, Cert.QueryUpProjIdeal.Own.reference_frame,
    fun m g _ => Cert.KeyUpGrad.Gen.frame m g, fun m g _ => Cert.KeyUpGradIdeal.Gen.frame m g, Cert.KeyUpGradIdeal.Own.reference_frame,
    fun m g _ => Cert.KeyUpWeight.Gen.frame m g, fun m g _ => Cert.KeyUpWeightIdeal.Gen.frame m g, Cert.KeyUpWeightIdeal.Own.reference_frame,
    fun m g _ => Cert.KeyUpProj.Gen.frame m g, fun m g _ => Cert.KeyUpProjIdeal.Gen.frame m g, Cert.KeyUpProjIdeal.Own.reference_frame,
    fun m g _ => Cert.LatentFwd.Gen.frame m g, fun m g _ => Cert.LatentFwdIdeal.Gen.frame m g, fun m g _ => Cert.LatentFwdIdeal.Gen.frame m g,
    Cert.LatentFwdIdeal.Own.reference_frame, fun m g _ => Cert.LatentFwdIdeal.Own.reference_frame m g trivial,
    fun m g _ => Cert.AdamSmall.Gen.frame m g, fun m g _ => Cert.AdamSmallIdeal.Gen.frame m g, Cert.AdamSmallIdeal.Own.reference_frame,
    fun m g _ => Cert.SumParts.Gen.frame m g, fun m g _ => Cert.SumPartsIdeal.Gen.frame m g, Cert.SumPartsIdeal.Own.reference_frame,
    fun m g _ => Cert.NormFwd.Gen.frame m g, fun m g _ => Cert.NormFwdIdeal.Gen.frame m g, Cert.NormFwdIdeal.Own.reference_frame,
    Cert.UpdGateUp.Own.kernel_frame, Cert.UpdGateUpIdeal.Own.kernel_frame, Cert.UpdGateUpIdeal.Own.reference_frame,
    fun m g _ => Cert.UpdGateUpIdeal.Own.reference_frame m g trivial,
    trivial, Cert.Latent.same_gradients,
    trivial, Cert.GateGradIdeal.Own.same_gradients,
    trivial, Cert.HiddenGradIdeal.Own.same_gradient,
    trivial, Cert.DownWeightIdeal.Own.same_gradient,
    trivial, Cert.GateWeightIdeal.Own.same_gradient,
    trivial, Cert.GateUpIdeal.Own.same_units,
    trivial, Cert.DownIdeal.Own.same_result,
    trivial, Cert.InGradIdeal.Own.same_gradient,
    trivial, Cert.InWeightIdeal.Own.same_gradient,
    trivial, Cert.InProjIdeal.Own.same_result,
    trivial, Cert.QkvGradIdeal.Own.same_gradient,
    trivial, Cert.QkvWeightIdeal.Own.same_gradient,
    trivial, Cert.QkvProjIdeal.Own.same_result,
    trivial, Cert.OutGradIdeal.Own.same_gradient,
    trivial, Cert.OutWeightIdeal.Own.same_gradient,
    trivial, Cert.OutProjIdeal.Own.same_result,
    trivial, Cert.AttOutProjIdeal.Own.same_result,
    trivial, Cert.AttOutWeightIdeal.Own.same_gradient,
    trivial, Cert.LatDownGradIdeal.Own.same_gradient,
    trivial, Cert.LatDownWeightIdeal.Own.same_gradient,
    trivial, Cert.LatDownProjIdeal.Own.same_result,
    trivial, Cert.QueryUpGradIdeal.Own.same_gradient,
    trivial, Cert.QueryUpWeightIdeal.Own.same_gradient,
    trivial, Cert.QueryUpProjIdeal.Own.same_result,
    trivial, Cert.KeyUpGradIdeal.Own.same_gradient,
    trivial, Cert.KeyUpWeightIdeal.Own.same_gradient,
    trivial, Cert.KeyUpProjIdeal.Own.same_result,
    trivial, Cert.LatentFwdIdeal.Own.same_results,
    trivial, Cert.AdamSmallIdeal.Own.same_results,
    trivial, Cert.SumPartsIdeal.Own.same_result,
    trivial, Cert.NormFwdIdeal.Own.same_result,
    trivial, Cert.UpdGateUpIdeal.Own.same_results⟩

end Cert.Proof

end
